-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_finite [hPre_out_finite : Cert.Pre_out_finite.Facts] (m : (ℓ : Loc Cert.OutIdeal.nD Cert.OutIdeal.τ Cert.OutIdeal.sig) → Buf (Elt Ideal) ℓ) : Prop :=
  ∀ c : Dev Cert.OutIdeal.nD,
    (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))).1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))).2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))).2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))).2.2.2.1 = (fun _ => 1#1)
    ∧ (Cert.Pre_out_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))).2.2.2.2 = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_finite [hPre_out_finite : Cert.Pre_out_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))).1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))).2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))).2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))).2.2.2.1 = (fun _ => 1#1)
    ∧ (Cert.Pre_out_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))).2.2.2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_finite [hPre_glu_finite : Cert.Pre_glu_finite.Facts] (m : (ℓ : Loc Cert.GluIdeal.nD Cert.GluIdeal.τ Cert.GluIdeal.sig) → Buf (Elt Ideal) ℓ) : Prop :=
  ∀ c : Dev Cert.GluIdeal.nD,
    (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).1 = (fun _ => 1#1)
    ∧ (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.1 = (fun _ => 1#1)
    ∧ (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.2 = (fun _ => 1#1)

def Pre_GluRef (m : (ℓ : Loc Cert.GluRef.nD Cert.GluRef.τ Cert.GluRef.sig) → Buf (Elt Bits) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinIdeal_fin_finite [hPre_fin_finite : Cert.Pre_fin_finite.Facts] (m : (ℓ : Loc Cert.FinIdeal.nD Cert.FinIdeal.τ Cert.FinIdeal.sig) → Buf (Elt Ideal) ℓ) : Prop :=
  ∀ c : Dev Cert.FinIdeal.nD,
    (Cert.Pre_fin_finite.fn (F := Ideal) (m ((c.tc : Thread Cert.FinIdeal.nD Cert.FinIdeal.τ).loc Cert.FinIdeal.main_arg0)) (m ((c.tc : Thread Cert.FinIdeal.nD Cert.FinIdeal.τ).loc Cert.FinIdeal.main_arg1)) (m ((c.tc : Thread Cert.FinIdeal.nD Cert.FinIdeal.τ).loc Cert.FinIdeal.main_arg2))).1 = (fun _ => 1#1)
    ∧ (Cert.Pre_fin_finite.fn (F := Ideal) (m ((c.tc : Thread Cert.FinIdeal.nD Cert.FinIdeal.τ).loc Cert.FinIdeal.main_arg0)) (m ((c.tc : Thread Cert.FinIdeal.nD Cert.FinIdeal.τ).loc Cert.FinIdeal.main_arg1)) (m ((c.tc : Thread Cert.FinIdeal.nD Cert.FinIdeal.τ).loc Cert.FinIdeal.main_arg2))).2.1 = (fun _ => 1#1)
    ∧ (Cert.Pre_fin_finite.fn (F := Ideal) (m ((c.tc : Thread Cert.FinIdeal.nD Cert.FinIdeal.τ).loc Cert.FinIdeal.main_arg0)) (m ((c.tc : Thread Cert.FinIdeal.nD Cert.FinIdeal.τ).loc Cert.FinIdeal.main_arg1)) (m ((c.tc : Thread Cert.FinIdeal.nD Cert.FinIdeal.τ).loc Cert.FinIdeal.main_arg2))).2.2 = (fun _ => 1#1)

def Pre_FinRefIdeal (m : (ℓ : Loc Cert.FinRefIdeal.nD Cert.FinRefIdeal.τ Cert.FinRefIdeal.sig) → Buf (Elt Ideal) ℓ) : Prop :=
  True

def Pre_FinRefIdeal_fin_finite [hPre_fin_finite : Cert.Pre_fin_finite.Facts] (m : (ℓ : Loc Cert.FinRefIdeal.nD Cert.FinRefIdeal.τ Cert.FinRefIdeal.sig) → Buf (Elt Ideal) ℓ) : Prop :=
  ∀ c : Dev Cert.FinRefIdeal.nD,
    (Cert.Pre_fin_finite.fn (F := Ideal) (m ((c.tc : Thread Cert.FinRefIdeal.nD Cert.FinRefIdeal.τ).loc Cert.FinRefIdeal.main_arg0)) (m ((c.tc : Thread Cert.FinRefIdeal.nD Cert.FinRefIdeal.τ).loc Cert.FinRefIdeal.main_arg1)) (m ((c.tc : Thread Cert.FinRefIdeal.nD Cert.FinRefIdeal.τ).loc Cert.FinRefIdeal.main_arg2))).1 = (fun _ => 1#1)
    ∧ (Cert.Pre_fin_finite.fn (F := Ideal) (m ((c.tc : Thread Cert.FinRefIdeal.nD Cert.FinRefIdeal.τ).loc Cert.FinRefIdeal.main_arg0)) (m ((c.tc : Thread Cert.FinRefIdeal.nD Cert.FinRefIdeal.τ).loc Cert.FinRefIdeal.main_arg1)) (m ((c.tc : Thread Cert.FinRefIdeal.nD Cert.FinRefIdeal.τ).loc Cert.FinRefIdeal.main_arg2))).2.1 = (fun _ => 1#1)
    ∧ (Cert.Pre_fin_finite.fn (F := Ideal) (m ((c.tc : Thread Cert.FinRefIdeal.nD Cert.FinRefIdeal.τ).loc Cert.FinRefIdeal.main_arg0)) (m ((c.tc : Thread Cert.FinRefIdeal.nD Cert.FinRefIdeal.τ).loc Cert.FinRefIdeal.main_arg1)) (m ((c.tc : Thread Cert.FinRefIdeal.nD Cert.FinRefIdeal.τ).loc Cert.FinRefIdeal.main_arg2))).2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.2 = (fun _ => 1#1)

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdIdeal_ssdf_real [hPre_ssdf_real : Cert.Pre_ssdf_real.Facts] (m : (ℓ : Loc Cert.SsdFwdIdeal.nD Cert.SsdFwdIdeal.τ Cert.SsdFwdIdeal.sig) → Buf (Elt Ideal) ℓ) : Prop :=
  ∀ c : Dev Cert.SsdFwdIdeal.nD,
    (Cert.Pre_ssdf_real.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5)) (m ((c.tc : Thread Cert.SsdFwdIdeal.nD Cert.SsdFwdIdeal.τ).loc Cert.SsdFwdIdeal.main_arg6)) (m ((c.tc : Thread Cert.SsdFwdIdeal.nD Cert.SsdFwdIdeal.τ).loc Cert.SsdFwdIdeal.main_arg7)) (m ((c.tc : Thread Cert.SsdFwdIdeal.nD Cert.SsdFwdIdeal.τ).loc Cert.SsdFwdIdeal.main_arg8))).1 = (fun _ => 1#1)
    ∧ (Cert.Pre_ssdf_real.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5)) (m ((c.tc : Thread Cert.SsdFwdIdeal.nD Cert.SsdFwdIdeal.τ).loc Cert.SsdFwdIdeal.main_arg6)) (m ((c.tc : Thread Cert.SsdFwdIdeal.nD Cert.SsdFwdIdeal.τ).loc Cert.SsdFwdIdeal.main_arg7)) (m ((c.tc : Thread Cert.SsdFwdIdeal.nD Cert.SsdFwdIdeal.τ).loc Cert.SsdFwdIdeal.main_arg8))).2.1 = (fun _ => 1#1)
    ∧ (Cert.Pre_ssdf_real.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5)) (m ((c.tc : Thread Cert.SsdFwdIdeal.nD Cert.SsdFwdIdeal.τ).loc Cert.SsdFwdIdeal.main_arg6)) (m ((c.tc : Thread Cert.SsdFwdIdeal.nD Cert.SsdFwdIdeal.τ).loc Cert.SsdFwdIdeal.main_arg7)) (m ((c.tc : Thread Cert.SsdFwdIdeal.nD Cert.SsdFwdIdeal.τ).loc Cert.SsdFwdIdeal.main_arg8))).2.2.1 = (fun _ => 1#1)
    ∧ (Cert.Pre_ssdf_real.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5)) (m ((c.tc : Thread Cert.SsdFwdIdeal.nD Cert.SsdFwdIdeal.τ).loc Cert.SsdFwdIdeal.main_arg6)) (m ((c.tc : Thread Cert.SsdFwdIdeal.nD Cert.SsdFwdIdeal.τ).loc Cert.SsdFwdIdeal.main_arg7)) (m ((c.tc : Thread Cert.SsdFwdIdeal.nD Cert.SsdFwdIdeal.τ).loc Cert.SsdFwdIdeal.main_arg8))).2.2.2.1 = (fun _ => 1#1)
    ∧ (Cert.Pre_ssdf_real.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5)) (m ((c.tc : Thread Cert.SsdFwdIdeal.nD Cert.SsdFwdIdeal.τ).loc Cert.SsdFwdIdeal.main_arg6)) (m ((c.tc : Thread Cert.SsdFwdIdeal.nD Cert.SsdFwdIdeal.τ).loc Cert.SsdFwdIdeal.main_arg7)) (m ((c.tc : Thread Cert.SsdFwdIdeal.nD Cert.SsdFwdIdeal.τ).loc Cert.SsdFwdIdeal.main_arg8))).2.2.2.2 = (fun _ => 1#1)

def Pre_SsdFwdRefIdeal (m : (ℓ : Loc Cert.SsdFwdRefIdeal.nD Cert.SsdFwdRefIdeal.τ Cert.SsdFwdRefIdeal.sig) → Buf (Elt Ideal) ℓ) : Prop :=
  True

def Pre_SsdFwdRefIdeal_ssdf_real [hPre_ssdf_real : Cert.Pre_ssdf_real.Facts] (m : (ℓ : Loc Cert.SsdFwdRefIdeal.nD Cert.SsdFwdRefIdeal.τ Cert.SsdFwdRefIdeal.sig) → Buf (Elt Ideal) ℓ) : Prop :=
  ∀ c : Dev Cert.SsdFwdRefIdeal.nD,
    (Cert.Pre_ssdf_real.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5)) (m ((c.tc : Thread Cert.SsdFwdRefIdeal.nD Cert.SsdFwdRefIdeal.τ).loc Cert.SsdFwdRefIdeal.main_arg6)) (m ((c.tc : Thread Cert.SsdFwdRefIdeal.nD Cert.SsdFwdRefIdeal.τ).loc Cert.SsdFwdRefIdeal.main_arg7)) (m ((c.tc : Thread Cert.SsdFwdRefIdeal.nD Cert.SsdFwdRefIdeal.τ).loc Cert.SsdFwdRefIdeal.main_arg8))).1 = (fun _ => 1#1)
    ∧ (Cert.Pre_ssdf_real.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5)) (m ((c.tc : Thread Cert.SsdFwdRefIdeal.nD Cert.SsdFwdRefIdeal.τ).loc Cert.SsdFwdRefIdeal.main_arg6)) (m ((c.tc : Thread Cert.SsdFwdRefIdeal.nD Cert.SsdFwdRefIdeal.τ).loc Cert.SsdFwdRefIdeal.main_arg7)) (m ((c.tc : Thread Cert.SsdFwdRefIdeal.nD Cert.SsdFwdRefIdeal.τ).loc Cert.SsdFwdRefIdeal.main_arg8))).2.1 = (fun _ => 1#1)
    ∧ (Cert.Pre_ssdf_real.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5)) (m ((c.tc : Thread Cert.SsdFwdRefIdeal.nD Cert.SsdFwdRefIdeal.τ).loc Cert.SsdFwdRefIdeal.main_arg6)) (m ((c.tc : Thread Cert.SsdFwdRefIdeal.nD Cert.SsdFwdRefIdeal.τ).loc Cert.SsdFwdRefIdeal.main_arg7)) (m ((c.tc : Thread Cert.SsdFwdRefIdeal.nD Cert.SsdFwdRefIdeal.τ).loc Cert.SsdFwdRefIdeal.main_arg8))).2.2.1 = (fun _ => 1#1)
    ∧ (Cert.Pre_ssdf_real.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5)) (m ((c.tc : Thread Cert.SsdFwdRefIdeal.nD Cert.SsdFwdRefIdeal.τ).loc Cert.SsdFwdRefIdeal.main_arg6)) (m ((c.tc : Thread Cert.SsdFwdRefIdeal.nD Cert.SsdFwdRefIdeal.τ).loc Cert.SsdFwdRefIdeal.main_arg7)) (m ((c.tc : Thread Cert.SsdFwdRefIdeal.nD Cert.SsdFwdRefIdeal.τ).loc Cert.SsdFwdRefIdeal.main_arg8))).2.2.2.1 = (fun _ => 1#1)
    ∧ (Cert.Pre_ssdf_real.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5)) (m ((c.tc : Thread Cert.SsdFwdRefIdeal.nD Cert.SsdFwdRefIdeal.τ).loc Cert.SsdFwdRefIdeal.main_arg6)) (m ((c.tc : Thread Cert.SsdFwdRefIdeal.nD Cert.SsdFwdRefIdeal.τ).loc Cert.SsdFwdRefIdeal.main_arg7)) (m ((c.tc : Thread Cert.SsdFwdRefIdeal.nD Cert.SsdFwdRefIdeal.τ).loc Cert.SsdFwdRefIdeal.main_arg8))).2.2.2.2 = (fun _ => 1#1)

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_SsdBwd (m : (ℓ : Loc Cert.SsdBwd.nD Cert.SsdBwd.τ Cert.SsdBwd.sig) → Buf (Elt Bits) ℓ) : Prop :=
  True

def Pre_SsdBwdIdeal (m : (ℓ : Loc Cert.SsdBwdIdeal.nD Cert.SsdBwdIdeal.τ Cert.SsdBwdIdeal.sig) → Buf (Elt Ideal) ℓ) : Prop :=
  True

def Pre_SFiveFwd (m : (ℓ : Loc Cert.SFiveFwd.nD Cert.SFiveFwd.τ Cert.SFiveFwd.sig) → Buf (Elt Bits) ℓ) : Prop :=
  True

def Pre_SFiveFwdIdeal (m : (ℓ : Loc Cert.SFiveFwdIdeal.nD Cert.SFiveFwdIdeal.τ Cert.SFiveFwdIdeal.sig) → Buf (Elt Ideal) ℓ) : Prop :=
  True

def Pre_SFiveBwd (m : (ℓ : Loc Cert.SFiveBwd.nD Cert.SFiveBwd.τ Cert.SFiveBwd.sig) → Buf (Elt Bits) ℓ) : Prop :=
  True

def Pre_SFiveBwdIdeal (m : (ℓ : Loc Cert.SFiveBwdIdeal.nD Cert.SFiveBwdIdeal.τ Cert.SFiveBwdIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SumEight (m : (ℓ : Loc Cert.SumEight.nD Cert.SumEight.τ Cert.SumEight.sig) → Buf (Elt Bits) ℓ) : Prop :=
  True

def Pre_SumEightIdeal (m : (ℓ : Loc Cert.SumEightIdeal.nD Cert.SumEightIdeal.τ Cert.SumEightIdeal.sig) → Buf (Elt Ideal) ℓ) : Prop :=
  True

def Pre_SumEightRefIdeal (m : (ℓ : Loc Cert.SumEightRefIdeal.nD Cert.SumEightRefIdeal.τ Cert.SumEightRefIdeal.sig) → Buf (Elt Ideal) ℓ) : Prop :=
  True

def Pre_Parts (m : (ℓ : Loc Cert.Parts.nD Cert.Parts.τ Cert.Parts.sig) → Buf (Elt Bits) ℓ) : Prop :=
  True

def Pre_PartsIdeal (m : (ℓ : Loc Cert.PartsIdeal.nD Cert.PartsIdeal.τ Cert.PartsIdeal.sig) → Buf (Elt Ideal) ℓ) : Prop :=
  True

def Pre_PartsRefIdeal (m : (ℓ : Loc Cert.PartsRefIdeal.nD Cert.PartsRefIdeal.τ Cert.PartsRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutIdeal_pre_out_finite [hOutIdeal : Cert.OutIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutRefIdeal_pre_out_finite [hOutRefIdeal : Cert.OutRefIdeal.Facts] [hPre_out_finite : Cert.Pre_out_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluIdeal_pre_glu_finite [hGluIdeal : Cert.GluIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluRef [hGluRef : Cert.GluRef.Facts] : Prop :=
  ∀ (m : (ℓ : Loc Cert.GluRef.nD Cert.GluRef.τ Cert.GluRef.sig) → Buf (Elt Bits) ℓ) (g : Dev Cert.GluRef.nD → PrngReg), Pre_GluRef m →
    θ_run (Cert.GluRef.defs (F := Bits)) (onTc (τ := Cert.GluRef.τ) (Cert.GluRef.main (F := Bits))) ⟨m, fun _ => 0, g⟩ (fun r => (∀ c : Dev Cert.GluRef.nD,
      r.2.mem ((c.tc : Thread Cert.GluRef.nD Cert.GluRef.τ).loc Cert.GluRef.main_arg0) = m ((c.tc : Thread Cert.GluRef.nD Cert.GluRef.τ).loc Cert.GluRef.main_arg0)
      ∧ r.2.mem ((c.tc : Thread Cert.GluRef.nD Cert.GluRef.τ).loc Cert.GluRef.main_arg1) = m ((c.tc : Thread Cert.GluRef.nD Cert.GluRef.τ).loc Cert.GluRef.main_arg1)
      ∧ r.2.mem ((c.tc : Thread Cert.GluRef.nD Cert.GluRef.τ).loc Cert.GluRef.main_arg2) = m ((c.tc : Thread Cert.GluRef.nD Cert.GluRef.τ).loc Cert.GluRef.main_arg2))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinIdeal_pre_fin_finite [hFinIdeal : Cert.FinIdeal.Facts] [hPre_fin_finite : Cert.Pre_fin_finite.Facts] : Prop :=
  ∀ (m : (ℓ : Loc Cert.FinIdeal.nD Cert.FinIdeal.τ Cert.FinIdeal.sig) → Buf (Elt Ideal) ℓ) (g : Dev Cert.FinIdeal.nD → PrngReg), Pre_FinIdeal_fin_finite m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_FinRefIdeal_pre_fin_finite [hFinRefIdeal : Cert.FinRefIdeal.Facts] [hPre_fin_finite : Cert.Pre_fin_finite.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal_fin_finite m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6)
      ∧ r.2.mem ((c.tc : Thread Cert.SsdFwd.nD Cert.SsdFwd.τ).loc Cert.SsdFwd.main_arg7) = m ((c.tc : Thread Cert.SsdFwd.nD Cert.SsdFwd.τ).loc Cert.SsdFwd.main_arg7)
      ∧ r.2.mem ((c.tc : Thread Cert.SsdFwd.nD Cert.SsdFwd.τ).loc Cert.SsdFwd.main_arg8) = m ((c.tc : Thread Cert.SsdFwd.nD Cert.SsdFwd.τ).loc Cert.SsdFwd.main_arg8))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdIdeal_pre_ssdf_real [hSsdFwdIdeal : Cert.SsdFwdIdeal.Facts] [hPre_ssdf_real : Cert.Pre_ssdf_real.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal_ssdf_real m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_SsdFwdRefIdeal_pre_ssdf_real [hSsdFwdRefIdeal : Cert.SsdFwdRefIdeal.Facts] [hPre_ssdf_real : Cert.Pre_ssdf_real.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal_ssdf_real m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3))
      ∧ r.2.sem = fun _ => 0)

def quiescent_SsdBwd [hSsdBwd : Cert.SsdBwd.Facts] : Prop :=
  ∀ (m : (ℓ : Loc Cert.SsdBwd.nD Cert.SsdBwd.τ Cert.SsdBwd.sig) → Buf (Elt Bits) ℓ) (g : Dev Cert.SsdBwd.nD → PrngReg), Pre_SsdBwd m →
    θ_run (Cert.SsdBwd.defs (F := Bits)) (onTc (τ := Cert.SsdBwd.τ) (Cert.SsdBwd.main (F := Bits))) ⟨m, fun _ => 0, g⟩ (fun r => (∀ c : Dev Cert.SsdBwd.nD,
      r.2.mem ((c.tc : Thread Cert.SsdBwd.nD Cert.SsdBwd.τ).loc Cert.SsdBwd.main_arg0) = m ((c.tc : Thread Cert.SsdBwd.nD Cert.SsdBwd.τ).loc Cert.SsdBwd.main_arg0)
      ∧ r.2.mem ((c.tc : Thread Cert.SsdBwd.nD Cert.SsdBwd.τ).loc Cert.SsdBwd.main_arg1) = m ((c.tc : Thread Cert.SsdBwd.nD Cert.SsdBwd.τ).loc Cert.SsdBwd.main_arg1)
      ∧ r.2.mem ((c.tc : Thread Cert.SsdBwd.nD Cert.SsdBwd.τ).loc Cert.SsdBwd.main_arg2) = m ((c.tc : Thread Cert.SsdBwd.nD Cert.SsdBwd.τ).loc Cert.SsdBwd.main_arg2)
      ∧ r.2.mem ((c.tc : Thread Cert.SsdBwd.nD Cert.SsdBwd.τ).loc Cert.SsdBwd.main_arg3) = m ((c.tc : Thread Cert.SsdBwd.nD Cert.SsdBwd.τ).loc Cert.SsdBwd.main_arg3)
      ∧ r.2.mem ((c.tc : Thread Cert.SsdBwd.nD Cert.SsdBwd.τ).loc Cert.SsdBwd.main_arg4) = m ((c.tc : Thread Cert.SsdBwd.nD Cert.SsdBwd.τ).loc Cert.SsdBwd.main_arg4)
      ∧ r.2.mem ((c.tc : Thread Cert.SsdBwd.nD Cert.SsdBwd.τ).loc Cert.SsdBwd.main_arg5) = m ((c.tc : Thread Cert.SsdBwd.nD Cert.SsdBwd.τ).loc Cert.SsdBwd.main_arg5)
      ∧ r.2.mem ((c.tc : Thread Cert.SsdBwd.nD Cert.SsdBwd.τ).loc Cert.SsdBwd.main_arg6) = m ((c.tc : Thread Cert.SsdBwd.nD Cert.SsdBwd.τ).loc Cert.SsdBwd.main_arg6)
      ∧ r.2.mem ((c.tc : Thread Cert.SsdBwd.nD Cert.SsdBwd.τ).loc Cert.SsdBwd.main_arg7) = m ((c.tc : Thread Cert.SsdBwd.nD Cert.SsdBwd.τ).loc Cert.SsdBwd.main_arg7)
      ∧ r.2.mem ((c.tc : Thread Cert.SsdBwd.nD Cert.SsdBwd.τ).loc Cert.SsdBwd.main_arg8) = m ((c.tc : Thread Cert.SsdBwd.nD Cert.SsdBwd.τ).loc Cert.SsdBwd.main_arg8)
      ∧ r.2.mem ((c.tc : Thread Cert.SsdBwd.nD Cert.SsdBwd.τ).loc Cert.SsdBwd.main_arg9) = m ((c.tc : Thread Cert.SsdBwd.nD Cert.SsdBwd.τ).loc Cert.SsdBwd.main_arg9))
      ∧ r.2.sem = fun _ => 0)

def quiescent_SsdBwdIdeal [hSsdBwdIdeal : Cert.SsdBwdIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg), Pre_SsdBwdIdeal m →
    θ_run (Cert.SsdBwdIdeal.defs (F := Ideal)) (onTc (τ := Cert.SsdBwdIdeal.τ) (Cert.SsdBwdIdeal.main (F := Ideal))) ⟨m, fun _ => 0, g⟩ (fun r => (∀ c : Dev Cert.SsdBwdIdeal.nD,
      r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
      ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
      ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
      ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
      ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
      ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5)
      ∧ r.2.mem ((c.tc : Thread Cert.SsdBwdIdeal.nD Cert.SsdBwdIdeal.τ).loc Cert.SsdBwdIdeal.main_arg6) = m ((c.tc : Thread Cert.SsdBwdIdeal.nD Cert.SsdBwdIdeal.τ).loc Cert.SsdBwdIdeal.main_arg6)
      ∧ r.2.mem ((c.tc : Thread Cert.SsdBwdIdeal.nD Cert.SsdBwdIdeal.τ).loc Cert.SsdBwdIdeal.main_arg7) = m ((c.tc : Thread Cert.SsdBwdIdeal.nD Cert.SsdBwdIdeal.τ).loc Cert.SsdBwdIdeal.main_arg7)
      ∧ r.2.mem ((c.tc : Thread Cert.SsdBwdIdeal.nD Cert.SsdBwdIdeal.τ).loc Cert.SsdBwdIdeal.main_arg8) = m ((c.tc : Thread Cert.SsdBwdIdeal.nD Cert.SsdBwdIdeal.τ).loc Cert.SsdBwdIdeal.main_arg8)
      ∧ r.2.mem ((c.tc : Thread Cert.SsdBwdIdeal.nD Cert.SsdBwdIdeal.τ).loc Cert.SsdBwdIdeal.main_arg9) = m ((c.tc : Thread Cert.SsdBwdIdeal.nD Cert.SsdBwdIdeal.τ).loc Cert.SsdBwdIdeal.main_arg9))
      ∧ r.2.sem = fun _ => 0)

def quiescent_SFiveFwd [hSFiveFwd : Cert.SFiveFwd.Facts] : Prop :=
  ∀ (m : (ℓ : Loc Cert.SFiveFwd.nD Cert.SFiveFwd.τ Cert.SFiveFwd.sig) → Buf (Elt Bits) ℓ) (g : Dev Cert.SFiveFwd.nD → PrngReg), Pre_SFiveFwd m →
    θ_run (Cert.SFiveFwd.defs (F := Bits)) (onTc (τ := Cert.SFiveFwd.τ) (Cert.SFiveFwd.main (F := Bits))) ⟨m, fun _ => 0, g⟩ (fun r => (∀ c : Dev Cert.SFiveFwd.nD,
      r.2.mem ((c.tc : Thread Cert.SFiveFwd.nD Cert.SFiveFwd.τ).loc Cert.SFiveFwd.main_arg0) = m ((c.tc : Thread Cert.SFiveFwd.nD Cert.SFiveFwd.τ).loc Cert.SFiveFwd.main_arg0)
      ∧ r.2.mem ((c.tc : Thread Cert.SFiveFwd.nD Cert.SFiveFwd.τ).loc Cert.SFiveFwd.main_arg1) = m ((c.tc : Thread Cert.SFiveFwd.nD Cert.SFiveFwd.τ).loc Cert.SFiveFwd.main_arg1)
      ∧ r.2.mem ((c.tc : Thread Cert.SFiveFwd.nD Cert.SFiveFwd.τ).loc Cert.SFiveFwd.main_arg2) = m ((c.tc : Thread Cert.SFiveFwd.nD Cert.SFiveFwd.τ).loc Cert.SFiveFwd.main_arg2)
      ∧ r.2.mem ((c.tc : Thread Cert.SFiveFwd.nD Cert.SFiveFwd.τ).loc Cert.SFiveFwd.main_arg3) = m ((c.tc : Thread Cert.SFiveFwd.nD Cert.SFiveFwd.τ).loc Cert.SFiveFwd.main_arg3)
      ∧ r.2.mem ((c.tc : Thread Cert.SFiveFwd.nD Cert.SFiveFwd.τ).loc Cert.SFiveFwd.main_arg4) = m ((c.tc : Thread Cert.SFiveFwd.nD Cert.SFiveFwd.τ).loc Cert.SFiveFwd.main_arg4)
      ∧ r.2.mem ((c.tc : Thread Cert.SFiveFwd.nD Cert.SFiveFwd.τ).loc Cert.SFiveFwd.main_arg5) = m ((c.tc : Thread Cert.SFiveFwd.nD Cert.SFiveFwd.τ).loc Cert.SFiveFwd.main_arg5)
      ∧ r.2.mem ((c.tc : Thread Cert.SFiveFwd.nD Cert.SFiveFwd.τ).loc Cert.SFiveFwd.main_arg6) = m ((c.tc : Thread Cert.SFiveFwd.nD Cert.SFiveFwd.τ).loc Cert.SFiveFwd.main_arg6)
      ∧ r.2.mem ((c.tc : Thread Cert.SFiveFwd.nD Cert.SFiveFwd.τ).loc Cert.SFiveFwd.main_arg7) = m ((c.tc : Thread Cert.SFiveFwd.nD Cert.SFiveFwd.τ).loc Cert.SFiveFwd.main_arg7)
      ∧ r.2.mem ((c.tc : Thread Cert.SFiveFwd.nD Cert.SFiveFwd.τ).loc Cert.SFiveFwd.main_arg8) = m ((c.tc : Thread Cert.SFiveFwd.nD Cert.SFiveFwd.τ).loc Cert.SFiveFwd.main_arg8))
      ∧ r.2.sem = fun _ => 0)

def quiescent_SFiveFwdIdeal [hSFiveFwdIdeal : Cert.SFiveFwdIdeal.Facts] : Prop :=
  ∀ (m : (ℓ : Loc Cert.SFiveFwdIdeal.nD Cert.SFiveFwdIdeal.τ Cert.SFiveFwdIdeal.sig) → Buf (Elt Ideal) ℓ) (g : Dev Cert.SFiveFwdIdeal.nD → PrngReg), Pre_SFiveFwdIdeal m →
    θ_run (Cert.SFiveFwdIdeal.defs (F := Ideal)) (onTc (τ := Cert.SFiveFwdIdeal.τ) (Cert.SFiveFwdIdeal.main (F := Ideal))) ⟨m, fun _ => 0, g⟩ (fun r => (∀ c : Dev Cert.SFiveFwdIdeal.nD,
      r.2.mem ((c.tc : Thread Cert.SFiveFwdIdeal.nD Cert.SFiveFwdIdeal.τ).loc Cert.SFiveFwdIdeal.main_arg0) = m ((c.tc : Thread Cert.SFiveFwdIdeal.nD Cert.SFiveFwdIdeal.τ).loc Cert.SFiveFwdIdeal.main_arg0)
      ∧ r.2.mem ((c.tc : Thread Cert.SFiveFwdIdeal.nD Cert.SFiveFwdIdeal.τ).loc Cert.SFiveFwdIdeal.main_arg1) = m ((c.tc : Thread Cert.SFiveFwdIdeal.nD Cert.SFiveFwdIdeal.τ).loc Cert.SFiveFwdIdeal.main_arg1)
      ∧ r.2.mem ((c.tc : Thread Cert.SFiveFwdIdeal.nD Cert.SFiveFwdIdeal.τ).loc Cert.SFiveFwdIdeal.main_arg2) = m ((c.tc : Thread Cert.SFiveFwdIdeal.nD Cert.SFiveFwdIdeal.τ).loc Cert.SFiveFwdIdeal.main_arg2)
      ∧ r.2.mem ((c.tc : Thread Cert.SFiveFwdIdeal.nD Cert.SFiveFwdIdeal.τ).loc Cert.SFiveFwdIdeal.main_arg3) = m ((c.tc : Thread Cert.SFiveFwdIdeal.nD Cert.SFiveFwdIdeal.τ).loc Cert.SFiveFwdIdeal.main_arg3)
      ∧ r.2.mem ((c.tc : Thread Cert.SFiveFwdIdeal.nD Cert.SFiveFwdIdeal.τ).loc Cert.SFiveFwdIdeal.main_arg4) = m ((c.tc : Thread Cert.SFiveFwdIdeal.nD Cert.SFiveFwdIdeal.τ).loc Cert.SFiveFwdIdeal.main_arg4)
      ∧ r.2.mem ((c.tc : Thread Cert.SFiveFwdIdeal.nD Cert.SFiveFwdIdeal.τ).loc Cert.SFiveFwdIdeal.main_arg5) = m ((c.tc : Thread Cert.SFiveFwdIdeal.nD Cert.SFiveFwdIdeal.τ).loc Cert.SFiveFwdIdeal.main_arg5)
      ∧ r.2.mem ((c.tc : Thread Cert.SFiveFwdIdeal.nD Cert.SFiveFwdIdeal.τ).loc Cert.SFiveFwdIdeal.main_arg6) = m ((c.tc : Thread Cert.SFiveFwdIdeal.nD Cert.SFiveFwdIdeal.τ).loc Cert.SFiveFwdIdeal.main_arg6)
      ∧ r.2.mem ((c.tc : Thread Cert.SFiveFwdIdeal.nD Cert.SFiveFwdIdeal.τ).loc Cert.SFiveFwdIdeal.main_arg7) = m ((c.tc : Thread Cert.SFiveFwdIdeal.nD Cert.SFiveFwdIdeal.τ).loc Cert.SFiveFwdIdeal.main_arg7)
      ∧ r.2.mem ((c.tc : Thread Cert.SFiveFwdIdeal.nD Cert.SFiveFwdIdeal.τ).loc Cert.SFiveFwdIdeal.main_arg8) = m ((c.tc : Thread Cert.SFiveFwdIdeal.nD Cert.SFiveFwdIdeal.τ).loc Cert.SFiveFwdIdeal.main_arg8))
      ∧ r.2.sem = fun _ => 0)

def quiescent_SFiveBwd [hSFiveBwd : Cert.SFiveBwd.Facts] : Prop :=
  ∀ (m : (ℓ : Loc Cert.SFiveBwd.nD Cert.SFiveBwd.τ Cert.SFiveBwd.sig) → Buf (Elt Bits) ℓ) (g : Dev Cert.SFiveBwd.nD → PrngReg), Pre_SFiveBwd m →
    θ_run (Cert.SFiveBwd.defs (F := Bits)) (onTc (τ := Cert.SFiveBwd.τ) (Cert.SFiveBwd.main (F := Bits))) ⟨m, fun _ => 0, g⟩ (fun r => (∀ c : Dev Cert.SFiveBwd.nD,
      r.2.mem ((c.tc : Thread Cert.SFiveBwd.nD Cert.SFiveBwd.τ).loc Cert.SFiveBwd.main_arg0) = m ((c.tc : Thread Cert.SFiveBwd.nD Cert.SFiveBwd.τ).loc Cert.SFiveBwd.main_arg0)
      ∧ r.2.mem ((c.tc : Thread Cert.SFiveBwd.nD Cert.SFiveBwd.τ).loc Cert.SFiveBwd.main_arg1) = m ((c.tc : Thread Cert.SFiveBwd.nD Cert.SFiveBwd.τ).loc Cert.SFiveBwd.main_arg1)
      ∧ r.2.mem ((c.tc : Thread Cert.SFiveBwd.nD Cert.SFiveBwd.τ).loc Cert.SFiveBwd.main_arg2) = m ((c.tc : Thread Cert.SFiveBwd.nD Cert.SFiveBwd.τ).loc Cert.SFiveBwd.main_arg2)
      ∧ r.2.mem ((c.tc : Thread Cert.SFiveBwd.nD Cert.SFiveBwd.τ).loc Cert.SFiveBwd.main_arg3) = m ((c.tc : Thread Cert.SFiveBwd.nD Cert.SFiveBwd.τ).loc Cert.SFiveBwd.main_arg3)
      ∧ r.2.mem ((c.tc : Thread Cert.SFiveBwd.nD Cert.SFiveBwd.τ).loc Cert.SFiveBwd.main_arg4) = m ((c.tc : Thread Cert.SFiveBwd.nD Cert.SFiveBwd.τ).loc Cert.SFiveBwd.main_arg4)
      ∧ r.2.mem ((c.tc : Thread Cert.SFiveBwd.nD Cert.SFiveBwd.τ).loc Cert.SFiveBwd.main_arg5) = m ((c.tc : Thread Cert.SFiveBwd.nD Cert.SFiveBwd.τ).loc Cert.SFiveBwd.main_arg5)
      ∧ r.2.mem ((c.tc : Thread Cert.SFiveBwd.nD Cert.SFiveBwd.τ).loc Cert.SFiveBwd.main_arg6) = m ((c.tc : Thread Cert.SFiveBwd.nD Cert.SFiveBwd.τ).loc Cert.SFiveBwd.main_arg6)
      ∧ r.2.mem ((c.tc : Thread Cert.SFiveBwd.nD Cert.SFiveBwd.τ).loc Cert.SFiveBwd.main_arg7) = m ((c.tc : Thread Cert.SFiveBwd.nD Cert.SFiveBwd.τ).loc Cert.SFiveBwd.main_arg7)
      ∧ r.2.mem ((c.tc : Thread Cert.SFiveBwd.nD Cert.SFiveBwd.τ).loc Cert.SFiveBwd.main_arg8) = m ((c.tc : Thread Cert.SFiveBwd.nD Cert.SFiveBwd.τ).loc Cert.SFiveBwd.main_arg8))
      ∧ r.2.sem = fun _ => 0)

def quiescent_SFiveBwdIdeal [hSFiveBwdIdeal : Cert.SFiveBwdIdeal.Facts] : Prop :=
  ∀ (m : (ℓ : Loc Cert.SFiveBwdIdeal.nD Cert.SFiveBwdIdeal.τ Cert.SFiveBwdIdeal.sig) → Buf (Elt Ideal) ℓ) (g : Dev Cert.SFiveBwdIdeal.nD → PrngReg), Pre_SFiveBwdIdeal m →
    θ_run (Cert.SFiveBwdIdeal.defs (F := Ideal)) (onTc (τ := Cert.SFiveBwdIdeal.τ) (Cert.SFiveBwdIdeal.main (F := Ideal))) ⟨m, fun _ => 0, g⟩ (fun r => (∀ c : Dev Cert.SFiveBwdIdeal.nD,
      r.2.mem ((c.tc : Thread Cert.SFiveBwdIdeal.nD Cert.SFiveBwdIdeal.τ).loc Cert.SFiveBwdIdeal.main_arg0) = m ((c.tc : Thread Cert.SFiveBwdIdeal.nD Cert.SFiveBwdIdeal.τ).loc Cert.SFiveBwdIdeal.main_arg0)
      ∧ r.2.mem ((c.tc : Thread Cert.SFiveBwdIdeal.nD Cert.SFiveBwdIdeal.τ).loc Cert.SFiveBwdIdeal.main_arg1) = m ((c.tc : Thread Cert.SFiveBwdIdeal.nD Cert.SFiveBwdIdeal.τ).loc Cert.SFiveBwdIdeal.main_arg1)
      ∧ r.2.mem ((c.tc : Thread Cert.SFiveBwdIdeal.nD Cert.SFiveBwdIdeal.τ).loc Cert.SFiveBwdIdeal.main_arg2) = m ((c.tc : Thread Cert.SFiveBwdIdeal.nD Cert.SFiveBwdIdeal.τ).loc Cert.SFiveBwdIdeal.main_arg2)
      ∧ r.2.mem ((c.tc : Thread Cert.SFiveBwdIdeal.nD Cert.SFiveBwdIdeal.τ).loc Cert.SFiveBwdIdeal.main_arg3) = m ((c.tc : Thread Cert.SFiveBwdIdeal.nD Cert.SFiveBwdIdeal.τ).loc Cert.SFiveBwdIdeal.main_arg3)
      ∧ r.2.mem ((c.tc : Thread Cert.SFiveBwdIdeal.nD Cert.SFiveBwdIdeal.τ).loc Cert.SFiveBwdIdeal.main_arg4) = m ((c.tc : Thread Cert.SFiveBwdIdeal.nD Cert.SFiveBwdIdeal.τ).loc Cert.SFiveBwdIdeal.main_arg4)
      ∧ r.2.mem ((c.tc : Thread Cert.SFiveBwdIdeal.nD Cert.SFiveBwdIdeal.τ).loc Cert.SFiveBwdIdeal.main_arg5) = m ((c.tc : Thread Cert.SFiveBwdIdeal.nD Cert.SFiveBwdIdeal.τ).loc Cert.SFiveBwdIdeal.main_arg5)
      ∧ r.2.mem ((c.tc : Thread Cert.SFiveBwdIdeal.nD Cert.SFiveBwdIdeal.τ).loc Cert.SFiveBwdIdeal.main_arg6) = m ((c.tc : Thread Cert.SFiveBwdIdeal.nD Cert.SFiveBwdIdeal.τ).loc Cert.SFiveBwdIdeal.main_arg6)
      ∧ r.2.mem ((c.tc : Thread Cert.SFiveBwdIdeal.nD Cert.SFiveBwdIdeal.τ).loc Cert.SFiveBwdIdeal.main_arg7) = m ((c.tc : Thread Cert.SFiveBwdIdeal.nD Cert.SFiveBwdIdeal.τ).loc Cert.SFiveBwdIdeal.main_arg7)
      ∧ r.2.mem ((c.tc : Thread Cert.SFiveBwdIdeal.nD Cert.SFiveBwdIdeal.τ).loc Cert.SFiveBwdIdeal.main_arg8) = m ((c.tc : Thread Cert.SFiveBwdIdeal.nD Cert.SFiveBwdIdeal.τ).loc Cert.SFiveBwdIdeal.main_arg8))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SumEight [hSumEight : Cert.SumEight.Facts] : Prop :=
  ∀ (m : (ℓ : Loc Cert.SumEight.nD Cert.SumEight.τ Cert.SumEight.sig) → Buf (Elt Bits) ℓ) (g : Dev Cert.SumEight.nD → PrngReg), Pre_SumEight m →
    θ_run (Cert.SumEight.defs (F := Bits)) (onTc (τ := Cert.SumEight.τ) (Cert.SumEight.main (F := Bits))) ⟨m, fun _ => 0, g⟩ (fun r => (∀ c : Dev Cert.SumEight.nD,
      r.2.mem ((c.tc : Thread Cert.SumEight.nD Cert.SumEight.τ).loc Cert.SumEight.main_arg0) = m ((c.tc : Thread Cert.SumEight.nD Cert.SumEight.τ).loc Cert.SumEight.main_arg0))
      ∧ r.2.sem = fun _ => 0)

def quiescent_SumEightIdeal [hSumEightIdeal : Cert.SumEightIdeal.Facts] : Prop :=
  ∀ (m : (ℓ : Loc Cert.SumEightIdeal.nD Cert.SumEightIdeal.τ Cert.SumEightIdeal.sig) → Buf (Elt Ideal) ℓ) (g : Dev Cert.SumEightIdeal.nD → PrngReg), Pre_SumEightIdeal m →
    θ_run (Cert.SumEightIdeal.defs (F := Ideal)) (onTc (τ := Cert.SumEightIdeal.τ) (Cert.SumEightIdeal.main (F := Ideal))) ⟨m, fun _ => 0, g⟩ (fun r => (∀ c : Dev Cert.SumEightIdeal.nD,
      r.2.mem ((c.tc : Thread Cert.SumEightIdeal.nD Cert.SumEightIdeal.τ).loc Cert.SumEightIdeal.main_arg0) = m ((c.tc : Thread Cert.SumEightIdeal.nD Cert.SumEightIdeal.τ).loc Cert.SumEightIdeal.main_arg0))
      ∧ r.2.sem = fun _ => 0)

def quiescent_SumEightRefIdeal [hSumEightRefIdeal : Cert.SumEightRefIdeal.Facts] : Prop :=
  ∀ (m : (ℓ : Loc Cert.SumEightRefIdeal.nD Cert.SumEightRefIdeal.τ Cert.SumEightRefIdeal.sig) → Buf (Elt Ideal) ℓ) (g : Dev Cert.SumEightRefIdeal.nD → PrngReg), Pre_SumEightRefIdeal m →
    θ_run (Cert.SumEightRefIdeal.defs (F := Ideal)) (onTc (τ := Cert.SumEightRefIdeal.τ) (Cert.SumEightRefIdeal.main (F := Ideal))) ⟨m, fun _ => 0, g⟩ (fun r => (∀ c : Dev Cert.SumEightRefIdeal.nD,
      r.2.mem ((c.tc : Thread Cert.SumEightRefIdeal.nD Cert.SumEightRefIdeal.τ).loc Cert.SumEightRefIdeal.main_arg0) = m ((c.tc : Thread Cert.SumEightRefIdeal.nD Cert.SumEightRefIdeal.τ).loc Cert.SumEightRefIdeal.main_arg0))
      ∧ r.2.sem = fun _ => 0)

def quiescent_Parts [hParts : Cert.Parts.Facts] : Prop :=
  ∀ (m : (ℓ : Loc Cert.Parts.nD Cert.Parts.τ Cert.Parts.sig) → Buf (Elt Bits) ℓ) (g : Dev Cert.Parts.nD → PrngReg), Pre_Parts m →
    θ_run (Cert.Parts.defs (F := Bits)) (onTc (τ := Cert.Parts.τ) (Cert.Parts.main (F := Bits))) ⟨m, fun _ => 0, g⟩ (fun r => (∀ c : Dev Cert.Parts.nD,
      r.2.mem ((c.tc : Thread Cert.Parts.nD Cert.Parts.τ).loc Cert.Parts.main_arg0) = m ((c.tc : Thread Cert.Parts.nD Cert.Parts.τ).loc Cert.Parts.main_arg0)
      ∧ r.2.mem ((c.tc : Thread Cert.Parts.nD Cert.Parts.τ).loc Cert.Parts.main_arg1) = m ((c.tc : Thread Cert.Parts.nD Cert.Parts.τ).loc Cert.Parts.main_arg1))
      ∧ r.2.sem = fun _ => 0)

def quiescent_PartsIdeal [hPartsIdeal : Cert.PartsIdeal.Facts] : Prop :=
  ∀ (m : (ℓ : Loc Cert.PartsIdeal.nD Cert.PartsIdeal.τ Cert.PartsIdeal.sig) → Buf (Elt Ideal) ℓ) (g : Dev Cert.PartsIdeal.nD → PrngReg), Pre_PartsIdeal m →
    θ_run (Cert.PartsIdeal.defs (F := Ideal)) (onTc (τ := Cert.PartsIdeal.τ) (Cert.PartsIdeal.main (F := Ideal))) ⟨m, fun _ => 0, g⟩ (fun r => (∀ c : Dev Cert.PartsIdeal.nD,
      r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
      ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1))
      ∧ r.2.sem = fun _ => 0)

def quiescent_PartsRefIdeal [hPartsRefIdeal : Cert.PartsRefIdeal.Facts] : Prop :=
  ∀ (m : (ℓ : Loc Cert.PartsRefIdeal.nD Cert.PartsRefIdeal.τ Cert.PartsRefIdeal.sig) → Buf (Elt Ideal) ℓ) (g : Dev Cert.PartsRefIdeal.nD → PrngReg), Pre_PartsRefIdeal m →
    θ_run (Cert.PartsRefIdeal.defs (F := Ideal)) (onTc (τ := Cert.PartsRefIdeal.τ) (Cert.PartsRefIdeal.main (F := Ideal))) ⟨m, fun _ => 0, g⟩ (fun r => (∀ c : Dev Cert.PartsRefIdeal.nD,
      r.2.mem ((c.tc : Thread Cert.PartsRefIdeal.nD Cert.PartsRefIdeal.τ).loc Cert.PartsRefIdeal.main_arg0) = m ((c.tc : Thread Cert.PartsRefIdeal.nD Cert.PartsRefIdeal.τ).loc Cert.PartsRefIdeal.main_arg0)
      ∧ r.2.mem ((c.tc : Thread Cert.PartsRefIdeal.nD Cert.PartsRefIdeal.τ).loc Cert.PartsRefIdeal.main_arg1) = m ((c.tc : Thread Cert.PartsRefIdeal.nD Cert.PartsRefIdeal.τ).loc Cert.PartsRefIdeal.main_arg1))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v14) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v6) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_v21) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Out_OutIdeal : Prop :=
  True

def algebraic_OutIdeal_OutRefIdeal_pre_out_finite [hOutIdeal : Cert.OutIdeal.Facts] [hOutRefIdeal : Cert.OutRefIdeal.Facts] [hPre_out_finite : Cert.Pre_out_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_finite m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v8_0)) (v1 : (c : Dev Cert.OutIdeal.nD) → Buf (Elt Ideal) ((c.tc : Thread Cert.OutIdeal.nD Cert.OutIdeal.τ).loc Cert.OutIdeal.main_v8_1)) (v2 : (c : Dev Cert.OutIdeal.nD) → Buf (Elt Ideal) ((c.tc : Thread Cert.OutIdeal.nD Cert.OutIdeal.τ).loc Cert.OutIdeal.main_v10)) (v3 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8_0) = v0 c
          ∧ r.2.mem ((c.tc : Thread Cert.OutIdeal.nD Cert.OutIdeal.τ).loc Cert.OutIdeal.main_v8_1) = v1 c
          ∧ r.2.mem ((c.tc : Thread Cert.OutIdeal.nD Cert.OutIdeal.τ).loc Cert.OutIdeal.main_v10) = v2 c
          ∧ r.2.mem ((c.tc : Thread Cert.OutIdeal.nD Cert.OutIdeal.τ).loc Cert.OutIdeal.main_v12) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v35) = v0 c
          ∧ r.2.mem ((c.tc : Thread Cert.OutRefIdeal.nD Cert.OutRefIdeal.τ).loc Cert.OutRefIdeal.main_v64) = v1 c
          ∧ r.2.mem ((c.tc : Thread Cert.OutRefIdeal.nD Cert.OutRefIdeal.τ).loc Cert.OutRefIdeal.main_v39) = v2 c
          ∧ r.2.mem ((c.tc : Thread Cert.OutRefIdeal.nD Cert.OutRefIdeal.τ).loc Cert.OutRefIdeal.main_v63) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Glu_GluIdeal : Prop :=
  IdealRules.named_const.Statement Cert.GluIdeal.κ "r2" .f32 0x3F3504F3#32 (((Real.sqrt 2)⁻¹ : ℝ) : EReal)
  ∧ IdealRules.named_const.Statement Cert.GluIdeal.κ "r2pi" .f32 0x3ECC422A#32 (((Real.sqrt (2 * Real.pi))⁻¹ : ℝ) : EReal)

def preserves_GluRef_GluRefIdeal : Prop :=
  IdealRules.named_const.Statement Cert.GluRefIdeal.κ "r2" .f32 0x3F3504F3#32 (((Real.sqrt 2)⁻¹ : ℝ) : EReal)
  ∧ IdealRules.named_const.Statement Cert.GluRefIdeal.κ "c2rpi" .f32 0x3F906EBB#32 ((2 * (Real.sqrt Real.pi)⁻¹ : ℝ) : EReal)

def algebraic_GluIdeal_GluRefIdeal_pre_glu_finite [hGluIdeal : Cert.GluIdeal.Facts] [hGluRefIdeal : Cert.GluRefIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v6)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v0) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Fin_FinIdeal : Prop :=
  True

def algebraic_FinIdeal_FinRefIdeal_pre_fin_finite [hFinIdeal : Cert.FinIdeal.Facts] [hFinRefIdeal : Cert.FinRefIdeal.Facts] [hPre_fin_finite : Cert.Pre_fin_finite.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal_fin_finite m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v3)) (v1 : (c : Dev Cert.FinIdeal.nD) → Buf (Elt Ideal) ((c.tc : Thread Cert.FinIdeal.nD Cert.FinIdeal.τ).loc Cert.FinIdeal.main_v4)) (v2 : (c : Dev Cert.FinIdeal.nD) → Buf (Elt Ideal) ((c.tc : Thread Cert.FinIdeal.nD Cert.FinIdeal.τ).loc Cert.FinIdeal.main_v5)) (v3 : (c : Dev Cert.FinIdeal.nD) → Buf (Elt Ideal) ((c.tc : Thread Cert.FinIdeal.nD Cert.FinIdeal.τ).loc Cert.FinIdeal.main_v7)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v3) = v0 c
          ∧ r.2.mem ((c.tc : Thread Cert.FinIdeal.nD Cert.FinIdeal.τ).loc Cert.FinIdeal.main_v4) = v1 c
          ∧ r.2.mem ((c.tc : Thread Cert.FinIdeal.nD Cert.FinIdeal.τ).loc Cert.FinIdeal.main_v5) = v2 c
          ∧ r.2.mem ((c.tc : Thread Cert.FinIdeal.nD Cert.FinIdeal.τ).loc Cert.FinIdeal.main_v7) = v3 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v24) = v0 c
          ∧ r.2.mem ((c.tc : Thread Cert.FinRefIdeal.nD Cert.FinRefIdeal.τ).loc Cert.FinRefIdeal.main_v50) = v1 c
          ∧ r.2.mem ((c.tc : Thread Cert.FinRefIdeal.nD Cert.FinRefIdeal.τ).loc Cert.FinRefIdeal.main_v51) = v2 c
          ∧ r.2.mem ((c.tc : Thread Cert.FinRefIdeal.nD Cert.FinRefIdeal.τ).loc Cert.FinRefIdeal.main_v34) = v3 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v19_0)) (v1 : (c : Dev Cert.InIdeal.nD) → Buf (Elt Ideal) ((c.tc : Thread Cert.InIdeal.nD Cert.InIdeal.τ).loc Cert.InIdeal.main_v21)) (v2 : (c : Dev Cert.InIdeal.nD) → Buf (Elt Ideal) ((c.tc : Thread Cert.InIdeal.nD Cert.InIdeal.τ).loc Cert.InIdeal.main_v19_2)) (v3 : (c : Dev Cert.InIdeal.nD) → Buf (Elt Ideal) ((c.tc : Thread Cert.InIdeal.nD Cert.InIdeal.τ).loc Cert.InIdeal.main_v19_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v19_0) = v0 c
          ∧ r.2.mem ((c.tc : Thread Cert.InIdeal.nD Cert.InIdeal.τ).loc Cert.InIdeal.main_v21) = v1 c
          ∧ r.2.mem ((c.tc : Thread Cert.InIdeal.nD Cert.InIdeal.τ).loc Cert.InIdeal.main_v19_2) = v2 c
          ∧ r.2.mem ((c.tc : Thread Cert.InIdeal.nD Cert.InIdeal.τ).loc Cert.InIdeal.main_v19_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v41) = v0 c
          ∧ r.2.mem ((c.tc : Thread Cert.InRefIdeal.nD Cert.InRefIdeal.τ).loc Cert.InRefIdeal.main_v22) = v1 c
          ∧ r.2.mem ((c.tc : Thread Cert.InRefIdeal.nD Cert.InRefIdeal.τ).loc Cert.InRefIdeal.main_v42) = v2 c
          ∧ r.2.mem ((c.tc : Thread Cert.InRefIdeal.nD Cert.InRefIdeal.τ).loc Cert.InRefIdeal.main_v43) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_SsdFwd_SsdFwdIdeal : Prop :=
  True

def algebraic_SsdFwdIdeal_SsdFwdRefIdeal_pre_ssdf_real [hSsdFwdIdeal : Cert.SsdFwdIdeal.Facts] [hSsdFwdRefIdeal : Cert.SsdFwdRefIdeal.Facts] [hPre_ssdf_real : Cert.Pre_ssdf_real.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal_ssdf_real m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)
      ∧ m' ((c.tc : Thread Cert.SsdFwdRefIdeal.nD Cert.SsdFwdRefIdeal.τ).loc Cert.SsdFwdRefIdeal.main_arg6) = m ((c.tc : Thread Cert.SsdFwdIdeal.nD Cert.SsdFwdIdeal.τ).loc Cert.SsdFwdIdeal.main_arg6)
      ∧ m' ((c.tc : Thread Cert.SsdFwdRefIdeal.nD Cert.SsdFwdRefIdeal.τ).loc Cert.SsdFwdRefIdeal.main_arg7) = m ((c.tc : Thread Cert.SsdFwdIdeal.nD Cert.SsdFwdIdeal.τ).loc Cert.SsdFwdIdeal.main_arg7)
      ∧ m' ((c.tc : Thread Cert.SsdFwdRefIdeal.nD Cert.SsdFwdRefIdeal.τ).loc Cert.SsdFwdRefIdeal.main_arg8) = m ((c.tc : Thread Cert.SsdFwdIdeal.nD Cert.SsdFwdIdeal.τ).loc Cert.SsdFwdIdeal.main_arg8)) →
    ∃ (v0 : (c : Dev Cert.SsdFwdIdeal.nD) → Buf (Elt Ideal) ((c.tc : Thread Cert.SsdFwdIdeal.nD Cert.SsdFwdIdeal.τ).loc Cert.SsdFwdIdeal.main_v6)) (v1 : (c : Dev Cert.SsdFwdIdeal.nD) → Buf (Elt Ideal) ((c.tc : Thread Cert.SsdFwdIdeal.nD Cert.SsdFwdIdeal.τ).loc Cert.SsdFwdIdeal.main_v7)) (v2 : (c : Dev Cert.SsdFwdIdeal.nD) → Buf (Elt Ideal) ((c.tc : Thread Cert.SsdFwdIdeal.nD Cert.SsdFwdIdeal.τ).loc Cert.SsdFwdIdeal.main_v5_2)) (v3 : (c : Dev Cert.SsdFwdIdeal.nD) → Buf (Elt Ideal) ((c.tc : Thread Cert.SsdFwdIdeal.nD Cert.SsdFwdIdeal.τ).loc Cert.SsdFwdIdeal.main_v8)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v6) = v0 c
          ∧ r.2.mem ((c.tc : Thread Cert.SsdFwdIdeal.nD Cert.SsdFwdIdeal.τ).loc Cert.SsdFwdIdeal.main_v7) = v1 c
          ∧ r.2.mem ((c.tc : Thread Cert.SsdFwdIdeal.nD Cert.SsdFwdIdeal.τ).loc Cert.SsdFwdIdeal.main_v5_2) = v2 c
          ∧ r.2.mem ((c.tc : Thread Cert.SsdFwdIdeal.nD Cert.SsdFwdIdeal.τ).loc Cert.SsdFwdIdeal.main_v8) = v3 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
          ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
          ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v253) = v0 c
          ∧ r.2.mem ((c.tc : Thread Cert.SsdFwdRefIdeal.nD Cert.SsdFwdRefIdeal.τ).loc Cert.SsdFwdRefIdeal.main_v274) = v1 c
          ∧ r.2.mem ((c.tc : Thread Cert.SsdFwdRefIdeal.nD Cert.SsdFwdRefIdeal.τ).loc Cert.SsdFwdRefIdeal.main_v276) = v2 c
          ∧ r.2.mem ((c.tc : Thread Cert.SsdFwdRefIdeal.nD Cert.SsdFwdRefIdeal.τ).loc Cert.SsdFwdRefIdeal.main_v25) = v3 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5)
          ∧ r.2.mem ((c.tc : Thread Cert.SsdFwdRefIdeal.nD Cert.SsdFwdRefIdeal.τ).loc Cert.SsdFwdRefIdeal.main_arg6) = m' ((c.tc : Thread Cert.SsdFwdRefIdeal.nD Cert.SsdFwdRefIdeal.τ).loc Cert.SsdFwdRefIdeal.main_arg6)
          ∧ r.2.mem ((c.tc : Thread Cert.SsdFwdRefIdeal.nD Cert.SsdFwdRefIdeal.τ).loc Cert.SsdFwdRefIdeal.main_arg7) = m' ((c.tc : Thread Cert.SsdFwdRefIdeal.nD Cert.SsdFwdRefIdeal.τ).loc Cert.SsdFwdRefIdeal.main_arg7)
          ∧ r.2.mem ((c.tc : Thread Cert.SsdFwdRefIdeal.nD Cert.SsdFwdRefIdeal.τ).loc Cert.SsdFwdRefIdeal.main_arg8) = m' ((c.tc : Thread Cert.SsdFwdRefIdeal.nD Cert.SsdFwdRefIdeal.τ).loc Cert.SsdFwdRefIdeal.main_arg8))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v3_0)) (v1 : (c : Dev Cert.UpFwdIdeal.nD) → Buf (Elt Ideal) ((c.tc : Thread Cert.UpFwdIdeal.nD Cert.UpFwdIdeal.τ).loc Cert.UpFwdIdeal.main_v3_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v3_0) = v0 c
          ∧ r.2.mem ((c.tc : Thread Cert.UpFwdIdeal.nD Cert.UpFwdIdeal.τ).loc Cert.UpFwdIdeal.main_v3_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v14) = v0 c
          ∧ r.2.mem ((c.tc : Thread Cert.UpFwdRefIdeal.nD Cert.UpFwdRefIdeal.τ).loc Cert.UpFwdRefIdeal.main_v15) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v5)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v5) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v6_0)) (v1 : (c : Dev Cert.GluFwdIdeal.nD) → Buf (Elt Ideal) ((c.tc : Thread Cert.GluFwdIdeal.nD Cert.GluFwdIdeal.τ).loc Cert.GluFwdIdeal.main_v6_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v6_0) = v0 c
          ∧ r.2.mem ((c.tc : Thread Cert.GluFwdIdeal.nD Cert.GluFwdIdeal.τ).loc Cert.GluFwdIdeal.main_v6_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v24) = v0 c
          ∧ r.2.mem ((c.tc : Thread Cert.GluFwdRefIdeal.nD Cert.GluFwdRefIdeal.τ).loc Cert.GluFwdRefIdeal.main_v25) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v12)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v12) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v15)) (v1 : (c : Dev Cert.InFwdIdeal.nD) → Buf (Elt Ideal) ((c.tc : Thread Cert.InFwdIdeal.nD Cert.InFwdIdeal.τ).loc Cert.InFwdIdeal.main_v16)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v15) = v0 c
          ∧ r.2.mem ((c.tc : Thread Cert.InFwdIdeal.nD Cert.InFwdIdeal.τ).loc Cert.InFwdIdeal.main_v16) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v13) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3))

def preserves_SsdBwd_SsdBwdIdeal : Prop :=
  True

def preserves_SFiveFwd_SFiveFwdIdeal : Prop :=
  True

def preserves_SFiveBwd_SFiveBwdIdeal : Prop :=
  True

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v2) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v6)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v6) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SumEight_SumEightIdeal : Prop :=
  True

def algebraic_SumEightIdeal_SumEightRefIdeal [hSumEightIdeal : Cert.SumEightIdeal.Facts] [hSumEightRefIdeal : Cert.SumEightRefIdeal.Facts] : Prop :=
  ∀ (m : (ℓ : Loc Cert.SumEightIdeal.nD Cert.SumEightIdeal.τ Cert.SumEightIdeal.sig) → Buf (Elt Ideal) ℓ) (g : Dev Cert.SumEightIdeal.nD → PrngReg)
    (m' : (ℓ : Loc Cert.SumEightRefIdeal.nD Cert.SumEightRefIdeal.τ Cert.SumEightRefIdeal.sig) → Buf (Elt Ideal) ℓ) (g' : Dev Cert.SumEightRefIdeal.nD → PrngReg), Pre_SumEightIdeal m →
    (∀ c : Dev Cert.SumEightIdeal.nD,
      m' ((c.tc : Thread Cert.SumEightRefIdeal.nD Cert.SumEightRefIdeal.τ).loc Cert.SumEightRefIdeal.main_arg0) = m ((c.tc : Thread Cert.SumEightIdeal.nD Cert.SumEightIdeal.τ).loc Cert.SumEightIdeal.main_arg0)) →
    ∃ (v0 : (c : Dev Cert.SumEightIdeal.nD) → Buf (Elt Ideal) ((c.tc : Thread Cert.SumEightIdeal.nD Cert.SumEightIdeal.τ).loc Cert.SumEightIdeal.main_v0)),
      θ_run (Cert.SumEightIdeal.defs (F := Ideal)) (onTc (τ := Cert.SumEightIdeal.τ) (Cert.SumEightIdeal.main (F := Ideal))) ⟨m, fun _ => 0, g⟩ (fun r => ∀ c : Dev Cert.SumEightIdeal.nD,
          r.2.mem ((c.tc : Thread Cert.SumEightIdeal.nD Cert.SumEightIdeal.τ).loc Cert.SumEightIdeal.main_v0) = v0 c
          ∧ r.2.mem ((c.tc : Thread Cert.SumEightIdeal.nD Cert.SumEightIdeal.τ).loc Cert.SumEightIdeal.main_arg0) = m ((c.tc : Thread Cert.SumEightIdeal.nD Cert.SumEightIdeal.τ).loc Cert.SumEightIdeal.main_arg0))
      ∧ θ_run (Cert.SumEightRefIdeal.defs (F := Ideal)) (onTc (τ := Cert.SumEightRefIdeal.τ) (Cert.SumEightRefIdeal.main (F := Ideal))) ⟨m', fun _ => 0, g'⟩ (fun r => ∀ c : Dev Cert.SumEightRefIdeal.nD,
          r.2.mem ((c.tc : Thread Cert.SumEightRefIdeal.nD Cert.SumEightRefIdeal.τ).loc Cert.SumEightRefIdeal.main_v0) = v0 c
          ∧ r.2.mem ((c.tc : Thread Cert.SumEightRefIdeal.nD Cert.SumEightRefIdeal.τ).loc Cert.SumEightRefIdeal.main_arg0) = m' ((c.tc : Thread Cert.SumEightRefIdeal.nD Cert.SumEightRefIdeal.τ).loc Cert.SumEightRefIdeal.main_arg0))

def preserves_Parts_PartsIdeal : Prop :=
  True

def algebraic_PartsIdeal_PartsRefIdeal [hPartsIdeal : Cert.PartsIdeal.Facts] [hPartsRefIdeal : Cert.PartsRefIdeal.Facts] : Prop :=
  ∀ (m : (ℓ : Loc Cert.PartsIdeal.nD Cert.PartsIdeal.τ Cert.PartsIdeal.sig) → Buf (Elt Ideal) ℓ) (g : Dev Cert.PartsIdeal.nD → PrngReg)
    (m' : (ℓ : Loc Cert.PartsRefIdeal.nD Cert.PartsRefIdeal.τ Cert.PartsRefIdeal.sig) → Buf (Elt Ideal) ℓ) (g' : Dev Cert.PartsRefIdeal.nD → PrngReg), Pre_PartsIdeal m →
    (∀ c : Dev Cert.PartsIdeal.nD,
      m' ((c.tc : Thread Cert.PartsRefIdeal.nD Cert.PartsRefIdeal.τ).loc Cert.PartsRefIdeal.main_arg0) = m ((c.tc : Thread Cert.PartsIdeal.nD Cert.PartsIdeal.τ).loc Cert.PartsIdeal.main_arg0)
      ∧ m' ((c.tc : Thread Cert.PartsRefIdeal.nD Cert.PartsRefIdeal.τ).loc Cert.PartsRefIdeal.main_arg1) = m ((c.tc : Thread Cert.PartsIdeal.nD Cert.PartsIdeal.τ).loc Cert.PartsIdeal.main_arg1)) →
    ∃ (v0 : (c : Dev Cert.PartsIdeal.nD) → Buf (Elt Ideal) ((c.tc : Thread Cert.PartsIdeal.nD Cert.PartsIdeal.τ).loc Cert.PartsIdeal.main_v2)),
      θ_run (Cert.PartsIdeal.defs (F := Ideal)) (onTc (τ := Cert.PartsIdeal.τ) (Cert.PartsIdeal.main (F := Ideal))) ⟨m, fun _ => 0, g⟩ (fun r => ∀ c : Dev Cert.PartsIdeal.nD,
          r.2.mem ((c.tc : Thread Cert.PartsIdeal.nD Cert.PartsIdeal.τ).loc Cert.PartsIdeal.main_v2) = v0 c
          ∧ r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
          ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1))
      ∧ θ_run (Cert.PartsRefIdeal.defs (F := Ideal)) (onTc (τ := Cert.PartsRefIdeal.τ) (Cert.PartsRefIdeal.main (F := Ideal))) ⟨m', fun _ => 0, g'⟩ (fun r => ∀ c : Dev Cert.PartsRefIdeal.nD,
          r.2.mem ((c.tc : Thread Cert.PartsRefIdeal.nD Cert.PartsRefIdeal.τ).loc Cert.PartsRefIdeal.main_v1) = v0 c
          ∧ r.2.mem ((c.tc : Thread Cert.PartsRefIdeal.nD Cert.PartsRefIdeal.τ).loc Cert.PartsRefIdeal.main_arg0) = m' ((c.tc : Thread Cert.PartsRefIdeal.nD Cert.PartsRefIdeal.τ).loc Cert.PartsRefIdeal.main_arg0)
          ∧ r.2.mem ((c.tc : Thread Cert.PartsRefIdeal.nD Cert.PartsRefIdeal.τ).loc Cert.PartsRefIdeal.main_arg1) = m' ((c.tc : Thread Cert.PartsRefIdeal.nD Cert.PartsRefIdeal.τ).loc Cert.PartsRefIdeal.main_arg1))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hGlu : Cert.Glu.Facts) (hGluIdeal : Cert.GluIdeal.Facts) (hGluRefIdeal : Cert.GluRefIdeal.Facts) (hGluRef : Cert.GluRef.Facts) (hFin : Cert.Fin.Facts) (hFinIdeal : Cert.FinIdeal.Facts) (hFinRefIdeal : Cert.FinRefIdeal.Facts) (hIn : Cert.In.Facts) (hInIdeal : Cert.InIdeal.Facts) (hInRefIdeal : Cert.InRefIdeal.Facts) (hSsdFwd : Cert.SsdFwd.Facts) (hSsdFwdIdeal : Cert.SsdFwdIdeal.Facts) (hSsdFwdRefIdeal : Cert.SsdFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hGluFwd : Cert.GluFwd.Facts) (hGluFwdIdeal : Cert.GluFwdIdeal.Facts) (hGluFwdRefIdeal : Cert.GluFwdRefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hSsdBwd : Cert.SsdBwd.Facts) (hSsdBwdIdeal : Cert.SsdBwdIdeal.Facts) (hSFiveFwd : Cert.SFiveFwd.Facts) (hSFiveFwdIdeal : Cert.SFiveFwdIdeal.Facts) (hSFiveBwd : Cert.SFiveBwd.Facts) (hSFiveBwdIdeal : Cert.SFiveBwdIdeal.Facts) (hDwIn : Cert.DwIn.Facts) (hDwInIdeal : Cert.DwInIdeal.Facts) (hDwInRefIdeal : Cert.DwInRefIdeal.Facts) (hDwDown : Cert.DwDown.Facts) (hDwDownIdeal : Cert.DwDownIdeal.Facts) (hDwDownRefIdeal : Cert.DwDownRefIdeal.Facts) (hAdam : Cert.Adam.Facts) (hAdamIdeal : Cert.AdamIdeal.Facts) (hAdamRefIdeal : Cert.AdamRefIdeal.Facts) (hSumEight : Cert.SumEight.Facts) (hSumEightIdeal : Cert.SumEightIdeal.Facts) (hSumEightRefIdeal : Cert.SumEightRefIdeal.Facts) (hParts : Cert.Parts.Facts) (hPartsIdeal : Cert.PartsIdeal.Facts) (hPartsRefIdeal : Cert.PartsRefIdeal.Facts) (hPre_up_finite : Cert.Pre_up_finite.Facts) (hPre_out_finite : Cert.Pre_out_finite.Facts) (hPre_glu_finite : Cert.Pre_glu_finite.Facts) (hPre_fin_finite : Cert.Pre_fin_finite.Facts) (hPre_in_finite : Cert.Pre_in_finite.Facts) (hPre_ssdf_real : Cert.Pre_ssdf_real.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Out (hOut := hOut)
    ∧ quiescent_OutIdeal (hOutIdeal := hOutIdeal)
    ∧ quiescent_OutIdeal_pre_out_finite (hOutIdeal := hOutIdeal) (hPre_out_finite := hPre_out_finite)
    ∧ quiescent_OutRefIdeal (hOutRefIdeal := hOutRefIdeal)
    ∧ quiescent_OutRefIdeal_pre_out_finite (hOutRefIdeal := hOutRefIdeal) (hPre_out_finite := hPre_out_finite)
    ∧ quiescent_Glu (hGlu := hGlu)
    ∧ quiescent_GluIdeal (hGluIdeal := hGluIdeal)
    ∧ quiescent_GluIdeal_pre_glu_finite (hGluIdeal := hGluIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_GluRef (hGluRef := hGluRef)
    ∧ quiescent_Fin (hFin := hFin)
    ∧ quiescent_FinIdeal (hFinIdeal := hFinIdeal)
    ∧ quiescent_FinIdeal_pre_fin_finite (hFinIdeal := hFinIdeal) (hPre_fin_finite := hPre_fin_finite)
    ∧ quiescent_FinRefIdeal (hFinRefIdeal := hFinRefIdeal)
    ∧ quiescent_FinRefIdeal_pre_fin_finite (hFinRefIdeal := hFinRefIdeal) (hPre_fin_finite := hPre_fin_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_SsdFwd (hSsdFwd := hSsdFwd)
    ∧ quiescent_SsdFwdIdeal (hSsdFwdIdeal := hSsdFwdIdeal)
    ∧ quiescent_SsdFwdIdeal_pre_ssdf_real (hSsdFwdIdeal := hSsdFwdIdeal) (hPre_ssdf_real := hPre_ssdf_real)
    ∧ quiescent_SsdFwdRefIdeal (hSsdFwdRefIdeal := hSsdFwdRefIdeal)
    ∧ quiescent_SsdFwdRefIdeal_pre_ssdf_real (hSsdFwdRefIdeal := hSsdFwdRefIdeal) (hPre_ssdf_real := hPre_ssdf_real)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_SsdBwd (hSsdBwd := hSsdBwd)
    ∧ quiescent_SsdBwdIdeal (hSsdBwdIdeal := hSsdBwdIdeal)
    ∧ quiescent_SFiveFwd (hSFiveFwd := hSFiveFwd)
    ∧ quiescent_SFiveFwdIdeal (hSFiveFwdIdeal := hSFiveFwdIdeal)
    ∧ quiescent_SFiveBwd (hSFiveBwd := hSFiveBwd)
    ∧ quiescent_SFiveBwdIdeal (hSFiveBwdIdeal := hSFiveBwdIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_SumEight (hSumEight := hSumEight)
    ∧ quiescent_SumEightIdeal (hSumEightIdeal := hSumEightIdeal)
    ∧ quiescent_SumEightRefIdeal (hSumEightRefIdeal := hSumEightRefIdeal)
    ∧ quiescent_Parts (hParts := hParts)
    ∧ quiescent_PartsIdeal (hPartsIdeal := hPartsIdeal)
    ∧ quiescent_PartsRefIdeal (hPartsRefIdeal := hPartsRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_Out_OutIdeal
    ∧ algebraic_OutIdeal_OutRefIdeal_pre_out_finite (hOutIdeal := hOutIdeal) (hOutRefIdeal := hOutRefIdeal) (hPre_out_finite := hPre_out_finite)
    ∧ preserves_Glu_GluIdeal
    ∧ preserves_GluRef_GluRefIdeal
    ∧ algebraic_GluIdeal_GluRefIdeal_pre_glu_finite (hGluIdeal := hGluIdeal) (hGluRefIdeal := hGluRefIdeal) (hPre_glu_finite := hPre_glu_finite)
    ∧ preserves_Fin_FinIdeal
    ∧ algebraic_FinIdeal_FinRefIdeal_pre_fin_finite (hFinIdeal := hFinIdeal) (hFinRefIdeal := hFinRefIdeal) (hPre_fin_finite := hPre_fin_finite)
    ∧ preserves_In_InIdeal
    ∧ algebraic_InIdeal_InRefIdeal_pre_in_finite (hInIdeal := hInIdeal) (hInRefIdeal := hInRefIdeal) (hPre_in_finite := hPre_in_finite)
    ∧ preserves_SsdFwd_SsdFwdIdeal
    ∧ algebraic_SsdFwdIdeal_SsdFwdRefIdeal_pre_ssdf_real (hSsdFwdIdeal := hSsdFwdIdeal) (hSsdFwdRefIdeal := hSsdFwdRefIdeal) (hPre_ssdf_real := hPre_ssdf_real)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_SsdBwd_SsdBwdIdeal
    ∧ preserves_SFiveFwd_SFiveFwdIdeal
    ∧ preserves_SFiveBwd_SFiveBwdIdeal
    ∧ preserves_DwIn_DwInIdeal
    ∧ algebraic_DwInIdeal_DwInRefIdeal (hDwInIdeal := hDwInIdeal) (hDwInRefIdeal := hDwInRefIdeal)
    ∧ preserves_DwDown_DwDownIdeal
    ∧ algebraic_DwDownIdeal_DwDownRefIdeal (hDwDownIdeal := hDwDownIdeal) (hDwDownRefIdeal := hDwDownRefIdeal)
    ∧ preserves_Adam_AdamIdeal
    ∧ algebraic_AdamIdeal_AdamRefIdeal (hAdamIdeal := hAdamIdeal) (hAdamRefIdeal := hAdamRefIdeal)
    ∧ preserves_SumEight_SumEightIdeal
    ∧ algebraic_SumEightIdeal_SumEightRefIdeal (hSumEightIdeal := hSumEightIdeal) (hSumEightRefIdeal := hSumEightRefIdeal)
    ∧ preserves_Parts_PartsIdeal
    ∧ algebraic_PartsIdeal_PartsRefIdeal (hPartsIdeal := hPartsIdeal) (hPartsRefIdeal := hPartsRefIdeal)
-- ==== Pre_fin_finite.lean ====
abbrev S8208x1024 : Shape := ⟨2, ![8208, 1024]⟩
abbrev S1x1024 : Shape := ⟨2, ![1, 1024]⟩
abbrev S8192x1024 : Shape := ⟨2, ![8192, 1024]⟩
abbrev S_ : Shape := ⟨0, ![]⟩

class Facts : Prop where
  bcast_S_S8208x1024 : S_.BroadcastsInDim S8208x1024 (![] : Fin 0 → Fin S8208x1024.rank)
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8208x1024 .f32) (main_arg1 : FVec F S1x1024 .f32) (main_arg2 : FVec F S8192x1024 .f32) : IVec S8208x1024 1 × IVec S1x1024 1 × IVec S8192x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_glu_finite.lean ====
abbrev S8448x1024 : Shape := ⟨2, ![8448, 1024]⟩
abbrev S1024x2048 : Shape := ⟨2, ![1024, 2048]⟩
abbrev S8448x2048 : Shape := ⟨2, ![8448, 2048]⟩
abbrev S_ : Shape := ⟨0, ![]⟩

class Facts : Prop where
  bcast_S_S8448x1024 : S_.BroadcastsInDim S8448x1024 (![] : Fin 0 → Fin S8448x1024.rank)
  bcast_S_S1024x2048 : S_.BroadcastsInDim S1024x2048 (![] : Fin 0 → Fin S1024x2048.rank)
  bcast_S_S8448x2048 : S_.BroadcastsInDim S8448x2048 (![] : Fin 0 → Fin S8448x2048.rank)

variable [Facts]

def fn {F : FTy → Type} [FloatOps F] (main_arg0 : FVec F S8448x1024 .f32) (main_arg1 : FVec F S1024x2048 .f32) (main_arg2 : FVec F S8448x2048 .f32) : IVec S8448x1024 1 × IVec S1024x2048 1 × IVec S8448x2048 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1024x2048 .f32 := Host.absf main_arg1
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S8448x2048 .f32 := Host.absf main_arg2
  let main_cst_1 : FVec F S_ .f32 := constant S_ .f32 0x7F800000#32
  let main_v7 : FVec F S8448x2048 .f32 := broadcastInDim S8448x2048 ![] bcast_S_S8448x2048 main_cst_1
  let main_v8 : IVec S8448x2048 1 := cmpf .olt main_v6 main_v7
  (main_v2, main_v5, main_v8)
-- ==== Pre_in_finite.lean ====
abbrev S8192x1024 : Shape := ⟨2, ![8192, 1024]⟩
abbrev S16x1024 : Shape := ⟨2, ![16, 1024]⟩
abbrev S1x1024 : Shape := ⟨2, ![1, 1024]⟩
abbrev S1024x3600 : Shape := ⟨2, ![1024, 3600]⟩
abbrev S8208x3600 : Shape := ⟨2, ![8208, 3600]⟩
abbrev S8208x1024 : Shape := ⟨2, ![8208, 1024]⟩
abbrev S_ : Shape := ⟨0, ![]⟩

class Facts : Prop where
  bcast_S_S8192x1024 : S_.BroadcastsInDim S8192x1024 (![] : Fin 0 → Fin S8192x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S1024x3600 : S_.BroadcastsInDim S1024x3600 (![] : Fin 0 → Fin S1024x3600.rank)
  bcast_S_S8208x3600 : S_.BroadcastsInDim S8208x3600 (![] : Fin 0 → Fin S8208x3600.rank)

variable [Facts]

def fn {F : FTy → Type} [FloatOps F] (main_arg0 : FVec F S8192x1024 .f32) (main_arg1 : FVec F S16x1024 .f32) (main_arg2 : FVec F S1x1024 .f32) (main_arg3 : FVec F S1024x3600 .f32) (main_arg4 : FVec F S8208x3600 .f32) (main_arg5 : FVec F S8208x1024 .f32) : IVec S8192x1024 1 × IVec S16x1024 1 × IVec S1x1024 1 × IVec S1024x3600 1 × IVec S8208x3600 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x3600 .f32 := Host.absf main_arg3
  let main_cst_2 : FVec F S_ .f32 := constant S_ .f32 0x7F800000#32
  let main_v10 : FVec F S1024x3600 .f32 := broadcastInDim S1024x3600 ![] bcast_S_S1024x3600 main_cst_2
  let main_v11 : IVec S1024x3600 1 := cmpf .olt main_v9 main_v10
  let main_v12 : FVec F S8208x3600 .f32 := Host.absf main_arg4
  let main_cst_3 : FVec F S_ .f32 := constant S_ .f32 0x7F800000#32
  let main_v13 : FVec F S8208x3600 .f32 := broadcastInDim S8208x3600 ![] bcast_S_S8208x3600 main_cst_3
  let main_v14 : IVec S8208x3600 1 := cmpf .olt main_v12 main_v13
  (main_v2, main_v5, main_v8, main_v11, main_v14)
-- ==== Pre_out_finite.lean ====
abbrev S8448x2048 : Shape := ⟨2, ![8448, 2048]⟩
abbrev S1x2048 : Shape := ⟨2, ![1, 2048]⟩
abbrev S1x1024 : Shape := ⟨2, ![1, 1024]⟩
abbrev S2048x1024 : Shape := ⟨2, ![2048, 1024]⟩
abbrev S8448x1024 : Shape := ⟨2, ![8448, 1024]⟩
abbrev S_ : Shape := ⟨0, ![]⟩

class Facts : Prop where
  bcast_S_S8448x2048 : S_.BroadcastsInDim S8448x2048 (![] : Fin 0 → Fin S8448x2048.rank)
  bcast_S_S1x2048 : S_.BroadcastsInDim S1x2048 (![] : Fin 0 → Fin S1x2048.rank)
  bcast_S_S1x1024 : S_.BroadcastsInDim S1x1024 (![] : Fin 0 → Fin S1x1024.rank)
  bcast_S_S2048x1024 : S_.BroadcastsInDim S2048x1024 (![] : Fin 0 → Fin S2048x1024.rank)
  bcast_S_S8448x1024 : S_.BroadcastsInDim S8448x1024 (![] : Fin 0 → Fin S8448x1024.rank)

variable [Facts]

def fn {F : FTy → Type} [FloatOps F] (main_arg0 : FVec F S8448x2048 .f32) (main_arg1 : FVec F S1x2048 .f32) (main_arg2 : FVec F S1x1024 .f32) (main_arg3 : FVec F S2048x1024 .f32) (main_arg4 : FVec F S8448x1024 .f32) : IVec S8448x2048 1 × IVec S1x2048 1 × IVec S1x1024 1 × IVec S2048x1024 1 × IVec S8448x1024 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S8448x1024 .f32 := Host.absf main_arg4
  let main_cst_3 : FVec F S_ .f32 := constant S_ .f32 0x7F800000#32
  let main_v13 : FVec F S8448x1024 .f32 := broadcastInDim S8448x1024 ![] bcast_S_S8448x1024 main_cst_3
  let main_v14 : IVec S8448x1024 1 := cmpf .olt main_v12 main_v13
  (main_v2, main_v5, main_v8, main_v11, main_v14)
-- ==== Pre_ssdf_real.lean ====
abbrev S8208x1024 : Shape := ⟨2, ![8208, 1024]⟩
abbrev S8208x1536 : Shape := ⟨2, ![8208, 1536]⟩
abbrev S8208x16 : Shape := ⟨2, ![8208, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩

class Facts : Prop where
  bcast_S_S8208x16 : S_.BroadcastsInDim S8208x16 (![] : Fin 0 → Fin S8208x16.rank)
  bcast_S_S1x16 : S_.BroadcastsInDim S1x16 (![] : Fin 0 → Fin S1x16.rank)
  bcast_S1x16_S8208x16_0_1 : S1x16.BroadcastsInDim S8208x16 (![0, 1] : Fin 2 → Fin S8208x16.rank)

variable [Facts]

def fn {F : FTy → Type} [FloatOps F] (main_arg0 : FVec F S8208x1024 .f32) (main_arg1 : FVec F S8208x1536 .f32) (main_arg2 : FVec F S8208x16 .f32) (main_arg3 : FVec F S4x1536 .f32) (main_arg4 : FVec F S1x1536 .f32) (main_arg5 : FVec F S1x16 .f32) (main_arg6 : FVec F S1x16 .f32) (main_arg7 : FVec F S1x16 .f32) (main_arg8 : FVec F S1x1024 .f32) : IVec S8208x16 1 × IVec S1x16 1 × IVec S1x16 1 × IVec S1x16 1 × IVec S8208x16 1 :=
  let main_v0 : FVec F S8208x16 .f32 := Host.absf main_arg2
  let main_cst : FVec F S_ .f32 := constant S_ .f32 0x7F800000#32
  let main_v1 : FVec F S8208x16 .f32 := broadcastInDim S8208x16 ![] bcast_S_S8208x16 main_cst
  let main_v2 : IVec S8208x16 1 := cmpf .olt main_v0 main_v1
  let main_v3 : FVec F S1x16 .f32 := Host.absf main_arg5
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1x16 .f32 := Host.absf main_arg6
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  let main_v9 : FVec F S1x16 .f32 := Host.absf main_arg7
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_v12 : FVec F S8208x16 .f32 := broadcastInDim S8208x16 ![0, 1] bcast_S1x16_S8208x16_0_1 main_arg5
  let main_v13 : FVec F S8208x16 .f32 := addf main_arg2 main_v12
  let main_cst_3 : FVec F S_ .f32 := constant S_ .f32 0x41A00000#32
  let main_v14 : FVec F S8208x16 .f32 := broadcastInDim S8208x16 ![] bcast_S_S8208x16 main_cst_3
  let main_v15 : IVec S8208x16 1 := cmpf .ole main_v13 main_v14
  (main_v2, main_v5, main_v8, main_v11, main_v15)
-- ==== Pre_up_finite.lean ====
abbrev S8448x1024 : Shape := ⟨2, ![8448, 1024]⟩
abbrev S1x1024 : Shape := ⟨2, ![1, 1024]⟩
abbrev S1024x4096 : Shape := ⟨2, ![1024, 4096]⟩
abbrev S8448x4096 : Shape := ⟨2, ![8448, 4096]⟩
abbrev S_ : Shape := ⟨0, ![]⟩

class Facts : Prop where
  bcast_S_S8448x1024 : S_.BroadcastsInDim S8448x1024 (![] : Fin 0 → Fin S8448x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S8448x4096 : S_.BroadcastsInDim S8448x4096 (![] : Fin 0 → Fin S8448x4096.rank)

variable [Facts]

def fn {F : FTy → Type} [FloatOps F] (main_arg0 : FVec F S8448x1024 .f32) (main_arg1 : FVec F S1x1024 .f32) (main_arg2 : FVec F S1024x4096 .f32) (main_arg3 : FVec F S8448x1024 .f32) (main_arg4 : FVec F S8448x4096 .f32) : IVec S8448x1024 1 × IVec S1x1024 1 × IVec S1024x4096 1 × IVec S8448x4096 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8448x4096 .f32 := Host.absf main_arg4
  let main_cst_2 : FVec F S_ .f32 := constant S_ .f32 0x7F800000#32
  let main_v10 : FVec F S8448x4096 .f32 := broadcastInDim S8448x4096 ![] bcast_S_S8448x4096 main_cst_2
  let main_v11 : IVec S8448x4096 1 := cmpf .olt main_v9 main_v10
  (main_v2, main_v5, main_v8, main_v11)
-- ==== Down.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S4x1024x1024 : Shape := ⟨3, ![4, 1024, 1024]⟩
abbrev S768x1024 : Shape := ⟨2, ![768, 1024]⟩
abbrev S768x4096 : Shape := ⟨2, ![768, 4096]⟩
abbrev S1x1024x1024 : Shape := ⟨3, ![1, 1024, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096x1024, .f32⟩
  | .hbm, ⟨2, _⟩ => ⟨S8448x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S4096x1024, .bf16⟩
  | .hbm, ⟨8, _⟩ => ⟨S4x1024x1024, .bf16⟩
  | .hbm, ⟨9, _⟩ => ⟨S8448x1024, .bf16⟩
  | .hbm, ⟨10, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S768x4096, .bf16⟩
  | .local _ .vmem, ⟨3, _⟩ => ⟨S768x4096, .bf16⟩
  | .local _ .vmem, ⟨4, _⟩ => ⟨S4x1024x1024, .bf16⟩
  | .local _ .vmem, ⟨5, _⟩ => ⟨S768x4096, .bf16⟩
  | .local _ .vmem, ⟨6, _⟩ => ⟨S768x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x1024, .f32⟩
  | .hbm, ⟨2, _⟩ => ⟨S8448x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S_, .f32⟩
  | .hbm, ⟨7, _⟩ => ⟨S8448x4096, .f32⟩
  | .hbm, ⟨8, _⟩ => ⟨S8448x4096, .i1⟩
  | .hbm, ⟨9, _⟩ => ⟨S_, .f32⟩
  | .hbm, ⟨10, _⟩ => ⟨S8448x4096, .f32⟩
  | .hbm, ⟨11, _⟩ => ⟨S8448x4096, .f32⟩
  | .hbm, ⟨12, _⟩ => ⟨S_, .f32⟩
  | .hbm, ⟨13, _⟩ => ⟨S8448x4096, .f32⟩
  | .hbm, ⟨14, _⟩ => ⟨S8448x4096, .f32⟩
  | .hbm, ⟨15, _⟩ => ⟨S8448x1024, .f32⟩
  | .hbm, ⟨16, _⟩ => ⟨S1024x4096, .f32⟩
  | .hbm, ⟨17, _⟩ => ⟨S4096x1024, .f32⟩
  | .hbm, ⟨18, _⟩ => ⟨S8448x4096, .f32⟩
  | .hbm, ⟨19, _⟩ => ⟨S8448x4096, .f32⟩
  | .hbm, ⟨20, _⟩ => ⟨S_, .f32⟩
  | .hbm, ⟨21, _⟩ => ⟨S8448x4096, .f32⟩
  | .hbm, ⟨22, _⟩ => ⟨S8448x4096, .f32⟩
  | .hbm, ⟨23, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Up.lean ====
abbrev S8448x1024 : Shape := ⟨2, ![8448, 1024]⟩
abbrev S1x1024 : Shape := ⟨2, ![1, 1024]⟩
abbrev S1024x4096 : Shape := ⟨2, ![1024, 4096]⟩
abbrev S8448x4096 : Shape := ⟨2, ![8448, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S768x4096 : Shape := ⟨2, ![768, 4096]⟩
abbrev S768x1024 : Shape := ⟨2, ![768, 1024]⟩
abbrev S1x1024x1024 : Shape := ⟨3, ![1, 1024, 1024]⟩
abbrev S1024x1024 : Shape := ⟨2, ![1024, 1024]⟩
abbrev S768 : Shape := ⟨1, ![768]⟩
abbrev S768x1 : Shape := ⟨2, ![768, 1]⟩
abbrev S96x8x1024 : Shape := ⟨3, ![96, 8, 1024]⟩
abbrev S_ : Shape := ⟨0, ![]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S8448x1024, .f32⟩
  | .hbm, ⟨4, _⟩ => ⟨S8448x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S8448x4096, .bf16⟩
  | .hbm, ⟨9, _⟩ => ⟨S8448x1024, .f32⟩
  | .hbm, ⟨10, _⟩ => ⟨S8448x1024, .bf16⟩
  | .hbm, ⟨11, _⟩ => ⟨S8x1024, .f32⟩
  | .hbm, ⟨12, _⟩ => ⟨S_, .f32⟩
  | .hbm, ⟨13, _⟩ => ⟨S1024, .f32⟩
  | .hbm, ⟨14, _⟩ => ⟨S1x1024, .f32⟩
  | .local _ .vmem, ⟨0, _⟩ => ⟨S768x4096, .bf16⟩
  | .local _ .vmem, ⟨1, _⟩ => ⟨S768x4096, .bf16⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S4x1024x1024, .bf16⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpRefIdeal.lean ====
abbrev S8448x1024 : Shape := ⟨2, ![8448, 1024]⟩
abbrev S1x1024 : Shape := ⟨2, ![1, 1024]⟩
abbrev S1024x4096 : Shape := ⟨2, ![1024, 4096]⟩
abbrev S8448x4096 : Shape := ⟨2, ![8448, 4096]⟩
abbrev S_ : Shape := ⟨0, ![]⟩
abbrev S8448 : Shape := ⟨1, ![8448]⟩
abbrev S8448x1 : Shape := ⟨2, ![8448, 1]⟩
abbrev S4096x1024 : Shape := ⟨2, ![4096, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S8448x1024, .f32⟩
  | .hbm, ⟨4, _⟩ => ⟨S8448x4096, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x4096, .f32⟩
  | .hbm, ⟨25, _⟩ => ⟨S4096x1024, .f32⟩
  | .hbm, ⟨26, _⟩ => ⟨S1024x4096, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S8448, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1, .f32⟩
  | .hbm, ⟨42, _⟩ => ⟨S_, .f32⟩
  | .hbm, ⟨43, _⟩ => ⟨S8448x1, .f32⟩
  | .hbm, ⟨44, _⟩ => ⟨S8448x1, .f32⟩
  | .hbm, ⟨45, _⟩ => ⟨S_, .f32⟩
  | .hbm, ⟨46, _⟩ => ⟨S8448, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Out.lean ====
abbrev S8448x2048 : Shape := ⟨2, ![8448, 2048]⟩
abbrev S1x2048 : Shape := ⟨2, ![1, 2048]⟩
abbrev S1x1024 : Shape := ⟨2, ![1, 1024]⟩
abbrev S2048x1024 : Shape := ⟨2, ![2048, 1024]⟩
abbrev S8448x1024 : Shape := ⟨2, ![8448, 1024]⟩
abbrev S4x512x1024 : Shape := ⟨3, ![4, 512, 1024]⟩
abbrev S_ : Shape := ⟨0, ![]⟩
abbrev S4x1024x1024 : Shape := ⟨3, ![4, 1024, 1024]⟩
abbrev S8x1024 : Shape := ⟨2, ![8, 1024]⟩
abbrev S8x2048 : Shape := ⟨2, ![8, 2048]⟩
abbrev S768x1024 : Shape := ⟨2, ![768, 1024]⟩
abbrev S768x2048 : Shape := ⟨2, ![768, 2048]⟩
abbrev S1x512x1024 : Shape := ⟨3, ![1, 512, 1024]⟩
abbrev S512x1024 : Shape := ⟨2, ![512, 1024]⟩
abbrev S768x512 : Shape := ⟨2, ![768, 512]⟩
abbrev S768 : Shape := ⟨1, ![768]⟩
abbrev S768x1 : Shape := ⟨2, ![768, 1]⟩
abbrev S96x8x1024 : Shape := ⟨3, ![96, 8, 1024]⟩
abbrev S96x8x2048 : Shape := ⟨3, ![96, 8, 2048]⟩
abbrev S1024 : Shape := ⟨1, ![1024]⟩
abbrev S2048 : Shape := ⟨1, ![2048]⟩

abbrev nBuf : Space → Nat
  | .hbm => 24
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x1024, .f32⟩
  | .hbm, ⟨3, _⟩ => ⟨S2048x1024, .f32⟩
  | .hbm, ⟨4, _⟩ => ⟨S8448x1024, .f32⟩
  | .hbm, ⟨5, _⟩ => ⟨S4x512x1024, .f32⟩
  | .hbm, ⟨6, _⟩ => ⟨S4x512x1024, .bf16⟩
  | .hbm, ⟨7, _⟩ => ⟨S_, .bf16⟩
  | .hbm, ⟨8, _⟩ => ⟨S4x512x1024, .bf16⟩
  | .hbm, ⟨9, _⟩ => ⟨S4x1024x1024, .bf16⟩
  | .hbm, ⟨10, _⟩ => ⟨S8448x2048, .f32⟩
  | .hbm, ⟨11, _⟩ => ⟨S8448x2048, .f32⟩
  | .hbm, ⟨12, _⟩ => ⟨S8448x2048, .bf16⟩
  | .hbm, ⟨13, _⟩ => ⟨S8448x1024, .bf16⟩
  | .hbm, ⟨14, _⟩ => ⟨S8448x1024, .f32⟩
  | .hbm, ⟨15, _⟩ => ⟨S8448x2048, .bf16⟩
  | .hbm, ⟨16, _⟩ => ⟨S8x1024, .f32⟩
  | .hbm, ⟨17, _⟩ => ⟨S8x2048, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S2048, .f32⟩
  | .hbm, ⟨23, _⟩ => ⟨S1x2048, .f32⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1x1024, .f32⟩
  | .local _ .vmem, ⟨5, _⟩ => ⟨S4x512x1024, .bf16⟩
  | .local _ .vmem, ⟨6, _⟩ => ⟨S768x1024, .f32⟩
  | .local _ .vmem, ⟨7, _⟩ => ⟨S768x1024, .f32⟩
  | .local _ .vmem, ⟨8, _⟩ => ⟨S768x2048, .bf16⟩
  | .local _ .vmem, ⟨9, _⟩ => ⟨S768x2048, .bf16⟩
  | .local _ .vmem, ⟨10, _⟩ => ⟨S8x1024, .f32⟩
  | .local _ .vmem, ⟨11, _⟩ => ⟨S8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutRefIdeal.lean ====
abbrev S8448x2048 : Shape := ⟨2, ![8448, 2048]⟩
abbrev S1x2048 : Shape := ⟨2, ![1, 2048]⟩
abbrev S1x1024 : Shape := ⟨2, ![1, 1024]⟩
abbrev S2048x1024 : Shape := ⟨2, ![2048, 1024]⟩
abbrev S8448x1024 : Shape := ⟨2, ![8448, 1024]⟩
abbrev S_ : Shape := ⟨0, ![]⟩
abbrev S8448 : Shape := ⟨1, ![8448]⟩
abbrev S8448x1 : Shape := ⟨2, ![8448, 1]⟩
abbrev S1024x2048 : Shape := ⟨2, ![1024, 2048]⟩
abbrev S1024 : Shape := ⟨1, ![1024]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x1024, .f32⟩
  | .hbm, ⟨3, _⟩ => ⟨S2048x1024, .f32⟩
  | .hbm, ⟨4, _⟩ => ⟨S8448x1024, .f32⟩
  | .hbm, ⟨5, _⟩ => ⟨S_, .f32⟩
  | .hbm, ⟨6, _⟩ => ⟨S8448x1024, .f32⟩
  | .hbm, ⟨7, _⟩ => ⟨S8448x2048, .f32⟩
  | .hbm, ⟨8, _⟩ => ⟨S8448x2048, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x2048, .f32⟩
  | .hbm, ⟨44, _⟩ => ⟨S8448x1024, .f32⟩
  | .hbm, ⟨45, _⟩ => ⟨S1024x2048, .f32⟩
  | .hbm, ⟨46, _⟩ => ⟨S2048x1024, .f32⟩
  | .hbm, ⟨47, _⟩ => ⟨S8448x2048, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S_, .f32⟩
  | .hbm, ⟨58, _⟩ => ⟨S8448, .f32⟩
  | .hbm, ⟨59, _⟩ => ⟨S8448x1, .f32⟩
  | .hbm, ⟨60, _⟩ => ⟨S8448x1024, .f32⟩
  | .hbm, ⟨61, _⟩ => ⟨S8448x1024, .f32⟩
  | .hbm, ⟨62, _⟩ => ⟨S8448x1, .f32⟩
  | .hbm, ⟨63, _⟩ => ⟨S_, .f32⟩
  | .hbm, ⟨64, _⟩ => ⟨S8448x1, .f32⟩
  | .hbm, ⟨65, _⟩ => ⟨S8448x1, .f32⟩
  | .hbm, ⟨66, _⟩ => ⟨S_, .f32⟩
  | .hbm, ⟨67, _⟩ => ⟨S8448, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S_, .f32⟩
  | .hbm, ⟨77, _⟩ => ⟨S8448x2048, .f32⟩
  | .hbm, ⟨78, _⟩ => ⟨S_, .f32⟩
  | .hbm, ⟨79, _⟩ => ⟨S8448x2048, .f32⟩
  | .hbm, ⟨80, _⟩ => ⟨S8448x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Glu.lean ====
abbrev S8448x1024 : Shape := ⟨2, ![8448, 1024]⟩
abbrev S1024x2048 : Shape := ⟨2, ![1024, 2048]⟩
abbrev S8448x2048 : Shape := ⟨2, ![8448, 2048]⟩
abbrev S2048x1024 : Shape := ⟨2, ![2048, 1024]⟩
abbrev S4x512x1024 : Shape := ⟨3, ![4, 512, 1024]⟩
abbrev S_ : Shape := ⟨0, ![]⟩
abbrev S4x1024x1024 : Shape := ⟨3, ![4, 1024, 1024]⟩
abbrev S768x2048 : Shape := ⟨2, ![768, 2048]⟩
abbrev S768x1024 : Shape := ⟨2, ![768, 1024]⟩
abbrev S768x512 : Shape := ⟨2, ![768, 512]⟩
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x2048, .f32⟩
  | .hbm, ⟨2, _⟩ => ⟨S8448x2048, .f32⟩
  | .hbm, ⟨3, _⟩ => ⟨S2048x1024, .f32⟩
  | .hbm, ⟨4, _⟩ => ⟨S4x512x1024, .f32⟩
  | .hbm, ⟨5, _⟩ => ⟨S4x512x1024, .bf16⟩
  | .hbm, ⟨6, _⟩ => ⟨S_, .bf16⟩
  | .hbm, ⟨7, _⟩ => ⟨S4x512x1024, .bf16⟩
  | .hbm, ⟨8, _⟩ => ⟨S4x1024x1024, .bf16⟩
  | .hbm, ⟨9, _⟩ => ⟨S8448x2048, .bf16⟩
  | .hbm, ⟨10, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S768x1024, .f32⟩
  | .local _ .vmem, ⟨3, _⟩ => ⟨S768x1024, .f32⟩
  | .local _ .vmem, ⟨4, _⟩ => ⟨S4x512x1024, .bf16⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluIdeal.lean ====
variable {F : FTy → Type} [FloatOps F] [Named F]
def κ : String → Option EReal := fun
  | "r2" => some (((Real.sqrt 2)⁻¹ : ℝ) : EReal)
  | "r2pi" => some (((Real.sqrt (2 * Real.pi))⁻¹ : ℝ) : EReal)
  | _ => none
-- ==== GluRefIdeal.lean ====
variable {F : FTy → Type} [FloatOps F] [Named F]
def κ : String → Option EReal := fun
  | "c2rpi" => some ((2 * (Real.sqrt Real.pi)⁻¹ : ℝ) : EReal)
  | "r2" => some (((Real.sqrt 2)⁻¹ : ℝ) : EReal)
  | _ => none
-- ==== GluRef.lean ====
abbrev S8448x1024 : Shape := ⟨2, ![8448, 1024]⟩
abbrev S1024x2048 : Shape := ⟨2, ![1024, 2048]⟩
abbrev S8448x2048 : Shape := ⟨2, ![8448, 2048]⟩

abbrev nBuf : Space → Nat
  | .hbm => 4
  | .vmem => 4
  | .smem => 0
  | _ => 0

abbrev bufTy : (tb : Table) → Fin (tcTables nBuf tb) → BufTy
  | .hbm, ⟨0, _⟩ => ⟨S8448x1024, .f32⟩
  | .hbm, ⟨1, _⟩ => ⟨S1024x2048, .f32⟩
  | .hbm, ⟨2, _⟩ => ⟨S8448x2048, .f32⟩
  | .hbm, ⟨3, _⟩ => ⟨S8448x1024, .f32⟩
  | .local _ .vmem, ⟨0, _⟩ => ⟨S8448x1024, .f32⟩
  | .local _ .vmem, ⟨1, _⟩ => ⟨S1024x2048, .f32⟩
  | .local _ .vmem, ⟨2, _⟩ => ⟨S8448x2048, .f32⟩
  | .local _ .vmem, ⟨3, _⟩ => ⟨S8448x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8448x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Fin.lean ====
abbrev S8208x1024 : Shape := ⟨2, ![8208, 1024]⟩
abbrev S1x1024 : Shape := ⟨2, ![1, 1024]⟩
abbrev S8192x1024 : Shape := ⟨2, ![8192, 1024]⟩
abbrev S_ : Shape := ⟨0, ![]⟩
abbrev S8448x1024 : Shape := ⟨2, ![8448, 1024]⟩
abbrev S8x1024 : Shape := ⟨2, ![8, 1024]⟩
abbrev S768x1024 : Shape := ⟨2, ![768, 1024]⟩
abbrev S256x1024 : Shape := ⟨2, ![256, 1024]⟩
abbrev S768x1 : Shape := ⟨2, ![768, 1]⟩
abbrev S768 : Shape := ⟨1, ![768]⟩
abbrev S96x8x1024 : Shape := ⟨3, ![96, 8, 1024]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S8192x1024, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S8448x1024, .bf16⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8208x1024, .f32⟩
  | .hbm, ⟨15, _⟩ => ⟨S8208x1024, .bf16⟩
  | .hbm, ⟨16, _⟩ => ⟨S_, .f32⟩
  | .hbm, ⟨17, _⟩ => ⟨S1024, .f32⟩
  | .hbm, ⟨18, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | .local _ .vmem, ⟨13, _⟩ => ⟨S8x1024, .f32⟩
  | .local _ .vmem, ⟨14, _⟩ => ⟨S8x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FinRefIdeal.lean ====
abbrev S8208x1024 : Shape := ⟨2, ![8208, 1024]⟩
abbrev S1x1024 : Shape := ⟨2, ![1, 1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S8192 : Shape := ⟨1, ![8192]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S8192x1024, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8208x1024, .f32⟩
  | .hbm, ⟨48, _⟩ => ⟨S8208x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S8208, .f32⟩
  | .hbm, ⟨57, _⟩ => ⟨S8208x1, .f32⟩
  | .hbm, ⟨58, _⟩ => ⟨S8208x1024, .f32⟩
  | .hbm, ⟨59, _⟩ => ⟨S8208x1024, .f32⟩
  | .hbm, ⟨60, _⟩ => ⟨S8208x1, .f32⟩
  | .hbm, ⟨61, _⟩ => ⟨S_, .f32⟩
  | .hbm, ⟨62, _⟩ => ⟨S8208x1, .f32⟩
  | .hbm, ⟨63, _⟩ => ⟨S8208x1, .f32⟩
  | .hbm, ⟨64, _⟩ => ⟨S_, .f32⟩
  | .hbm, ⟨65, _⟩ => ⟨S8208, .f32⟩
  | .hbm, ⟨66, _⟩ => ⟨S8208x1024, .f32⟩
  | .hbm, ⟨67, _⟩ => ⟨S8208x1024, .f32⟩
  | .hbm, ⟨68, _⟩ => ⟨S8208x1024, .f32⟩
  | .hbm, ⟨69, _⟩ => ⟨S8208x1024, .f32⟩
  | .hbm, ⟨70, _⟩ => ⟨S8208x1024, .f32⟩
  | .hbm, ⟨71, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== In.lean ====
abbrev S8192x1024 : Shape := ⟨2, ![8192, 1024]⟩
abbrev S16x1024 : Shape := ⟨2, ![16, 1024]⟩
abbrev S1x1024 : Shape := ⟨2, ![1, 1024]⟩
abbrev S1024x3600 : Shape := ⟨2, ![1024, 3600]⟩
abbrev S8208x3600 : Shape := ⟨2, ![8208, 3600]⟩
abbrev S8208x1024 : Shape := ⟨2, ![8208, 1024]⟩
abbrev S_ : Shape := ⟨0, ![]⟩
abbrev S240x1024 : Shape := ⟨2, ![240, 1024]⟩
abbrev S256x1024 : Shape := ⟨2, ![256, 1024]⟩
abbrev S3600x1024 : Shape := ⟨2, ![3600, 1024]⟩
abbrev S1024x1024 : Shape := ⟨2, ![1024, 1024]⟩
abbrev S1536x1024 : Shape := ⟨2, ![1536, 1024]⟩
abbrev S112x1024 : Shape := ⟨2, ![112, 1024]⟩
abbrev S3712x1024 : Shape := ⟨2, ![3712, 1024]⟩
abbrev S8208x1536 : Shape := ⟨2, ![8208, 1536]⟩
abbrev S8208x16 : Shape := ⟨2, ![8208, 16]⟩
abbrev S8208x112 : Shape := ⟨2, ![8208, 112]⟩
abbrev S8208x3712 : Shape := ⟨2, ![8208, 3712]⟩
abbrev S8448x3712 : Shape := ⟨2, ![8448, 3712]⟩
abbrev S8448x1024 : Shape := ⟨2, ![8448, 1024]⟩
abbrev S8x1024 : Shape := ⟨2, ![8, 1024]⟩
abbrev S256x3712 : Shape := ⟨2, ![256, 3712]⟩
abbrev S256x1 : Shape := ⟨2, ![256, 1]⟩
abbrev S256 : Shape := ⟨1, ![256]⟩
abbrev S32x8x1024 : Shape := ⟨3, ![32, 8, 1024]⟩
abbrev S1024 : Shape := ⟨1, ![1024]⟩

abbrev nBuf : Space → Nat
  | .hbm => 39
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x3600, .f32⟩
  | .hbm, ⟨4, _⟩ => ⟨S8208x3600, .f32⟩
  | .hbm, ⟨5, _⟩ => ⟨S8208x1024, .f32⟩
  | .hbm, ⟨6, _⟩ => ⟨S_, .f32⟩
  | .hbm, ⟨7, _⟩ => ⟨S240x1024, .f32⟩
  | .hbm, ⟨8, _⟩ => ⟨S256x1024, .f32⟩
  | .hbm, ⟨9, _⟩ => ⟨S3600x1024, .f32⟩
  | .hbm, ⟨10, _⟩ => ⟨S1024x1024, .f32⟩
  | .hbm, ⟨11, _⟩ => ⟨S1024x1024, .f32⟩
  | .hbm, ⟨12, _⟩ => ⟨S1536x1024, .f32⟩
  | .hbm, ⟨13, _⟩ => ⟨S16x1024, .f32⟩
  | .hbm, ⟨14, _⟩ => ⟨S_, .f32⟩
  | .hbm, ⟨15, _⟩ => ⟨S112x1024, .f32⟩
  | .hbm, ⟨16, _⟩ => ⟨S3712x1024, .f32⟩
  | .hbm, ⟨17, _⟩ => ⟨S3712x1024, .bf16⟩
  | .hbm, ⟨18, _⟩ => ⟨S8208x1024, .f32⟩
  | .hbm, ⟨19, _⟩ => ⟨S8208x1024, .f32⟩
  | .hbm, ⟨20, _⟩ => ⟨S8208x1536, .f32⟩
  | .hbm, ⟨21, _⟩ => ⟨S8208x16, .f32⟩
  | .hbm, ⟨22, _⟩ => ⟨S_, .f32⟩
  | .hbm, ⟨23, _⟩ => ⟨S8208x112, .f32⟩
  | .hbm, ⟨24, _⟩ => ⟨S8208x3712, .f32⟩
  | .hbm, ⟨25, _⟩ => ⟨S_, .i32⟩
  | .hbm, ⟨26, _⟩ => ⟨S_, .f32⟩
  | .hbm, ⟨27, _⟩ => ⟨S8448x3712, .f32⟩
  | .hbm, ⟨28, _⟩ => ⟨S8448x3712, .bf16⟩
  | .hbm, ⟨29, _⟩ => ⟨S_, .i32⟩
  | .hbm, ⟨30, _⟩ => ⟨S_, .f32⟩
  | .hbm, ⟨31, _⟩ => ⟨S8448x1024, .f32⟩
  | .hbm, ⟨32, _⟩ => ⟨S8192x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S1024, .f32⟩
  | .hbm, ⟨38, _⟩ => ⟨S1x1024, .f32⟩
  | .local _ .vmem, ⟨0, _⟩ => ⟨S256x3712, .bf16⟩
  | .local _ .vmem, ⟨1, _⟩ => ⟨S256x3712, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S3712x1024, .bf16⟩
  | .local _ .vmem, ⟨9, _⟩ => ⟨S256x1024, .f32⟩
  | .local _ .vmem, ⟨10, _⟩ => ⟨S256x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call1_v0 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.muli c1_i32 arg0
  let c1_i32_0 : BitVec 32 := 1#32
  let v1 : BitVec 32 := Scalar.subi v0 c1_i32_0
  let c0_i32 : BitVec 32 := 0#32
  let v2 : BitVec 32 := Scalar.addi v1 c0_i32
  let c0_i32_1 : BitVec 32 := 0#32
  let v3 : BitVec 32 := Scalar.maxsi v2 c0_i32_1
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3712x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InRefIdeal.lean ====
abbrev S8192x1024 : Shape := ⟨2, ![8192, 1024]⟩
abbrev S16x1024 : Shape := ⟨2, ![16, 1024]⟩
abbrev S1x1024 : Shape := ⟨2, ![1, 1024]⟩
abbrev S1024x3600 : Shape := ⟨2, ![1024, 3600]⟩
abbrev S8208x3600 : Shape := ⟨2, ![8208, 3600]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S3600x1024 : Shape := ⟨2, ![3600, 1024]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x3600, .f32⟩
  | .hbm, ⟨4, _⟩ => ⟨S8208x3600, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S_, .f32⟩
  | .hbm, ⟨20, _⟩ => ⟨S8208x1, .f32⟩
  | .hbm, ⟨21, _⟩ => ⟨S8208x1, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8208x3600, .f32⟩
  | .hbm, ⟨27, _⟩ => ⟨S3600x1024, .f32⟩
  | .hbm, ⟨28, _⟩ => ⟨S1024x3600, .f32⟩
  | .hbm, ⟨29, _⟩ => ⟨S8208x1024, .f32⟩
  | .hbm, ⟨30, _⟩ => ⟨S8208x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8208x1024, .f32⟩
  | .hbm, ⟨35, _⟩ => ⟨S8208x1024, .f32⟩
  | .hbm, ⟨36, _⟩ => ⟨S8208x1024, .f32⟩
  | .hbm, ⟨37, _⟩ => ⟨S_, .f32⟩
  | .hbm, ⟨38, _⟩ => ⟨S8208, .f32⟩
  | .hbm, ⟨39, _⟩ => ⟨S8208x1, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S8208x1, .f32⟩
  | .hbm, ⟨44, _⟩ => ⟨S_, .f32⟩
  | .hbm, ⟨45, _⟩ => ⟨S8208x1, .f32⟩
  | .hbm, ⟨46, _⟩ => ⟨S8208x1, .f32⟩
  | .hbm, ⟨47, _⟩ => ⟨S_, .f32⟩
  | .hbm, ⟨48, _⟩ => ⟨S8208, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S16x1024, .f32⟩
  | .hbm, ⟨55, _⟩ => ⟨S8192x1024, .f32⟩
  | .hbm, ⟨56, _⟩ => ⟨S8x1024, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== SsdFwd.lean ====
abbrev S8208x1024 : Shape := ⟨2, ![8208, 1024]⟩
abbrev S8208x1536 : Shape := ⟨2, ![8208, 1536]⟩
abbrev S8208x16 : Shape := ⟨2, ![8208, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S8208x112 : Shape := ⟨2, ![8208, 112]⟩
abbrev S8208x3712 : Shape := ⟨2, ![8208, 3712]⟩
abbrev S240x3712 : Shape := ⟨2, ![240, 3712]⟩
abbrev S8448x3712 : Shape := ⟨2, ![8448, 3712]⟩
abbrev S8448x1024 : Shape := ⟨2, ![8448, 1024]⟩
abbrev S33x2x128x512 : Shape := ⟨4, ![33, 2, 128, 512]⟩
abbrev S8448x1536 : Shape := ⟨2, ![8448, 1536]⟩
abbrev S256x3712 : Shape := ⟨2, ![256, 3712]⟩
abbrev S256x1024 : Shape := ⟨2, ![256, 1024]⟩
abbrev S1x2x128x512 : Shape := ⟨4, ![1, 2, 128, 512]⟩
abbrev S256x1536 : Shape := ⟨2, ![256, 1536]⟩
abbrev S8x1536 : Shape := ⟨2, ![8, 1536]⟩
abbrev S2x128x512 : Shape := ⟨3, ![2, 128, 512]⟩
abbrev S256x16 : Shape := ⟨2, ![256, 16]⟩
abbrev S256x1 : Shape := ⟨2, ![256, 1]⟩
abbrev S8x1 : Shape := ⟨2, ![8, 1]⟩
abbrev S248x1536 : Shape := ⟨2, ![248, 1536]⟩
abbrev S256x256 : Shape := ⟨2, ![256, 256]⟩
abbrev S16x256 : Shape := ⟨2, ![16, 256]⟩
abbrev S16x1024 : Shape := ⟨2, ![16, 1024]⟩
abbrev S1x128 : Shape := ⟨2, ![1, 128]⟩
abbrev S256x128 : Shape := ⟨2, ![256, 128]⟩
abbrev S1x128x512 : Shape := ⟨3, ![1, 128, 512]⟩
abbrev S128x512 : Shape := ⟨2, ![128, 512]⟩
abbrev S1x1x128x512 : Shape := ⟨4, ![1, 1, 128, 512]⟩
abbrev S256x512 : Shape := ⟨2, ![256, 512]⟩
abbrev S1x512 : Shape := ⟨2, ![1, 512]⟩
abbrev S1x256 : Shape := ⟨2, ![1, 256]⟩
abbrev S256 : Shape := ⟨1, ![256]⟩

abbrev nBuf : Space → Nat
  | .hbm => 24
  | .vmem => 18
  | .smem => 0
  | _ => 0

abbrev bufTy : (tb : Table) → Fin (tcTables nBuf tb) → BufTy
  | .hbm, ⟨0, _⟩ => ⟨S8208x1024, .f32⟩
  | .hbm, ⟨1, _⟩ => ⟨S8208x1536, .f32⟩
  | .hbm, ⟨2, _⟩ => ⟨S8208x16, .f32⟩
  | .hbm, ⟨3, _⟩ => ⟨S4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S_, .f32⟩
  | .hbm, ⟨10, _⟩ => ⟨S8208x1024, .f32⟩
  | .hbm, ⟨11, _⟩ => ⟨S_, .f32⟩
  | .hbm, ⟨12, _⟩ => ⟨S8208x112, .f32⟩
  | .hbm, ⟨13, _⟩ => ⟨S8208x3712, .f32⟩
  | .hbm, ⟨14, _⟩ => ⟨S_, .f32⟩
  | .hbm, ⟨15, _⟩ => ⟨S240x3712, .f32⟩
  | .hbm, ⟨16, _⟩ => ⟨S8448x3712, .f32⟩
  | .hbm, ⟨17, _⟩ => ⟨S8448x1024, .f32⟩
  | .hbm, ⟨18, _⟩ => ⟨S8448x1024, .bf16⟩
  | .hbm, ⟨19, _⟩ => ⟨S33x2x128x512, .f32⟩
  | .hbm, ⟨20, _⟩ => ⟨S8448x1536, .f32⟩
  | .hbm, ⟨21, _⟩ => ⟨S8208x1024, .f32⟩
  | .hbm, ⟨22, _⟩ => ⟨S8208x1024, .bf16⟩
  | .hbm, ⟨23, _⟩ => ⟨S8208x1536, .f32⟩
  | .local _ .vmem, ⟨0, _⟩ => ⟨S256x3712, .f32⟩
  | .local _ .vmem, ⟨1, _⟩ => ⟨S256x3712, .f32⟩
  | .local _ .vmem, ⟨2, _⟩ => ⟨S4x1536, .f32⟩
  | .local _ .vmem, ⟨3, _⟩ => ⟨S1x1536, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x2x128x512, .f32⟩
  | .local _ .vmem, ⟨13, _⟩ => ⟨S1x2x128x512, .f32⟩
  | .local _ .vmem, ⟨14, _⟩ => ⟨S256x1536, .f32⟩
  | .local _ .vmem, ⟨15, _⟩ => ⟨S256x1536, .f32⟩
  | .local _ .vmem, ⟨16, _⟩ => ⟨S8x1536, .f32⟩
  | .local _ .vmem, ⟨17, _⟩ => ⟨S2x128x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SsdFwdRefIdeal.lean ====
abbrev S8208x1024 : Shape := ⟨2, ![8208, 1024]⟩
abbrev S8208x1536 : Shape := ⟨2, ![8208, 1536]⟩
abbrev S8208x16 : Shape := ⟨2, ![8208, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S8207x1536 : Shape := ⟨2, ![8207, 1536]⟩
abbrev S2x1536 : Shape := ⟨2, ![2, 1536]⟩
abbrev S8206x1536 : Shape := ⟨2, ![8206, 1536]⟩
abbrev S3x1536 : Shape := ⟨2, ![3, 1536]⟩
abbrev S8205x1536 : Shape := ⟨2, ![8205, 1536]⟩
abbrev S240x1024 : Shape := ⟨2, ![240, 1024]⟩
abbrev S8448x1024 : Shape := ⟨2, ![8448, 1024]⟩
abbrev S33x256x2x8x64 : Shape := ⟨5, ![33, 256, 2, 8, 64]⟩
abbrev S8208x256 : Shape := ⟨2, ![8208, 256]⟩
abbrev S240x256 : Shape := ⟨2, ![240, 256]⟩
abbrev S8448x256 : Shape := ⟨2, ![8448, 256]⟩
abbrev S33x256x2x128 : Shape := ⟨4, ![33, 256, 2, 128]⟩
abbrev S240x16 : Shape := ⟨2, ![240, 16]⟩
abbrev S8448x16 : Shape := ⟨2, ![8448, 16]⟩
abbrev S33x256x2x8 : Shape := ⟨4, ![33, 256, 2, 8]⟩
abbrev S2x8 : Shape := ⟨2, ![2, 8]⟩
abbrev S1x1x2x8 : Shape := ⟨4, ![1, 1, 2, 8]⟩
abbrev S33x256x2x8x1 : Shape := ⟨5, ![33, 256, 2, 8, 1]⟩
abbrev S33x1x2x8 : Shape := ⟨4, ![33, 1, 2, 8]⟩
abbrev S33x2x8x64x128 : Shape := ⟨5, ![33, 2, 8, 64, 128]⟩
abbrev S33x2x8 : Shape := ⟨3, ![33, 2, 8]⟩
abbrev S33x2x8x1x1 : Shape := ⟨5, ![33, 2, 8, 1, 1]⟩
abbrev S1x2x8x64x128 : Shape := ⟨5, ![1, 2, 8, 64, 128]⟩
abbrev S11x2x8x64x128 : Shape := ⟨5, ![11, 2, 8, 64, 128]⟩
abbrev S256x256 : Shape := ⟨2, ![256, 256]⟩
abbrev S256x256x1x1 : Shape := ⟨4, ![256, 256, 1, 1]⟩
abbrev S33x256x1x2x8 : Shape := ⟨5, ![33, 256, 1, 2, 8]⟩
abbrev S33x1x256x2x8 : Shape := ⟨5, ![33, 1, 256, 2, 8]⟩
abbrev S33x256x256x2x8 : Shape := ⟨5, ![33, 256, 256, 2, 8]⟩
abbrev S33x2x256x256 : Shape := ⟨4, ![33, 2, 256, 256]⟩
abbrev S33x256x256x2 : Shape := ⟨4, ![33, 256, 256, 2]⟩
abbrev S33x256x256x2x1 : Shape := ⟨5, ![33, 256, 256, 2, 1]⟩
abbrev S33x2x8x64x256 : Shape := ⟨5, ![33, 2, 8, 64, 256]⟩
abbrev S2x8x1 : Shape := ⟨3, ![2, 8, 1]⟩
abbrev S1x1x2x8x1 : Shape := ⟨5, ![1, 1, 2, 8, 1]⟩
abbrev S8208 : Shape := ⟨1, ![8208]⟩
abbrev S8208x1 : Shape := ⟨2, ![8208, 1]⟩
abbrev S33x2x128x8x64 : Shape := ⟨5, ![33, 2, 128, 8, 64]⟩
abbrev S33x2x128x512 : Shape := ⟨4, ![33, 2, 128, 512]⟩

abbrev nBuf : Space → Nat
  | .hbm => 317
  | .vmem => 0
  | .smem => 0
  | _ => 0

abbrev hbmTy0_0 (i : Nat) : BufTy := match i % 128 with
  | 0 => ⟨S8208x1024, .f32⟩
  | 1 => ⟨S8208x1536, .f32⟩
  | 2 => ⟨S8208x16, .f32⟩
  | 3 => ⟨S4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S1x1536, .f32⟩
  | 10 => ⟨S8208x1536, .f32⟩
  | 11 => ⟨S8208x1536, .f32⟩
  | 12 => ⟨S8208x1536, .f32⟩
  | 13 => ⟨S8208x1536, .f32⟩
  | 14 => ⟨S1x1536, .f32⟩
  | 15 => ⟨S_, .f32⟩
  | 16 => ⟨S1x1536, .f32⟩
  | 17 => ⟨S8207x1536, .f32⟩
  | 18 => ⟨S8208x1536, .f32⟩
  | 19 => ⟨S8208x1536, .f32⟩
  | 20 => ⟨S8208x1536, .f32⟩
  | 21 => ⟨S8208x1536, .f32⟩
  | 22 => ⟨S1x1536, .f32⟩
  | 23 => ⟨S_, .f32⟩
  | 24 => ⟨S2x1536, .f32⟩
  | 25 => ⟨S8206x1536, .f32⟩
  | 26 => ⟨S8208x1536, .f32⟩
  | 27 => ⟨S8208x1536, .f32⟩
  | 28 => ⟨S8208x1536, .f32⟩
  | 29 => ⟨S8208x1536, .f32⟩
  | 30 => ⟨S1x1536, .f32⟩
  | 31 => ⟨S_, .f32⟩
  | 32 => ⟨S3x1536, .f32⟩
  | 33 => ⟨S8205x1536, .f32⟩
  | 34 => ⟨S8208x1536, .f32⟩
  | 35 => ⟨S8208x1536, .f32⟩
  | 36 => ⟨S8208x1536, .f32⟩
  | 37 => ⟨S8208x1536, .f32⟩
  | 38 => ⟨S8208x1536, .f32⟩
  | 39 => ⟨S8208x1536, .f32⟩
  | 40 => ⟨S_, .f32⟩
  | 41 => ⟨S8208x1536, .f32⟩
  | 42 => ⟨S8208x1536, .f32⟩
  | 43 => ⟨S_, .f32⟩
  | 44 => ⟨S8208x1536, .f32⟩
  | 45 => ⟨S8208x1536, .f32⟩
  | 46 => ⟨S8208x1536, .f32⟩
  | 47 => ⟨S8208x16, .f32⟩
  | 48 => ⟨S8208x16, .f32⟩
  | 49 => ⟨S_, .f32⟩
  | 50 => ⟨S8208x16, .f32⟩
  | 51 => ⟨S8208x16, .f32⟩
  | 52 => ⟨S8208x16, .f32⟩
  | 53 => ⟨S8208x16, .f32⟩
  | 54 => ⟨S8208x16, .i1⟩
  | 55 => ⟨S8208x16, .f32⟩
  | 56 => ⟨S8208x16, .f32⟩
  | 57 => ⟨S8208x16, .f32⟩
  | 58 => ⟨S8208x16, .f32⟩
  | 59 => ⟨S8208x16, .f32⟩
  | 60 => ⟨S8208x16, .f32⟩
  | 61 => ⟨S8208x16, .f32⟩
  | 62 => ⟨S8208x16, .f32⟩
  | 63 => ⟨S8208x1024, .f32⟩
  | 64 => ⟨S_, .f32⟩
  | 65 => ⟨S240x1024, .f32⟩
  | 66 => ⟨S8448x1024, .f32⟩
  | 67 => ⟨S33x256x2x8x64, .f32⟩
  | 68 => ⟨S8208x256, .f32⟩
  | 69 => ⟨S_, .f32⟩
  | 70 => ⟨S240x256, .f32⟩
  | 71 => ⟨S8448x256, .f32⟩
  | 72 => ⟨S33x256x2x128, .f32⟩
  | 73 => ⟨S8208x256, .f32⟩
  | 74 => ⟨S_, .f32⟩
  | 75 => ⟨S240x256, .f32⟩
  | 76 => ⟨S8448x256, .f32⟩
  | 77 => ⟨S33x256x2x128, .f32⟩
  | 78 => ⟨S_, .f32⟩
  | 79 => ⟨S240x16, .f32⟩
  | 80 => ⟨S8448x16, .f32⟩
  | 81 => ⟨S33x256x2x8, .f32⟩
  | 82 => ⟨S1x16, .f32⟩
  | 83 => ⟨S2x8, .f32⟩
  | 84 => ⟨S2x8, .f32⟩
  | 85 => ⟨S1x1x2x8, .f32⟩
  | 86 => ⟨S33x256x2x8, .f32⟩
  | 87 => ⟨S33x256x2x8, .f32⟩
  | 88 => ⟨S_, .f32⟩
  | 89 => ⟨S_, .f32⟩
  | 90 => ⟨S33x256x2x8, .f32⟩
  | 91 => ⟨S33x256x2x8x1, .f32⟩
  | 92 => ⟨S33x256x2x8x64, .f32⟩
  | 93 => ⟨S33x256x2x8x64, .f32⟩
  | 94 => ⟨S33x1x2x8, .f32⟩
  | 95 => ⟨S33x256x2x8, .f32⟩
  | 96 => ⟨S33x256x2x8, .f32⟩
  | 97 => ⟨S33x256x2x8, .f32⟩
  | 98 => ⟨S33x256x2x8x1, .f32⟩
  | 99 => ⟨S33x256x2x8x64, .f32⟩
  | 100 => ⟨S33x256x2x8x64, .f32⟩
  | 101 => ⟨S33x2x8x64x128, .f32⟩
  | 102 => ⟨S33x1x2x8, .f32⟩
  | 103 => ⟨S33x2x8, .f32⟩
  | 104 => ⟨S33x2x8, .f32⟩
  | 105 => ⟨S33x2x8x1x1, .f32⟩
  | 106 => ⟨S33x2x8x64x128, .f32⟩
  | 107 => ⟨S_, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S8208x1024, .f32⟩

abbrev hbmTy0_1 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S1x2x8x64x128, .f32⟩
  | 10 => ⟨S1x2x8x64x128, .f32⟩
  | 11 => ⟨S1x2x8x64x128, .f32⟩
  | 12 => ⟨S1x2x8x64x128, .f32⟩
  | 13 => ⟨S1x2x8x64x128, .f32⟩
  | 14 => ⟨S1x2x8x64x128, .f32⟩
  | 15 => ⟨S1x2x8x64x128, .f32⟩
  | 16 => ⟨S1x2x8x64x128, .f32⟩
  | 17 => ⟨S1x2x8x64x128, .f32⟩
  | 18 => ⟨S1x2x8x64x128, .f32⟩
  | 19 => ⟨S1x2x8x64x128, .f32⟩
  | 20 => ⟨S1x2x8x64x128, .f32⟩
  | 21 => ⟨S1x2x8x64x128, .f32⟩
  | 22 => ⟨S1x2x8x64x128, .f32⟩
  | 23 => ⟨S1x2x8x64x128, .f32⟩
  | 24 => ⟨S1x2x8x64x128, .f32⟩
  | 25 => ⟨S1x2x8x64x128, .f32⟩
  | 26 => ⟨S1x2x8x64x128, .f32⟩
  | 27 => ⟨S1x2x8x64x128, .f32⟩
  | 28 => ⟨S1x2x8x64x128, .f32⟩
  | 29 => ⟨S1x2x8x64x128, .f32⟩
  | 30 => ⟨S1x2x8x64x128, .f32⟩
  | 31 => ⟨S1x2x8x64x128, .f32⟩
  | 32 => ⟨S1x2x8x64x128, .f32⟩
  | 33 => ⟨S1x2x8x64x128, .f32⟩
  | 34 => ⟨S1x2x8x64x128, .f32⟩
  | 35 => ⟨S1x2x8x64x128, .f32⟩
  | 36 => ⟨S1x2x8x64x128, .f32⟩
  | 37 => ⟨S1x2x8x64x128, .f32⟩
  | 38 => ⟨S1x2x8x64x128, .f32⟩
  | 39 => ⟨S1x2x8x64x128, .f32⟩
  | 40 => ⟨S1x2x8x64x128, .f32⟩
  | 41 => ⟨S1x2x8x64x128, .f32⟩
  | 42 => ⟨S1x2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S1x2x8x64x128, .f32⟩
  | 48 => ⟨S1x2x8x64x128, .f32⟩
  | 49 => ⟨S1x2x8x64x128, .f32⟩
  | 50 => ⟨S1x2x8x64x128, .f32⟩
  | 51 => ⟨S1x2x8x64x128, .f32⟩
  | 52 => ⟨S1x2x8x64x128, .f32⟩
  | 53 => ⟨S1x2x8x64x128, .f32⟩
  | 54 => ⟨S1x2x8x64x128, .f32⟩
  | 55 => ⟨S1x2x8x64x128, .f32⟩
  | 56 => ⟨S1x2x8x64x128, .f32⟩
  | 57 => ⟨S1x2x8x64x128, .f32⟩
  | 58 => ⟨S1x2x8x64x128, .f32⟩
  | 59 => ⟨S1x2x8x64x128, .f32⟩
  | 60 => ⟨S1x2x8x64x128, .f32⟩
  | 61 => ⟨S1x2x8x64x128, .f32⟩
  | 62 => ⟨S1x2x8x64x128, .f32⟩
  | 63 => ⟨S1x2x8x64x128, .f32⟩
  | 64 => ⟨S1x2x8x64x128, .f32⟩
  | 65 => ⟨S1x2x8x64x128, .f32⟩
  | 66 => ⟨S1x2x8x64x128, .f32⟩
  | 67 => ⟨S1x2x8x64x128, .f32⟩
  | 68 => ⟨S1x2x8x64x128, .f32⟩
  | 69 => ⟨S1x2x8x64x128, .f32⟩
  | 70 => ⟨S1x2x8x64x128, .f32⟩
  | 71 => ⟨S1x2x8x64x128, .f32⟩
  | 72 => ⟨S1x2x8x64x128, .f32⟩
  | 73 => ⟨S1x2x8x64x128, .f32⟩
  | 74 => ⟨S1x2x8x64x128, .f32⟩
  | 75 => ⟨S1x2x8x64x128, .f32⟩
  | 76 => ⟨S1x2x8x64x128, .f32⟩
  | 77 => ⟨S1x2x8x64x128, .f32⟩
  | 78 => ⟨S1x2x8x64x128, .f32⟩
  | 79 => ⟨S1x2x8x64x128, .f32⟩
  | 80 => ⟨S1x2x8x64x128, .f32⟩
  | 81 => ⟨S1x2x8x64x128, .f32⟩
  | 82 => ⟨S1x2x8x64x128, .f32⟩
  | 83 => ⟨S1x2x8x64x128, .f32⟩
  | 84 => ⟨S1x2x8x64x128, .f32⟩
  | 85 => ⟨S1x2x8x64x128, .f32⟩
  | 86 => ⟨S1x2x8x64x128, .f32⟩
  | 87 => ⟨S1x2x8x64x128, .f32⟩
  | 88 => ⟨S1x2x8x64x128, .f32⟩
  | 89 => ⟨S1x2x8x64x128, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S11x2x8x64x128, .f32⟩
  | 114 => ⟨S11x2x8x64x128, .f32⟩
  | 115 => ⟨S11x2x8x64x128, .f32⟩
  | 116 => ⟨S33x2x8x64x128, .f32⟩
  | 117 => ⟨S_, .i1⟩
  | 118 => ⟨S256x256, .i1⟩
  | 119 => ⟨S256x256, .i32⟩
  | 120 => ⟨S_, .i32⟩
  | 121 => ⟨S256x256, .i32⟩
  | 122 => ⟨S256x256, .i32⟩
  | 123 => ⟨S256x256, .i32⟩
  | 124 => ⟨S256x256, .i1⟩
  | 125 => ⟨S_, .i1⟩
  | 126 => ⟨S256x256, .i1⟩
  | 127 => ⟨S256x256, .i1⟩
  | _ => ⟨S8208x1024, .f32⟩

abbrev hbmTy0_2 (i : Nat) : BufTy := match i % 128 with
  | 0 => ⟨S256x256x1x1, .i1⟩
  | 1 => ⟨S33x256x1x2x8, .f32⟩
  | 2 => ⟨S33x1x256x2x8, .f32⟩
  | 3 => ⟨S33x256x256x2x8, .f32⟩
  | 4 => ⟨S33x256x256x2x8, .f32⟩
  | 5 => ⟨S33x256x256x2x8, .f32⟩
  | 6 => ⟨S_, .f32⟩
  | 7 => ⟨S_, .f32⟩
  | 8 => ⟨S33x256x256x2x8, .i1⟩
  | 9 => ⟨S33x256x256x2x8, .f32⟩
  | 10 => ⟨S33x256x256x2x8, .f32⟩
  | 11 => ⟨S33x256x256x2x8, .f32⟩
  | 12 => ⟨S33x2x256x256, .f32⟩
  | 13 => ⟨S33x256x256x2, .f32⟩
  | 14 => ⟨S33x256x256x2x1, .f32⟩
  | 15 => ⟨S33x256x256x2x8, .f32⟩
  | 16 => ⟨S33x256x256x2x8, .f32⟩
  | 17 => ⟨S33x2x8x64x256, .f32⟩
  | 18 => ⟨S33x256x2x8x64, .f32⟩
  | 19 => ⟨S33x2x8x64x256, .f32⟩
  | 20 => ⟨S33x256x2x8x64, .f32⟩
  | 21 => ⟨S33x256x2x8, .f32⟩
  | 22 => ⟨S33x256x2x8x1, .f32⟩
  | 23 => ⟨S33x256x2x8x64, .f32⟩
  | 24 => ⟨S33x256x2x8x64, .f32⟩
  | 25 => ⟨S33x256x2x8x64, .f32⟩
  | 26 => ⟨S2x8x1, .f32⟩
  | 27 => ⟨S1x1x2x8x1, .f32⟩
  | 28 => ⟨S33x256x2x8x64, .f32⟩
  | 29 => ⟨S33x256x2x8x64, .f32⟩
  | 30 => ⟨S33x256x2x8x64, .f32⟩
  | 31 => ⟨S8448x1024, .f32⟩
  | 32 => ⟨S8208x1024, .f32⟩
  | 33 => ⟨S8208x1024, .f32⟩
  | 34 => ⟨S8208x1024, .f32⟩
  | 35 => ⟨S_, .f32⟩
  | 36 => ⟨S8208x1024, .f32⟩
  | 37 => ⟨S8208x1024, .f32⟩
  | 38 => ⟨S_, .f32⟩
  | 39 => ⟨S8208x1024, .f32⟩
  | 40 => ⟨S8208x1024, .f32⟩
  | 41 => ⟨S8208x1024, .f32⟩
  | 42 => ⟨S8208x1024, .f32⟩
  | 43 => ⟨S8208x1024, .f32⟩
  | 44 => ⟨S_, .f32⟩
  | 45 => ⟨S8208, .f32⟩
  | 46 => ⟨S8208x1, .f32⟩
  | 47 => ⟨S_, .f32⟩
  | 48 => ⟨S8208x1, .f32⟩
  | 49 => ⟨S8208x1, .f32⟩
  | 50 => ⟨S_, .f32⟩
  | 51 => ⟨S8208x1, .f32⟩
  | 52 => ⟨S8208x1, .f32⟩
  | 53 => ⟨S8208x1, .f32⟩
  | 54 => ⟨S8208x1024, .f32⟩
  | 55 => ⟨S8208x1024, .f32⟩
  | 56 => ⟨S8208x1024, .f32⟩
  | 57 => ⟨S8208x1024, .f32⟩
  | 58 => ⟨S8208x1024, .bf16⟩
  | 59 => ⟨S33x2x128x8x64, .f32⟩
  | 60 => ⟨S33x2x128x512, .f32⟩
  | _ => ⟨S8208x1024, .f32⟩

abbrev hbmTy (i : Nat) : BufTy := match i / 128 with
  | 0 => hbmTy0_0 i
  | 1 => hbmTy0_1 i
  | 2 => hbmTy0_2 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_call0_cst : Ref sig .tc := ⟨.hbm, 88, rfl⟩
abbrev main_call0_call0_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_9 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_c : Ref sig .tc := ⟨.hbm, 245, rfl⟩
abbrev main_v223 : Ref sig .tc := ⟨.hbm, 246, rfl⟩
abbrev main_call1_v0 : Ref sig .tc := ⟨.hbm, 247, rfl⟩
abbrev main_call1_c : Ref sig .tc := ⟨.hbm, 248, rfl⟩
abbrev main_call1_v1 : Ref sig .tc := ⟨.hbm, 249, rfl⟩
abbrev main_call1_v2 : Ref sig .tc := ⟨.hbm, 250, rfl⟩
abbrev main_call1_v3 : Ref sig .tc := ⟨.hbm, 251, rfl⟩
abbrev main_call1_v4 : Ref sig .tc := ⟨.hbm, 252, rfl⟩
abbrev main_call1_c_0 : Ref sig .tc := ⟨.hbm, 253, rfl⟩
abbrev main_call1_v5 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_cst_10 : Ref sig .tc := ⟨.hbm, 262, rfl⟩
abbrev main_call2_v0 : Ref sig .tc := ⟨.hbm, 263, rfl⟩
abbrev main_call2_v1 : Ref sig .tc := ⟨.hbm, 264, rfl⟩
abbrev main_call2_v2 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_cst_11 : Ref sig .tc := ⟨.hbm, 291, rfl⟩
abbrev main_v256 : Ref sig .tc := ⟨.hbm, 292, rfl⟩
abbrev main_v257 : Ref sig .tc := ⟨.hbm, 293, rfl⟩
abbrev main_cst_12 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_cst_13 : Ref sig .tc := ⟨.hbm, 300, rfl⟩
abbrev main_v263 : Ref sig .tc := ⟨.hbm, 301, rfl⟩
abbrev main_v264 : Ref sig .tc := ⟨.hbm, 302, rfl⟩
abbrev main_cst_14 : Ref sig .tc := ⟨.hbm, 303, rfl⟩
abbrev main_v265 : Ref sig .tc := ⟨.hbm, 304, rfl⟩
abbrev main_v266 : Ref sig .tc := ⟨.hbm, 305, rfl⟩
abbrev main_cst_15 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩

abbrev nD : Nat := 1
abbrev τ : Topo := Topo.v7x

variable {F : FTy → Type} [FloatOps F]
-- ==== UpFwd.lean ====
abbrev S8448x1024 : Shape := ⟨2, ![8448, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8448x4096 : Shape := ⟨2, ![8448, 4096]⟩
abbrev S768x1024 : Shape := ⟨2, ![768, 1024]⟩
abbrev S768x4096 : Shape := ⟨2, ![768, 4096]⟩
abbrev S768 : Shape := ⟨1, ![768]⟩
abbrev S768x1 : Shape := ⟨2, ![768, 1]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S8448x4096, .bf16⟩
  | .hbm, ⟨7, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S4x1024x1024, .bf16⟩
  | .local _ .vmem, ⟨4, _⟩ => ⟨S768x4096, .bf16⟩
  | .local _ .vmem, ⟨5, _⟩ => ⟨S768x4096, .bf16⟩
  | .local _ .vmem, ⟨6, _⟩ => ⟨S768x1024, .bf16⟩
  | .local _ .vmem, ⟨7, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpFwdRefIdeal.lean ====
abbrev S8448x1024 : Shape := ⟨2, ![8448, 1024]⟩
abbrev S1x1024 : Shape := ⟨2, ![1, 1024]⟩
abbrev S1024x4096 : Shape := ⟨2, ![1024, 4096]⟩
abbrev S_ : Shape := ⟨0, ![]⟩
abbrev S8448 : Shape := ⟨1, ![8448]⟩
abbrev S8448x1 : Shape := ⟨2, ![8448, 1]⟩
abbrev S8448x4096 : Shape := ⟨2, ![8448, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x4096, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x4096, .f32⟩
  | .hbm, ⟨19, _⟩ => ⟨S_, .f32⟩
  | .hbm, ⟨20, _⟩ => ⟨S8448x4096, .f32⟩
  | .hbm, ⟨21, _⟩ => ⟨S8448x4096, .f32⟩
  | .hbm, ⟨22, _⟩ => ⟨S8448x4096, .bf16⟩
  | .hbm, ⟨23, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== DownFwd.lean ====
abbrev S8448x4096 : Shape := ⟨2, ![8448, 4096]⟩
abbrev S8448x1024 : Shape := ⟨2, ![8448, 1024]⟩
abbrev S4096x1024 : Shape := ⟨2, ![4096, 1024]⟩
abbrev S_ : Shape := ⟨0, ![]⟩
abbrev S4x1024x1024 : Shape := ⟨3, ![4, 1024, 1024]⟩
abbrev S768x4096 : Shape := ⟨2, ![768, 4096]⟩
abbrev S768x1024 : Shape := ⟨2, ![768, 1024]⟩
abbrev S1x1024x1024 : Shape := ⟨3, ![1, 1024, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S4096x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S4096x1024, .bf16⟩
  | .hbm, ⟨8, _⟩ => ⟨S4x1024x1024, .bf16⟩
  | .hbm, ⟨9, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S768x1024, .f32⟩
  | .local _ .vmem, ⟨3, _⟩ => ⟨S768x1024, .f32⟩
  | .local _ .vmem, ⟨4, _⟩ => ⟨S4x1024x1024, .bf16⟩
  | .local _ .vmem, ⟨5, _⟩ => ⟨S768x1024, .f32⟩
  | .local _ .vmem, ⟨6, _⟩ => ⟨S768x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownFwdRefIdeal.lean ====
abbrev S8448x4096 : Shape := ⟨2, ![8448, 4096]⟩
abbrev S8448x1024 : Shape := ⟨2, ![8448, 1024]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S4096x1024, .f32⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .f32⟩
  | .hbm, ⟨7, _⟩ => ⟨S8448x1024, .f32⟩
  | .hbm, ⟨8, _⟩ => ⟨S8448x1024, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== GluFwd.lean ====
abbrev S8448x1024 : Shape := ⟨2, ![8448, 1024]⟩
abbrev S1024x2048 : Shape := ⟨2, ![1024, 2048]⟩
abbrev S1x2048 : Shape := ⟨2, ![1, 2048]⟩
abbrev S1x1024 : Shape := ⟨2, ![1, 1024]⟩
abbrev S2048x1024 : Shape := ⟨2, ![2048, 1024]⟩
abbrev S4x512x1024 : Shape := ⟨3, ![4, 512, 1024]⟩
abbrev S_ : Shape := ⟨0, ![]⟩
abbrev S4x1024x1024 : Shape := ⟨3, ![4, 1024, 1024]⟩
abbrev S8448x2048 : Shape := ⟨2, ![8448, 2048]⟩
abbrev S768x1024 : Shape := ⟨2, ![768, 1024]⟩
abbrev S768x2048 : Shape := ⟨2, ![768, 2048]⟩
abbrev S1x512x1024 : Shape := ⟨3, ![1, 512, 1024]⟩
abbrev S512x1024 : Shape := ⟨2, ![512, 1024]⟩
abbrev S768x512 : Shape := ⟨2, ![768, 512]⟩
abbrev S768 : Shape := ⟨1, ![768]⟩
abbrev S768x1 : Shape := ⟨2, ![768, 1]⟩

abbrev nBuf : Space → Nat
  | .hbm => 13
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1024x2048, .f32⟩
  | .hbm, ⟨2, _⟩ => ⟨S1x2048, .f32⟩
  | .hbm, ⟨3, _⟩ => ⟨S1x1024, .f32⟩
  | .hbm, ⟨4, _⟩ => ⟨S2048x1024, .f32⟩
  | .hbm, ⟨5, _⟩ => ⟨S4x512x1024, .f32⟩
  | .hbm, ⟨6, _⟩ => ⟨S4x512x1024, .bf16⟩
  | .hbm, ⟨7, _⟩ => ⟨S_, .bf16⟩
  | .hbm, ⟨8, _⟩ => ⟨S4x512x1024, .bf16⟩
  | .hbm, ⟨9, _⟩ => ⟨S4x1024x1024, .bf16⟩
  | .hbm, ⟨10, _⟩ => ⟨S8448x1024, .bf16⟩
  | .hbm, ⟨11, _⟩ => ⟨S8448x2048, .bf16⟩
  | .hbm, ⟨12, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1x2048, .f32⟩
  | .local _ .vmem, ⟨3, _⟩ => ⟨S1x1024, .f32⟩
  | .local _ .vmem, ⟨4, _⟩ => ⟨S4x512x1024, .bf16⟩
  | .local _ .vmem, ⟨5, _⟩ => ⟨S768x2048, .bf16⟩
  | .local _ .vmem, ⟨6, _⟩ => ⟨S768x2048, .bf16⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdRefIdeal.lean ====
abbrev S8448x1024 : Shape := ⟨2, ![8448, 1024]⟩
abbrev S1024x2048 : Shape := ⟨2, ![1024, 2048]⟩
abbrev S1x2048 : Shape := ⟨2, ![1, 2048]⟩
abbrev S1x1024 : Shape := ⟨2, ![1, 1024]⟩
abbrev S8448x2048 : Shape := ⟨2, ![8448, 2048]⟩
abbrev S_ : Shape := ⟨0, ![]⟩
abbrev S8448 : Shape := ⟨1, ![8448]⟩
abbrev S8448x1 : Shape := ⟨2, ![8448, 1]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2048, .f32⟩
  | .hbm, ⟨2, _⟩ => ⟨S1x2048, .f32⟩
  | .hbm, ⟨3, _⟩ => ⟨S1x1024, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x2048, .bf16⟩
  | .hbm, ⟨34, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OutFwd.lean ====
abbrev S8192x1024 : Shape := ⟨2, ![8192, 1024]⟩
abbrev S16x1024 : Shape := ⟨2, ![16, 1024]⟩
abbrev S8208x1024 : Shape := ⟨2, ![8208, 1024]⟩
abbrev S2048x1024 : Shape := ⟨2, ![2048, 1024]⟩
abbrev S_ : Shape := ⟨0, ![]⟩
abbrev S240x1024 : Shape := ⟨2, ![240, 1024]⟩
abbrev S512x1024 : Shape := ⟨2, ![512, 1024]⟩
abbrev S768x1024 : Shape := ⟨2, ![768, 1024]⟩
abbrev S4x512x1024 : Shape := ⟨3, ![4, 512, 1024]⟩
abbrev S4x1024x1024 : Shape := ⟨3, ![4, 1024, 1024]⟩
abbrev S8448x1024 : Shape := ⟨2, ![8448, 1024]⟩
abbrev S256x1024 : Shape := ⟨2, ![256, 1024]⟩
abbrev S768x512 : Shape := ⟨2, ![768, 512]⟩
abbrev S1x512x1024 : Shape := ⟨3, ![1, 512, 1024]⟩
abbrev S768x1 : Shape := ⟨2, ![768, 1]⟩

abbrev nBuf : Space → Nat
  | .hbm => 25
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S8208x1024, .f32⟩
  | .hbm, ⟨3, _⟩ => ⟨S8208x1024, .f32⟩
  | .hbm, ⟨4, _⟩ => ⟨S2048x1024, .f32⟩
  | .hbm, ⟨5, _⟩ => ⟨S_, .f32⟩
  | .hbm, ⟨6, _⟩ => ⟨S240x1024, .f32⟩
  | .hbm, ⟨7, _⟩ => ⟨S_, .f32⟩
  | .hbm, ⟨8, _⟩ => ⟨S512x1024, .f32⟩
  | .hbm, ⟨9, _⟩ => ⟨S768x1024, .f32⟩
  | .hbm, ⟨10, _⟩ => ⟨S4x512x1024, .f32⟩
  | .hbm, ⟨11, _⟩ => ⟨S4x512x1024, .bf16⟩
  | .hbm, ⟨12, _⟩ => ⟨S_, .bf16⟩
  | .hbm, ⟨13, _⟩ => ⟨S4x512x1024, .bf16⟩
  | .hbm, ⟨14, _⟩ => ⟨S4x1024x1024, .bf16⟩
  | .hbm, ⟨15, _⟩ => ⟨S_, .i32⟩
  | .hbm, ⟨16, _⟩ => ⟨S_, .f32⟩
  | .hbm, ⟨17, _⟩ => ⟨S8448x1024, .f32⟩
  | .hbm, ⟨18, _⟩ => ⟨S8448x1024, .bf16⟩
  | .hbm, ⟨19, _⟩ => ⟨S_, .i32⟩
  | .hbm, ⟨20, _⟩ => ⟨S_, .f32⟩
  | .hbm, ⟨21, _⟩ => ⟨S8448x1024, .f32⟩
  | .hbm, ⟨22, _⟩ => ⟨S8448x1024, .bf16⟩
  | .hbm, ⟨23, _⟩ => ⟨S8448x1024, .f32⟩
  | .hbm, ⟨24, _⟩ => ⟨S8208x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S768x1024, .f32⟩
  | .local _ .vmem, ⟨11, _⟩ => ⟨S4x512x1024, .bf16⟩
  | .local _ .vmem, ⟨12, _⟩ => ⟨S768x1024, .f32⟩
  | .local _ .vmem, ⟨13, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S8192x1024 : Shape := ⟨2, ![8192, 1024]⟩
abbrev S16x1024 : Shape := ⟨2, ![16, 1024]⟩
abbrev S8208x1024 : Shape := ⟨2, ![8208, 1024]⟩
abbrev S2048x1024 : Shape := ⟨2, ![2048, 1024]⟩
abbrev S8208x2048 : Shape := ⟨2, ![8208, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S8208x1024, .f32⟩
  | .hbm, ⟨3, _⟩ => ⟨S8208x1024, .f32⟩
  | .hbm, ⟨4, _⟩ => ⟨S2048x1024, .f32⟩
  | .hbm, ⟨5, _⟩ => ⟨S8208x1024, .f32⟩
  | .hbm, ⟨6, _⟩ => ⟨S8208x2048, .f32⟩
  | .hbm, ⟨7, _⟩ => ⟨S8208x1024, .f32⟩
  | .hbm, ⟨8, _⟩ => ⟨S8208x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== InFwd.lean ====
abbrev S8192x1024 : Shape := ⟨2, ![8192, 1024]⟩
abbrev S16x1024 : Shape := ⟨2, ![16, 1024]⟩
abbrev S1x1024 : Shape := ⟨2, ![1, 1024]⟩
abbrev S1024x3600 : Shape := ⟨2, ![1024, 3600]⟩
abbrev S_ : Shape := ⟨0, ![]⟩
abbrev S240x1024 : Shape := ⟨2, ![240, 1024]⟩
abbrev S512x1024 : Shape := ⟨2, ![512, 1024]⟩
abbrev S768x1024 : Shape := ⟨2, ![768, 1024]⟩
abbrev S3600x1024 : Shape := ⟨2, ![3600, 1024]⟩
abbrev S1024x1024 : Shape := ⟨2, ![1024, 1024]⟩
abbrev S1536x1024 : Shape := ⟨2, ![1536, 1024]⟩
abbrev S112x1024 : Shape := ⟨2, ![112, 1024]⟩
abbrev S3712x1024 : Shape := ⟨2, ![3712, 1024]⟩
abbrev S8448x3712 : Shape := ⟨2, ![8448, 3712]⟩
abbrev S8448x1024 : Shape := ⟨2, ![8448, 1024]⟩
abbrev S256x1024 : Shape := ⟨2, ![256, 1024]⟩
abbrev S768x3712 : Shape := ⟨2, ![768, 3712]⟩
abbrev S768x1 : Shape := ⟨2, ![768, 1]⟩
abbrev S768 : Shape := ⟨1, ![768]⟩
abbrev S8208x1024 : Shape := ⟨2, ![8208, 1024]⟩
abbrev S8208x1552 : Shape := ⟨2, ![8208, 1552]⟩
abbrev S8208x3600 : Shape := ⟨2, ![8208, 3600]⟩

abbrev nBuf : Space → Nat
  | .hbm => 25
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x3600, .f32⟩
  | .hbm, ⟨4, _⟩ => ⟨S_, .f32⟩
  | .hbm, ⟨5, _⟩ => ⟨S240x1024, .f32⟩
  | .hbm, ⟨6, _⟩ => ⟨S_, .f32⟩
  | .hbm, ⟨7, _⟩ => ⟨S512x1024, .f32⟩
  | .hbm, ⟨8, _⟩ => ⟨S768x1024, .f32⟩
  | .hbm, ⟨9, _⟩ => ⟨S3600x1024, .f32⟩
  | .hbm, ⟨10, _⟩ => ⟨S1024x1024, .f32⟩
  | .hbm, ⟨11, _⟩ => ⟨S1024x1024, .f32⟩
  | .hbm, ⟨12, _⟩ => ⟨S1536x1024, .f32⟩
  | .hbm, ⟨13, _⟩ => ⟨S16x1024, .f32⟩
  | .hbm, ⟨14, _⟩ => ⟨S_, .f32⟩
  | .hbm, ⟨15, _⟩ => ⟨S112x1024, .f32⟩
  | .hbm, ⟨16, _⟩ => ⟨S3712x1024, .f32⟩
  | .hbm, ⟨17, _⟩ => ⟨S3712x1024, .bf16⟩
  | .hbm, ⟨18, _⟩ => ⟨S8448x3712, .f32⟩
  | .hbm, ⟨19, _⟩ => ⟨S8448x1024, .bf16⟩
  | .hbm, ⟨20, _⟩ => ⟨S8208x1024, .f32⟩
  | .hbm, ⟨21, _⟩ => ⟨S8208x1552, .f32⟩
  | .hbm, ⟨22, _⟩ => ⟨S8208x1024, .f32⟩
  | .hbm, ⟨23, _⟩ => ⟨S8208x3600, .f32⟩
  | .hbm, ⟨24, _⟩ => ⟨S8208x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S768x1024, .f32⟩
  | .local _ .vmem, ⟨7, _⟩ => ⟨S1x1024, .f32⟩
  | .local _ .vmem, ⟨8, _⟩ => ⟨S3712x1024, .bf16⟩
  | .local _ .vmem, ⟨9, _⟩ => ⟨S768x3712, .f32⟩
  | .local _ .vmem, ⟨10, _⟩ => ⟨S768x3712, .f32⟩
  | .local _ .vmem, ⟨11, _⟩ => ⟨S768x1024, .bf16⟩
  | .local _ .vmem, ⟨12, _⟩ => ⟨S768x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3712x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x3712 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S8192x1024 : Shape := ⟨2, ![8192, 1024]⟩
abbrev S16x1024 : Shape := ⟨2, ![16, 1024]⟩
abbrev S1x1024 : Shape := ⟨2, ![1, 1024]⟩
abbrev S1024x3600 : Shape := ⟨2, ![1024, 3600]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S8208x3600 : Shape := ⟨2, ![8208, 3600]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S1024x3600, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1024, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x3600, .f32⟩
  | .hbm, ⟨21, _⟩ => ⟨S8208x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== SsdBwd.lean ====
abbrev S8208x1024 : Shape := ⟨2, ![8208, 1024]⟩
abbrev S8208x1536 : Shape := ⟨2, ![8208, 1536]⟩
abbrev S8208x16 : Shape := ⟨2, ![8208, 16]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S8208x112 : Shape := ⟨2, ![8208, 112]⟩
abbrev S8208x3712 : Shape := ⟨2, ![8208, 3712]⟩
abbrev S240x3712 : Shape := ⟨2, ![240, 3712]⟩
abbrev S8448x3712 : Shape := ⟨2, ![8448, 3712]⟩
abbrev S8207x1536 : Shape := ⟨2, ![8207, 1536]⟩
abbrev S2x1536 : Shape := ⟨2, ![2, 1536]⟩
abbrev S8206x1536 : Shape := ⟨2, ![8206, 1536]⟩
abbrev S3x1536 : Shape := ⟨2, ![3, 1536]⟩
abbrev S8205x1536 : Shape := ⟨2, ![8205, 1536]⟩
abbrev S240x1024 : Shape := ⟨2, ![240, 1024]⟩
abbrev S8448x1024 : Shape := ⟨2, ![8448, 1024]⟩
abbrev S33x256x2x8x64 : Shape := ⟨5, ![33, 256, 2, 8, 64]⟩
abbrev S8208x256 : Shape := ⟨2, ![8208, 256]⟩
abbrev S240x256 : Shape := ⟨2, ![240, 256]⟩
abbrev S8448x256 : Shape := ⟨2, ![8448, 256]⟩
abbrev S33x256x2x128 : Shape := ⟨4, ![33, 256, 2, 128]⟩
abbrev S240x16 : Shape := ⟨2, ![240, 16]⟩
abbrev S8448x16 : Shape := ⟨2, ![8448, 16]⟩
abbrev S33x256x2x8 : Shape := ⟨4, ![33, 256, 2, 8]⟩
abbrev S2x8 : Shape := ⟨2, ![2, 8]⟩
abbrev S1x1x2x8 : Shape := ⟨4, ![1, 1, 2, 8]⟩
abbrev S33x256x2x8x1 : Shape := ⟨5, ![33, 256, 2, 8, 1]⟩
abbrev S33x1x2x8 : Shape := ⟨4, ![33, 1, 2, 8]⟩
abbrev S33x2x8x64x128 : Shape := ⟨5, ![33, 2, 8, 64, 128]⟩
abbrev S33x2x8 : Shape := ⟨3, ![33, 2, 8]⟩
abbrev S33x2x8x1x1 : Shape := ⟨5, ![33, 2, 8, 1, 1]⟩
abbrev S1x2x8x64x128 : Shape := ⟨5, ![1, 2, 8, 64, 128]⟩
abbrev S11x2x8x64x128 : Shape := ⟨5, ![11, 2, 8, 64, 128]⟩
abbrev S256x256 : Shape := ⟨2, ![256, 256]⟩
abbrev S256x256x1x1 : Shape := ⟨4, ![256, 256, 1, 1]⟩
abbrev S33x256x1x2x8 : Shape := ⟨5, ![33, 256, 1, 2, 8]⟩
abbrev S33x1x256x2x8 : Shape := ⟨5, ![33, 1, 256, 2, 8]⟩
abbrev S33x256x256x2x8 : Shape := ⟨5, ![33, 256, 256, 2, 8]⟩
abbrev S33x2x256x256 : Shape := ⟨4, ![33, 2, 256, 256]⟩
abbrev S33x256x256x2 : Shape := ⟨4, ![33, 256, 256, 2]⟩
abbrev S33x256x256x2x1 : Shape := ⟨5, ![33, 256, 256, 2, 1]⟩
abbrev S33x2x8x64x256 : Shape := ⟨5, ![33, 2, 8, 64, 256]⟩
abbrev S2x8x1 : Shape := ⟨3, ![2, 8, 1]⟩
abbrev S1x1x2x8x1 : Shape := ⟨5, ![1, 1, 2, 8, 1]⟩
abbrev S33x2x128x8x64 : Shape := ⟨5, ![33, 2, 128, 8, 64]⟩
abbrev S33x2x128x512 : Shape := ⟨4, ![33, 2, 128, 512]⟩
abbrev S240x1536 : Shape := ⟨2, ![240, 1536]⟩
abbrev S8448x1536 : Shape := ⟨2, ![8448, 1536]⟩
abbrev S8x1536 : Shape := ⟨2, ![8, 1536]⟩
abbrev S8x16 : Shape := ⟨2, ![8, 16]⟩
abbrev S8x1024 : Shape := ⟨2, ![8, 1024]⟩
abbrev S256x3712 : Shape := ⟨2, ![256, 3712]⟩
abbrev S256x1536 : Shape := ⟨2, ![256, 1536]⟩
abbrev S256x1024 : Shape := ⟨2, ![256, 1024]⟩
abbrev S1x2x128x512 : Shape := ⟨4, ![1, 2, 128, 512]⟩
abbrev S2x128x512 : Shape := ⟨3, ![2, 128, 512]⟩
abbrev S256x16 : Shape := ⟨2, ![256, 16]⟩
abbrev S256x1 : Shape := ⟨2, ![256, 1]⟩
abbrev S16x256 : Shape := ⟨2, ![16, 256]⟩
abbrev S16x1024 : Shape := ⟨2, ![16, 1024]⟩
abbrev S256 : Shape := ⟨1, ![256]⟩
abbrev S32x8x1024 : Shape := ⟨3, ![32, 8, 1024]⟩
abbrev S1x128 : Shape := ⟨2, ![1, 128]⟩
abbrev S16x1 : Shape := ⟨2, ![16, 1]⟩
abbrev S256x128 : Shape := ⟨2, ![256, 128]⟩
abbrev S1x1x128x512 : Shape := ⟨4, ![1, 1, 128, 512]⟩
abbrev S128x512 : Shape := ⟨2, ![128, 512]⟩
abbrev S1x128x512 : Shape := ⟨3, ![1, 128, 512]⟩
abbrev S256x512 : Shape := ⟨2, ![256, 512]⟩
abbrev S512 : Shape := ⟨1, ![512]⟩
abbrev S1x512 : Shape := ⟨2, ![1, 512]⟩
abbrev S1x256 : Shape := ⟨2, ![1, 256]⟩
abbrev S16x16 : Shape := ⟨2, ![16, 16]⟩
abbrev S16 : Shape := ⟨1, ![16]⟩
abbrev S32x8x16 : Shape := ⟨3, ![32, 8, 16]⟩
abbrev S32x8x1536 : Shape := ⟨3, ![32, 8, 1536]⟩
abbrev S8x1 : Shape := ⟨2, ![8, 1]⟩
abbrev S1536 : Shape := ⟨1, ![1536]⟩
abbrev S248x1536 : Shape := ⟨2, ![248, 1536]⟩
abbrev S1024 : Shape := ⟨1, ![1024]⟩
abbrev S16x64 : Shape := ⟨2, ![16, 64]⟩

abbrev nBuf : Space → Nat
  | .hbm => 342
  | .vmem => 28
  | .smem => 0
  | _ => 0

abbrev hbmTy0_0 (i : Nat) : BufTy := match i % 128 with
  | 0 => ⟨S8208x1024, .f32⟩
  | 1 => ⟨S8208x1536, .f32⟩
  | 2 => ⟨S8208x16, .f32⟩
  | 3 => ⟨S4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S8208x1024, .f32⟩
  | 10 => ⟨S_, .f32⟩
  | 11 => ⟨S8208x1024, .f32⟩
  | 12 => ⟨S_, .f32⟩
  | 13 => ⟨S8208x112, .f32⟩
  | 14 => ⟨S8208x3712, .f32⟩
  | 15 => ⟨S_, .f32⟩
  | 16 => ⟨S240x3712, .f32⟩
  | 17 => ⟨S8448x3712, .f32⟩
  | 18 => ⟨S1x1536, .f32⟩
  | 19 => ⟨S8208x1536, .f32⟩
  | 20 => ⟨S8208x1536, .f32⟩
  | 21 => ⟨S8208x1536, .f32⟩
  | 22 => ⟨S8208x1536, .f32⟩
  | 23 => ⟨S1x1536, .f32⟩
  | 24 => ⟨S_, .f32⟩
  | 25 => ⟨S1x1536, .f32⟩
  | 26 => ⟨S8207x1536, .f32⟩
  | 27 => ⟨S8208x1536, .f32⟩
  | 28 => ⟨S8208x1536, .f32⟩
  | 29 => ⟨S8208x1536, .f32⟩
  | 30 => ⟨S8208x1536, .f32⟩
  | 31 => ⟨S1x1536, .f32⟩
  | 32 => ⟨S_, .f32⟩
  | 33 => ⟨S2x1536, .f32⟩
  | 34 => ⟨S8206x1536, .f32⟩
  | 35 => ⟨S8208x1536, .f32⟩
  | 36 => ⟨S8208x1536, .f32⟩
  | 37 => ⟨S8208x1536, .f32⟩
  | 38 => ⟨S8208x1536, .f32⟩
  | 39 => ⟨S1x1536, .f32⟩
  | 40 => ⟨S_, .f32⟩
  | 41 => ⟨S3x1536, .f32⟩
  | 42 => ⟨S8205x1536, .f32⟩
  | 43 => ⟨S8208x1536, .f32⟩
  | 44 => ⟨S8208x1536, .f32⟩
  | 45 => ⟨S8208x1536, .f32⟩
  | 46 => ⟨S8208x1536, .f32⟩
  | 47 => ⟨S8208x1536, .f32⟩
  | 48 => ⟨S8208x1536, .f32⟩
  | 49 => ⟨S_, .f32⟩
  | 50 => ⟨S8208x1536, .f32⟩
  | 51 => ⟨S8208x1536, .f32⟩
  | 52 => ⟨S_, .f32⟩
  | 53 => ⟨S8208x1536, .f32⟩
  | 54 => ⟨S8208x1536, .f32⟩
  | 55 => ⟨S8208x1536, .f32⟩
  | 56 => ⟨S8208x16, .f32⟩
  | 57 => ⟨S8208x16, .f32⟩
  | 58 => ⟨S_, .f32⟩
  | 59 => ⟨S8208x16, .f32⟩
  | 60 => ⟨S8208x16, .f32⟩
  | 61 => ⟨S8208x16, .f32⟩
  | 62 => ⟨S8208x16, .f32⟩
  | 63 => ⟨S8208x16, .i1⟩
  | 64 => ⟨S8208x16, .f32⟩
  | 65 => ⟨S8208x16, .f32⟩
  | 66 => ⟨S8208x16, .f32⟩
  | 67 => ⟨S8208x16, .f32⟩
  | 68 => ⟨S8208x16, .f32⟩
  | 69 => ⟨S8208x16, .f32⟩
  | 70 => ⟨S8208x16, .f32⟩
  | 71 => ⟨S8208x16, .f32⟩
  | 72 => ⟨S8208x1024, .f32⟩
  | 73 => ⟨S_, .f32⟩
  | 74 => ⟨S240x1024, .f32⟩
  | 75 => ⟨S8448x1024, .f32⟩
  | 76 => ⟨S33x256x2x8x64, .f32⟩
  | 77 => ⟨S8208x256, .f32⟩
  | 78 => ⟨S_, .f32⟩
  | 79 => ⟨S240x256, .f32⟩
  | 80 => ⟨S8448x256, .f32⟩
  | 81 => ⟨S33x256x2x128, .f32⟩
  | 82 => ⟨S8208x256, .f32⟩
  | 83 => ⟨S_, .f32⟩
  | 84 => ⟨S240x256, .f32⟩
  | 85 => ⟨S8448x256, .f32⟩
  | 86 => ⟨S33x256x2x128, .f32⟩
  | 87 => ⟨S_, .f32⟩
  | 88 => ⟨S240x16, .f32⟩
  | 89 => ⟨S8448x16, .f32⟩
  | 90 => ⟨S33x256x2x8, .f32⟩
  | 91 => ⟨S1x16, .f32⟩
  | 92 => ⟨S2x8, .f32⟩
  | 93 => ⟨S2x8, .f32⟩
  | 94 => ⟨S1x1x2x8, .f32⟩
  | 95 => ⟨S33x256x2x8, .f32⟩
  | 96 => ⟨S33x256x2x8, .f32⟩
  | 97 => ⟨S_, .f32⟩
  | 98 => ⟨S_, .f32⟩
  | 99 => ⟨S33x256x2x8, .f32⟩
  | 100 => ⟨S33x256x2x8x1, .f32⟩
  | 101 => ⟨S33x256x2x8x64, .f32⟩
  | 102 => ⟨S33x256x2x8x64, .f32⟩
  | 103 => ⟨S33x1x2x8, .f32⟩
  | 104 => ⟨S33x256x2x8, .f32⟩
  | 105 => ⟨S33x256x2x8, .f32⟩
  | 106 => ⟨S33x256x2x8, .f32⟩
  | 107 => ⟨S33x256x2x8x1, .f32⟩
  | 108 => ⟨S33x256x2x8x64, .f32⟩
  | 109 => ⟨S33x256x2x8x64, .f32⟩
  | 110 => ⟨S33x2x8x64x128, .f32⟩
  | 111 => ⟨S33x1x2x8, .f32⟩
  | 112 => ⟨S33x2x8, .f32⟩
  | 113 => ⟨S33x2x8, .f32⟩
  | 114 => ⟨S33x2x8x1x1, .f32⟩
  | 115 => ⟨S33x2x8x64x128, .f32⟩
  | 116 => ⟨S_, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S8208x1024, .f32⟩

abbrev hbmTy0_1 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S1x2x8x64x128, .f32⟩
  | 10 => ⟨S1x2x8x64x128, .f32⟩
  | 11 => ⟨S1x2x8x64x128, .f32⟩
  | 12 => ⟨S1x2x8x64x128, .f32⟩
  | 13 => ⟨S1x2x8x64x128, .f32⟩
  | 14 => ⟨S1x2x8x64x128, .f32⟩
  | 15 => ⟨S1x2x8x64x128, .f32⟩
  | 16 => ⟨S1x2x8x64x128, .f32⟩
  | 17 => ⟨S1x2x8x64x128, .f32⟩
  | 18 => ⟨S1x2x8x64x128, .f32⟩
  | 19 => ⟨S1x2x8x64x128, .f32⟩
  | 20 => ⟨S1x2x8x64x128, .f32⟩
  | 21 => ⟨S1x2x8x64x128, .f32⟩
  | 22 => ⟨S1x2x8x64x128, .f32⟩
  | 23 => ⟨S1x2x8x64x128, .f32⟩
  | 24 => ⟨S1x2x8x64x128, .f32⟩
  | 25 => ⟨S1x2x8x64x128, .f32⟩
  | 26 => ⟨S1x2x8x64x128, .f32⟩
  | 27 => ⟨S1x2x8x64x128, .f32⟩
  | 28 => ⟨S1x2x8x64x128, .f32⟩
  | 29 => ⟨S1x2x8x64x128, .f32⟩
  | 30 => ⟨S1x2x8x64x128, .f32⟩
  | 31 => ⟨S1x2x8x64x128, .f32⟩
  | 32 => ⟨S1x2x8x64x128, .f32⟩
  | 33 => ⟨S1x2x8x64x128, .f32⟩
  | 34 => ⟨S1x2x8x64x128, .f32⟩
  | 35 => ⟨S1x2x8x64x128, .f32⟩
  | 36 => ⟨S1x2x8x64x128, .f32⟩
  | 37 => ⟨S1x2x8x64x128, .f32⟩
  | 38 => ⟨S1x2x8x64x128, .f32⟩
  | 39 => ⟨S1x2x8x64x128, .f32⟩
  | 40 => ⟨S1x2x8x64x128, .f32⟩
  | 41 => ⟨S1x2x8x64x128, .f32⟩
  | 42 => ⟨S1x2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S1x2x8x64x128, .f32⟩
  | 48 => ⟨S1x2x8x64x128, .f32⟩
  | 49 => ⟨S1x2x8x64x128, .f32⟩
  | 50 => ⟨S1x2x8x64x128, .f32⟩
  | 51 => ⟨S1x2x8x64x128, .f32⟩
  | 52 => ⟨S1x2x8x64x128, .f32⟩
  | 53 => ⟨S1x2x8x64x128, .f32⟩
  | 54 => ⟨S1x2x8x64x128, .f32⟩
  | 55 => ⟨S1x2x8x64x128, .f32⟩
  | 56 => ⟨S1x2x8x64x128, .f32⟩
  | 57 => ⟨S1x2x8x64x128, .f32⟩
  | 58 => ⟨S1x2x8x64x128, .f32⟩
  | 59 => ⟨S1x2x8x64x128, .f32⟩
  | 60 => ⟨S1x2x8x64x128, .f32⟩
  | 61 => ⟨S1x2x8x64x128, .f32⟩
  | 62 => ⟨S1x2x8x64x128, .f32⟩
  | 63 => ⟨S1x2x8x64x128, .f32⟩
  | 64 => ⟨S1x2x8x64x128, .f32⟩
  | 65 => ⟨S1x2x8x64x128, .f32⟩
  | 66 => ⟨S1x2x8x64x128, .f32⟩
  | 67 => ⟨S1x2x8x64x128, .f32⟩
  | 68 => ⟨S1x2x8x64x128, .f32⟩
  | 69 => ⟨S1x2x8x64x128, .f32⟩
  | 70 => ⟨S1x2x8x64x128, .f32⟩
  | 71 => ⟨S1x2x8x64x128, .f32⟩
  | 72 => ⟨S1x2x8x64x128, .f32⟩
  | 73 => ⟨S1x2x8x64x128, .f32⟩
  | 74 => ⟨S1x2x8x64x128, .f32⟩
  | 75 => ⟨S1x2x8x64x128, .f32⟩
  | 76 => ⟨S1x2x8x64x128, .f32⟩
  | 77 => ⟨S1x2x8x64x128, .f32⟩
  | 78 => ⟨S1x2x8x64x128, .f32⟩
  | 79 => ⟨S1x2x8x64x128, .f32⟩
  | 80 => ⟨S1x2x8x64x128, .f32⟩
  | 81 => ⟨S1x2x8x64x128, .f32⟩
  | 82 => ⟨S1x2x8x64x128, .f32⟩
  | 83 => ⟨S1x2x8x64x128, .f32⟩
  | 84 => ⟨S1x2x8x64x128, .f32⟩
  | 85 => ⟨S1x2x8x64x128, .f32⟩
  | 86 => ⟨S1x2x8x64x128, .f32⟩
  | 87 => ⟨S1x2x8x64x128, .f32⟩
  | 88 => ⟨S1x2x8x64x128, .f32⟩
  | 89 => ⟨S1x2x8x64x128, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S1x2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S11x2x8x64x128, .f32⟩
  | 123 => ⟨S11x2x8x64x128, .f32⟩
  | 124 => ⟨S11x2x8x64x128, .f32⟩
  | 125 => ⟨S33x2x8x64x128, .f32⟩
  | 126 => ⟨S_, .i1⟩
  | 127 => ⟨S256x256, .i1⟩
  | _ => ⟨S8208x1024, .f32⟩

abbrev hbmTy0_2 (i : Nat) : BufTy := match i % 128 with
  | 0 => ⟨S256x256, .i32⟩
  | 1 => ⟨S_, .i32⟩
  | 2 => ⟨S256x256, .i32⟩
  | 3 => ⟨S256x256, .i32⟩
  | 4 => ⟨S256x256, .i32⟩
  | 5 => ⟨S256x256, .i1⟩
  | 6 => ⟨S_, .i1⟩
  | 7 => ⟨S256x256, .i1⟩
  | 8 => ⟨S256x256, .i1⟩
  | 9 => ⟨S256x256x1x1, .i1⟩
  | 10 => ⟨S33x256x1x2x8, .f32⟩
  | 11 => ⟨S33x1x256x2x8, .f32⟩
  | 12 => ⟨S33x256x256x2x8, .f32⟩
  | 13 => ⟨S33x256x256x2x8, .f32⟩
  | 14 => ⟨S33x256x256x2x8, .f32⟩
  | 15 => ⟨S_, .f32⟩
  | 16 => ⟨S_, .f32⟩
  | 17 => ⟨S33x256x256x2x8, .i1⟩
  | 18 => ⟨S33x256x256x2x8, .f32⟩
  | 19 => ⟨S33x256x256x2x8, .f32⟩
  | 20 => ⟨S33x256x256x2x8, .f32⟩
  | 21 => ⟨S33x2x256x256, .f32⟩
  | 22 => ⟨S33x256x256x2, .f32⟩
  | 23 => ⟨S33x256x256x2x1, .f32⟩
  | 24 => ⟨S33x256x256x2x8, .f32⟩
  | 25 => ⟨S33x256x256x2x8, .f32⟩
  | 26 => ⟨S33x2x8x64x256, .f32⟩
  | 27 => ⟨S33x256x2x8x64, .f32⟩
  | 28 => ⟨S33x2x8x64x256, .f32⟩
  | 29 => ⟨S33x256x2x8x64, .f32⟩
  | 30 => ⟨S33x256x2x8, .f32⟩
  | 31 => ⟨S33x256x2x8x1, .f32⟩
  | 32 => ⟨S33x256x2x8x64, .f32⟩
  | 33 => ⟨S33x256x2x8x64, .f32⟩
  | 34 => ⟨S33x256x2x8x64, .f32⟩
  | 35 => ⟨S2x8x1, .f32⟩
  | 36 => ⟨S1x1x2x8x1, .f32⟩
  | 37 => ⟨S33x256x2x8x64, .f32⟩
  | 38 => ⟨S33x256x2x8x64, .f32⟩
  | 39 => ⟨S33x256x2x8x64, .f32⟩
  | 40 => ⟨S8448x1024, .f32⟩
  | 41 => ⟨S8208x1024, .f32⟩
  | 42 => ⟨S33x2x128x8x64, .f32⟩
  | 43 => ⟨S33x2x128x512, .f32⟩
  | 44 => ⟨S_, .f32⟩
  | 45 => ⟨S240x1536, .f32⟩
  | 46 => ⟨S8448x1536, .f32⟩
  | 47 => ⟨S_, .f32⟩
  | 48 => ⟨S240x1024, .f32⟩
  | 49 => ⟨S8448x1024, .f32⟩
  | 50 => ⟨S_, .f32⟩
  | 51 => ⟨S240x1024, .f32⟩
  | 52 => ⟨S8448x1024, .f32⟩
  | 53 => ⟨S_, .f32⟩
  | 54 => ⟨S8448x1024, .f32⟩
  | 55 => ⟨S8448x3712, .bf16⟩
  | 56 => ⟨S8x1536, .f32⟩
  | 57 => ⟨S8x1536, .f32⟩
  | 58 => ⟨S8x16, .f32⟩
  | 59 => ⟨S8x16, .f32⟩
  | 60 => ⟨S8x1024, .f32⟩
  | 61 => ⟨S8x1024, .f32⟩
  | 62 => ⟨S8208x3712, .bf16⟩
  | 63 => ⟨S8208x1024, .bf16⟩
  | 64 => ⟨S8208x1536, .bf16⟩
  | 65 => ⟨S8208x16, .bf16⟩
  | 66 => ⟨S4x1536, .f32⟩
  | 67 => ⟨S_, .f32⟩
  | 68 => ⟨S1536, .f32⟩
  | 69 => ⟨S1x1536, .f32⟩
  | 70 => ⟨S_, .f32⟩
  | 71 => ⟨S16, .f32⟩
  | 72 => ⟨S1x16, .f32⟩
  | 73 => ⟨S_, .f32⟩
  | 74 => ⟨S16, .f32⟩
  | 75 => ⟨S1x16, .f32⟩
  | 76 => ⟨S_, .f32⟩
  | 77 => ⟨S1024, .f32⟩
  | 78 => ⟨S1x1024, .f32⟩
  | 79 => ⟨S16x64, .f32⟩
  | 80 => ⟨S_, .f32⟩
  | 81 => ⟨S16, .f32⟩
  | 82 => ⟨S1x16, .f32⟩
  | 83 => ⟨S_, .f32⟩
  | 84 => ⟨S1024, .f32⟩
  | 85 => ⟨S1x1024, .f32⟩
  | _ => ⟨S8208x1024, .f32⟩

abbrev hbmTy (i : Nat) : BufTy := match i / 128 with
  | 0 => hbmTy0_0 i
  | 1 => hbmTy0_1 i
  | 2 => hbmTy0_2 i
  | _ => ⟨S8208x1024, .f32⟩

abbrev bufTy : (tb : Table) → Fin (tcTables nBuf tb) → BufTy
  | .hbm, ⟨i, _⟩ => hbmTy i
  | .local _ .vmem, ⟨0, _⟩ => ⟨S256x3712, .f32⟩
  | .local _ .vmem, ⟨1, _⟩ => ⟨S256x3712, .f32⟩
  | .local _ .vmem, ⟨2, _⟩ => ⟨S256x1536, .f32⟩
  | .local _ .vmem, ⟨3, _⟩ => ⟨S256x1536, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x2x128x512, .f32⟩
  | .local _ .vmem, ⟨11, _⟩ => ⟨S1x2x128x512, .f32⟩
  | .local _ .vmem, ⟨12, _⟩ => ⟨S4x1536, .f32⟩
  | .local _ .vmem, ⟨13, _⟩ => ⟨S1x1536, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S1x1024, .f32⟩
  | .local _ .vmem, ⟨18, _⟩ => ⟨S256x3712, .bf16⟩
  | .local _ .vmem, ⟨19, _⟩ => ⟨S256x3712, .bf16⟩
  | .local _ .vmem, ⟨20, _⟩ => ⟨S8x1536, .f32⟩
  | .local _ .vmem, ⟨21, _⟩ => ⟨S8x1536, .f32⟩
  | .local _ .vmem, ⟨22, _⟩ => ⟨S8x16, .f32⟩
  | .local _ .vmem, ⟨23, _⟩ => ⟨S8x16, .f32⟩
  | .local _ .vmem, ⟨24, _⟩ => ⟨S8x1024, .f32⟩
  | .local _ .vmem, ⟨25, _⟩ => ⟨S8x1024, .f32⟩
  | .local _ .vmem, ⟨26, _⟩ => ⟨S8x1536, .f32⟩
  | .local _ .vmem, ⟨27, _⟩ => ⟨S2x128x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call0_call0_cst : Ref sig .tc := ⟨.hbm, 97, rfl⟩
abbrev main_call0_call0_v0 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_12 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_c : Ref sig .tc := ⟨.hbm, 254, rfl⟩
abbrev main_v228 : Ref sig .tc := ⟨.hbm, 255, rfl⟩
abbrev main_call1_v0 : Ref sig .tc := ⟨.hbm, 256, rfl⟩
abbrev main_call1_c : Ref sig .tc := ⟨.hbm, 257, rfl⟩
abbrev main_call1_v1 : Ref sig .tc := ⟨.hbm, 258, rfl⟩
abbrev main_call1_v2 : Ref sig .tc := ⟨.hbm, 259, rfl⟩
abbrev main_call1_v3 : Ref sig .tc := ⟨.hbm, 260, rfl⟩
abbrev main_call1_v4 : Ref sig .tc := ⟨.hbm, 261, rfl⟩
abbrev main_call1_c_0 : Ref sig .tc := ⟨.hbm, 262, rfl⟩
abbrev main_call1_v5 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_cst_13 : Ref sig .tc := ⟨.hbm, 271, rfl⟩
abbrev main_call2_v0 : Ref sig .tc := ⟨.hbm, 272, rfl⟩
abbrev main_call2_v1 : Ref sig .tc := ⟨.hbm, 273, rfl⟩
abbrev main_call2_v2 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_14 : Ref sig .tc := ⟨.hbm, 300, rfl⟩
abbrev main_v261 : Ref sig .tc := ⟨.hbm, 301, rfl⟩
abbrev main_v262 : Ref sig .tc := ⟨.hbm, 302, rfl⟩
abbrev main_cst_15 : Ref sig .tc := ⟨.hbm, 303, rfl⟩
abbrev main_v263 : Ref sig .tc := ⟨.hbm, 304, rfl⟩
abbrev main_v264 : Ref sig .tc := ⟨.hbm, 305, rfl⟩
abbrev main_cst_16 : Ref sig .tc := ⟨.hbm, 306, rfl⟩
abbrev main_v265 : Ref sig .tc := ⟨.hbm, 307, rfl⟩
abbrev main_v266 : Ref sig .tc := ⟨.hbm, 308, rfl⟩
abbrev main_cst_17 : Ref sig .tc := ⟨.hbm, 309, rfl⟩
abbrev main_v267 : Ref sig .tc := ⟨.hbm, 310, rfl⟩
abbrev main_v268_0 : Ref sig .tc := ⟨.hbm, 311, rfl⟩
abbrev main_v268_1 : Ref sig .tc := ⟨.hbm, 312, rfl⟩
abbrev main_v268_2 : Ref sig .tc := ⟨.hbm, 313, rfl⟩
abbrev main_v268_3 : Ref sig .tc := ⟨.hbm, 314, rfl⟩
abbrev main_v268_4 : Ref sig .tc := ⟨.hbm, 315, rfl⟩
abbrev main_v268_5 : Ref sig .tc := ⟨.hbm, 316, rfl⟩
abbrev main_v268_6 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_cst_18 : Ref sig .tc := ⟨.hbm, 323, rfl⟩
abbrev main_v274 : Ref sig .tc := ⟨.hbm, 324, rfl⟩
abbrev main_v275 : Ref sig .tc := ⟨.hbm, 325, rfl⟩
abbrev main_cst_19 : Ref sig .tc := ⟨.hbm, 326, rfl⟩
abbrev main_v276 : Ref sig .tc := ⟨.hbm, 327, rfl⟩
abbrev main_v277 : Ref sig .tc := ⟨.hbm, 328, rfl⟩
abbrev main_cst_20 : Ref sig .tc := ⟨.hbm, 329, rfl⟩
abbrev main_v278 : Ref sig .tc := ⟨.hbm, 330, rfl⟩
abbrev main_v279 : Ref sig .tc := ⟨.hbm, 331, rfl⟩
abbrev main_cst_21 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_cst_22 : Ref sig .tc := ⟨.hbm, 336, rfl⟩
abbrev main_v283 : Ref sig .tc := ⟨.hbm, 337, rfl⟩
abbrev main_v284 : Ref sig .tc := ⟨.hbm, 338, rfl⟩
abbrev main_cst_23 : Ref sig .tc := ⟨.hbm, 339, rfl⟩
abbrev main_v285 : Ref sig .tc := ⟨.hbm, 340, rfl⟩
abbrev main_v286 : Ref sig .tc := ⟨.hbm, 341, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3712 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== SFiveFwd.lean ====
abbrev S8208x1024 : Shape := ⟨2, ![8208, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S64x1 : Shape := ⟨2, ![64, 1]⟩
abbrev S_ : Shape := ⟨0, ![]⟩
abbrev S64x64x1 : Shape := ⟨3, ![64, 64, 1]⟩
abbrev S8x512 : Shape := ⟨2, ![8, 512]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8208x1664 : Shape := ⟨2, ![8208, 1664]⟩
abbrev S8208x3712 : Shape := ⟨2, ![8208, 3712]⟩
abbrev S240x3712 : Shape := ⟨2, ![240, 3712]⟩
abbrev S8448x3712 : Shape := ⟨2, ![8448, 3712]⟩
abbrev S1x1024 : Shape := ⟨2, ![1, 1024]⟩
abbrev S33x8x2080x128 : Shape := ⟨4, ![33, 8, 2080, 128]⟩
abbrev S8448x1024 : Shape := ⟨2, ![8448, 1024]⟩
abbrev S256x1024 : Shape := ⟨2, ![256, 1024]⟩
abbrev S1x8x2080x128 : Shape := ⟨4, ![1, 8, 2080, 128]⟩
abbrev S8x2080x128 : Shape := ⟨3, ![8, 2080, 128]⟩
abbrev S8x8x128 : Shape := ⟨3, ![8, 8, 128]⟩
abbrev S256x128 : Shape := ⟨2, ![256, 128]⟩
abbrev S1x128x1024 : Shape := ⟨3, ![1, 128, 1024]⟩
abbrev S128x1024 : Shape := ⟨2, ![128, 1024]⟩
abbrev S1x256x128 : Shape := ⟨3, ![1, 256, 128]⟩
abbrev S8x128 : Shape := ⟨2, ![8, 128]⟩
abbrev S1x8x128 : Shape := ⟨3, ![1, 8, 128]⟩
abbrev S1x1x8x128 : Shape := ⟨4, ![1, 1, 8, 128]⟩
abbrev S1x1x256x128 : Shape := ⟨4, ![1, 1, 256, 128]⟩

abbrev nBuf : Space → Nat
  | .hbm => 122
  | .vmem => 15
  | .smem => 0
  | _ => 0

abbrev bufTy : (tb : Table) → Fin (tcTables nBuf tb) → BufTy
  | .hbm, ⟨0, _⟩ => ⟨S8208x1024, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S64x16, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S8x512, .f32⟩
  | .hbm, ⟨54, _⟩ => ⟨S8x512, .f32⟩
  | .hbm, ⟨55, _⟩ => ⟨S8x8, .i32⟩
  | .hbm, ⟨56, _⟩ => ⟨S8x8, .i32⟩
  | .hbm, ⟨57, _⟩ => ⟨S_, .i32⟩
  | .hbm, ⟨58, _⟩ => ⟨S8x8, .i32⟩
  | .hbm, ⟨59, _⟩ => ⟨S8x8, .i32⟩
  | .hbm, ⟨60, _⟩ => ⟨S8x8, .i1⟩
  | .hbm, ⟨61, _⟩ => ⟨S8x8, .f32⟩
  | .hbm, ⟨62, _⟩ => ⟨S8x8x64x16, .f32⟩
  | .hbm, ⟨63, _⟩ => ⟨S8x8x16x64, .f32⟩
  | .hbm, ⟨64, _⟩ => ⟨S8x8x16x1x64, .f32⟩
  | .hbm, ⟨65, _⟩ => ⟨S1x8x1x8x1, .f32⟩
  | .hbm, ⟨66, _⟩ => ⟨S8x8x16x8x64, .f32⟩
  | .hbm, ⟨67, _⟩ => ⟨S8x8x16x8x64, .f32⟩
  | .hbm, ⟨68, _⟩ => ⟨S8x8x16x8x64, .f32⟩
  | .hbm, ⟨69, _⟩ => ⟨S8x128x512, .f32⟩
  | .hbm, ⟨70, _⟩ => ⟨S8x8x64x16, .f32⟩
  | .hbm, ⟨71, _⟩ => ⟨S8x8x16x64, .f32⟩
  | .hbm, ⟨72, _⟩ => ⟨S8x8x16x1x64, .f32⟩
  | .hbm, ⟨73, _⟩ => ⟨S1x8x1x8x1, .f32⟩
  | .hbm, ⟨74, _⟩ => ⟨S8x8x16x8x64, .f32⟩
  | .hbm, ⟨75, _⟩ => ⟨S8x8x16x8x64, .f32⟩
  | .hbm, ⟨76, _⟩ => ⟨S8x8x16x8x64, .f32⟩
  | .hbm, ⟨77, _⟩ => ⟨S8x128x512, .f32⟩
  | .hbm, ⟨78, _⟩ => ⟨S8x128x1024, .f32⟩
  | .hbm, ⟨79, _⟩ => ⟨S64x64x16, .f32⟩
  | .hbm, ⟨80, _⟩ => ⟨S64x64x16, .f32⟩
  | .hbm, ⟨81, _⟩ => ⟨S64x64x16, .f32⟩
  | .hbm, ⟨82, _⟩ => ⟨S8x8, .i32⟩
  | .hbm, ⟨83, _⟩ => ⟨S8x8, .i32⟩
  | .hbm, ⟨84, _⟩ => ⟨S_, .i32⟩
  | .hbm, ⟨85, _⟩ => ⟨S8x8, .i32⟩
  | .hbm, ⟨86, _⟩ => ⟨S8x8, .i32⟩
  | .hbm, ⟨87, _⟩ => ⟨S8x8, .i1⟩
  | .hbm, ⟨88, _⟩ => ⟨S8x8, .f32⟩
  | .hbm, ⟨89, _⟩ => ⟨S8x8x64x16, .f32⟩
  | .hbm, ⟨90, _⟩ => ⟨S8x8x16x64, .f32⟩
  | .hbm, ⟨91, _⟩ => ⟨S8x8x16x1x64, .f32⟩
  | .hbm, ⟨92, _⟩ => ⟨S1x8x1x8x1, .f32⟩
  | .hbm, ⟨93, _⟩ => ⟨S8x8x16x8x64, .f32⟩
  | .hbm, ⟨94, _⟩ => ⟨S8x8x16x8x64, .f32⟩
  | .hbm, ⟨95, _⟩ => ⟨S8x8x16x8x64, .f32⟩
  | .hbm, ⟨96, _⟩ => ⟨S8x128x512, .f32⟩
  | .hbm, ⟨97, _⟩ => ⟨S8x8x64x16, .f32⟩
  | .hbm, ⟨98, _⟩ => ⟨S8x8x16x64, .f32⟩
  | .hbm, ⟨99, _⟩ => ⟨S8x8x16x1x64, .f32⟩
  | .hbm, ⟨100, _⟩ => ⟨S1x8x1x8x1, .f32⟩
  | .hbm, ⟨101, _⟩ => ⟨S8x8x16x8x64, .f32⟩
  | .hbm, ⟨102, _⟩ => ⟨S8x8x16x8x64, .f32⟩
  | .hbm, ⟨103, _⟩ => ⟨S8x8x16x8x64, .f32⟩
  | .hbm, ⟨104, _⟩ => ⟨S8x128x512, .f32⟩
  | .hbm, ⟨105, _⟩ => ⟨S8x128x1024, .f32⟩
  | .hbm, ⟨106, _⟩ => ⟨S_, .f32⟩
  | .hbm, ⟨107, _⟩ => ⟨S8208x1024, .f32⟩
  | .hbm, ⟨108, _⟩ => ⟨S_, .f32⟩
  | .hbm, ⟨109, _⟩ => ⟨S8208x1664, .f32⟩
  | .hbm, ⟨110, _⟩ => ⟨S8208x3712, .f32⟩
  | .hbm, ⟨111, _⟩ => ⟨S_, .f32⟩
  | .hbm, ⟨112, _⟩ => ⟨S240x3712, .f32⟩
  | .hbm, ⟨113, _⟩ => ⟨S8448x3712, .f32⟩
  | .hbm, ⟨114, _⟩ => ⟨S8x128x1024, .bf16⟩
  | .hbm, ⟨115, _⟩ => ⟨S8x128x1024, .bf16⟩
  | .hbm, ⟨116, _⟩ => ⟨S1x1024, .f32⟩
  | .hbm, ⟨117, _⟩ => ⟨S33x8x2080x128, .f32⟩
  | .hbm, ⟨118, _⟩ => ⟨S8448x1024, .f32⟩
  | .hbm, ⟨119, _⟩ => ⟨S8448x1024, .bf16⟩
  | .hbm, ⟨120, _⟩ => ⟨S8208x1024, .f32⟩
  | .hbm, ⟨121, _⟩ => ⟨S8208x1024, .bf16⟩
  | .local _ .vmem, ⟨0, _⟩ => ⟨S256x1024, .f32⟩
  | .local _ .vmem, ⟨1, _⟩ => ⟨S256x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x512, .f32⟩
  | .local _ .vmem, ⟨5, _⟩ => ⟨S8x512, .f32⟩
  | .local _ .vmem, ⟨6, _⟩ => ⟨S1x1024, .f32⟩
  | .local _ .vmem, ⟨7, _⟩ => ⟨S1x8x2080x128, .f32⟩
  | .local _ .vmem, ⟨8, _⟩ => ⟨S1x8x2080x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x2080x128, .f32⟩
  | .local _ .vmem, ⟨14, _⟩ => ⟨S8x8x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_c_1 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_2 : Ref sig .tc := ⟨.hbm, 106, rfl⟩
abbrev main_v93 : Ref sig .tc := ⟨.hbm, 107, rfl⟩
abbrev main_cst_3 : Ref sig .tc := ⟨.hbm, 108, rfl⟩
abbrev main_v94 : Ref sig .tc := ⟨.hbm, 109, rfl⟩
abbrev main_v95 : Ref sig .tc := ⟨.hbm, 110, rfl⟩
abbrev main_cst_4 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101_0 : Ref sig .tc := ⟨.hbm, 117, rfl⟩
abbrev main_v101_1 : Ref sig .tc := ⟨.hbm, 118, rfl⟩
abbrev main_v101_2 : Ref sig .tc := ⟨.hbm, 119, rfl⟩
abbrev main_v102 : Ref sig .tc := ⟨.hbm, 120, rfl⟩
abbrev main_v103 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_248 : BitVec 32 := 0#32
  let c32_i32 : BitVec 32 := 32#32
  let v326 : BitVec 32 := Scalar.addi c0_i32_248 c32_i32
  let c1_i32 : BitVec 32 := 1#32
  ⟨c0_i32_248, v326, c1_i32⟩
def k0_off1 (k0_t1 : Fin k0_t1_loop.trips) (c0_i32_571 : BitVec 32) : Fin 3 → Nat :=
  let c0_572 : Index := 0#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v542 : Index := Scalar.indexCast v538
  let c0_573 : Index := 0#32
  ![0, v542.toNat, 0]
def k0_off2 (k0_t1 : Fin k0_t1_loop.trips) (c0_i32_571 : BitVec 32) : Fin 3 → Nat :=
  let c4_574 : Index := 4#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v549 : Index := Scalar.indexCast v538
  let c0_575 : Index := 0#32
  ![4, v549.toNat, 0]
def k0_off3 (k0_t1 : Fin k0_t1_loop.trips) (c0_i32_571 : BitVec 32) : Fin 4 → Nat :=
  let c0_576 : Index := 0#32
  let c0_577 : Index := 0#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v553 : Index := Scalar.indexCast v538
  let c0_578 : Index := 0#32
  ![0, 0, v553.toNat, 0]
def k0_off4 (k0_t1 : Fin k0_t1_loop.trips) (c0_i32_571 : BitVec 32) : Fin 4 → Nat :=
  let c0_579 : Index := 0#32
  let c4_580 : Index := 4#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v557 : Index := Scalar.indexCast v538
  let c0_581 : Index := 0#32
  ![0, 4, v557.toNat, 0]
def k0_off5 (k0_t1 : Fin k0_t1_loop.trips) (c0_i32_571 : BitVec 32) : Fin 3 → Nat :=
  let c1_582 : Index := 1#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v564 : Index := Scalar.indexCast v538
  let c0_583 : Index := 0#32
  ![1, v564.toNat, 0]
def k0_off6 (k0_t1 : Fin k0_t1_loop.trips) (c0_i32_571 : BitVec 32) : Fin 3 → Nat :=
  let c5_584 : Index := 5#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v571 : Index := Scalar.indexCast v538
  let c0_585 : Index := 0#32
  ![5, v571.toNat, 0]
def k0_off7 (k0_t1 : Fin k0_t1_loop.trips) (c0_i32_571 : BitVec 32) : Fin 4 → Nat :=
  let c0_586 : Index := 0#32
  let c1_587 : Index := 1#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v575 : Index := Scalar.indexCast v538
  let c0_588 : Index := 0#32
  ![0, 1, v575.toNat, 0]
def k0_off8 (k0_t1 : Fin k0_t1_loop.trips) (c0_i32_571 : BitVec 32) : Fin 4 → Nat :=
  let c0_589 : Index := 0#32
  let c5_590 : Index := 5#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v579 : Index := Scalar.indexCast v538
  let c0_591 : Index := 0#32
  ![0, 5, v579.toNat, 0]
def k0_off9 (k0_t1 : Fin k0_t1_loop.trips) (c0_i32_571 : BitVec 32) : Fin 3 → Nat :=
  let c2_592 : Index := 2#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v586 : Index := Scalar.indexCast v538
  let c0_593 : Index := 0#32
  ![2, v586.toNat, 0]
def k0_off10 (k0_t1 : Fin k0_t1_loop.trips) (c0_i32_571 : BitVec 32) : Fin 3 → Nat :=
  let c6_594 : Index := 6#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v593 : Index := Scalar.indexCast v538
  let c0_595 : Index := 0#32
  ![6, v593.toNat, 0]
def k0_off11 (k0_t1 : Fin k0_t1_loop.trips) (c0_i32_571 : BitVec 32) : Fin 4 → Nat :=
  let c0_596 : Index := 0#32
  let c2_597 : Index := 2#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v597 : Index := Scalar.indexCast v538
  let c0_598 : Index := 0#32
  ![0, 2, v597.toNat, 0]
def k0_off12 (k0_t1 : Fin k0_t1_loop.trips) (c0_i32_571 : BitVec 32) : Fin 4 → Nat :=
  let c0_599 : Index := 0#32
  let c6_600 : Index := 6#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v601 : Index := Scalar.indexCast v538
  let c0_601 : Index := 0#32
  ![0, 6, v601.toNat, 0]
def k0_off13 (k0_t1 : Fin k0_t1_loop.trips) (c0_i32_571 : BitVec 32) : Fin 3 → Nat :=
  let c3_602 : Index := 3#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v608 : Index := Scalar.indexCast v538
  let c0_603 : Index := 0#32
  ![3, v608.toNat, 0]
def k0_off14 (k0_t1 : Fin k0_t1_loop.trips) (c0_i32_571 : BitVec 32) : Fin 3 → Nat :=
  let c7_604 : Index := 7#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v615 : Index := Scalar.indexCast v538
  let c0_605 : Index := 0#32
  ![7, v615.toNat, 0]
def k0_off15 (k0_t1 : Fin k0_t1_loop.trips) (c0_i32_571 : BitVec 32) : Fin 4 → Nat :=
  let c0_606 : Index := 0#32
  let c3_607 : Index := 3#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v619 : Index := Scalar.indexCast v538
  let c0_608 : Index := 0#32
  ![0, 3, v619.toNat, 0]
def k0_off16 (k0_t1 : Fin k0_t1_loop.trips) (c0_i32_571 : BitVec 32) : Fin 4 → Nat :=
  let c0_609 : Index := 0#32
  let c7_610 : Index := 7#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v623 : Index := Scalar.indexCast v538
  let c0_611 : Index := 0#32
  ![0, 7, v623.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x2080x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SFiveBwd.lean ====
abbrev S8208x1024 : Shape := ⟨2, ![8208, 1024]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S8x512 : Shape := ⟨2, ![8, 512]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S1x1024 : Shape := ⟨2, ![1, 1024]⟩
abbrev S8208x1664 : Shape := ⟨2, ![8208, 1664]⟩
abbrev S8208x3712 : Shape := ⟨2, ![8208, 3712]⟩
abbrev S240x3712 : Shape := ⟨2, ![240, 3712]⟩
abbrev S8448x3712 : Shape := ⟨2, ![8448, 3712]⟩
abbrev S33x8x2080x128 : Shape := ⟨4, ![33, 8, 2080, 128]⟩
abbrev S8448x1024 : Shape := ⟨2, ![8448, 1024]⟩
abbrev S256x1024 : Shape := ⟨2, ![256, 1024]⟩
abbrev S1x8x2080x128 : Shape := ⟨4, ![1, 8, 2080, 128]⟩
abbrev S8x2080x128 : Shape := ⟨3, ![8, 2080, 128]⟩
abbrev S8x8x128 : Shape := ⟨3, ![8, 8, 128]⟩
abbrev S256x128 : Shape := ⟨2, ![256, 128]⟩
abbrev S1x128x1024 : Shape := ⟨3, ![1, 128, 1024]⟩
abbrev S128x1024 : Shape := ⟨2, ![128, 1024]⟩
abbrev S1x256x128 : Shape := ⟨3, ![1, 256, 128]⟩
abbrev S8x128 : Shape := ⟨2, ![8, 128]⟩
abbrev S1x8x128 : Shape := ⟨3, ![1, 8, 128]⟩
abbrev S1x1x8x128 : Shape := ⟨4, ![1, 1, 8, 128]⟩
abbrev S1x1x256x128 : Shape := ⟨4, ![1, 1, 256, 128]⟩
abbrev S240x1024 : Shape := ⟨2, ![240, 1024]⟩
abbrev S8x1024 : Shape := ⟨2, ![8, 1024]⟩
abbrev S32x8x1024 : Shape := ⟨3, ![32, 8, 1024]⟩

abbrev nBuf : Space → Nat
  | .hbm => 85
  | .vmem => 34
  | .smem => 0
  | _ => 0

abbrev bufTy : (tb : Table) → Fin (tcTables nBuf tb) → BufTy
  | .hbm, ⟨0, _⟩ => ⟨S8208x1024, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x16, .f32⟩
  | .hbm, ⟨8, _⟩ => ⟨S8208x1024, .f32⟩
  | .hbm, ⟨9, _⟩ => ⟨S8x512, .f32⟩
  | .hbm, ⟨10, _⟩ => ⟨S8x512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x8x64x16, .f32⟩
  | .hbm, ⟨19, _⟩ => ⟨S8x8x16x64, .f32⟩
  | .hbm, ⟨20, _⟩ => ⟨S8x8x16x1x64, .f32⟩
  | .hbm, ⟨21, _⟩ => ⟨S1x8x1x8x1, .f32⟩
  | .hbm, ⟨22, _⟩ => ⟨S8x8x16x8x64, .f32⟩
  | .hbm, ⟨23, _⟩ => ⟨S8x8x16x8x64, .f32⟩
  | .hbm, ⟨24, _⟩ => ⟨S8x8x16x8x64, .f32⟩
  | .hbm, ⟨25, _⟩ => ⟨S8x128x512, .f32⟩
  | .hbm, ⟨26, _⟩ => ⟨S8x8x64x16, .f32⟩
  | .hbm, ⟨27, _⟩ => ⟨S8x8x16x64, .f32⟩
  | .hbm, ⟨28, _⟩ => ⟨S8x8x16x1x64, .f32⟩
  | .hbm, ⟨29, _⟩ => ⟨S1x8x1x8x1, .f32⟩
  | .hbm, ⟨30, _⟩ => ⟨S8x8x16x8x64, .f32⟩
  | .hbm, ⟨31, _⟩ => ⟨S8x8x16x8x64, .f32⟩
  | .hbm, ⟨32, _⟩ => ⟨S8x8x16x8x64, .f32⟩
  | .hbm, ⟨33, _⟩ => ⟨S8x128x512, .f32⟩
  | .hbm, ⟨34, _⟩ => ⟨S8x128x1024, .f32⟩
  | .hbm, ⟨35, _⟩ => ⟨S8x128x1024, .bf16⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S8x8, .i32⟩
  | .hbm, ⟨40, _⟩ => ⟨S8x8, .i32⟩
  | .hbm, ⟨41, _⟩ => ⟨S_, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S8x8, .f32⟩
  | .hbm, ⟨46, _⟩ => ⟨S8x8x64x16, .f32⟩
  | .hbm, ⟨47, _⟩ => ⟨S8x8x16x64, .f32⟩
  | .hbm, ⟨48, _⟩ => ⟨S8x8x16x1x64, .f32⟩
  | .hbm, ⟨49, _⟩ => ⟨S1x8x1x8x1, .f32⟩
  | .hbm, ⟨50, _⟩ => ⟨S8x8x16x8x64, .f32⟩
  | .hbm, ⟨51, _⟩ => ⟨S8x8x16x8x64, .f32⟩
  | .hbm, ⟨52, _⟩ => ⟨S8x8x16x8x64, .f32⟩
  | .hbm, ⟨53, _⟩ => ⟨S8x128x512, .f32⟩
  | .hbm, ⟨54, _⟩ => ⟨S8x8x64x16, .f32⟩
  | .hbm, ⟨55, _⟩ => ⟨S8x8x16x64, .f32⟩
  | .hbm, ⟨56, _⟩ => ⟨S8x8x16x1x64, .f32⟩
  | .hbm, ⟨57, _⟩ => ⟨S1x8x1x8x1, .f32⟩
  | .hbm, ⟨58, _⟩ => ⟨S8x8x16x8x64, .f32⟩
  | .hbm, ⟨59, _⟩ => ⟨S8x8x16x8x64, .f32⟩
  | .hbm, ⟨60, _⟩ => ⟨S8x8x16x8x64, .f32⟩
  | .hbm, ⟨61, _⟩ => ⟨S8x128x512, .f32⟩
  | .hbm, ⟨62, _⟩ => ⟨S8x128x1024, .f32⟩
  | .hbm, ⟨63, _⟩ => ⟨S8x128x1024, .bf16⟩
  | .hbm, ⟨64, _⟩ => ⟨S1x1024, .f32⟩
  | .hbm, ⟨65, _⟩ => ⟨S_, .f32⟩
  | .hbm, ⟨66, _⟩ => ⟨S8208x1024, .f32⟩
  | .hbm, ⟨67, _⟩ => ⟨S_, .f32⟩
  | .hbm, ⟨68, _⟩ => ⟨S8208x1664, .f32⟩
  | .hbm, ⟨69, _⟩ => ⟨S8208x3712, .f32⟩
  | .hbm, ⟨70, _⟩ => ⟨S_, .f32⟩
  | .hbm, ⟨71, _⟩ => ⟨S240x3712, .f32⟩
  | .hbm, ⟨72, _⟩ => ⟨S8448x3712, .f32⟩
  | .hbm, ⟨73, _⟩ => ⟨S33x8x2080x128, .f32⟩
  | .hbm, ⟨74, _⟩ => ⟨S8448x1024, .f32⟩
  | .hbm, ⟨75, _⟩ => ⟨S8448x1024, .bf16⟩
  | .hbm, ⟨76, _⟩ => ⟨S_, .f32⟩
  | .hbm, ⟨77, _⟩ => ⟨S240x1024, .f32⟩
  | .hbm, ⟨78, _⟩ => ⟨S8448x1024, .f32⟩
  | .hbm, ⟨79, _⟩ => ⟨S8448x1024, .f32⟩
  | .hbm, ⟨80, _⟩ => ⟨S8x128x1024, .f32⟩
  | .hbm, ⟨81, _⟩ => ⟨S8x128x1024, .f32⟩
  | .hbm, ⟨82, _⟩ => ⟨S8x8x128, .f32⟩
  | .hbm, ⟨83, _⟩ => ⟨S8x1024, .f32⟩
  | .hbm, ⟨84, _⟩ => ⟨S8208x1024, .f32⟩
  | .local _ .vmem, ⟨0, _⟩ => ⟨S256x1024, .f32⟩
  | .local _ .vmem, ⟨1, _⟩ => ⟨S256x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x512, .f32⟩
  | .local _ .vmem, ⟨5, _⟩ => ⟨S8x512, .f32⟩
  | .local _ .vmem, ⟨6, _⟩ => ⟨S1x1024, .f32⟩
  | .local _ .vmem, ⟨7, _⟩ => ⟨S1x8x2080x128, .f32⟩
  | .local _ .vmem, ⟨8, _⟩ => ⟨S1x8x2080x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x2080x128, .f32⟩
  | .local _ .vmem, ⟨14, _⟩ => ⟨S8x8x128, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x8x2080x128, .f32⟩
  | .local _ .vmem, ⟨20, _⟩ => ⟨S1x8x2080x128, .f32⟩
  | .local _ .vmem, ⟨21, _⟩ => ⟨S8x128x1024, .bf16⟩
  | .local _ .vmem, ⟨22, _⟩ => ⟨S8x128x1024, .bf16⟩
  | .local _ .vmem, ⟨23, _⟩ => ⟨S8x512, .f32⟩
  | .local _ .vmem, ⟨24, _⟩ => ⟨S8x512, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S8x128x1024, .f32⟩
  | .local _ .vmem, ⟨29, _⟩ => ⟨S8x128x1024, .f32⟩
  | .local _ .vmem, ⟨30, _⟩ => ⟨S8x8x128, .f32⟩
  | .local _ .vmem, ⟨31, _⟩ => ⟨S8x1024, .f32⟩
  | .local _ .vmem, ⟨32, _⟩ => ⟨S8x2080x128, .f32⟩
  | .local _ .vmem, ⟨33, _⟩ => ⟨S8x8x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_v59_0 : Ref sig .tc := ⟨.hbm, 73, rfl⟩
abbrev main_v59_1 : Ref sig .tc := ⟨.hbm, 74, rfl⟩
abbrev main_v59_2 : Ref sig .tc := ⟨.hbm, 75, rfl⟩
abbrev main_cst_3 : Ref sig .tc := ⟨.hbm, 76, rfl⟩
abbrev main_v60 : Ref sig .tc := ⟨.hbm, 77, rfl⟩
abbrev main_v61 : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_scratch0 : Ref sig .tc := ⟨.vmem, 32, rfl⟩
abbrev cc1_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem11_0 : DmaSem sig := 28
abbrev cc1_sem12_0 : DmaSem sig := 29

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_248 : BitVec 32 := 0#32
  let c32_i32 : BitVec 32 := 32#32
  let v326 : BitVec 32 := Scalar.addi c0_i32_248 c32_i32
  let c1_i32 : BitVec 32 := 1#32
  ⟨c0_i32_248, v326, c1_i32⟩
def k0_off1 (k0_t1 : Fin k0_t1_loop.trips) (c0_i32_571 : BitVec 32) : Fin 3 → Nat :=
  let c0_572 : Index := 0#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v542 : Index := Scalar.indexCast v538
  let c0_573 : Index := 0#32
  ![0, v542.toNat, 0]
def k0_off2 (k0_t1 : Fin k0_t1_loop.trips) (c0_i32_571 : BitVec 32) : Fin 3 → Nat :=
  let c4_574 : Index := 4#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v549 : Index := Scalar.indexCast v538
  let c0_575 : Index := 0#32
  ![4, v549.toNat, 0]
def k0_off3 (k0_t1 : Fin k0_t1_loop.trips) (c0_i32_571 : BitVec 32) : Fin 4 → Nat :=
  let c0_576 : Index := 0#32
  let c0_577 : Index := 0#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v553 : Index := Scalar.indexCast v538
  let c0_578 : Index := 0#32
  ![0, 0, v553.toNat, 0]
def k0_off4 (k0_t1 : Fin k0_t1_loop.trips) (c0_i32_571 : BitVec 32) : Fin 4 → Nat :=
  let c0_579 : Index := 0#32
  let c4_580 : Index := 4#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v557 : Index := Scalar.indexCast v538
  let c0_581 : Index := 0#32
  ![0, 4, v557.toNat, 0]
def k0_off5 (k0_t1 : Fin k0_t1_loop.trips) (c0_i32_571 : BitVec 32) : Fin 3 → Nat :=
  let c1_582 : Index := 1#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v564 : Index := Scalar.indexCast v538
  let c0_583 : Index := 0#32
  ![1, v564.toNat, 0]
def k0_off6 (k0_t1 : Fin k0_t1_loop.trips) (c0_i32_571 : BitVec 32) : Fin 3 → Nat :=
  let c5_584 : Index := 5#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v571 : Index := Scalar.indexCast v538
  let c0_585 : Index := 0#32
  ![5, v571.toNat, 0]
def k0_off7 (k0_t1 : Fin k0_t1_loop.trips) (c0_i32_571 : BitVec 32) : Fin 4 → Nat :=
  let c0_586 : Index := 0#32
  let c1_587 : Index := 1#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v575 : Index := Scalar.indexCast v538
  let c0_588 : Index := 0#32
  ![0, 1, v575.toNat, 0]
def k0_off8 (k0_t1 : Fin k0_t1_loop.trips) (c0_i32_571 : BitVec 32) : Fin 4 → Nat :=
  let c0_589 : Index := 0#32
  let c5_590 : Index := 5#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v579 : Index := Scalar.indexCast v538
  let c0_591 : Index := 0#32
  ![0, 5, v579.toNat, 0]
def k0_off9 (k0_t1 : Fin k0_t1_loop.trips) (c0_i32_571 : BitVec 32) : Fin 3 → Nat :=
  let c2_592 : Index := 2#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v586 : Index := Scalar.indexCast v538
  let c0_593 : Index := 0#32
  ![2, v586.toNat, 0]
def k0_off10 (k0_t1 : Fin k0_t1_loop.trips) (c0_i32_571 : BitVec 32) : Fin 3 → Nat :=
  let c6_594 : Index := 6#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v593 : Index := Scalar.indexCast v538
  let c0_595 : Index := 0#32
  ![6, v593.toNat, 0]
def k0_off11 (k0_t1 : Fin k0_t1_loop.trips) (c0_i32_571 : BitVec 32) : Fin 4 → Nat :=
  let c0_596 : Index := 0#32
  let c2_597 : Index := 2#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v597 : Index := Scalar.indexCast v538
  let c0_598 : Index := 0#32
  ![0, 2, v597.toNat, 0]
def k0_off12 (k0_t1 : Fin k0_t1_loop.trips) (c0_i32_571 : BitVec 32) : Fin 4 → Nat :=
  let c0_599 : Index := 0#32
  let c6_600 : Index := 6#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v601 : Index := Scalar.indexCast v538
  let c0_601 : Index := 0#32
  ![0, 6, v601.toNat, 0]
def k0_off13 (k0_t1 : Fin k0_t1_loop.trips) (c0_i32_571 : BitVec 32) : Fin 3 → Nat :=
  let c3_602 : Index := 3#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v608 : Index := Scalar.indexCast v538
  let c0_603 : Index := 0#32
  ![3, v608.toNat, 0]
def k0_off14 (k0_t1 : Fin k0_t1_loop.trips) (c0_i32_571 : BitVec 32) : Fin 3 → Nat :=
  let c7_604 : Index := 7#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v615 : Index := Scalar.indexCast v538
  let c0_605 : Index := 0#32
  ![7, v615.toNat, 0]
def k0_off15 (k0_t1 : Fin k0_t1_loop.trips) (c0_i32_571 : BitVec 32) : Fin 4 → Nat :=
  let c0_606 : Index := 0#32
  let c3_607 : Index := 3#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v619 : Index := Scalar.indexCast v538
  let c0_608 : Index := 0#32
  ![0, 3, v619.toNat, 0]
def k0_off16 (k0_t1 : Fin k0_t1_loop.trips) (c0_i32_571 : BitVec 32) : Fin 4 → Nat :=
  let c0_609 : Index := 0#32
  let c7_610 : Index := 7#32
  let c0_i32_248 : BitVec 32 := 0#32
  let c1_i32 : BitVec 32 := 1#32
  let arg12 : BitVec 32 := Scf.iv c0_i32_248 c1_i32 k0_t1
  let c8_i32 : BitVec 32 := 8#32
  let v537 : BitVec 32 := Scalar.muli arg12 c8_i32
  let v538 : BitVec 32 := Scalar.addi v537 c0_i32_571
  let v623 : Index := Scalar.indexCast v538
  let c0_611 : Index := 0#32
  ![0, 7, v623.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x2080x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![33], ![false]⟩

@[reducible] def k1_t1_loop : Scf.Loop 32 :=
  let c0_i32_279 : BitVec 32 := 0#32
  let c32_i32 : BitVec 32 := 32#32
  let v352 : BitVec 32 := Scalar.addi c0_i32_279 c32_i32
  let c1_i32 : BitVec 32 := 1#32
  ⟨c0_i32_279, v352, c1_i32⟩
def k1_off1 (k1_t1 : Fin k1_t1_loop.trips) (c0_i32_925 : BitVec 32) : Fin 4 → Nat :=
  let c0_926 : Index := 0#32
  let c0_927 : Index := 0#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v852 : Index := Scalar.indexCast v851
  let c0_928 : Index := 0#32
  ![0, 0, v852.toNat, 0]
def k1_off2 (k1_t1 : Fin k1_t1_loop.trips) (c0_i32_925 : BitVec 32) : Fin 4 → Nat :=
  let c0_929 : Index := 0#32
  let c4_930 : Index := 4#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v855 : Index := Scalar.indexCast v851
  let c0_931 : Index := 0#32
  ![0, 4, v855.toNat, 0]
def k1_off3 (k1_t1 : Fin k1_t1_loop.trips) (c0_i32_925 : BitVec 32) : Fin 3 → Nat :=
  let c0_932 : Index := 0#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v866 : Index := Scalar.indexCast v851
  let c0_933 : Index := 0#32
  ![0, v866.toNat, 0]
def k1_off4 (k1_t1 : Fin k1_t1_loop.trips) (c0_i32_925 : BitVec 32) : Fin 3 → Nat :=
  let c4_934 : Index := 4#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v873 : Index := Scalar.indexCast v851
  let c0_935 : Index := 0#32
  ![4, v873.toNat, 0]
def k1_off5 (k1_t1 : Fin k1_t1_loop.trips) (c0_i32_925 : BitVec 32) : Fin 4 → Nat :=
  let c0_940 : Index := 0#32
  let c1_941 : Index := 1#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v888 : Index := Scalar.indexCast v851
  let c0_942 : Index := 0#32
  ![0, 1, v888.toNat, 0]
def k1_off6 (k1_t1 : Fin k1_t1_loop.trips) (c0_i32_925 : BitVec 32) : Fin 4 → Nat :=
  let c0_943 : Index := 0#32
  let c5_944 : Index := 5#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v891 : Index := Scalar.indexCast v851
  let c0_945 : Index := 0#32
  ![0, 5, v891.toNat, 0]
def k1_off7 (k1_t1 : Fin k1_t1_loop.trips) (c0_i32_925 : BitVec 32) : Fin 3 → Nat :=
  let c1_946 : Index := 1#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v902 : Index := Scalar.indexCast v851
  let c0_947 : Index := 0#32
  ![1, v902.toNat, 0]
def k1_off8 (k1_t1 : Fin k1_t1_loop.trips) (c0_i32_925 : BitVec 32) : Fin 3 → Nat :=
  let c5_948 : Index := 5#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v909 : Index := Scalar.indexCast v851
  let c0_949 : Index := 0#32
  ![5, v909.toNat, 0]
def k1_off9 (k1_t1 : Fin k1_t1_loop.trips) (c0_i32_925 : BitVec 32) : Fin 4 → Nat :=
  let c0_954 : Index := 0#32
  let c2_955 : Index := 2#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v924 : Index := Scalar.indexCast v851
  let c0_956 : Index := 0#32
  ![0, 2, v924.toNat, 0]
def k1_off10 (k1_t1 : Fin k1_t1_loop.trips) (c0_i32_925 : BitVec 32) : Fin 4 → Nat :=
  let c0_957 : Index := 0#32
  let c6_958 : Index := 6#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v927 : Index := Scalar.indexCast v851
  let c0_959 : Index := 0#32
  ![0, 6, v927.toNat, 0]
def k1_off11 (k1_t1 : Fin k1_t1_loop.trips) (c0_i32_925 : BitVec 32) : Fin 3 → Nat :=
  let c2_960 : Index := 2#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v938 : Index := Scalar.indexCast v851
  let c0_961 : Index := 0#32
  ![2, v938.toNat, 0]
def k1_off12 (k1_t1 : Fin k1_t1_loop.trips) (c0_i32_925 : BitVec 32) : Fin 3 → Nat :=
  let c6_962 : Index := 6#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v945 : Index := Scalar.indexCast v851
  let c0_963 : Index := 0#32
  ![6, v945.toNat, 0]
def k1_off13 (k1_t1 : Fin k1_t1_loop.trips) (c0_i32_925 : BitVec 32) : Fin 4 → Nat :=
  let c0_968 : Index := 0#32
  let c3_969 : Index := 3#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v960 : Index := Scalar.indexCast v851
  let c0_970 : Index := 0#32
  ![0, 3, v960.toNat, 0]
def k1_off14 (k1_t1 : Fin k1_t1_loop.trips) (c0_i32_925 : BitVec 32) : Fin 4 → Nat :=
  let c0_971 : Index := 0#32
  let c7_972 : Index := 7#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v963 : Index := Scalar.indexCast v851
  let c0_973 : Index := 0#32
  ![0, 7, v963.toNat, 0]
def k1_off15 (k1_t1 : Fin k1_t1_loop.trips) (c0_i32_925 : BitVec 32) : Fin 3 → Nat :=
  let c3_974 : Index := 3#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v974 : Index := Scalar.indexCast v851
  let c0_975 : Index := 0#32
  ![3, v974.toNat, 0]
def k1_off16 (k1_t1 : Fin k1_t1_loop.trips) (c0_i32_925 : BitVec 32) : Fin 3 → Nat :=
  let c7_976 : Index := 7#32
  let c255_i32 : BitVec 32 := 255#32
  let c0_i32_279 : BitVec 32 := 0#32
  let c1_i32 : BitVec 32 := 1#32
  let arg16 : BitVec 32 := Scf.iv c0_i32_279 c1_i32 k1_t1
  let c8_i32 : BitVec 32 := 8#32
  let v849 : BitVec 32 := Scalar.muli arg16 c8_i32
  let v850 : BitVec 32 := Scalar.addi v849 c0_i32_925
  let v851 : BitVec 32 := Scalar.subi c255_i32 v850
  let v981 : Index := Scalar.indexCast v851
  let c0_977 : Index := 0#32
  ![7, v981.toNat, 0]
def cc1_transform_0 (i : grid1.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc1_transform_1 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_2 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x2080x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S8x128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x128x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== DwIn.lean ====
abbrev S8208x1024 : Shape := ⟨2, ![8208, 1024]⟩
abbrev S8208x3600 : Shape := ⟨2, ![8208, 3600]⟩
abbrev S8208x1536 : Shape := ⟨2, ![8208, 1536]⟩
abbrev S8208x16 : Shape := ⟨2, ![8208, 16]⟩
abbrev S_ : Shape := ⟨0, ![]⟩
abbrev S8208x112 : Shape := ⟨2, ![8208, 112]⟩
abbrev S8208x3712 : Shape := ⟨2, ![8208, 3712]⟩
abbrev S8448x3712 : Shape := ⟨2, ![8448, 3712]⟩
abbrev S8448x1024 : Shape := ⟨2, ![8448, 1024]⟩
abbrev S3712x1024 : Shape := ⟨2, ![3712, 1024]⟩
abbrev S768x3712 : Shape := ⟨2, ![768, 3712]⟩
abbrev S768x512 : Shape := ⟨2, ![768, 512]⟩
abbrev S3712x512 : Shape := ⟨2, ![3712, 512]⟩
abbrev S1024x1024 : Shape := ⟨2, ![1024, 1024]⟩
abbrev S1552x1024 : Shape := ⟨2, ![1552, 1024]⟩
abbrev S3600x1024 : Shape := ⟨2, ![3600, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x3600, .f32⟩
  | .hbm, ⟨2, _⟩ => ⟨S8208x1024, .f32⟩
  | .hbm, ⟨3, _⟩ => ⟨S8208x1024, .f32⟩
  | .hbm, ⟨4, _⟩ => ⟨S8208x1536, .f32⟩
  | .hbm, ⟨5, _⟩ => ⟨S8208x16, .f32⟩
  | .hbm, ⟨6, _⟩ => ⟨S_, .f32⟩
  | .hbm, ⟨7, _⟩ => ⟨S8208x112, .f32⟩
  | .hbm, ⟨8, _⟩ => ⟨S8208x3712, .f32⟩
  | .hbm, ⟨9, _⟩ => ⟨S_, .i32⟩
  | .hbm, ⟨10, _⟩ => ⟨S_, .f32⟩
  | .hbm, ⟨11, _⟩ => ⟨S8448x3712, .f32⟩
  | .hbm, ⟨12, _⟩ => ⟨S8448x3712, .bf16⟩
  | .hbm, ⟨13, _⟩ => ⟨S_, .i32⟩
  | .hbm, ⟨14, _⟩ => ⟨S_, .f32⟩
  | .hbm, ⟨15, _⟩ => ⟨S8448x1024, .f32⟩
  | .hbm, ⟨16, _⟩ => ⟨S8448x1024, .bf16⟩
  | .hbm, ⟨17, _⟩ => ⟨S3712x1024, .bf16⟩
  | .hbm, ⟨18, _⟩ => ⟨S1024x1024, .bf16⟩
  | .hbm, ⟨19, _⟩ => ⟨S1552x1024, .bf16⟩
  | .hbm, ⟨20, _⟩ => ⟨S1024x1024, .bf16⟩
  | .hbm, ⟨21, _⟩ => ⟨S3600x1024, .bf16⟩
  | .local _ .vmem, ⟨0, _⟩ => ⟨S768x3712, .bf16⟩
  | .local _ .vmem, ⟨1, _⟩ => ⟨S768x3712, .bf16⟩
  | .local _ .vmem, ⟨2, _⟩ => ⟨S768x512, .bf16⟩
  | .local _ .vmem, ⟨3, _⟩ => ⟨S768x512, .bf16⟩
  | .local _ .vmem, ⟨4, _⟩ => ⟨S3712x512, .bf16⟩
  | .local _ .vmem, ⟨5, _⟩ => ⟨S3712x512, .bf16⟩
  | .local _ .vmem, ⟨6, _⟩ => ⟨S3712x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3712x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8208x1024 : Shape := ⟨2, ![8208, 1024]⟩
abbrev S8208x3600 : Shape := ⟨2, ![8208, 3600]⟩
abbrev S3600x8208 : Shape := ⟨2, ![3600, 8208]⟩
abbrev S3600x1024 : Shape := ⟨2, ![3600, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x3600, .f32⟩
  | .hbm, ⟨2, _⟩ => ⟨S3600x8208, .f32⟩
  | .hbm, ⟨3, _⟩ => ⟨S3600x1024, .f32⟩
  | .hbm, ⟨4, _⟩ => ⟨S3600x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDown.lean ====
abbrev S8448x4096 : Shape := ⟨2, ![8448, 4096]⟩
abbrev S8448x1024 : Shape := ⟨2, ![8448, 1024]⟩
abbrev S_ : Shape := ⟨0, ![]⟩
abbrev S4x2048x1024 : Shape := ⟨3, ![4, 2048, 1024]⟩
abbrev S2816x1024 : Shape := ⟨2, ![2816, 1024]⟩
abbrev S1x1024x1024 : Shape := ⟨3, ![1, 1024, 1024]⟩
abbrev S1024x1024 : Shape := ⟨2, ![1024, 1024]⟩
abbrev S4x1024x1024 : Shape := ⟨3, ![4, 1024, 1024]⟩
abbrev S4096x1024 : Shape := ⟨2, ![4096, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S_, .f32⟩
  | .hbm, ⟨3, _⟩ => ⟨S8448x4096, .f32⟩
  | .hbm, ⟨4, _⟩ => ⟨S8448x4096, .f32⟩
  | .hbm, ⟨5, _⟩ => ⟨S8448x4096, .bf16⟩
  | .hbm, ⟨6, _⟩ => ⟨S8448x1024, .bf16⟩
  | .hbm, ⟨7, _⟩ => ⟨S4x2048x1024, .bf16⟩
  | .hbm, ⟨8, _⟩ => ⟨S4x1024x1024, .bf16⟩
  | .hbm, ⟨9, _⟩ => ⟨S4096x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![v0.toNat, c1_i32.toNat, c0_i32_0.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S8448x4096 : Shape := ⟨2, ![8448, 4096]⟩
abbrev S8448x1024 : Shape := ⟨2, ![8448, 1024]⟩
abbrev S_ : Shape := ⟨0, ![]⟩
abbrev S4096x8448 : Shape := ⟨2, ![4096, 8448]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S_, .f32⟩
  | .hbm, ⟨3, _⟩ => ⟨S8448x4096, .f32⟩
  | .hbm, ⟨4, _⟩ => ⟨S8448x4096, .f32⟩
  | .hbm, ⟨5, _⟩ => ⟨S8448x4096, .f32⟩
  | .hbm, ⟨6, _⟩ => ⟨S4096x8448, .f32⟩
  | .hbm, ⟨7, _⟩ => ⟨S4096x1024, .f32⟩
  | .hbm, ⟨8, _⟩ => ⟨S4096x1024, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Adam.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumEight.lean ====
abbrev S8x272x1024 : Shape := ⟨3, ![8, 272, 1024]⟩
abbrev S272x1024 : Shape := ⟨2, ![272, 1024]⟩
abbrev S1x272x1024 : Shape := ⟨3, ![1, 272, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x272x1024, .f32⟩
  | .hbm, ⟨1, _⟩ => ⟨S272x1024, .f32⟩
  | .local _ .vmem, ⟨0, _⟩ => ⟨S8x272x1024, .f32⟩
  | .local _ .vmem, ⟨1, _⟩ => ⟨S272x1024, .f32⟩
  | _, _ => ⟨S8x272x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x272x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S272x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumEightRefIdeal.lean ====
abbrev S8x272x1024 : Shape := ⟨3, ![8, 272, 1024]⟩
abbrev S_ : Shape := ⟨0, ![]⟩
abbrev S272x1024 : Shape := ⟨2, ![272, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x272x1024, .f32⟩
  | .hbm, ⟨1, _⟩ => ⟨S_, .f32⟩
  | .hbm, ⟨2, _⟩ => ⟨S272x1024, .f32⟩
  | _, _ => ⟨S8x272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Parts.lean ====
abbrev S1024x1024 : Shape := ⟨2, ![1024, 1024]⟩
abbrev S7x1024x1024 : Shape := ⟨3, ![7, 1024, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S7x1024x1024, .f32⟩
  | .hbm, ⟨2, _⟩ => ⟨S1024x1024, .bf16⟩
  | .hbm, ⟨3, _⟩ => ⟨S7x1024x1024, .bf16⟩
  | .hbm, ⟨4, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartsRefIdeal.lean ====
abbrev S1024x1024 : Shape := ⟨2, ![1024, 1024]⟩
abbrev S7x1024x1024 : Shape := ⟨3, ![7, 1024, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S7x1024x1024, .f32⟩
  | .hbm, ⟨2, _⟩ => ⟨S_, .f32⟩
  | .hbm, ⟨3, _⟩ => ⟨S1024x1024, .f32⟩
  | .hbm, ⟨4, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.RmsGrad.lean ====
/-
  The gradient of the root-mean-square norm, on the extended reals.

  A row `h` of 1024 numbers is scaled by `r = 1 / √(mean h² + ε)`. For a cotangent `e` of the scaled row, a derivative taken
  operation by operation is `e·r + h·q + q·h`, where `q` carries the cotangent of the mean back through the reciprocal root.
  The closed form of the kernel is `r·(e − n·mean (e·n))` with `n = h·r`. The two agree on rows of real numbers.
-/
module

public import proofs.«01_k».proof.Defs
public import Idealize.ShloMosaic.Lib.Pointwise
public import Idealize.ShloMosaic.Lib.Pipeline.ValueKit

@[expose] public section

noncomputable section

namespace Cert.RmsGrad

open Idealize.ShloMosaic

/-- The extended real is a real number. -/
def IsReal (x : EReal) : Prop := ∃ r : ℝ, x = r

/-- A sum of real numbers is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} {s : Finset ι} {f : ι → EReal} (hf : ∀ i, IsReal (f i)) : IsReal (∑ i ∈ s, f i) := by
  choose g hg using hf
  exact ⟨∑ i ∈ s, g i, by rw [← sum_coe]; exact Finset.sum_congr rfl fun i _ => hg i⟩

/-- What lies below plus infinity in absolute value is a real number. -/
theorem isReal_of_abs_lt {x : EReal} (h : max x (-x) < ⊤) : IsReal x := by
  induction x using EReal.rec with
  | bot => simp at h
  | top => simp at h
  | coe r => exact ⟨r, rfl⟩

/-- The word of `1024.0`. -/
theorem word_n : Ideal.ofBits .f32 0x44800000#32 = ((1024 : ℝ) : EReal) := by
  simp [Ideal.ofBits, Ideal.ieee, -EReal.coe_mul]; norm_num

/-- The word of `-0.5`. -/
theorem word_half : Ideal.ofBits .f32 0xBF000000#32 = ((-(1 / 2) : ℝ) : EReal) := by
  simp [Ideal.ofBits, Ideal.ieee, -EReal.coe_mul]; norm_num

/-- The word of the norm's `ε` is a positive real number. -/
theorem word_eps : ∃ e : ℝ, 0 < e ∧ Ideal.ofBits .f32 0x3727C5AC#32 = (e : EReal) := by
  refine ⟨(10995116 : ℝ) * 2 ^ (-40 : ℤ), by positivity, ?_⟩
  simp [Ideal.ofBits, Ideal.ieee, -EReal.coe_mul]

/-- The word of plus infinity. -/
theorem word_top : Ideal.ofBits .f32 0x7F800000#32 = ⊤ := by
  simp [Ideal.ofBits, Ideal.ieee]

/-- An array whose elements all compare below plus infinity in absolute value is an array of real numbers. -/
theorem isReal_of_mask {s : Shape} {b : (⟨0, ![]⟩ : Shape).BroadcastsInDim s (![] : Fin 0 → Fin s.rank)} (x : FVec Ideal s .f32)
    (h : cmpf .olt (Host.absf x) (broadcastInDim s ![] b (constant ⟨0, ![]⟩ .f32 0x7F800000#32)) = fun _ => 1#1) (i : s.Idx) : IsReal (x i) := by
  have e := congrFun h i
  change Ideal.cmp .olt (max (x i) (-(x i))) (Ideal.ofBits .f32 0x7F800000#32) = 1#1 at e
  rw [word_top] at e
  refine isReal_of_abs_lt ?_
  by_contra hn
  simp [Ideal.cmp, hn] at e

/-- The row's mean square plus `ε`. -/
def ms (h : Fin 1024 → EReal) : EReal :=
  Ideal.div (∑ k, h k * h k) (Ideal.ofBits .f32 0x44800000#32) + Ideal.ofBits .f32 0x3727C5AC#32

/-- The row's scale. -/
def scale (h : Fin 1024 → EReal) : EReal := Ideal.rsqrt (ms h)

/-- The closed form of the gradient. -/
def grad (e h : Fin 1024 → EReal) (l : Fin 1024) : EReal :=
  scale h * (e l - h l * scale h * Ideal.div (∑ k, e k * (h k * scale h)) (Ideal.ofBits .f32 0x44800000#32))

/-- What the cotangent of the mean square contributes, before the factor `h`, when the derivative is taken operation by operation. -/
def back (e h : Fin 1024 → EReal) : EReal :=
  Ideal.div ((∑ k, h k * e k) * (Ideal.ofBits .f32 0xBF000000#32 * Ideal.div (scale h) (ms h))) (Ideal.ofBits .f32 0x44800000#32)

theorem ms_coe (h : Fin 1024 → ℝ) : ∃ s : ℝ, 0 < s ∧ ms (fun k => (h k : EReal)) = s := by
  obtain ⟨e, he, hw⟩ := word_eps
  have h0 : 0 ≤ ∑ k, h k * h k := Finset.sum_nonneg fun k _ => mul_self_nonneg _
  refine ⟨(∑ k, h k * h k) * (1 / 1024) + e, by positivity, ?_⟩
  simp only [ms, word_n, hw, Ideal.div_coe (by norm_num : (1024 : ℝ) ≠ 0), ← EReal.coe_mul, sum_coe, ← EReal.coe_add]

theorem scale_coe {s : ℝ} (hs : 0 < s) : Ideal.rsqrt (s : EReal) = (((Real.sqrt s)⁻¹ : ℝ) : EReal) := by
  rw [Ideal.rsqrt_coe, if_neg (not_lt.mpr hs.le), if_neg hs.ne']

theorem scale_real {h : Fin 1024 → EReal} (hh : ∀ k, IsReal (h k)) : IsReal (scale h) := by
  choose h' hh' using hh
  obtain rfl : h = fun k => (h' k : EReal) := funext hh'
  obtain ⟨s, hs, hms⟩ := ms_coe h'
  exact ⟨_, by rw [scale, hms, scale_coe hs]⟩

/-- The derivative taken operation by operation is the closed form. -/
theorem grad_eq {e h : Fin 1024 → EReal} (he : ∀ k, IsReal (e k)) (hh : ∀ k, IsReal (h k)) (l : Fin 1024) :
    e l * scale h + h l * back e h + back e h * h l = grad e h l := by
  choose h' hh' using hh
  choose e' he' using he
  obtain rfl : h = fun k => (h' k : EReal) := funext hh'
  obtain rfl : e = fun k => (e' k : EReal) := funext he'
  obtain ⟨s, hs, hms⟩ := ms_coe h'
  have hr : Real.sqrt s * Real.sqrt s = s := Real.mul_self_sqrt hs.le
  have hr0 : Real.sqrt s ≠ 0 := (Real.sqrt_pos.mpr hs).ne'
  simp only [grad, back, scale, hms, scale_coe hs, word_n, word_half, Ideal.div_coe (by norm_num : (1024 : ℝ) ≠ 0), Ideal.div_coe hs.ne',
    ← EReal.coe_mul, sum_coe, ← EReal.coe_add, ← EReal.coe_sub]
  congr 1
  have hsum : ∑ k, e' k * (h' k * (Real.sqrt s)⁻¹) = (∑ k, h' k * e' k) * (Real.sqrt s)⁻¹ := by
    rw [Finset.sum_mul]; exact Finset.sum_congr rfl fun k _ => by ring
  have hinv : 1 / s = (Real.sqrt s)⁻¹ * (Real.sqrt s)⁻¹ := by rw [← mul_inv, hr, one_div]
  rw [hsum, hinv]
  ring

/-- The same with a further cotangent added in front. -/
theorem add_grad_eq (a : EReal) {e h : Fin 1024 → EReal} (he : ∀ k, IsReal (e k)) (hh : ∀ k, IsReal (h k)) (l : Fin 1024) :
    a + e l * scale h + h l * back e h + back e h * h l = a + grad e h l := by
  rw [← grad_eq he hh l, ← add_assoc, ← add_assoc]

/-- A sum over 4096 columns, in four tiles of 1024. -/
theorem sum_four (f : Fin 4096 → EReal) :
    (∑ x : Fin 1024, f ⟨x.val, by omega⟩) + (∑ x : Fin 1024, f ⟨1024 + x.val, by omega⟩)
      + (∑ x : Fin 1024, f ⟨2048 + x.val, by omega⟩) + (∑ x : Fin 1024, f ⟨3072 + x.val, by omega⟩) = ∑ k, f k := by
  rw [Fin.sum_univ_add (a := 3072) (b := 1024) f, Fin.sum_univ_add (a := 2048) (b := 1024) fun i => f (Fin.castAdd 1024 i),
    Fin.sum_univ_add (a := 1024) (b := 1024) fun i => f (Fin.castAdd 1024 (Fin.castAdd 1024 i))]
  rfl

/-- A sum over rows kept in eight partial sums, block by block, is the sum over all rows. -/
theorem sum_rows {L : ℕ} (N n : ℕ) {F : Fin 8 → Fin N → Fin n → EReal} {f : Fin L → EReal} (hL : L = N * (n * 8))
    (h : ∀ s t x (hl : t.val * (n * 8) + (x.val * 8 + s.val) < L), F s t x = f ⟨t.val * (n * 8) + (x.val * 8 + s.val), hl⟩) :
    ∑ s, ∑ t, ∑ x, F s t x = ∑ l, f l := by
  have hb : ∀ (s : Fin 8) (x : Fin n), x.val * 8 + s.val < n * 8 := fun s x => by have := x.isLt; have := s.isLt; omega
  have ha : ∀ (t : Fin N) (b : Fin (n * 8)), t.val * (n * 8) + b.val < L := fun t b => by
    rw [hL]
    calc t.val * (n * 8) + b.val < t.val * (n * 8) + n * 8 := Nat.add_lt_add_left b.isLt _
      _ = (t.val + 1) * (n * 8) := by ring
      _ ≤ N * (n * 8) := Nat.mul_le_mul_right _ t.isLt
  rw [Finset.sum_comm, ← Fin.sum_mul_add_fin N (n * 8) f hL]
  refine Finset.sum_congr rfl fun t _ => ?_
  rw [Finset.sum_comm, ← Fin.sum_mul_add_fin n 8 (fun b : Fin (n * 8) => f ⟨t.val * (n * 8) + b.val, ha t b⟩) rfl]
  exact Finset.sum_congr rfl fun x _ => Finset.sum_congr rfl fun s _ => h s t x _

end Cert.RmsGrad

end
-- ==== Proof.Down.lean ====
/-
  The value of `down_bwd`: the gradient of `square (relu m) @ w_down` with respect to `m`.

  The kernel works on 11 blocks of 768 rows. In each it multiplies the rows of the cotangent by the transposed weights,
  four column tiles of 1024 at a time, and scales element by element by twice the saved `relu m`. The reference selects
  between that product and zero by the sign of `m`. The two agree because `relu m` is zero where `m` is not positive, and a
  product with zero is zero on the extended reals, whatever the other factor is.
-/
module

public import proofs.«01_k».proof.Defs
public import proofs.«01_k».proof.Proof.Gen.Down.Frame
public import proofs.«01_k».proof.Proof.Gen.DownIdeal.Value
public import proofs.«01_k».proof.Proof.Gen.DownRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.StableHlo.ReadAt

@[expose] public section

set_option maxRecDepth 16384

noncomputable section

namespace Cert.DownIdeal.RefValue

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient, element by element: the cotangent's row times the weights' row, scaled by `2 relu m`. -/
def grad (x : FVec Ideal S8448x4096 .f32) (w : FVec Ideal S4096x1024 .f32) (d : FVec Ideal S8448x1024 .f32) :
    FVec Ideal S8448x4096 .bf16 := fun i =>
  (∑ k : Fin 1024, d (ix2 (i 0) k) * w (ix2 (i 1) k)) * (2 * max (x i) 0)

/-- Device `c`'s three argument arrays as launched. -/
abbrev argM (c : Dev nD) : FVec Ideal S8448x4096 .f32 := m ((c : Thread nD τ).loc main_arg0)
abbrev argW (c : Dev nD) : FVec Ideal S4096x1024 .f32 := m ((c : Thread nD τ).loc main_arg1)
abbrev argD (c : Dev nD) : FVec Ideal S8448x1024 .f32 := m ((c : Thread nD τ).loc main_arg2)

/-- A grid point's block of the cotangent, of the saved `relu m` and of the weights. -/
abbrev blkD (c : Dev nD) (t : Fin cfg0.N) : FVec Ideal S768x1024 .bf16 := iblk m c 0 t
abbrev blkM (c : Dev nD) (t : Fin cfg0.N) : FVec Ideal S768x4096 .bf16 := iblk m c 1 t
abbrev blkW (c : Dev nD) (t : Fin cfg0.N) : FVec Ideal S4x1024x1024 .bf16 := iblk m c 2 t

/-- Where each window's block sits at a grid point. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

/-- The saved `relu m` as the region finds it. -/
theorem V_relu (c : Dev nD) (j : S8448x4096.Idx) : V m c main_v2 j = max (argM m c j) 0 := by
  unfold V
  after_reads_at

/-- The cotangent as the region finds it. -/
theorem V_cot (c : Dev nD) (j : S8448x1024.Idx) : V m c main_v5 j = argD m c j := by
  unfold V
  after_reads_at

/-- The weights, cut in four row tiles, as the region finds them. -/
theorem V_w (c : Dev nD) (a : Fin 4) (b k : Fin 1024) :
    V m c main_v4 (ix3 a b k) = argW m c (ix2 ⟨a.val * 1024 + b.val, by omega⟩ k) := by
  unfold V
  after_reads_at

/-- The cotangent's block at a grid point. -/
theorem blk_cot (c : Dev nD) (t : Fin cfg0.N) (r : Fin 768) (k : Fin 1024) (R : Fin 8448) (hR : R.val = t.val * 768 + r.val) :
    blkD m c t (ix2 r k) = argD m c (ix2 R k) := by
  rw [← V_cot m c (ix2 R k)]
  blk_ext [iblk, (idx t).1]

/-- The saved `relu m`'s block at a grid point. -/
theorem blk_relu (c : Dev nD) (t : Fin cfg0.N) (r : Fin 768) (l : Fin 4096) (R : Fin 8448) (hR : R.val = t.val * 768 + r.val) :
    blkM m c t (ix2 r l) = max (argM m c (ix2 R l)) 0 := by
  rw [← V_relu m c (ix2 R l)]
  blk_ext [iblk, (idx t).2.1]

/-- The weights' block, the whole array at every grid point. -/
theorem blk_w (c : Dev nD) (t : Fin cfg0.N) (a : Fin 4) (b k : Fin 1024) (l : Fin 4096) (hl : l.val = a.val * 1024 + b.val) :
    blkW m c t (ix3 a b k) = argW m c (ix2 l k) := by
  have e : l = ⟨a.val * 1024 + b.val, by omega⟩ := Fin.ext hl
  rw [e, ← V_w m c a b k]
  blk_ext [iblk, (idx t).2.2.1]

/-- The word of `2.0`. -/
theorem two : Ideal.ofBits .f32 0x40000000#32 = 2 := by
  rw [show (2 : EReal) = ((2 : ℝ) : EReal) by norm_cast]
  simp [Ideal.ofBits, Ideal.ieee, -EReal.coe_mul]; norm_num

/-- One column tile of a block is the gradient there. -/
theorem tile (c : Dev nD) (t : Fin cfg0.N) (r : Fin 768) (a : Fin 4) (b : Fin 1024) (l l' : Fin 4096) (R : Fin 8448)
    (hl : l.val = a.val * 1024 + b.val) (hl' : l'.val = l.val) (hR : R.val = t.val * 768 + r.val) :
    (∑ k : Fin 1024, blkD m c t (ix2 r k) * blkW m c t (ix3 a b k)) * (Ideal.ofBits .f32 0x40000000#32 * blkM m c t (ix2 r l'))
      = grad (argM m c) (argW m c) (argD m c) (ix2 R l) := by
  obtain rfl : l' = l := Fin.ext hl'
  simp only [blk_cot m c t r _ R hR, blk_relu m c t r _ R hR, blk_w m c t a b _ _ hl, grad, two]
  rfl

/-- After the run the result array holds the gradient. -/
theorem final (c : Dev nD) : (dats m 0 c).arrAt 3 cfg0.N = grad (argM m c) (argW m c) (argD m c) := by
  refine (dats m 0 c).arrAt_eq_of_covers 3 _ (by decide +kernel) fun t hf y => ?_
  blk_simp
  rw [after0_3]
  have ht : t.val < 11 := t.isLt
  obtain ⟨r, l, rfl⟩ : ∃ (r : Fin 768) (l : Fin 4096), y = ix2 r l := ⟨y 0, y 1, eq_ix2 y⟩
  have he : (win0_3.blk t).view.emb (ix2 r l) = ix2 (⟨t.val * 768 + r.val, by omega⟩ : Fin 8448) l := by
    blk_ext [(idx t).2.2.2]
  refine Eq.trans ?_ (congrArg _ he.symm)
  frame_out
  pointwise [k0_pay1, k0_pay2, k0_pay3, k0_pay4, k0_pay5, k0_pay6, k0_pay7, k0_pay8]
  have hl := l.isLt
  by_cases h0 : l.val < 1024
  · rw [dif_pos h0]
    exact tile m c t r 0 ⟨l.val, h0⟩ l l _ (show l.val = 0 * 1024 + l.val by omega) rfl rfl
  rw [dif_neg h0]
  by_cases h1 : l.val - 1024 < 1024
  · rw [dif_pos h1]
    exact tile m c t r 1 ⟨l.val - 1024, h1⟩ l ⟨1024 + (l.val - 1024), by omega⟩ _ (show l.val = 1 * 1024 + (l.val - 1024) by omega)
      (show 1024 + (l.val - 1024) = l.val by omega) rfl
  rw [dif_neg h1]
  by_cases h2 : l.val - 1024 - 1024 < 1024
  · rw [dif_pos h2]
    exact tile m c t r 2 ⟨l.val - 1024 - 1024, h2⟩ l ⟨2048 + (l.val - 1024 - 1024), by omega⟩ _ (show l.val = 2 * 1024 + (l.val - 1024 - 1024) by omega)
      (show 2048 + (l.val - 1024 - 1024) = l.val by omega) rfl
  rw [dif_neg h2]
  exact tile m c t r 3 ⟨l.val - 1024 - 1024 - 1024, by omega⟩ l ⟨3072 + (l.val - 1024 - 1024 - 1024), by omega⟩ _
    (show l.val = 3 * 1024 + (l.val - 1024 - 1024 - 1024) by omega) (show 3072 + (l.val - 1024 - 1024 - 1024) = l.val by omega) rfl

end Cert.DownIdeal.RefValue

namespace Cert.DownRefIdeal.RefValue

open Cert.DownRefIdeal Cert.DownRefIdeal.Gen Idealize.ShloMosaic

/-- The reference's composed term is the same gradient: where `m` is not positive, `relu m` is zero and so is the product. -/
theorem ref_eq (x : FVec Ideal S8448x4096 .f32) (w : FVec Ideal S4096x1024 .f32) (d : FVec Ideal S8448x1024 .f32) :
    truncf .bf16 (select (cmpf .ogt x (broadcastInDim S8448x4096 ![] bcast_S_S8448x4096 (constant S_ .f32 0x00000000#32))) (mulf (Host.dotGeneral dot_S8448x1024_S4096x1024_S8448x4096_1_1_0_0_n_n none d w) (mulf (broadcastInDim S8448x4096 ![] bcast_S_S8448x4096 (constant S_ .f32 0x40000000#32)) (maximumf x (broadcastInDim S8448x4096 ![] bcast_S_S8448x4096 (constant S_ .f32 0x00000000#32))))) (broadcastInDim S8448x4096 ![] bcast_S_S8448x4096 (constant S_ .f32 0x00000000#32))) bitsLt_bf16_f32
      = Cert.DownIdeal.RefValue.grad x w d := by
  funext j
  pointwise [Cert.DownIdeal.RefValue.grad]
  rw [Cert.DownIdeal.RefValue.two]
  split_ifs with h
  · rfl
  · rw [max_eq_right (not_lt.mp h), mul_zero, mul_zero]

end Cert.DownRefIdeal.RefValue

/-! ## The claims about this call -/

namespace Cert.Proof.Down

open Idealize.ShloMosaic Idealize.ShloMosaic.TcCoe Idealize.SL.Sem

/-- The kernel runs, leaves its arguments as they were and ends with every semaphore at zero. -/
theorem frame_kernel : Cert.quiescent_Down := fun m ρ _ => Cert.Down.Gen.frame m ρ

/-- So does its idealization. -/
theorem frame_ideal : Cert.quiescent_DownIdeal := fun m ρ _ => Cert.DownIdeal.Gen.frame m ρ

/-- And the reference. -/
theorem frame_ref : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- On the extended reals the kernel's result is the derivative of `square (relu m) @ w_down` in `m`. -/
theorem value : Cert.algebraic_DownIdeal_DownRefIdeal := fun m ρ m' ρ' _ hag =>
  ⟨fun c => Cert.DownIdeal.RefValue.grad (Cert.DownIdeal.RefValue.argM m c) (Cert.DownIdeal.RefValue.argW m c)
      (Cert.DownIdeal.RefValue.argD m c),
    (θ_run Cert.DownIdeal.defs _ _).mono (fun _ h c => ⟨(h c).1.trans (Cert.DownIdeal.RefValue.final m c), (h c).2⟩)
      (Cert.DownIdeal.Value.run_blocks (F := Ideal) m ρ),
    (θ_run Cert.DownRefIdeal.defs _ _).mono (fun _ h c => ⟨(h c).1.trans (by
        rw [(hag c).1, (hag c).2.1, (hag c).2.2]
        exact Cert.DownRefIdeal.RefValue.ref_eq _ _ _), (h c).2⟩)
      (Cert.DownRefIdeal.Value.run (F := Ideal) m' ρ')⟩

end Cert.Proof.Down

end
-- ==== Proof.Up.lean ====
/-
  The value of `up_bwd`: the gradient of `rmsnorm(h) * g @ w_up`, with the residual stream's own cotangent added.

  The kernel works on 11 blocks of 768 rows. In each it multiplies the cotangent by the transposed weights, four column
  tiles of 1024 at a time, and sends the product back through the norm by the closed form. The gradient of `g` is kept in
  eight partial sums, over rows of equal remainder modulo eight, added up over the blocks and reduced after the last one.
-/
module

public import proofs.«01_k».proof.Defs
public import proofs.«01_k».proof.Proof.RmsGrad
public import proofs.«01_k».proof.Proof.Gen.Up.Frame
public import proofs.«01_k».proof.Proof.Gen.UpIdeal.Frame
public import proofs.«01_k».proof.Proof.Gen.UpRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.UpIdeal.RefValue

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s argument arrays as launched. -/
abbrev argH (c : Dev nD) : FVec Ideal S8448x1024 .f32 := m ((c : Thread nD τ).loc main_arg0)
abbrev argG (c : Dev nD) : FVec Ideal S1x1024 .f32 := m ((c : Thread nD τ).loc main_arg1)
abbrev argW (c : Dev nD) : FVec Ideal S1024x4096 .f32 := m ((c : Thread nD τ).loc main_arg2)
abbrev argD (c : Dev nD) : FVec Ideal S8448x1024 .f32 := m ((c : Thread nD τ).loc main_arg3)
abbrev argM (c : Dev nD) : FVec Ideal S8448x4096 .f32 := m ((c : Thread nD τ).loc main_arg4)

/-- A grid point's blocks. -/
abbrev blkM (c : Dev nD) (t : Fin cfg0.N) : FVec Ideal S768x4096 .bf16 := iblk m c 0 t
abbrev blkH (c : Dev nD) (t : Fin cfg0.N) : FVec Ideal S768x1024 .f32 := iblk m c 1 t
abbrev blkD (c : Dev nD) (t : Fin cfg0.N) : FVec Ideal S768x1024 .f32 := iblk m c 2 t
abbrev blkG (c : Dev nD) (t : Fin cfg0.N) : FVec Ideal S1x1024 .f32 := iblk m c 3 t
abbrev blkW (c : Dev nD) (t : Fin cfg0.N) : FVec Ideal S4x1024x1024 .bf16 := iblk m c 4 t

/-- A row of the product's cotangent: the cotangent's row times the transposed weights. -/
def dy (w : FVec Ideal S1024x4096 .f32) (d : FVec Ideal S8448x4096 .f32) (R : Fin 8448) (l : Fin 1024) : EReal :=
  ∑ k : Fin 4096, d (ix2 R k) * w (ix2 l k)

/-- A row of the norm's input. -/
def row (h : FVec Ideal S8448x1024 .f32) (R : Fin 8448) (k : Fin 1024) : EReal := h (ix2 R k)

/-- The cotangent of the residual stream. -/
def dh (h : FVec Ideal S8448x1024 .f32) (g : FVec Ideal S1x1024 .f32) (w : FVec Ideal S1024x4096 .f32)
    (s : FVec Ideal S8448x1024 .f32) (d : FVec Ideal S8448x4096 .f32) : FVec Ideal S8448x1024 .f32 := fun i =>
  s i + RmsGrad.grad (fun l => dy w d (i 0) l * g (ix2 0 l)) (row h (i 0)) (i 1)

/-- What row `R` adds to the gradient of the norm's gain at lane `l`. -/
def dgRow (h : FVec Ideal S8448x1024 .f32) (w : FVec Ideal S1024x4096 .f32) (d : FVec Ideal S8448x4096 .f32) (l : Fin 1024)
    (R : Fin 8448) : EReal :=
  dy w d R l * (h (ix2 R l) * RmsGrad.scale (row h R))

/-- The gradient of the norm's gain. -/
def dg (h : FVec Ideal S8448x1024 .f32) (w : FVec Ideal S1024x4096 .f32) (d : FVec Ideal S8448x4096 .f32) : FVec Ideal S1x1024 .f32 :=
  fun i => ∑ R, dgRow h w d (i 1) R

/-- Where each window's block sits at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![t.val, 0] ∧ win0_7.index t = ![0, 0] :=
  (by decide +kernel : ∀ t : Fin grid0.N, _)

/-- The cotangent as the region finds it. -/
theorem V_m (c : Dev nD) (j : S8448x4096.Idx) : V m c main_v3 j = argM m c j := by
  unfold V
  after_reads_at

/-- The weights, cut in four column tiles, as the region finds them. -/
theorem V_w (c : Dev nD) (a : Fin 4) (b k : Fin 1024) :
    V m c main_v2 (ix3 a b k) = argW m c (ix2 b ⟨a.val * 1024 + k.val, by omega⟩) := by
  unfold V
  after_reads_at

/-- The cotangent's block at a grid point. -/
theorem blk_m (c : Dev nD) (t : Fin cfg0.N) (r : Fin 768) (k : Fin 4096) (R : Fin 8448) (hR : R.val = t.val * 768 + r.val) :
    blkM m c t (ix2 r k) = argM m c (ix2 R k) := by
  rw [← V_m m c (ix2 R k)]
  blk_ext [iblk, (idx t).1]

/-- The norm input's block. -/
theorem blk_h (c : Dev nD) (t : Fin cfg0.N) (r : Fin 768) (k : Fin 1024) (R : Fin 8448) (hR : R.val = t.val * 768 + r.val) :
    blkH m c t (ix2 r k) = argH m c (ix2 R k) := by
  rw [show argH m c (ix2 R k) = V m c main_arg0 (ix2 R k) from by unfold V; after_reads_at]
  blk_ext [iblk, (idx t).2.1]

/-- The stream cotangent's block. -/
theorem blk_d (c : Dev nD) (t : Fin cfg0.N) (r : Fin 768) (k : Fin 1024) (R : Fin 8448) (hR : R.val = t.val * 768 + r.val) :
    blkD m c t (ix2 r k) = argD m c (ix2 R k) := by
  rw [show argD m c (ix2 R k) = V m c main_arg3 (ix2 R k) from by unfold V; after_reads_at]
  blk_ext [iblk, (idx t).2.2.1]

/-- The gain's block, the whole array at every grid point. -/
theorem blk_g (c : Dev nD) (t : Fin cfg0.N) (k : Fin 1024) : blkG m c t (ix2 0 k) = argG m c (ix2 0 k) := by
  rw [show argG m c (ix2 0 k) = V m c main_arg1 (ix2 0 k) from by unfold V; after_reads_at]
  blk_ext [iblk, (idx t).2.2.2.1]

/-- The weights' block, the whole array at every grid point. -/
theorem blk_w (c : Dev nD) (t : Fin cfg0.N) (a : Fin 4) (b k : Fin 1024) (l : Fin 4096) (hl : l.val = a.val * 1024 + k.val) :
    blkW m c t (ix3 a b k) = argW m c (ix2 b l) := by
  have e : l = ⟨a.val * 1024 + k.val, by omega⟩ := Fin.ext hl
  rw [e, ← V_w m c a b k]
  blk_ext [iblk, (idx t).2.2.2.2.1]

/-- The four tile products of a block's row are the row of the product's cotangent. -/
theorem dot4 (c : Dev nD) (t : Fin cfg0.N) (r : Fin 768) (R : Fin 8448) (hR : R.val = t.val * 768 + r.val) (b : Fin 1024) :
    (∑ x : Fin 1024, blkM m c t (ix2 r ⟨x.val, by omega⟩) * blkW m c t (ix3 0 b x)
      + ∑ x : Fin 1024, blkM m c t (ix2 r ⟨1024 + x.val, by omega⟩) * blkW m c t (ix3 1 b x)
      + ∑ x : Fin 1024, blkM m c t (ix2 r ⟨2048 + x.val, by omega⟩) * blkW m c t (ix3 2 b x)
      + ∑ x : Fin 1024, blkM m c t (ix2 r ⟨3072 + x.val, by omega⟩) * blkW m c t (ix3 3 b x))
      = dy (argW m c) (argM m c) R b := by
  unfold dy
  rw [← RmsGrad.sum_four]
  have e : ∀ (a : Fin 4) (x : Fin 1024) (l : Fin 4096), l.val = a.val * 1024 + x.val →
      blkM m c t (ix2 r l) * blkW m c t (ix3 a b x) = argM m c (ix2 R l) * argW m c (ix2 b l) := fun a x l hl => by
    rw [blk_m m c t r l R hR, blk_w m c t a b x l hl]
  refine congrArg₂ _ (congrArg₂ _ (congrArg₂ _ ?_ ?_) ?_) ?_ <;>
    exact Finset.sum_congr rfl fun x _ => e _ _ _ (by simp)

/-- What the body leaves of the stream's cotangent at a block's element. -/
theorem point (c : Dev nD) (t : Fin cfg0.N) (r : Fin 768) (l : Fin 1024) (R : Fin 8448) (hR : R.val = t.val * 768 + r.val) :
    (outsAt0 m c t.val t.isLt).1 (ix2 r l) = dh (argH m c) (argG m c) (argW m c) (argD m c) (argM m c) (ix2 R l) := by
  by_cases h0 : t.val % 11 = 0
  · rw [outsAt0_A m c t h0]
    frame_out
    pointwise [k0_pay1, k0_pay2, k0_pay3, k0_pay4, k0_pay5, k0_pay6, k0_pay7]
    simp only [dot4 m c t r R hR, blk_h m c t r _ R hR, blk_d m c t r _ R hR, blk_g m c t]
    rfl
  · rw [outsAt0_B m c t h0]
    frame_out
    pointwise [k0_pay1, k0_pay2, k0_pay3, k0_pay4, k0_pay5, k0_pay6, k0_pay7]
    simp only [dot4 m c t r R hR, blk_h m c t r _ R hR, blk_d m c t r _ R hR, blk_g m c t]
    rfl

/-- The rounded copy of the stream's cotangent is, on the extended reals, the cotangent itself. -/
theorem point_b (c : Dev nD) (t : Fin cfg0.N) (y : S768x1024.Idx) :
    (outsAt0 m c t.val t.isLt).2.1 y = (outsAt0 m c t.val t.isLt).1 y := by
  by_cases h0 : t.val % 11 = 0
  · rw [outsAt0_A m c t h0]
    frame_out
    pointwise [k0_pay2, k0_pay3]
  · rw [outsAt0_B m c t h0]
    frame_out
    pointwise [k0_pay2, k0_pay3]

theorem lt_row (x : Fin 96) (s : Fin 8) : x.val * 8 + s.val < 768 := by omega

/-- A block's contribution to one of the eight partial sums of the gain's gradient. -/
def part (c : Dev nD) (t : Fin cfg0.N) (y : S8x1024.Idx) : EReal :=
  ∑ x : Fin 96, dgRow (argH m c) (argW m c) (argM m c) (y 1)
    ⟨t.val * 768 + (x.val * 8 + (y 0).val), by have : t.val < 11 := t.isLt; have := lt_row x (y 0); omega⟩

/-- The partial sums after a block, the block's place given by its number. -/
def acc (c : Dev nD) (n : ℕ) (h : n < cfg0.N) : S8x1024.Idx → EReal := (outsAt0 m c n h).2.2

/-- A row's contribution from the block's own elements. -/
theorem part_row (c : Dev nD) (t : Fin cfg0.N) (r : Fin 768) (l : Fin 1024) (R : Fin 8448) (hR : R.val = t.val * 768 + r.val) :
    (∑ k : Fin 1024, blkM m c t (ix2 r ⟨k.val, by omega⟩) * blkW m c t (ix3 0 l k)
      + ∑ k : Fin 1024, blkM m c t (ix2 r ⟨1024 + k.val, by omega⟩) * blkW m c t (ix3 1 l k)
      + ∑ k : Fin 1024, blkM m c t (ix2 r ⟨2048 + k.val, by omega⟩) * blkW m c t (ix3 2 l k)
      + ∑ k : Fin 1024, blkM m c t (ix2 r ⟨3072 + k.val, by omega⟩) * blkW m c t (ix3 3 l k))
      * (blkH m c t (ix2 r l) * Ideal.rsqrt (Ideal.div (∑ k, blkH m c t (ix2 r k) * blkH m c t (ix2 r k)) (Ideal.ofBits .f32 0x44800000#32)
          + Ideal.ofBits .f32 0x3727C5AC#32))
      = dgRow (argH m c) (argW m c) (argM m c) l R := by
  simp only [dot4 m c t r R hR, blk_h m c t r _ R hR]
  rfl

theorem step_A (c : Dev nD) (t : Fin cfg0.N) (h : t.val % 11 = 0) (y : S8x1024.Idx) :
    acc m c t.val t.isLt y = 0 + part m c t y := by
  obtain ⟨s, l, rfl⟩ : ∃ (s : Fin 8) (l : Fin 1024), y = ix2 s l := ⟨y 0, y 1, eq_ix2 y⟩
  unfold acc
  rw [outsAt0_A m c t h]
  frame_out
  pointwise [k0_pay1, k0_pay4, k0_pay5, k0_pay6, k0_pay7]
  exact Finset.sum_congr rfl fun x _ => part_row m c t ⟨x.val * 8 + s.val, lt_row x s⟩ l _ rfl

theorem step_B (c : Dev nD) (t : Fin cfg0.N) (h : ¬ t.val % 11 = 0) (y : S8x1024.Idx) :
    acc m c t.val t.isLt y = acc m c (t.val - 1) (Nat.lt_of_le_of_lt (Nat.sub_le _ _) t.isLt) y + part m c t y := by
  obtain ⟨s, l, rfl⟩ : ∃ (s : Fin 8) (l : Fin 1024), y = ix2 s l := ⟨y 0, y 1, eq_ix2 y⟩
  unfold acc
  rw [outsAt0_B m c t h]
  frame_out
  pointwise [k0_pay1, k0_pay4, k0_pay5, k0_pay6, k0_pay7]
  exact congrArg _ (Finset.sum_congr rfl fun x _ => part_row m c t ⟨x.val * 8 + s.val, lt_row x s⟩ l _ rfl)

/-- After the last block a partial sum holds every block's contribution. -/
theorem acc_last (c : Dev nD) (t : Fin cfg0.N) (ht : t.val = 10) (y : S8x1024.Idx) :
    acc m c t.val t.isLt y = ∑ t : Fin cfg0.N, part m c t y :=
  (Pipeline.eq_sum_fin_of_reset_step_apply_last (acc m c) 11 (fun _ => (0 : EReal)) (part m c)
    (fun t h => step_A m c t h) (fun t h => step_B m c t h) (by decide) t (by rw [ht]; rfl) y).trans (zero_add (M := EReal) _)

/-- After the run the first result holds the stream's cotangent. -/
theorem final5 (c : Dev nD) : (dats m 0 c).arrAt 5 cfg0.N = dh (argH m c) (argG m c) (argW m c) (argD m c) (argM m c) := by
  refine (dats m 0 c).arrAt_eq_of_covers 5 _ (by decide +kernel) fun t hf y => ?_
  blk_simp
  rw [after0_5]
  have ht : t.val < 11 := t.isLt
  obtain ⟨r, l, rfl⟩ : ∃ (r : Fin 768) (l : Fin 1024), y = ix2 r l := ⟨y 0, y 1, eq_ix2 y⟩
  have he : (win0_5.blk t).view.emb (ix2 r l) = ix2 (⟨t.val * 768 + r.val, by omega⟩ : Fin 8448) l := by
    blk_ext [(idx t).2.2.2.2.2.1]
  refine Eq.trans ?_ (congrArg _ he.symm)
  exact point m c t r l _ rfl

/-- So does the second. -/
theorem final6 (c : Dev nD) : (dats m 0 c).arrAt 6 cfg0.N = dh (argH m c) (argG m c) (argW m c) (argD m c) (argM m c) := by
  refine (dats m 0 c).arrAt_eq_of_covers 6 _ (by decide +kernel) fun t hf y => ?_
  blk_simp
  rw [after0_6]
  have ht : t.val < 11 := t.isLt
  obtain ⟨r, l, rfl⟩ : ∃ (r : Fin 768) (l : Fin 1024), y = ix2 r l := ⟨y 0, y 1, eq_ix2 y⟩
  have he : (win0_6.blk t).view.emb (ix2 r l) = ix2 (⟨t.val * 768 + r.val, by omega⟩ : Fin 8448) l := by
    blk_ext [(idx t).2.2.2.2.2.2.1]
  refine Eq.trans ?_ (congrArg _ he.symm)
  exact (point_b m c t _).trans (point m c t r l _ rfl)

/-- The eight partial sums as the region leaves them. -/
theorem final7 (c : Dev nD) : (dats m 0 c).arrAt 7 cfg0.N = (fun y => ∑ t : Fin cfg0.N, part m c t y : FVec Ideal S8x1024 .f32) := by
  have hw : ∀ t : Fin cfg0.N, t.val = 10 → (cfg0.win 7).WholeAt t := by decide +kernel
  obtain ⟨t, ht⟩ : ∃ t : Fin cfg0.N, t.val = 10 := ⟨⟨10, by decide⟩, rfl⟩
  refine (dats m 0 c).arrAt_eq_of_after_last 7 t (hw t ht) _ fun j => ?_
  blk_simp
  rw [after0_7]
  exact acc_last m c t ht _

/-- The host's reduction of the partial sums is the gradient of the gain. -/
theorem tail (c : Dev nD) : (Pipeline.afterTail₀ cfgs (dats m) 0 (V0 m) [hostOps1] c main_v6 : FVec Ideal S1x1024 .f32)
    = dg (argH m c) (argW m c) (argM m c) := by
  funext y
  unfold Pipeline.afterTail₀
  after_reads_at
  have e : Pipeline.withArrays (cfgs 0).spec c (V0 m c) (fun w => (dats m 0 c).arrAt w (cfgs 0).N) (Proc.tc.devRef main_v4_2)
      = (dats m 0 c).arrAt 7 cfg0.N :=
    Pipeline.withArrays_arr (cfgs 0).spec (by decide) c (V0 m c) (fun w => (dats m 0 c).arrAt w (cfgs 0).N) 7
  rw [e, final7]
  exact RmsGrad.sum_rows 11 96 rfl fun s t x hl => rfl

theorem run : θ_run defs (onTc (τ := τ) (main (F := Ideal))) ⟨m, fun _ => 0, ρ⟩ (fun r => ∀ c : Dev nD,
      r.2.mem ((c.tc : Thread nD τ).loc main_v4_0) = dh (argH m c) (argG m c) (argW m c) (argD m c) (argM m c)
      ∧ r.2.mem ((c.tc : Thread nD τ).loc main_v4_1) = dh (argH m c) (argG m c) (argW m c) (argD m c) (argM m c)
      ∧ r.2.mem ((c.tc : Thread nD τ).loc main_v6) = dg (argH m c) (argW m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (run_main (F := Ideal) m ρ)
  · exact final5 m c
  · exact final6 m c
  · exact tail m c
  · exact W_main_arg2 m (dats m) c
  · exact W_main_arg4 m (dats m) c

end Cert.UpIdeal.RefValue

namespace Cert.UpRefIdeal.RefValue

open Cert.UpRefIdeal Cert.UpRefIdeal.Gen Idealize.ShloMosaic Idealize.ShloMosaic.TcCoe

variable (m : (ℓ : Loc nD τ sig) → Buf (Elt Ideal) ℓ)

/-- Device `c`'s argument arrays as launched. -/
abbrev argH (c : Dev nD) : FVec Ideal S8448x1024 .f32 := m ((c : Thread nD τ).loc main_arg0)
abbrev argG (c : Dev nD) : FVec Ideal S1x1024 .f32 := m ((c : Thread nD τ).loc main_arg1)
abbrev argW (c : Dev nD) : FVec Ideal S1024x4096 .f32 := m ((c : Thread nD τ).loc main_arg2)
abbrev argD (c : Dev nD) : FVec Ideal S8448x1024 .f32 := m ((c : Thread nD τ).loc main_arg3)
abbrev argM (c : Dev nD) : FVec Ideal S8448x4096 .f32 := m ((c : Thread nD τ).loc main_arg4)

/-- The reference's first result, where the arguments of the norm are real numbers. -/
theorem dh_eq (c : Dev nD) (hH : ∀ i, RmsGrad.IsReal (argH m c i)) (hG : ∀ i, RmsGrad.IsReal (argG m c i))
    (hW : ∀ i, RmsGrad.IsReal (argW m c i)) (hM : ∀ i, RmsGrad.IsReal (argM m c i)) (R : Fin 8448) (l : Fin 1024) :
    Cert.UpRefIdeal.Value.res_main_v38 m c (ix2 R l)
      = Cert.UpIdeal.RefValue.dh (argH m c) (argG m c) (argW m c) (argD m c) (argM m c) (ix2 R l) := by
  pointwise [Cert.UpRefIdeal.Value.res_main_v38]
  rw [Fin.sum_univ_one]
  exact RmsGrad.add_grad_eq (argD m c (ix2 R l))
    (e := fun k => Cert.UpIdeal.RefValue.dy (argW m c) (argM m c) R k * argG m c (ix2 0 k)) (h := Cert.UpIdeal.RefValue.row (argH m c) R)
    (fun k => (RmsGrad.IsReal.sum fun i => (hM _).mul (hW _)).mul (hG _)) (fun k => hH _) l

/-- The second is the first, rounded: the same numbers. -/
theorem dhb_eq (c : Dev nD) (j : S8448x1024.Idx) : Cert.UpRefIdeal.Value.res_main_v39 m c j = Cert.UpRefIdeal.Value.res_main_v38 m c j := by
  pointwise [Cert.UpRefIdeal.Value.res_main_v38, Cert.UpRefIdeal.Value.res_main_v39]

/-- The reference's third result. -/
theorem dg_eq (h : FVec Ideal S8448x1024 .f32) (w : FVec Ideal S1024x4096 .f32) (d : FVec Ideal S8448x4096 .f32) :
    shapeCast _ (Host.reduceAdd (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (Host.dotGeneral dot_S8448x4096_S1024x4096_S8448x1024_1_1_0_0_n_n none d w)) (constant S_ .f32 0x00000000#32) reducesTo_S8448x1024_S1024_d0 h_S_) shapeCasts_S1024_S1x1024
      = Cert.UpIdeal.RefValue.dg h w d := by
  funext j
  pointwise []
  exact Finset.sum_congr rfl fun R _ => mul_comm _ _

end Cert.UpRefIdeal.RefValue

/-! ## The claims about this call -/

namespace Cert.Proof.Up

open Idealize.ShloMosaic Idealize.ShloMosaic.TcCoe Idealize.SL.Sem

/-- The precondition's masks have the shapes they are stated at. -/
instance facts_pre : Cert.Pre_up_finite.Facts := ⟨by decide, by decide, by decide, by decide⟩

/-- The kernel runs, leaves its arguments as they were and ends with every semaphore at zero. -/
theorem frame_kernel : Cert.quiescent_Up := fun m ρ _ => Cert.Up.Gen.frame m ρ

/-- So does its idealization. -/
theorem frame_ideal : Cert.quiescent_UpIdeal := fun m ρ _ => Cert.UpIdeal.Gen.frame m ρ
theorem frame_ideal_pre : Cert.quiescent_UpIdeal_pre_up_finite := fun m ρ _ => Cert.UpIdeal.Gen.frame m ρ

/-- And the reference. -/
theorem frame_ref : Cert.quiescent_UpRefIdeal := fun m ρ _ =>
  (θ_run Cert.UpRefIdeal.defs _ _).mono
    (fun r h => ⟨fun c => (h c).2.2.2, Idealize.ShloMosaic.sem_eq_zero_of_no_sems (by decide) r.2⟩)
    (Cert.UpRefIdeal.Value.run (F := Ideal) m ρ)
theorem frame_ref_pre : Cert.quiescent_UpRefIdeal_pre_up_finite := fun m ρ _ => frame_ref m ρ trivial

/-- On the extended reals the kernel's results are the derivative of `rmsnorm(h) * g @ w_up` and of the residual stream beside it. -/
theorem value : Cert.algebraic_UpIdeal_UpRefIdeal_pre_up_finite := fun m ρ m' ρ' hp hag =>
  ⟨fun c => UpIdeal.RefValue.dh (UpIdeal.RefValue.argH m c) (UpIdeal.RefValue.argG m c) (UpIdeal.RefValue.argW m c)
      (UpIdeal.RefValue.argD m c) (UpIdeal.RefValue.argM m c),
    fun c => UpIdeal.RefValue.dh (UpIdeal.RefValue.argH m c) (UpIdeal.RefValue.argG m c) (UpIdeal.RefValue.argW m c)
      (UpIdeal.RefValue.argD m c) (UpIdeal.RefValue.argM m c),
    fun c => UpIdeal.RefValue.dg (UpIdeal.RefValue.argH m c) (UpIdeal.RefValue.argW m c) (UpIdeal.RefValue.argM m c),
    UpIdeal.RefValue.run m ρ,
    (θ_run Cert.UpRefIdeal.defs _ _).mono (fun _ h c => by
        obtain ⟨h1, h2, h3, hr⟩ := h c
        obtain ⟨a0, a1, a2, a3, a4⟩ := hag c
        obtain ⟨p0, p1, p2, p3⟩ := hp c
        have q := UpRefIdeal.RefValue.dh_eq m' c (fun i => by rw [UpRefIdeal.RefValue.argH, a0]; exact RmsGrad.isReal_of_mask _ p0 i)
          (fun i => by rw [UpRefIdeal.RefValue.argG, a1]; exact RmsGrad.isReal_of_mask _ p1 i)
          (fun i => by rw [UpRefIdeal.RefValue.argW, a2]; exact RmsGrad.isReal_of_mask _ p2 i)
          (fun i => by rw [UpRefIdeal.RefValue.argM, a4]; exact RmsGrad.isReal_of_mask _ p3 i)
        unfold UpRefIdeal.RefValue.argH UpRefIdeal.RefValue.argG UpRefIdeal.RefValue.argW UpRefIdeal.RefValue.argD
          UpRefIdeal.RefValue.argM at q
        rw [a0, a1, a2, a3, a4] at q
        refine ⟨h1.trans (funext fun j => ?_), h2.trans (funext fun j => ?_), h3.trans ?_, hr⟩
        · rw [eq_ix2 j]; exact q _ _
        · refine (UpRefIdeal.RefValue.dhb_eq m' c j).trans ?_
          rw [eq_ix2 j]; exact q _ _
        · rw [a0, a2, a4]; exact UpRefIdeal.RefValue.dg_eq _ _ _)
      (Cert.UpRefIdeal.Value.run (F := Ideal) m' ρ')⟩

end Cert.Proof.Up

end
-- ==== Proof.Out.lean ====
/-
  The value of `out_bwd`: the gradient of the S5 branch's gated linear unit, its norm and the output projection.

  The kernel works on 11 blocks of 768 rows. It multiplies the cotangent by the transposed weights in four tiles of 512
  rows: the first two tiles are the cotangent of the other branch, the last two that of the normed gate, which goes back
  through the norm by its closed form and through the gate. The gradients of the norm's gain and of the bias are kept in
  eight partial sums each and reduced after the last block.
-/
module

public import proofs.«01_k».proof.Defs
public import proofs.«01_k».proof.Proof.RmsGrad
public import proofs.«01_k».proof.Proof.Gen.Out.Frame
public import proofs.«01_k».proof.Proof.Gen.OutIdeal.Frame
public import proofs.«01_k».proof.Proof.Gen.OutRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.GateGrad

open Idealize.ShloMosaic

/-- The lower and the upper half of the gated linear unit's columns. -/
def lo (k : Fin 1024) : Fin 2048 := ⟨k.val, by omega⟩
def hi (k : Fin 1024) : Fin 2048 := ⟨1024 + k.val, by omega⟩

/-- The logistic function, as a quotient. -/
def sgm (x : EReal) : EReal := Ideal.div 1 (1 + Ideal.exp (-x))

theorem sgm_real {x : EReal} (hx : RmsGrad.IsReal x) : RmsGrad.IsReal (sgm x) := by
  obtain ⟨r, rfl⟩ := hx
  have h0 : (1 + Real.exp (-r) : ℝ) ≠ 0 := by positivity
  refine ⟨1 / (1 + Real.exp (-r)), ?_⟩
  rw [sgm, ← EReal.coe_neg, Ideal.exp_coe, ← EReal.coe_one, ← EReal.coe_add, Ideal.div_coe h0, ← EReal.coe_mul, one_mul]

/-- A row of the gated linear unit: the lower half times the logistic function of the upper. -/
def gate (v : Fin 2048 → EReal) (k : Fin 1024) : EReal := v (lo k) * sgm (v (hi k))

/-- The gradient of a row of `rmsnorm(gate v) * g` for the cotangent `d`, as the kernel takes it. -/
def back (d g : Fin 1024 → EReal) (v : Fin 2048 → EReal) (j : Fin 2048) : EReal :=
  if h : j.val < 1024 then
    RmsGrad.grad (fun k => d k * g k) (gate v) ⟨j.val, h⟩ * sgm (v (hi ⟨j.val, h⟩))
  else
    RmsGrad.grad (fun k => d k * g k) (gate v) ⟨j.val - 1024, by omega⟩ * v (lo ⟨j.val - 1024, by omega⟩)
      * sgm (v (hi ⟨j.val - 1024, by omega⟩)) * (1 - sgm (v (hi ⟨j.val - 1024, by omega⟩)))

/-- The cotangent of the norm's input, the derivative taken operation by operation. -/
def ops (e h : Fin 1024 → EReal) (k : Fin 1024) : EReal :=
  e k * RmsGrad.scale h + h k * RmsGrad.back e h + RmsGrad.back e h * h k

/-- The derivative taken operation by operation, each half padded to the whole width. -/
theorem back_eq {d g : Fin 1024 → EReal} {v : Fin 2048 → EReal} (hd : ∀ k, RmsGrad.IsReal (d k)) (hg : ∀ k, RmsGrad.IsReal (g k))
    (hv : ∀ j, RmsGrad.IsReal (v j)) (j : Fin 2048) :
    ((if h : 1024 ≤ j.val ∧ j.val - 1024 < 1024 then
        v (lo ⟨j.val - 1024, h.2⟩) * ops (fun k => d k * g k) (gate v) ⟨j.val - 1024, h.2⟩
          * (sgm (v (hi ⟨j.val - 1024, h.2⟩)) * (1 - sgm (v (hi ⟨j.val - 1024, h.2⟩))))
      else 0)
      + if h : j.val < 1024 then ops (fun k => d k * g k) (gate v) ⟨j.val, h⟩ * sgm (v (hi ⟨j.val, h⟩)) else 0)
      = back d g v j := by
  have ho : ∀ k, ops (fun k => d k * g k) (gate v) k = RmsGrad.grad (fun k => d k * g k) (gate v) k := fun k =>
    RmsGrad.grad_eq (fun k => (hd k).mul (hg k)) (fun k => (hv _).mul (sgm_real (hv _))) k
  simp only [ho]
  unfold back
  by_cases h : j.val < 1024
  · rw [dif_neg (by omega), dif_pos h, dif_pos h, zero_add]
  · rw [dif_pos ⟨by omega, by omega⟩, dif_neg h, dif_neg h, add_zero, mul_comm (v _) (RmsGrad.grad _ _ _), ← mul_assoc]

end Cert.GateGrad

namespace Cert.OutIdeal.RefValue

open Cert.OutIdeal Cert.OutIdeal.Gen Idealize.ShloMosaic Idealize.ShloMosaic.TcCoe Idealize.SL.Sem
open Idealize.ShloMosaic.Pipeline (Dat)
open Cert.GateGrad (lo hi sgm)

variable (m : (ℓ : Loc nD τ sig) → Buf (Elt Ideal) ℓ) (ρ : Dev nD → PrngReg)

/-- Device `c`'s argument arrays as launched. -/
abbrev argV (c : Dev nD) : FVec Ideal S8448x2048 .f32 := m ((c : Thread nD τ).loc main_arg0)
abbrev argB (c : Dev nD) : FVec Ideal S1x2048 .f32 := m ((c : Thread nD τ).loc main_arg1)
abbrev argG (c : Dev nD) : FVec Ideal S1x1024 .f32 := m ((c : Thread nD τ).loc main_arg2)
abbrev argW (c : Dev nD) : FVec Ideal S2048x1024 .f32 := m ((c : Thread nD τ).loc main_arg3)
abbrev argD (c : Dev nD) : FVec Ideal S8448x1024 .f32 := m ((c : Thread nD τ).loc main_arg4)

/-- A grid point's blocks. -/
abbrev blkD (c : Dev nD) (t : Fin cfg0.N) : FVec Ideal S768x1024 .bf16 := iblk m c 0 t
abbrev blkV (c : Dev nD) (t : Fin cfg0.N) : FVec Ideal S768x2048 .bf16 := iblk m c 1 t
abbrev blkG (c : Dev nD) (t : Fin cfg0.N) : FVec Ideal S1x1024 .f32 := iblk m c 2 t
abbrev blkW (c : Dev nD) (t : Fin cfg0.N) : FVec Ideal S4x512x1024 .bf16 := iblk m c 3 t

/-- A row of the cotangent of the concatenated branches: the cotangent's row times the transposed weights. -/
def dmix (w : FVec Ideal S2048x1024 .f32) (d : FVec Ideal S8448x1024 .f32) (R : Fin 8448) (j : Fin 2048) : EReal :=
  ∑ k : Fin 1024, d (ix2 R k) * w (ix2 j k)

/-- A row of the gated linear unit's input. -/
def gin (v : FVec Ideal S8448x2048 .f32) (b : FVec Ideal S1x2048 .f32) (R : Fin 8448) (j : Fin 2048) : EReal :=
  v (ix2 R j) + b (ix2 0 j)

/-- The cotangent of the other branch. -/
def dys (w : FVec Ideal S2048x1024 .f32) (d : FVec Ideal S8448x1024 .f32) : FVec Ideal S8448x1024 .f32 := fun i =>
  dmix w d (i 0) (lo (i 1))

/-- A row of the cotangent of the gated linear unit's input. -/
def dvRow (v : FVec Ideal S8448x2048 .f32) (b : FVec Ideal S1x2048 .f32) (g : FVec Ideal S1x1024 .f32) (w : FVec Ideal S2048x1024 .f32)
    (d : FVec Ideal S8448x1024 .f32) (j : Fin 2048) (R : Fin 8448) : EReal :=
  GateGrad.back (fun k => dmix w d R (hi k)) (fun k => g (ix2 0 k)) (gin v b R) j

/-- The cotangent of the gated linear unit's input. -/
def dv (v : FVec Ideal S8448x2048 .f32) (b : FVec Ideal S1x2048 .f32) (g : FVec Ideal S1x1024 .f32) (w : FVec Ideal S2048x1024 .f32)
    (d : FVec Ideal S8448x1024 .f32) : FVec Ideal S8448x2048 .bf16 := fun i => dvRow v b g w d (i 1) (i 0)

/-- What row `R` adds to the gradient of the norm's gain at lane `l`. -/
def dgRow (v : FVec Ideal S8448x2048 .f32) (b : FVec Ideal S1x2048 .f32) (w : FVec Ideal S2048x1024 .f32) (d : FVec Ideal S8448x1024 .f32)
    (l : Fin 1024) (R : Fin 8448) : EReal :=
  dmix w d R (hi l) * (GateGrad.gate (gin v b R) l * RmsGrad.scale (GateGrad.gate (gin v b R)))

/-- The gradient of the norm's gain. -/
def dg (v : FVec Ideal S8448x2048 .f32) (b : FVec Ideal S1x2048 .f32) (w : FVec Ideal S2048x1024 .f32)
    (d : FVec Ideal S8448x1024 .f32) : FVec Ideal S1x1024 .f32 := fun i => ∑ R, dgRow v b w d (i 1) R

/-- The gradient of the bias. -/
def db (v : FVec Ideal S8448x2048 .f32) (b : FVec Ideal S1x2048 .f32) (g : FVec Ideal S1x1024 .f32) (w : FVec Ideal S2048x1024 .f32)
    (d : FVec Ideal S8448x1024 .f32) : FVec Ideal S1x2048 .f32 := fun i => ∑ R, dvRow v b g w d (i 1) R

/-- Where each window's block sits at a grid point. -/
theorem idx : ∀ t : Fin cfg0.N, win0_0.index t = ![t.val, 0] ∧ win0_1.index t = ![t.val, 0] ∧ win0_2.index t = ![0, 0]
    ∧ win0_3.index t = ![0, 1, 0] ∧ win0_4.index t = ![t.val, 0] ∧ win0_5.index t = ![t.val, 0] ∧ win0_6.index t = ![0, 0] ∧ win0_7.index t = ![0, 0] :=
  (by decide +kernel : ∀ t : Fin grid0.N, _)

/-- The cotangent as the region finds it. -/
theorem V_d (c : Dev nD) (j : S8448x1024.Idx) : V m c main_v7 j = argD m c j := by
  unfold V
  after_reads_at

/-- The gated linear unit's input as the region finds it: with the bias added. -/
theorem V_v (c : Dev nD) (R : Fin 8448) (k : Fin 2048) :
    V m c main_v6 (ix2 R k) = argV m c (ix2 R k) + argB m c (ix2 0 k) := by
  unfold V
  after_reads_at

/-- The weights in four tiles of 512 rows, as the region finds them behind as many rows of zeros. -/
theorem V_w (c : Dev nD) (a : Fin 4) (b : Fin 512) (k : Fin 1024) :
    V m c main_v3 (ix3 a ⟨512 + b.val, by omega⟩ k) = argW m c (ix2 ⟨a.val * 512 + b.val, by omega⟩ k) := by
  unfold V
  after_reads_at

/-- The cotangent's block at a grid point. -/
theorem blk_d (c : Dev nD) (t : Fin cfg0.N) (r : Fin 768) (k : Fin 1024) (R : Fin 8448) (hR : R.val = t.val * 768 + r.val) :
    blkD m c t (ix2 r k) = argD m c (ix2 R k) := by
  rw [← V_d m c (ix2 R k)]
  blk_ext [iblk, (idx t).1]

/-- The block of the gated linear unit's input. -/
theorem blk_v (c : Dev nD) (t : Fin cfg0.N) (r : Fin 768) (k : Fin 2048) (R : Fin 8448) (hR : R.val = t.val * 768 + r.val) :
    blkV m c t (ix2 r k) = argV m c (ix2 R k) + argB m c (ix2 0 k) := by
  rw [← V_v m c R k]
  blk_ext [iblk, (idx t).2.1]

/-- The gain's block, the whole array at every grid point. -/
theorem blk_g (c : Dev nD) (t : Fin cfg0.N) (k : Fin 1024) : blkG m c t (ix2 0 k) = argG m c (ix2 0 k) := by
  rw [show argG m c (ix2 0 k) = V m c main_arg2 (ix2 0 k) from by unfold V; after_reads_at]
  blk_ext [iblk, (idx t).2.2.1]

/-- The weights' block: the tiles without the rows of zeros. -/
theorem blk_w (c : Dev nD) (t : Fin cfg0.N) (a : Fin 4) (b : Fin 512) (k : Fin 1024) (j : Fin 2048) (hj : j.val = a.val * 512 + b.val) :
    blkW m c t (ix3 a b k) = argW m c (ix2 j k) := by
  have e : j = ⟨a.val * 512 + b.val, by omega⟩ := Fin.ext hj
  rw [e, ← V_w m c a b k]
  blk_ext [iblk, (idx t).2.2.2.1]

/-- Two tile products of a block's row, side by side, are half a row of the concatenated branches' cotangent. -/
theorem dot2 (c : Dev nD) (t : Fin cfg0.N) (r : Fin 768) (R : Fin 8448) (hR : R.val = t.val * 768 + r.val) (a b : Fin 4) (hb : b.val = a.val + 1)
    (k : Fin 1024) (j : Fin 2048) (hj : j.val = a.val * 512 + k.val) :
    (if h : k.val < 512 then ∑ x : Fin 1024, blkD m c t (ix2 r x) * blkW m c t (ix3 a ⟨k.val, h⟩ x)
      else ∑ x : Fin 1024, blkD m c t (ix2 r x) * blkW m c t (ix3 b ⟨k.val - 512, by omega⟩ x)) = dmix (argW m c) (argD m c) R j := by
  split_ifs with h
  · exact Finset.sum_congr rfl fun x _ => by rw [blk_d m c t r x R hR, blk_w m c t a _ x j (by simpa using hj)]
  · exact Finset.sum_congr rfl fun x _ => by rw [blk_d m c t r x R hR, blk_w m c t b _ x j (by simp only; omega)]

theorem dot_lo (c : Dev nD) (t : Fin cfg0.N) (r : Fin 768) (R : Fin 8448) (hR : R.val = t.val * 768 + r.val) (k : Fin 1024) :
    (if h : k.val < 512 then ∑ x : Fin 1024, blkD m c t (ix2 r x) * blkW m c t (ix3 0 ⟨k.val, h⟩ x)
      else ∑ x : Fin 1024, blkD m c t (ix2 r x) * blkW m c t (ix3 1 ⟨k.val - 512, by omega⟩ x)) = dmix (argW m c) (argD m c) R (lo k) :=
  dot2 m c t r R hR 0 1 rfl k (lo k) (by simp [lo])

theorem dot_hi (c : Dev nD) (t : Fin cfg0.N) (r : Fin 768) (R : Fin 8448) (hR : R.val = t.val * 768 + r.val) (k : Fin 1024) :
    (if h : k.val < 512 then ∑ x : Fin 1024, blkD m c t (ix2 r x) * blkW m c t (ix3 2 ⟨k.val, h⟩ x)
      else ∑ x : Fin 1024, blkD m c t (ix2 r x) * blkW m c t (ix3 3 ⟨k.val - 512, by omega⟩ x)) = dmix (argW m c) (argD m c) R (hi k) :=
  dot2 m c t r R hR 2 3 rfl k (hi k) (by simp [hi])

/-- What the body computes from the gated linear unit's input `v`: its lower half, the logistic function of its upper half, and the
    gate. -/
theorem pay6 (v : Vec Ideal S768x2048 .bf16) (r : Fin 768) (k : Fin 1024) : k0_pay6 v (ix2 r k) = v (ix2 r (lo k)) := by
  pointwise [k0_pay3, k0_pay6]
  rfl

theorem pay7 (v : Vec Ideal S768x2048 .bf16) (r : Fin 768) (k : Fin 1024) : k0_pay7 v (ix2 r k) = sgm (v (ix2 r (hi k))) := by
  pointwise [k0_pay3, k0_pay7]
  rw [zero_sub]
  rfl

theorem pay9 (v : Vec Ideal S768x2048 .bf16) (r : Fin 768) (k : Fin 1024) :
    k0_pay9 v (ix2 r k) = GateGrad.gate (fun j => v (ix2 r j)) k := by
  pointwise [k0_pay9]
  rw [pay6, pay7]
  rfl

/-- The gated linear unit's cotangent from the norm's cotangent `d`. -/
theorem pay13 (v : Vec Ideal S768x2048 .bf16) (g : Vec Ideal S1x1024 .f32) (d : FVec Ideal S768x1024 .f32) (r : Fin 768) (j : Fin 2048) :
    k0_pay13 g (k0_pay6 v) (k0_pay7 v) d (k0_pay9 v) (k0_pay10 v) (ix2 r j)
      = GateGrad.back (fun k => d (ix2 r k)) (fun k => g (ix2 0 k)) (fun j => v (ix2 r j)) j := by
  pointwise [k0_pay10, k0_pay11, k0_pay12, k0_pay13]
  simp only [pay6, pay7, pay9]
  rfl

/-- What the body leaves of the other branch's cotangent at a block's element. -/
theorem point_y (c : Dev nD) (t : Fin cfg0.N) (r : Fin 768) (l : Fin 1024) (R : Fin 8448) (hR : R.val = t.val * 768 + r.val) :
    (outsAt0 m c t.val t.isLt).1 (ix2 r l) = dys (argW m c) (argD m c) (ix2 R l) := by
  by_cases h0 : t.val % 11 = 0
  · rw [outsAt0_A m c t h0]
    frame_out
    pointwise [k0_pay2, k0_pay4, k0_pay5, k0_pay14]
    exact dot_lo m c t r R hR l
  · rw [outsAt0_B m c t h0]
    frame_out
    pointwise [k0_pay2, k0_pay4, k0_pay5, k0_pay14]
    exact dot_lo m c t r R hR l

/-- A row of the gated linear unit's cotangent from the block's own elements. -/
theorem row_v (c : Dev nD) (t : Fin cfg0.N) (r : Fin 768) (l : Fin 2048) (R : Fin 8448) (hR : R.val = t.val * 768 + r.val) :
    GateGrad.back (fun k => if h : k.val < 512 then ∑ x : Fin 1024, blkD m c t (ix2 r x) * blkW m c t (ix3 2 ⟨k.val, h⟩ x)
      else ∑ x : Fin 1024, blkD m c t (ix2 r x) * blkW m c t (ix3 3 ⟨k.val - 512, by omega⟩ x))
      (fun k => blkG m c t (ix2 0 k)) (fun j => blkV m c t (ix2 r j)) l
      = dvRow (argV m c) (argB m c) (argG m c) (argW m c) (argD m c) l R := by
  simp only [dot_hi m c t r R hR, blk_v m c t r _ R hR, blk_g m c t]
  rfl

/-- What the body leaves of the gated linear unit's cotangent at a block's element. -/
theorem point_v (c : Dev nD) (t : Fin cfg0.N) (r : Fin 768) (l : Fin 2048) (R : Fin 8448) (hR : R.val = t.val * 768 + r.val) :
    (outsAt0 m c t.val t.isLt).2.1 (ix2 r l) = dv (argV m c) (argB m c) (argG m c) (argW m c) (argD m c) (ix2 R l) := by
  by_cases h0 : t.val % 11 = 0
  · rw [outsAt0_A m c t h0]
    frame_out
    pointwise [k0_pay16]
    rw [pay13]
    pointwise [k0_pay2, k0_pay8]
    exact row_v m c t r l R hR
  · rw [outsAt0_B m c t h0]
    frame_out
    pointwise [k0_pay16]
    rw [pay13]
    pointwise [k0_pay2, k0_pay8]
    exact row_v m c t r l R hR

theorem lt_row (x : Fin 96) (s : Fin 8) : x.val * 8 + s.val < 768 := by omega
theorem lt_rows (t : Fin cfg0.N) (x : Fin 96) (s : Fin 8) : t.val * 768 + (x.val * 8 + s.val) < 8448 := by
  have : t.val < 11 := t.isLt
  omega

/-- A block's contribution to one of the eight partial sums of the gain's gradient, and of the bias's. -/
def partG (c : Dev nD) (t : Fin cfg0.N) (y : S8x1024.Idx) : EReal :=
  ∑ x : Fin 96, dgRow (argV m c) (argB m c) (argW m c) (argD m c) (y 1) ⟨t.val * 768 + (x.val * 8 + (y 0).val), lt_rows t x (y 0)⟩
def partB (c : Dev nD) (t : Fin cfg0.N) (y : S8x2048.Idx) : EReal :=
  ∑ x : Fin 96, dvRow (argV m c) (argB m c) (argG m c) (argW m c) (argD m c) (y 1) ⟨t.val * 768 + (x.val * 8 + (y 0).val), lt_rows t x (y 0)⟩

/-- The partial sums after a block, the block's place given by its number. -/
def accG (c : Dev nD) (n : ℕ) (h : n < cfg0.N) : S8x1024.Idx → EReal := (outsAt0 m c n h).2.2.1
def accB (c : Dev nD) (n : ℕ) (h : n < cfg0.N) : S8x2048.Idx → EReal := (outsAt0 m c n h).2.2.2

/-- A row's contribution to the gain's gradient from the block's own elements. -/
theorem row_g (c : Dev nD) (t : Fin cfg0.N) (r : Fin 768) (l : Fin 1024) (R : Fin 8448) (hR : R.val = t.val * 768 + r.val) :
    (if h : l.val < 512 then ∑ x : Fin 1024, blkD m c t (ix2 r x) * blkW m c t (ix3 2 ⟨l.val, h⟩ x)
      else ∑ x : Fin 1024, blkD m c t (ix2 r x) * blkW m c t (ix3 3 ⟨l.val - 512, by omega⟩ x))
      * (k0_pay9 (F := Ideal) (blkV m c t) (ix2 r l) * Ideal.rsqrt (Ideal.div (∑ k, k0_pay9 (F := Ideal) (blkV m c t) (ix2 r k) * k0_pay9 (F := Ideal) (blkV m c t) (ix2 r k))
          (Ideal.ofBits .f32 0x44800000#32) + Ideal.ofBits .f32 0x3727C5AC#32))
      = dgRow (argV m c) (argB m c) (argW m c) (argD m c) l R := by
  simp only [dot_hi m c t r R hR, pay9, blk_v m c t r _ R hR]
  rfl

theorem stepG_A (c : Dev nD) (t : Fin cfg0.N) (h : t.val % 11 = 0) (y : S8x1024.Idx) :
    accG m c t.val t.isLt y = 0 + partG m c t y := by
  obtain ⟨s, l, rfl⟩ : ∃ (s : Fin 8) (l : Fin 1024), y = ix2 s l := ⟨y 0, y 1, eq_ix2 y⟩
  unfold accG
  rw [outsAt0_A m c t h]
  frame_out
  pointwise [k0_pay2, k0_pay8, k0_pay10, k0_pay11, k0_pay12, k0_pay17, k0_pay19]
  exact Finset.sum_congr rfl fun x _ => row_g m c t ⟨x.val * 8 + s.val, lt_row x s⟩ l _ rfl

theorem stepG_B (c : Dev nD) (t : Fin cfg0.N) (h : ¬ t.val % 11 = 0) (y : S8x1024.Idx) :
    accG m c t.val t.isLt y = accG m c (t.val - 1) (Nat.lt_of_le_of_lt (Nat.sub_le _ _) t.isLt) y + partG m c t y := by
  obtain ⟨s, l, rfl⟩ : ∃ (s : Fin 8) (l : Fin 1024), y = ix2 s l := ⟨y 0, y 1, eq_ix2 y⟩
  unfold accG
  rw [outsAt0_B m c t h]
  frame_out
  pointwise [k0_pay2, k0_pay8, k0_pay10, k0_pay11, k0_pay12, k0_pay19]
  exact congrArg _ (Finset.sum_congr rfl fun x _ => row_g m c t ⟨x.val * 8 + s.val, lt_row x s⟩ l _ rfl)

theorem stepB_A (c : Dev nD) (t : Fin cfg0.N) (h : t.val % 11 = 0) (y : S8x2048.Idx) :
    accB m c t.val t.isLt y = 0 + partB m c t y := by
  obtain ⟨s, l, rfl⟩ : ∃ (s : Fin 8) (l : Fin 2048), y = ix2 s l := ⟨y 0, y 1, eq_ix2 y⟩
  unfold accB
  rw [outsAt0_A m c t h]
  frame_out
  pointwise [k0_pay1, k0_pay15, k0_pay18]
  simp only [pay13]
  pointwise [k0_pay2, k0_pay8]
  exact Finset.sum_congr rfl fun x _ => row_v m c t ⟨x.val * 8 + s.val, lt_row x s⟩ l _ rfl

theorem stepB_B (c : Dev nD) (t : Fin cfg0.N) (h : ¬ t.val % 11 = 0) (y : S8x2048.Idx) :
    accB m c t.val t.isLt y = accB m c (t.val - 1) (Nat.lt_of_le_of_lt (Nat.sub_le _ _) t.isLt) y + partB m c t y := by
  obtain ⟨s, l, rfl⟩ : ∃ (s : Fin 8) (l : Fin 2048), y = ix2 s l := ⟨y 0, y 1, eq_ix2 y⟩
  unfold accB
  rw [outsAt0_B m c t h]
  frame_out
  pointwise [k0_pay1, k0_pay15]
  simp only [pay13]
  pointwise [k0_pay2, k0_pay8]
  exact congrArg _ (Finset.sum_congr rfl fun x _ => row_v m c t ⟨x.val * 8 + s.val, lt_row x s⟩ l _ rfl)

/-- After the last block a partial sum holds every block's contribution. -/
theorem accG_last (c : Dev nD) (t : Fin cfg0.N) (ht : t.val = 10) (y : S8x1024.Idx) :
    accG m c t.val t.isLt y = ∑ t : Fin cfg0.N, partG m c t y :=
  (Pipeline.eq_sum_fin_of_reset_step_apply_last (accG m c) 11 (fun _ => (0 : EReal)) (partG m c)
    (fun t h => stepG_A m c t h) (fun t h => stepG_B m c t h) (by decide) t (by rw [ht]; rfl) y).trans (zero_add (M := EReal) _)
theorem accB_last (c : Dev nD) (t : Fin cfg0.N) (ht : t.val = 10) (y : S8x2048.Idx) :
    accB m c t.val t.isLt y = ∑ t : Fin cfg0.N, partB m c t y :=
  (Pipeline.eq_sum_fin_of_reset_step_apply_last (accB m c) 11 (fun _ => (0 : EReal)) (partB m c)
    (fun t h => stepB_A m c t h) (fun t h => stepB_B m c t h) (by decide) t (by rw [ht]; rfl) y).trans (zero_add (M := EReal) _)

/-- After the run the first result holds the other branch's cotangent. -/
theorem final4 (c : Dev nD) : (dats m 0 c).arrAt 4 cfg0.N = dys (argW m c) (argD m c) := by
  refine (dats m 0 c).arrAt_eq_of_covers 4 _ (by decide +kernel) fun t hf y => ?_
  blk_simp
  rw [after0_4]
  have ht : t.val < 11 := t.isLt
  obtain ⟨r, l, rfl⟩ : ∃ (r : Fin 768) (l : Fin 1024), y = ix2 r l := ⟨y 0, y 1, eq_ix2 y⟩
  have he : (win0_4.blk t).view.emb (ix2 r l) = ix2 (⟨t.val * 768 + r.val, by omega⟩ : Fin 8448) l := by
    blk_ext [(idx t).2.2.2.2.1]
  refine Eq.trans ?_ (congrArg _ he.symm)
  exact point_y m c t r l _ rfl

/-- The second holds the cotangent of the gated linear unit's input. -/
theorem final5 (c : Dev nD) : (dats m 0 c).arrAt 5 cfg0.N = dv (argV m c) (argB m c) (argG m c) (argW m c) (argD m c) := by
  refine (dats m 0 c).arrAt_eq_of_covers 5 _ (by decide +kernel) fun t hf y => ?_
  blk_simp
  rw [after0_5]
  have ht : t.val < 11 := t.isLt
  obtain ⟨r, l, rfl⟩ : ∃ (r : Fin 768) (l : Fin 2048), y = ix2 r l := ⟨y 0, y 1, eq_ix2 y⟩
  have he : (win0_5.blk t).view.emb (ix2 r l) = ix2 (⟨t.val * 768 + r.val, by omega⟩ : Fin 8448) l := by
    blk_ext [(idx t).2.2.2.2.2.1]
  refine Eq.trans ?_ (congrArg _ he.symm)
  exact point_v m c t r l _ rfl

/-- The eight partial sums of either gradient as the region leaves them. -/
theorem final6 (c : Dev nD) : (dats m 0 c).arrAt 6 cfg0.N = (fun y => ∑ t : Fin cfg0.N, partG m c t y : FVec Ideal S8x1024 .f32) := by
  have hw : ∀ t : Fin cfg0.N, t.val = 10 → (cfg0.win 6).WholeAt t := by decide +kernel
  obtain ⟨t, ht⟩ : ∃ t : Fin cfg0.N, t.val = 10 := ⟨⟨10, by decide⟩, rfl⟩
  refine (dats m 0 c).arrAt_eq_of_after_last 6 t (hw t ht) _ fun j => ?_
  blk_simp
  rw [after0_6]
  exact accG_last m c t ht _

theorem final7 (c : Dev nD) : (dats m 0 c).arrAt 7 cfg0.N = (fun y => ∑ t : Fin cfg0.N, partB m c t y : FVec Ideal S8x2048 .f32) := by
  have hw : ∀ t : Fin cfg0.N, t.val = 10 → (cfg0.win 7).WholeAt t := by decide +kernel
  obtain ⟨t, ht⟩ : ∃ t : Fin cfg0.N, t.val = 10 := ⟨⟨10, by decide⟩, rfl⟩
  refine (dats m 0 c).arrAt_eq_of_after_last 7 t (hw t ht) _ fun j => ?_
  blk_simp
  rw [after0_7]
  exact accB_last m c t ht _

/-- The host's reduction of the partial sums is the gradient of the gain. -/
theorem tailG (c : Dev nD) : (Pipeline.afterTail₀ cfgs (dats m) 0 (V0 m) [hostOps1] c main_v10 : FVec Ideal S1x1024 .f32)
    = dg (argV m c) (argB m c) (argW m c) (argD m c) := by
  funext y
  unfold Pipeline.afterTail₀
  after_reads_at
  have e : Pipeline.withArrays (cfgs 0).spec c (V0 m c) (fun w => (dats m 0 c).arrAt w (cfgs 0).N) (Proc.tc.devRef main_v8_2)
      = (dats m 0 c).arrAt 6 cfg0.N :=
    Pipeline.withArrays_arr (cfgs 0).spec (by decide) c (V0 m c) (fun w => (dats m 0 c).arrAt w (cfgs 0).N) 6
  rw [e, final6]
  exact RmsGrad.sum_rows 11 96 rfl fun s t x hl => rfl

/-- And of the bias. -/
theorem tailB (c : Dev nD) : (Pipeline.afterTail₀ cfgs (dats m) 0 (V0 m) [hostOps1] c main_v12 : FVec Ideal S1x2048 .f32)
    = db (argV m c) (argB m c) (argG m c) (argW m c) (argD m c) := by
  funext y
  unfold Pipeline.afterTail₀
  after_reads_at
  have e : Pipeline.withArrays (cfgs 0).spec c (V0 m c) (fun w => (dats m 0 c).arrAt w (cfgs 0).N) (Proc.tc.devRef main_v8_3)
      = (dats m 0 c).arrAt 7 cfg0.N :=
    Pipeline.withArrays_arr (cfgs 0).spec (by decide) c (V0 m c) (fun w => (dats m 0 c).arrAt w (cfgs 0).N) 7
  rw [e, final7]
  exact RmsGrad.sum_rows 11 96 rfl fun s t x hl => rfl

theorem run : θ_run defs (onTc (τ := τ) (main (F := Ideal))) ⟨m, fun _ => 0, ρ⟩ (fun r => ∀ c : Dev nD,
      r.2.mem ((c.tc : Thread nD τ).loc main_v8_0) = dys (argW m c) (argD m c)
      ∧ r.2.mem ((c.tc : Thread nD τ).loc main_v8_1) = dv (argV m c) (argB m c) (argG m c) (argW m c) (argD m c)
      ∧ r.2.mem ((c.tc : Thread nD τ).loc main_v10) = dg (argV m c) (argB m c) (argW m c) (argD m c)
      ∧ r.2.mem ((c.tc : Thread nD τ).loc main_v12) = db (argV m c) (argB m c) (argG m c) (argW m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (run_main (F := Ideal) m ρ)
  · exact final4 m c
  · exact final5 m c
  · exact tailG m c
  · exact tailB m c
  · exact W_main_arg0 m (dats m) c
  · exact W_main_arg1 m (dats m) c
  · exact W_main_arg3 m (dats m) c
  · exact W_main_arg4 m (dats m) c

end Cert.OutIdeal.RefValue

namespace Cert.OutRefIdeal.RefValue

open Cert.OutRefIdeal Cert.OutRefIdeal.Gen Idealize.ShloMosaic Idealize.ShloMosaic.TcCoe
open Cert.GateGrad (lo hi sgm)

variable (m : (ℓ : Loc nD τ sig) → Buf (Elt Ideal) ℓ)

/-- Device `c`'s argument arrays as launched. -/
abbrev argV (c : Dev nD) : FVec Ideal S8448x2048 .f32 := m ((c : Thread nD τ).loc main_arg0)
abbrev argB (c : Dev nD) : FVec Ideal S1x2048 .f32 := m ((c : Thread nD τ).loc main_arg1)
abbrev argG (c : Dev nD) : FVec Ideal S1x1024 .f32 := m ((c : Thread nD τ).loc main_arg2)
abbrev argW (c : Dev nD) : FVec Ideal S2048x1024 .f32 := m ((c : Thread nD τ).loc main_arg3)
abbrev argD (c : Dev nD) : FVec Ideal S8448x1024 .f32 := m ((c : Thread nD τ).loc main_arg4)

/-- Every argument is an array of real numbers. -/
def Reals (c : Dev nD) : Prop :=
  (∀ i, RmsGrad.IsReal (argV m c i)) ∧ (∀ i, RmsGrad.IsReal (argB m c i)) ∧ (∀ i, RmsGrad.IsReal (argG m c i))
    ∧ (∀ i, RmsGrad.IsReal (argW m c i)) ∧ ∀ i, RmsGrad.IsReal (argD m c i)

theorem real_d (c : Dev nD) (h : Reals m c) (R : Fin 8448) (k : Fin 1024) :
    RmsGrad.IsReal (Cert.OutIdeal.RefValue.dmix (argW m c) (argD m c) R (hi k)) :=
  RmsGrad.IsReal.sum fun _ => (h.2.2.2.2 _).mul (h.2.2.2.1 _)
theorem real_v (c : Dev nD) (h : Reals m c) (R : Fin 8448) (j : Fin 2048) :
    RmsGrad.IsReal (Cert.OutIdeal.RefValue.gin (argV m c) (argB m c) R j) := (h.1 _).add (h.2.1 _)

/-- The reference's second result, where the arguments are real numbers. -/
theorem dv_eq (c : Dev nD) (h : Reals m c) (R : Fin 8448) (j : Fin 2048) :
    Cert.OutRefIdeal.Value.res_main_v64 m c (ix2 R j)
      = Cert.OutIdeal.RefValue.dv (argV m c) (argB m c) (argG m c) (argW m c) (argD m c) (ix2 R j) := by
  pointwise [Cert.OutRefIdeal.Value.res_main_v64]
  simp only [Fin.sum_univ_one]
  exact GateGrad.back_eq (d := fun k => Cert.OutIdeal.RefValue.dmix (argW m c) (argD m c) R (hi k)) (g := fun k => argG m c (ix2 0 k))
    (v := Cert.OutIdeal.RefValue.gin (argV m c) (argB m c) R) (real_d m c h R) (fun k => h.2.2.1 _) (real_v m c h R) j

/-- Its fourth. -/
theorem db_eq (c : Dev nD) (h : Reals m c) (j : Fin 2048) :
    (Cert.OutRefIdeal.Value.res_main_v63 m c : FVec Ideal S1x2048 .f32) (ix2 0 j)
      = Cert.OutIdeal.RefValue.db (argV m c) (argB m c) (argG m c) (argW m c) (argD m c) (ix2 0 j) := by
  pointwise [Cert.OutRefIdeal.Value.res_main_v63]
  simp only [Fin.sum_univ_one]
  change @Eq EReal _ _
  exact Finset.sum_congr rfl fun R _ => GateGrad.back_eq (d := fun k => Cert.OutIdeal.RefValue.dmix (argW m c) (argD m c) R (hi k)) (g := fun k => argG m c (ix2 0 k))
    (v := Cert.OutIdeal.RefValue.gin (argV m c) (argB m c) R) (real_d m c h R) (fun k => h.2.2.1 _) (real_v m c h R) j

/-- Its first. -/
theorem dys_eq (w : FVec Ideal S2048x1024 .f32) (d : FVec Ideal S8448x1024 .f32) :
    extractStridedSlice S8448x1024 ![0, 0] (Host.dotGeneral dot_S8448x1024_S2048x1024_S8448x2048_1_1_0_0_n_n none d w) slices_S8448x2048_S8448x1024_0_0
      = Cert.OutIdeal.RefValue.dys w d := by
  funext i
  pointwise []
  rfl

/-- Its third. -/
theorem dg_eq (v : FVec Ideal S8448x2048 .f32) (b : FVec Ideal S1x2048 .f32) (w : FVec Ideal S2048x1024 .f32) (d : FVec Ideal S8448x1024 .f32) :
    shapeCast _ (Host.reduceAdd (mulf (mulf (mulf (extractStridedSlice S8448x1024 ![0, 0] (addf v (broadcastInDim S8448x2048 ![0, 1] bcast_S1x2048_S8448x2048_0_1 b)) slices_S8448x2048_S8448x1024_0_0) (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 1024] (addf v (broadcastInDim S8448x2048 ![0, 1] bcast_S1x2048_S8448x2048_0_1 b)) slices_S8448x2048_S8448x1024_0_1024)))))) (broadcastInDim S8448x1024 ![0, 1] bcast_S8448x1_S8448x1024_0_1 (Host.rsqrt (addf (Host.divf (broadcastInDim S8448x1 ![0] bcast_S8448_S8448x1_0 (Host.reduceAdd (mulf (mulf (extractStridedSlice S8448x1024 ![0, 0] (addf v (broadcastInDim S8448x2048 ![0, 1] bcast_S1x2048_S8448x2048_0_1 b)) slices_S8448x2048_S8448x1024_0_0) (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 1024] (addf v (broadcastInDim S8448x2048 ![0, 1] bcast_S1x2048_S8448x2048_0_1 b)) slices_S8448x2048_S8448x1024_0_1024)))))) (mulf (extractStridedSlice S8448x1024 ![0, 0] (addf v (broadcastInDim S8448x2048 ![0, 1] bcast_S1x2048_S8448x2048_0_1 b)) slices_S8448x2048_S8448x1024_0_0) (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 1024] (addf v (broadcastInDim S8448x2048 ![0, 1] bcast_S1x2048_S8448x2048_0_1 b)) slices_S8448x2048_S8448x1024_0_1024))))))) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (extractStridedSlice S8448x1024 ![0, 1024] (Host.dotGeneral dot_S8448x1024_S2048x1024_S8448x2048_1_1_0_0_n_n none d w) slices_S8448x2048_S8448x1024_0_1024)) (constant S_ .f32 0x00000000#32) reducesTo_S8448x1024_S1024_d0 h_S_) shapeCasts_S1024_S1x1024
      = Cert.OutIdeal.RefValue.dg v b w d := by
  funext j
  pointwise []
  exact Finset.sum_congr rfl fun R _ => mul_comm _ _

end Cert.OutRefIdeal.RefValue

/-! ## The claims about this call -/

namespace Cert.Proof.Out

open Idealize.ShloMosaic Idealize.ShloMosaic.TcCoe Idealize.SL.Sem

/-- The precondition's masks have the shapes they are stated at. -/
instance facts_pre : Cert.Pre_out_finite.Facts := ⟨by decide, by decide, by decide, by decide, by decide⟩

/-- The kernel runs, leaves its arguments as they were and ends with every semaphore at zero. -/
theorem frame_kernel : Cert.quiescent_Out := fun m ρ _ => Cert.Out.Gen.frame m ρ

/-- So does its idealization. -/
theorem frame_ideal : Cert.quiescent_OutIdeal := fun m ρ _ => Cert.OutIdeal.Gen.frame m ρ
theorem frame_ideal_pre : Cert.quiescent_OutIdeal_pre_out_finite := fun m ρ _ => Cert.OutIdeal.Gen.frame m ρ

/-- And the reference. -/
theorem frame_ref : Cert.quiescent_OutRefIdeal := fun m ρ _ =>
  (θ_run Cert.OutRefIdeal.defs _ _).mono
    (fun r h => ⟨fun c => (h c).2.2.2.2, Idealize.ShloMosaic.sem_eq_zero_of_no_sems (by decide) r.2⟩)
    (Cert.OutRefIdeal.Value.run (F := Ideal) m ρ)
theorem frame_ref_pre : Cert.quiescent_OutRefIdeal_pre_out_finite := fun m ρ _ => frame_ref m ρ trivial

/-- On the extended reals the kernel's results are the derivative of the gate, the norm and the projection. -/
theorem value : Cert.algebraic_OutIdeal_OutRefIdeal_pre_out_finite := fun m ρ m' ρ' hp hag =>
  ⟨fun c => OutIdeal.RefValue.dys (OutIdeal.RefValue.argW m c) (OutIdeal.RefValue.argD m c),
    fun c => OutIdeal.RefValue.dv (OutIdeal.RefValue.argV m c) (OutIdeal.RefValue.argB m c) (OutIdeal.RefValue.argG m c)
      (OutIdeal.RefValue.argW m c) (OutIdeal.RefValue.argD m c),
    fun c => OutIdeal.RefValue.dg (OutIdeal.RefValue.argV m c) (OutIdeal.RefValue.argB m c) (OutIdeal.RefValue.argW m c) (OutIdeal.RefValue.argD m c),
    fun c => OutIdeal.RefValue.db (OutIdeal.RefValue.argV m c) (OutIdeal.RefValue.argB m c) (OutIdeal.RefValue.argG m c)
      (OutIdeal.RefValue.argW m c) (OutIdeal.RefValue.argD m c),
    OutIdeal.RefValue.run m ρ,
    (θ_run Cert.OutRefIdeal.defs _ _).mono (fun _ h c => by
        obtain ⟨h1, h2, h3, h4, hr⟩ := h c
        obtain ⟨a0, a1, a2, a3, a4⟩ := hag c
        obtain ⟨p0, p1, p2, p3, p4⟩ := hp c
        have q : OutRefIdeal.RefValue.Reals m' c := by
          refine ⟨fun i => ?_, fun i => ?_, fun i => ?_, fun i => ?_, fun i => ?_⟩
          · rw [OutRefIdeal.RefValue.argV, a0]; exact RmsGrad.isReal_of_mask _ p0 i
          · rw [OutRefIdeal.RefValue.argB, a1]; exact RmsGrad.isReal_of_mask _ p1 i
          · rw [OutRefIdeal.RefValue.argG, a2]; exact RmsGrad.isReal_of_mask _ p2 i
          · rw [OutRefIdeal.RefValue.argW, a3]; exact RmsGrad.isReal_of_mask _ p3 i
          · rw [OutRefIdeal.RefValue.argD, a4]; exact RmsGrad.isReal_of_mask _ p4 i
        have q2 := OutRefIdeal.RefValue.dv_eq m' c q
        have q4 := OutRefIdeal.RefValue.db_eq m' c q
        unfold OutRefIdeal.RefValue.argV OutRefIdeal.RefValue.argB OutRefIdeal.RefValue.argG OutRefIdeal.RefValue.argW
          OutRefIdeal.RefValue.argD at q2 q4
        rw [a0, a1, a2, a3, a4] at q2 q4
        refine ⟨h1.trans ?_, h2.trans (funext fun j => ?_), h3.trans ?_, h4.trans (funext fun (j : OutIdeal.S1x2048.Idx) => ?_), hr⟩
        · rw [a3, a4]; exact OutRefIdeal.RefValue.dys_eq _ _
        · rw [eq_ix2 j]; exact q2 _ _
        · rw [a0, a1, a3, a4]; exact OutRefIdeal.RefValue.dg_eq _ _ _ _
        · obtain ⟨a, k, rfl⟩ : ∃ (a : Fin 1) (k : Fin 2048), j = ix2 a k := ⟨j 0, j 1, eq_ix2 j⟩
          obtain rfl : a = 0 := Subsingleton.elim _ _
          exact q4 k)
      (Cert.OutRefIdeal.Value.run (F := Ideal) m' ρ')⟩

end Cert.Proof.Out

end
-- ==== Proof.Glu.lean ====
/-
  The value of `glu_bwd`: the gradient of the exact gelu in front of the gated linear unit's product.

  The kernel works on 11 blocks of 768 rows. In each it multiplies the cotangent by the transposed weights, in four tiles of
  512 columns added up one after the other, and scales element by element by the derivative of the gelu, the normal
  distribution function plus the argument times its density. The reference takes the derivative of
  `x/2 · (1 + erf (x/√2))` operation by operation. The two agree because `1/√(2π)` is half of `2/√π` times `1/√2`.
-/
module

public import proofs.«01_k».proof.Defs
public import proofs.«01_k».proof.Proof.RmsGrad
public import proofs.«01_k».proof.Proof.Gen.Glu.Frame
public import proofs.«01_k».proof.Proof.Gen.GluRef.Frame
public import proofs.«01_k».proof.Proof.Gen.GluIdeal.Value
public import proofs.«01_k».proof.Proof.Gen.GluRefIdeal.Value
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.GeluGrad

open Idealize.ShloMosaic
open Cert.RmsGrad (IsReal)

/-- The three named constants, `1/√2`, `1/√(2π)` and `2/√π`. -/
def r2 : ℝ := (Real.sqrt 2)⁻¹
def r2pi : ℝ := (Real.sqrt (2 * Real.pi))⁻¹
def c2rpi : ℝ := 2 * (Real.sqrt Real.pi)⁻¹

/-- The density's factor is half of the error function's, times `1/√2`. -/
theorem r2pi_eq : r2pi = c2rpi * (1 / 2) * r2 := by
  have h : (0 : ℝ) ≤ 2 := by norm_num
  rw [r2pi, c2rpi, r2, Real.sqrt_mul h, mul_inv]
  ring

theorem r2_sq : r2 * r2 = 1 / 2 := by
  have h : Real.sqrt 2 * Real.sqrt 2 = 2 := Real.mul_self_sqrt (by norm_num)
  rw [r2, ← mul_inv, h, one_div]

/-- The word of `0.5`. -/
theorem word_half : Ideal.ofBits .f32 0x3F000000#32 = ((1 / 2 : ℝ) : EReal) := by
  simp [Ideal.ofBits, Ideal.ieee, -EReal.coe_mul]; norm_num

/-- The derivative of the gelu at `y`: the normal distribution function plus `y` times its density. -/
def slope (y : EReal) : EReal :=
  Ideal.ofBits .f32 0x3F000000#32 * (1 + Ideal.erf (y * (r2 : EReal)))
    + y * (Ideal.exp (Ideal.ofBits .f32 0xBF000000#32 * y * y) * (r2pi : EReal))

/-- The cotangent times that derivative is what one gets operation by operation from `y/2 · (1 + erf (y/√2))`. -/
theorem slope_eq {y s : EReal} (hy : IsReal y) (hs : IsReal s) :
    (c2rpi : EReal) * (Ideal.ofBits .f32 0x3F000000#32 * y * s) * Ideal.exp (0 - y * (r2 : EReal) * (y * (r2 : EReal))) * (r2 : EReal)
      + Ideal.ofBits .f32 0x3F000000#32 * (s * (1 + Ideal.erf (y * (r2 : EReal)))) = s * slope y := by
  obtain ⟨y, rfl⟩ := hy
  obtain ⟨s, rfl⟩ := hs
  rw [slope, word_half, RmsGrad.word_half, zero_sub]
  simp only [← EReal.coe_mul, ← EReal.coe_neg, Ideal.exp_coe, Ideal.erf_coe, ← EReal.coe_one]
  norm_cast
  rw [show -(y * r2 * (y * r2)) = -(1 / 2) * y * y by rw [show y * r2 * (y * r2) = y * y * (r2 * r2) by ring, r2_sq]; ring, r2pi_eq]
  ring

/-- A sum of 2048 terms is the sum of its four quarters. -/
theorem sum_four (f : Fin 2048 → EReal) :
    (∑ x : Fin 512, f ⟨x.val, by omega⟩) + (∑ x : Fin 512, f ⟨512 + x.val, by omega⟩)
      + (∑ x : Fin 512, f ⟨1024 + x.val, by omega⟩) + (∑ x : Fin 512, f ⟨1536 + x.val, by omega⟩) = ∑ k, f k := by
  rw [Fin.sum_univ_add (a := 1536) (b := 512) f, Fin.sum_univ_add (a := 1024) (b := 512) fun i => f (Fin.castAdd 512 i),
    Fin.sum_univ_add (a := 512) (b := 512) fun i => f (Fin.castAdd 512 (Fin.castAdd 512 i))]
  rfl

end Cert.GeluGrad

namespace Cert.GluIdeal.RefValue

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient, element by element: the cotangent's row times the weights' row, scaled by the gelu's derivative. -/
def grad (x : FVec Ideal S8448x1024 .f32) (w : FVec Ideal S1024x2048 .f32) (d : FVec Ideal S8448x2048 .f32) :
    FVec Ideal S8448x1024 .f32 := fun i =>
  (∑ k : Fin 2048, d (ix2 (i 0) k) * w (ix2 (i 1) k)) * GeluGrad.slope (x i)

/-- Device `c`'s argument arrays as launched. -/
abbrev argY (c : Dev nD) : FVec Ideal S8448x1024 .f32 := m ((c : Thread nD τ).loc main_arg0)
abbrev argW (c : Dev nD) : FVec Ideal S1024x2048 .f32 := m ((c : Thread nD τ).loc main_arg1)
abbrev argD (c : Dev nD) : FVec Ideal S8448x2048 .f32 := m ((c : Thread nD τ).loc main_arg2)

/-- A grid point's blocks. -/
abbrev blkD (c : Dev nD) (t : Fin cfg0.N) : FVec Ideal S768x2048 .bf16 := iblk m c 0 t
abbrev blkY (c : Dev nD) (t : Fin cfg0.N) : FVec Ideal S768x1024 .f32 := iblk m c 1 t
abbrev blkW (c : Dev nD) (t : Fin cfg0.N) : FVec Ideal S4x512x1024 .bf16 := iblk m c 2 t

/-- Where each window's block sits at a grid point. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

/-- The cotangent as the region finds it. -/
theorem V_d (c : Dev nD) (j : S8448x2048.Idx) : V m c (Pipeline.arrRef spec0 0) j = argD m c j := by
  unfold V
  after_reads_at

/-- The transposed weights in four tiles of 512 rows, as the region finds them in front of as many rows of zeros. -/
theorem V_w (c : Dev nD) (a : Fin 4) (b : Fin 512) (k : Fin 1024) :
    V m c (Pipeline.arrRef spec0 2) (ix3 a ⟨b.val, by omega⟩ k) = argW m c (ix2 k ⟨a.val * 512 + b.val, by omega⟩) := by
  unfold V
  after_reads_at

/-- The cotangent's block at a grid point. -/
theorem blk_d (c : Dev nD) (t : Fin cfg0.N) (r : Fin 768) (k : Fin 2048) (R : Fin 8448) (hR : R.val = t.val * 768 + r.val) :
    blkD m c t (ix2 r k) = argD m c (ix2 R k) := by
  rw [← V_d m c (ix2 R k)]
  blk_ext [iblk, (idx t).1]

/-- The block of the gelu's argument. -/
theorem blk_y (c : Dev nD) (t : Fin cfg0.N) (r : Fin 768) (k : Fin 1024) (R : Fin 8448) (hR : R.val = t.val * 768 + r.val) :
    blkY m c t (ix2 r k) = argY m c (ix2 R k) := by
  rw [show argY m c (ix2 R k) = V m c main_arg0 (ix2 R k) from by unfold V; after_reads_at]
  blk_ext [iblk, (idx t).2.1]

/-- The weights' block: the tiles without the rows of zeros. -/
theorem blk_w (c : Dev nD) (t : Fin cfg0.N) (a : Fin 4) (b : Fin 512) (k : Fin 1024) (j : Fin 2048) (hj : j.val = a.val * 512 + b.val) :
    blkW m c t (ix3 a b k) = argW m c (ix2 k j) := by
  have e : j = ⟨a.val * 512 + b.val, by omega⟩ := Fin.ext hj
  rw [e, ← V_w m c a b k]
  blk_ext [iblk, (idx t).2.2.1]

/-- After the run the result array holds the gradient. -/
theorem final (c : Dev nD) : (dats m 0 c).arrAt 3 cfg0.N = grad (argY m c) (argW m c) (argD m c) := by
  refine (dats m 0 c).arrAt_eq_of_covers 3 _ (by decide +kernel) fun t hf y => ?_
  blk_simp
  rw [after0_3]
  have ht : t.val < 11 := t.isLt
  obtain ⟨r, l, rfl⟩ : ∃ (r : Fin 768) (l : Fin 1024), y = ix2 r l := ⟨y 0, y 1, eq_ix2 y⟩
  have he : (win0_3.blk t).view.emb (ix2 r l) = ix2 (⟨t.val * 768 + r.val, by omega⟩ : Fin 8448) l := by
    blk_ext [(idx t).2.2.2]
  refine Eq.trans ?_ (congrArg _ he.symm)
  frame_out
  pointwise [k0_pay1, k0_pay2, k0_pay3, k0_pay4, k0_pay5]
  have h0 := fun x : Fin 512 => blk_w m c t 0 x l ⟨x.val, by omega⟩ (show x.val = 0 * 512 + x.val by omega)
  have h1 := fun x : Fin 512 => blk_w m c t 1 x l ⟨512 + x.val, by omega⟩ (show 512 + x.val = 1 * 512 + x.val by omega)
  have h2 := fun x : Fin 512 => blk_w m c t 2 x l ⟨1024 + x.val, by omega⟩ (show 1024 + x.val = 2 * 512 + x.val by omega)
  have h3 := fun x : Fin 512 => blk_w m c t 3 x l ⟨1536 + x.val, by omega⟩ (show 1536 + x.val = 3 * 512 + x.val by omega)
  simp only [blkW] at h0 h1 h2 h3
  have hd := fun k => blk_d m c t r k ⟨t.val * 768 + r.val, by omega⟩ rfl
  have hy := blk_y m c t r l ⟨t.val * 768 + r.val, by omega⟩ rfl
  simp only [blkD] at hd
  simp only [blkY] at hy
  simp only [h0, h1, h2, h3, hd, hy]
  exact congrArg (· * _) (GeluGrad.sum_four fun k => argD m c (ix2 ⟨t.val * 768 + r.val, by omega⟩ k) * argW m c (ix2 l k))

end Cert.GluIdeal.RefValue

namespace Cert.GluRefIdeal.RefValue

open Cert.GluRefIdeal Cert.GluRefIdeal.Gen Idealize.ShloMosaic Idealize.ShloMosaic.TcCoe
open Cert.RmsGrad (IsReal)

/-- The reference's result is the same gradient, at arguments that are real numbers. -/
theorem ref_eq (x : FVec Ideal S8448x1024 .f32) (w : FVec Ideal S1024x2048 .f32) (d : FVec Ideal S8448x2048 .f32)
    (hx : ∀ i, IsReal (x i)) (hw : ∀ i, IsReal (w i)) (hd : ∀ i, IsReal (d i)) :
    Value.G3 (F := Ideal) x w d = Cert.GluIdeal.RefValue.grad x w d := by
  funext (j : S8448x1024.Idx)
  obtain ⟨R, l, rfl⟩ : ∃ (R : Fin 8448) (l : Fin 1024), j = ix2 R l := ⟨j 0, j 1, eq_ix2 j⟩
  unfold Value.G3
  pointwise [k0_pay1]
  exact GeluGrad.slope_eq (hx _) (IsReal.sum fun k => (hd (ix2 R k)).mul (hw (ix2 l k)))

end Cert.GluRefIdeal.RefValue

namespace Cert.Proof.Glu

open Idealize.ShloMosaic Idealize.ShloMosaic.TcCoe Idealize.SL.Sem

/-- The precondition's masks have the shapes they are stated at. -/
instance facts_pre : Cert.Pre_glu_finite.Facts := ⟨by decide, by decide, by decide⟩

/-- The kernel runs, leaves its arguments as they were and ends with every semaphore at zero. -/
theorem frame_kernel : Cert.quiescent_Glu := fun m ρ _ => Cert.Glu.Gen.frame m ρ

/-- So does its idealization. -/
theorem frame_ideal : Cert.quiescent_GluIdeal := fun m ρ _ => Cert.GluIdeal.Gen.frame m ρ
theorem frame_ideal_pre : Cert.quiescent_GluIdeal_pre_glu_finite := fun m ρ _ => Cert.GluIdeal.Gen.frame m ρ

/-- And the reference, before and after its constants are named. -/
theorem frame_ref : Cert.quiescent_GluRefIdeal := fun m ρ _ => Cert.GluRefIdeal.Gen.frame m ρ
theorem frame_ref_pre : Cert.quiescent_GluRefIdeal_pre_glu_finite := fun m ρ _ => Cert.GluRefIdeal.Gen.frame m ρ
theorem frame_ref_bits : Cert.quiescent_GluRef := fun m ρ _ => Cert.GluRef.Gen.frame m ρ

/-- The named constants stand for the numbers their names say. -/
theorem named : Cert.preserves_Glu_GluIdeal :=
  ⟨IdealRules.named_const.statement _ _ _ _ _ rfl, IdealRules.named_const.statement _ _ _ _ _ rfl⟩
theorem named_ref : Cert.preserves_GluRef_GluRefIdeal :=
  ⟨IdealRules.named_const.statement _ _ _ _ _ rfl, IdealRules.named_const.statement _ _ _ _ _ rfl⟩

/-- On the extended reals the kernel's result is the derivative of `gelu yl @ w_glu` in `yl`. -/
theorem value : Cert.algebraic_GluIdeal_GluRefIdeal_pre_glu_finite := fun m ρ m' ρ' hp hag =>
  ⟨fun c => GluIdeal.RefValue.grad (GluIdeal.RefValue.argY m c) (GluIdeal.RefValue.argW m c) (GluIdeal.RefValue.argD m c),
    (θ_run Cert.GluIdeal.defs _ _).mono (fun _ h c => ⟨(h c).1.trans (GluIdeal.RefValue.final m c), (h c).2⟩)
      (Cert.GluIdeal.Value.run_blocks (F := Ideal) m ρ),
    (θ_run Cert.GluRefIdeal.defs _ _).mono (fun _ h c => ⟨(h c).1.trans (by
        rw [(hag c).1, (hag c).2.1, (hag c).2.2]
        exact GluRefIdeal.RefValue.ref_eq _ _ _ (RmsGrad.isReal_of_mask _ (hp c).1) (RmsGrad.isReal_of_mask _ (hp c).2.1)
          (RmsGrad.isReal_of_mask _ (hp c).2.2)), (h c).2⟩)
      (Cert.GluRefIdeal.Value.run (F := Ideal) m' ρ')⟩

end Cert.Proof.Glu

end
-- ==== Proof.Fin.lean ====
/-
  The loss and the gradient of the last norm: half the mean square of `rmsnorm(h) * g − target`, summed over the sequence.

  The kernel works on 11 blocks of 768 rows of an input with 240 rows of zeros in front, so that the first 16 rows of the
  sequence, which carry no target, end at row 256; the error there is set to zero. The target's rows stand 256 rows behind and
  arrive in three blocks of 256. The loss and the gradient of the gain are kept in eight partial sums, over rows of equal
  remainder modulo eight. The reference cuts the 16 rows off and pads their cotangent with zeros.
-/
module

public import proofs.«01_k».proof.Defs
public import proofs.«01_k».proof.Proof.RmsGrad
public import proofs.«01_k».proof.Proof.Gen.Fin.Frame
public import proofs.«01_k».proof.Proof.Gen.FinIdeal.Frame
public import proofs.«01_k».proof.Proof.Gen.FinRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.LossGrad

open Idealize.ShloMosaic
open Cert.RmsGrad (IsReal)

/-- The words of `0.5`, of `2.0`, of `1/1024` and of `0.5/1024`. -/
theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_w : Ideal.ofBits .f32 0x3A800000#32 = ((1 / 1024 : ℝ) : EReal) := by
  simp [Ideal.ofBits, Ideal.ieee, -EReal.coe_mul]; norm_num
theorem word_c : Ideal.ofBits .f32 0x3A000000#32 = ((1 / 2048 : ℝ) : EReal) := by
  simp [Ideal.ofBits, Ideal.ieee, -EReal.coe_mul]; norm_num

/-- A row of the norm's input, numbered with the 240 rows of zeros in front. -/
def row (H : Fin 8208 → Fin 1024 → EReal) (P : Fin 8448) (k : Fin 1024) : EReal :=
  if h : 240 ≤ P.val then H ⟨P.val - 240, by omega⟩ k else 0

/-- A row of the error: zero where there is no target. -/
def err (H : Fin 8208 → Fin 1024 → EReal) (g : Fin 1024 → EReal) (T : Fin 8192 → Fin 1024 → EReal) (P : Fin 8448) (k : Fin 1024) : EReal :=
  if h : 256 ≤ P.val then row H P k * RmsGrad.scale (row H P) * g k - T ⟨P.val - 256, by omega⟩ k else 0

/-- A row of the cotangent of the norm's input. -/
def dh (H : Fin 8208 → Fin 1024 → EReal) (g : Fin 1024 → EReal) (T : Fin 8192 → Fin 1024 → EReal) (P : Fin 8448) (l : Fin 1024) : EReal :=
  RmsGrad.grad (fun k => err H g T P k * Ideal.ofBits .f32 0x3A800000#32 * g k) (row H P) l

/-- What a row adds to the gradient of the gain. -/
def dgRow (H : Fin 8208 → Fin 1024 → EReal) (g : Fin 1024 → EReal) (T : Fin 8192 → Fin 1024 → EReal) (l : Fin 1024) (P : Fin 8448) : EReal :=
  err H g T P l * Ideal.ofBits .f32 0x3A800000#32 * (row H P l * RmsGrad.scale (row H P))

/-- The loss. -/
def loss (H : Fin 8208 → Fin 1024 → EReal) (g : Fin 1024 → EReal) (T : Fin 8192 → Fin 1024 → EReal) : EReal :=
  Ideal.ofBits .f32 0x3A000000#32 * ∑ l, ∑ P, err H g T P l * err H g T P l

/-- A sum whose first terms are zero. -/
theorem sum_skip (a b : ℕ) {f : Fin (a + b) → EReal} (h : ∀ i, f (Fin.castAdd b i) = 0) : ∑ i, f i = ∑ j, f (Fin.natAdd a j) := by
  rw [Fin.sum_univ_add, Finset.sum_eq_zero fun i _ => h i, zero_add]

/-- The rows behind the zeros in front are the arguments' own. -/
theorem row_nat (H : Fin 8208 → Fin 1024 → EReal) (R : Fin 8208) : row H (Fin.natAdd 240 R) = H R := by
  funext k
  unfold row
  rw [dif_pos (by simp)]
  congr 1
  exact Fin.ext (by simp)

theorem err_nat (H : Fin 8208 → Fin 1024 → EReal) (g : Fin 1024 → EReal) (T : Fin 8192 → Fin 1024 → EReal) (R : Fin 8208) (k : Fin 1024) :
    err H g T (Fin.natAdd 240 R) k = if h : 16 ≤ R.val then H R k * RmsGrad.scale (H R) * g k - T ⟨R.val - 16, by omega⟩ k else 0 := by
  unfold err
  rw [row_nat]
  by_cases h : 16 ≤ R.val
  · rw [dif_pos h, dif_pos (by simp; omega)]
    congr 2
    exact Fin.ext (by simp; omega)
  · rw [dif_neg h, dif_neg (by simp; omega)]

theorem err_low (H : Fin 8208 → Fin 1024 → EReal) (g : Fin 1024 → EReal) (T : Fin 8192 → Fin 1024 → EReal) (P : Fin 8448) (h : P.val < 256) (k : Fin 1024) :
    err H g T P k = 0 := dif_neg (by omega)

theorem sub_real {x y : EReal} (hx : IsReal x) (hy : IsReal y) : IsReal (x - y) := by
  obtain ⟨a, rfl⟩ := hx; obtain ⟨b, rfl⟩ := hy; exact ⟨a - b, (EReal.coe_sub a b).symm⟩

/-- The factors of the loss and of the square, joined. -/
theorem ct_eq {e : EReal} (he : IsReal e) :
    Ideal.div (Ideal.ofBits .f32 0x3F000000#32) (Ideal.ofBits .f32 0x44800000#32) * (Ideal.ofBits .f32 0x40000000#32 * e)
      = e * Ideal.ofBits .f32 0x3A800000#32 := by
  obtain ⟨r, rfl⟩ := he
  rw [word_half, word_two, word_w, RmsGrad.word_n, Ideal.div_coe (by norm_num)]
  norm_cast
  ring

end Cert.LossGrad

namespace Cert.FinIdeal.RefValue

open Cert.FinIdeal Cert.FinIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s argument arrays as launched. -/
abbrev argH (c : Dev nD) : FVec Ideal S8208x1024 .f32 := m ((c : Thread nD τ).loc main_arg0)
abbrev argG (c : Dev nD) : FVec Ideal S1x1024 .f32 := m ((c : Thread nD τ).loc main_arg1)
abbrev argT (c : Dev nD) : FVec Ideal S8192x1024 .f32 := m ((c : Thread nD τ).loc main_arg2)

/-- A grid point's blocks. -/
abbrev blkH (c : Dev nD) (t : Fin cfg0.N) : FVec Ideal S768x1024 .f32 := iblk m c 0 t
abbrev blkT0 (c : Dev nD) (t : Fin cfg0.N) : FVec Ideal S256x1024 .f32 := iblk m c 1 t
abbrev blkT1 (c : Dev nD) (t : Fin cfg0.N) : FVec Ideal S256x1024 .f32 := iblk m c 2 t
abbrev blkT2 (c : Dev nD) (t : Fin cfg0.N) : FVec Ideal S256x1024 .f32 := iblk m c 3 t
abbrev blkG (c : Dev nD) (t : Fin cfg0.N) : FVec Ideal S1x1024 .f32 := iblk m c 4 t

/-- Where each window's block sits at a grid point. -/
theorem idx : ∀ t : Fin cfg0.N, win0_0.index t = ![t.val, 0] ∧ win0_1.index t = ![3 * t.val - 1, 0] ∧ win0_2.index t = ![3 * t.val, 0]
    ∧ win0_3.index t = ![3 * t.val + 1, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The arguments as rows. -/
abbrev rH (c : Dev nD) (R : Fin 8208) (k : Fin 1024) : EReal := argH m c (ix2 R k)
abbrev rG (c : Dev nD) (k : Fin 1024) : EReal := argG m c (ix2 0 k)
abbrev rT (c : Dev nD) (R : Fin 8192) (k : Fin 1024) : EReal := argT m c (ix2 R k)

theorem pt_lt (t : Fin cfg0.N) (r : Fin 768) : t.val * 768 + r.val < 8448 := by
  have : t.val < 11 := t.isLt
  omega

/-- A grid point's row among all rows. -/
abbrev at_ (t : Fin cfg0.N) (r : Fin 768) : Fin 8448 := ⟨t.val * 768 + r.val, pt_lt t r⟩

/-- The norm's input as the region finds it: behind 240 rows of zeros. -/
theorem V_h (c : Dev nD) (P : Fin 8448) (k : Fin 1024) : V m c (Pipeline.arrRef spec0 0) (ix2 P k) = LossGrad.row (rH m c) P k := by
  unfold V
  after_reads_at
  have hP := P.isLt
  unfold LossGrad.row
  by_cases h : 240 ≤ P.val
  · rw [dif_pos ⟨h, by omega⟩, dif_pos h]
  · rw [dif_neg (fun q => h q.1), dif_neg h]
    change (((0#32 : BitVec 32).toInt : ℝ) : EReal) = 0
    simp

/-- The norm input's block at a grid point. -/
theorem blk_h (c : Dev nD) (t : Fin cfg0.N) (r : Fin 768) (k : Fin 1024) : blkH m c t (ix2 r k) = LossGrad.row (rH m c) (at_ t r) k := by
  rw [← V_h m c (at_ t r) k]
  blk_ext [iblk, (idx t).1]

/-- The gain's block. -/
theorem blk_g (c : Dev nD) (t : Fin cfg0.N) (k : Fin 1024) : blkG m c t (ix2 0 k) = rG m c k := by
  rw [show rG m c k = V m c main_arg1 (ix2 0 k) from by unfold V; after_reads_at]
  blk_ext [iblk, (idx t).2.2.2.2.1]

/-- The three blocks of the target. -/
theorem blk_t0 (c : Dev nD) (t : Fin cfg0.N) (r : Fin 256) (k : Fin 1024) (R : Fin 8192) (hR : R.val = (3 * t.val - 1) * 256 + r.val) :
    blkT0 m c t (ix2 r k) = rT m c R k := by
  rw [show rT m c R k = V m c main_arg2 (ix2 R k) from by unfold V; after_reads_at]
  blk_ext [iblk, (idx t).2.1]
theorem blk_t1 (c : Dev nD) (t : Fin cfg0.N) (r : Fin 256) (k : Fin 1024) (R : Fin 8192) (hR : R.val = 3 * t.val * 256 + r.val) :
    blkT1 m c t (ix2 r k) = rT m c R k := by
  rw [show rT m c R k = V m c main_arg2 (ix2 R k) from by unfold V; after_reads_at]
  blk_ext [iblk, (idx t).2.2.1]
theorem blk_t2 (c : Dev nD) (t : Fin cfg0.N) (r : Fin 256) (k : Fin 1024) (R : Fin 8192) (hR : R.val = (3 * t.val + 1) * 256 + r.val) :
    blkT2 m c t (ix2 r k) = rT m c R k := by
  rw [show rT m c R k = V m c main_arg2 (ix2 R k) from by unfold V; after_reads_at]
  blk_ext [iblk, (idx t).2.2.2.1]

/-- The mask of the rows without a target. -/
theorem cond_t : ∀ t : Fin cfg0.N, Scalar.cmpi .eq (BitVec.ofNat 32 (grid0.coords t 0).val) 0#32 = if t.val = 0 then 1#1 else 0#1 :=
  (by decide +kernel : ∀ t : Fin grid0.N, _)
theorem cond_r : ∀ r : Fin 768, IntOp.cmpi .slt (BitVec.ofNat 32 r.val) 256#32 = if r.val < 256 then 1#1 else 0#1 := by decide +kernel

theorem mask (t : Fin cfg0.N) (r : Fin 768) (a b : EReal) :
    Scalar.select (IntOp.andi (Scalar.cmpi .eq (BitVec.ofNat 32 (grid0.coords t 0).val) 0#32) (IntOp.cmpi .slt (BitVec.ofNat 32 r.val) 256#32)) a b
      = if 256 ≤ (at_ t r).val then b else a := by
  rw [cond_t, cond_r]
  have ht : t.val < 11 := t.isLt
  have hr := r.isLt
  by_cases h0 : t.val = 0 <;> by_cases h1 : r.val < 256 <;>
    simp only [h0, h1, at_, if_true, if_false] <;> split_ifs <;> first | rfl | omega

/-- The error's payload at an element of any blocks. -/
theorem pay10_at (i : grid0.Coords) (v : FVec Ideal S768x1024 .f32) (t0 t1 t2 : FVec Ideal S256x1024 .f32) (g : FVec Ideal S1x1024 .f32)
    (r : Fin 768) (l : Fin 1024) : k0_pay10 (F := Ideal) i v t0 t1 t2 g (ix2 r l)
      = Scalar.select (IntOp.andi (Scalar.cmpi .eq (BitVec.ofNat 32 (i 0).val) 0#32) (IntOp.cmpi .slt (BitVec.ofNat 32 r.val) 256#32)) 0
          (v (ix2 r l) * RmsGrad.scale (fun k => v (ix2 r k)) * g (ix2 0 l)
            - if h : r.val < 256 then t0 (ix2 ⟨r.val, h⟩ l)
              else if h' : r.val - 256 < 256 then t1 (ix2 ⟨r.val - 256, h'⟩ l) else t2 (ix2 ⟨r.val - 256 - 256, by omega⟩ l)) := by
  pointwise [k0_pay10, k0_pay9]
  split_ifs <;> rfl

/-- The error at a block's element. -/
theorem pay10 (c : Dev nD) (t : Fin cfg0.N) (r : Fin 768) (l : Fin 1024) :
    k0_pay10 (F := Ideal) (grid0.coords t) (blkH m c t) (blkT0 m c t) (blkT1 m c t) (blkT2 m c t) (blkG m c t) (ix2 r l)
      = LossGrad.err (rH m c) (rG m c) (rT m c) (at_ t r) l := by
  have ht : t.val < 11 := t.isLt
  have hr := r.isLt
  rw [pay10_at, mask]
  simp only [blk_h m c t r, blk_g m c t l]
  unfold LossGrad.err
  split_ifs with h h1 h2
  · exact congrArg _ (blk_t0 m c t _ l ⟨t.val * 768 + r.val - 256, by omega⟩ (by simp only [at_] at h ⊢; omega))
  · exact congrArg _ (blk_t1 m c t _ l ⟨t.val * 768 + r.val - 256, by omega⟩ (by simp only [at_] at h ⊢; omega))
  · exact congrArg _ (blk_t2 m c t _ l ⟨t.val * 768 + r.val - 256, by omega⟩ (by simp only [at_] at h ⊢; omega))
  · rfl

/-- The norm's input and its scale at a block's element. -/
theorem pay9 (c : Dev nD) (t : Fin cfg0.N) (r : Fin 768) (l : Fin 1024) :
    k0_pay9 (F := Ideal) (blkH m c t) (ix2 r l) = LossGrad.row (rH m c) (at_ t r) l := by
  pointwise [k0_pay9]
  exact blk_h m c t r l

theorem pay12 (c : Dev nD) (t : Fin cfg0.N) (r : Fin 768) :
    Ideal.rsqrt (k0_pay12 (F := Ideal) (blkH m c t) (ix2 r 0)) = RmsGrad.scale (LossGrad.row (rH m c) (at_ t r)) := by
  pointwise [k0_pay12]
  have h := pay9 m c t r
  simp only [blkH] at h
  simp only [h]
  rfl

/-- The cotangent's payload at a block's element. -/
theorem pay3 (c : Dev nD) (t : Fin cfg0.N) (r : Fin 768) (l : Fin 1024) :
    k0_pay3 (F := Ideal) (k0_pay9 (F := Ideal) (blkH m c t)) (blkG m c t)
      (k0_pay11 (F := Ideal) (grid0.coords t) (blkH m c t) (blkT0 m c t) (blkT1 m c t) (blkT2 m c t) (blkG m c t))
      (k0_pay12 (F := Ideal) (blkH m c t)) (ix2 r l) = LossGrad.dh (rH m c) (rG m c) (rT m c) (at_ t r) l := by
  pointwise [k0_pay1, k0_pay2, k0_pay3, k0_pay11]
  have h1 := pay9 m c t r
  have h2 := pay12 m c t r
  have h3 := pay10 m c t r
  have h4 := blk_g m c t
  simp only [blkH, blkT0, blkT1, blkT2, blkG] at h1 h2 h3 h4
  simp only [h1, h2, h3, h4]
  rfl

/-- What the body leaves of the cotangent at a block's element. -/
theorem point (c : Dev nD) (t : Fin cfg0.N) (r : Fin 768) (l : Fin 1024) :
    (outsAt0 m c t.val t.isLt).1 (ix2 r l) = LossGrad.dh (rH m c) (rG m c) (rT m c) (at_ t r) l := by
  by_cases h0 : t.val % 11 = 0
  · rw [outsAt0_A m c t h0]
    frame_out
    exact pay3 m c t r l
  · rw [outsAt0_B m c t h0]
    frame_out
    exact pay3 m c t r l

/-- The rounded copy is, on the extended reals, the cotangent itself. -/
theorem point_b (c : Dev nD) (t : Fin cfg0.N) (y : S768x1024.Idx) :
    (outsAt0 m c t.val t.isLt).2.1 y = (outsAt0 m c t.val t.isLt).1 y := by
  by_cases h0 : t.val % 11 = 0
  · rw [outsAt0_A m c t h0]
    frame_out
    pointwise [k0_pay4]
  · rw [outsAt0_B m c t h0]
    frame_out
    pointwise [k0_pay4]

theorem lt_row (x : Fin 96) (s : Fin 8) : x.val * 8 + s.val < 768 := by omega

/-- A block's contribution to one of the eight partial sums, of the loss and of the gain's gradient. -/
def partL (c : Dev nD) (t : Fin cfg0.N) (y : S8x1024.Idx) : EReal :=
  ∑ x : Fin 96, LossGrad.err (rH m c) (rG m c) (rT m c) (at_ t ⟨x.val * 8 + (y 0).val, lt_row x (y 0)⟩) (y 1)
    * LossGrad.err (rH m c) (rG m c) (rT m c) (at_ t ⟨x.val * 8 + (y 0).val, lt_row x (y 0)⟩) (y 1)
def partG (c : Dev nD) (t : Fin cfg0.N) (y : S8x1024.Idx) : EReal :=
  ∑ x : Fin 96, LossGrad.dgRow (rH m c) (rG m c) (rT m c) (y 1) (at_ t ⟨x.val * 8 + (y 0).val, lt_row x (y 0)⟩)

/-- The partial sums after a block, the block's place given by its number. -/
def accL (c : Dev nD) (n : ℕ) (h : n < cfg0.N) : S8x1024.Idx → EReal := (outsAt0 m c n h).2.2.1
def accG (c : Dev nD) (n : ℕ) (h : n < cfg0.N) : S8x1024.Idx → EReal := (outsAt0 m c n h).2.2.2

/-- A row's contribution to the gain's gradient from the block's own elements. -/
theorem row_g (c : Dev nD) (t : Fin cfg0.N) (r : Fin 768) (l : Fin 1024) :
    k0_pay10 (F := Ideal) (grid0.coords t) (blkH m c t) (blkT0 m c t) (blkT1 m c t) (blkT2 m c t) (blkG m c t) (ix2 r l)
      * Ideal.ofBits .f32 0x3A800000#32 * (k0_pay9 (F := Ideal) (blkH m c t) (ix2 r l) * Ideal.rsqrt (k0_pay12 (F := Ideal) (blkH m c t) (ix2 r 0)))
      = LossGrad.dgRow (rH m c) (rG m c) (rT m c) l (at_ t r) := by
  rw [pay10, pay9, pay12]
  rfl

theorem stepL_A (c : Dev nD) (t : Fin cfg0.N) (h : t.val % 11 = 0) (y : S8x1024.Idx) : accL m c t.val t.isLt y = 0 + partL m c t y := by
  obtain ⟨s, l, rfl⟩ : ∃ (s : Fin 8) (l : Fin 1024), y = ix2 s l := ⟨y 0, y 1, eq_ix2 y⟩
  unfold accL
  rw [outsAt0_A m c t h]
  frame_out
  pointwise [k0_pay5, k0_pay7]
  exact Finset.sum_congr rfl fun x _ => congrArg₂ (· * ·) (pay10 m c t ⟨x.val * 8 + s.val, lt_row x s⟩ l) (pay10 m c t ⟨x.val * 8 + s.val, lt_row x s⟩ l)

theorem stepL_B (c : Dev nD) (t : Fin cfg0.N) (h : ¬ t.val % 11 = 0) (y : S8x1024.Idx) :
    accL m c t.val t.isLt y = accL m c (t.val - 1) (Nat.lt_of_le_of_lt (Nat.sub_le _ _) t.isLt) y + partL m c t y := by
  obtain ⟨s, l, rfl⟩ : ∃ (s : Fin 8) (l : Fin 1024), y = ix2 s l := ⟨y 0, y 1, eq_ix2 y⟩
  unfold accL
  rw [outsAt0_B m c t h]
  frame_out
  pointwise [k0_pay5, k0_pay7]
  exact congrArg _ (Finset.sum_congr rfl fun x _ => congrArg₂ (· * ·) (pay10 m c t ⟨x.val * 8 + s.val, lt_row x s⟩ l) (pay10 m c t ⟨x.val * 8 + s.val, lt_row x s⟩ l))

theorem stepG_A (c : Dev nD) (t : Fin cfg0.N) (h : t.val % 11 = 0) (y : S8x1024.Idx) : accG m c t.val t.isLt y = 0 + partG m c t y := by
  obtain ⟨s, l, rfl⟩ : ∃ (s : Fin 8) (l : Fin 1024), y = ix2 s l := ⟨y 0, y 1, eq_ix2 y⟩
  unfold accG
  rw [outsAt0_A m c t h]
  frame_out
  pointwise [k0_pay1, k0_pay2, k0_pay6, k0_pay8, k0_pay11]
  exact Finset.sum_congr rfl fun x _ => row_g m c t ⟨x.val * 8 + s.val, lt_row x s⟩ l

theorem stepG_B (c : Dev nD) (t : Fin cfg0.N) (h : ¬ t.val % 11 = 0) (y : S8x1024.Idx) :
    accG m c t.val t.isLt y = accG m c (t.val - 1) (Nat.lt_of_le_of_lt (Nat.sub_le _ _) t.isLt) y + partG m c t y := by
  obtain ⟨s, l, rfl⟩ : ∃ (s : Fin 8) (l : Fin 1024), y = ix2 s l := ⟨y 0, y 1, eq_ix2 y⟩
  unfold accG
  rw [outsAt0_B m c t h]
  frame_out
  pointwise [k0_pay1, k0_pay2, k0_pay6, k0_pay8, k0_pay11]
  exact congrArg _ (Finset.sum_congr rfl fun x _ => row_g m c t ⟨x.val * 8 + s.val, lt_row x s⟩ l)

/-- After the last block a partial sum holds every block's contribution. -/
theorem accL_last (c : Dev nD) (t : Fin cfg0.N) (ht : t.val = 10) (y : S8x1024.Idx) : accL m c t.val t.isLt y = ∑ t : Fin cfg0.N, partL m c t y :=
  (Pipeline.eq_sum_fin_of_reset_step_apply_last (accL m c) 11 (fun _ => (0 : EReal)) (partL m c)
    (fun t h => stepL_A m c t h) (fun t h => stepL_B m c t h) (by decide) t (by rw [ht]; rfl) y).trans (zero_add (M := EReal) _)
theorem accG_last (c : Dev nD) (t : Fin cfg0.N) (ht : t.val = 10) (y : S8x1024.Idx) : accG m c t.val t.isLt y = ∑ t : Fin cfg0.N, partG m c t y :=
  (Pipeline.eq_sum_fin_of_reset_step_apply_last (accG m c) 11 (fun _ => (0 : EReal)) (partG m c)
    (fun t h => stepG_A m c t h) (fun t h => stepG_B m c t h) (by decide) t (by rw [ht]; rfl) y).trans (zero_add (M := EReal) _)

/-- The cotangent with the rows of zeros in front, as the region leaves it. -/
def full (c : Dev nD) : FVec Ideal S8448x1024 .f32 := fun i => LossGrad.dh (rH m c) (rG m c) (rT m c) (i 0) (i 1)

theorem final5 (c : Dev nD) : (dats m 0 c).arrAt 5 cfg0.N = full m c := by
  refine (dats m 0 c).arrAt_eq_of_covers 5 _ (by decide +kernel) fun t hf y => ?_
  blk_simp
  rw [after0_5]
  obtain ⟨r, l, rfl⟩ : ∃ (r : Fin 768) (l : Fin 1024), y = ix2 r l := ⟨y 0, y 1, eq_ix2 y⟩
  have he : (win0_5.blk t).view.emb (ix2 r l) = ix2 (at_ t r) l := by
    blk_ext [(idx t).2.2.2.2.2.1]
  refine Eq.trans ?_ (congrArg _ he.symm)
  exact point m c t r l

theorem final6 (c : Dev nD) : (dats m 0 c).arrAt 6 cfg0.N = full m c := by
  refine (dats m 0 c).arrAt_eq_of_covers 6 _ (by decide +kernel) fun t hf y => ?_
  blk_simp
  rw [after0_6]
  obtain ⟨r, l, rfl⟩ : ∃ (r : Fin 768) (l : Fin 1024), y = ix2 r l := ⟨y 0, y 1, eq_ix2 y⟩
  have he : (win0_6.blk t).view.emb (ix2 r l) = ix2 (at_ t r) l := by
    blk_ext [(idx t).2.2.2.2.2.2.1]
  refine Eq.trans ?_ (congrArg _ he.symm)
  exact (point_b m c t _).trans (point m c t r l)

/-- The eight partial sums as the region leaves them. -/
theorem final7 (c : Dev nD) : (dats m 0 c).arrAt 7 cfg0.N = (fun y => ∑ t : Fin cfg0.N, partL m c t y : FVec Ideal S8x1024 .f32) := by
  have hw : ∀ t : Fin cfg0.N, t.val = 10 → (cfg0.win 7).WholeAt t := by decide +kernel
  obtain ⟨t, ht⟩ : ∃ t : Fin cfg0.N, t.val = 10 := ⟨⟨10, by decide⟩, rfl⟩
  refine (dats m 0 c).arrAt_eq_of_after_last 7 t (hw t ht) _ fun j => ?_
  blk_simp
  rw [after0_7]
  exact accL_last m c t ht _
theorem final8 (c : Dev nD) : (dats m 0 c).arrAt 8 cfg0.N = (fun y => ∑ t : Fin cfg0.N, partG m c t y : FVec Ideal S8x1024 .f32) := by
  have hw : ∀ t : Fin cfg0.N, t.val = 10 → (cfg0.win 8).WholeAt t := by decide +kernel
  obtain ⟨t, ht⟩ : ∃ t : Fin cfg0.N, t.val = 10 := ⟨⟨10, by decide⟩, rfl⟩
  refine (dats m 0 c).arrAt_eq_of_after_last 8 t (hw t ht) _ fun j => ?_
  blk_simp
  rw [after0_8]
  exact accG_last m c t ht _

/-- The region's arrays that the host reads after it. -/
theorem arr5 (c : Dev nD) : Pipeline.withArrays (cfgs 0).spec c (V0 m c) (fun w => (dats m 0 c).arrAt w (cfgs 0).N) (Proc.tc.devRef main_v1_0) = full m c :=
  ((dats m 0 c).withArrays_arrAt sharedIn0 (V0 m c) (fun w => A_eq m c w) 5).trans (final5 m c)
theorem arr6 (c : Dev nD) : Pipeline.withArrays (cfgs 0).spec c (V0 m c) (fun w => (dats m 0 c).arrAt w (cfgs 0).N) (Proc.tc.devRef main_v1_1) = full m c :=
  ((dats m 0 c).withArrays_arrAt sharedIn0 (V0 m c) (fun w => A_eq m c w) 6).trans (final6 m c)
theorem arr7 (c : Dev nD) : Pipeline.withArrays (cfgs 0).spec c (V0 m c) (fun w => (dats m 0 c).arrAt w (cfgs 0).N) (Proc.tc.devRef main_v1_2)
    = (fun y => ∑ t : Fin cfg0.N, partL m c t y : FVec Ideal S8x1024 .f32) :=
  ((dats m 0 c).withArrays_arrAt sharedIn0 (V0 m c) (fun w => A_eq m c w) 7).trans (final7 m c)
theorem arr8 (c : Dev nD) : Pipeline.withArrays (cfgs 0).spec c (V0 m c) (fun w => (dats m 0 c).arrAt w (cfgs 0).N) (Proc.tc.devRef main_v1_3)
    = (fun y => ∑ t : Fin cfg0.N, partG m c t y : FVec Ideal S8x1024 .f32) :=
  ((dats m 0 c).withArrays_arrAt sharedIn0 (V0 m c) (fun w => A_eq m c w) 8).trans (final8 m c)

/-- The results as arrays of the arguments. -/
def lossOf (H : FVec Ideal S8208x1024 .f32) (g : FVec Ideal S1x1024 .f32) (T : FVec Ideal S8192x1024 .f32) : FVec Ideal S_ .f32 := fun _ =>
  LossGrad.loss (fun R k => H (ix2 R k)) (fun k => g (ix2 0 k)) (fun R k => T (ix2 R k))
def dhOf (H : FVec Ideal S8208x1024 .f32) (g : FVec Ideal S1x1024 .f32) (T : FVec Ideal S8192x1024 .f32) : FVec Ideal S8208x1024 .f32 := fun i =>
  LossGrad.dh (fun R k => H (ix2 R k)) (fun k => g (ix2 0 k)) (fun R k => T (ix2 R k)) (Fin.natAdd 240 (i 0)) (i 1)
def dgOf (H : FVec Ideal S8208x1024 .f32) (g : FVec Ideal S1x1024 .f32) (T : FVec Ideal S8192x1024 .f32) : FVec Ideal S1x1024 .f32 := fun i =>
  ∑ P, LossGrad.dgRow (fun R k => H (ix2 R k)) (fun k => g (ix2 0 k)) (fun R k => T (ix2 R k)) (i 1) P

theorem tail3 (c : Dev nD) : (Pipeline.afterTail₀ cfgs (dats m) 0 (V0 m) [hostOps1] c main_v3 : FVec Ideal S_ .f32)
    = lossOf (argH m c) (argG m c) (argT m c) := by
  funext y
  unfold Pipeline.afterTail₀
  after_reads_at
  rw [arr7]
  unfold lossOf LossGrad.loss
  refine congrArg _ ?_
  rw [Finset.sum_comm]
  exact Finset.sum_congr rfl fun l _ => RmsGrad.sum_rows 11 96 rfl fun s t x hl => rfl

theorem tail4 (c : Dev nD) : (Pipeline.afterTail₀ cfgs (dats m) 0 (V0 m) [hostOps1] c main_v4 : FVec Ideal S8208x1024 .f32)
    = dhOf (argH m c) (argG m c) (argT m c) := by
  funext y
  unfold Pipeline.afterTail₀
  after_reads_at
  rw [arr5]
  rfl

theorem tail5 (c : Dev nD) : (Pipeline.afterTail₀ cfgs (dats m) 0 (V0 m) [hostOps1] c main_v5 : FVec Ideal S8208x1024 .bf16)
    = dhOf (argH m c) (argG m c) (argT m c) := by
  funext y
  unfold Pipeline.afterTail₀
  after_reads_at
  rw [arr6]
  rfl

theorem tail7 (c : Dev nD) : (Pipeline.afterTail₀ cfgs (dats m) 0 (V0 m) [hostOps1] c main_v7 : FVec Ideal S1x1024 .f32)
    = dgOf (argH m c) (argG m c) (argT m c) := by
  funext y
  unfold Pipeline.afterTail₀
  after_reads_at
  rw [arr8]
  exact RmsGrad.sum_rows 11 96 rfl fun s t x hl => rfl

theorem run : θ_run defs (onTc (τ := τ) (main (F := Ideal))) ⟨m, fun _ => 0, ρ⟩ (fun r => ∀ c : Dev nD,
      r.2.mem ((c.tc : Thread nD τ).loc main_v3) = lossOf (argH m c) (argG m c) (argT m c)
      ∧ r.2.mem ((c.tc : Thread nD τ).loc main_v4) = dhOf (argH m c) (argG m c) (argT m c)
      ∧ r.2.mem ((c.tc : Thread nD τ).loc main_v5) = dhOf (argH m c) (argG m c) (argT m c)
      ∧ r.2.mem ((c.tc : Thread nD τ).loc main_v7) = dgOf (argH m c) (argG m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from (run_main (F := Ideal) m ρ)
  · exact tail3 m c
  · exact tail4 m c
  · exact tail5 m c
  · exact tail7 m c
  · exact W_main_arg0 m (dats m) c

end Cert.FinIdeal.RefValue

namespace Cert.FinRefIdeal.RefValue

open Cert.FinRefIdeal Cert.FinRefIdeal.Gen Idealize.ShloMosaic Idealize.ShloMosaic.TcCoe
open Cert.FinIdeal.RefValue (lossOf dhOf dgOf)

variable (m : (ℓ : Loc nD τ sig) → Buf (Elt Ideal) ℓ)

/-- Device `c`'s argument arrays as launched. -/
abbrev argH (c : Dev nD) : FVec Ideal S8208x1024 .f32 := m ((c : Thread nD τ).loc main_arg0)
abbrev argG (c : Dev nD) : FVec Ideal S1x1024 .f32 := m ((c : Thread nD τ).loc main_arg1)
abbrev argT (c : Dev nD) : FVec Ideal S8192x1024 .f32 := m ((c : Thread nD τ).loc main_arg2)

/-- The error at a row of the target is a real number. -/
theorem real_err {H : FVec Ideal S8208x1024 .f32} {g : FVec Ideal S1x1024 .f32} {T : FVec Ideal S8192x1024 .f32}
    (hH : ∀ i, RmsGrad.IsReal (H i)) (hG : ∀ i, RmsGrad.IsReal (g i)) (hT : ∀ i, RmsGrad.IsReal (T i)) (R : Fin 8208) (Q : Fin 8192) (k : Fin 1024) :
    RmsGrad.IsReal (H (ix2 R k) * RmsGrad.scale (fun k => H (ix2 R k)) * g (ix2 0 k) - T (ix2 Q k)) := by
  have h1 : RmsGrad.IsReal (RmsGrad.scale (fun k => H (ix2 R k))) := RmsGrad.scale_real fun k => hH _
  exact LossGrad.sub_real (((hH _).mul h1).mul (hG _)) (hT _)

/-- The cotangent of the norm's output as the reference pads it. -/
def ctRef (H : FVec Ideal S8208x1024 .f32) (g : FVec Ideal S1x1024 .f32) (T : FVec Ideal S8192x1024 .f32) (R : Fin 8208) (k : Fin 1024) : EReal :=
  if h : 16 ≤ R.val ∧ R.val - 16 < 8192 then
    Ideal.div (Ideal.ofBits .f32 0x3F000000#32) (Ideal.ofBits .f32 0x44800000#32) * (Ideal.ofBits .f32 0x40000000#32
      * (H (ix2 ⟨16 + (R.val - 16), by omega⟩ k) * RmsGrad.scale (fun k => H (ix2 ⟨16 + (R.val - 16), by omega⟩ k)) * g (ix2 0 k) - T (ix2 ⟨R.val - 16, h.2⟩ k)))
  else 0

/-- It is the kernel's. -/
theorem ct_at {H : FVec Ideal S8208x1024 .f32} {g : FVec Ideal S1x1024 .f32} {T : FVec Ideal S8192x1024 .f32}
    (hH : ∀ i, RmsGrad.IsReal (H i)) (hG : ∀ i, RmsGrad.IsReal (g i)) (hT : ∀ i, RmsGrad.IsReal (T i)) (R : Fin 8208) (k : Fin 1024) :
    ctRef H g T R k
      = LossGrad.err (fun R k => H (ix2 R k)) (fun k => g (ix2 0 k)) (fun R k => T (ix2 R k)) (Fin.natAdd 240 R) k * Ideal.ofBits .f32 0x3A800000#32 := by
  have hR := R.isLt
  unfold ctRef
  rw [LossGrad.err_nat]
  by_cases h : 16 ≤ R.val
  · rw [dif_pos h, dif_pos ⟨h, by omega⟩]
    have e : (⟨16 + (R.val - 16), by omega⟩ : Fin 8208) = R := Fin.ext (by simp; omega)
    rw [e]
    exact LossGrad.ct_eq (real_err hH hG hT R _ k)
  · rw [dif_neg h, dif_neg fun q => h q.1, zero_mul]

/-- And a real number. -/
theorem ct_real {H : FVec Ideal S8208x1024 .f32} {g : FVec Ideal S1x1024 .f32} {T : FVec Ideal S8192x1024 .f32}
    (hH : ∀ i, RmsGrad.IsReal (H i)) (hG : ∀ i, RmsGrad.IsReal (g i)) (hT : ∀ i, RmsGrad.IsReal (T i)) (R : Fin 8208) (k : Fin 1024) :
    RmsGrad.IsReal (ctRef H g T R k) := by
  rw [ct_at hH hG hT, LossGrad.err_nat]
  refine RmsGrad.IsReal.mul ?_ ⟨_, LossGrad.word_w⟩
  split_ifs with h
  · exact real_err hH hG hT R _ k
  · exact ⟨0, rfl⟩

/-- The reference's loss. -/
theorem loss_eq (A0 : FVec Ideal S8208x1024 .f32) (A1 : FVec Ideal S1x1024 .f32) (A2 : FVec Ideal S8192x1024 .f32)
    (hH : ∀ i, RmsGrad.IsReal (A0 i)) (hG : ∀ i, RmsGrad.IsReal (A1 i)) (hT : ∀ i, RmsGrad.IsReal (A2 i)) :
    mulf (constant S_ .f32 0x3F000000#32) (Host.reduceAdd (Host.divf (Host.reduceAdd (mulf (subf (extractStridedSlice S8192x1024 ![16, 0] (mulf (mulf A0 (broadcastInDim S8208x1024 ![0, 1] bcast_S8208x1_S8208x1024_0_1 (Host.rsqrt (addf (Host.divf (broadcastInDim S8208x1 ![0] bcast_S8208_S8208x1_0 (Host.reduceAdd (mulf A0 A0) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (broadcastInDim S8208x1024 ![0, 1] bcast_S1x1024_S8208x1024_0_1 A1)) slices_S8208x1024_S8192x1024_16_0) A2) (subf (extractStridedSlice S8192x1024 ![16, 0] (mulf (mulf A0 (broadcastInDim S8208x1024 ![0, 1] bcast_S8208x1_S8208x1024_0_1 (Host.rsqrt (addf (Host.divf (broadcastInDim S8208x1 ![0] bcast_S8208_S8208x1_0 (Host.reduceAdd (mulf A0 A0) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (broadcastInDim S8208x1024 ![0, 1] bcast_S1x1024_S8208x1024_0_1 A1)) slices_S8208x1024_S8192x1024_16_0) A2)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)
      = lossOf A0 A1 A2 := by
  funext j
  pointwise []
  have hr : ∀ (x : Fin 8192) (k : Fin 1024), RmsGrad.IsReal (A0 (ix2 ⟨16 + x.val, by omega⟩ k) * RmsGrad.scale (fun k => A0 (ix2 ⟨16 + x.val, by omega⟩ k)) * A1 (ix2 0 k) - A2 (ix2 x k)) :=
    fun x k => real_err hH hG hT _ _ k
  choose r hr using hr
  unfold lossOf LossGrad.loss
  have hs : ∀ l : Fin 1024, (∑ P : Fin 8448, LossGrad.err (fun R k => A0 (ix2 R k)) (fun k => A1 (ix2 0 k)) (fun R k => A2 (ix2 R k)) P l
      * LossGrad.err (fun R k => A0 (ix2 R k)) (fun k => A1 (ix2 0 k)) (fun R k => A2 (ix2 R k)) P l) = ∑ x : Fin 8192, (r x l * r x l : ℝ) := by
    intro l
    rw [show (∑ P : Fin 8448, LossGrad.err (fun R k => A0 (ix2 R k)) (fun k => A1 (ix2 0 k)) (fun R k => A2 (ix2 R k)) P l
      * LossGrad.err (fun R k => A0 (ix2 R k)) (fun k => A1 (ix2 0 k)) (fun R k => A2 (ix2 R k)) P l) = _ from
      LossGrad.sum_skip 256 8192 fun i => by rw [LossGrad.err_low _ _ _ _ i.isLt, zero_mul]]
    rw [← RmsGrad.sum_coe]
    refine Finset.sum_congr rfl fun x _ => ?_
    have e : Fin.natAdd 256 x = Fin.natAdd 240 (⟨16 + x.val, by omega⟩ : Fin 8208) := Fin.ext (by simp; omega)
    rw [e, LossGrad.err_nat, dif_pos (by simp)]
    have e' : (⟨16 + x.val - 16, by omega⟩ : Fin 8192) = x := Fin.ext (by simp)
    rw [e', hr x l, EReal.coe_mul]
  refine (congrArg _ (Finset.sum_congr rfl fun x _ => congrArg (Ideal.div · _) (Finset.sum_congr rfl fun k _ =>
    (congrArg₂ (· * ·) (hr x k) (hr x k)).trans (EReal.coe_mul _ _).symm))).trans ?_
  simp only [hs, RmsGrad.sum_coe, LossGrad.word_half, LossGrad.word_c, RmsGrad.word_n, Ideal.div_coe (by norm_num : (1024 : ℝ) ≠ 0), ← EReal.coe_mul]
  rw [Finset.sum_comm, ← Finset.sum_mul]
  congr 1
  ring

/-- The reference's cotangent of the norm's input. -/
theorem dh_eq (c : Dev nD) (hH : ∀ i, RmsGrad.IsReal (argH m c i)) (hG : ∀ i, RmsGrad.IsReal (argG m c i)) (hT : ∀ i, RmsGrad.IsReal (argT m c i))
    (R : Fin 8208) (l : Fin 1024) : Cert.FinRefIdeal.Value.res_main_v50 m c (ix2 R l) = dhOf (argH m c) (argG m c) (argT m c) (ix2 R l) := by
  pointwise [Cert.FinRefIdeal.Value.res_main_v50]
  rw [Fin.sum_univ_one]
  refine (RmsGrad.grad_eq (e := fun k => ctRef (argH m c) (argG m c) (argT m c) R k * argG m c (ix2 0 k)) (h := fun k => argH m c (ix2 R k))
    (fun k => (ct_real hH hG hT R k).mul (hG _)) (fun k => hH _) l).trans ?_
  change _ = RmsGrad.grad (fun k => LossGrad.err (fun R k => argH m c (ix2 R k)) (fun k => argG m c (ix2 0 k)) (fun R k => argT m c (ix2 R k))
    (Fin.natAdd 240 R) k * Ideal.ofBits .f32 0x3A800000#32 * argG m c (ix2 0 k)) (LossGrad.row (fun R k => argH m c (ix2 R k)) (Fin.natAdd 240 R)) l
  rw [show LossGrad.row (fun R k => argH m c (ix2 R k)) (Fin.natAdd 240 R) = fun k => argH m c (ix2 R k) from LossGrad.row_nat _ R]
  exact congrArg (fun e => RmsGrad.grad e _ l) (funext fun k => congrArg (· * _) (ct_at hH hG hT R k))

/-- The second is the first, rounded: the same numbers. -/
theorem dhb_eq (c : Dev nD) (j : S8208x1024.Idx) : Cert.FinRefIdeal.Value.res_main_v51 m c j = Cert.FinRefIdeal.Value.res_main_v50 m c j := by
  pointwise [Cert.FinRefIdeal.Value.res_main_v50, Cert.FinRefIdeal.Value.res_main_v51]

/-- The reference's gradient of the gain. -/
theorem dg_eq (A0 : FVec Ideal S8208x1024 .f32) (A1 : FVec Ideal S1x1024 .f32) (A2 : FVec Ideal S8192x1024 .f32)
    (hH : ∀ i, RmsGrad.IsReal (A0 i)) (hG : ∀ i, RmsGrad.IsReal (A1 i)) (hT : ∀ i, RmsGrad.IsReal (A2 i)) :
    shapeCast _ (Host.reduceAdd (mulf (mulf A0 (broadcastInDim S8208x1024 ![0, 1] bcast_S8208x1_S8208x1024_0_1 (Host.rsqrt (addf (Host.divf (broadcastInDim S8208x1 ![0] bcast_S8208_S8208x1_0 (Host.reduceAdd (mulf A0 A0) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (pad S8208x1024 ![16, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![16, 0] (mulf (mulf A0 (broadcastInDim S8208x1024 ![0, 1] bcast_S8208x1_S8208x1024_0_1 (Host.rsqrt (addf (Host.divf (broadcastInDim S8208x1 ![0] bcast_S8208_S8208x1_0 (Host.reduceAdd (mulf A0 A0) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (broadcastInDim S8208x1024 ![0, 1] bcast_S1x1024_S8208x1024_0_1 A1)) slices_S8208x1024_S8192x1024_16_0) A2))) (constant S_ .f32 0x00000000#32) pads_S8192x1024_S8208x1024_1600_000 h_S_)) (constant S_ .f32 0x00000000#32) reducesTo_S8208x1024_S1024_d0 h_S_) shapeCasts_S1024_S1x1024
      = dgOf A0 A1 A2 := by
  funext j
  obtain ⟨a, l, rfl⟩ : ∃ (a : Fin 1) (k : Fin 1024), j = ix2 a k := ⟨j 0, j 1, eq_ix2 j⟩
  pointwise []
  unfold dgOf
  refine Eq.trans ?_ (LossGrad.sum_skip 240 8208 fun i => ?_).symm
  · refine Finset.sum_congr rfl fun R _ => ?_
    unfold LossGrad.dgRow
    rw [LossGrad.row_nat, mul_comm]
    exact congrArg (· * _) (ct_at hH hG hT R l)
  · have hi : (Fin.castAdd 8208 i).val < 256 := by have := i.isLt; simp only [Fin.val_castAdd]; omega
    exact (congrArg (fun e : EReal => e * _ * _) (LossGrad.err_low _ _ _ _ hi l)).trans ((congrArg (· * _) (zero_mul _)).trans (zero_mul _))

end Cert.FinRefIdeal.RefValue

/-! ## The claims about this call -/

namespace Cert.Proof.Fin

open Idealize.ShloMosaic Idealize.ShloMosaic.TcCoe Idealize.SL.Sem

/-- The precondition's masks have the shapes they are stated at. -/
instance facts_pre : Cert.Pre_fin_finite.Facts := ⟨by decide, by decide, by decide⟩

/-- The kernel runs, leaves its arguments as they were and ends with every semaphore at zero. -/
theorem frame_kernel : Cert.quiescent_Fin := fun m ρ _ => Cert.Fin.Gen.frame m ρ

/-- So does its idealization. -/
theorem frame_ideal : Cert.quiescent_FinIdeal := fun m ρ _ => Cert.FinIdeal.Gen.frame m ρ
theorem frame_ideal_pre : Cert.quiescent_FinIdeal_pre_fin_finite := fun m ρ _ => Cert.FinIdeal.Gen.frame m ρ

/-- And the reference. -/
theorem frame_ref : Cert.quiescent_FinRefIdeal := fun m ρ _ =>
  (θ_run Cert.FinRefIdeal.defs _ _).mono
    (fun r h => ⟨fun c => (h c).2.2.2.2, Idealize.ShloMosaic.sem_eq_zero_of_no_sems (by decide) r.2⟩)
    (Cert.FinRefIdeal.Value.run (F := Ideal) m ρ)
theorem frame_ref_pre : Cert.quiescent_FinRefIdeal_pre_fin_finite := fun m ρ _ => frame_ref m ρ trivial

/-- On the extended reals the kernel's results are the loss and its derivative. -/
theorem value : Cert.algebraic_FinIdeal_FinRefIdeal_pre_fin_finite := fun m ρ m' ρ' hp hag =>
  ⟨fun c => FinIdeal.RefValue.lossOf (FinIdeal.RefValue.argH m c) (FinIdeal.RefValue.argG m c) (FinIdeal.RefValue.argT m c),
    fun c => FinIdeal.RefValue.dhOf (FinIdeal.RefValue.argH m c) (FinIdeal.RefValue.argG m c) (FinIdeal.RefValue.argT m c),
    fun c => FinIdeal.RefValue.dhOf (FinIdeal.RefValue.argH m c) (FinIdeal.RefValue.argG m c) (FinIdeal.RefValue.argT m c),
    fun c => FinIdeal.RefValue.dgOf (FinIdeal.RefValue.argH m c) (FinIdeal.RefValue.argG m c) (FinIdeal.RefValue.argT m c),
    FinIdeal.RefValue.run m ρ,
    (θ_run Cert.FinRefIdeal.defs _ _).mono (fun _ h c => by
        obtain ⟨h1, h2, h3, h4, hr⟩ := h c
        obtain ⟨a0, a1, a2⟩ := hag c
        obtain ⟨p0, p1, p2⟩ := hp c
        have hH : ∀ i, RmsGrad.IsReal (FinIdeal.RefValue.argH m c i) := RmsGrad.isReal_of_mask _ p0
        have hG : ∀ i, RmsGrad.IsReal (FinIdeal.RefValue.argG m c i) := RmsGrad.isReal_of_mask _ p1
        have hT : ∀ i, RmsGrad.IsReal (FinIdeal.RefValue.argT m c i) := RmsGrad.isReal_of_mask _ p2
        have q := FinRefIdeal.RefValue.dh_eq m' c (fun i => by rw [FinRefIdeal.RefValue.argH, a0]; exact hH i)
          (fun i => by rw [FinRefIdeal.RefValue.argG, a1]; exact hG i) (fun i => by rw [FinRefIdeal.RefValue.argT, a2]; exact hT i)
        unfold FinRefIdeal.RefValue.argH FinRefIdeal.RefValue.argG FinRefIdeal.RefValue.argT at q
        rw [a0, a1, a2] at q
        refine ⟨h1.trans ?_, h2.trans (funext fun j => ?_), h3.trans (funext fun j => ?_), h4.trans ?_, hr⟩
        · rw [a0, a1, a2]; exact FinRefIdeal.RefValue.loss_eq _ _ _ hH hG hT
        · rw [eq_ix2 j]; exact q _ _
        · refine (FinRefIdeal.RefValue.dhb_eq m' c j).trans ?_
          rw [eq_ix2 j]; exact q _ _
        · rw [a0, a1, a2]; exact FinRefIdeal.RefValue.dg_eq _ _ _ hH hG hT)
      (Cert.FinRefIdeal.Value.run (F := Ideal) m' ρ')⟩

end Cert.Proof.Fin

end
-- ==== Proof.In.lean ====
/-
  The product by the input projection's weights, fused with the gradient of the first norm: `rmsnorm(h0) * g @ w_in`, where `h0`
  is the meta rows in front of the input, and the residual stream beside it.

  The kernel works on 33 blocks of 256 rows with 240 rows of zeros in front, so that the meta rows end the first block and the
  input's rows are the 32 other blocks. The weights' columns come in another order, with 112 columns of zeros behind: the
  product is the sum over the 3600 columns all the same. The gain's gradient is kept in eight partial sums.
-/
module

public import proofs.«01_k».proof.Defs
public import proofs.«01_k».proof.Proof.RmsGrad
public import proofs.«01_k».proof.Proof.Fin
public import proofs.«01_k».proof.Proof.Gen.In.Frame
public import proofs.«01_k».proof.Proof.Gen.InIdeal.Frame
public import proofs.«01_k».proof.Proof.Gen.InRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.InGrad

open Idealize.ShloMosaic
open Cert.RmsGrad (IsReal)

/-- The columns in the kernel's order, zeros behind. -/
def ext (f : Fin 3600 → EReal) (j : Fin 3712) : EReal :=
  if h : j.val < 1024 then f ⟨j.val, by omega⟩
  else if h2 : j.val - 1024 < 1024 then f ⟨2576 + (j.val - 1024), by omega⟩
  else if h3 : j.val - 1024 - 1024 < 1536 then f ⟨1024 + (j.val - 1024 - 1024), by omega⟩
  else if h4 : j.val - 1024 - 1024 - 1536 < 16 then f ⟨2560 + (j.val - 1024 - 1024 - 1536), by omega⟩ else 0

theorem ext_mul (f g : Fin 3600 → EReal) (j : Fin 3712) : ext f j * ext g j = ext (fun i => f i * g i) j := by
  unfold ext
  split_ifs <;> first | rfl | exact zero_mul _

/-- The sum over the kernel's columns is the sum over all columns. -/
theorem sum_ext (f : Fin 3600 → EReal) : ∑ j, ext f j = ∑ i, f i := by
  have e : ∑ j : Fin 3712, ext f j = ∑ j : Fin (1024 + 1024 + 1536 + 16 + 112), ext f j := rfl
  have e' : ∑ i : Fin 3600, f i = ∑ i : Fin (1024 + 1536 + 16 + 1024), f i := rfl
  rw [e, e']
  simp only [Fin.sum_univ_add]
  have h1 : ∀ x : Fin 1024, ext f (Fin.castAdd 112 (Fin.castAdd 16 (Fin.castAdd 1536 (Fin.castAdd 1024 x)))) = f (Fin.castAdd 1024 (Fin.castAdd 16 (Fin.castAdd 1536 x))) := fun x => by
    have := x.isLt
    unfold ext
    rw [dif_pos (by simp)]
    rfl
  have h2 : ∀ x : Fin 1024, ext f (Fin.castAdd 112 (Fin.castAdd 16 (Fin.castAdd 1536 (Fin.natAdd 1024 x)))) = f (Fin.natAdd (1024 + 1536 + 16) x) := fun x => by
    have := x.isLt
    unfold ext
    rw [dif_neg (by simp), dif_pos (by simp)]
    exact congrArg f (Fin.ext (by simp))
  have h3 : ∀ x : Fin 1536, ext f (Fin.castAdd 112 (Fin.castAdd 16 (Fin.natAdd (1024 + 1024) x))) = f (Fin.castAdd 1024 (Fin.castAdd 16 (Fin.natAdd 1024 x))) := fun x => by
    have := x.isLt
    unfold ext
    rw [dif_neg (by simp; omega), dif_neg (by simp; omega), dif_pos (by simp; omega)]
    exact congrArg f (Fin.ext (by simp; omega))
  have h4 : ∀ x : Fin 16, ext f (Fin.castAdd 112 (Fin.natAdd (1024 + 1024 + 1536) x)) = f (Fin.castAdd 1024 (Fin.natAdd (1024 + 1536) x)) := fun x => by
    have := x.isLt
    unfold ext
    rw [dif_neg (by simp; omega), dif_neg (by simp; omega), dif_neg (by simp; omega), dif_pos (by simp; omega)]
    exact congrArg f (Fin.ext (by simp; omega))
  have h5 : ∀ x : Fin 112, ext f (Fin.natAdd (1024 + 1024 + 1536 + 16) x) = 0 := fun x => by
    have := x.isLt
    unfold ext
    rw [dif_neg (by simp; omega), dif_neg (by simp; omega), dif_neg (by simp; omega), dif_neg (by simp; omega)]
  simp only [h1, h2, h3, h4, h5, Finset.sum_const_zero, add_zero]
  abel

/-- A row of the norm's input, numbered with the 240 rows of zeros in front. -/
def row (X : Fin 8192 → Fin 1024 → EReal) (M : Fin 16 → Fin 1024 → EReal) (P : Fin 8448) (k : Fin 1024) : EReal :=
  if h : 256 ≤ P.val then X ⟨P.val - 256, by omega⟩ k else if h' : 240 ≤ P.val then M ⟨P.val - 240, by omega⟩ k else 0

/-- A row of the cotangent of the norm's output. -/
def dy (W : Fin 1024 → Fin 3600 → EReal) (D : Fin 8208 → Fin 3600 → EReal) (P : Fin 8448) (k : Fin 1024) : EReal :=
  if h : 240 ≤ P.val then ∑ j, D ⟨P.val - 240, by omega⟩ j * W k j else 0

/-- A row of the cotangent that comes beside it. -/
def beside (E : Fin 8208 → Fin 1024 → EReal) (P : Fin 8448) (k : Fin 1024) : EReal :=
  if h : 240 ≤ P.val then E ⟨P.val - 240, by omega⟩ k else 0

/-- A row of the cotangent of the norm's input. -/
def dh (X : Fin 8192 → Fin 1024 → EReal) (M : Fin 16 → Fin 1024 → EReal) (g : Fin 1024 → EReal) (W : Fin 1024 → Fin 3600 → EReal)
    (D : Fin 8208 → Fin 3600 → EReal) (E : Fin 8208 → Fin 1024 → EReal) (P : Fin 8448) (l : Fin 1024) : EReal :=
  beside E P l + RmsGrad.grad (fun k => dy W D P k * g k) (row X M P) l

/-- What a row adds to the gradient of the gain. -/
def dgRow (X : Fin 8192 → Fin 1024 → EReal) (M : Fin 16 → Fin 1024 → EReal) (W : Fin 1024 → Fin 3600 → EReal)
    (D : Fin 8208 → Fin 3600 → EReal) (l : Fin 1024) (P : Fin 8448) : EReal :=
  dy W D P l * (row X M P l * RmsGrad.scale (row X M P))

/-- The rows behind the zeros in front. -/
theorem row_meta (X : Fin 8192 → Fin 1024 → EReal) (M : Fin 16 → Fin 1024 → EReal) (P : Fin 8448) (R : Fin 16) (h : P.val = 240 + R.val) :
    row X M P = M R := by
  funext k
  have := R.isLt
  unfold row
  rw [dif_neg (by omega), dif_pos (by omega)]
  exact congrArg (M · k) (Fin.ext (by simp only; omega))

theorem row_x (X : Fin 8192 → Fin 1024 → EReal) (M : Fin 16 → Fin 1024 → EReal) (P : Fin 8448) (R : Fin 8192) (h : P.val = 256 + R.val) :
    row X M P = X R := by
  funext k
  unfold row
  rw [dif_pos (by omega)]
  exact congrArg (X · k) (Fin.ext (by simp only; omega))

theorem dy_at (W : Fin 1024 → Fin 3600 → EReal) (D : Fin 8208 → Fin 3600 → EReal) (P : Fin 8448) (R : Fin 8208) (h : P.val = 240 + R.val) (k : Fin 1024) :
    dy W D P k = ∑ j, D R j * W k j := by
  unfold dy
  rw [dif_pos (by omega)]
  exact Finset.sum_congr rfl fun j _ => congrArg (D · j * _) (Fin.ext (by simp only; omega))

theorem beside_at (E : Fin 8208 → Fin 1024 → EReal) (P : Fin 8448) (R : Fin 8208) (h : P.val = 240 + R.val) (k : Fin 1024) : beside E P k = E R k := by
  unfold beside
  rw [dif_pos (by omega)]
  exact congrArg (E · k) (Fin.ext (by simp only; omega))

end Cert.InGrad

namespace Cert.InIdeal.RefValue

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s argument arrays as launched. -/
abbrev argX (c : Dev nD) : FVec Ideal S8192x1024 .f32 := m ((c : Thread nD τ).loc main_arg0)
abbrev argM (c : Dev nD) : FVec Ideal S16x1024 .f32 := m ((c : Thread nD τ).loc main_arg1)
abbrev argG (c : Dev nD) : FVec Ideal S1x1024 .f32 := m ((c : Thread nD τ).loc main_arg2)
abbrev argW (c : Dev nD) : FVec Ideal S1024x3600 .f32 := m ((c : Thread nD τ).loc main_arg3)
abbrev argD (c : Dev nD) : FVec Ideal S8208x3600 .f32 := m ((c : Thread nD τ).loc main_arg4)
abbrev argE (c : Dev nD) : FVec Ideal S8208x1024 .f32 := m ((c : Thread nD τ).loc main_arg5)

/-- A grid point's blocks. -/
abbrev blkD (c : Dev nD) (t : Fin cfg0.N) : FVec Ideal S256x3712 .bf16 := iblk m c 0 t
abbrev blkE (c : Dev nD) (t : Fin cfg0.N) : FVec Ideal S256x1024 .f32 := iblk m c 1 t
abbrev blkX (c : Dev nD) (t : Fin cfg0.N) : FVec Ideal S256x1024 .f32 := iblk m c 2 t
abbrev blkM (c : Dev nD) (t : Fin cfg0.N) : FVec Ideal S256x1024 .f32 := iblk m c 3 t
abbrev blkG (c : Dev nD) (t : Fin cfg0.N) : FVec Ideal S1x1024 .f32 := iblk m c 4 t
abbrev blkW (c : Dev nD) (t : Fin cfg0.N) : FVec Ideal S3712x1024 .bf16 := iblk m c 5 t

/-- Where each window's block sits at a grid point. -/
theorem idx : ∀ t : Fin cfg0.N, win0_0.index t = ![t.val, 0] ∧ win0_1.index t = ![t.val, 0] ∧ win0_2.index t = ![t.val - 1, 0]
    ∧ win0_3.index t = ![0, 0] ∧ win0_4.index t = ![0, 0] ∧ win0_5.index t = ![0, 0] ∧ win0_6.index t = ![t.val - 1, 0]
    ∧ win0_7.index t = ![0, 0] ∧ win0_8.index t = ![0, 0] ∧ win0_9.index t = ![0, 0] :=
  (by decide +kernel : ∀ t : Fin grid0.N, _)

/-- The arguments as rows. -/
abbrev rX (c : Dev nD) (R : Fin 8192) (k : Fin 1024) : EReal := argX m c (ix2 R k)
abbrev rM (c : Dev nD) (R : Fin 16) (k : Fin 1024) : EReal := argM m c (ix2 R k)
abbrev rG (c : Dev nD) (k : Fin 1024) : EReal := argG m c (ix2 0 k)
abbrev rW (c : Dev nD) (k : Fin 1024) (j : Fin 3600) : EReal := argW m c (ix2 k j)
abbrev rD (c : Dev nD) (R : Fin 8208) (j : Fin 3600) : EReal := argD m c (ix2 R j)
abbrev rE (c : Dev nD) (R : Fin 8208) (k : Fin 1024) : EReal := argE m c (ix2 R k)

theorem pt_lt (t : Fin cfg0.N) (r : Fin 256) : t.val * 256 + r.val < 8448 := by
  have : t.val < 33 := t.isLt
  omega

/-- A grid point's row among all rows. -/
abbrev at_ (t : Fin cfg0.N) (r : Fin 256) : Fin 8448 := ⟨t.val * 256 + r.val, pt_lt t r⟩

theorem V_d (c : Dev nD) (P : Fin 8448) (j : Fin 3712) : (V m c (Pipeline.arrRef spec0 0) : FVec Ideal S8448x3712 .bf16) (ix2 P j)
    = if h : 240 ≤ P.val then InGrad.ext (fun i => rD m c ⟨P.val - 240, by omega⟩ i) j else 0 := by
  unfold V
  after_reads_at
  have hP := P.isLt
  by_cases h : 240 ≤ P.val
  · rw [dif_pos ⟨h, by omega⟩, dif_pos h]
    unfold InGrad.ext
    split_ifs <;> after_reads_at
  · rw [dif_neg (fun q => h q.1), dif_neg h]
    change (((0#32 : BitVec 32).toInt : ℝ) : EReal) = 0
    simp

theorem V_e (c : Dev nD) (P : Fin 8448) (k : Fin 1024) : V m c (Pipeline.arrRef spec0 1) (ix2 P k) = InGrad.beside (rE m c) P k := by
  unfold V
  after_reads_at
  have hP := P.isLt
  unfold InGrad.beside
  by_cases h : 240 ≤ P.val
  · rw [dif_pos ⟨h, by omega⟩, dif_pos h]
  · rw [dif_neg (fun q => h q.1), dif_neg h]
    change (((0#32 : BitVec 32).toInt : ℝ) : EReal) = 0
    simp

theorem V_m (c : Dev nD) (r : Fin 256) (k : Fin 1024) : V m c (Pipeline.arrRef spec0 3) (ix2 r k)
    = if h : 240 ≤ r.val then rM m c ⟨r.val - 240, by have := r.isLt; omega⟩ k else 0 := by
  unfold V
  after_reads_at
  by_cases h : 240 ≤ r.val
  · rw [dif_neg (by omega), dif_pos h]
  · rw [dif_pos (by omega), dif_neg h]

theorem V_w (c : Dev nD) (j : Fin 3712) (k : Fin 1024) : (V m c (Pipeline.arrRef spec0 5) : FVec Ideal S3712x1024 .bf16) (ix2 j k) = InGrad.ext (fun i => rW m c k i) j := by
  unfold V
  after_reads_at
  unfold InGrad.ext
  split_ifs <;> after_reads_at

/-- A grid point's blocks, element by element. -/
theorem blk_d (c : Dev nD) (t : Fin cfg0.N) (r : Fin 256) (j : Fin 3712) : blkD m c t (ix2 r j)
    = if h : 240 ≤ (at_ t r).val then InGrad.ext (fun i => rD m c ⟨(at_ t r).val - 240, by omega⟩ i) j else 0 := by
  rw [← V_d m c (at_ t r) j]
  blk_ext [iblk, (idx t).1]
theorem blk_e (c : Dev nD) (t : Fin cfg0.N) (r : Fin 256) (k : Fin 1024) : blkE m c t (ix2 r k) = InGrad.beside (rE m c) (at_ t r) k := by
  rw [← V_e m c (at_ t r) k]
  blk_ext [iblk, (idx t).2.1]
theorem blk_x (c : Dev nD) (t : Fin cfg0.N) (r : Fin 256) (k : Fin 1024) (R : Fin 8192) (hR : R.val = (t.val - 1) * 256 + r.val) :
    blkX m c t (ix2 r k) = rX m c R k := by
  rw [show rX m c R k = V m c main_arg0 (ix2 R k) from by unfold V; after_reads_at]
  blk_ext [iblk, (idx t).2.2.1]
theorem blk_m (c : Dev nD) (t : Fin cfg0.N) (r : Fin 256) (k : Fin 1024) : blkM m c t (ix2 r k)
    = if h : 240 ≤ r.val then rM m c ⟨r.val - 240, by have := r.isLt; omega⟩ k else 0 := by
  rw [← V_m m c r k]
  blk_ext [iblk, (idx t).2.2.2.1]
theorem blk_g (c : Dev nD) (t : Fin cfg0.N) (k : Fin 1024) : blkG m c t (ix2 0 k) = rG m c k := by
  rw [show rG m c k = V m c main_arg2 (ix2 0 k) from by unfold V; after_reads_at]
  blk_ext [iblk, (idx t).2.2.2.2.1]
theorem blk_w (c : Dev nD) (t : Fin cfg0.N) (j : Fin 3712) (k : Fin 1024) : blkW m c t (ix2 j k) = InGrad.ext (fun i => rW m c k i) j := by
  rw [← V_w m c j k]
  blk_ext [iblk, (idx t).2.2.2.2.2.1]

/-- The mask of the first block. -/
theorem cond_t : ∀ t : Fin cfg0.N, Scalar.cmpi .eq (BitVec.ofNat 32 (grid0.coords t 0).val) 0#32 = if t.val = 0 then 1#1 else 0#1 :=
  (by decide +kernel : ∀ t : Fin grid0.N, _)
theorem cond_r : ∀ r : Fin 256, IntOp.cmpi .slt (BitVec.ofNat 32 r.val) 256#32 = 1#1 := by decide +kernel

/-- The norm's input at a block's element. -/
theorem pay11 (c : Dev nD) (t : Fin cfg0.N) (r : Fin 256) (l : Fin 1024) :
    k0_pay11 (F := Ideal) (grid0.coords t) (blkX m c t) (blkM m c t) (ix2 r l) = InGrad.row (rX m c) (rM m c) (at_ t r) l := by
  have h : k0_pay11 (F := Ideal) (grid0.coords t) (blkX m c t) (blkM m c t) (ix2 r l)
      = Scalar.select (IntOp.andi (Scalar.cmpi .eq (BitVec.ofNat 32 (grid0.coords t 0).val) 0#32) (IntOp.cmpi .slt (BitVec.ofNat 32 r.val) 256#32))
          (blkM m c t (ix2 r l)) (blkX m c t (ix2 r l)) := by
    pointwise [k0_pay11]
  have hr := r.isLt
  have ht : t.val < 33 := t.isLt
  rw [h, cond_t, cond_r, blk_m]
  unfold InGrad.row
  by_cases h0 : t.val = 0
  · rw [if_pos h0, dif_neg (show ¬ 256 ≤ t.val * 256 + r.val by omega)]
    by_cases hm : 240 ≤ r.val
    · rw [dif_pos hm, dif_pos (show 240 ≤ t.val * 256 + r.val by omega)]
      exact congrArg (rM m c · l) (Fin.ext (show r.val - 240 = t.val * 256 + r.val - 240 by omega))
    · rw [dif_neg hm, dif_neg (show ¬ 240 ≤ t.val * 256 + r.val by omega)]
      rfl
  · rw [if_neg h0, dif_pos (show 256 ≤ t.val * 256 + r.val by omega)]
    exact blk_x m c t r l _ (show t.val * 256 + r.val - 256 = (t.val - 1) * 256 + r.val by omega)

/-- Its scale. -/
theorem pay12 (c : Dev nD) (t : Fin cfg0.N) (r : Fin 256) :
    k0_pay12 (F := Ideal) (grid0.coords t) (blkX m c t) (blkM m c t) (ix2 r 0) = RmsGrad.scale (InGrad.row (rX m c) (rM m c) (at_ t r)) := by
  pointwise [k0_pay12]
  simp only [pay11]
  rfl

/-- The product: the cotangent of the norm's output at a block's element. -/
theorem pay10 (c : Dev nD) (t : Fin cfg0.N) (r : Fin 256) (l : Fin 1024) :
    k0_pay10 (F := Ideal) (blkD m c t) (blkW m c t) (ix2 r l) = InGrad.dy (rW m c) (rD m c) (at_ t r) l := by
  pointwise [k0_pay10]
  simp only [blk_d, blk_w]
  unfold InGrad.dy
  by_cases h : 240 ≤ (at_ t r).val
  · simp only [dif_pos h, InGrad.ext_mul]
    exact InGrad.sum_ext _
  · simp only [dif_neg h, zero_mul, Finset.sum_const_zero]

/-- The cotangent's payload at a block's element. -/
theorem pay1 (c : Dev nD) (t : Fin cfg0.N) (r : Fin 256) (l : Fin 1024) :
    k0_pay1 (F := Ideal) (k0_pay9 (F := Ideal) (blkE m c t)) (k0_pay12 (F := Ideal) (grid0.coords t) (blkX m c t) (blkM m c t))
      (k0_pay14 (F := Ideal) (blkD m c t) (blkG m c t) (blkW m c t))
      (k0_pay15 (F := Ideal) (grid0.coords t) (blkD m c t) (blkX m c t) (blkM m c t) (blkG m c t) (blkW m c t)) (ix2 r l)
      = InGrad.dh (rX m c) (rM m c) (rG m c) (rW m c) (rD m c) (rE m c) (at_ t r) l := by
  pointwise [k0_pay1, k0_pay9, k0_pay13, k0_pay14, k0_pay15]
  simp only [pay11, pay12, pay10, blk_g, blk_e]
  rfl

/-- What the body leaves of the cotangent at a block's element. -/
theorem point (c : Dev nD) (t : Fin cfg0.N) (r : Fin 256) (l : Fin 1024) :
    (outsAt0 m c t.val t.isLt).1 (ix2 r l) = InGrad.dh (rX m c) (rM m c) (rG m c) (rW m c) (rD m c) (rE m c) (at_ t r) l := by
  by_cases h0 : t.val % 33 = 0
  · rw [outsAt0_A m c t h0]
    frame_out
    exact pay1 m c t r l
  · rw [outsAt0_B m c t h0]
    frame_out
    exact pay1 m c t r l

theorem lt_row (x : Fin 32) (s : Fin 8) : x.val * 8 + s.val < 256 := by omega

/-- A block's contribution to the eight partial sums, and to the meta rows' cotangent (from row `o` of the block on). -/
def partG (c : Dev nD) (t : Fin cfg0.N) (y : S8x1024.Idx) : EReal :=
  ∑ x : Fin 32, InGrad.dgRow (rX m c) (rM m c) (rW m c) (rD m c) (y 1) (at_ t ⟨x.val * 8 + (y 0).val, lt_row x (y 0)⟩)
def partM (o : ℕ) (ho : o ≤ 248) (c : Dev nD) (t : Fin cfg0.N) (y : S8x1024.Idx) : EReal :=
  if t.val = 0 then InGrad.dh (rX m c) (rM m c) (rG m c) (rW m c) (rD m c) (rE m c)
    (at_ t ⟨o + (y 0).val, by have h : (y 0).val < 8 := (y 0).isLt; omega⟩) (y 1) else 0

/-- What is carried after a block, the block's place given by its number. -/
def accG (c : Dev nD) (n : ℕ) (h : n < cfg0.N) : S8x1024.Idx → EReal := (outsAt0 m c n h).2.1
def accA (c : Dev nD) (n : ℕ) (h : n < cfg0.N) : S8x1024.Idx → EReal := (outsAt0 m c n h).2.2.1
def accB (c : Dev nD) (n : ℕ) (h : n < cfg0.N) : S8x1024.Idx → EReal := (outsAt0 m c n h).2.2.2

theorem row_g (c : Dev nD) (t : Fin cfg0.N) (r : Fin 256) (l : Fin 1024) :
    k0_pay10 (F := Ideal) (blkD m c t) (blkW m c t) (ix2 r l) * (k0_pay11 (F := Ideal) (grid0.coords t) (blkX m c t) (blkM m c t) (ix2 r l)
      * k0_pay12 (F := Ideal) (grid0.coords t) (blkX m c t) (blkM m c t) (ix2 r 0)) = InGrad.dgRow (rX m c) (rM m c) (rW m c) (rD m c) l (at_ t r) := by
  rw [pay10, pay11, pay12]
  rfl

theorem sel_m (c : Dev nD) (t : Fin cfg0.N) (r : Fin 256) (l : Fin 1024) :
    Scalar.select (Scalar.cmpi .eq (BitVec.ofNat 32 (grid0.coords t 0).val) 0#32)
      (k0_pay1 (F := Ideal) (k0_pay9 (F := Ideal) (blkE m c t)) (k0_pay12 (F := Ideal) (grid0.coords t) (blkX m c t) (blkM m c t))
      (k0_pay14 (F := Ideal) (blkD m c t) (blkG m c t) (blkW m c t))
      (k0_pay15 (F := Ideal) (grid0.coords t) (blkD m c t) (blkX m c t) (blkM m c t) (blkG m c t) (blkW m c t)) (ix2 r l)) (0 : EReal)
      = if t.val = 0 then InGrad.dh (rX m c) (rM m c) (rG m c) (rW m c) (rD m c) (rE m c) (at_ t r) l else 0 := by
  rw [cond_t, pay1]
  split_ifs <;> rfl

theorem stepG_A (c : Dev nD) (t : Fin cfg0.N) (h : t.val % 33 = 0) (y : S8x1024.Idx) : accG m c t.val t.isLt y = 0 + partG m c t y := by
  obtain ⟨s, l, rfl⟩ : ∃ (s : Fin 8) (l : Fin 1024), y = ix2 s l := ⟨y 0, y 1, eq_ix2 y⟩
  unfold accG
  rw [outsAt0_A m c t h]
  frame_out
  pointwise [k0_pay3, k0_pay6, k0_pay13]
  exact Finset.sum_congr rfl fun x _ => row_g m c t ⟨x.val * 8 + s.val, lt_row x s⟩ l
theorem stepG_B (c : Dev nD) (t : Fin cfg0.N) (h : ¬ t.val % 33 = 0) (y : S8x1024.Idx) :
    accG m c t.val t.isLt y = accG m c (t.val - 1) (Nat.lt_of_le_of_lt (Nat.sub_le _ _) t.isLt) y + partG m c t y := by
  obtain ⟨s, l, rfl⟩ : ∃ (s : Fin 8) (l : Fin 1024), y = ix2 s l := ⟨y 0, y 1, eq_ix2 y⟩
  unfold accG
  rw [outsAt0_B m c t h]
  frame_out
  pointwise [k0_pay3, k0_pay6, k0_pay13]
  exact congrArg _ (Finset.sum_congr rfl fun x _ => row_g m c t ⟨x.val * 8 + s.val, lt_row x s⟩ l)

theorem stepA_A (c : Dev nD) (t : Fin cfg0.N) (h : t.val % 33 = 0) (y : S8x1024.Idx) : accA m c t.val t.isLt y = 0 + partM m 240 (by decide) c t y := by
  obtain ⟨s, l, rfl⟩ : ∃ (s : Fin 8) (l : Fin 1024), y = ix2 s l := ⟨y 0, y 1, eq_ix2 y⟩
  unfold accA
  rw [outsAt0_A m c t h]
  frame_out
  pointwise [k0_pay4, k0_pay7, k0_pay2]
  exact sel_m m c t ⟨240 + s.val, by omega⟩ l
theorem stepA_B (c : Dev nD) (t : Fin cfg0.N) (h : ¬ t.val % 33 = 0) (y : S8x1024.Idx) :
    accA m c t.val t.isLt y = accA m c (t.val - 1) (Nat.lt_of_le_of_lt (Nat.sub_le _ _) t.isLt) y + partM m 240 (by decide) c t y := by
  obtain ⟨s, l, rfl⟩ : ∃ (s : Fin 8) (l : Fin 1024), y = ix2 s l := ⟨y 0, y 1, eq_ix2 y⟩
  unfold accA
  rw [outsAt0_B m c t h]
  frame_out
  pointwise [k0_pay4, k0_pay7, k0_pay2]
  exact congrArg _ (sel_m m c t ⟨240 + s.val, by omega⟩ l)

theorem stepB_A (c : Dev nD) (t : Fin cfg0.N) (h : t.val % 33 = 0) (y : S8x1024.Idx) : accB m c t.val t.isLt y = 0 + partM m 248 (by decide) c t y := by
  obtain ⟨s, l, rfl⟩ : ∃ (s : Fin 8) (l : Fin 1024), y = ix2 s l := ⟨y 0, y 1, eq_ix2 y⟩
  unfold accB
  rw [outsAt0_A m c t h]
  frame_out
  pointwise [k0_pay5, k0_pay8, k0_pay2]
  refine (congrArg (fun r => Scalar.select _ (k0_pay1 (F := Ideal) _ _ _ _ (ix2 r l)) _) (Fin.ext (by simp only; omega))).trans (sel_m m c t ⟨248 + s.val, by omega⟩ l)
theorem stepB_B (c : Dev nD) (t : Fin cfg0.N) (h : ¬ t.val % 33 = 0) (y : S8x1024.Idx) :
    accB m c t.val t.isLt y = accB m c (t.val - 1) (Nat.lt_of_le_of_lt (Nat.sub_le _ _) t.isLt) y + partM m 248 (by decide) c t y := by
  obtain ⟨s, l, rfl⟩ : ∃ (s : Fin 8) (l : Fin 1024), y = ix2 s l := ⟨y 0, y 1, eq_ix2 y⟩
  unfold accB
  rw [outsAt0_B m c t h]
  frame_out
  pointwise [k0_pay5, k0_pay8, k0_pay2]
  refine congrArg _ ((congrArg (fun r => Scalar.select _ (k0_pay1 (F := Ideal) _ _ _ _ (ix2 r l)) _) (Fin.ext (by simp only; omega))).trans (sel_m m c t ⟨248 + s.val, by omega⟩ l))

/-- After the last block: every block's contribution. -/
theorem accG_last (c : Dev nD) (t : Fin cfg0.N) (ht : t.val = 32) (y : S8x1024.Idx) : accG m c t.val t.isLt y = ∑ t : Fin cfg0.N, partG m c t y :=
  (Pipeline.eq_sum_fin_of_reset_step_apply_last (accG m c) 33 (fun _ => (0 : EReal)) (partG m c)
    (fun t h => stepG_A m c t h) (fun t h => stepG_B m c t h) (by decide) t (by rw [ht]; rfl) y).trans (zero_add (M := EReal) _)
theorem accA_last (c : Dev nD) (t : Fin cfg0.N) (ht : t.val = 32) (y : S8x1024.Idx) : accA m c t.val t.isLt y = ∑ t : Fin cfg0.N, partM m 240 (by decide) c t y :=
  (Pipeline.eq_sum_fin_of_reset_step_apply_last (accA m c) 33 (fun _ => (0 : EReal)) (partM m 240 (by decide) c)
    (fun t h => stepA_A m c t h) (fun t h => stepA_B m c t h) (by decide) t (by rw [ht]; rfl) y).trans (zero_add (M := EReal) _)
theorem accB_last (c : Dev nD) (t : Fin cfg0.N) (ht : t.val = 32) (y : S8x1024.Idx) : accB m c t.val t.isLt y = ∑ t : Fin cfg0.N, partM m 248 (by decide) c t y :=
  (Pipeline.eq_sum_fin_of_reset_step_apply_last (accB m c) 33 (fun _ => (0 : EReal)) (partM m 248 (by decide) c)
    (fun t h => stepB_A m c t h) (fun t h => stepB_B m c t h) (by decide) t (by rw [ht]; rfl) y).trans (zero_add (M := EReal) _)

/-- Only the first block has meta rows. -/
theorem sum_m (o : ℕ) (ho : o ≤ 248) (c : Dev nD) (y : S8x1024.Idx) : ∑ t : Fin cfg0.N, partM m o ho c t y
    = InGrad.dh (rX m c) (rM m c) (rG m c) (rW m c) (rD m c) (rE m c) ⟨o + (y 0).val, by have h : (y 0).val < 8 := (y 0).isLt; omega⟩ (y 1) := by
  have hz : 0 < cfg0.N := by decide
  rw [Finset.sum_eq_single (⟨0, hz⟩ : Fin cfg0.N)]
  · unfold partM
    rw [if_pos rfl]
    exact congrArg (InGrad.dh _ _ _ _ _ _ · _) (Fin.ext (by simp only [at_]; omega))
  · intro t _ ht
    unfold partM
    rw [if_neg fun e => ht (Fin.ext e)]
  · intro h
    exact absurd (Finset.mem_univ _) h

/-- The results as arrays of the arguments: the input's cotangent, the gain's, and the meta rows' (from row `o` on). -/
def dxOf (X : FVec Ideal S8192x1024 .f32) (M : FVec Ideal S16x1024 .f32) (g : FVec Ideal S1x1024 .f32) (W : FVec Ideal S1024x3600 .f32)
    (D : FVec Ideal S8208x3600 .f32) (E : FVec Ideal S8208x1024 .f32) : FVec Ideal S8192x1024 .f32 := fun i =>
  InGrad.dh (fun R k => X (ix2 R k)) (fun R k => M (ix2 R k)) (fun k => g (ix2 0 k)) (fun k j => W (ix2 k j)) (fun R j => D (ix2 R j))
    (fun R k => E (ix2 R k)) (Fin.natAdd 256 (i 0)) (i 1)
def dgOf (X : FVec Ideal S8192x1024 .f32) (M : FVec Ideal S16x1024 .f32) (W : FVec Ideal S1024x3600 .f32)
    (D : FVec Ideal S8208x3600 .f32) : FVec Ideal S1x1024 .f32 := fun i =>
  ∑ P, InGrad.dgRow (fun R k => X (ix2 R k)) (fun R k => M (ix2 R k)) (fun k j => W (ix2 k j)) (fun R j => D (ix2 R j)) (i 1) P
def dmOf (o : ℕ) (ho : o ≤ 248) (X : FVec Ideal S8192x1024 .f32) (M : FVec Ideal S16x1024 .f32) (g : FVec Ideal S1x1024 .f32) (W : FVec Ideal S1024x3600 .f32)
    (D : FVec Ideal S8208x3600 .f32) (E : FVec Ideal S8208x1024 .f32) : FVec Ideal S8x1024 .f32 := fun i =>
  InGrad.dh (fun R k => X (ix2 R k)) (fun R k => M (ix2 R k)) (fun k => g (ix2 0 k)) (fun k j => W (ix2 k j)) (fun R j => D (ix2 R j))
    (fun R k => E (ix2 R k)) ⟨o + (i 0).val, by have h : (i 0).val < 8 := (i 0).isLt; omega⟩ (i 1)

/-- The region's arrays at its end. The first block of the input's cotangent is written twice, the meta rows' block first. -/
theorem final6 (c : Dev nD) : (dats m 0 c).arrAt 6 cfg0.N = dxOf (argX m c) (argM m c) (argG m c) (argW m c) (argD m c) (argE m c) := by
  refine (dats m 0 c).arrAt_eq_of_covers 6 _ (by decide +kernel) fun t hf y => ?_
  have h0 : 0 < t.val := (by decide +kernel : ∀ t : Fin grid0.N, win0_6.flush t = true → 0 < t.val) t hf
  blk_simp
  rw [after0_6]
  obtain ⟨r, l, rfl⟩ : ∃ (r : Fin 256) (l : Fin 1024), y = ix2 r l := ⟨y 0, y 1, eq_ix2 y⟩
  have ht : t.val < 33 := t.isLt
  have he : (win0_6.blk t).view.emb (ix2 r l) = ix2 (⟨(t.val - 1) * 256 + r.val, by omega⟩ : Fin 8192) l := by
    blk_ext [(idx t).2.2.2.2.2.2.1]
  refine Eq.trans ?_ (congrArg _ he.symm)
  refine (point m c t r l).trans ?_
  exact congrArg (InGrad.dh _ _ _ _ _ _ · l) (Fin.ext (by simp only [at_, Fin.natAdd, ix2_0]; omega))

theorem final7 (c : Dev nD) : (dats m 0 c).arrAt 7 cfg0.N = (fun y => ∑ t : Fin cfg0.N, partG m c t y : FVec Ideal S8x1024 .f32) := by
  have hw : ∀ t : Fin cfg0.N, t.val = 32 → (cfg0.win 7).WholeAt t := by decide +kernel
  obtain ⟨t, ht⟩ : ∃ t : Fin cfg0.N, t.val = 32 := ⟨⟨32, by decide⟩, rfl⟩
  refine (dats m 0 c).arrAt_eq_of_after_last 7 t (hw t ht) _ fun j => ?_
  blk_simp
  rw [after0_7]
  exact accG_last m c t ht _
theorem final8 (c : Dev nD) : (dats m 0 c).arrAt 8 cfg0.N = dmOf 240 (by decide) (argX m c) (argM m c) (argG m c) (argW m c) (argD m c) (argE m c) := by
  have hw : ∀ t : Fin cfg0.N, t.val = 32 → (cfg0.win 8).WholeAt t := by decide +kernel
  obtain ⟨t, ht⟩ : ∃ t : Fin cfg0.N, t.val = 32 := ⟨⟨32, by decide⟩, rfl⟩
  refine (dats m 0 c).arrAt_eq_of_after_last 8 t (hw t ht) _ fun j => ?_
  blk_simp
  rw [after0_8]
  exact (accA_last m c t ht _).trans (sum_m m 240 (by decide) c _)
theorem final9 (c : Dev nD) : (dats m 0 c).arrAt 9 cfg0.N = dmOf 248 (by decide) (argX m c) (argM m c) (argG m c) (argW m c) (argD m c) (argE m c) := by
  have hw : ∀ t : Fin cfg0.N, t.val = 32 → (cfg0.win 9).WholeAt t := by decide +kernel
  obtain ⟨t, ht⟩ : ∃ t : Fin cfg0.N, t.val = 32 := ⟨⟨32, by decide⟩, rfl⟩
  refine (dats m 0 c).arrAt_eq_of_after_last 9 t (hw t ht) _ fun j => ?_
  blk_simp
  rw [after0_9]
  exact (accB_last m c t ht _).trans (sum_m m 248 (by decide) c _)

theorem tail (c : Dev nD) : (Pipeline.afterTail₀ cfgs (dats m) 0 (V0 m) [hostOps1] c main_v21 : FVec Ideal S1x1024 .f32)
    = dgOf (argX m c) (argM m c) (argW m c) (argD m c) := by
  funext y
  unfold Pipeline.afterTail₀
  after_reads_at
  have e : Pipeline.withArrays (cfgs 0).spec c (V0 m c) (fun w => (dats m 0 c).arrAt w (cfgs 0).N) (Proc.tc.devRef main_v19_1)
      = (dats m 0 c).arrAt 7 cfg0.N :=
    Pipeline.withArrays_arr (cfgs 0).spec (by decide) c (V0 m c) (fun w => (dats m 0 c).arrAt w (cfgs 0).N) 7
  rw [e, final7]
  exact RmsGrad.sum_rows 33 32 rfl fun s t x hl => rfl

theorem run : θ_run defs (onTc (τ := τ) (main (F := Ideal))) ⟨m, fun _ => 0, ρ⟩ (fun r => ∀ c : Dev nD,
      r.2.mem ((c.tc : Thread nD τ).loc main_v19_0) = dxOf (argX m c) (argM m c) (argG m c) (argW m c) (argD m c) (argE m c)
      ∧ r.2.mem ((c.tc : Thread nD τ).loc main_v21) = dgOf (argX m c) (argM m c) (argW m c) (argD m c)
      ∧ r.2.mem ((c.tc : Thread nD τ).loc main_v19_2) = dmOf 240 (by decide) (argX m c) (argM m c) (argG m c) (argW m c) (argD m c) (argE m c)
      ∧ r.2.mem ((c.tc : Thread nD τ).loc main_v19_3) = dmOf 248 (by decide) (argX m c) (argM m c) (argG m c) (argW m c) (argD m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from (run_main (F := Ideal) m ρ)
  · exact final6 m c
  · exact tail m c
  · exact final8 m c
  · exact final9 m c
  · exact W_main_arg1 m (dats m) c
  · exact W_main_arg3 m (dats m) c
  · exact W_main_arg4 m (dats m) c
  · exact W_main_arg5 m (dats m) c

end Cert.InIdeal.RefValue

namespace Cert.InRefIdeal.RefValue

open Cert.InRefIdeal Cert.InRefIdeal.Gen Idealize.ShloMosaic Idealize.ShloMosaic.TcCoe
open Cert.InIdeal.RefValue (dxOf dgOf dmOf)

variable (m : (ℓ : Loc nD τ sig) → Buf (Elt Ideal) ℓ)

/-- Device `c`'s argument arrays as launched. -/
abbrev argX (c : Dev nD) : FVec Ideal S8192x1024 .f32 := m ((c : Thread nD τ).loc main_arg0)
abbrev argM (c : Dev nD) : FVec Ideal S16x1024 .f32 := m ((c : Thread nD τ).loc main_arg1)
abbrev argG (c : Dev nD) : FVec Ideal S1x1024 .f32 := m ((c : Thread nD τ).loc main_arg2)
abbrev argW (c : Dev nD) : FVec Ideal S1024x3600 .f32 := m ((c : Thread nD τ).loc main_arg3)
abbrev argD (c : Dev nD) : FVec Ideal S8208x3600 .f32 := m ((c : Thread nD τ).loc main_arg4)
abbrev argE (c : Dev nD) : FVec Ideal S8208x1024 .f32 := m ((c : Thread nD τ).loc main_arg5)

/-- The norm's derivative beside the residual stream's cotangent at a row of the sequence, `h` being the row of the norm's input. -/
theorem dh_of {X : FVec Ideal S8192x1024 .f32} {M : FVec Ideal S16x1024 .f32} {g : FVec Ideal S1x1024 .f32} {W : FVec Ideal S1024x3600 .f32}
    {D : FVec Ideal S8208x3600 .f32} {E : FVec Ideal S8208x1024 .f32} (hG : ∀ i, RmsGrad.IsReal (g i)) (hW : ∀ i, RmsGrad.IsReal (W i))
    (hD : ∀ i, RmsGrad.IsReal (D i)) (R : Fin 8208) (h : Fin 1024 → EReal) (hh : ∀ k, RmsGrad.IsReal (h k)) (P : Fin 8448) (hP : P.val = 240 + R.val)
    (hrow : InGrad.row (fun R k => X (ix2 R k)) (fun R k => M (ix2 R k)) P = h) (l : Fin 1024) :
    E (ix2 R l) + (∑ x, D (ix2 R x) * W (ix2 l x)) * g (ix2 0 l) * RmsGrad.scale h
        + h l * RmsGrad.back (fun k => (∑ x, D (ix2 R x) * W (ix2 k x)) * g (ix2 0 k)) h
        + RmsGrad.back (fun k => (∑ x, D (ix2 R x) * W (ix2 k x)) * g (ix2 0 k)) h * h l
      = InGrad.dh (fun R k => X (ix2 R k)) (fun R k => M (ix2 R k)) (fun k => g (ix2 0 k)) (fun k j => W (ix2 k j)) (fun R j => D (ix2 R j))
          (fun R k => E (ix2 R k)) P l := by
  unfold InGrad.dh
  rw [hrow, InGrad.beside_at _ P R hP]
  simp only [InGrad.dy_at _ _ P R hP]
  have he : ∀ k, RmsGrad.IsReal ((∑ x, D (ix2 R x) * W (ix2 k x)) * g (ix2 0 k)) := fun k => (RmsGrad.IsReal.sum fun i => (hD _).mul (hW _)).mul (hG _)
  exact RmsGrad.add_grad_eq (E (ix2 R l)) he hh l

variable (c : Dev nD)

/-- The reference's input cotangent. -/
theorem dx_eq (hX : ∀ i, RmsGrad.IsReal (argX m c i)) (hG : ∀ i, RmsGrad.IsReal (argG m c i)) (hW : ∀ i, RmsGrad.IsReal (argW m c i))
    (hD : ∀ i, RmsGrad.IsReal (argD m c i)) (R : Fin 8192) (l : Fin 1024) : Cert.InRefIdeal.Value.res_main_v41 m c (ix2 R l)
      = dxOf (argX m c) (argM m c) (argG m c) (argW m c) (argD m c) (argE m c) (ix2 R l) := by
  pointwise [Cert.InRefIdeal.Value.res_main_v41]
  rw [Fin.sum_univ_one]
  exact dh_of (M := argM m c) (E := argE m c) hG hW hD ⟨16 + R.val, by omega⟩ (fun k => argX m c (ix2 R k)) (fun k => hX _) (Fin.natAdd 256 R) (by simp only [Fin.natAdd]; omega)
    (InGrad.row_x _ _ _ R rfl) l

/-- The meta rows' cotangent, the first eight. -/
theorem dma_eq (hM : ∀ i, RmsGrad.IsReal (argM m c i)) (hG : ∀ i, RmsGrad.IsReal (argG m c i)) (hW : ∀ i, RmsGrad.IsReal (argW m c i))
    (hD : ∀ i, RmsGrad.IsReal (argD m c i)) (R : Fin 8) (l : Fin 1024) : Cert.InRefIdeal.Value.res_main_v42 m c (ix2 R l)
      = dmOf 240 (by decide) (argX m c) (argM m c) (argG m c) (argW m c) (argD m c) (argE m c) (ix2 R l) := by
  pointwise [Cert.InRefIdeal.Value.res_main_v42]
  rw [Fin.sum_univ_one]
  have hR : R.val < 16 := by omega
  have e : ∀ k, (if h : R.val < 16 then argM m c (ix2 ⟨R.val, h⟩ k) else argX m c (ix2 ⟨R.val - 16, by omega⟩ k)) = argM m c (ix2 ⟨R.val, hR⟩ k) := fun k => dif_pos hR
  refine dh_of (E := argE m c) hG hW hD ⟨R.val, by omega⟩
    (fun k => if h : R.val < 16 then argM m c (ix2 ⟨R.val, h⟩ k) else argX m c (ix2 ⟨R.val - 16, by omega⟩ k))
    (fun k => by rw [e]; exact hM _) ⟨240 + R.val, by omega⟩ rfl ?_ l
  rw [funext e]
  exact InGrad.row_meta _ _ _ ⟨R.val, hR⟩ rfl

/-- The last eight. -/
theorem dmb_eq (hM : ∀ i, RmsGrad.IsReal (argM m c i)) (hG : ∀ i, RmsGrad.IsReal (argG m c i)) (hW : ∀ i, RmsGrad.IsReal (argW m c i))
    (hD : ∀ i, RmsGrad.IsReal (argD m c i)) (R : Fin 8) (l : Fin 1024) : Cert.InRefIdeal.Value.res_main_v43 m c (ix2 R l)
      = dmOf 248 (by decide) (argX m c) (argM m c) (argG m c) (argW m c) (argD m c) (argE m c) (ix2 R l) := by
  pointwise [Cert.InRefIdeal.Value.res_main_v43]
  rw [Fin.sum_univ_one]
  have hR : 8 + R.val < 16 := by omega
  have e : ∀ k, (if h : 8 + R.val < 16 then argM m c (ix2 ⟨8 + R.val, h⟩ k) else argX m c (ix2 ⟨8 + R.val - 16, by omega⟩ k)) = argM m c (ix2 ⟨8 + R.val, hR⟩ k) := fun k => dif_pos hR
  refine dh_of (E := argE m c) hG hW hD ⟨8 + R.val, by omega⟩
    (fun k => if h : 8 + R.val < 16 then argM m c (ix2 ⟨8 + R.val, h⟩ k) else argX m c (ix2 ⟨8 + R.val - 16, by omega⟩ k))
    (fun k => by rw [e]; exact hM _) ⟨248 + R.val, by omega⟩ (by simp only; omega) ?_ l
  rw [funext e]
  exact InGrad.row_meta _ _ _ ⟨8 + R.val, hR⟩ (by simp only; omega)

/-- The gain's gradient. -/
theorem dg_eq (A0 : FVec Ideal S8192x1024 .f32) (A1 : FVec Ideal S16x1024 .f32) (A3 : FVec Ideal S1024x3600 .f32) (A4 : FVec Ideal S8208x3600 .f32) :
    shapeCast _ (Host.reduceAdd (mulf (mulf (concatenate S8208x1024 0 [⟨S16x1024, A1⟩, ⟨S8192x1024, A0⟩] concatenates_S16x1024_S8192x1024_S8208x1024_d0) (broadcastInDim S8208x1024 ![0, 1] bcast_S8208x1_S8208x1024_0_1 (Host.rsqrt (addf (Host.divf (broadcastInDim S8208x1 ![0] bcast_S8208_S8208x1_0 (Host.reduceAdd (mulf (concatenate S8208x1024 0 [⟨S16x1024, A1⟩, ⟨S8192x1024, A0⟩] concatenates_S16x1024_S8192x1024_S8208x1024_d0) (concatenate S8208x1024 0 [⟨S16x1024, A1⟩, ⟨S8192x1024, A0⟩] concatenates_S16x1024_S8192x1024_S8208x1024_d0)) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (Host.dotGeneral dot_S8208x3600_S1024x3600_S8208x1024_1_1_0_0_n_n none A4 A3)) (constant S_ .f32 0x00000000#32) reducesTo_S8208x1024_S1024_d0 h_S_) shapeCasts_S1024_S1x1024
      = dgOf A0 A1 A3 A4 := by
  funext j
  obtain ⟨a, l, rfl⟩ : ∃ (a : Fin 1) (k : Fin 1024), j = ix2 a k := ⟨j 0, j 1, eq_ix2 j⟩
  pointwise []
  unfold dgOf
  have e : ∀ R : Fin 8208, InGrad.dgRow (fun R k => A0 (ix2 R k)) (fun R k => A1 (ix2 R k)) (fun k j => A3 (ix2 k j)) (fun R j => A4 (ix2 R j)) l (Fin.natAdd 240 R)
      = InGrad.row (fun R k => A0 (ix2 R k)) (fun R k => A1 (ix2 R k)) (Fin.natAdd 240 R) l
        * RmsGrad.scale (InGrad.row (fun R k => A0 (ix2 R k)) (fun R k => A1 (ix2 R k)) (Fin.natAdd 240 R)) * ∑ j, A4 (ix2 R j) * A3 (ix2 l j) := fun R => by
    unfold InGrad.dgRow
    rw [InGrad.dy_at _ _ _ R rfl, mul_comm]
  refine Eq.trans ?_ (LossGrad.sum_skip 240 8208 fun i => ?_).symm
  · refine Eq.trans ?_ (Fin.sum_univ_add (a := 16) (b := 8192) _).symm
    refine congrArg₂ (· + ·) (Finset.sum_congr rfl fun R _ => ?_) (Finset.sum_congr rfl fun R _ => ?_)
    · refine Eq.trans ?_ (e (Fin.castAdd 8192 R)).symm
      rw [InGrad.row_meta _ _ _ R rfl]
      rfl
    · refine Eq.trans ?_ (e (Fin.natAdd 16 R)).symm
      rw [InGrad.row_x _ _ _ R (by simp only [Fin.natAdd]; omega)]
      rfl
  · unfold InGrad.dgRow InGrad.dy
    rw [dif_neg (by have := i.isLt; simp only [Fin.val_castAdd]; omega), zero_mul]

end Cert.InRefIdeal.RefValue

/-! ## The claims about this call -/

namespace Cert.Proof.In

open Idealize.ShloMosaic Idealize.ShloMosaic.TcCoe Idealize.SL.Sem

/-- The precondition's masks have the shapes they are stated at. -/
instance facts_pre : Cert.Pre_in_finite.Facts := ⟨by decide, by decide, by decide, by decide, by decide⟩

/-- The kernel runs, leaves its arguments as they were and ends with every semaphore at zero. -/
theorem frame_kernel : Cert.quiescent_In := fun m ρ _ => Cert.In.Gen.frame m ρ

/-- So does its idealization. -/
theorem frame_ideal : Cert.quiescent_InIdeal := fun m ρ _ => Cert.InIdeal.Gen.frame m ρ
theorem frame_ideal_pre : Cert.quiescent_InIdeal_pre_in_finite := fun m ρ _ => Cert.InIdeal.Gen.frame m ρ

/-- And the reference. -/
theorem frame_ref : Cert.quiescent_InRefIdeal := fun m ρ _ =>
  (θ_run Cert.InRefIdeal.defs _ _).mono
    (fun r h => ⟨fun c => (h c).2.2.2.2, Idealize.ShloMosaic.sem_eq_zero_of_no_sems (by decide) r.2⟩)
    (Cert.InRefIdeal.Value.run (F := Ideal) m ρ)
theorem frame_ref_pre : Cert.quiescent_InRefIdeal_pre_in_finite := fun m ρ _ => frame_ref m ρ trivial

/-- On the extended reals the kernel's results are the derivative of the norm and the product, and of the residual stream beside them. -/
theorem value : Cert.algebraic_InIdeal_InRefIdeal_pre_in_finite := fun m ρ m' ρ' hp hag =>
  ⟨fun c => InIdeal.RefValue.dxOf (InIdeal.RefValue.argX m c) (InIdeal.RefValue.argM m c) (InIdeal.RefValue.argG m c) (InIdeal.RefValue.argW m c) (InIdeal.RefValue.argD m c) (InIdeal.RefValue.argE m c),
    fun c => InIdeal.RefValue.dgOf (InIdeal.RefValue.argX m c) (InIdeal.RefValue.argM m c) (InIdeal.RefValue.argW m c) (InIdeal.RefValue.argD m c),
    fun c => InIdeal.RefValue.dmOf 240 (by decide) (InIdeal.RefValue.argX m c) (InIdeal.RefValue.argM m c) (InIdeal.RefValue.argG m c) (InIdeal.RefValue.argW m c) (InIdeal.RefValue.argD m c) (InIdeal.RefValue.argE m c),
    fun c => InIdeal.RefValue.dmOf 248 (by decide) (InIdeal.RefValue.argX m c) (InIdeal.RefValue.argM m c) (InIdeal.RefValue.argG m c) (InIdeal.RefValue.argW m c) (InIdeal.RefValue.argD m c) (InIdeal.RefValue.argE m c),
    InIdeal.RefValue.run m ρ,
    (θ_run Cert.InRefIdeal.defs _ _).mono (fun _ h c => by
        obtain ⟨h1, h2, h3, h4, hr⟩ := h c
        obtain ⟨a0, a1, a2, a3, a4, a5⟩ := hag c
        obtain ⟨p0, p1, p2, p3, p4⟩ := hp c
        have hX : ∀ i, RmsGrad.IsReal (InRefIdeal.RefValue.argX m' c i) := fun i => by rw [InRefIdeal.RefValue.argX, a0]; exact RmsGrad.isReal_of_mask _ p0 i
        have hM : ∀ i, RmsGrad.IsReal (InRefIdeal.RefValue.argM m' c i) := fun i => by rw [InRefIdeal.RefValue.argM, a1]; exact RmsGrad.isReal_of_mask _ p1 i
        have hG : ∀ i, RmsGrad.IsReal (InRefIdeal.RefValue.argG m' c i) := fun i => by rw [InRefIdeal.RefValue.argG, a2]; exact RmsGrad.isReal_of_mask _ p2 i
        have hW : ∀ i, RmsGrad.IsReal (InRefIdeal.RefValue.argW m' c i) := fun i => by rw [InRefIdeal.RefValue.argW, a3]; exact RmsGrad.isReal_of_mask _ p3 i
        have hD : ∀ i, RmsGrad.IsReal (InRefIdeal.RefValue.argD m' c i) := fun i => by rw [InRefIdeal.RefValue.argD, a4]; exact RmsGrad.isReal_of_mask _ p4 i
        have q1 := InRefIdeal.RefValue.dx_eq m' c hX hG hW hD
        have q3 := InRefIdeal.RefValue.dma_eq m' c hM hG hW hD
        have q4 := InRefIdeal.RefValue.dmb_eq m' c hM hG hW hD
        unfold InRefIdeal.RefValue.argX InRefIdeal.RefValue.argM InRefIdeal.RefValue.argG InRefIdeal.RefValue.argW InRefIdeal.RefValue.argD
          InRefIdeal.RefValue.argE at q1 q3 q4
        rw [a0, a1, a2, a3, a4, a5] at q1 q3 q4
        refine ⟨h1.trans (funext fun j => ?_), h2.trans ?_, h3.trans (funext fun j => ?_), h4.trans (funext fun j => ?_), hr⟩
        · rw [eq_ix2 j]; exact q1 _ _
        · rw [a0, a1, a3, a4]; exact InRefIdeal.RefValue.dg_eq _ _ _ _
        · rw [eq_ix2 j]; exact q3 _ _
        · rw [eq_ix2 j]; exact q4 _ _)
      (Cert.InRefIdeal.Value.run (F := Ideal) m' ρ')⟩

end Cert.Proof.In

end
-- ==== Proof.Ssd.lean ====
module

public import Idealize.ShloMosaic.Lib.Pipeline.ValueKit
public import Idealize.ShloMosaic.Lib.Pointwise
public import proofs.«01_k».proof.Proof.RmsGrad

@[expose] public section

noncomputable section

/-! The chunked recurrence of the state space layer, on values: one chunk of 256 rows, the state it leaves, and its output. -/
namespace Cert.Ssd

open Idealize.ShloMosaic

/-- The head of a column: 64 columns each. -/
def hd (c : Fin 1024) : Fin 16 := ⟨c.val / 64, by omega⟩

/-- The group of a column: 512 columns each. -/
def gp (c : Fin 1024) : Fin 2 := ⟨c.val / 512, by omega⟩

/-- What one chunk of 256 rows brings: the inputs, the two projections of each group, and the step sizes of the heads. -/
structure Chunk where
  X : Fin 256 → Fin 1024 → EReal
  B : Fin 256 → Fin 2 → Fin 128 → EReal
  C : Fin 256 → Fin 2 → Fin 128 → EReal
  T : Fin 256 → Fin 16 → ℝ

namespace Chunk

variable (k k' : Chunk) (A : Fin 16 → ℝ) (D : Fin 16 → EReal)

/-- The running sum of step size times rate, up to and including row `l`. -/
def cs (l : Fin 256) (h : Fin 16) : ℝ := ∑ s, if s ≤ l then k.T s h * A h else 0

/-- An input times its step size. -/
def xdt (l : Fin 256) (c : Fin 1024) : EReal := k.X l c * ((k.T l (hd c) : ℝ) : EReal)

/-- The decay from the end of row `s` to the end of row `l`. -/
def dec (l s : Fin 256) (h : Fin 16) : EReal := ((Real.exp (k.cs A l h - k.cs A s h) : ℝ) : EReal)

/-- The product of the two projections of two rows. -/
def cb (l s : Fin 256) (g : Fin 2) : EReal := ∑ n, k.C l g n * k.B s g n

/-- What the rows of the chunk up to `l` contribute to row `l`. -/
def diag (l : Fin 256) (c : Fin 1024) : EReal := ∑ s, if s ≤ l then k.cb l s (gp c) * k.dec A l s (hd c) * k.xdt s c else 0

/-- What the state before the chunk contributes to row `l`. -/
def off (S : Fin 128 → Fin 1024 → EReal) (l : Fin 256) (c : Fin 1024) : EReal :=
  (∑ n, k.C l (gp c) n * S n c) * ((Real.exp (k.cs A l (hd c)) : ℝ) : EReal)

/-- The state after the chunk. -/
def next (S : Fin 128 → Fin 1024 → EReal) (n : Fin 128) (c : Fin 1024) : EReal :=
  S n c * ((Real.exp (k.cs A 255 (hd c)) : ℝ) : EReal) + ∑ l, k.B l (gp c) n * (k.xdt l c * k.dec A 255 l (hd c))

/-- The output of the chunk. -/
def out (S : Fin 128 → Fin 1024 → EReal) (l : Fin 256) (c : Fin 1024) : EReal :=
  k.diag A l c + k.off A S l c + k.X l c * D (hd c)

/-- With steps that are not negative and rates that are not positive the running sums fall. -/
theorem cs_le (hT : ∀ l h, 0 ≤ k.T l h) (hA : ∀ h, A h ≤ 0) {l s : Fin 256} (hs : s ≤ l) (h : Fin 16) : k.cs A l h - k.cs A s h ≤ 0 := by
  refine sub_nonpos.2 (Finset.sum_le_sum fun x _ => ?_)
  by_cases h1 : x ≤ s
  · rw [if_pos h1, if_pos (h1.trans hs)]
  · rw [if_neg h1]; split
    · exact mul_nonpos_of_nonneg_of_nonpos (hT _ _) (hA _)
    · exact le_rfl

variable {k k'}

/-- The running sums depend on the steps alone. -/
theorem cs_congr (hT : k.T = k'.T) : k.cs A = k'.cs A := by unfold cs; rw [hT]

/-- So do the decays. -/
theorem dec_congr (hT : k.T = k'.T) : k.dec A = k'.dec A := by unfold dec; rw [cs_congr A hT]

/-- Chunks with the same steps that agree on every row whose steps are not all zero. -/
def Same (k k' : Chunk) : Prop :=
  k.T = k'.T ∧ ∀ l, (∀ h, k.T l h = 0) ∨ (k.X l = k'.X l ∧ k.B l = k'.B l ∧ k.C l = k'.C l)

/-- They have the same inputs times steps. -/
theorem Same.xdt (h : Same k k') : k.xdt = k'.xdt := by
  funext l c
  unfold Chunk.xdt
  rw [← h.1]
  rcases h.2 l with h0 | h0
  · rw [h0]; simp only [EReal.coe_zero, mul_zero]
  · rw [h0.1]

/-- They leave the same state. -/
theorem Same.next (h : Same k k') : k.next A = k'.next A := by
  funext S n c
  unfold Chunk.next
  rw [cs_congr A h.1, dec_congr A h.1, h.xdt]
  refine congrArg _ (Finset.sum_congr rfl fun l _ => ?_)
  rcases h.2 l with h0 | h0
  · have : k'.xdt l c = 0 := by unfold Chunk.xdt; rw [← h.1, h0]; simp only [EReal.coe_zero, mul_zero]
    rw [this, zero_mul, mul_zero, mul_zero]
  · rw [h0.2.1]

/-- They have the same output on a row on which they agree. -/
theorem Same.out (h : Same k k') {l : Fin 256} (hl : k.X l = k'.X l ∧ k.B l = k'.B l ∧ k.C l = k'.C l)
    (S : Fin 128 → Fin 1024 → EReal) (c : Fin 1024) : k.out A D S l c = k'.out A D S l c := by
  unfold Chunk.out Chunk.off Chunk.diag
  rw [cs_congr A h.1, dec_congr A h.1, h.xdt, hl.1, hl.2.2]
  refine congrArg (· + _ + _) (Finset.sum_congr rfl fun s _ => ?_)
  unfold Chunk.cb
  rcases h.2 s with h0 | h0
  · have : k'.xdt s c = 0 := by unfold Chunk.xdt; rw [← h.1, h0]; simp only [EReal.coe_zero, mul_zero]
    rw [this, mul_zero, mul_zero]
  · rw [h0.2.1, hl.2.2]

end Chunk

/-- The state before chunk `n`: zero before the first. -/
def states (K : ℕ → Chunk) (A : Fin 16 → ℝ) : ℕ → Fin 128 → Fin 1024 → EReal
  | 0 => fun _ _ => 0
  | n + 1 => (K n).next A (states K A n)

/-- Chunks that are the same up to dead rows have the same states. -/
theorem states_congr {K K' : ℕ → Chunk} (A : Fin 16 → ℝ) {n : ℕ} (h : ∀ i < n, Chunk.Same (K i) (K' i)) : states K A n = states K' A n := by
  induction n with
  | zero => rfl
  | succ n ih =>
    show (K n).next A _ = (K' n).next A _
    rw [(h n (by omega)).next, ih fun i hi => h i (by omega)]

/-- The step size of a head from its raw value: the logarithm of one plus its exponential. -/
def softplus (x : ℝ) : ℝ := Real.log (1 + Real.exp x)

/-- It is not negative. -/
theorem softplus_nonneg (x : ℝ) : 0 ≤ softplus x := Real.log_nonneg (by linarith [Real.exp_pos x])

/-- A value times the logistic function of itself, the logistic function as a quotient. -/
def silu (x : EReal) : EReal := x * Ideal.div 1 (1 + Ideal.exp (-x))

/-- The gate on a row and its norm, the mean of squares taken over 1024 columns. -/
def gated (y z : Fin 1024 → EReal) (g : Fin 1024 → EReal) (c : Fin 1024) : EReal :=
  y c * silu (z c) * Ideal.rsqrt (Ideal.div (∑ x, y x * silu (z x) * (y x * silu (z x))) (Ideal.ofBits .f32 1149239296#32) + Ideal.ofBits .f32 925353388#32) * g c

/-- Row `P` of an array with 240 rows of zeros in front. -/
def padded {n : ℕ} (f : Fin 8208 → Fin n → EReal) (P : ℕ) (k : Fin n) : EReal :=
  if h : 240 ≤ P ∧ P < 8448 then f ⟨P - 240, by omega⟩ k else 0

/-- The step sizes with 240 rows of zeros in front. -/
def steps (a : Fin 8208 → Fin 16 → ℝ) (β : Fin 16 → ℝ) (P : ℕ) (h : Fin 16) : ℝ :=
  if hP : 240 ≤ P ∧ P < 8448 then softplus (a ⟨P - 240, by omega⟩ h + β h) else 0

/-- None of them is negative. -/
theorem steps_nonneg (a : Fin 8208 → Fin 16 → ℝ) (β : Fin 16 → ℝ) (P : ℕ) (h : Fin 16) : 0 ≤ steps a β P h := by
  unfold steps
  split
  · exact softplus_nonneg _
  · exact le_rfl

/-- A column moved down by `j` rows, zeros from above. -/
def back (j : ℕ) (x : Fin 8208 → EReal) (R : Fin 8208) : EReal := if h : j ≤ R.val then x ⟨R.val - j, by omega⟩ else 0

/-- The causal convolution of a column with four taps. -/
def conv (w : Fin 4 → EReal) (b : EReal) (x : Fin 8208 → EReal) (R : Fin 8208) : EReal :=
  b + w 3 * x R + w 2 * back 1 x R + w 1 * back 2 x R + w 0 * back 3 x R

/-- The convolved and gated columns. -/
def act (X : Fin 8208 → Fin 1536 → EReal) (W : Fin 4 → Fin 1536 → EReal) (b : Fin 1536 → EReal) (R : Fin 8208) (l : Fin 1536) : EReal :=
  silu (conv (fun i => W i l) (b l) (fun R => X R l) R)

/-- The chunk of 256 rows of convolved columns and of step sizes. -/
def chunk (x : Fin 256 → Fin 1536 → EReal) (t : Fin 256 → Fin 16 → ℝ) : Chunk where
  X l c := x l ⟨c.val, by omega⟩
  B l g n := x l ⟨1024 + 128 * g.val + n.val, by omega⟩
  C l g n := x l ⟨1280 + 128 * g.val + n.val, by omega⟩
  T := t

/-- Chunk `n` of the padded arrays. -/
def chunkAt (u : Fin 8208 → Fin 1536 → EReal) (a : Fin 8208 → Fin 16 → ℝ) (β : Fin 16 → ℝ) (n : ℕ) : Chunk :=
  chunk (fun l => padded u (256 * n + l.val)) (fun l => steps a β (256 * n + l.val))

/-- The layer's output in row `r` of chunk `n`, before the gate. -/
def outAt (u : Fin 8208 → Fin 1536 → EReal) (a : Fin 8208 → Fin 16 → ℝ) (β al D : Fin 16 → ℝ) (n : ℕ) (r : Fin 256) (c : Fin 1024) : EReal :=
  (chunkAt u a β n).out (fun h => -Real.exp (al h)) (fun h => D h) (states (chunkAt u a β) (fun h => -Real.exp (al h)) n) r c

end Cert.Ssd
-- ==== Proof.SsdFwdBody.lean ====
module

public import proofs.«01_k».proof.Defs
public import proofs.«01_k».proof.Proof.Gen.SsdFwdIdeal.Frame
public import Idealize.ShloMosaic.Lib.Pipeline.ValueKit
public import Idealize.ShloMosaic.Lib.Pipeline.ValueKit.Point
public import Idealize.ShloMosaic.Lib.Pointwise
public import proofs.«01_k».proof.Proof.Ssd
public import Idealize.ShloMosaic.Lib.Quiescent
public import Idealize.ShloMosaic.Lib.Claim
public import Idealize.ShloMosaic.Lib.StableHlo.ReadAt

@[expose] public section

set_option maxRecDepth 16384

noncomputable section

/-! What one grid point of the forward call computes from its blocks, element by element. -/
namespace Cert.SsdFwdIdeal.RefValue

open Cert.SsdFwdIdeal Cert.SsdFwdIdeal.Gen Idealize.ShloMosaic Idealize.ShloMosaic.WordCmp Idealize.ShloMosaic.TcCoe Idealize.SL.Sem
open Idealize.ShloMosaic.Pipeline (Dat)
/-- A comparison of two row numbers. -/
theorem tri {α : Type} (r x : Fin 256) (a b : α) :
    Scalar.select (IntOp.cmpi .sge (BitVec.ofNat 32 r.val) (BitVec.ofNat 32 x.val)) a b = if x ≤ r then a else b := by
  by_cases h : x ≤ r
  · rw [if_pos h, select_of_eq_one ((cmpi_sge_ofNat_eq_one_iff (by omega) (by omega)).2 h)]
  · rw [if_neg h, select_of_eq_zero ((cmpi_sge_ofNat_eq_zero_iff (by omega) (by omega)).2 h)]

/-- The head of a column, as the body computes it: the column number shifted right by six. -/
theorem head_word : ∀ c : Fin 1024, IntOp.shrsi .vector (BitVec.ofNat 32 c.val) 6#32 = BitVec.ofNat 32 (c.val / 64) := by decide +kernel

/-- A comparison of a column's head. -/
theorem pick {α : Type} (c : Fin 1024) (x : Fin 16) (a b : α) :
    Scalar.select (IntOp.cmpi .eq (IntOp.shrsi .vector (BitVec.ofNat 32 c.val) 6#32) (BitVec.ofNat 32 x.val)) a b = if x = Ssd.hd c then a else b := by
  rw [head_word]
  by_cases h : x = Ssd.hd c
  · rw [if_pos h, select_of_eq_one ((cmpi_eq_ofNat_eq_one_iff (w := 32) (a := c.val / 64) (b := x.val) (by omega) (by omega)).2 (congrArg Fin.val h).symm)]
  · rw [if_neg h, select_of_eq_zero ((cmpi_eq_ofNat_eq_zero_iff (w := 32) (a := c.val / 64) (b := x.val) (by omega) (by omega)).2 fun e => h (Fin.ext e.symm))]

/-- A comparison of a column of a tile with half the tile. -/
theorem low {α : Type} {l : ℕ} (hl : l < 128) (a b : α) :
    Scalar.select (IntOp.cmpi .slt (BitVec.ofNat 32 l) 64#32) a b = if l < 64 then a else b := by
  by_cases h : l < 64
  · rw [if_pos h, select_of_eq_one ((cmpi_slt_ofNat_eq_one_iff (w := 32) (a := l) (b := 64) (by omega) (by omega)).2 h)]
  · rw [if_neg h, select_of_eq_zero ((cmpi_slt_ofNat_eq_zero_iff (w := 32) (a := l) (b := 64) (by omega) (by omega)).2 (by omega))]

/-- A comparison the other way round. -/
theorem high {α : Type} {l : ℕ} (hl : l < 128) (a b : α) :
    Scalar.select (IntOp.cmpi .sge (BitVec.ofNat 32 l) 64#32) a b = if l < 64 then b else a := by
  by_cases h : l < 64
  · rw [if_pos h, select_of_eq_zero ((cmpi_sge_ofNat_eq_zero_iff (w := 32) (a := l) (b := 64) (by omega) (by omega)).2 (by omega))]
  · rw [if_neg h, select_of_eq_one ((cmpi_sge_ofNat_eq_one_iff (w := 32) (a := l) (b := 64) (by omega) (by omega)).2 (by omega))]

/-- The row numbers of a matrix of heads by columns, and its column numbers. -/
abbrev rows16 : IVec S16x1024 32 := iota Kind.tc S16x1024 32 [0] iota_S16x1024_d0_w32
abbrev cols16 : IVec S16x1024 32 := iota Kind.tc S16x1024 32 [1] iota_S16x1024_d1_w32
abbrev cols128 : IVec S1x128 32 := iota Kind.tc S1x128 32 [1] iota_S1x128_d1_w32

/-- A sum that picks a head's real value out of three parts of it. -/
theorem pick3 (c : Fin 1024) (v : Fin 16 → EReal) (f : Fin 16 → ℝ) (h : ∀ x, v x = (f x : EReal)) :
    ∑ x : Fin 16, Scalar.select (IntOp.cmpi .eq (IntOp.shrsi .vector (BitVec.ofNat 32 c.val) 6#32) (BitVec.ofNat 32 x.val)) (v x) 0
      + ∑ x : Fin 16, Scalar.select (IntOp.cmpi .eq (IntOp.shrsi .vector (BitVec.ofNat 32 c.val) 6#32) (BitVec.ofNat 32 x.val)) (v x - v x) 0
      + ∑ x : Fin 16, Scalar.select (IntOp.cmpi .eq (IntOp.shrsi .vector (BitVec.ofNat 32 c.val) 6#32) (BitVec.ofNat 32 x.val)) (v x - v x - (v x - v x)) 0
      = f (Ssd.hd c) := by
  simp only [pick, h, ← EReal.coe_sub, sub_self, EReal.coe_zero, sub_zero, ite_self, Finset.sum_const_zero, add_zero, Finset.sum_ite_eq', Finset.mem_univ, if_true]

/-- A sum that adds up a real column's rows to `r` out of three parts of it. -/
theorem tri3 (r : Fin 256) (v : Fin 256 → EReal) (f : Fin 256 → ℝ) (h : ∀ x, v x = (f x : EReal)) :
    ∑ x : Fin 256, Scalar.select (IntOp.cmpi .sge (BitVec.ofNat 32 r.val) (BitVec.ofNat 32 x.val)) (v x) 0
      + ∑ x : Fin 256, Scalar.select (IntOp.cmpi .sge (BitVec.ofNat 32 r.val) (BitVec.ofNat 32 x.val)) (v x - v x) 0
      + ∑ x : Fin 256, Scalar.select (IntOp.cmpi .sge (BitVec.ofNat 32 r.val) (BitVec.ofNat 32 x.val)) (v x - v x - (v x - v x)) 0
      = ((∑ x : Fin 256, if x ≤ r then f x else 0 : ℝ) : EReal) := by
  simp only [tri, h, ← EReal.coe_sub, sub_self, EReal.coe_zero, sub_zero, ite_self, Finset.sum_const_zero, add_zero]
  rw [← RmsGrad.sum_coe Finset.univ fun x : Fin 256 => if x ≤ r then f x else (0 : ℝ)]
  exact Finset.sum_congr rfl fun x _ => by by_cases hx : x ≤ r <;> simp only [hx, if_true, if_false, EReal.coe_zero]

/-- Spreading a value per head over the columns of the head. -/
theorem pay23_at {v114 : FVec Ideal S256x16 .f32} {f : Fin 256 → Fin 16 → ℝ} (h : ∀ l x, v114 (ix2 l x) = (f l x : EReal)) (l : Fin 256) (c : Fin 1024) :
    k0_pay23 (F := Ideal) v114 rows16 cols16 (ix2 l c) = f l (Ssd.hd c) := by
  pointwise [k0_pay23, k0_pay22]
  exact pick3 c (fun x => v114 (ix2 l x)) (f l) (h l)

/-- Inputs times steps, from a value per head. -/
theorem pay26_at (v69 : FVec Ideal S256x1536 .f32) {v90 : FVec Ideal S256x16 .f32} {f : Fin 256 → Fin 16 → ℝ} (h : ∀ l x, v90 (ix2 l x) = (f l x : EReal))
    (l : Fin 256) (c : Fin 1024) : k0_pay26 (F := Ideal) v69 v90 rows16 cols16 (ix2 l c) = v69 (ix2 l ⟨c.val, by omega⟩) * f l (Ssd.hd c) := by
  pointwise [k0_pay26, k0_pay22, k0_pay25]
  exact congrArg (v69 (ix2 l ⟨c.val, by omega⟩) * ·) (pick3 c (fun x => v90 (ix2 l x)) (f l) (h l))

section Body

variable {k : Ssd.Chunk} {A : Fin 16 → ℝ} {v69 : FVec Ideal S256x1536 .f32} {v90 v114 : FVec Ideal S256x16 .f32} {v131 : FVec Ideal S16x256 .f32}
variable {v171 : FVec Ideal S256x1024 .f32} {v193 v356 : FVec Ideal S256x256 .f32}

/-- The end decay of an input times its step. -/
theorem pay28_at (h90 : ∀ l x, v90 (ix2 l x) = (k.T l x : EReal)) (h114 : ∀ l x, v114 (ix2 l x) = (k.cs A l x : EReal)) (hX : ∀ l (c : Fin 1024), v69 (ix2 l ⟨c.val, by omega⟩) = k.X l c)
    (l : Fin 256) (c : Fin 1024) : k0_pay28 (F := Ideal) v69 v90 v114 rows16 cols16 (ix2 l c) = k.xdt l c * k.dec A 255 l (Ssd.hd c) := by
  pointwise [k0_pay28, k0_pay27]
  rw [pay26_at v69 h90, pay23_at h114, pay23_at h114, hX]
  rfl

/-- One tile of 128 columns, two heads, of what a chunk contributes to itself. -/
theorem pair (hn : ∀ {l s : Fin 256}, s ≤ l → ∀ h, k.cs A l h - k.cs A s h ≤ 0) (h114 : ∀ l x, v114 (ix2 l x) = (k.cs A l x : EReal))
    (h131 : ∀ x l, v131 (ix2 x l) = (k.cs A l x : EReal)) (h171 : ∀ l c, v171 (ix2 l c) = k.xdt l c) {g : Fin 2} (h193 : ∀ l s, v193 (ix2 l s) = k.cb l s g)
    (r : Fin 256) {l : ℕ} (hl : l < 128) (a b : Fin 16) (c : Fin 1024) (ha : c.val = 64 * a.val + l) (hb : b.val = a.val + 1) (hg : Ssd.gp c = g) :
    ∑ x : Fin 256, Scalar.select (IntOp.cmpi .slt (BitVec.ofNat 32 l) 64#32) (Scalar.select (IntOp.cmpi .sge (BitVec.ofNat 32 r.val) (BitVec.ofNat 32 x.val))
          (v193 (ix2 r x) * Ideal.exp (min (v114 (ix2 r a) - v131 (ix2 a x)) 0) * v171 (ix2 x c)) 0) 0
      + ∑ x : Fin 256, Scalar.select (IntOp.cmpi .sge (BitVec.ofNat 32 l) 64#32) (Scalar.select (IntOp.cmpi .sge (BitVec.ofNat 32 r.val) (BitVec.ofNat 32 x.val))
          (v193 (ix2 r x) * Ideal.exp (min (v114 (ix2 r b) - v131 (ix2 b x)) 0) * v171 (ix2 x c)) 0) 0
      = k.diag A r c := by
  have key : ∀ x : Fin 256, x ≤ r → ∀ h, Ideal.exp (min (v114 (ix2 r h) - v131 (ix2 h x)) 0) = k.dec A r x h := fun x hx h => by
    rw [h114, h131, ← EReal.coe_sub, min_eq_left (EReal.coe_nonpos.2 (hn hx h)), Ideal.exp_coe]
    rfl
  unfold Ssd.Chunk.diag
  simp only [low hl, high hl, tri]
  by_cases h : l < 64
  · simp only [if_pos h, Finset.sum_const_zero, add_zero]
    have e : Ssd.hd c = a := Fin.ext (show c.val / 64 = a.val by omega)
    refine Finset.sum_congr rfl fun x _ => ?_
    by_cases hx : x ≤ r
    · rw [if_pos hx, if_pos hx, key x hx, h193, h171, hg, e]
    · rw [if_neg hx, if_neg hx]
  · simp only [if_neg h, Finset.sum_const_zero, zero_add]
    have e : Ssd.hd c = b := Fin.ext (show c.val / 64 = b.val by omega)
    refine Finset.sum_congr rfl fun x _ => ?_
    by_cases hx : x ≤ r
    · rw [if_pos hx, if_pos hx, key x hx, h193, h171, hg, e]
    · rw [if_neg hx, if_neg hx]

variable (hn : ∀ {l s : Fin 256}, s ≤ l → ∀ h, k.cs A l h - k.cs A s h ≤ 0) (h114 : ∀ l x, v114 (ix2 l x) = (k.cs A l x : EReal))
variable (h131 : ∀ x l, v131 (ix2 x l) = (k.cs A l x : EReal)) (h171 : ∀ l c, v171 (ix2 l c) = k.xdt l c)
variable (h0 : ∀ l s, v193 (ix2 l s) = k.cb l s 0) (h1 : ∀ l s, v356 (ix2 l s) = k.cb l s 1)

/-- The masks of the two halves of a tile of two heads. -/
abbrev loMask : FVec Ideal S1x128 .f32 := k0_pay29 cols128
abbrev hiMask : FVec Ideal S1x128 .f32 := k0_pay30 cols128

/-- The group of a column. -/
theorem gp0 {c : Fin 1024} (h : c.val < 512) : Ssd.gp c = 0 := Fin.ext (show c.val / 512 = 0 by omega)
theorem gp1 {c : Fin 1024} (h : 512 ≤ c.val) : Ssd.gp c = 1 := Fin.ext (show c.val / 512 = 1 by omega)

include hn h114 h131 h171 h0

/-- A tile of the diagonal term: two heads side by side. -/
theorem tile0 (r : Fin 256) (l : Fin 128) :
    k0_pay41 (F := Ideal) k0_pay19 v114 v131 loMask hiMask v193 (k0_pay38 v171) (k0_pay39 v131) (k0_pay40 v114) (ix2 r l) = k.diag A r ⟨l.val, by omega⟩ := by
  pointwise [k0_pay41, k0_pay38, k0_pay39, k0_pay40, k0_pay19, k0_pay29, k0_pay30]
  exact pair hn h114 h131 h171 h0 r l.2 0 1 ⟨l.val, by omega⟩ (by change l.val = 64 * 0 + l.val; omega) rfl (gp0 (by change l.val < 512; omega))

/-- The next tile. -/
theorem tile1 (r : Fin 256) (l : Fin 128) :
    k0_pay45 (F := Ideal) k0_pay19 loMask hiMask v193 (k0_pay42 v171) (k0_pay43 k0_pay19 v114 v131 v193) (k0_pay44 v114 v131) (ix2 r l) = k.diag A r ⟨128 + l.val, by omega⟩ := by
  pointwise [k0_pay42, k0_pay43, k0_pay44, k0_pay45, k0_pay19, k0_pay29, k0_pay30]
  exact pair hn h114 h131 h171 h0 r l.2 2 3 ⟨128 + l.val, by omega⟩ rfl rfl (gp0 (by change 128 + l.val < 512; omega))

/-- The next tile. -/
theorem tile2 (r : Fin 256) (l : Fin 128) :
    k0_pay46 (F := Ideal) k0_pay19 v114 v131 v171 loMask hiMask v193 (ix2 r l) = k.diag A r ⟨256 + l.val, by omega⟩ := by
  pointwise [k0_pay46, k0_pay19, k0_pay29, k0_pay30]
  exact pair hn h114 h131 h171 h0 r l.2 4 5 ⟨256 + l.val, by omega⟩ rfl rfl (gp0 (by change 256 + l.val < 512; omega))

/-- The first group's columns: the four tiles side by side, and what the state contributes. -/
theorem group0 (v203 : FVec Ideal S256x512 .f32) (r : Fin 256) (l : Fin 512) :
    k0_pay50 (F := Ideal) k0_pay19 v114 v131 loMask hiMask v193 v203
      (k0_pay41 k0_pay19 v114 v131 loMask hiMask v193 (k0_pay38 v171) (k0_pay39 v131) (k0_pay40 v114))
      (k0_pay45 k0_pay19 loMask hiMask v193 (k0_pay42 v171) (k0_pay43 k0_pay19 v114 v131 v193) (k0_pay44 v114 v131))
      (k0_pay46 k0_pay19 v114 v131 v171 loMask hiMask v193) (k0_pay47 v171) (k0_pay48 v131) (k0_pay49 v114) (ix2 r l)
      = k.diag A r ⟨l.val, by omega⟩ + v203 (ix2 r l) := by
  have e0 := tile0 hn h114 h131 h171 h0 r
  have e1 := tile1 hn h114 h131 h171 h0 r
  have e2 := tile2 hn h114 h131 h171 h0 r
  generalize k0_pay41 (F := Ideal) k0_pay19 v114 v131 loMask hiMask v193 (k0_pay38 v171) (k0_pay39 v131) (k0_pay40 v114) = a0 at e0 ⊢
  generalize k0_pay45 (F := Ideal) k0_pay19 loMask hiMask v193 (k0_pay42 v171) (k0_pay43 k0_pay19 v114 v131 v193) (k0_pay44 v114 v131) = a1 at e1 ⊢
  generalize k0_pay46 (F := Ideal) k0_pay19 v114 v131 v171 loMask hiMask v193 = a2 at e2 ⊢
  pointwise [k0_pay47, k0_pay48, k0_pay49, k0_pay50, k0_pay19, k0_pay29, k0_pay30]
  refine congrArg (· + v203 (ix2 r l)) ?_
  by_cases t0 : l.val < 128
  · rw [dif_pos t0]
    exact e0 ⟨l.val, t0⟩
  rw [dif_neg t0]
  by_cases t1 : l.val - 128 < 128
  · rw [dif_pos t1]
    exact (e1 ⟨l.val - 128, t1⟩).trans (congrArg (k.diag A r) (Fin.ext (show 128 + (l.val - 128) = l.val by omega)))
  rw [dif_neg t1]
  by_cases t2 : l.val - 128 - 128 < 128
  · rw [dif_pos t2]
    exact (e2 ⟨l.val - 128 - 128, t2⟩).trans (congrArg (k.diag A r) (Fin.ext (show 256 + (l.val - 128 - 128) = l.val by omega)))
  rw [dif_neg t2]
  exact (pair hn h114 h131 h171 h0 r (l := l.val - 128 - 128 - 128) (by omega) 6 7 ⟨384 + (l.val - 128 - 128 - 128), by omega⟩ rfl rfl
    (gp0 (by change 384 + (l.val - 128 - 128 - 128) < 512; omega))).trans
    (congrArg (k.diag A r) (Fin.ext (show 384 + (l.val - 128 - 128 - 128) = l.val by omega)))

omit h0
include h1

/-- A tile of the second group. -/
theorem tile4 (r : Fin 256) (l : Fin 128) :
    k0_pay59 (F := Ideal) k0_pay19 v114 v131 v171 loMask hiMask v356 (ix2 r l) = k.diag A r ⟨512 + l.val, by omega⟩ := by
  pointwise [k0_pay59, k0_pay19, k0_pay29, k0_pay30]
  exact pair hn h114 h131 h171 h1 r l.2 8 9 ⟨512 + l.val, by omega⟩ rfl rfl (gp1 (by change 512 ≤ 512 + l.val; omega))

/-- The next tile. -/
theorem tile5 (r : Fin 256) (l : Fin 128) :
    k0_pay62 (F := Ideal) k0_pay19 v114 v131 loMask hiMask v356 (k0_pay60 v171) (k0_pay61 v114) (ix2 r l) = k.diag A r ⟨640 + l.val, by omega⟩ := by
  pointwise [k0_pay60, k0_pay61, k0_pay62, k0_pay19, k0_pay29, k0_pay30]
  exact pair hn h114 h131 h171 h1 r l.2 10 11 ⟨640 + l.val, by omega⟩ rfl rfl (gp1 (by change 512 ≤ 640 + l.val; omega))

/-- The second group's columns. -/
theorem group1 (v366 : FVec Ideal S256x512 .f32) (r : Fin 256) (l : Fin 512) :
    k0_pay67 (F := Ideal) k0_pay19 v114 v131 v171 loMask hiMask v356 v366
      (k0_pay59 k0_pay19 v114 v131 v171 loMask hiMask v356)
      (k0_pay62 k0_pay19 v114 v131 loMask hiMask v356 (k0_pay60 v171) (k0_pay61 v114))
      (k0_pay63 v171) (k0_pay64 k0_pay19 v114 v131 v356) (k0_pay65 v114 v131) k0_pay66 (ix2 r l)
      = k.diag A r ⟨512 + l.val, by omega⟩ + v366 (ix2 r l) := by
  have e0 := tile4 hn h114 h131 h171 h1 r
  have e1 := tile5 hn h114 h131 h171 h1 r
  generalize k0_pay59 (F := Ideal) k0_pay19 v114 v131 v171 loMask hiMask v356 = a0 at e0 ⊢
  generalize k0_pay62 (F := Ideal) k0_pay19 v114 v131 loMask hiMask v356 (k0_pay60 v171) (k0_pay61 v114) = a1 at e1 ⊢
  pointwise [k0_pay63, k0_pay64, k0_pay65, k0_pay66, k0_pay67, k0_pay19, k0_pay29, k0_pay30]
  refine congrArg (· + v366 (ix2 r l)) ?_
  by_cases t0 : l.val < 128
  · rw [dif_pos t0]
    exact e0 ⟨l.val, t0⟩
  rw [dif_neg t0]
  by_cases t1 : l.val - 128 < 128
  · rw [dif_pos t1]
    exact (e1 ⟨l.val - 128, t1⟩).trans (congrArg (k.diag A r) (Fin.ext (show 640 + (l.val - 128) = 512 + l.val by omega)))
  rw [dif_neg t1]
  by_cases t2 : l.val - 128 - 128 < 128
  · rw [dif_pos t2]
    exact (pair hn h114 h131 h171 h1 r (l := l.val - 128 - 128) (by omega) 12 13 ⟨768 + (l.val - 128 - 128), by omega⟩ rfl rfl
      (gp1 (by change 512 ≤ 768 + (l.val - 128 - 128); omega))).trans
      (congrArg (k.diag A r) (Fin.ext (show 768 + (l.val - 128 - 128) = 512 + l.val by omega)))
  rw [dif_neg t2]
  exact (pair hn h114 h131 h171 h1 r (l := l.val - 128 - 128 - 128) (by omega) 14 15 ⟨896 + (l.val - 128 - 128 - 128), by omega⟩ rfl rfl
    (gp1 (by change 512 ≤ 896 + (l.val - 128 - 128 - 128); omega))).trans
    (congrArg (k.diag A r) (Fin.ext (show 896 + (l.val - 128 - 128 - 128) = 512 + l.val by omega)))

end Body

/-- A column moved down by `j` rows, the rows before it taken from the eight that come before the chunk. -/
def shift (j : ℕ) (p : Fin 8 → EReal) (x : Fin 256 → EReal) (r : Fin 256) : EReal :=
  if r.val < j then p ⟨(r.val + 8 - j) % 8, Nat.mod_lt _ (by norm_num)⟩ else x ⟨r.val - j, by omega⟩

/-- The causal convolution of a column with four taps. -/
def conv (w : Fin 4 → EReal) (b : EReal) (p : Fin 8 → EReal) (x : Fin 256 → EReal) (r : Fin 256) : EReal :=
  b + w 3 * x r + w 2 * shift 1 p x r + w 1 * shift 2 p x r + w 0 * shift 3 p x r

/-- A column moved down inside a block, its first rows from the rows before the block. -/
theorem shift_at (p : Fin 8 → EReal) (x : Fin 256 → EReal) (r : Fin 256) {j : ℕ} (h1 : 0 < j) (h3 : j ≤ 3) :
    (if h : r.val < 8 then Scalar.select (IntOp.cmpi .slt (BitVec.ofNat 32 r.val) (BitVec.ofNat 32 j)) (p ⟨(r.val + 8 - j) % 8, Nat.mod_lt _ (by norm_num)⟩) (x ⟨(r.val + 256 - j) % 256, Nat.mod_lt _ (by norm_num)⟩)
      else x ⟨(8 + (r.val - 8) + 256 - j) % 256, Nat.mod_lt _ (by norm_num)⟩) = shift j p x r := by
  unfold shift
  by_cases h : r.val < 8
  · rw [dif_pos h]
    by_cases hj : r.val < j
    · rw [if_pos hj, select_of_eq_one ((cmpi_slt_ofNat_eq_one_iff (w := 32) (a := r.val) (b := j) (by omega) (by omega)).2 hj)]
    · rw [if_neg hj, select_of_eq_zero ((cmpi_slt_ofNat_eq_zero_iff (w := 32) (a := r.val) (b := j) (by omega) (by omega)).2 (by omega))]
      exact congrArg x (Fin.ext (show (r.val + 256 - j) % 256 = r.val - j by omega))
  · rw [dif_neg h, if_neg (by omega)]
    exact congrArg x (Fin.ext (show (8 + (r.val - 8) + 256 - j) % 256 = r.val - j by omega))

/-- The convolution and its gate as the body computes them: from the eight rows kept and the block of inputs. -/
abbrev xbc (p : Vec Ideal S8x1536 .f32) (P : Vec Ideal S256x3712 .f32) (cw : Vec Ideal S4x1536 .f32) (cb : Vec Ideal S1x1536 .f32) : FVec Ideal S256x1536 .f32 :=
  k0_pay12 (F := Ideal) p cw (k0_pay5 P) (iota Kind.tc S8x1 32 [0] iota_S8x1_d0_w32) (k0_pay7 P p cw cb) (k0_pay8 P) (k0_pay9 p) k0_pay10

/-- Zero minus a value. -/
theorem neg_eq (x : EReal) : 0 - x = -x := by rw [sub_eq_add_neg, zero_add]

/-- The gate of the convolution, element by element. -/
theorem pay12_at (v5 v6 v11 v14 v33 v34 v35 v37 r l) :
    k0_pay12 (F := Ideal) v5 v6 v11 v14 v33 v34 v35 v37 (ix2 r l) = Ssd.silu (k0_pay11 (F := Ideal) v5 v6 v11 v14 v33 v34 v35 v37 (ix2 r l)) := by
  pointwise [k0_pay12]
  rw [neg_eq]
  rfl

/-- The taps on the row itself and the row before. -/
theorem pay7_at (p : Vec Ideal S8x1536 .f32) (P : Vec Ideal S256x3712 .f32) (cw : Vec Ideal S4x1536 .f32) (cb : Vec Ideal S1x1536 .f32) (r : Fin 256) (l : Fin 1536) :
    k0_pay7 (F := Ideal) P p cw cb (ix2 r l) = cb (ix2 0 l) + cw (ix2 3 l) * P (ix2 r ⟨2048 + l.val, by omega⟩)
      + cw (ix2 2 l) * shift 1 (fun i => p (ix2 i l)) (fun i => P (ix2 i ⟨2048 + l.val, by omega⟩)) r := by
  have e := shift_at (fun i => p (ix2 i l)) (fun i => P (ix2 i ⟨2048 + l.val, by omega⟩)) r (j := 1) (by omega) (by omega)
  generalize shift 1 (fun i => p (ix2 i l)) (fun i => P (ix2 i ⟨2048 + l.val, by omega⟩)) r = z at e ⊢
  pointwise [k0_pay7, k0_pay5, k0_pay3]
  subst e
  rfl

/-- The taps further up. -/
theorem pay11_at (v33 : FVec Ideal S256x1536 .f32) (p : Vec Ideal S8x1536 .f32) (P : Vec Ideal S256x3712 .f32) (cw : Vec Ideal S4x1536 .f32) (r : Fin 256) (l : Fin 1536) :
    k0_pay11 (F := Ideal) p cw (k0_pay5 P) (iota Kind.tc S8x1 32 [0] iota_S8x1_d0_w32) v33 (k0_pay8 P) (k0_pay9 p) k0_pay10 (ix2 r l) = v33 (ix2 r l)
      + cw (ix2 1 l) * shift 2 (fun i => p (ix2 i l)) (fun i => P (ix2 i ⟨2048 + l.val, by omega⟩)) r
      + cw (ix2 0 l) * shift 3 (fun i => p (ix2 i l)) (fun i => P (ix2 i ⟨2048 + l.val, by omega⟩)) r := by
  have e := shift_at (fun i => p (ix2 i l)) (fun i => P (ix2 i ⟨2048 + l.val, by omega⟩)) r (j := 2) (by omega) (by omega)
  have e' := shift_at (fun i => p (ix2 i l)) (fun i => P (ix2 i ⟨2048 + l.val, by omega⟩)) r (j := 3) (by omega) (by omega)
  generalize shift 2 (fun i => p (ix2 i l)) (fun i => P (ix2 i ⟨2048 + l.val, by omega⟩)) r = z at e ⊢
  generalize shift 3 (fun i => p (ix2 i l)) (fun i => P (ix2 i ⟨2048 + l.val, by omega⟩)) r = z' at e' ⊢
  pointwise [k0_pay11, k0_pay5, k0_pay8, k0_pay9, k0_pay10, k0_pay3]
  subst e e'
  rfl

/-- The convolved columns of a block. -/
theorem xbc_at (p : Vec Ideal S8x1536 .f32) (P : Vec Ideal S256x3712 .f32) (cw : Vec Ideal S4x1536 .f32) (cb : Vec Ideal S1x1536 .f32) (r : Fin 256) (l : Fin 1536) :
    xbc p P cw cb (ix2 r l) = Ssd.silu (conv (fun i => cw (ix2 i l)) (cb (ix2 0 l)) (fun i => p (ix2 i l)) (fun i => P (ix2 i ⟨2048 + l.val, by omega⟩)) r) := by
  unfold xbc
  rw [pay12_at, pay11_at, pay7_at]
  rfl

/-- The step sizes as the body computes them, zero on the rows before the first. -/
abbrev dtv (i : BitVec 32) (P : Vec Ideal S256x3712 .f32) (b : Vec Ideal S1x16 .f32) : FVec Ideal S256x16 .f32 :=
  k0_pay17 (F := Ideal) (k0_pay13 i (iota Kind.tc S256x1 32 [0] iota_S256x1_d0_w32)) (k0_pay14 b (k0_pay6 P)) (k0_pay15 b (k0_pay6 P)) (k0_pay16 b (k0_pay6 P)) (FloatOps.ofBits FTy.f32 1065353216#32)

/-- The word of the bound above which the body takes the raw step itself. -/
theorem word_20 : Ideal.ofBits .f32 1101004800#32 = ((20 : ℝ) : EReal) := by
  simp [Ideal.ofBits, Ideal.ieee, -EReal.coe_mul]; norm_num

/-- The step sizes, real: the softplus of the sum on live rows. -/
def T (n : ℕ) (a : Fin 256 → Fin 16 → ℝ) (b : Fin 16 → ℝ) (r : Fin 256) (h : Fin 16) : ℝ :=
  if 0 < n ∨ 240 ≤ r.val then Ssd.softplus (a r h + b h) else 0

/-- The step sizes of a block are not negative. -/
theorem T_nonneg (n : ℕ) (a : Fin 256 → Fin 16 → ℝ) (b : Fin 16 → ℝ) (r : Fin 256) (h : Fin 16) : 0 ≤ T n a b r h := by
  unfold T
  split
  · exact Ssd.softplus_nonneg _
  · exact le_rfl

/-- The test whether a row lies behind the zeros in front. -/
theorem live_word {n : ℕ} (hn : n < 33) (r : Fin 256) {α : Type} (x y : α) :
    Scalar.select (IntOp.ori (Scalar.cmpi .sgt (BitVec.ofNat 32 n) 0#32) (IntOp.cmpi .sge (BitVec.ofNat 32 r.val) 240#32)) x y = if 0 < n ∨ 240 ≤ r.val then x else y := by
  have e1 : Scalar.cmpi .sgt (BitVec.ofNat 32 n) 0#32 = if 0 < n then 1#1 else 0#1 := by
    by_cases h : 0 < n
    · rw [if_pos h]; exact (cmpi_sgt_ofNat_eq_one_iff (w := 32) (a := n) (b := 0) (by omega) (by omega)).2 h
    · rw [if_neg h]; exact (cmpi_sgt_ofNat_eq_zero_iff (w := 32) (a := n) (b := 0) (by omega) (by omega)).2 (by omega)
  have e2 : IntOp.cmpi .sge (BitVec.ofNat 32 r.val) 240#32 = if 240 ≤ r.val then 1#1 else 0#1 := by
    by_cases h : 240 ≤ r.val
    · rw [if_pos h]; exact (cmpi_sge_ofNat_eq_one_iff (w := 32) (a := r.val) (b := 240) (by omega) (by omega)).2 h
    · rw [if_neg h]; exact (cmpi_sge_ofNat_eq_zero_iff (w := 32) (a := r.val) (b := 240) (by omega) (by omega)).2 (by omega)
  rw [e1, e2]
  by_cases h1 : 0 < n <;> by_cases h2 : 240 ≤ r.val <;> simp only [h1, h2, if_true, if_false, or_true, true_or, or_self] <;> rfl

/-- The step sizes of a block, where the raw ones are bounded by twenty. -/
theorem dtv_at {n : ℕ} (hn : n < 33) {P : Vec Ideal S256x3712 .f32} {b : Vec Ideal S1x16 .f32} {a : Fin 256 → Fin 16 → ℝ} {β : Fin 16 → ℝ}
    (ha : ∀ r (h : Fin 16), P (ix2 r ⟨3584 + h.val, by omega⟩) = (a r h : EReal)) (hb : ∀ h, b (ix2 0 h) = (β h : EReal)) (h20 : ∀ (r : Fin 256) h, 0 < n ∨ 240 ≤ r.val → a r h + β h ≤ 20)
    (r : Fin 256) (h : Fin 16) : dtv (BitVec.ofNat 32 n) P b (ix2 r h) = (T n a β r h : EReal) := by
  unfold dtv
  pointwise [k0_pay17, k0_pay13, k0_pay14, k0_pay15, k0_pay16, k0_pay6, k0_pay3]
  rw [live_word hn, ha, hb]
  unfold T Ssd.softplus
  by_cases hl : 0 < n ∨ 240 ≤ r.val
  · have e := EReal.coe_le_coe_iff.2 (h20 r h hl)
    rw [if_pos hl, if_pos hl, word_20, ← EReal.coe_add, if_neg (not_lt.2 e), min_eq_left e, Ideal.exp_coe, ← EReal.coe_one, ← EReal.coe_add, Ideal.log_coe, if_neg (not_le.2 (by positivity))]
  · rw [if_neg hl, if_neg hl]
    rfl

/-- The running sums as the body computes them, and the same transposed. -/
abbrev acs (i : BitVec 32) (P : Vec Ideal S256x3712 .f32) (b al : Vec Ideal S1x16 .f32) : FVec Ideal S256x16 .f32 :=
  k0_pay20 (F := Ideal) al (k0_pay13 i (iota Kind.tc S256x1 32 [0] iota_S256x1_d0_w32)) (k0_pay14 b (k0_pay6 P)) (k0_pay15 b (k0_pay6 P)) (k0_pay16 b (k0_pay6 P)) (FloatOps.ofBits FTy.f32 1065353216#32)
/-- The transposed running sums of a block. -/
abbrev acsT (i : BitVec 32) (P : Vec Ideal S256x3712 .f32) (b al : Vec Ideal S1x16 .f32) : FVec Ideal S16x256 .f32 :=
  k0_pay21 (F := Ideal) al (k0_pay13 i (iota Kind.tc S256x1 32 [0] iota_S256x1_d0_w32)) (k0_pay14 b (k0_pay6 P)) (k0_pay15 b (k0_pay6 P)) (k0_pay16 b (k0_pay6 P)) (FloatOps.ofBits FTy.f32 1065353216#32)

section Sums

variable {v9 : Vec Ideal S1x16 .f32} {v77 : FVec Ideal S256x1 .f32} {v79 : FVec Ideal S256x16 .f32} {v81 : IVec S256x16 1} {v84 : FVec Ideal S256x16 .f32} {o : Ideal .f32}
variable {k : Ssd.Chunk} {al : Fin 16 → ℝ} (h9 : ∀ h, v9 (ix2 0 h) = (al h : EReal)) (hT : ∀ r h, k0_pay17 (F := Ideal) v77 v79 v81 v84 o (ix2 r h) = (k.T r h : EReal))

include h9 hT

/-- Step size times rate. -/
theorem pay18_at (r : Fin 256) (h : Fin 16) : k0_pay18 (F := Ideal) v9 v77 v79 v81 v84 o (ix2 r h) = ((k.T r h * -Real.exp (al h) : ℝ) : EReal) := by
  pointwise [k0_pay18]
  rw [hT, h9, neg_eq, Ideal.exp_coe, ← EReal.coe_neg, ← EReal.coe_mul]

/-- Their running sums. -/
theorem pay20_at (r : Fin 256) (h : Fin 16) : k0_pay20 (F := Ideal) v9 v77 v79 v81 v84 o (ix2 r h) = (k.cs (fun h => -Real.exp (al h)) r h : EReal) := by
  have e := fun r => pay18_at h9 hT r h
  pointwise [k0_pay20, k0_pay19]
  exact tri3 r _ (fun x => k.T x h * -Real.exp (al h)) e

/-- The same, transposed. -/
theorem pay21_at (h : Fin 16) (r : Fin 256) : k0_pay21 (F := Ideal) v9 v77 v79 v81 v84 o (ix2 h r) = (k.cs (fun h => -Real.exp (al h)) r h : EReal) := by
  have e := fun r => pay18_at h9 hT r h
  pointwise [k0_pay21]
  exact tri3 r _ (fun x => k.T x h * -Real.exp (al h)) e

end Sums

section Out

variable {v69 : FVec Ideal S256x1536 .f32} {x : Fin 256 → Fin 1536 → EReal} {t : Fin 256 → Fin 16 → ℝ} {A : Fin 16 → ℝ} {D : Fin 16 → ℝ}
variable {v90 v114 : FVec Ideal S256x16 .f32} {v131 : FVec Ideal S16x256 .f32} {S : Fin 128 → Fin 1024 → EReal} {s0 s1 : Vec Ideal S1x128x512 .f32}
variable {v171 : FVec Ideal S256x1024 .f32} {v193 v356 : FVec Ideal S256x256 .f32}
variable (hx : ∀ r l, v69 (ix2 r l) = x r l) (h90 : ∀ r h, v90 (ix2 r h) = (t r h : EReal))
variable (h114 : ∀ r h, v114 (ix2 r h) = ((Ssd.chunk x t).cs A r h : EReal)) (h131 : ∀ h r, v131 (ix2 h r) = ((Ssd.chunk x t).cs A r h : EReal))
variable (hs0 : ∀ n (l : Fin 512), s0 (ix3 0 n l) = S n ⟨l.val, by omega⟩) (hs1 : ∀ n (l : Fin 512), s1 (ix3 0 n l) = S n ⟨512 + l.val, by omega⟩)

include hx in
/-- The products of the two projections, first group. -/
theorem gram0_at (l s : Fin 256) : k0_pay33 (F := Ideal) v69 (ix2 l s) = (Ssd.chunk x t).cb l s 0 := by
  pointwise [k0_pay33, k0_pay31, k0_pay32]
  simp only [hx]
  rfl

include hx in
/-- The same, second group. -/
theorem gram1_at (l s : Fin 256) : k0_pay53 (F := Ideal) v69 (ix2 l s) = (Ssd.chunk x t).cb l s 1 := by
  pointwise [k0_pay53, k0_pay51, k0_pay52]
  simp only [hx]
  rfl

include hx h90 in
/-- Inputs times steps of the chunk. -/
theorem xdt_at (l : Fin 256) (c : Fin 1024) : k0_pay26 (F := Ideal) v69 v90 rows16 cols16 (ix2 l c) = (Ssd.chunk x t).xdt l c := by
  rw [pay26_at v69 h90, hx]
  rfl

include hx h114 hs0 in
/-- What the state before the chunk contributes, first group. -/
theorem off0_at (l : Fin 256) (c : Fin 512) : k0_pay36 (F := Ideal) v69 (k0_pay23 v114 rows16 cols16) s0 (ix2 l c) = (Ssd.chunk x t).off A S l ⟨c.val, by omega⟩ := by
  have e := pay23_at h114 l ⟨c.val, by omega⟩
  generalize k0_pay23 (F := Ideal) v114 rows16 cols16 = v152 at e ⊢
  pointwise [k0_pay36, k0_pay32, k0_pay34]
  rw [e, Ideal.exp_coe]
  simp only [hx, hs0]
  unfold Ssd.Chunk.off
  rw [gp0 (show c.val < 512 from c.2)]
  rfl

include hx h114 hs1 in
/-- The same, second group. -/
theorem off1_at (l : Fin 256) (c : Fin 512) : k0_pay57 (F := Ideal) (k0_pay23 v114 rows16 cols16) (k0_pay56 v69 s1) (ix2 l c) = (Ssd.chunk x t).off A S l ⟨512 + c.val, by omega⟩ := by
  have e := pay23_at h114 l ⟨512 + c.val, by omega⟩
  generalize k0_pay23 (F := Ideal) v114 rows16 cols16 = v152 at e ⊢
  pointwise [k0_pay57, k0_pay56, k0_pay52, k0_pay54]
  rw [e, Ideal.exp_coe]
  simp only [hx, hs1]
  unfold Ssd.Chunk.off
  rw [gp1 (show 512 ≤ 512 + c.val by omega)]
  rfl

include hx h90 h114 in
/-- Inputs times steps, decayed to the end of the chunk. -/
theorem wend_at (l : Fin 256) (c : Fin 1024) : k0_pay28 (F := Ideal) v69 v90 v114 rows16 cols16 (ix2 l c) = (Ssd.chunk x t).xdt l c * (Ssd.chunk x t).dec A 255 l (Ssd.hd c) :=
  pay28_at (k := Ssd.chunk x t) h90 h114 (fun l c => hx _ _) l c

include h114 in
/-- The running sums at the end of the chunk. -/
theorem alast_at (c : Fin 1024) : k0_pay27 (F := Ideal) v114 rows16 cols16 (ix2 0 c) = ((Ssd.chunk x t).cs A 255 (Ssd.hd c) : EReal) := by
  pointwise [k0_pay27]
  exact pay23_at h114 255 c

include hx h90 h114 hs0 in
/-- The first group's half of the next state. -/
theorem next0_at (n : Fin 128) (c : Fin 512) :
    k0_pay37 (F := Ideal) v69 (k0_pay27 v114 rows16 cols16) (k0_pay28 v69 v90 v114 rows16 cols16) s0 (ix3 0 n c) = (Ssd.chunk x t).next A S n ⟨c.val, by omega⟩ := by
  have e := alast_at h114 ⟨c.val, by omega⟩
  have e' := fun l => wend_at hx h90 h114 l ⟨c.val, by omega⟩
  generalize k0_pay27 (F := Ideal) v114 rows16 cols16 = v172 at e ⊢
  generalize k0_pay28 (F := Ideal) v69 v90 v114 rows16 cols16 = v177 at e' ⊢
  pointwise [k0_pay37, k0_pay31, k0_pay34]
  rw [e, Ideal.exp_coe, hs0]
  simp only [hx, e']
  unfold Ssd.Chunk.next
  rw [gp0 (show c.val < 512 from c.2)]
  rfl

include hx h90 h114 hs1 in
/-- The second group's half of the next state. -/
theorem next1_at (n : Fin 128) (c : Fin 512) :
    k0_pay58 (F := Ideal) (k0_pay27 v114 rows16 cols16) (k0_pay28 v69 v90 v114 rows16 cols16) (k0_pay51 v69) (k0_pay54 s1) (ix3 0 n c) = (Ssd.chunk x t).next A S n ⟨512 + c.val, by omega⟩ := by
  have e := alast_at h114 ⟨512 + c.val, by omega⟩
  have e' := fun l => wend_at hx h90 h114 l ⟨512 + c.val, by omega⟩
  generalize k0_pay27 (F := Ideal) v114 rows16 cols16 = v172 at e ⊢
  generalize k0_pay28 (F := Ideal) v69 v90 v114 rows16 cols16 = v177 at e' ⊢
  pointwise [k0_pay58, k0_pay51, k0_pay54]
  rw [e, Ideal.exp_coe, hs1]
  simp only [hx, e']
  unfold Ssd.Chunk.next
  rw [gp1 (show 512 ≤ 512 + c.val by omega)]
  rfl

/-- The two groups side by side and the direct term. -/
theorem pay68_at {v351 v514 : FVec Ideal S256x512 .f32} {v515 : Vec Ideal S1x16 .f32} {k : Ssd.Chunk} (hD : ∀ h, v515 (ix2 0 h) = (D h : EReal))
    (hX : ∀ r (c : Fin 1024), v69 (ix2 r ⟨c.val, by omega⟩) = k.X r c)
    (h0 : ∀ r (c : Fin 512), v351 (ix2 r c) = k.diag A r ⟨c.val, by omega⟩ + k.off A S r ⟨c.val, by omega⟩)
    (h1 : ∀ r (c : Fin 512), v514 (ix2 r c) = k.diag A r ⟨512 + c.val, by omega⟩ + k.off A S r ⟨512 + c.val, by omega⟩) (r : Fin 256) (c : Fin 1024) :
    k0_pay68 (F := Ideal) (k0_pay22 rows16 cols16) (k0_pay25 v69) v351 v514 v515 (ix2 r c) = k.out A (fun h => D h) S r c := by
  pointwise [k0_pay68, k0_pay22, k0_pay25]
  rw [hX]
  unfold Ssd.Chunk.out
  refine congrArg₂ (· + ·) ?_ (congrArg (k.X r c * ·) (pick3 c (fun h => v515 (ix2 0 h)) D hD))
  by_cases h : c.val < 512
  · rw [dif_pos h]
    exact h0 r ⟨c.val, h⟩
  · rw [dif_neg h]
    exact (h1 r ⟨c.val - 512, by omega⟩).trans (congrArg (fun c => k.diag A r c + k.off A S r c) (Fin.ext (show 512 + (c.val - 512) = c.val by omega)))

/-- The gate and the norm of a row. -/
theorem pay69_at {v10 : FVec Ideal S256x1024 .f32} {v140 : FVec Ideal S16x1024 .bf16} {v170 : FVec Ideal S256x1024 .f32} {v351 v514 : FVec Ideal S256x512 .f32} {v515 : Vec Ideal S1x16 .f32}
    {v542 : Vec Ideal S1x1024 .f32} {r : Fin 256} {y z : Fin 1024 → EReal} (hy : ∀ c, k0_pay68 (F := Ideal) v140 v170 v351 v514 v515 (ix2 r c) = y c)
    (hz : ∀ c, v10 (ix2 r c) = z c) (c : Fin 1024) :
    k0_pay69 (F := Ideal) v10 v140 v170 v351 v514 v515 v542 (ix2 r c) = Ssd.gated y z (fun c => v542 (ix2 0 c)) c := by
  pointwise [k0_pay69]
  simp only [hy, hz, neg_eq]
  rfl

variable (hn : ∀ {l s : Fin 256}, s ≤ l → ∀ h, (Ssd.chunk x t).cs A l h - (Ssd.chunk x t).cs A s h ≤ 0)

include hx h90 h114 h131 hs0 hs1 hn in
/-- The output of the chunk in a row, before the gate. -/
theorem y_at {d : Vec Ideal S1x16 .f32} (hD : ∀ h, d (ix2 0 h) = (D h : EReal)) (r : Fin 256) (c : Fin 1024) :
    k0_pay68 (F := Ideal) (k0_pay22 rows16 cols16) (k0_pay25 v69)
      (k0_pay50 k0_pay19 v114 v131 loMask hiMask (k0_pay33 v69) (k0_pay36 v69 (k0_pay23 v114 rows16 cols16) s0)
        (k0_pay41 k0_pay19 v114 v131 loMask hiMask (k0_pay33 v69) (k0_pay38 (k0_pay26 v69 v90 rows16 cols16)) (k0_pay39 v131) (k0_pay40 v114))
        (k0_pay45 k0_pay19 loMask hiMask (k0_pay33 v69) (k0_pay42 (k0_pay26 v69 v90 rows16 cols16)) (k0_pay43 k0_pay19 v114 v131 (k0_pay33 v69)) (k0_pay44 v114 v131))
        (k0_pay46 k0_pay19 v114 v131 (k0_pay26 v69 v90 rows16 cols16) loMask hiMask (k0_pay33 v69)) (k0_pay47 (k0_pay26 v69 v90 rows16 cols16)) (k0_pay48 v131) (k0_pay49 v114))
      (k0_pay67 k0_pay19 v114 v131 (k0_pay26 v69 v90 rows16 cols16) loMask hiMask (k0_pay53 v69) (k0_pay57 (k0_pay23 v114 rows16 cols16) (k0_pay56 v69 s1))
        (k0_pay59 k0_pay19 v114 v131 (k0_pay26 v69 v90 rows16 cols16) loMask hiMask (k0_pay53 v69))
        (k0_pay62 k0_pay19 v114 v131 loMask hiMask (k0_pay53 v69) (k0_pay60 (k0_pay26 v69 v90 rows16 cols16)) (k0_pay61 v114))
        (k0_pay63 (k0_pay26 v69 v90 rows16 cols16)) (k0_pay64 k0_pay19 v114 v131 (k0_pay53 v69)) (k0_pay65 v114 v131) k0_pay66)
      d (ix2 r c)
      = (Ssd.chunk x t).out A (fun h => D h) S r c := by
  refine pay68_at hD (k := Ssd.chunk x t) (S := S) (A := A) (fun r c => hx _ _) (fun r c => ?_) (fun r c => ?_) r c
  · rw [group0 hn h114 h131 (xdt_at hx h90) (gram0_at hx), off0_at hx h114 hs0]
  · rw [group1 hn h114 h131 (xdt_at hx h90) (gram1_at hx), off1_at hx h114 hs1]

include hx h90 h114 h131 hs0 hs1 hn in
/-- What the body stores for a row: the gated and normalised output of the chunk. -/
theorem row_at {d : Vec Ideal S1x16 .f32} (hD : ∀ h, d (ix2 0 h) = (D h : EReal)) (P : Vec Ideal S256x3712 .f32) (g : Vec Ideal S1x1024 .f32) (r : Fin 256) (c : Fin 1024) :
    k0_pay69 (F := Ideal) (k0_pay4 P) (k0_pay22 rows16 cols16) (k0_pay25 v69)
      (k0_pay50 k0_pay19 v114 v131 loMask hiMask (k0_pay33 v69) (k0_pay36 v69 (k0_pay23 v114 rows16 cols16) s0)
        (k0_pay41 k0_pay19 v114 v131 loMask hiMask (k0_pay33 v69) (k0_pay38 (k0_pay26 v69 v90 rows16 cols16)) (k0_pay39 v131) (k0_pay40 v114))
        (k0_pay45 k0_pay19 loMask hiMask (k0_pay33 v69) (k0_pay42 (k0_pay26 v69 v90 rows16 cols16)) (k0_pay43 k0_pay19 v114 v131 (k0_pay33 v69)) (k0_pay44 v114 v131))
        (k0_pay46 k0_pay19 v114 v131 (k0_pay26 v69 v90 rows16 cols16) loMask hiMask (k0_pay33 v69)) (k0_pay47 (k0_pay26 v69 v90 rows16 cols16)) (k0_pay48 v131) (k0_pay49 v114))
      (k0_pay67 k0_pay19 v114 v131 (k0_pay26 v69 v90 rows16 cols16) loMask hiMask (k0_pay53 v69) (k0_pay57 (k0_pay23 v114 rows16 cols16) (k0_pay56 v69 s1))
        (k0_pay59 k0_pay19 v114 v131 (k0_pay26 v69 v90 rows16 cols16) loMask hiMask (k0_pay53 v69))
        (k0_pay62 k0_pay19 v114 v131 loMask hiMask (k0_pay53 v69) (k0_pay60 (k0_pay26 v69 v90 rows16 cols16)) (k0_pay61 v114))
        (k0_pay63 (k0_pay26 v69 v90 rows16 cols16)) (k0_pay64 k0_pay19 v114 v131 (k0_pay53 v69)) (k0_pay65 v114 v131) k0_pay66)
      d g (ix2 r c)
      = Ssd.gated ((Ssd.chunk x t).out A (fun h => D h) S r) (fun c => P (ix2 r ⟨c.val, by omega⟩)) (fun c => g (ix2 0 c)) c := by
  refine pay69_at (fun c => y_at hx h90 h114 h131 hs0 hs1 hn hD r c) (fun c => ?_) c
  · pointwise [k0_pay4, k0_pay3]

end Out

end Cert.SsdFwdIdeal.RefValue
-- ==== Proof.SsdFwdRun.lean ====
module

public import proofs.«01_k».proof.Proof.SsdFwdBody
public import Idealize.ShloMosaic.Lib.Pipeline.ReadBack

@[expose] public section

set_option maxRecDepth 16384

noncomputable section

/-! The run of the forward call: 33 blocks of 256 rows, the state of the recurrence and the last eight rows of the block before carried in scratch. -/
namespace Cert.SsdFwdIdeal.RefValue

open Cert.SsdFwdIdeal Cert.SsdFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s argument arrays as launched. -/
abbrev argZ (c : Dev nD) : FVec Ideal S8208x1024 .f32 := m ((c : Thread nD τ).loc main_arg0)
abbrev argX (c : Dev nD) : FVec Ideal S8208x1536 .f32 := m ((c : Thread nD τ).loc main_arg1)
abbrev argT (c : Dev nD) : FVec Ideal S8208x16 .f32 := m ((c : Thread nD τ).loc main_arg2)
abbrev argW (c : Dev nD) : FVec Ideal S4x1536 .f32 := m ((c : Thread nD τ).loc main_arg3)
abbrev argB (c : Dev nD) : FVec Ideal S1x1536 .f32 := m ((c : Thread nD τ).loc main_arg4)
abbrev argS (c : Dev nD) : FVec Ideal S1x16 .f32 := m ((c : Thread nD τ).loc main_arg5)
abbrev argL (c : Dev nD) : FVec Ideal S1x16 .f32 := m ((c : Thread nD τ).loc main_arg6)
abbrev argD (c : Dev nD) : FVec Ideal S1x16 .f32 := m ((c : Thread nD τ).loc main_arg7)
abbrev argG (c : Dev nD) : FVec Ideal S1x1024 .f32 := m ((c : Thread nD τ).loc main_arg8)

/-- A grid point's blocks. -/
abbrev blkP (c : Dev nD) (t : Fin cfg0.N) : Vec Ideal S256x3712 .f32 := iblk m c 0 t
abbrev blkW (c : Dev nD) (t : Fin cfg0.N) : Vec Ideal S4x1536 .f32 := iblk m c 1 t
abbrev blkB (c : Dev nD) (t : Fin cfg0.N) : Vec Ideal S1x1536 .f32 := iblk m c 2 t
abbrev blkS (c : Dev nD) (t : Fin cfg0.N) : Vec Ideal S1x16 .f32 := iblk m c 3 t
abbrev blkL (c : Dev nD) (t : Fin cfg0.N) : Vec Ideal S1x16 .f32 := iblk m c 4 t
abbrev blkD (c : Dev nD) (t : Fin cfg0.N) : Vec Ideal S1x16 .f32 := iblk m c 5 t
abbrev blkG (c : Dev nD) (t : Fin cfg0.N) : Vec Ideal S1x1024 .f32 := iblk m c 6 t

/-- Where each window's block sits at a grid point, and the point's word. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_8.index t = ![t.val, 0]
    ∧ (grid0.coords t 0).val = t.val :=
  (by decide +kernel : ∀ t : Fin grid0.N, _)

/-- Where the other results' blocks sit. -/
theorem idx' : ∀ t : Fin cfg0.N, win0_7.index t = ![t.val, 0] ∧ win0_9.index t = ![t.val, 0, 0, 0] ∧ win0_10.index t = ![t.val, 0] :=
  (by decide +kernel : ∀ t : Fin grid0.N, _)

/-- A row of the joined inputs: the gate's columns, zeros, the convolution's, the step sizes', zeros. -/
def joined (c : Dev nD) (R : Fin 8208) (j : Fin 3712) : EReal :=
  if h : j.val < 1024 then argZ m c (ix2 R ⟨j.val, h⟩)
  else if h2 : j.val - 1024 < 1024 then 0
  else if h3 : j.val - 1024 - 1024 < 1536 then argX m c (ix2 R ⟨j.val - 1024 - 1024, h3⟩)
  else if h4 : j.val - 1024 - 1024 - 1536 < 16 then argT m c (ix2 R ⟨j.val - 1024 - 1024 - 1536, h4⟩) else 0

/-- The joined and padded array, element by element. -/
theorem V_p (c : Dev nD) (P : Fin 8448) (j : Fin 3712) : (V m c (Pipeline.arrRef spec0 0) : FVec Ideal S8448x3712 .f32) (ix2 P j)
    = Ssd.padded (joined m c) P.val j := by
  unfold V
  after_reads_at
  have hP := P.isLt
  by_cases h : 240 ≤ P.val
  · have e : Ssd.padded (joined m c) P.val j = joined m c ⟨P.val - 240, by omega⟩ j := dif_pos ⟨h, hP⟩
    rw [dif_neg (by omega), e]
    unfold joined
    by_cases h1 : j.val < 1024
    · rw [dif_pos h1, dif_pos h1]
      after_reads_at
    rw [dif_neg h1, dif_neg h1]
    by_cases h2 : j.val - 1024 < 1024
    · rw [dif_pos h2, dif_pos h2]
      after_reads_at
    rw [dif_neg h2, dif_neg h2]
    by_cases h3 : j.val - 1024 - 1024 < 1536
    · rw [dif_pos h3, dif_pos h3]
      after_reads_at
    rw [dif_neg h3, dif_neg h3]
    by_cases h4 : j.val - 1024 - 1024 - 1536 < 16
    · rw [dif_pos h4, dif_pos h4]
      after_reads_at
    rw [dif_neg h4, dif_neg h4]
    after_reads_at
  · rw [dif_pos (by omega)]
    unfold Ssd.padded
    rw [dif_neg (fun q => h q.1)]

/-- A grid point's blocks, element by element. -/
theorem blk_p (c : Dev nD) (t : Fin cfg0.N) (r : Fin 256) (j : Fin 3712) : blkP m c t (ix2 r j) = Ssd.padded (joined m c) (256 * t.val + r.val) j := by
  have ht : t.val < 33 := t.isLt
  have e := V_p m c ⟨256 * t.val + r.val, by omega⟩ j
  rw [← e]
  blk_ext [iblk, (idx t).1]
/-- The other blocks are the arrays themselves. -/
theorem blk_w (c : Dev nD) (t : Fin cfg0.N) (i : Fin 4) (l : Fin 1536) : blkW m c t (ix2 i l) = argW m c (ix2 i l) := by
  rw [show argW m c (ix2 i l) = V m c main_arg3 (ix2 i l) from by unfold V; after_reads_at]
  blk_ext [iblk, (idx t).2.1]
/-- The bias. -/
theorem blk_b (c : Dev nD) (t : Fin cfg0.N) (l : Fin 1536) : blkB m c t (ix2 0 l) = argB m c (ix2 0 l) := by
  rw [show argB m c (ix2 0 l) = V m c main_arg4 (ix2 0 l) from by unfold V; after_reads_at]
  blk_ext [iblk, (idx t).2.2.1]
/-- The step bias. -/
theorem blk_s (c : Dev nD) (t : Fin cfg0.N) (h : Fin 16) : blkS m c t (ix2 0 h) = argS m c (ix2 0 h) := by
  rw [show argS m c (ix2 0 h) = V m c main_arg5 (ix2 0 h) from by unfold V; after_reads_at]
  blk_ext [iblk, (idx t).2.2.2.1]
/-- The logarithms of the rates. -/
theorem blk_l (c : Dev nD) (t : Fin cfg0.N) (h : Fin 16) : blkL m c t (ix2 0 h) = argL m c (ix2 0 h) := by
  rw [show argL m c (ix2 0 h) = V m c main_arg6 (ix2 0 h) from by unfold V; after_reads_at]
  blk_ext [iblk, (idx t).2.2.2.2.1]
/-- The skip. -/
theorem blk_d (c : Dev nD) (t : Fin cfg0.N) (h : Fin 16) : blkD m c t (ix2 0 h) = argD m c (ix2 0 h) := by
  rw [show argD m c (ix2 0 h) = V m c main_arg7 (ix2 0 h) from by unfold V; after_reads_at]
  blk_ext [iblk, (idx t).2.2.2.2.2.1]
/-- The norm's weight. -/
theorem blk_g (c : Dev nD) (t : Fin cfg0.N) (k : Fin 1024) : blkG m c t (ix2 0 k) = argG m c (ix2 0 k) := by
  rw [show argG m c (ix2 0 k) = V m c main_arg8 (ix2 0 k) from by unfold V; after_reads_at]
  blk_ext [iblk, (idx t).2.2.2.2.2.2.1]

/-- The joined columns of a row. -/
theorem joined_z (c : Dev nD) (R : Fin 8208) (k : Fin 1024) : joined m c R ⟨k.val, by omega⟩ = argZ m c (ix2 R k) := dif_pos k.2
/-- The columns of the convolution inside the joined array. -/
theorem joined_x (c : Dev nD) (R : Fin 8208) (k : Fin 1536) : joined m c R ⟨2048 + k.val, by omega⟩ = argX m c (ix2 R k) := by
  unfold joined
  rw [dif_neg (show ¬ 2048 + k.val < 1024 by omega), dif_neg (show ¬ 2048 + k.val - 1024 < 1024 by omega), dif_pos (show 2048 + k.val - 1024 - 1024 < 1536 by omega)]
  exact congrArg (fun k => argX m c (ix2 R k)) (Fin.ext (show 2048 + k.val - 1024 - 1024 = k.val by omega))
/-- The raw steps inside it. -/
theorem joined_t (c : Dev nD) (R : Fin 8208) (k : Fin 16) : joined m c R ⟨3584 + k.val, by omega⟩ = argT m c (ix2 R k) := by
  unfold joined
  rw [dif_neg (show ¬ 3584 + k.val < 1024 by omega), dif_neg (show ¬ 3584 + k.val - 1024 < 1024 by omega), dif_neg (show ¬ 3584 + k.val - 1024 - 1024 < 1536 by omega),
    dif_pos (show 3584 + k.val - 1024 - 1024 - 1536 < 16 by omega)]
  exact congrArg (fun k => argT m c (ix2 R k)) (Fin.ext (show 3584 + k.val - 1024 - 1024 - 1536 = k.val by omega))

/-- The arguments as rows, and the convolved columns. -/
abbrev rX (c : Dev nD) (R : Fin 8208) (l : Fin 1536) : EReal := argX m c (ix2 R l)
/-- All convolved and gated rows. -/
abbrev rU (c : Dev nD) : Fin 8208 → Fin 1536 → EReal :=
  Ssd.act (rX m c) (fun i l => argW m c (ix2 i l)) (fun l => argB m c (ix2 0 l))

/-- The convolution of a block is that of all rows, on the rows behind the zeros in front. -/
theorem conv_eq (w : Fin 4 → EReal) (b : EReal) {f : Fin 8208 → Fin 1 → EReal} {p : Fin 8 → EReal} {x : Fin 256 → EReal} {n : ℕ} (hn : n < 33)
    (hp : ∀ i : Fin 8, 0 < n → p i = Ssd.padded f (256 * n + i.val - 8) 0) (hx : ∀ r : Fin 256, x r = Ssd.padded f (256 * n + r.val) 0)
    (r : Fin 256) (hr : 240 ≤ 256 * n + r.val) :
    conv w b p x r = Ssd.conv w b (fun R => f R 0) ⟨256 * n + r.val - 240, by omega⟩ := by
  have hs : ∀ j, j ≤ 3 → shift j p x r = Ssd.back j (fun R => f R 0) ⟨256 * n + r.val - 240, by omega⟩ := fun j hj => by
    have e : shift j p x r = Ssd.padded f (256 * n + r.val - j) 0 := by
      unfold shift
      by_cases h : r.val < j
      · rw [if_pos h, hp _ (by omega)]
        exact congrArg (Ssd.padded f · 0) (show 256 * n + (r.val + 8 - j) % 8 - 8 = 256 * n + r.val - j by omega)
      · rw [if_neg h, hx]
        exact congrArg (Ssd.padded f · 0) (show 256 * n + (r.val - j) = 256 * n + r.val - j by omega)
    rw [e]
    unfold Ssd.padded Ssd.back
    by_cases h : 240 ≤ 256 * n + r.val - j
    · rw [dif_pos ⟨h, by omega⟩, dif_pos (show j ≤ 256 * n + r.val - 240 by omega)]
      exact congrArg (f · 0) (Fin.ext (show 256 * n + r.val - j - 240 = 256 * n + r.val - 240 - j by omega))
    · rw [dif_neg (fun q => h q.1), dif_neg (show ¬ j ≤ 256 * n + r.val - 240 by omega)]
  unfold conv Ssd.conv
  rw [hs 1 (by omega), hs 2 (by omega), hs 3 (by omega), hx]
  unfold Ssd.padded
  rw [dif_pos ⟨hr, by omega⟩]

/-- What the carried rows must be when a block begins. -/
def Kept (c : Dev nD) (t : Fin cfg0.N) (p : Vec Ideal S8x1536 .f32) : Prop :=
  ∀ (i : Fin 8) (l : Fin 1536), 0 < t.val → p (ix2 i l) = Ssd.padded (rX m c) (256 * t.val + i.val - 8) l

/-- The convolution of a row of a block behind the zeros in front is that of the row. -/
theorem xc_row (c : Dev nD) (t : Fin cfg0.N) {p : Vec Ideal S8x1536 .f32} (hp : Kept m c t p) (r : Fin 256) (hr : 240 ≤ 256 * t.val + r.val) (l : Fin 1536) :
    conv (fun i => blkW m c t (ix2 i l)) (blkB m c t (ix2 0 l)) (fun i => p (ix2 i l)) (fun i => blkP m c t (ix2 i ⟨2048 + l.val, by omega⟩)) r
      = Ssd.conv (fun i => argW m c (ix2 i l)) (argB m c (ix2 0 l)) (fun R => rX m c R l) ⟨256 * t.val + r.val - 240, by have ht : t.val < 33 := t.isLt; omega⟩ := by
  have ht : t.val < 33 := t.isLt
  simp only [blk_w, blk_b]
  refine conv_eq _ _ (f := fun R _ => rX m c R l) ht (fun i h0 => hp i l h0) (fun r => ?_) r hr
  rw [blk_p]
  unfold Ssd.padded
  by_cases h : 240 ≤ 256 * t.val + r.val ∧ 256 * t.val + r.val < 8448
  · rw [dif_pos h, dif_pos h, joined_x]
  · rw [dif_neg h, dif_neg h]

/-- A row of a block behind the zeros in front is a row of the whole. -/
theorem xbc_row (c : Dev nD) (t : Fin cfg0.N) {p : Vec Ideal S8x1536 .f32} (hp : Kept m c t p) (r : Fin 256) (hr : 240 ≤ 256 * t.val + r.val) (l : Fin 1536) :
    xbc p (blkP m c t) (blkW m c t) (blkB m c t) (ix2 r l) = Ssd.padded (rU m c) (256 * t.val + r.val) l := by
  have ht : t.val < 33 := t.isLt
  rw [xbc_at, xc_row m c t hp r hr]
  unfold Ssd.padded
  rw [dif_pos ⟨hr, by omega⟩]
  rfl

section Real

variable {c : Dev nD} {a : Fin 8208 → Fin 16 → ℝ} {β al D : Fin 16 → ℝ}
variable (ha : ∀ R h, argT m c (ix2 R h) = (a R h : EReal)) (hb : ∀ h, argS m c (ix2 0 h) = (β h : EReal)) (hl : ∀ h, argL m c (ix2 0 h) = (al h : EReal))
variable (hD : ∀ h, argD m c (ix2 0 h) = (D h : EReal)) (h20 : ∀ R h, a R h + β h ≤ 20)

include ha hb h20 in
/-- The step sizes of a block. -/
theorem dtv_row (t : Fin cfg0.N) (r : Fin 256) (h : Fin 16) :
    dtv (BitVec.ofNat 32 (grid0.coords t 0).val) (blkP m c t) (blkS m c t) (ix2 r h) = (Ssd.steps a β (256 * t.val + r.val) h : EReal) := by
  have ht : t.val < 33 := t.isLt
  rw [(idx t).2.2.2.2.2.2.2.2]
  rw [dtv_at ht (a := fun r h => if hP : 240 ≤ 256 * t.val + r.val ∧ 256 * t.val + r.val < 8448 then a ⟨256 * t.val + r.val - 240, by omega⟩ h else 0) (β := β)
    (fun r h => ?_) (fun h => (blk_s m c t h).trans (hb h)) (fun r h hlv => ?_)]
  · unfold T Ssd.steps
    beta_reduce
    by_cases hP : 240 ≤ 256 * t.val + r.val
    · rw [if_pos (show 0 < t.val ∨ 240 ≤ r.val by omega), dif_pos ⟨hP, by omega⟩, dif_pos ⟨hP, by omega⟩]
    · rw [if_neg (show ¬ (0 < t.val ∨ 240 ≤ r.val) by omega), dif_neg (fun q => hP q.1)]
  · rw [blk_p]
    unfold Ssd.padded
    by_cases hP : 240 ≤ 256 * t.val + r.val ∧ 256 * t.val + r.val < 8448
    · rw [dif_pos hP, dif_pos hP, joined_t, ha]
    · rw [dif_neg hP, dif_neg hP, EReal.coe_zero]
  · rw [dif_pos (by omega)]
    exact h20 _ h

/-- The chunk of a block as the body sees it. -/
abbrev seen (c : Dev nD) (a : Fin 8208 → Fin 16 → ℝ) (β : Fin 16 → ℝ) (t : Fin cfg0.N) (p : Vec Ideal S8x1536 .f32) : Ssd.Chunk :=
  Ssd.chunk (fun r l => xbc p (blkP m c t) (blkW m c t) (blkB m c t) (ix2 r l)) (fun r => Ssd.steps a β (256 * t.val + r.val))

/-- It is the chunk of the padded arrays up to dead rows. -/
theorem seen_same (t : Fin cfg0.N) {p : Vec Ideal S8x1536 .f32} (hp : Kept m c t p) : Ssd.Chunk.Same (seen m c a β t p) (Ssd.chunkAt (rU m c) a β t.val) := by
  refine ⟨rfl, fun r => ?_⟩
  by_cases hr : 240 ≤ 256 * t.val + r.val
  · refine Or.inr ⟨?_, ?_, ?_⟩
    · funext k; exact xbc_row m c t hp r hr _
    · funext g n; exact xbc_row m c t hp r hr _
    · funext g n; exact xbc_row m c t hp r hr _
  · exact Or.inl fun h => dif_neg (fun q : 240 ≤ 256 * t.val + r.val ∧ 256 * t.val + r.val < 8448 => hr q.1)

/-- The rates. -/
abbrev rate (al : Fin 16 → ℝ) (h : Fin 16) : ℝ := -Real.exp (al h)

/-- The rates are not positive. -/
theorem rate_nonpos (al : Fin 16 → ℝ) (h : Fin 16) : rate al h ≤ 0 := neg_nonpos.2 (Real.exp_pos _).le

include ha hb hl h20 in
/-- The running sums of a block. -/
theorem acs_row (t : Fin cfg0.N) (p : Vec Ideal S8x1536 .f32) (r : Fin 256) (h : Fin 16) :
    acs (BitVec.ofNat 32 (grid0.coords t 0).val) (blkP m c t) (blkS m c t) (blkL m c t) (ix2 r h) = ((seen m c a β t p).cs (rate al) r h : EReal) :=
  pay20_at (fun h => (blk_l m c t h).trans (hl h)) (fun r h => dtv_row m ha hb h20 t r h) r h

include ha hb hl h20 in
/-- The same, transposed. -/
theorem acsT_row (t : Fin cfg0.N) (p : Vec Ideal S8x1536 .f32) (h : Fin 16) (r : Fin 256) :
    acsT (BitVec.ofNat 32 (grid0.coords t 0).val) (blkP m c t) (blkS m c t) (blkL m c t) (ix2 h r) = ((seen m c a β t p).cs (rate al) r h : EReal) :=
  pay21_at (fun h => (blk_l m c t h).trans (hl h)) (fun r h => dtv_row m ha hb h20 t r h) h r

/-- They fall. -/
theorem seen_le (t : Fin cfg0.N) (p : Vec Ideal S8x1536 .f32) {l s : Fin 256} (hs : s ≤ l) (h : Fin 16) :
    (seen m c a β t p).cs (rate al) l h - (seen m c a β t p).cs (rate al) s h ≤ 0 :=
  Ssd.Chunk.cs_le _ _ (fun l h => Ssd.steps_nonneg a β _ h) (rate_nonpos al) hs h
/-- The second half of the state just after it was stored. -/
theorem half1 (w1 : Vec Ideal S1x128x512 .f32) (L : List (View.Piece (Elt Ideal) S2x128x512 .f32)) (s : Fin 128) (l : Fin 512) :
    View.canon (⟨Rect.unit ![1, 0, 0] ![1, 128, 512] inb_S2x128x512_S1x128x512_1_0_0, w1⟩ :: L) (ix3 1 s l) = w1 (ix3 0 s l) := by
  have e : (ix3 1 s l : S2x128x512.Idx) = (Rect.unit ![1, 0, 0] ![1, 128, 512] inb_S2x128x512_S1x128x512_1_0_0 : Rect S2x128x512).emb (ix3 0 s l) := by
    funext a; fin_cases a <;> exact Fin.ext (by simp [Rect.emb, Rect.unit])
  rw [e]; exact View.canon_cons_emb _ _ _ _
/-- The first half, stored before it. -/
theorem half0 (w1 : Vec Ideal S1x128x512 .f32) (L : List (View.Piece (Elt Ideal) S2x128x512 .f32)) (s : Fin 128) (l : Fin 512) :
    View.canon (⟨Rect.unit ![1, 0, 0] ![1, 128, 512] inb_S2x128x512_S1x128x512_1_0_0, w1⟩ :: L) (ix3 0 s l) = View.canon L (ix3 0 s l) := by
  refine View.canon_cons_of_not_mem _ L fun h => ?_
  have := ((Rect.mem_set_unit (inb := inb_S2x128x512_S1x128x512_1_0_0)).1 h 0).1
  simp at this
/-- The first half just after it was stored alone. -/
theorem half00 (w1 : Vec Ideal S1x128x512 .f32) (L : List (View.Piece (Elt Ideal) S2x128x512 .f32)) (s : Fin 128) (l : Fin 512) :
    View.canon (⟨Rect.unit ![0, 0, 0] ![1, 128, 512] inb_S2x128x512_S1x128x512_0_0_0, w1⟩ :: L) (ix3 0 s l) = w1 (ix3 0 s l) := by
  have e : (ix3 0 s l : S2x128x512.Idx) = (Rect.unit ![0, 0, 0] ![1, 128, 512] inb_S2x128x512_S1x128x512_0_0_0 : Rect S2x128x512).emb (ix3 0 s l) := by
    funext a; fin_cases a <;> exact Fin.ext (by simp [Rect.emb, Rect.unit])
  rw [e]; exact View.canon_cons_emb _ _ _ _
/-- The second half before it is stored. -/
theorem half01 (w1 : Vec Ideal S1x128x512 .f32) (L : List (View.Piece (Elt Ideal) S2x128x512 .f32)) (s : Fin 128) (l : Fin 512) :
    View.canon (⟨Rect.unit ![0, 0, 0] ![1, 128, 512] inb_S2x128x512_S1x128x512_0_0_0, w1⟩ :: L) (ix3 1 s l) = View.canon L (ix3 1 s l) := by
  refine View.canon_cons_of_not_mem _ L fun h => ?_
  have := ((Rect.mem_set_unit (inb := inb_S2x128x512_S1x128x512_0_0_0)).1 h 0).2
  simp at this
/-- The state just after it was stored whole. -/
theorem whole_piece (w : Vec Ideal S2x128x512 .f32) (L : List (View.Piece (Elt Ideal) S2x128x512 .f32)) (x) :
    View.canon (⟨Rect.unit ![0, 0, 0] ![2, 128, 512] inb_S2x128x512_S2x128x512_0_0_0, w⟩ :: L) x = w x := by
  have e : x = (Rect.unit ![0, 0, 0] ![2, 128, 512] inb_S2x128x512_S2x128x512_0_0_0 : Rect S2x128x512).emb x := by
    funext a; fin_cases a <;> exact Fin.ext (by simp [Rect.emb, Rect.unit])
  conv_lhs => rw [e]
  exact View.canon_cons_emb _ _ _ _
/-- What the scratch holds after a grid point: the last eight rows of the block and the state after the chunk. -/
def Carried (c : Dev nD) (a : Fin 8208 → Fin 16 → ℝ) (β al : Fin 16 → ℝ) (n : ℕ) (h : n < cfg0.N) : Prop :=
  (∀ (i : Fin 8) (l : Fin 1536), (outsAt0 m c n h).2.2.2.2.1 (ix2 i l) = Ssd.padded (rX m c) (256 * n + 248 + i.val) l) ∧
  (∀ (g : Fin 2) (s : Fin 128) (l : Fin 512), (outsAt0 m c n h).2.2.2.2.2 (ix3 g s l)
    = Ssd.states (Ssd.chunkAt (rU m c) a β) (rate al) (n + 1) s ⟨512 * g.val + l.val, by omega⟩)
/-- The state a block leaves, from the state it saw. -/
theorem seen_next (t : Fin cfg0.N) {p : Vec Ideal S8x1536 .f32} (hp : Kept m c t p) (al : Fin 16 → ℝ) (s : Fin 128) {j j' : Fin 1024} (e : j.val = j'.val) :
    (seen m c a β t p).next (rate al) (Ssd.states (Ssd.chunkAt (rU m c) a β) (rate al) t.val) s j = Ssd.states (Ssd.chunkAt (rU m c) a β) (rate al) (t.val + 1) s j' := by
  obtain rfl := Fin.ext e
  exact congrFun (congrFun (congrFun ((seen_same m t hp).next (rate al)) _) s) _
/-- The states depend on the numbers alone. -/
theorem states_at (K : ℕ → Ssd.Chunk) (A : Fin 16 → ℝ) (s : Fin 128) {n n' : ℕ} (hn : n = n') {j j' : Fin 1024} (e : j.val = j'.val) : Ssd.states K A n s j = Ssd.states K A n' s j' := by
  obtain rfl := Fin.ext e
  rw [hn]
include ha hb hl h20 in
/-- The state after a block that is not the first. -/
theorem state_B (t : Fin cfg0.N) (h0 : ¬t.val % 33 = 0) (g : Fin 2) (s : Fin 128) (l : Fin 512)
  (hC : Carried m c a β al (t.val - 1) (by omega))  : (outsAt0 m c t.val t.isLt).2.2.2.2.2 (ix3 g s l)
    = Ssd.states (Ssd.chunkAt (rU m c) a β) (rate al) (t.val + 1) s ⟨512 * g.val + l.val, by omega⟩ := by
  have hp : Kept m c t (outsAt0 m c (t.val-1) (by omega)).2.2.2.2.1 := by
    intro i l hn
    rw [hC.1 i l]
    exact congrArg (Ssd.padded (rX m c) · l) (show 256 * (t.val - 1) + 248 + i.val = 256 * t.val + i.val - 8 by omega)
  rw [outsAt0_B m c t h0]
  frame_out
  fin_cases g
  · refine (half0 _ _ s l).trans ((half00 _ _ s l).trans ?_)
    refine (next0_at (S := Ssd.states (Ssd.chunkAt (rU m c) a β) (rate al) t.val) (A := rate al) (fun _ _ => rfl) (dtv_row m ha hb h20 t) (acs_row m ha hb hl h20 t _) (fun n k => ?_) s l).trans ?_
    · pointwise []
      simp only [Idealize.ShloMosaic.read_unread_whole]
      exact (hC.2 0 n k).trans (states_at _ _ _ (by omega) (by simp))
    · simp only [Idealize.ShloMosaic.read_unread_whole]
      exact seen_next m t hp al s (by simp)
  · refine (half1 _ _ s l).trans ?_
    refine (next1_at (S := Ssd.states (Ssd.chunkAt (rU m c) a β) (rate al) t.val) (A := rate al) (fun _ _ => rfl) (dtv_row m ha hb h20 t) (acs_row m ha hb hl h20 t _) (fun n k => ?_) s l).trans ?_
    · pointwise []
      simp only [Idealize.ShloMosaic.read_unread_whole]
      exact (hC.2 1 n k).trans (states_at _ _ _ (by omega) (by simp))
    · simp only [Idealize.ShloMosaic.read_unread_whole]
      exact seen_next m t hp al s (by simp)
/-- The last eight rows of a block are kept. -/
theorem prev_row (t : Fin cfg0.N) (i : Fin 8) (l : Fin 1536) : (outsAt0 m c t.val t.isLt).2.2.2.2.1 (ix2 i l) = Ssd.padded (rX m c) (256 * t.val + 248 + i.val) l := by
  have e : k0_pay24 (F := Ideal) (k0_pay5 (blkP m c t)) (ix2 i l) = Ssd.padded (rX m c) (256 * t.val + 248 + i.val) l := by
    have e' : k0_pay24 (F := Ideal) (k0_pay5 (blkP m c t)) (ix2 i l) = blkP m c t (ix2 ⟨248 + i.val, by omega⟩ ⟨2048 + l.val, by omega⟩) := by
      pointwise [k0_pay24, k0_pay5, k0_pay3]
    rw [e', blk_p]
    show Ssd.padded (joined m c) (256 * t.val + (248 + i.val)) _ = _
    rw [← Nat.add_assoc]
    unfold Ssd.padded
    by_cases h : 240 ≤ 256 * t.val + 248 + i.val ∧ 256 * t.val + 248 + i.val < 8448
    · rw [dif_pos h, dif_pos h, joined_x]
    · rw [dif_neg h, dif_neg h]
  by_cases h0 : t.val % 33 = 0
  · rw [outsAt0_A m c t h0]
    frame_out
    exact e
  · rw [outsAt0_B m c t h0]
    frame_out
    exact e
include ha hb hl h20 in
/-- The state after the first block. -/
theorem state_A (t : Fin cfg0.N) (h0 : t.val % 33 = 0) (g : Fin 2) (s : Fin 128) (l : Fin 512) : (outsAt0 m c t.val t.isLt).2.2.2.2.2 (ix3 g s l)
    = Ssd.states (Ssd.chunkAt (rU m c) a β) (rate al) (t.val + 1) s ⟨512 * g.val + l.val, by omega⟩ := by
  have ht : t.val < 33 := t.isLt
  have hp : Kept m c t (k0_pay1 (F := Ideal)) := fun i l hn => by omega
  have hz : Ssd.states (Ssd.chunkAt (rU m c) a β) (rate al) t.val = fun _ _ => 0 := by
    rw [show t.val = 0 by omega]; rfl
  rw [outsAt0_A m c t h0]
  frame_out
  fin_cases g
  · refine (half0 _ _ s l).trans ((half00 _ _ s l).trans ?_)
    refine (next0_at (S := Ssd.states (Ssd.chunkAt (rU m c) a β) (rate al) t.val) (A := rate al) (fun _ _ => rfl) (dtv_row m ha hb h20 t) (acs_row m ha hb hl h20 t _) (fun n k => ?_) s l).trans ?_
    · rw [hz, View.readCov_eq_canon']
      exact (whole_piece _ _ _).trans (by pointwise [k0_pay2])
    · exact seen_next m t hp al s (by simp)
  · refine (half1 _ _ s l).trans ?_
    refine (next1_at (S := Ssd.states (Ssd.chunkAt (rU m c) a β) (rate al) t.val) (A := rate al) (fun _ _ => rfl) (dtv_row m ha hb h20 t) (acs_row m ha hb hl h20 t _) (fun n k => ?_) s l).trans ?_
    · rw [hz, View.readCov_eq_canon']
      refine (congrArg _ (show _ = ix3 1 n k from ?_)).trans ((half01 _ _ n k).trans ((whole_piece _ _ _).trans (by pointwise [k0_pay2])))
      funext a; fin_cases a <;> exact Fin.ext (by simp [LoadRect.idx, Rect.toLoadRect, Rect.unit])
    · exact seen_next m t hp al s (by simp)

include ha hb hl h20 in
/-- Every grid point leaves the last rows of its block and the state behind it. -/
theorem carried (n : ℕ) (h : n < cfg0.N) : Carried m c a β al n h := by
  induction n with
  | zero => exact ⟨fun i l => prev_row m ⟨0, h⟩ i l, fun g s l => state_A m ha hb hl h20 ⟨0, h⟩ rfl g s l⟩
  | succ n ih =>
    have hN : n + 1 < 33 := h
    exact ⟨fun i l => prev_row m ⟨n + 1, h⟩ i l, fun g s l => state_B m ha hb hl h20 ⟨n + 1, h⟩ (show ¬ (n + 1) % 33 = 0 by omega) g s l (ih (by omega))⟩

/-- The rows of a block, gated and scaled. -/
theorem seen_out (t : Fin cfg0.N) {p : Vec Ideal S8x1536 .f32} (hp : Kept m c t p) (al D : Fin 16 → ℝ) (r : Fin 256) (hr : 240 ≤ 256 * t.val + r.val) :
    (seen m c a β t p).out (rate al) (fun h => (D h : EReal)) (Ssd.states (Ssd.chunkAt (rU m c) a β) (rate al) t.val) r
      = Ssd.outAt (rU m c) a β al D t.val r := by
  funext k
  refine Ssd.Chunk.Same.out _ _ (seen_same m t hp) ⟨?_, ?_, ?_⟩ _ k
  · funext k; exact xbc_row m c t hp r hr _
  · funext g n; exact xbc_row m c t hp r hr _
  · funext g n; exact xbc_row m c t hp r hr _

include ha hb hl hD h20 in
/-- The rows a grid point writes to the layer's output. -/
theorem rows (t : Fin cfg0.N) (r : Fin 256) (R : Fin 8208) (hR : R.val + 240 = 256 * t.val + r.val) (l : Fin 1024) : (outsAt0 m c t.val t.isLt).2.1 (ix2 r l)
    = Ssd.gated (Ssd.outAt (rU m c) a β al D t.val r) (fun k => argZ m c (ix2 R k)) (fun k => argG m c (ix2 0 k)) l := by
  have ht : t.val < 33 := t.isLt
  have hr : 240 ≤ 256 * t.val + r.val := by omega
  have hz : (fun k : Fin 1024 => blkP m c t (ix2 r ⟨k.val, by omega⟩)) = fun k => argZ m c (ix2 R k) := by
    funext k
    rw [blk_p]
    unfold Ssd.padded
    rw [dif_pos ⟨hr, by omega⟩, joined_z]
    exact congrArg (fun R => argZ m c (ix2 R k)) (Fin.ext (show 256 * t.val + r.val - 240 = R.val by omega))
  have hg : (fun k : Fin 1024 => blkG m c t (ix2 0 k)) = fun k => argG m c (ix2 0 k) := funext fun k => blk_g m c t k
  by_cases h0 : t.val % 33 = 0
  · have hp : Kept m c t (k0_pay1 (F := Ideal)) := fun i l hn => by omega
    have hS : Ssd.states (Ssd.chunkAt (rU m c) a β) (rate al) t.val = fun _ _ => 0 := by
      rw [show t.val = 0 by omega]; rfl
    rw [outsAt0_A m c t h0, ← seen_out m t hp al D r hr, ← hz, ← hg]
    frame_out
    refine row_at (fun _ _ => rfl) (dtv_row m ha hb h20 t) (acs_row m ha hb hl h20 t _) (acsT_row m ha hb hl h20 t _) (fun n k => ?_) (fun n k => ?_)
      (fun {_ _} hs h => seen_le m t _ hs h) (fun h => (blk_d m c t h).trans (hD h)) _ _ r l
    · rw [hS, View.readCov_eq_canon']
      exact (whole_piece _ _ _).trans (by pointwise [k0_pay2])
    · rw [hS, View.readCov_eq_canon']
      refine (congrArg _ (show _ = ix3 1 n k from ?_)).trans ((half01 _ _ n k).trans ((whole_piece _ _ _).trans (by pointwise [k0_pay2])))
      funext a; fin_cases a <;> exact Fin.ext (by simp [LoadRect.idx, Rect.toLoadRect, Rect.unit])
  · have hC := carried m ha hb hl h20 (c := c) (t.val - 1) (by omega)
    have hp : Kept m c t (outsAt0 m c (t.val - 1) (by omega)).2.2.2.2.1 := fun i l hn =>
      (hC.1 i l).trans (congrArg (Ssd.padded (rX m c) · l) (show 256 * (t.val - 1) + 248 + i.val = 256 * t.val + i.val - 8 by omega))
    rw [outsAt0_B m c t h0, ← seen_out m t hp al D r hr, ← hz, ← hg]
    frame_out
    simp only [Idealize.ShloMosaic.read_unread_whole]
    refine row_at (fun _ _ => rfl) (dtv_row m ha hb h20 t) (acs_row m ha hb hl h20 t _) (acsT_row m ha hb hl h20 t _) (fun n k => ?_) (fun n k => ?_)
      (fun {_ _} hs h => seen_le m t _ hs h) (fun h => (blk_d m c t h).trans (hD h)) _ _ r l
    · pointwise []
      exact (hC.2 0 n k).trans (states_at _ _ _ (by omega) (by simp))
    · pointwise []
      exact (hC.2 1 n k).trans (states_at _ _ _ (by omega) (by simp))

include ha hb hl hD h20 in
/-- The rows a grid point writes before the gate. -/
theorem rows_y (t : Fin cfg0.N) (r : Fin 256) (hr : 240 ≤ 256 * t.val + r.val) (l : Fin 1024) : (outsAt0 m c t.val t.isLt).1 (ix2 r l)
    = Ssd.outAt (rU m c) a β al D t.val r l := by
  have ht : t.val < 33 := t.isLt
  by_cases h0 : t.val % 33 = 0
  · have hp : Kept m c t (k0_pay1 (F := Ideal)) := fun i l hn => by omega
    have hS : Ssd.states (Ssd.chunkAt (rU m c) a β) (rate al) t.val = fun _ _ => 0 := by
      rw [show t.val = 0 by omega]; rfl
    rw [outsAt0_A m c t h0, ← seen_out m t hp al D r hr]
    frame_out
    refine y_at (fun _ _ => rfl) (dtv_row m ha hb h20 t) (acs_row m ha hb hl h20 t _) (acsT_row m ha hb hl h20 t _) (fun n k => ?_) (fun n k => ?_)
      (fun {_ _} hs h => seen_le m t _ hs h) (fun h => (blk_d m c t h).trans (hD h)) r l
    · rw [hS, View.readCov_eq_canon']
      exact (whole_piece _ _ _).trans (by pointwise [k0_pay2])
    · rw [hS, View.readCov_eq_canon']
      refine (congrArg _ (show _ = ix3 1 n k from ?_)).trans ((half01 _ _ n k).trans ((whole_piece _ _ _).trans (by pointwise [k0_pay2])))
      funext a; fin_cases a <;> exact Fin.ext (by simp [LoadRect.idx, Rect.toLoadRect, Rect.unit])
  · have hC := carried m ha hb hl h20 (c := c) (t.val - 1) (by omega)
    have hp : Kept m c t (outsAt0 m c (t.val - 1) (by omega)).2.2.2.2.1 := fun i l hn =>
      (hC.1 i l).trans (congrArg (Ssd.padded (rX m c) · l) (show 256 * (t.val - 1) + 248 + i.val = 256 * t.val + i.val - 8 by omega))
    rw [outsAt0_B m c t h0, ← seen_out m t hp al D r hr]
    frame_out
    simp only [Idealize.ShloMosaic.read_unread_whole]
    refine y_at (fun _ _ => rfl) (dtv_row m ha hb h20 t) (acs_row m ha hb hl h20 t _) (acsT_row m ha hb hl h20 t _) (fun n k => ?_) (fun n k => ?_)
      (fun {_ _} hs h => seen_le m t _ hs h) (fun h => (blk_d m c t h).trans (hD h)) r l
    · pointwise []
      exact (hC.2 0 n k).trans (states_at _ _ _ (by omega) (by simp))
    · pointwise []
      exact (hC.2 1 n k).trans (states_at _ _ _ (by omega) (by simp))

/-- The convolved rows a grid point writes. -/
theorem rows_xc (t : Fin cfg0.N) (r : Fin 256) (R : Fin 8208) (hR : R.val + 240 = 256 * t.val + r.val) (l : Fin 1536) : (outsAt0 m c t.val t.isLt).2.2.2.1 (ix2 r l)
    = Ssd.conv (fun i => argW m c (ix2 i l)) (argB m c (ix2 0 l)) (fun R => rX m c R l) R := by
  have ht : t.val < 33 := t.isLt
  have key : ∀ p : Vec Ideal S8x1536 .f32, Kept m c t p →
      k0_pay11 (F := Ideal) p (blkW m c t) (k0_pay5 (blkP m c t)) (iota Kind.tc S8x1 32 [0] iota_S8x1_d0_w32) (k0_pay7 (blkP m c t) p (blkW m c t) (blkB m c t)) (k0_pay8 (blkP m c t)) (k0_pay9 p) k0_pay10 (ix2 r l)
        = Ssd.conv (fun i => argW m c (ix2 i l)) (argB m c (ix2 0 l)) (fun R => rX m c R l) R := fun p hp => by
    rw [pay11_at, pay7_at]
    refine (xc_row m c t hp r (by omega) l).trans ?_
    exact congrArg _ (Fin.ext (show 256 * t.val + r.val - 240 = R.val by omega))
  by_cases h0 : t.val % 33 = 0
  · rw [outsAt0_A m c t h0]
    frame_out
    exact key _ fun i l hn => by omega
  · rw [outsAt0_B m c t h0]
    frame_out
    simp only [Idealize.ShloMosaic.read_unread_whole]
    refine key _ fun i l hn => ?_
    have h1 : t.val - 1 < cfg0.N := show t.val - 1 < 33 by omega
    exact (prev_row m ⟨t.val - 1, h1⟩ i l).trans (congrArg (Ssd.padded (rX m c) · l) (show 256 * (t.val - 1) + 248 + i.val = 256 * t.val + i.val - 8 by omega))

/-- The second half of a block of states. -/
theorem saved1 (w : Vec Ideal S1x1x128x512 .f32) (L : List (View.Piece (Elt Ideal) S1x2x128x512 .f32)) (s : Fin 128) (l : Fin 512) :
    View.canon (⟨Rect.unit ![0, 1, 0, 0] ![1, 1, 128, 512] inb_S1x2x128x512_S1x1x128x512_0_1_0_0, w⟩ :: L) (ix4 0 1 s l) = w (ix4 0 0 s l) := by
  have e : (ix4 0 1 s l : S1x2x128x512.Idx) = (Rect.unit ![0, 1, 0, 0] ![1, 1, 128, 512] inb_S1x2x128x512_S1x1x128x512_0_1_0_0 : Rect S1x2x128x512).emb (ix4 0 0 s l) := by
    funext a; fin_cases a <;> exact Fin.ext (by simp [Rect.emb, Rect.unit])
  rw [e]; exact View.canon_cons_emb _ _ _ _
/-- The first half. -/
theorem saved0 (w w' : Vec Ideal S1x1x128x512 .f32) (s : Fin 128) (l : Fin 512) :
    View.canon [⟨Rect.unit ![0, 1, 0, 0] ![1, 1, 128, 512] inb_S1x2x128x512_S1x1x128x512_0_1_0_0, w'⟩, ⟨Rect.unit ![0, 0, 0, 0] ![1, 1, 128, 512] inb_S1x2x128x512_S1x1x128x512_0_0_0_0, w⟩] (ix4 0 0 s l) = w (ix4 0 0 s l) := by
  refine (View.canon_cons_of_not_mem _ _ fun h => ?_).trans ?_
  · have := ((Rect.mem_set_unit (inb := inb_S1x2x128x512_S1x1x128x512_0_1_0_0)).1 h 1).1
    simp at this
  · have e : (ix4 0 0 s l : S1x2x128x512.Idx) = (Rect.unit ![0, 0, 0, 0] ![1, 1, 128, 512] inb_S1x2x128x512_S1x1x128x512_0_0_0_0 : Rect S1x2x128x512).emb (ix4 0 0 s l) := by
      funext a; fin_cases a <;> exact Fin.ext (by simp [Rect.emb, Rect.unit])
    conv_lhs => rw [e]
    exact View.canon_cons_emb _ _ _ _

include ha hb hl h20 in
/-- The state a grid point saves is the one before its chunk. -/
theorem rows_st (t : Fin cfg0.N) (g : Fin 2) (s : Fin 128) (l : Fin 512) : (outsAt0 m c t.val t.isLt).2.2.1 (ix4 0 g s l)
    = Ssd.states (Ssd.chunkAt (rU m c) a β) (rate al) t.val s ⟨512 * g.val + l.val, by omega⟩ := by
  have ht : t.val < 33 := t.isLt
  have e0 : ∀ v : Vec Ideal S1x128x512 .f32, k0_pay35 (F := Ideal) v (ix4 0 0 s l) = v (ix3 0 s l) := fun v => by pointwise [k0_pay35, k0_pay34]
  have e1 : ∀ v : Vec Ideal S1x128x512 .f32, k0_pay55 (F := Ideal) v (ix4 0 0 s l) = v (ix3 0 s l) := fun v => by pointwise [k0_pay55, k0_pay54]
  by_cases h0 : t.val % 33 = 0
  · have hS : Ssd.states (Ssd.chunkAt (rU m c) a β) (rate al) t.val = fun _ _ => 0 := by
      rw [show t.val = 0 by omega]; rfl
    rw [outsAt0_A m c t h0, hS]
    frame_out
    fin_cases g
    · refine (saved0 _ _ s l).trans ((e0 _).trans ?_)
      rw [View.readCov_eq_canon']
      exact (whole_piece _ _ _).trans (by pointwise [k0_pay2])
    · refine (saved1 _ _ s l).trans ((e1 _).trans ?_)
      rw [View.readCov_eq_canon']
      refine (congrArg _ (show _ = ix3 1 s l from ?_)).trans ((half01 _ _ s l).trans ((whole_piece _ _ _).trans (by pointwise [k0_pay2])))
      funext a; fin_cases a <;> exact Fin.ext (by simp [LoadRect.idx, Rect.toLoadRect, Rect.unit])
  · have hC := carried m ha hb hl h20 (c := c) (t.val - 1) (by omega)
    rw [outsAt0_B m c t h0]
    frame_out
    simp only [Idealize.ShloMosaic.read_unread_whole]
    fin_cases g
    · refine (saved0 _ _ s l).trans ((e0 _).trans ?_)
      pointwise []
      exact (hC.2 0 s l).trans (states_at _ _ _ (by omega) (by simp))
    · refine (saved1 _ _ s l).trans ((e1 _).trans ?_)
      pointwise []
      exact (hC.2 1 s l).trans (states_at _ _ _ (by omega) (by simp))

end Real

/-- Row `P` of an array put together from blocks of 256 rows. -/
def stack {n : ℕ} {E : Type} (f : Fin 33 → Fin 256 → Fin n → E) (P : Fin 8448) (l : Fin n) : E := f ⟨P.val / 256, by omega⟩ ⟨P.val % 256, by omega⟩ l

/-- The row inside its block. -/
theorem stack_at {n : ℕ} {E : Type} (f : Fin 33 → Fin 256 → Fin n → E) (P : Fin 8448) (l : Fin n) (t : Fin 33) (r : Fin 256) (e : P.val = t.val * 256 + r.val) : f t r l = stack f P l := by
  unfold stack
  rw [show (⟨P.val / 256, by omega⟩ : Fin 33) = t from Fin.ext (by simp only; omega), show (⟨P.val % 256, by omega⟩ : Fin 256) = r from Fin.ext (by simp only; omega)]

/-- The rows the grid points write before the gate, as one array. -/
def yr (c : Dev nD) : FVec Ideal S8448x1024 .f32 := fun y => stack (fun t r l => (outsAt0 m c t.val t.isLt).1 (ix2 r l)) (y 0) (y 1)
/-- The gated rows. -/
def ys (c : Dev nD) : FVec Ideal S8448x1024 .bf16 := fun y => stack (fun t r l => (outsAt0 m c t.val t.isLt).2.1 (ix2 r l)) (y 0) (y 1)
/-- The saved states. -/
def sts (c : Dev nD) : FVec Ideal S33x2x128x512 .f32 := fun y => (outsAt0 m c (y 0).val (y 0).isLt).2.2.1 (ix4 0 (y 1) (y 2) (y 3))
/-- The convolved rows. -/
def xcs (c : Dev nD) : FVec Ideal S8448x1536 .f32 := fun y => stack (fun t r l => (outsAt0 m c t.val t.isLt).2.2.2.1 (ix2 r l)) (y 0) (y 1)

/-- The results: those arrays, the rows without the 240 in front. -/
def resY (c : Dev nD) : FVec Ideal S8208x1024 .f32 := fun y => yr m c (ix2 ⟨240 + (y 0).val, by have : (y 0).val < 8208 := (y 0).isLt; omega⟩ (y 1))
/-- The layer's output. -/
def res (c : Dev nD) : FVec Ideal S8208x1024 .bf16 := fun y => ys m c (ix2 ⟨240 + (y 0).val, by have : (y 0).val < 8208 := (y 0).isLt; omega⟩ (y 1))
/-- The convolution. -/
def resX (c : Dev nD) : FVec Ideal S8208x1536 .f32 := fun y => xcs m c (ix2 ⟨240 + (y 0).val, by have : (y 0).val < 8208 := (y 0).isLt; omega⟩ (y 1))

/-- After the run the first result of the region holds its rows. -/
theorem final7 (c : Dev nD) : (dats m 0 c).arrAt 7 cfg0.N = yr m c := by
  refine (dats m 0 c).arrAt_eq_of_covers 7 _ (by decide +kernel) fun t hf y => ?_
  blk_simp
  rw [after0_7]
  have ht : t.val < 33 := t.isLt
  obtain ⟨r, l, rfl⟩ : ∃ (r : Fin 256) (l : Fin 1024), y = ix2 r l := ⟨y 0, y 1, eq_ix2 y⟩
  have he : (win0_7.blk t).view.emb (ix2 r l) = ix2 (⟨t.val * 256 + r.val, by omega⟩ : Fin 8448) l := by
    blk_ext [(idx' t).1]
  refine Eq.trans ?_ (congrArg _ he.symm)
  exact stack_at (fun t r l => (outsAt0 m c t.val t.isLt).1 (ix2 r l)) ⟨t.val * 256 + r.val, by omega⟩ l t r rfl

/-- After the run the second result of the region holds its rows. -/
theorem final8 (c : Dev nD) : (dats m 0 c).arrAt 8 cfg0.N = ys m c := by
  refine (dats m 0 c).arrAt_eq_of_covers 8 _ (by decide +kernel) fun t hf y => ?_
  blk_simp
  rw [after0_8]
  have ht : t.val < 33 := t.isLt
  obtain ⟨r, l, rfl⟩ : ∃ (r : Fin 256) (l : Fin 1024), y = ix2 r l := ⟨y 0, y 1, eq_ix2 y⟩
  have he : (win0_8.blk t).view.emb (ix2 r l) = ix2 (⟨t.val * 256 + r.val, by omega⟩ : Fin 8448) l := by
    blk_ext [(idx t).2.2.2.2.2.2.2.1]
  refine Eq.trans ?_ (congrArg _ he.symm)
  exact stack_at (fun t r l => (outsAt0 m c t.val t.isLt).2.1 (ix2 r l)) ⟨t.val * 256 + r.val, by omega⟩ l t r rfl

/-- After the run the fourth result of the region holds its rows. -/
theorem final10 (c : Dev nD) : (dats m 0 c).arrAt 10 cfg0.N = xcs m c := by
  refine (dats m 0 c).arrAt_eq_of_covers 10 _ (by decide +kernel) fun t hf y => ?_
  blk_simp
  rw [after0_10]
  have ht : t.val < 33 := t.isLt
  obtain ⟨r, l, rfl⟩ : ∃ (r : Fin 256) (l : Fin 1536), y = ix2 r l := ⟨y 0, y 1, eq_ix2 y⟩
  have he : (win0_10.blk t).view.emb (ix2 r l) = ix2 (⟨t.val * 256 + r.val, by omega⟩ : Fin 8448) l := by
    blk_ext [(idx' t).2.2]
  refine Eq.trans ?_ (congrArg _ he.symm)
  exact stack_at (fun t r l => (outsAt0 m c t.val t.isLt).2.2.2.1 (ix2 r l)) ⟨t.val * 256 + r.val, by omega⟩ l t r rfl

/-- And the third one the states. -/
theorem final9 (c : Dev nD) : (dats m 0 c).arrAt 9 cfg0.N = sts m c := by
  refine (dats m 0 c).arrAt_eq_of_covers 9 _ (by decide +kernel) fun t hf y => ?_
  blk_simp
  rw [after0_9]
  have ht : t.val < 33 := t.isLt
  obtain ⟨i, g, s, l, rfl⟩ : ∃ (i : Fin 1) (g : Fin 2) (s : Fin 128) (l : Fin 512), y = ix4 i g s l := ⟨y 0, y 1, y 2, y 3, eq_ix4 y⟩
  obtain rfl : i = 0 := Subsingleton.elim _ _
  have he : (win0_9.blk t).view.emb (ix4 0 g s l) = ix4 (⟨t.val, by omega⟩ : Fin 33) g s l := by
    blk_ext [(idx' t).2.1]
  exact (show (outsAt0 m c t.val t.isLt).2.2.1 (ix4 0 g s l) = sts m c (ix4 (⟨t.val, by omega⟩ : Fin 33) g s l) from rfl).trans (congrArg (sts m c) he.symm)

/-- The first result after the slice behind the region. -/
theorem tail_y (c : Dev nD) : (Pipeline.afterTail₀ cfgs (dats m) 0 (V0 m) [hostOps1] c main_v6 : FVec Ideal S8208x1024 .f32) = resY m c := by
  funext y
  unfold Pipeline.afterTail₀
  after_reads_at
  have e : Pipeline.withArrays (cfgs 0).spec c (V0 m c) (fun w => (dats m 0 c).arrAt w (cfgs 0).N) (Proc.tc.devRef main_v5_0)
      = (dats m 0 c).arrAt 7 cfg0.N :=
    Pipeline.withArrays_arr (cfgs 0).spec (by decide) c (V0 m c) (fun w => (dats m 0 c).arrAt w (cfgs 0).N) 7
  rw [e, final7]
  rfl

/-- The second. -/
theorem tail (c : Dev nD) : (Pipeline.afterTail₀ cfgs (dats m) 0 (V0 m) [hostOps1] c main_v7 : FVec Ideal S8208x1024 .bf16) = res m c := by
  funext y
  unfold Pipeline.afterTail₀
  after_reads_at
  have e : Pipeline.withArrays (cfgs 0).spec c (V0 m c) (fun w => (dats m 0 c).arrAt w (cfgs 0).N) (Proc.tc.devRef main_v5_1)
      = (dats m 0 c).arrAt 8 cfg0.N :=
    Pipeline.withArrays_arr (cfgs 0).spec (by decide) c (V0 m c) (fun w => (dats m 0 c).arrAt w (cfgs 0).N) 8
  rw [e, final8]
  rfl

/-- The fourth. -/
theorem tail_x (c : Dev nD) : (Pipeline.afterTail₀ cfgs (dats m) 0 (V0 m) [hostOps1] c main_v8 : FVec Ideal S8208x1536 .f32) = resX m c := by
  funext y
  unfold Pipeline.afterTail₀
  after_reads_at
  have e : Pipeline.withArrays (cfgs 0).spec c (V0 m c) (fun w => (dats m 0 c).arrAt w (cfgs 0).N) (Proc.tc.devRef main_v5_3)
      = (dats m 0 c).arrAt 10 cfg0.N :=
    Pipeline.withArrays_arr (cfgs 0).spec (by decide) c (V0 m c) (fun w => (dats m 0 c).arrAt w (cfgs 0).N) 10
  rw [e, final10]
  rfl

/-- The kernel's run: its results, and its arguments as they were. -/
theorem run : θ_run defs (onTc (τ := τ) (main (F := Ideal))) ⟨m, fun _ => 0, ρ⟩ (fun r => ∀ c : Dev nD,
      r.2.mem ((c.tc : Thread nD τ).loc main_v6) = resY m c
      ∧ r.2.mem ((c.tc : Thread nD τ).loc main_v7) = res m c
      ∧ r.2.mem ((c.tc : Thread nD τ).loc main_v5_2) = sts m c
      ∧ r.2.mem ((c.tc : Thread nD τ).loc main_v8) = resX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  run_from (run_main (F := Ideal) m ρ)
  · exact tail_y m c
  · exact tail m c
  · exact final9 m c
  · exact tail_x m c
  · exact W_main_arg0 m (dats m) c
  · exact W_main_arg1 m (dats m) c
  · exact W_main_arg2 m (dats m) c

section Numbers

variable {c : Dev nD} {a : Fin 8208 → Fin 16 → ℝ} {β al D : Fin 16 → ℝ}
variable (ha : ∀ R h, argT m c (ix2 R h) = (a R h : EReal)) (hb : ∀ h, argS m c (ix2 0 h) = (β h : EReal)) (hl : ∀ h, argL m c (ix2 0 h) = (al h : EReal))
variable (hD : ∀ h, argD m c (ix2 0 h) = (D h : EReal)) (h20 : ∀ R h, a R h + β h ≤ 20)

include ha hb hl hD h20 in
/-- What the results are where the step sizes, the rates and the skip are numbers. -/
theorem resY_eq (R : Fin 8208) (l : Fin 1024) : resY m c (ix2 R l) = Ssd.outAt (rU m c) a β al D ((240 + R.val) / 256) ⟨(240 + R.val) % 256, by omega⟩ l :=
  rows_y m ha hb hl hD h20 ⟨(240 + R.val) / 256, show _ < 33 by omega⟩ ⟨(240 + R.val) % 256, by omega⟩ (show 240 ≤ 256 * ((240 + R.val) / 256) + (240 + R.val) % 256 by omega) l

include ha hb hl hD h20 in
/-- The layer's output. -/
theorem res_eq (R : Fin 8208) (l : Fin 1024) :
    res m c (ix2 R l) = Ssd.gated (Ssd.outAt (rU m c) a β al D ((240 + R.val) / 256) ⟨(240 + R.val) % 256, by omega⟩) (fun k => argZ m c (ix2 R k)) (fun k => argG m c (ix2 0 k)) l :=
  rows m ha hb hl hD h20 ⟨(240 + R.val) / 256, show _ < 33 by omega⟩ ⟨(240 + R.val) % 256, by omega⟩ R (show R.val + 240 = 256 * ((240 + R.val) / 256) + (240 + R.val) % 256 by omega) l

include ha hb hl h20 in
/-- The saved states. -/
theorem sts_eq (n : Fin 33) (g : Fin 2) (s : Fin 128) (l : Fin 512) : sts m c (ix4 n g s l) = Ssd.states (Ssd.chunkAt (rU m c) a β) (rate al) n.val s ⟨512 * g.val + l.val, by omega⟩ :=
  rows_st m ha hb hl h20 n g s l

end Numbers

/-- The convolution, whatever the arguments are. -/
theorem resX_eq (c : Dev nD) (R : Fin 8208) (l : Fin 1536) : resX m c (ix2 R l) = Ssd.conv (fun i => argW m c (ix2 i l)) (argB m c (ix2 0 l)) (fun R => rX m c R l) R :=
  rows_xc m ⟨(240 + R.val) / 256, show _ < 33 by omega⟩ ⟨(240 + R.val) % 256, by omega⟩ R (show R.val + 240 = 256 * ((240 + R.val) / 256) + (240 + R.val) % 256 by omega) l

end Cert.SsdFwdIdeal.RefValue
-- ==== Proof.SsdFwdRef.lean ====
module

public import proofs.«01_k».proof.Proof.Ssd
public import proofs.«01_k».proof.Proof.Gen.SsdFwdRefIdeal.Run

@[expose] public section

set_option maxRecDepth 16384

noncomputable section

/-! The values of the plainly written forward layer, element by element. -/
namespace Cert.SsdFwdRefIdeal.RefValue

open Cert.SsdFwdRefIdeal Cert.SsdFwdRefIdeal.Gen Cert.SsdFwdRefIdeal.Value Idealize.ShloMosaic Idealize.ShloMosaic.TcCoe

/-- A fold of additions is a sum. -/
theorem foldl_add {n : ℕ} (f : Fin n → EReal) (v : EReal) : (List.finRange n).foldl (fun r i => r + f i) v = v + ∑ i, f i := by
  have h : ∀ (L : List (Fin n)) (v : EReal), L.foldl (fun r i => r + f i) v = v + (L.map f).sum := by
    intro L
    induction L with
    | nil => intro v; simp
    | cons a L ih => intro v; rw [List.foldl_cons, ih, List.map_cons, List.sum_cons, add_assoc]
  rw [h, ← List.sum_ofFn, List.ofFn_eq_map]

/-- A window of 256 rows. -/
abbrev W256 : Shape := ⟨4, ![1, 256, 1, 1]⟩

/-- The indices of a window of 256 rows. -/
def row4 : W256.Idx ≃ Fin 256 where
  toFun i := i 1
  invFun l := ix4 0 l 0 0
  left_inv i := by
    funext a
    match a with
    | 0 => exact Subsingleton.elim (α := Fin 1) _ _
    | 1 => rfl
    | 2 => exact Subsingleton.elim (α := Fin 1) _ _
    | 3 => exact Subsingleton.elim (α := Fin 1) _ _
  right_inv l := rfl

/-- The row a window position reads. -/
def turn (l : Fin 256) : Fin 256 ≃ Fin 256 where
  toFun w := ⟨(l.val + w.val + 1) % 256, by omega⟩
  invFun s := ⟨(s.val + 255 - l.val) % 256, by omega⟩
  left_inv w := Fin.ext (by simp only; omega)
  right_inv s := Fin.ext (by simp only; omega)

/-- The running sum along the rows of a chunk. -/
theorem cumsum_at (x : FVec Ideal S33x256x2x8 .f32) (init : FVec Ideal S_ .f32) (h0 : ∀ i, init i = 0) (h) (hu) (n : Fin 33) (l : Fin 256) (g : Fin 2) (r : Fin 8) :
    Host.reduceWindowAdd ![1, 256, 1, 1] ![1, 1, 1, 1] ![0, 255, 0, 0] ![0, 0, 0, 0] x init h hu (t := S33x256x2x8) (ix4 n l g r)
      = ∑ s : Fin 256, if s ≤ l then x (ix4 n s g r) else 0 := by
  show Ideal.hostReduceWindowAdd _ _ _ _ h x _ _ = _
  unfold Ideal.hostReduceWindowAdd Host.reduceWindow
  refine (foldl_add (n := W256.numel) _ _).trans ?_
  rw [h0, zero_add]
  refine Fintype.sum_equiv ((W256.rowMajor.symm.trans row4).trans (turn l)) _ _ fun i => ?_
  have e0 : (W256.rowMajor.symm i 0).val = 0 := Nat.lt_one_iff.1 (W256.rowMajor.symm i 0).isLt
  have e2 : (W256.rowMajor.symm i 2).val = 0 := Nat.lt_one_iff.1 (W256.rowMajor.symm i 2).isLt
  have e3 : (W256.rowMajor.symm i 3).val = 0 := Nat.lt_one_iff.1 (W256.rowMajor.symm i 3).isLt
  have e1 : (W256.rowMajor.symm i 1).val < 256 := (W256.rowMajor.symm i 1).isLt
  have ht : (((W256.rowMajor.symm.trans row4).trans (turn l)) i).val = (l.val + (W256.rowMajor.symm i 1).val + 1) % 256 := rfl
  have hl := l.isLt
  split
  · next hin =>
    have q : 255 ≤ l.val * 1 + (W256.rowMajor.symm i 1).val ∧ _ := hin 1
    have q1 := q.1
    rw [if_pos (show ((W256.rowMajor.symm.trans row4).trans (turn l)) i ≤ l from Fin.le_def.2 (by omega))]
    refine congrArg x (funext fun a => Fin.ext ?_)
    match a with
    | 0 => exact (show n.val * 1 + (W256.rowMajor.symm i 0).val - 0 = n.val by omega)
    | 1 => exact (show l.val * 1 + (W256.rowMajor.symm i 1).val - 255 = _ by rw [show ((ix4 n (((W256.rowMajor.symm.trans row4).trans (turn l)) i) g r : S33x256x2x8.Idx) 1).val = _ from ht]; omega)
    | 2 => exact (show g.val * 1 + (W256.rowMajor.symm i 2).val - 0 = g.val by omega)
    | 3 => exact (show r.val * 1 + (W256.rowMajor.symm i 3).val - 0 = r.val by omega)
  · next hin =>
    rw [if_neg (show ¬ ((W256.rowMajor.symm.trans row4).trans (turn l)) i ≤ l from fun q => hin fun a => ?_)]
    have q := Fin.le_def.1 q
    match a with
    | 0 => exact (show 0 ≤ n.val * 1 + (W256.rowMajor.symm i 0).val ∧ n.val * 1 + (W256.rowMajor.symm i 0).val - 0 < 33 by omega)
    | 1 => exact (show 255 ≤ l.val * 1 + (W256.rowMajor.symm i 1).val ∧ l.val * 1 + (W256.rowMajor.symm i 1).val - 255 < 256 by omega)
    | 2 => exact (show 0 ≤ g.val * 1 + (W256.rowMajor.symm i 2).val ∧ g.val * 1 + (W256.rowMajor.symm i 2).val - 0 < 2 by omega)
    | 3 => exact (show 0 ≤ r.val * 1 + (W256.rowMajor.symm i 3).val ∧ r.val * 1 + (W256.rowMajor.symm i 3).val - 0 < 8 by omega)

/-- A row of an array with 240 rows of zeros in front. -/
theorem pad_eq {k : ℕ} (f : Fin 8208 → Fin k → EReal) {P P' : ℕ} (hP : P' < 8448) (e : P = P') {j j' : Fin k} (ej : j.val = j'.val) (w : ∀ _ : ¬ P < 240, P - 240 < 8208) :
    (if h : P < 240 then 0 else f ⟨P - 240, w h⟩ j) = Ssd.padded f P' j' := by
  subst e
  obtain rfl := Fin.ext ej
  unfold Ssd.padded
  by_cases h : P < 240
  · rw [dif_pos h, dif_neg (fun q => absurd q.1 (by omega))]
  · rw [dif_neg h, dif_pos ⟨by omega, hP⟩]

/-- The larger of two reals as an extended real. -/
theorem coe_max' (x y : ℝ) : ((max x y : ℝ) : EReal) = max (x : EReal) (y : EReal) :=
  Monotone.map_max (f := Real.toEReal) (fun _ _ h => EReal.coe_le_coe_iff.2 h)

/-- The logarithm of a sum of exponentials is the step size. -/
theorem logaddexp_eq (x : ℝ) : max (x : EReal) 0 + Ideal.log1p (Ideal.exp (-FloatOps.absf (F := Ideal) (φ := .f32) (x : EReal))) = (Ssd.softplus x : EReal) := by
  have e : FloatOps.absf (F := Ideal) (φ := .f32) (x : EReal) = ((|x| : ℝ) : EReal) := by
    show max (x : EReal) (-(x : EReal)) = _
    rw [← EReal.coe_neg, ← coe_max']
    rfl
  rw [e, ← EReal.coe_neg, Ideal.exp_coe]
  have e2 : Ideal.log1p (Real.exp (-|x|) : ℝ) = ((Real.log (1 + Real.exp (-|x|)) : ℝ) : EReal) := by
    unfold Ideal.log1p
    rw [← EReal.coe_one, ← EReal.coe_add, Ideal.log_coe, if_neg (not_le.2 (by positivity))]
  rw [e2, ← EReal.coe_zero, ← coe_max', ← EReal.coe_add]
  refine congrArg _ ?_
  unfold Ssd.softplus
  have h1 : 0 < 1 + Real.exp (-|x|) := by positivity
  rcases le_total 0 x with h | h
  · rw [abs_of_nonneg h] at *
    rw [max_eq_left h, show (1 : ℝ) + Real.exp x = Real.exp x * (1 + Real.exp (-x)) by rw [mul_add, ← Real.exp_add]; simp [add_comm], Real.log_mul (by positivity) (by positivity), Real.log_exp]
  · rw [abs_of_nonpos h] at *
    rw [max_eq_right h, zero_add, neg_neg]

variable (V : Valuation τ sig (Elt Ideal))

/-- The argument arrays. -/
abbrev argZ : FVec Ideal S8208x1024 .f32 := V (Proc.devRef .tc main_arg0)
abbrev argX : FVec Ideal S8208x1536 .f32 := V (Proc.devRef .tc main_arg1)
abbrev argT : FVec Ideal S8208x16 .f32 := V (Proc.devRef .tc main_arg2)
abbrev argW : FVec Ideal S4x1536 .f32 := V (Proc.devRef .tc main_arg3)
abbrev argB : FVec Ideal S1x1536 .f32 := V (Proc.devRef .tc main_arg4)
abbrev argS : FVec Ideal S1x16 .f32 := V (Proc.devRef .tc main_arg5)
abbrev argL : FVec Ideal S1x16 .f32 := V (Proc.devRef .tc main_arg6)
abbrev argD : FVec Ideal S1x16 .f32 := V (Proc.devRef .tc main_arg7)
abbrev argG : FVec Ideal S1x1024 .f32 := V (Proc.devRef .tc main_arg8)

/-- The convolved columns. -/
def rU : Fin 8208 → Fin 1536 → EReal :=
  Ssd.act (fun R l => argX V (ix2 R l)) (fun i l => argW V (ix2 i l)) (fun l => argB V (ix2 0 l))

/-- A column moved down. -/
theorem back_eq (j : ℕ) (x : Fin 8208 → EReal) (R : Fin 8208) (w : ∀ _ : ¬ R.val < j, R.val - j < 8208) :
    (if h : R.val < j then 0 else x ⟨R.val - j, w h⟩) = Ssd.back j x R := by
  unfold Ssd.back
  by_cases h : R.val < j
  · rw [dif_pos h, dif_neg (by omega)]
  · rw [dif_neg h, dif_pos (by omega)]

/-- The convolution. -/
theorem v25_at (R : Fin 8208) (l : Fin 1536) : res_main_v25 V (ix2 R l)
    = Ssd.conv (fun i => argW V (ix2 i l)) (argB V (ix2 0 l)) (fun R => argX V (ix2 R l)) R := by
  pointwise [res_main_v25]
  unfold Ssd.conv
  rw [← back_eq 1 _ _ (fun _ => by omega), ← back_eq 2 _ _ (fun _ => by omega), ← back_eq 3 _ _ (fun _ => by omega)]

/-- Its gate. -/
theorem v32_at (R : Fin 8208) (l : Fin 1536) : res_main_v32 V (ix2 R l) = rU V R l := by
  pointwise [res_main_v32]
  rw [v25_at]
  rfl

/-- The inputs, padded and cut into chunks. -/
theorem v51_at (n : Fin 33) (l : Fin 256) (g : Fin 2) (r : Fin 8) (p : Fin 64) : res_main_v51 V (ix5 n l g r p)
    = Ssd.padded (rU V) (256 * n.val + l.val) ⟨512 * g.val + 64 * r.val + p.val, by omega⟩ := by
  pointwise [res_main_v51]
  simp only [v32_at]
  exact pad_eq (rU V) (P := n.val * 256 + l.val) (P' := 256 * n.val + l.val) (by omega) (by omega) (j := ⟨g.val * 512 + r.val * 64 + p.val, by omega⟩) (by simp only; omega) _

/-- The first projection, padded and cut into chunks. -/
theorem v55_at (n : Fin 33) (l : Fin 256) (g : Fin 2) (s : Fin 128) : res_main_v55 V (ix4 n l g s)
    = Ssd.padded (rU V) (256 * n.val + l.val) ⟨1024 + 128 * g.val + s.val, by omega⟩ := by
  pointwise [res_main_v55]
  simp only [v32_at]
  exact pad_eq (rU V) (P := n.val * 256 + l.val) (P' := 256 * n.val + l.val) (by omega) (by omega) (j := ⟨1024 + (g.val * 128 + s.val), by omega⟩) (by simp only; omega) _

/-- The second. -/
theorem v59_at (n : Fin 33) (l : Fin 256) (g : Fin 2) (s : Fin 128) : res_main_v59 V (ix4 n l g s)
    = Ssd.padded (rU V) (256 * n.val + l.val) ⟨1280 + 128 * g.val + s.val, by omega⟩ := by
  pointwise [res_main_v59]
  simp only [v32_at]
  exact pad_eq (rU V) (P := n.val * 256 + l.val) (P' := 256 * n.val + l.val) (by omega) (by omega) (j := ⟨1280 + (g.val * 128 + s.val), by omega⟩) (by simp only; omega) _

/-! ### The states between the chunks -/

/-- The state before chunk `k`, as the loop over the chunks forms it. -/
def st : ℕ → FVec Ideal S1x2x8x64x128 .f32
  | 0 => res_main_v86 V
  | k + 1 => if h : k < 33 then fun y => st k y * res_main_v85 V (ix5 ⟨k, h⟩ (y 1) (y 2) (y 3) (y 4)) + res_main_v80 V (ix5 ⟨k, h⟩ (y 1) (y 2) (y 3) (y 4)) else st k

/-- One turn of the loop. -/
theorem st_step (k : ℕ) (hk : k < 33) (h) :
    addf (mulf (st V k) (extractStridedSlice S1x2x8x64x128 ![k, 0, 0, 0, 0] (res_main_v85 V) h)) (extractStridedSlice S1x2x8x64x128 ![k, 0, 0, 0, 0] (res_main_v80 V) h) = st V (k + 1) := by
  have e : st V (k + 1) = fun y => st V k y * res_main_v85 V (ix5 ⟨k, hk⟩ (y 1) (y 2) (y 3) (y 4)) + res_main_v80 V (ix5 ⟨k, hk⟩ (y 1) (y 2) (y 3) (y 4)) := by
    rw [st, dif_pos hk]
  rw [e]
  funext y
  obtain ⟨i, g, r, p, s, rfl⟩ : ∃ (i : Fin 1) (g : Fin 2) (r : Fin 8) (p : Fin 64) (s : Fin 128), y = ix5 i g r p s := ⟨y 0, y 1, y 2, y 3, y 4, eq_ix5 y⟩
  pointwise []

/-- Three stacks of eleven, one after the other. -/
theorem three_apply (q : Fin 3 → FVec Ideal S11x2x8x64x128 .f32) (h) (n : Fin 33) (g : Fin 2) (r : Fin 8) (p : Fin 64) (s : Fin 128) :
    concatenate S33x2x8x64x128 0 [⟨S11x2x8x64x128, q 0⟩, ⟨S11x2x8x64x128, q 1⟩, ⟨S11x2x8x64x128, q 2⟩] h (ix5 n g r p s)
      = q ⟨n.val / 11, by omega⟩ (ix5 ⟨n.val % 11, by omega⟩ g r p s) := by
  pointwise []
  split
  · next h1 =>
    rw [show (⟨n.val / 11, by omega⟩ : Fin 3) = 0 from Fin.ext (Nat.div_eq_of_lt h1)]
    exact congrArg (fun x => q 0 (ix5 x g r p s)) (Fin.ext (Nat.mod_eq_of_lt h1).symm)
  · next h1 =>
    split
    · next h2 =>
      rw [show (⟨n.val / 11, by omega⟩ : Fin 3) = 1 from Fin.ext (show n.val / 11 = 1 by omega)]
      exact congrArg (fun x => q 1 (ix5 x g r p s)) (Fin.ext (show n.val - 11 = n.val % 11 by omega))
    · next h2 =>
      rw [show (⟨n.val / 11, by omega⟩ : Fin 3) = 2 from Fin.ext (show n.val / 11 = 2 by omega)]
      exact congrArg (fun x => q 2 (ix5 x g r p s)) (Fin.ext (show n.val - 11 - 11 = n.val % 11 by omega))

/-- A stack of eleven. -/
theorem eleven_apply (v : Fin 11 → FVec Ideal S1x2x8x64x128 .f32) (h) (n : Fin 11) (g : Fin 2) (r : Fin 8) (p : Fin 64) (s : Fin 128) :
    concatenate S11x2x8x64x128 0 [⟨S1x2x8x64x128, v 0⟩, ⟨S1x2x8x64x128, v 1⟩, ⟨S1x2x8x64x128, v 2⟩, ⟨S1x2x8x64x128, v 3⟩, ⟨S1x2x8x64x128, v 4⟩, ⟨S1x2x8x64x128, v 5⟩,
      ⟨S1x2x8x64x128, v 6⟩, ⟨S1x2x8x64x128, v 7⟩, ⟨S1x2x8x64x128, v 8⟩, ⟨S1x2x8x64x128, v 9⟩, ⟨S1x2x8x64x128, v 10⟩] h (ix5 n g r p s)
      = v n (ix5 0 g r p s) :=
  concatenate_ofFn_unit_apply (t := S11x2x8x64x128) (s₁ := S1x2x8x64x128) 0 v h rfl rfl (ix5 n g r p s) n rfl (ix5 0 g r p s) (fun b hb => by
    match b with
    | 0 => exact absurd rfl hb
    | 1 => rfl
    | 2 => rfl
    | 3 => rfl
    | 4 => rfl)

/-- The second and third of the three stacks hold the elements from 11 and from 22 on. -/
theorem all_apply (v : Fin 33 → FVec Ideal S1x2x8x64x128 .f32) (h0 h1 h2 h) (n : Fin 33) (g : Fin 2) (r : Fin 8) (p : Fin 64) (s : Fin 128) :
    concatenate S33x2x8x64x128 0 [
        ⟨S11x2x8x64x128, concatenate S11x2x8x64x128 0 [⟨S1x2x8x64x128, v 0⟩, ⟨S1x2x8x64x128, v 1⟩, ⟨S1x2x8x64x128, v 2⟩, ⟨S1x2x8x64x128, v 3⟩, ⟨S1x2x8x64x128, v 4⟩, ⟨S1x2x8x64x128, v 5⟩, ⟨S1x2x8x64x128, v 6⟩, ⟨S1x2x8x64x128, v 7⟩, ⟨S1x2x8x64x128, v 8⟩, ⟨S1x2x8x64x128, v 9⟩, ⟨S1x2x8x64x128, v 10⟩] h0⟩,
        ⟨S11x2x8x64x128, concatenate S11x2x8x64x128 0 [⟨S1x2x8x64x128, v 11⟩, ⟨S1x2x8x64x128, v 12⟩, ⟨S1x2x8x64x128, v 13⟩, ⟨S1x2x8x64x128, v 14⟩, ⟨S1x2x8x64x128, v 15⟩, ⟨S1x2x8x64x128, v 16⟩, ⟨S1x2x8x64x128, v 17⟩, ⟨S1x2x8x64x128, v 18⟩, ⟨S1x2x8x64x128, v 19⟩, ⟨S1x2x8x64x128, v 20⟩, ⟨S1x2x8x64x128, v 21⟩] h1⟩,
        ⟨S11x2x8x64x128, concatenate S11x2x8x64x128 0 [⟨S1x2x8x64x128, v 22⟩, ⟨S1x2x8x64x128, v 23⟩, ⟨S1x2x8x64x128, v 24⟩, ⟨S1x2x8x64x128, v 25⟩, ⟨S1x2x8x64x128, v 26⟩, ⟨S1x2x8x64x128, v 27⟩, ⟨S1x2x8x64x128, v 28⟩, ⟨S1x2x8x64x128, v 29⟩, ⟨S1x2x8x64x128, v 30⟩, ⟨S1x2x8x64x128, v 31⟩, ⟨S1x2x8x64x128, v 32⟩] h2⟩] h (ix5 n g r p s)
      = v n (ix5 0 g r p s) := by
  have three := three_apply ![_, _, _] h n g r p s
  refine three.trans ?_
  rcases (by omega : n.val / 11 = 0 ∨ n.val / 11 = 1 ∨ n.val / 11 = 2) with e | e | e
  · rw [show (⟨n.val / 11, by omega⟩ : Fin 3) = 0 from Fin.ext e]
    refine (eleven_apply (fun k => v ⟨k.val, by omega⟩) h0 _ g r p s).trans ?_
    exact congrArg (fun x => v x (ix5 0 g r p s)) (Fin.ext (show n.val % 11 = n.val by omega))
  · rw [show (⟨n.val / 11, by omega⟩ : Fin 3) = 1 from Fin.ext e]
    refine (eleven_apply (fun k => v ⟨11 + k.val, by omega⟩) h1 _ g r p s).trans ?_
    exact congrArg (fun x => v x (ix5 0 g r p s)) (Fin.ext (show 11 + n.val % 11 = n.val by omega))
  · rw [show (⟨n.val / 11, by omega⟩ : Fin 3) = 2 from Fin.ext e]
    refine (eleven_apply (fun k => v ⟨22 + k.val, by omega⟩) h2 _ g r p s).trans ?_
    exact congrArg (fun x => v x (ix5 0 g r p s)) (Fin.ext (show 22 + n.val % 11 = n.val by omega))

/-- The states before the chunks, as they are stacked. -/
def stacked (k : Fin 33) : FVec Ideal S1x2x8x64x128 .f32 :=
  ![res_main_v86 V, res_main_v90 V, res_main_v94 V, res_main_v98 V, res_main_v102 V, res_main_v106 V, res_main_v110 V, res_main_v114 V, res_main_v118 V, res_main_v122 V, res_main_v126 V, res_main_v130 V, res_main_v134 V, res_main_v138 V, res_main_v142 V, res_main_v146 V, res_main_v150 V, res_main_v154 V, res_main_v158 V, res_main_v162 V, res_main_v166 V, res_main_v170 V, res_main_v174 V, res_main_v178 V, res_main_v182 V, res_main_v186 V, res_main_v190 V, res_main_v194 V, res_main_v198 V, res_main_v202 V, res_main_v206 V, res_main_v210 V, res_main_v214 V] k

/-- They are the states of the loop. -/
theorem stacked_eq (k : Fin 33) : stacked V k = st V k.val := by
  have h0 : res_main_v86 V = st V 0 := rfl
  unfold stacked
  fin_cases k <;> simp [res_main_v90, res_main_v94, res_main_v98, res_main_v102, res_main_v106, res_main_v110, res_main_v114, res_main_v118, res_main_v122, res_main_v126, res_main_v130, res_main_v134, res_main_v138, res_main_v142, res_main_v146, res_main_v150, res_main_v154, res_main_v158, res_main_v162, res_main_v166, res_main_v170, res_main_v174, res_main_v178, res_main_v182, res_main_v186, res_main_v190, res_main_v194, res_main_v198, res_main_v202, res_main_v206, res_main_v210, res_main_v214, h0, st_step]

/-- The stacked states, one by one. -/
theorem v222_eq (n : Fin 33) (g : Fin 2) (r : Fin 8) (p : Fin 64) (s : Fin 128) : res_main_v222 V (ix5 n g r p s) = st V n.val (ix5 0 g r p s) := by
  rw [← stacked_eq V n, res_main_v222]
  exact all_apply (stacked V) _ _ _ _ n g r p s
section Real

variable {V} {a : Fin 8208 → Fin 16 → ℝ} {β al D : Fin 16 → ℝ}
variable (ha : ∀ R h, argT V (ix2 R h) = (a R h : EReal)) (hb : ∀ h, argS V (ix2 0 h) = (β h : EReal)) (hl : ∀ h, argL V (ix2 0 h) = (al h : EReal))
variable (hD : ∀ h, argD V (ix2 0 h) = (D h : EReal))

include ha hb in
/-- The raw step sizes plus their bias. -/
theorem v34_at (R : Fin 8208) (h : Fin 16) : res_main_v34 V (ix2 R h) = ((a R h + β h : ℝ) : EReal) := by
  pointwise [res_main_v34]
  exact (congrArg₂ (· + ·) (ha R h) (hb h)).trans (EReal.coe_add _ _).symm

/-- The constant zero. -/
theorem cst_at (i : S_.Idx) : (res_main_cst_4 V : FVec Ideal S_ .f32) i = (0 : EReal) := by
  pointwise [res_main_cst_4]

include ha hb in
/-- The same less zero. -/
theorem v38_at (R : Fin 8208) (h : Fin 16) : res_main_v38 V (ix2 R h) = ((a R h + β h : ℝ) : EReal) := by
  pointwise [res_main_v38]
  rw [v34_at ha hb, cst_at, sub_zero]

include ha hb in
/-- The step sizes, padded and cut into chunks. -/
theorem v62_at (n : Fin 33) (l : Fin 256) (g : Fin 2) (r : Fin 8) : res_main_v62 V (ix4 n l g r)
    = (Ssd.steps a β (256 * n.val + l.val) ⟨8 * g.val + r.val, by omega⟩ : EReal) := by
  pointwise [res_main_v62]
  simp only [v34_at ha hb, v38_at ha hb, cst_at, ne_eq, not_true, if_false, logaddexp_eq]
  refine (pad_eq (fun R h => (Ssd.softplus (a R h + β h) : EReal)) (P' := 256 * n.val + l.val) (P := n.val * 256 + l.val) (j := ⟨g.val * 8 + r.val, by omega⟩) (j' := ⟨8 * g.val + r.val, by omega⟩) (by omega) (by omega) (by simp only; omega) _).trans ?_
  unfold Ssd.padded Ssd.steps
  split
  · rfl
  · exact EReal.coe_zero.symm

/-- The rates. -/
abbrev rate (al : Fin 16 → ℝ) (h : Fin 16) : ℝ := -Real.exp (al h)

include ha hb hl in
/-- The running sums. -/
theorem v69_at (n : Fin 33) (l : Fin 256) (g : Fin 2) (r : Fin 8) : res_main_v69 V (ix4 n l g r)
    = ((Ssd.chunkAt (rU V) a β n).cs (rate al) l ⟨8 * g.val + r.val, by omega⟩ : EReal) := by
  unfold res_main_v69
  refine (cumsum_at _ _ (fun i => by pointwise []) _ _ n l g r).trans ?_
  have e : ∀ s : Fin 256, (mulf (res_main_v62 V) (broadcastInDim S33x256x2x8 ![0, 1, 2, 3] bcast_S1x1x2x8_S33x256x2x8_0_1_2_3 (broadcastInDim S1x1x2x8 ![2, 3] bcast_S2x8_S1x1x2x8_2_3 (Host.negf (shapeCast _ (Host.exp (V (Proc.devRef .tc main_arg6))) shapeCasts_S1x16_S2x8))))) (ix4 n s g r)
      = ((Ssd.steps a β (256 * n.val + s.val) ⟨8 * g.val + r.val, by omega⟩ * rate al ⟨8 * g.val + r.val, by omega⟩ : ℝ) : EReal) := fun s => by
    pointwise []
    rw [v62_at ha hb, show V (Proc.devRef .tc main_arg6) (ix2 0 ⟨g.val * 8 + r.val, by omega⟩) = (al ⟨8 * g.val + r.val, by omega⟩ : EReal) from
      (hl _).trans (congrArg (fun h => (al h : EReal)) (Fin.ext (by simp only; omega))), Ideal.exp_coe, ← EReal.coe_neg, ← EReal.coe_mul]
  simp only [e]
  unfold Ssd.Chunk.cs
  rw [← RmsGrad.sum_coe]
  refine Finset.sum_congr rfl fun s _ => ?_
  split
  · rfl
  · exact EReal.coe_zero.symm

include ha hb in
/-- Inputs times steps. -/
theorem v72_at (n : Fin 33) (l : Fin 256) (g : Fin 2) (r : Fin 8) (p : Fin 64) : res_main_v72 V (ix5 n l g r p)
    = (Ssd.chunkAt (rU V) a β n).xdt l ⟨512 * g.val + 64 * r.val + p.val, by omega⟩ := by
  pointwise [res_main_v72]
  rw [v62_at ha hb, v51_at]
  unfold Ssd.Chunk.xdt
  refine congrArg₂ (· * ·) rfl (congrArg (fun h => (Ssd.steps a β (256 * n.val + l.val) h : EReal)) (Fin.ext ?_))
  show 8 * g.val + r.val = (512 * g.val + 64 * r.val + p.val) / 64
  omega

/-- The exponential of a difference of reals. -/
theorem exp_sub (x y : ℝ) : Ideal.exp ((x : EReal) - (y : EReal)) = ((Real.exp (x - y) : ℝ) : EReal) := by
  rw [← EReal.coe_sub, Ideal.exp_coe]

/-- Column `p` of head `r` of group `g`. -/
abbrev col (g : Fin 2) (r : Fin 8) (p : Fin 64) : Fin 1024 := ⟨512 * g.val + 64 * r.val + p.val, by omega⟩

/-- Its head. -/
theorem hd_col (g : Fin 2) (r : Fin 8) (p : Fin 64) : Ssd.hd (col g r p) = ⟨8 * g.val + r.val, by omega⟩ := Fin.ext (by
  show (512 * g.val + 64 * r.val + p.val) / 64 = 8 * g.val + r.val
  omega)

/-- Its group. -/
theorem gp_col (g : Fin 2) (r : Fin 8) (p : Fin 64) : Ssd.gp (col g r p) = g := Fin.ext (by
  show (512 * g.val + 64 * r.val + p.val) / 512 = g.val
  omega)

include ha hb hl in
/-- What a chunk adds to the state. -/
theorem v80_at (n : Fin 33) (g : Fin 2) (r : Fin 8) (p : Fin 64) (s : Fin 128) :
    res_main_v80 V (ix5 n g r p s) = (∑ l, (Ssd.chunkAt (rU V) a β n).B l g s * ((Ssd.chunkAt (rU V) a β n).xdt l (col g r p)
      * (Ssd.chunkAt (rU V) a β n).dec (rate al) 255 l ⟨8 * g.val + r.val, by omega⟩) : EReal) := by
  pointwise [res_main_v80]
  show (_ : EReal) = _
  refine Finset.sum_congr rfl fun l _ => ?_
  rw [v69_at ha hb hl, v69_at ha hb hl, v72_at ha hb, v55_at, exp_sub, mul_comm (Real.exp _ : EReal), mul_comm (_ * _)]
  rfl

include ha hb hl in
/-- The decay over a chunk. -/
theorem v85_at (n : Fin 33) (g : Fin 2) (r : Fin 8) (p : Fin 64) (s : Fin 128) :
    res_main_v85 V (ix5 n g r p s) = ((Real.exp ((Ssd.chunkAt (rU V) a β n).cs (rate al) 255 ⟨8 * g.val + r.val, by omega⟩) : ℝ) : EReal) := by
  pointwise [res_main_v85]
  rw [v69_at ha hb hl, Ideal.exp_coe]

include ha hb hl in
/-- The state before each chunk. -/
theorem st_at (g : Fin 2) (r : Fin 8) (p : Fin 64) (s : Fin 128) (k : ℕ) (hk : k ≤ 33) :
    st V k (ix5 0 g r p s) = Ssd.states (Ssd.chunkAt (rU V) a β) (rate al) k s (col g r p) := by
  induction k with
  | zero =>
    unfold st Ssd.states
    pointwise [res_main_v86]
  | succ k ih =>
    rw [st, dif_pos (by omega)]
    show st V k (ix5 0 g r p s) * res_main_v85 V (ix5 ⟨k, _⟩ g r p s) + res_main_v80 V (ix5 ⟨k, _⟩ g r p s) = (Ssd.chunkAt (rU V) a β k).next _ _ s (col g r p)
    rw [ih (by omega), v85_at ha hb hl, v80_at ha hb hl]
    unfold Ssd.Chunk.next
    rw [hd_col, gp_col]

end Real

end Cert.SsdFwdRefIdeal.RefValue
-- ==== Proof.SsdFwdRefOut.lean ====
module

public import Idealize.ShloMosaic.Lib.WordCmp
public import proofs.«01_k».proof.Proof.Ssd
public import proofs.«01_k».proof.Proof.SsdFwdRef
public import proofs.«01_k».proof.Proof.Gen.SsdFwdRefIdeal.Run

@[expose] public section

set_option maxRecDepth 16384

noncomputable section

/-! The output of the plainly written forward layer, from its states. -/
namespace Cert.SsdFwdRefIdeal.RefValue

open Cert.SsdFwdRefIdeal Cert.SsdFwdRefIdeal.Gen Cert.SsdFwdRefIdeal.Value Idealize.ShloMosaic Idealize.ShloMosaic.TcCoe

variable (V : Valuation τ sig (Elt Ideal))

/-- The mask: below the diagonal the exponential, above it nothing. -/
theorem masked (l s : Fin 256) (x : EReal) :
    Ideal.exp (Scalar.select (Scalar.select (IntOp.cmpi .sge (IntOp.addi (BitVec.ofNat 32 l.val) 0#32) (BitVec.ofNat 32 s.val)) 1#1 0#1) x (id (constant (F := Ideal) S_ .f32 4286578688#32) ix0))
      = if s ≤ l then Ideal.exp x else 0 := by
  have h0 : IntOp.addi (BitVec.ofNat 32 l.val) 0#32 = BitVec.ofNat 32 l.val := BitVec.add_zero _
  have e := WordCmp.cmpi_sge_ofNat_eq_one_iff (w := 32) (a := l.val) (b := s.val) (by have := l.isLt; omega) (by have := s.isLt; omega)
  have e0 := WordCmp.cmpi_sge_ofNat_eq_zero_iff (w := 32) (a := l.val) (b := s.val) (by have := l.isLt; omega) (by have := s.isLt; omega)
  rw [h0]
  by_cases h : s ≤ l
  · rw [e.2 h, if_pos h]
    rfl
  · rw [e0.2 h, if_neg h]
    show Ideal.exp (Ideal.ofBits .f32 4286578688#32) = 0
    rw [show Ideal.ofBits .f32 4286578688#32 = ⊥ by simp [Ideal.ofBits, Ideal.ieee], Ideal.exp_bot]

variable {V} {a : Fin 8208 → Fin 16 → ℝ} {β al D : Fin 16 → ℝ}
variable (ha : ∀ R h, argT V (ix2 R h) = (a R h : EReal)) (hb : ∀ h, argS V (ix2 0 h) = (β h : EReal)) (hl : ∀ h, argL V (ix2 0 h) = (al h : EReal))
variable (hD : ∀ h, argD V (ix2 0 h) = (D h : EReal))

/-- The output of a chunk before the gate, from the values it is made of. -/
theorem core {K : Ssd.Chunk} {A : Fin 16 → ℝ} {Dv : Fin 16 → EReal} {S : Fin 128 → Fin 1024 → EReal} (n : Fin 33) (l : Fin 256) (g : Fin 2) (r : Fin 8) (p : Fin 64)
    {q72 q51 : FVec Ideal S33x256x2x8x64 .f32} {q55 q59 : FVec Ideal S33x256x2x128 .f32} {q69 : FVec Ideal S33x256x2x8 .f32} {q222 : FVec Ideal S33x2x8x64x128 .f32} {d : EReal}
    (h72 : ∀ x, q72 (ix5 n x g r p) = K.xdt x (col g r p)) (h55 : ∀ x y, q55 (ix4 n x g y) = K.B x g y) (h59 : ∀ y, q59 (ix4 n l g y) = K.C l g y)
    (h69 : ∀ x, q69 (ix4 n x g r) = (K.cs A x ⟨8 * g.val + r.val, by omega⟩ : EReal)) (h222 : ∀ y, q222 (ix5 n g r p y) = S y (col g r p))
    (h51 : q51 (ix5 n l g r p) = K.X l (col g r p)) (hd : d = Dv ⟨8 * g.val + r.val, by omega⟩) :
    (∑ x : Fin 256, q72 (ix5 n x g r p) * ((∑ y : Fin 128, q55 (ix4 n x g y) * q59 (ix4 n l g y))
        * Ideal.exp (Scalar.select (Scalar.select (IntOp.cmpi .sge (IntOp.addi (BitVec.ofNat 32 l.val) 0#32) (BitVec.ofNat 32 x.val)) 1#1 0#1)
            (q69 (ix4 n l g r) - q69 (ix4 n x g r)) (id (constant (F := Ideal) S_ .f32 4286578688#32) ix0))))
      + (∑ y : Fin 128, q222 (ix5 n g r p y) * q59 (ix4 n l g y)) * Ideal.exp (q69 (ix4 n l g r)) + q51 (ix5 n l g r p) * d
    = K.out A Dv S l (col g r p) := by
  rw [h51, hd, h69, Ideal.exp_coe]
  unfold Ssd.Chunk.out Ssd.Chunk.diag Ssd.Chunk.off
  rw [hd_col, gp_col]
  refine congrArg₂ (· + ·) (congrArg₂ (· + ·) (Finset.sum_congr rfl fun x _ => ?_) (congrArg (· * _) (Finset.sum_congr rfl fun y _ => ?_))) rfl
  · rw [masked, h72, h69, exp_sub]
    split
    · rw [mul_comm]
      refine congrArg₂ (· * ·) (congrArg₂ (· * ·) (Finset.sum_congr rfl fun y _ => ?_) rfl) rfl
      rw [h55, h59, mul_comm]
    · rw [mul_zero, mul_zero]
  · rw [h222, h59, mul_comm]

/-- The reference's output before the gate. -/
abbrev resY (V : Valuation τ sig (Elt Ideal)) : FVec Ideal S8208x1024 .f32 :=
  extractStridedSlice S8208x1024 ![240, 0] (shapeCast _ (addf (addf (transpose S33x256x2x8x64 [0, 4, 1, 2, 3] (Host.dotGeneral (φ₁ := .f32) (φ₂ := .f32) dot_S33x256x2x8x64_S33x256x256x2x8_S33x2x8x64x256_1_2_4_1_023_034 none (res_main_v72 V) (mulf (broadcastInDim S33x256x256x2x8 ![0, 1, 2, 3, 4] bcast_S33x256x256x2x1_S33x256x256x2x8_0_1_2_3_4 (broadcastInDim S33x256x256x2x1 ![0, 1, 2, 3] bcast_S33x256x256x2_S33x256x256x2x1_0_1_2_3 (transpose S33x256x256x2 [0, 3, 2, 1] (Host.dotGeneral (φ₁ := .f32) (φ₂ := .f32) dot_S33x256x2x128_S33x256x2x128_S33x2x256x256_3_3_1_1_02_02 none (res_main_v55 V) (res_main_v59 V)) transposes_S33x2x256x256_S33x256x256x2_0_3_2_1))) (Host.exp (select (broadcastInDim S33x256x256x2x8 ![1, 2, 3, 4] bcast_S256x256x1x1_S33x256x256x2x8_1_2_3_4 (broadcastInDim S256x256x1x1 ![0, 1] bcast_S256x256_S256x256x1x1_0_1 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1))))) (subf (broadcastInDim S33x256x256x2x8 ![0, 1, 2, 3, 4] bcast_S33x256x1x2x8_S33x256x256x2x8_0_1_2_3_4 (broadcastInDim S33x256x1x2x8 ![0, 1, 3, 4] bcast_S33x256x2x8_S33x256x1x2x8_0_1_3_4 (res_main_v69 V))) (broadcastInDim S33x256x256x2x8 ![0, 1, 2, 3, 4] bcast_S33x1x256x2x8_S33x256x256x2x8_0_1_2_3_4 (broadcastInDim S33x1x256x2x8 ![0, 2, 3, 4] bcast_S33x256x2x8_S33x1x256x2x8_0_2_3_4 (res_main_v69 V)))) (broadcastInDim S33x256x256x2x8 ![] bcast_S_S33x256x256x2x8 (id (constant S_ .f32 0xFF800000#32))))))) transposes_S33x2x8x64x256_S33x256x2x8x64_0_4_1_2_3) (mulf (transpose S33x256x2x8x64 [0, 4, 1, 2, 3] (Host.dotGeneral (φ₁ := .f32) (φ₂ := .f32) dot_S33x2x8x64x128_S33x256x2x128_S33x2x8x64x256_4_3_23_1_01_02 none (res_main_v222 V) (res_main_v59 V)) transposes_S33x2x8x64x256_S33x256x2x8x64_0_4_1_2_3) (broadcastInDim S33x256x2x8x64 ![0, 1, 2, 3, 4] bcast_S33x256x2x8x1_S33x256x2x8x64_0_1_2_3_4 (broadcastInDim S33x256x2x8x1 ![0, 1, 2, 3] bcast_S33x256x2x8_S33x256x2x8x1_0_1_2_3 (Host.exp (res_main_v69 V)))))) (mulf (res_main_v51 V) (broadcastInDim S33x256x2x8x64 ![0, 1, 2, 3, 4] bcast_S1x1x2x8x1_S33x256x2x8x64_0_1_2_3_4 (broadcastInDim S1x1x2x8x1 ![2, 3, 4] bcast_S2x8x1_S1x1x2x8x1_2_3_4 (shapeCast _ (V (Proc.devRef .tc main_arg7)) shapeCasts_S1x16_S2x8x1))))) shapeCasts_S33x256x2x8x64_S8448x1024) slices_S8448x1024_S8208x1024_240_0

include ha hb hl hD in
/-- What it is where the step sizes, the rates and the skip are numbers. -/
theorem resY_eq (R : Fin 8208) (k : Fin 1024) : resY V (ix2 R k)
    = Ssd.outAt (rU V) a β al D ((240 + R.val) / 256) ⟨(240 + R.val) % 256, by omega⟩ k := by
  pointwise []
  have hn : (240 + R.val) / 256 < 33 := by omega
  refine (core (Dv := fun h => (D h : EReal)) (n := ⟨(240 + R.val) / 256, hn⟩) (l := ⟨(240 + R.val) % 256, by omega⟩) (g := ⟨k.val / 512, by omega⟩) (r := ⟨k.val / 64 % 8, by omega⟩) (p := ⟨k.val % 64, by omega⟩)
    (fun x => v72_at ha hb _ x _ _ _) (fun x y => v55_at V _ x _ y) (fun y => v59_at V _ _ _ y) (fun x => v69_at ha hb hl _ x _ _)
    (fun y => (v222_eq V _ _ _ _ y).trans (st_at ha hb hl _ _ _ y _ hn.le)) (v51_at V _ _ _ _ _)
    ((hD _).trans (congrArg (fun h => (D h : EReal)) (Fin.ext (show k.val / 512 * 8 + k.val / 64 % 8 = 8 * (k.val / 512) + k.val / 64 % 8 by omega))))).trans ?_
  exact congrArg (Ssd.outAt (rU V) a β al D ((240 + R.val) / 256) ⟨(240 + R.val) % 256, by omega⟩) (Fin.ext (show 512 * (k.val / 512) + 64 * (k.val / 64 % 8) + k.val % 64 = k.val by omega))

include ha hb hl hD in
/-- The gated output. -/
theorem v261_at (R : Fin 8208) (k : Fin 1024) : res_main_v261 V (ix2 R k)
    = Ssd.outAt (rU V) a β al D ((240 + R.val) / 256) ⟨(240 + R.val) % 256, by omega⟩ k * Ssd.silu (argZ V (ix2 R k)) := by
  have e : res_main_v261 V (ix2 R k) = resY V (ix2 R k) * Ssd.silu (argZ V (ix2 R k)) := by
    unfold res_main_v261 resY
    generalize extractStridedSlice S8208x1024 _ _ _ = y
    pointwise []
    rfl
  rw [e, resY_eq ha hb hl hD]

/-- The states before the chunks, rows and columns of a group swapped. -/
abbrev resS (V : Valuation τ sig (Elt Ideal)) : FVec Ideal S33x2x128x512 .f32 :=
  shapeCast _ (transpose S33x2x128x8x64 [0, 1, 4, 2, 3] (res_main_v222 V) transposes_S33x2x8x64x128_S33x2x128x8x64_0_1_4_2_3) shapeCasts_S33x2x128x8x64_S33x2x128x512

include ha hb hl in
/-- What they are. -/
theorem resS_eq (n : Fin 33) (g : Fin 2) (s : Fin 128) (l : Fin 512) : resS V (ix4 n g s l)
    = Ssd.states (Ssd.chunkAt (rU V) a β) (rate al) n.val s ⟨512 * g.val + l.val, by omega⟩ := by
  pointwise []
  refine (v222_eq V n g ⟨l.val / 64, by omega⟩ ⟨l.val % 64, by omega⟩ s).trans ((st_at ha hb hl _ _ _ s _ n.isLt.le).trans ?_)
  exact congrArg (Ssd.states (Ssd.chunkAt (rU V) a β) (rate al) n.val s) (Fin.ext (show 512 * g.val + 64 * (l.val / 64) + l.val % 64 = 512 * g.val + l.val by omega))

/-- The reference's result. -/
abbrev res (V : Valuation τ sig (Elt Ideal)) : FVec Ideal S8208x1024 .bf16 :=
  truncf .bf16 (mulf (mulf (res_main_v261 V) (broadcastInDim S8208x1024 ![0, 1] bcast_S8208x1_S8208x1024_0_1 (Host.rsqrt (addf (Host.divf (broadcastInDim S8208x1 ![0] bcast_S8208_S8208x1_0 (Host.reduceAdd (mulf (res_main_v261 V) (res_main_v261 V)) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (broadcastInDim S8208x1024 ![0, 1] bcast_S1x1024_S8208x1024_0_1 (V (Proc.devRef .tc main_arg8)))) bitsLt_bf16_f32

include ha hb hl hD in
/-- What it is where the step sizes, the rates and the skip are numbers. -/
theorem res_eq (R : Fin 8208) (k : Fin 1024) : res V (ix2 R k)
    = Ssd.gated (Ssd.outAt (rU V) a β al D ((240 + R.val) / 256) ⟨(240 + R.val) % 256, by omega⟩) (fun k => argZ V (ix2 R k)) (fun k => argG V (ix2 0 k)) k := by
  pointwise []
  simp only [v261_at ha hb hl hD]
  rfl

end Cert.SsdFwdRefIdeal.RefValue
-- ==== Proof.SsdFwd.lean ====
/-
  The value of the forward call of the state space layer: convolution, step sizes, the recurrence in chunks of 256 rows,
  the gate and its norm, with the values it saves for the backward call. Both programs are read down to the recurrence of `Ssd.lean`; here the two readings meet.
-/
module

public import proofs.«01_k».proof.Defs
public import proofs.«01_k».proof.Proof.RmsGrad
public import proofs.«01_k».proof.Proof.SsdFwdRun
public import proofs.«01_k».proof.Proof.SsdFwdRefOut
public import proofs.«01_k».proof.Proof.Gen.SsdFwd.Frame
public import proofs.«01_k».proof.Proof.Gen.SsdFwdIdeal.Frame
public import proofs.«01_k».proof.Proof.Gen.SsdFwdRefIdeal.Run
public import Idealize.ShloMosaic.Lib.Pointwise
public import Idealize.ShloMosaic.Lib.Quiescent
public import Idealize.ShloMosaic.Lib.Claim

@[expose] public section

set_option maxRecDepth 16384

noncomputable section

namespace Cert.Proof.SsdFwd

open Idealize.ShloMosaic Idealize.ShloMosaic.TcCoe Idealize.SL.Sem

/-- The precondition's masks have the shapes they are stated at. -/
instance facts_pre : Cert.Pre_ssdf_real.Facts := ⟨by decide, by decide, by decide⟩

/-- The kernel runs, leaves its arguments as they were and ends with every semaphore at zero. -/
theorem frame_kernel : Cert.quiescent_SsdFwd := fun m ρ _ => Cert.SsdFwd.Gen.frame m ρ

/-- So does its idealization. -/
theorem frame_ideal : Cert.quiescent_SsdFwdIdeal := fun m ρ _ => Cert.SsdFwdIdeal.Gen.frame m ρ
theorem frame_ideal_pre : Cert.quiescent_SsdFwdIdeal_pre_ssdf_real := fun m ρ _ => Cert.SsdFwdIdeal.Gen.frame m ρ

/-- And the reference. -/
theorem frame_ref : Cert.quiescent_SsdFwdRefIdeal := fun m ρ _ =>
  (θ_run Cert.SsdFwdRefIdeal.defs _ _).mono
    (fun r h => ⟨fun c => (h c).2.2.2.2, Idealize.ShloMosaic.sem_eq_zero_of_no_sems (by decide) r.2⟩)
    (Cert.SsdFwdRefIdeal.Value.run (F := Ideal) m ρ)
theorem frame_ref_pre : Cert.quiescent_SsdFwdRefIdeal_pre_ssdf_real := fun m ρ _ => frame_ref m ρ trivial

open Cert.Pre_ssdf_real in
/-- The last mask bounds the raw step sizes. -/
theorem le_of_mask (x : FVec Ideal S8208x16 .f32) (y : FVec Ideal S1x16 .f32)
    (hm : cmpf .ole (addf x (broadcastInDim S8208x16 ![0, 1] Facts.bcast_S1x16_S8208x16_0_1 y)) (broadcastInDim S8208x16 ![] Facts.bcast_S_S8208x16 (constant S_ .f32 0x41A00000#32)) = fun _ => 1#1)
    (R : Fin 8208) (h : Fin 16) (p q : ℝ) (hp : x (ix2 R h) = (p : EReal)) (hq : y (ix2 0 h) = (q : EReal)) : p + q ≤ 20 := by
  have e := congrFun hm (ix2 R h)
  have ey : broadcastInDim S8208x16 ![0, 1] Facts.bcast_S1x16_S8208x16_0_1 y (ix2 R h) = y (ix2 0 h) := by pointwise []
  change Ideal.cmp .ole (x (ix2 R h) + broadcastInDim S8208x16 ![0, 1] Facts.bcast_S1x16_S8208x16_0_1 y (ix2 R h)) (Ideal.ofBits .f32 0x41A00000#32) = 1#1 at e
  rw [ey, SsdFwdIdeal.RefValue.word_20, hp, hq, ← EReal.coe_add] at e
  by_contra hn
  have hn' : ¬ ((p + q : ℝ) : EReal) ≤ ((20 : ℝ) : EReal) := fun h => hn (EReal.coe_le_coe_iff.1 h)
  simp only [Ideal.cmp, hn', decide_false] at e
  exact absurd e (by decide)

/-- On the extended reals the kernel's results are the layer's: the output before and behind the gate, the states before the chunks and the convolution. -/
theorem value : Cert.algebraic_SsdFwdIdeal_SsdFwdRefIdeal_pre_ssdf_real := fun m ρ m' ρ' hp hag =>
  ⟨fun c => SsdFwdIdeal.RefValue.resY m c, fun c => SsdFwdIdeal.RefValue.res m c, fun c => SsdFwdIdeal.RefValue.sts m c, fun c => SsdFwdIdeal.RefValue.resX m c, SsdFwdIdeal.RefValue.run m ρ,
    (θ_run Cert.SsdFwdRefIdeal.defs _ _).mono (fun _ h c => by
        obtain ⟨h1, h2, h3, h4, hr⟩ := h c
        obtain ⟨a0, a1, a2, a3, a4, a5, a6, a7, a8⟩ := hag c
        obtain ⟨p0, p1, p2, p3, p4⟩ := hp c
        choose a ha using fun i => RmsGrad.isReal_of_mask _ p0 i
        choose β hb using fun i => RmsGrad.isReal_of_mask _ p1 i
        choose al hl using fun i => RmsGrad.isReal_of_mask _ p2 i
        choose D hD using fun i => RmsGrad.isReal_of_mask _ p3 i
        have h20 : ∀ (R : Fin 8208) (h : Fin 16), a (ix2 R h) + β (ix2 0 h) ≤ 20 := fun R h =>
          le_of_mask _ _ p4 R h _ _ (ha _) (hb _)
        have ka : ∀ R h, SsdFwdIdeal.RefValue.argT m c (ix2 R h) = ((a (ix2 R h) : ℝ) : EReal) := fun R h => ha _
        have kb : ∀ h, SsdFwdIdeal.RefValue.argS m c (ix2 0 h) = ((β (ix2 0 h) : ℝ) : EReal) := fun h => hb _
        have kl : ∀ h, SsdFwdIdeal.RefValue.argL m c (ix2 0 h) = ((al (ix2 0 h) : ℝ) : EReal) := fun h => hl _
        have kD : ∀ h, SsdFwdIdeal.RefValue.argD m c (ix2 0 h) = ((D (ix2 0 h) : ℝ) : EReal) := fun h => hD _
        have qa : ∀ R h, SsdFwdRefIdeal.RefValue.argT (StableHlo.launchContents m' c) (ix2 R h) = ((a (ix2 R h) : ℝ) : EReal) := fun R h => (congrFun a2 _).trans (ha _)
        have qb : ∀ h, SsdFwdRefIdeal.RefValue.argS (StableHlo.launchContents m' c) (ix2 0 h) = ((β (ix2 0 h) : ℝ) : EReal) := fun h => (congrFun a5 _).trans (hb _)
        have ql : ∀ h, SsdFwdRefIdeal.RefValue.argL (StableHlo.launchContents m' c) (ix2 0 h) = ((al (ix2 0 h) : ℝ) : EReal) := fun h => (congrFun a6 _).trans (hl _)
        have qD : ∀ h, SsdFwdRefIdeal.RefValue.argD (StableHlo.launchContents m' c) (ix2 0 h) = ((D (ix2 0 h) : ℝ) : EReal) := fun h => (congrFun a7 _).trans (hD _)
        have eU : SsdFwdRefIdeal.RefValue.rU (StableHlo.launchContents m' c) = SsdFwdIdeal.RefValue.rU m c := by
          unfold SsdFwdRefIdeal.RefValue.rU
          show Ssd.act (fun R l => m' ((c.tc : Thread _ _).loc SsdFwdRefIdeal.main_arg1) (ix2 R l)) (fun i l => m' ((c.tc : Thread _ _).loc SsdFwdRefIdeal.main_arg3) (ix2 i l))
            (fun l => m' ((c.tc : Thread _ _).loc SsdFwdRefIdeal.main_arg4) (ix2 0 l)) = _
          rw [a1, a3, a4]
        refine ⟨h1.trans (funext fun j => ?_), h2.trans (funext fun j => ?_), h3.trans (funext fun j => ?_), h4.trans (funext fun j => ?_), hr⟩
        · obtain ⟨R, l, rfl⟩ : ∃ (R : Fin 8208) (l : Fin 1024), j = ix2 R l := ⟨j 0, j 1, eq_ix2 j⟩
          refine (SsdFwdRefIdeal.RefValue.resY_eq qa qb ql qD R l).trans (Eq.trans ?_ (SsdFwdIdeal.RefValue.resY_eq m ka kb kl kD h20 R l).symm)
          rw [eU]
        · obtain ⟨R, l, rfl⟩ : ∃ (R : Fin 8208) (l : Fin 1024), j = ix2 R l := ⟨j 0, j 1, eq_ix2 j⟩
          refine (SsdFwdRefIdeal.RefValue.res_eq qa qb ql qD R l).trans (Eq.trans ?_ (SsdFwdIdeal.RefValue.res_eq m ka kb kl kD h20 R l).symm)
          rw [eU]
          refine congrArg₂ (fun z g => Ssd.gated _ z g l) (funext fun k => congrFun a0 _) (funext fun k => congrFun a8 _)
        · obtain ⟨n, g, s, l, rfl⟩ : ∃ (n : Fin 33) (g : Fin 2) (s : Fin 128) (l : Fin 512), j = ix4 n g s l := ⟨j 0, j 1, j 2, j 3, eq_ix4 j⟩
          refine (SsdFwdRefIdeal.RefValue.resS_eq qa qb ql n g s l).trans (Eq.trans ?_ (SsdFwdIdeal.RefValue.sts_eq m ka kb kl h20 n g s l).symm)
          rw [eU]
        · obtain ⟨R, l, rfl⟩ : ∃ (R : Fin 8208) (l : Fin 1536), j = ix2 R l := ⟨j 0, j 1, eq_ix2 j⟩
          refine (SsdFwdRefIdeal.RefValue.v25_at _ R l).trans (Eq.trans ?_ (SsdFwdIdeal.RefValue.resX_eq m c R l).symm)
          show Ssd.conv (fun i => m' ((c.tc : Thread _ _).loc SsdFwdRefIdeal.main_arg3) (ix2 i l)) (m' ((c.tc : Thread _ _).loc SsdFwdRefIdeal.main_arg4) (ix2 0 l))
            (fun R => m' ((c.tc : Thread _ _).loc SsdFwdRefIdeal.main_arg1) (ix2 R l)) R = _
          rw [a1, a3, a4])
      (Cert.SsdFwdRefIdeal.Value.run (F := Ideal) m' ρ')⟩

end Cert.Proof.SsdFwd

end
-- ==== Proof.UpFwd.lean ====
/-
  The values of `up_proj`: the norm `rmsnorm(h) * g` and `relu (rmsnorm(h) * g @ w_up)`.

  The kernel works on 11 blocks of 768 rows. In each it norms the rows and multiplies them by the weights, four column
  tiles of 1024 at a time, and cuts the products at zero.
-/
module

public import proofs.«01_k».proof.Defs
public import proofs.«01_k».proof.Proof.RmsGrad
public import proofs.«01_k».proof.Proof.Gen.UpFwd.Frame
public import proofs.«01_k».proof.Proof.Gen.UpFwdIdeal.Value
public import proofs.«01_k».proof.Proof.Gen.UpFwdRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.UpFwdIdeal.RefValue

open Cert.UpFwdIdeal Cert.UpFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The norm, element by element. -/
def norm (h : FVec Ideal S8448x1024 .f32) (g : FVec Ideal S1x1024 .f32) : FVec Ideal S8448x1024 .bf16 := fun i =>
  h i * RmsGrad.scale (fun k => h (ix2 (i 0) k)) * g (ix2 0 (i 1))

/-- The product with the weights, cut at zero. -/
def cut (h : FVec Ideal S8448x1024 .f32) (g : FVec Ideal S1x1024 .f32) (w : FVec Ideal S1024x4096 .f32) : FVec Ideal S8448x4096 .bf16 := fun i =>
  max (∑ k : Fin 1024, norm h g (ix2 (i 0) k) * w (ix2 k (i 1))) 0

/-- Device `c`'s three argument arrays as launched. -/
abbrev argH (c : Dev nD) : FVec Ideal S8448x1024 .f32 := m ((c : Thread nD τ).loc main_arg0)
abbrev argG (c : Dev nD) : FVec Ideal S1x1024 .f32 := m ((c : Thread nD τ).loc main_arg1)
abbrev argW (c : Dev nD) : FVec Ideal S1024x4096 .f32 := m ((c : Thread nD τ).loc main_arg2)

/-- A grid point's block of the stream, the gain and the weights. -/
abbrev blkH (c : Dev nD) (t : Fin cfg0.N) : FVec Ideal S768x1024 .f32 := iblk m c 0 t
abbrev blkG (c : Dev nD) (t : Fin cfg0.N) : FVec Ideal S1x1024 .f32 := iblk m c 1 t
abbrev blkW (c : Dev nD) (t : Fin cfg0.N) : FVec Ideal S4x1024x1024 .bf16 := iblk m c 2 t

/-- Where each window's block sits at a grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The weights, cut in four column tiles, as the region finds them. -/
theorem V_w (c : Dev nD) (a : Fin 4) (b k : Fin 1024) :
    V m c main_v2 (ix3 a b k) = argW m c (ix2 b ⟨a.val * 1024 + k.val, by omega⟩) := by
  unfold V
  after_reads_at

/-- The stream's block. -/
theorem blk_h (c : Dev nD) (t : Fin cfg0.N) (r : Fin 768) (k : Fin 1024) (R : Fin 8448) (hR : R.val = t.val * 768 + r.val) :
    blkH m c t (ix2 r k) = argH m c (ix2 R k) := by
  rw [show argH m c (ix2 R k) = V m c main_arg0 (ix2 R k) from by unfold V; after_reads_at]
  blk_ext [iblk, (idx t).1]

/-- The gain's block, the whole array at every grid point. -/
theorem blk_g (c : Dev nD) (t : Fin cfg0.N) (k : Fin 1024) : blkG m c t (ix2 0 k) = argG m c (ix2 0 k) := by
  rw [show argG m c (ix2 0 k) = V m c main_arg1 (ix2 0 k) from by unfold V; after_reads_at]
  blk_ext [iblk, (idx t).2.1]

/-- The weights' block, the whole array at every grid point. -/
theorem blk_w (c : Dev nD) (t : Fin cfg0.N) (a : Fin 4) (b k : Fin 1024) (l : Fin 4096) (hl : l.val = a.val * 1024 + k.val) :
    blkW m c t (ix3 a b k) = argW m c (ix2 b l) := by
  have e : l = ⟨a.val * 1024 + k.val, by omega⟩ := Fin.ext hl
  rw [e, ← V_w m c a b k]
  blk_ext [iblk, (idx t).2.2.1]

/-- The normed row of a block, from the block's own elements. -/
theorem norm_row (c : Dev nD) (t : Fin cfg0.N) (r : Fin 768) (l : Fin 1024) (R : Fin 8448) (hR : R.val = t.val * 768 + r.val) :
    blkH m c t (ix2 r l) * Ideal.rsqrt (Ideal.div (∑ k, blkH m c t (ix2 r k) * blkH m c t (ix2 r k)) (Ideal.ofBits .f32 0x44800000#32)
        + Ideal.ofBits .f32 0x3727C5AC#32) * blkG m c t (ix2 0 l) = norm (argH m c) (argG m c) (ix2 R l) := by
  simp only [blk_h m c t r _ R hR, blk_g m c t]
  rfl

/-- One column tile of a block, cut at zero. -/
theorem tile (c : Dev nD) (t : Fin cfg0.N) (r : Fin 768) (a : Fin 4) (b : Fin 1024) (l : Fin 4096) (R : Fin 8448)
    (hl : l.val = a.val * 1024 + b.val) (hR : R.val = t.val * 768 + r.val) :
    max (∑ k : Fin 1024, blkH m c t (ix2 r k) * Ideal.rsqrt (Ideal.div (∑ k, blkH m c t (ix2 r k) * blkH m c t (ix2 r k)) (Ideal.ofBits .f32 0x44800000#32)
        + Ideal.ofBits .f32 0x3727C5AC#32) * blkG m c t (ix2 0 k) * blkW m c t (ix3 a k b)) 0 = cut (argH m c) (argG m c) (argW m c) (ix2 R l) := by
  simp only [norm_row m c t r _ R hR, blk_w m c t a _ b l hl]
  rfl

/-- After the run the first result holds the cut products. -/
theorem final3 (c : Dev nD) : (dats m 0 c).arrAt 3 cfg0.N = cut (argH m c) (argG m c) (argW m c) := by
  refine (dats m 0 c).arrAt_eq_of_covers 3 _ (by decide +kernel) fun t hf y => ?_
  blk_simp
  rw [after0_3]
  have ht : t.val < 11 := t.isLt
  obtain ⟨r, l, rfl⟩ : ∃ (r : Fin 768) (l : Fin 4096), y = ix2 r l := ⟨y 0, y 1, eq_ix2 y⟩
  have he : (win0_3.blk t).view.emb (ix2 r l) = ix2 (⟨t.val * 768 + r.val, by omega⟩ : Fin 8448) l := by
    blk_ext [(idx t).2.2.2.1]
  refine Eq.trans ?_ (congrArg _ he.symm)
  frame_out
  pointwise [k0_pay1, k0_pay2, k0_pay3, k0_pay4, k0_pay5, k0_pay6]
  have hl := l.isLt
  by_cases h0 : l.val < 1024
  · rw [dif_pos h0]
    exact tile m c t r 0 ⟨l.val, h0⟩ l ⟨t.val * 768 + r.val, by omega⟩ (show l.val = 0 * 1024 + l.val by omega) rfl
  rw [dif_neg h0]
  by_cases h1 : l.val - 1024 < 1024
  · rw [dif_pos h1]
    exact tile m c t r 1 ⟨l.val - 1024, h1⟩ l ⟨t.val * 768 + r.val, by omega⟩ (show l.val = 1 * 1024 + (l.val - 1024) by omega) rfl
  rw [dif_neg h1]
  by_cases h2 : l.val - 1024 - 1024 < 1024
  · rw [dif_pos h2]
    exact tile m c t r 2 ⟨l.val - 1024 - 1024, h2⟩ l ⟨t.val * 768 + r.val, by omega⟩ (show l.val = 2 * 1024 + (l.val - 1024 - 1024) by omega) rfl
  rw [dif_neg h2]
  exact tile m c t r 3 ⟨l.val - 1024 - 1024 - 1024, by omega⟩ l ⟨t.val * 768 + r.val, by omega⟩ (show l.val = 3 * 1024 + (l.val - 1024 - 1024 - 1024) by omega) rfl

/-- After the run the second result holds the norm. -/
theorem final4 (c : Dev nD) : (dats m 0 c).arrAt 4 cfg0.N = norm (argH m c) (argG m c) := by
  refine (dats m 0 c).arrAt_eq_of_covers 4 _ (by decide +kernel) fun t hf y => ?_
  blk_simp
  rw [after0_4]
  have ht : t.val < 11 := t.isLt
  obtain ⟨r, l, rfl⟩ : ∃ (r : Fin 768) (l : Fin 1024), y = ix2 r l := ⟨y 0, y 1, eq_ix2 y⟩
  have he : (win0_4.blk t).view.emb (ix2 r l) = ix2 (⟨t.val * 768 + r.val, by omega⟩ : Fin 8448) l := by
    blk_ext [(idx t).2.2.2.2]
  refine Eq.trans ?_ (congrArg _ he.symm)
  frame_out
  pointwise [k0_pay2, k0_pay6]
  exact norm_row m c t r l ⟨t.val * 768 + r.val, by omega⟩ rfl

end Cert.UpFwdIdeal.RefValue

namespace Cert.UpFwdRefIdeal.RefValue

open Cert.UpFwdRefIdeal Cert.UpFwdRefIdeal.Gen Idealize.ShloMosaic

/-- The reference's norm. -/
theorem norm_eq (h : FVec Ideal S8448x1024 .f32) (g : FVec Ideal S1x1024 .f32) :
    truncf .bf16 (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 g)) bitsLt_bf16_f32
      = Cert.UpFwdIdeal.RefValue.norm h g := by
  funext j
  pointwise [Cert.UpFwdIdeal.RefValue.norm]
  rfl

/-- The reference's cut products. -/
theorem cut_eq (h : FVec Ideal S8448x1024 .f32) (g : FVec Ideal S1x1024 .f32) (w : FVec Ideal S1024x4096 .f32) :
    truncf .bf16 (maximumf (Host.dotGeneral dot_S8448x1024_S1024x4096_S8448x4096_1_0_0_1_n_n none (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 g)) w) (broadcastInDim S8448x4096 ![] bcast_S_S8448x4096 (constant S_ .f32 0x00000000#32))) bitsLt_bf16_f32
      = Cert.UpFwdIdeal.RefValue.cut h g w := by
  funext j
  pointwise [Cert.UpFwdIdeal.RefValue.cut]
  rfl

end Cert.UpFwdRefIdeal.RefValue

/-! ## The claims about this call -/

namespace Cert.Proof.UpFwd

open Idealize.ShloMosaic Idealize.ShloMosaic.TcCoe Idealize.SL.Sem

/-- The kernel runs, leaves its arguments as they were and ends with every semaphore at zero. -/
theorem frame_kernel : Cert.quiescent_UpFwd := fun m ρ _ => Cert.UpFwd.Gen.frame m ρ

/-- So does its idealization. -/
theorem frame_ideal : Cert.quiescent_UpFwdIdeal := fun m ρ _ => Cert.UpFwdIdeal.Gen.frame m ρ

/-- And the reference. -/
theorem frame_ref : Cert.quiescent_UpFwdRefIdeal := fun m ρ _ =>
  (θ_run Cert.UpFwdRefIdeal.defs _ _).mono
    (fun r h => ⟨fun c => (h c).2.2, Idealize.ShloMosaic.sem_eq_zero_of_no_sems (by decide) r.2⟩)
    (Cert.UpFwdRefIdeal.Value.run (F := Ideal) m ρ)

/-- On the extended reals the kernel's results are `relu (rmsnorm(h) * g @ w_up)` and `rmsnorm(h) * g`. -/
theorem value : Cert.algebraic_UpFwdIdeal_UpFwdRefIdeal := fun m ρ m' ρ' _ hag =>
  ⟨fun c => UpFwdIdeal.RefValue.cut (UpFwdIdeal.RefValue.argH m c) (UpFwdIdeal.RefValue.argG m c) (UpFwdIdeal.RefValue.argW m c),
    fun c => UpFwdIdeal.RefValue.norm (UpFwdIdeal.RefValue.argH m c) (UpFwdIdeal.RefValue.argG m c),
    (θ_run Cert.UpFwdIdeal.defs _ _).mono (fun _ h c => ⟨(h c).1.trans (UpFwdIdeal.RefValue.final3 m c),
        (h c).2.1.trans (UpFwdIdeal.RefValue.final4 m c), (h c).2.2⟩)
      (Cert.UpFwdIdeal.Value.run_blocks (F := Ideal) m ρ),
    (θ_run Cert.UpFwdRefIdeal.defs _ _).mono (fun _ h c => ⟨(h c).1.trans (by
        rw [(hag c).1, (hag c).2.1, (hag c).2.2]
        exact UpFwdRefIdeal.RefValue.cut_eq _ _ _), (h c).2.1.trans (by
        rw [(hag c).1, (hag c).2.1]
        exact UpFwdRefIdeal.RefValue.norm_eq _ _), (h c).2.2⟩)
      (Cert.UpFwdRefIdeal.Value.run (F := Ideal) m' ρ')⟩

end Cert.Proof.UpFwd

end
-- ==== Proof.DownFwd.lean ====
/-
  The value of `down_proj`: `h + square (relu m) @ w_down`.

  The kernel works on 11 blocks of 768 rows. In each it squares the cut values and multiplies by the weights, four row
  tiles of 1024 at a time, and adds the four products to the residual stream.
-/
module

public import proofs.«01_k».proof.Defs
public import proofs.«01_k».proof.Proof.RmsGrad
public import proofs.«01_k».proof.Proof.Gen.DownFwd.Frame
public import proofs.«01_k».proof.Proof.Gen.DownFwdIdeal.Value
public import proofs.«01_k».proof.Proof.Gen.DownFwdRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.DownFwdIdeal.RefValue

open Cert.DownFwdIdeal Cert.DownFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The stream after the projection, element by element. -/
def stream (x : FVec Ideal S8448x4096 .f32) (h : FVec Ideal S8448x1024 .f32) (w : FVec Ideal S4096x1024 .f32) : FVec Ideal S8448x1024 .f32 :=
  fun i => h i + ∑ k : Fin 4096, max (x (ix2 (i 0) k)) 0 * max (x (ix2 (i 0) k)) 0 * w (ix2 k (i 1))

/-- Device `c`'s three argument arrays as launched. -/
abbrev argM (c : Dev nD) : FVec Ideal S8448x4096 .f32 := m ((c : Thread nD τ).loc main_arg0)
abbrev argH (c : Dev nD) : FVec Ideal S8448x1024 .f32 := m ((c : Thread nD τ).loc main_arg1)
abbrev argW (c : Dev nD) : FVec Ideal S4096x1024 .f32 := m ((c : Thread nD τ).loc main_arg2)

/-- A grid point's block of the cut values, of the stream and of the weights. -/
abbrev blkM (c : Dev nD) (t : Fin cfg0.N) : FVec Ideal S768x4096 .bf16 := iblk m c 0 t
abbrev blkH (c : Dev nD) (t : Fin cfg0.N) : FVec Ideal S768x1024 .f32 := iblk m c 1 t
abbrev blkW (c : Dev nD) (t : Fin cfg0.N) : FVec Ideal S4x1024x1024 .bf16 := iblk m c 2 t

/-- Where each window's block sits at a grid point. -/
theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

/-- The cut values as the region finds them. -/
theorem V_relu (c : Dev nD) (j : S8448x4096.Idx) : V m c main_v2 j = max (argM m c j) 0 := by
  unfold V
  after_reads_at

/-- The weights, cut in four row tiles, as the region finds them. -/
theorem V_w (c : Dev nD) (a : Fin 4) (b k : Fin 1024) :
    V m c main_v4 (ix3 a b k) = argW m c (ix2 ⟨a.val * 1024 + b.val, by omega⟩ k) := by
  unfold V
  after_reads_at

/-- The cut values' block at a grid point. -/
theorem blk_relu (c : Dev nD) (t : Fin cfg0.N) (r : Fin 768) (l : Fin 4096) (R : Fin 8448) (hR : R.val = t.val * 768 + r.val) :
    blkM m c t (ix2 r l) = max (argM m c (ix2 R l)) 0 := by
  rw [← V_relu m c (ix2 R l)]
  blk_ext [iblk, (idx t).1]

/-- The stream's block. -/
theorem blk_h (c : Dev nD) (t : Fin cfg0.N) (r : Fin 768) (k : Fin 1024) (R : Fin 8448) (hR : R.val = t.val * 768 + r.val) :
    blkH m c t (ix2 r k) = argH m c (ix2 R k) := by
  rw [show argH m c (ix2 R k) = V m c main_arg1 (ix2 R k) from by unfold V; after_reads_at]
  blk_ext [iblk, (idx t).2.1]

/-- The weights' block, the whole array at every grid point. -/
theorem blk_w (c : Dev nD) (t : Fin cfg0.N) (a : Fin 4) (b k : Fin 1024) (l : Fin 4096) (hl : l.val = a.val * 1024 + b.val) :
    blkW m c t (ix3 a b k) = argW m c (ix2 l k) := by
  have e : l = ⟨a.val * 1024 + b.val, by omega⟩ := Fin.ext hl
  rw [e, ← V_w m c a b k]
  blk_ext [iblk, (idx t).2.2.1]

/-- After the run the result array holds the stream. -/
theorem final (c : Dev nD) : (dats m 0 c).arrAt 3 cfg0.N = stream (argM m c) (argH m c) (argW m c) := by
  refine (dats m 0 c).arrAt_eq_of_covers 3 _ (by decide +kernel) fun t hf y => ?_
  blk_simp
  rw [after0_3]
  have ht : t.val < 11 := t.isLt
  obtain ⟨r, l, rfl⟩ : ∃ (r : Fin 768) (l : Fin 1024), y = ix2 r l := ⟨y 0, y 1, eq_ix2 y⟩
  have he : (win0_3.blk t).view.emb (ix2 r l) = ix2 (⟨t.val * 768 + r.val, by omega⟩ : Fin 8448) l := by
    blk_ext [(idx t).2.2.2]
  refine Eq.trans ?_ (congrArg _ he.symm)
  frame_out
  pointwise [k0_pay1]
  have e : ∀ (a : Fin 4) (x : Fin 1024) (k : Fin 4096), k.val = a.val * 1024 + x.val →
      blkM m c t (ix2 r k) * blkM m c t (ix2 r k) * blkW m c t (ix3 a x l)
        = max (argM m c (ix2 ⟨t.val * 768 + r.val, by omega⟩ k)) 0 * max (argM m c (ix2 ⟨t.val * 768 + r.val, by omega⟩ k)) 0 * argW m c (ix2 k l) :=
    fun a x k hk => by rw [blk_relu m c t r k ⟨t.val * 768 + r.val, by omega⟩ rfl, blk_w m c t a x l k hk]
  unfold stream
  refine congrArg₂ _ (blk_h m c t r l ⟨t.val * 768 + r.val, by omega⟩ rfl) ?_
  rw [← RmsGrad.sum_four]
  refine congrArg₂ _ (congrArg₂ _ (congrArg₂ _ ?_ ?_) ?_) ?_ <;>
    exact Finset.sum_congr rfl fun x _ => e _ _ _ (by simp)

end Cert.DownFwdIdeal.RefValue

namespace Cert.DownFwdRefIdeal.RefValue

open Cert.DownFwdRefIdeal Cert.DownFwdRefIdeal.Gen Idealize.ShloMosaic

/-- The reference's composed term is the same stream. -/
theorem ref_eq (x : FVec Ideal S8448x4096 .f32) (h : FVec Ideal S8448x1024 .f32) (w : FVec Ideal S4096x1024 .f32) :
    addf h (Host.dotGeneral dot_S8448x4096_S4096x1024_S8448x1024_1_0_0_1_n_n none (mulf (maximumf x (broadcastInDim S8448x4096 ![] bcast_S_S8448x4096 (constant S_ .f32 0x00000000#32))) (maximumf x (broadcastInDim S8448x4096 ![] bcast_S_S8448x4096 (constant S_ .f32 0x00000000#32)))) w)
      = Cert.DownFwdIdeal.RefValue.stream x h w := by
  funext j
  pointwise [Cert.DownFwdIdeal.RefValue.stream]
  try rfl

end Cert.DownFwdRefIdeal.RefValue

/-! ## The claims about this call -/

namespace Cert.Proof.DownFwd

open Idealize.ShloMosaic Idealize.ShloMosaic.TcCoe Idealize.SL.Sem

/-- The kernel runs, leaves its arguments as they were and ends with every semaphore at zero. -/
theorem frame_kernel : Cert.quiescent_DownFwd := fun m ρ _ => Cert.DownFwd.Gen.frame m ρ

/-- So does its idealization. -/
theorem frame_ideal : Cert.quiescent_DownFwdIdeal := fun m ρ _ => Cert.DownFwdIdeal.Gen.frame m ρ

/-- And the reference. -/
theorem frame_ref : Cert.quiescent_DownFwdRefIdeal := fun m ρ _ =>
  (θ_run Cert.DownFwdRefIdeal.defs _ _).mono
    (fun r h => ⟨fun c => (h c).2, Idealize.ShloMosaic.sem_eq_zero_of_no_sems (by decide) r.2⟩)
    (Cert.DownFwdRefIdeal.Value.run (F := Ideal) m ρ)

/-- On the extended reals the kernel's result is `h + square (relu m) @ w_down`. -/
theorem value : Cert.algebraic_DownFwdIdeal_DownFwdRefIdeal := fun m ρ m' ρ' _ hag =>
  ⟨fun c => DownFwdIdeal.RefValue.stream (DownFwdIdeal.RefValue.argM m c) (DownFwdIdeal.RefValue.argH m c) (DownFwdIdeal.RefValue.argW m c),
    (θ_run Cert.DownFwdIdeal.defs _ _).mono (fun _ h c => ⟨(h c).1.trans (DownFwdIdeal.RefValue.final m c), (h c).2⟩)
      (Cert.DownFwdIdeal.Value.run_blocks (F := Ideal) m ρ),
    (θ_run Cert.DownFwdRefIdeal.defs _ _).mono (fun _ h c => ⟨(h c).1.trans (by
        rw [(hag c).1, (hag c).2.1, (hag c).2.2]
        exact DownFwdRefIdeal.RefValue.ref_eq _ _ _), (h c).2⟩)
      (Cert.DownFwdRefIdeal.Value.run (F := Ideal) m' ρ')⟩

end Cert.Proof.DownFwd

end
-- ==== Proof.GluFwd.lean ====
/-
  The values of `glu`: the linear map `v = y @ w_glu + b_glu` and the norm of the gated product
  `rmsnorm(v[:, :1024] * sigmoid(v[:, 1024:])) * g_s5`.

  The kernel works on 11 blocks of 768 rows. In each it multiplies the rows by the transposed weights, four row tiles of
  512 at a time, adds the bias, gates the left half by the right one and norms the product.
-/
module

public import proofs.«01_k».proof.Defs
public import proofs.«01_k».proof.Proof.RmsGrad
public import proofs.«01_k».proof.Proof.Gen.GluFwd.Frame
public import proofs.«01_k».proof.Proof.Gen.GluFwdIdeal.Value
public import proofs.«01_k».proof.Proof.Gen.GluFwdRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.GluFwdIdeal.RefValue

open Cert.GluFwdIdeal Cert.GluFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The linear map's output, element by element. -/
def lin (y : FVec Ideal S8448x1024 .f32) (w : FVec Ideal S1024x2048 .f32) (b : FVec Ideal S1x2048 .f32) : FVec Ideal S8448x2048 .f32 := fun i =>
  (∑ k : Fin 1024, y (ix2 (i 0) k) * w (ix2 k (i 1))) + b (ix2 0 (i 1))

/-- A value times the logistic function of another. -/
def glu (a b : EReal) : EReal := a * Ideal.div 1 (1 + Ideal.exp (-b))

/-- A row of the gated product. -/
def gated (v : FVec Ideal S8448x2048 .f32) (R : Fin 8448) (l : Fin 1024) : EReal :=
  glu (v (ix2 R ⟨l.val, by omega⟩)) (v (ix2 R ⟨1024 + l.val, by omega⟩))

/-- The norm of the gated product. -/
def norm (v : FVec Ideal S8448x2048 .f32) (g : FVec Ideal S1x1024 .f32) : FVec Ideal S8448x1024 .bf16 := fun i =>
  gated v (i 0) (i 1) * RmsGrad.scale (gated v (i 0)) * g (ix2 0 (i 1))

/-- Device `c`'s four argument arrays as launched. -/
abbrev argY (c : Dev nD) : FVec Ideal S8448x1024 .f32 := m ((c : Thread nD τ).loc main_arg0)
abbrev argW (c : Dev nD) : FVec Ideal S1024x2048 .f32 := m ((c : Thread nD τ).loc main_arg1)
abbrev argB (c : Dev nD) : FVec Ideal S1x2048 .f32 := m ((c : Thread nD τ).loc main_arg2)
abbrev argG (c : Dev nD) : FVec Ideal S1x1024 .f32 := m ((c : Thread nD τ).loc main_arg3)

/-- A grid point's blocks. -/
abbrev blkY (c : Dev nD) (t : Fin cfg0.N) : FVec Ideal S768x1024 .bf16 := iblk m c 0 t
abbrev blkB (c : Dev nD) (t : Fin cfg0.N) : FVec Ideal S1x2048 .f32 := iblk m c 1 t
abbrev blkG (c : Dev nD) (t : Fin cfg0.N) : FVec Ideal S1x1024 .f32 := iblk m c 2 t
abbrev blkW (c : Dev nD) (t : Fin cfg0.N) : FVec Ideal S4x512x1024 .bf16 := iblk m c 3 t

/-- Where each window's block sits at a grid point. -/
theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

/-- The gelu's output as the region finds it. -/
theorem V_y (c : Dev nD) (j : S8448x1024.Idx) : V m c (Pipeline.arrRef spec0 0) j = argY m c j := by
  unfold V
  after_reads_at

/-- The transposed weights in four tiles of 512 rows, as the region finds them in front of as many rows of zeros. -/
theorem V_w (c : Dev nD) (a : Fin 4) (b : Fin 512) (k : Fin 1024) :
    V m c (Pipeline.arrRef spec0 3) (ix3 a ⟨b.val, by omega⟩ k) = argW m c (ix2 k ⟨a.val * 512 + b.val, by omega⟩) := by
  unfold V
  after_reads_at

/-- The rows' block at a grid point. -/
theorem blk_y (c : Dev nD) (t : Fin cfg0.N) (r : Fin 768) (k : Fin 1024) (R : Fin 8448) (hR : R.val = t.val * 768 + r.val) :
    blkY m c t (ix2 r k) = argY m c (ix2 R k) := by
  rw [← V_y m c (ix2 R k)]
  blk_ext [iblk, (idx t).1]

/-- The bias' and the gain's block, the whole array at every grid point. -/
theorem blk_b (c : Dev nD) (t : Fin cfg0.N) (k : Fin 2048) : blkB m c t (ix2 0 k) = argB m c (ix2 0 k) := by
  rw [show argB m c (ix2 0 k) = V m c main_arg2 (ix2 0 k) from by unfold V; after_reads_at]
  blk_ext [iblk, (idx t).2.1]
theorem blk_g (c : Dev nD) (t : Fin cfg0.N) (k : Fin 1024) : blkG m c t (ix2 0 k) = argG m c (ix2 0 k) := by
  rw [show argG m c (ix2 0 k) = V m c main_arg3 (ix2 0 k) from by unfold V; after_reads_at]
  blk_ext [iblk, (idx t).2.2.1]

/-- The weights' block: the tiles without the rows of zeros. -/
theorem blk_w (c : Dev nD) (t : Fin cfg0.N) (a : Fin 4) (b : Fin 512) (k : Fin 1024) (j : Fin 2048) (hj : j.val = a.val * 512 + b.val) :
    blkW m c t (ix3 a b k) = argW m c (ix2 k j) := by
  have e : j = ⟨a.val * 512 + b.val, by omega⟩ := Fin.ext hj
  rw [e, ← V_w m c a b k]
  blk_ext [iblk, (idx t).2.2.2.1]

/-- A block's rows of the linear map, as the body computes them. -/
abbrev linB (c : Dev nD) (t : Fin cfg0.N) : FVec Ideal S768x2048 .f32 :=
  k0_pay3 (F := Ideal) (iblk m c 0 t) (iblk m c 1 t) (View.ld (iblk m c 3 t) r0_3) (View.ld (iblk m c 3 t) r0_4)
    (View.ld (iblk m c 3 t) r0_5) (View.ld (iblk m c 3 t) r0_6)

/-- One column tile of a block. -/
theorem tile (c : Dev nD) (t : Fin cfg0.N) (r : Fin 768) (a : Fin 4) (b : Fin 512) (l : Fin 2048) (R : Fin 8448)
    (hl : l.val = a.val * 512 + b.val) (hR : R.val = t.val * 768 + r.val) :
    (∑ k : Fin 1024, blkY m c t (ix2 r k) * blkW m c t (ix3 a b k)) + blkB m c t (ix2 0 l) = lin (argY m c) (argW m c) (argB m c) (ix2 R l) := by
  simp only [blk_y m c t r _ R hR, blk_w m c t a b _ l hl, blk_b m c t]
  rfl

/-- The body's rows of the linear map are the map's. -/
theorem linB_at (c : Dev nD) (t : Fin cfg0.N) (r : Fin 768) (l : Fin 2048) (R : Fin 8448) (hR : R.val = t.val * 768 + r.val) :
    linB m c t (ix2 r l) = lin (argY m c) (argW m c) (argB m c) (ix2 R l) := by
  unfold linB
  pointwise [k0_pay3]
  have hl := l.isLt
  by_cases h0 : l.val < 512
  · rw [dif_pos h0]
    exact tile m c t r 0 ⟨l.val, h0⟩ l R (show l.val = 0 * 512 + l.val by omega) hR
  rw [dif_neg h0]
  by_cases h1 : l.val - 512 < 512
  · rw [dif_pos h1]
    exact tile m c t r 1 ⟨l.val - 512, h1⟩ l R (show l.val = 1 * 512 + (l.val - 512) by omega) hR
  rw [dif_neg h1]
  by_cases h2 : l.val - 512 - 512 < 512
  · rw [dif_pos h2]
    exact tile m c t r 2 ⟨l.val - 512 - 512, h2⟩ l R (show l.val = 2 * 512 + (l.val - 512 - 512) by omega) hR
  rw [dif_neg h2]
  exact tile m c t r 3 ⟨l.val - 512 - 512 - 512, by omega⟩ l R (show l.val = 3 * 512 + (l.val - 512 - 512 - 512) by omega) hR

/-- After the run the first result holds the linear map. -/
theorem final4 (c : Dev nD) : (dats m 0 c).arrAt 4 cfg0.N = lin (argY m c) (argW m c) (argB m c) := by
  refine (dats m 0 c).arrAt_eq_of_covers 4 _ (by decide +kernel) fun t hf y => ?_
  blk_simp
  rw [after0_4]
  have ht : t.val < 11 := t.isLt
  obtain ⟨r, l, rfl⟩ : ∃ (r : Fin 768) (l : Fin 2048), y = ix2 r l := ⟨y 0, y 1, eq_ix2 y⟩
  have he : (win0_4.blk t).view.emb (ix2 r l) = ix2 (⟨t.val * 768 + r.val, by omega⟩ : Fin 8448) l := by
    blk_ext [(idx t).2.2.2.2.1]
  refine Eq.trans ?_ (congrArg _ he.symm)
  frame_out
  pointwise [k0_pay1]
  exact linB_at m c t r l ⟨t.val * 768 + r.val, by omega⟩ rfl

/-- A block's gated product, from its rows of the linear map. -/
theorem gated_at (c : Dev nD) (t : Fin cfg0.N) (r : Fin 768) (l : Fin 1024) (R : Fin 8448) (hR : R.val = t.val * 768 + r.val) :
    k0_pay4 (F := Ideal) (iblk m c 0 t) (iblk m c 1 t) (View.ld (iblk m c 3 t) r0_3) (View.ld (iblk m c 3 t) r0_4)
      (View.ld (iblk m c 3 t) r0_5) (View.ld (iblk m c 3 t) r0_6) (ix2 r l) = gated (lin (argY m c) (argW m c) (argB m c)) R l := by
  have h0 := linB_at m c t r ⟨l.val, by omega⟩ R hR
  have h1 := linB_at m c t r ⟨1024 + l.val, by omega⟩ R hR
  unfold gated glu
  rw [← h0, ← h1, linB]
  generalize hv : k0_pay3 (F := Ideal) (iblk m c 0 t) (iblk m c 1 t) (View.ld (iblk m c 3 t) r0_3) (View.ld (iblk m c 3 t) r0_4)
    (View.ld (iblk m c 3 t) r0_5) (View.ld (iblk m c 3 t) r0_6) = v
  unfold k0_pay4
  rw [hv]
  pointwise
  rw [zero_sub]

/-- After the run the second result holds the norm of the gated product. -/
theorem final5 (c : Dev nD) : (dats m 0 c).arrAt 5 cfg0.N = norm (lin (argY m c) (argW m c) (argB m c)) (argG m c) := by
  refine (dats m 0 c).arrAt_eq_of_covers 5 _ (by decide +kernel) fun t hf y => ?_
  blk_simp
  rw [after0_5]
  have ht : t.val < 11 := t.isLt
  obtain ⟨r, l, rfl⟩ : ∃ (r : Fin 768) (l : Fin 1024), y = ix2 r l := ⟨y 0, y 1, eq_ix2 y⟩
  have he : (win0_5.blk t).view.emb (ix2 r l) = ix2 (⟨t.val * 768 + r.val, by omega⟩ : Fin 8448) l := by
    blk_ext [(idx t).2.2.2.2.2]
  refine Eq.trans ?_ (congrArg _ he.symm)
  frame_out
  have h := fun k => gated_at m c t r k ⟨t.val * 768 + r.val, by omega⟩ rfl
  unfold k0_pay5
  generalize k0_pay4 (F := Ideal) (iblk m c 0 t) (iblk m c 1 t) (View.ld (iblk m c 3 t) r0_3) (View.ld (iblk m c 3 t) r0_4)
    (View.ld (iblk m c 3 t) r0_5) (View.ld (iblk m c 3 t) r0_6) = u at h ⊢
  pointwise [k0_pay2]
  have hg := blk_g m c t l
  simp only [blkG] at hg
  simp only [h, hg]
  rfl

end Cert.GluFwdIdeal.RefValue

namespace Cert.GluFwdRefIdeal.RefValue

open Cert.GluFwdRefIdeal Cert.GluFwdRefIdeal.Gen Idealize.ShloMosaic
open Cert.GluFwdIdeal.RefValue (lin glu gated)

/-- The reference's linear map. -/
theorem lin_eq (y : FVec Ideal S8448x1024 .f32) (w : FVec Ideal S1024x2048 .f32) (b : FVec Ideal S1x2048 .f32) :
    ((addf (Host.dotGeneral dot_S8448x1024_S1024x2048_S8448x2048_1_0_0_1_n_n none y w) (broadcastInDim S8448x2048 ![0, 1] bcast_S1x2048_S8448x2048_0_1 b)) : FVec Ideal S8448x2048 .f32) = lin y w b := by
  funext j
  pointwise [lin]

/-- The reference's gated product. -/
theorem gate_eq (v : FVec Ideal S8448x2048 .f32) (R : Fin 8448) (l : Fin 1024) : ((mulf (extractStridedSlice S8448x1024 ![0, 0] v slices_S8448x2048_S8448x1024_0_0) (Host.divf (broadcastInDim S8448x1024 ![] bcast_S_S8448x1024 (constant S_ .f32 0x3F800000#32)) (addf (broadcastInDim S8448x1024 ![] bcast_S_S8448x1024 (constant S_ .f32 0x3F800000#32)) (Host.exp (Host.negf (extractStridedSlice S8448x1024 ![0, 1024] v slices_S8448x2048_S8448x1024_0_1024)))))) : FVec Ideal S8448x1024 .f32) (ix2 R l) = gated v R l := by
  pointwise [gated, glu]

/-- The reference's norm of any array whose rows are the gated product's. -/
theorem norm_eq (v : FVec Ideal S8448x2048 .f32) (u : FVec Ideal S8448x1024 .f32) (g : FVec Ideal S1x1024 .f32)
    (h : ∀ R l, u (ix2 R l) = gated v R l) :
    truncf .bf16 (mulf (mulf u (broadcastInDim S8448x1024 ![0, 1] bcast_S8448x1_S8448x1024_0_1 (Host.rsqrt (addf (Host.divf (broadcastInDim S8448x1 ![0] bcast_S8448_S8448x1_0 (Host.reduceAdd (mulf u u) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))))) (broadcastInDim S8448x1024 ![0, 1] bcast_S1x1024_S8448x1024_0_1 g)) bitsLt_bf16_f32 = Cert.GluFwdIdeal.RefValue.norm v g := by
  funext (j : S8448x1024.Idx)
  obtain ⟨R, l, rfl⟩ : ∃ (R : Fin 8448) (l : Fin 1024), j = ix2 R l := ⟨j 0, j 1, eq_ix2 j⟩
  pointwise [Cert.GluFwdIdeal.RefValue.norm]
  simp only [h]
  rfl

end Cert.GluFwdRefIdeal.RefValue

/-! ## The claims about this call -/

namespace Cert.Proof.GluFwd

open Idealize.ShloMosaic Idealize.ShloMosaic.TcCoe Idealize.SL.Sem

/-- The kernel runs, leaves its arguments as they were and ends with every semaphore at zero. -/
theorem frame_kernel : Cert.quiescent_GluFwd := fun m ρ _ => Cert.GluFwd.Gen.frame m ρ

/-- So does its idealization. -/
theorem frame_ideal : Cert.quiescent_GluFwdIdeal := fun m ρ _ => Cert.GluFwdIdeal.Gen.frame m ρ

/-- And the reference. -/
theorem frame_ref : Cert.quiescent_GluFwdRefIdeal := fun m ρ _ =>
  (θ_run Cert.GluFwdRefIdeal.defs _ _).mono
    (fun r h => ⟨fun c => (h c).2.2, Idealize.ShloMosaic.sem_eq_zero_of_no_sems (by decide) r.2⟩)
    (Cert.GluFwdRefIdeal.Value.run (F := Ideal) m ρ)

/-- On the extended reals the kernel's results are `y @ w_glu + b_glu` and the norm of the gated product. -/
theorem value : Cert.algebraic_GluFwdIdeal_GluFwdRefIdeal := fun m ρ m' ρ' _ hag =>
  ⟨fun c => GluFwdIdeal.RefValue.lin (GluFwdIdeal.RefValue.argY m c) (GluFwdIdeal.RefValue.argW m c) (GluFwdIdeal.RefValue.argB m c),
    fun c => GluFwdIdeal.RefValue.norm (GluFwdIdeal.RefValue.lin (GluFwdIdeal.RefValue.argY m c) (GluFwdIdeal.RefValue.argW m c)
      (GluFwdIdeal.RefValue.argB m c)) (GluFwdIdeal.RefValue.argG m c),
    (θ_run Cert.GluFwdIdeal.defs _ _).mono (fun _ h c => ⟨(h c).1.trans (GluFwdIdeal.RefValue.final4 m c),
        (h c).2.1.trans (GluFwdIdeal.RefValue.final5 m c), (h c).2.2⟩)
      (Cert.GluFwdIdeal.Value.run_blocks (F := Ideal) m ρ),
    (θ_run Cert.GluFwdRefIdeal.defs _ _).mono (fun _ h c => ⟨(h c).1.trans (by
        rw [(hag c).1, (hag c).2.1, (hag c).2.2.1]
        exact GluFwdRefIdeal.RefValue.lin_eq _ _ _), (h c).2.1.trans (by
        rw [(hag c).1, (hag c).2.1, (hag c).2.2.1, (hag c).2.2.2, GluFwdRefIdeal.RefValue.lin_eq]
        exact GluFwdRefIdeal.RefValue.norm_eq _ _ _ (GluFwdRefIdeal.RefValue.gate_eq _)), (h c).2.2⟩)
      (Cert.GluFwdRefIdeal.Value.run (F := Ideal) m' ρ')⟩

end Cert.Proof.GluFwd

end
-- ==== Proof.OutFwd.lean ====
/-
  The value of `out_proj`: the tokens with the meta tokens in front, plus `[y_ssd, y_s5] @ w_out`.

  The kernel works on 11 blocks of 768 rows, the first 240 of them zeros in front of the 16 meta tokens. A block takes its rows
  of the stream from three blocks of 256 tokens, or, its first 256 rows, from the block of the meta tokens; it multiplies the
  two branches by the weights, four row tiles of 512 at a time, and adds the products. The zeros' rows are cut off in the end.
-/
module

public import proofs.«01_k».proof.Defs
public import proofs.«01_k».proof.Proof.RmsGrad
public import proofs.«01_k».proof.Proof.Gen.OutFwd.Frame
public import proofs.«01_k».proof.Proof.Gen.OutFwdIdeal.Frame
public import proofs.«01_k».proof.Proof.Gen.OutFwdRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.Tokens

open Idealize.ShloMosaic

/-- A row of the tokens with the meta tokens in front, numbered with 240 rows of zeros in front of those. -/
def row (X : Fin 8192 → Fin 1024 → EReal) (M : Fin 16 → Fin 1024 → EReal) (P : Fin 8448) (k : Fin 1024) : EReal :=
  if h : 256 ≤ P.val then X ⟨P.val - 256, by omega⟩ k else if h' : 240 ≤ P.val then M ⟨P.val - 240, by omega⟩ k else 0

/-- A row of an array behind 240 rows of zeros. -/
def behind (E : Fin 8208 → Fin 1024 → EReal) (P : Fin 8448) (k : Fin 1024) : EReal :=
  if h : 240 ≤ P.val then E ⟨P.val - 240, by omega⟩ k else 0

theorem behind_at (E : Fin 8208 → Fin 1024 → EReal) (R : Fin 8208) (k : Fin 1024) : behind E ⟨240 + R.val, by omega⟩ k = E R k := by
  unfold behind
  rw [dif_pos (show 240 ≤ 240 + R.val by omega)]
  exact congrArg (E · k) (Fin.ext (by simp))

/-- A row behind the zeros is a row of the meta tokens followed by the tokens. -/
theorem row_at (X : Fin 8192 → Fin 1024 → EReal) (M : Fin 16 → Fin 1024 → EReal) (R : Fin 8208) (k : Fin 1024) :
    row X M ⟨240 + R.val, by omega⟩ k = if h : R.val < 16 then M ⟨R.val, h⟩ k else X ⟨R.val - 16, by omega⟩ k := by
  unfold row
  by_cases h : R.val < 16
  · rw [dif_neg (show ¬ 256 ≤ 240 + R.val by omega), dif_pos (show 240 ≤ 240 + R.val by omega), dif_pos h]
    exact congrArg (M · k) (Fin.ext (by simp))
  · rw [dif_pos (show 256 ≤ 240 + R.val by omega), dif_neg h]
    exact congrArg (X · k) (Fin.ext (show 240 + R.val - 256 = R.val - 16 by omega))

/-- What a block of 768 rows takes from the block in front of the tokens and from three blocks of 256 tokens is a row of them all. -/
theorem row_block (X : Fin 8192 → Fin 1024 → EReal) (M : Fin 16 → Fin 1024 → EReal) (t : ℕ) (r : Fin 768) (k : Fin 1024) (ht : t < 11)
    (z : Fin 768 → EReal) (x0 x1 x2 : Fin 256 → EReal)
    (hz : ∀ r : Fin 768, r.val < 256 → z r = if h : 240 ≤ r.val then (if h' : r.val < 256 then M ⟨r.val - 240, by omega⟩ k else 0) else 0)
    (h0 : ∀ (s : Fin 256) (R : Fin 8192), R.val = (3 * t - 1) * 256 + s.val → x0 s = X R k)
    (h1 : ∀ (s : Fin 256) (R : Fin 8192), R.val = 3 * t * 256 + s.val → x1 s = X R k)
    (h2 : ∀ (s : Fin 256) (R : Fin 8192), R.val = (3 * t + 1) * 256 + s.val → x2 s = X R k) :
    (if t = 0 ∧ r.val < 256 then z r
      else if h : r.val < 256 then x0 ⟨r.val, h⟩ else if h' : r.val - 256 < 256 then x1 ⟨r.val - 256, h'⟩ else x2 ⟨r.val - 256 - 256, by omega⟩)
      = row X M ⟨t * 768 + r.val, by omega⟩ k := by
  have hr := r.isLt
  unfold row
  by_cases hb : t = 0 ∧ r.val < 256
  · rw [if_pos hb, hz r hb.2]
    obtain ⟨rfl, hb⟩ := hb
    rw [dif_neg (show ¬ 256 ≤ 0 * 768 + r.val by omega)]
    by_cases hm : 240 ≤ r.val
    · rw [dif_pos hm, dif_pos hb, dif_pos (show 240 ≤ 0 * 768 + r.val by omega)]
      exact congrArg (M · k) (Fin.ext (show r.val - 240 = 0 * 768 + r.val - 240 by omega))
    · rw [dif_neg hm, dif_neg (show ¬ 240 ≤ 0 * 768 + r.val by omega)]
  · rw [if_neg hb, dif_pos (show 256 ≤ t * 768 + r.val by omega)]
    split_ifs with ha hc
    · exact h0 _ _ (show t * 768 + r.val - 256 = (3 * t - 1) * 256 + r.val by omega)
    · exact h1 _ _ (show t * 768 + r.val - 256 = 3 * t * 256 + (r.val - 256) by omega)
    · exact h2 _ _ (show t * 768 + r.val - 256 = (3 * t + 1) * 256 + (r.val - 256 - 256) by omega)

/-- A sum of 2048 terms is the sum of its four quarters. -/
theorem sum_quarters (f : Fin 2048 → EReal) :
    (∑ x : Fin 512, f ⟨x.val, by omega⟩) + (∑ x : Fin 512, f ⟨512 + x.val, by omega⟩)
      + (∑ x : Fin 512, f ⟨1024 + x.val, by omega⟩) + (∑ x : Fin 512, f ⟨1536 + x.val, by omega⟩) = ∑ k, f k := by
  rw [Fin.sum_univ_add (a := 1536) (b := 512) f, Fin.sum_univ_add (a := 1024) (b := 512) fun i => f (Fin.castAdd 512 i),
    Fin.sum_univ_add (a := 512) (b := 512) fun i => f (Fin.castAdd 512 (Fin.castAdd 512 i))]
  rfl

end Cert.Tokens

namespace Cert.OutFwdIdeal.RefValue

open Cert.OutFwdIdeal Cert.OutFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s five argument arrays as launched. -/
abbrev argX (c : Dev nD) : FVec Ideal S8192x1024 .f32 := m ((c : Thread nD τ).loc main_arg0)
abbrev argM (c : Dev nD) : FVec Ideal S16x1024 .f32 := m ((c : Thread nD τ).loc main_arg1)
abbrev argA (c : Dev nD) : FVec Ideal S8208x1024 .f32 := m ((c : Thread nD τ).loc main_arg2)
abbrev argB (c : Dev nD) : FVec Ideal S8208x1024 .f32 := m ((c : Thread nD τ).loc main_arg3)
abbrev argW (c : Dev nD) : FVec Ideal S2048x1024 .f32 := m ((c : Thread nD τ).loc main_arg4)

/-- The two branches side by side. -/
def both (A B : FVec Ideal S8208x1024 .f32) (P : Fin 8448) (k : Fin 2048) : EReal :=
  if h : k.val < 1024 then Tokens.behind (fun R k => A (ix2 R k)) P ⟨k.val, h⟩ else Tokens.behind (fun R k => B (ix2 R k)) P ⟨k.val - 1024, by omega⟩

/-- A row of the stream after the projection, numbered with the zeros in front. -/
def stream (X : FVec Ideal S8192x1024 .f32) (M : FVec Ideal S16x1024 .f32) (A B : FVec Ideal S8208x1024 .f32) (W : FVec Ideal S2048x1024 .f32)
    (P : Fin 8448) (l : Fin 1024) : EReal :=
  Tokens.row (fun R k => X (ix2 R k)) (fun R k => M (ix2 R k)) P l + ∑ k : Fin 2048, both A B P k * W (ix2 k l)

/-- The same as an array, with the zeros' rows and without. -/
def streamAll (X : FVec Ideal S8192x1024 .f32) (M : FVec Ideal S16x1024 .f32) (A B : FVec Ideal S8208x1024 .f32) (W : FVec Ideal S2048x1024 .f32) :
    FVec Ideal S8448x1024 .f32 := fun i => stream X M A B W (i 0) (i 1)
def streamOf (X : FVec Ideal S8192x1024 .f32) (M : FVec Ideal S16x1024 .f32) (A B : FVec Ideal S8208x1024 .f32) (W : FVec Ideal S2048x1024 .f32) :
    FVec Ideal S8208x1024 .f32 := fun i => stream X M A B W ⟨240 + (i 0).val, Nat.lt_of_lt_of_le (Nat.add_lt_add_left (i 0).isLt 240) (by decide)⟩ (i 1)

/-- A grid point's blocks. -/
abbrev blkA (c : Dev nD) (t : Fin cfg0.N) : FVec Ideal S768x1024 .bf16 := iblk m c 0 t
abbrev blkB (c : Dev nD) (t : Fin cfg0.N) : FVec Ideal S768x1024 .bf16 := iblk m c 1 t
abbrev blkX0 (c : Dev nD) (t : Fin cfg0.N) : FVec Ideal S256x1024 .f32 := iblk m c 2 t
abbrev blkX1 (c : Dev nD) (t : Fin cfg0.N) : FVec Ideal S256x1024 .f32 := iblk m c 3 t
abbrev blkX2 (c : Dev nD) (t : Fin cfg0.N) : FVec Ideal S256x1024 .f32 := iblk m c 4 t
abbrev blkM (c : Dev nD) (t : Fin cfg0.N) : FVec Ideal S768x1024 .f32 := iblk m c 5 t
abbrev blkW (c : Dev nD) (t : Fin cfg0.N) : FVec Ideal S4x512x1024 .bf16 := iblk m c 6 t

/-- Where each window's block sits at a grid point. -/
theorem idx : ∀ t : Fin cfg0.N, win0_0.index t = ![t.val, 0] ∧ win0_1.index t = ![t.val, 0] ∧ win0_2.index t = ![3 * t.val - 1, 0]
    ∧ win0_3.index t = ![3 * t.val, 0] ∧ win0_4.index t = ![3 * t.val + 1, 0] ∧ win0_5.index t = ![0, 0] ∧ win0_6.index t = ![0, 1, 0]
    ∧ win0_7.index t = ![t.val, 0] :=
  (by decide +kernel : ∀ t : Fin grid0.N, _)

theorem pt_lt (t : Fin cfg0.N) (r : Fin 768) : t.val * 768 + r.val < 8448 := by
  have : t.val < 11 := t.isLt
  omega

/-- A grid point's row among all rows. -/
abbrev at_ (t : Fin cfg0.N) (r : Fin 768) : Fin 8448 := ⟨t.val * 768 + r.val, pt_lt t r⟩

/-- The two branches as the region finds them. -/
theorem V_a (c : Dev nD) (P : Fin 8448) (k : Fin 1024) : (V m c (Pipeline.arrRef spec0 0) : FVec Ideal S8448x1024 .bf16) (ix2 P k)
    = Tokens.behind (fun R k => argA m c (ix2 R k)) P k := by
  unfold V
  after_reads_at
  have hP := P.isLt
  unfold Tokens.behind
  by_cases h : 240 ≤ P.val
  · rw [dif_pos ⟨h, by omega⟩, dif_pos h]
  · rw [dif_neg (fun q => h q.1), dif_neg h]
    change (((0#32 : BitVec 32).toInt : ℝ) : EReal) = 0
    simp
theorem V_b (c : Dev nD) (P : Fin 8448) (k : Fin 1024) : (V m c (Pipeline.arrRef spec0 1) : FVec Ideal S8448x1024 .bf16) (ix2 P k)
    = Tokens.behind (fun R k => argB m c (ix2 R k)) P k := by
  unfold V
  after_reads_at
  have hP := P.isLt
  unfold Tokens.behind
  by_cases h : 240 ≤ P.val
  · rw [dif_pos ⟨h, by omega⟩, dif_pos h]
  · rw [dif_neg (fun q => h q.1), dif_neg h]
    change (((0#32 : BitVec 32).toInt : ℝ) : EReal) = 0
    simp

/-- The block of the meta tokens, 240 rows of zeros in front of them and 512 behind. -/
theorem V_m (c : Dev nD) (r : Fin 768) (k : Fin 1024) : V m c (Pipeline.arrRef spec0 5) (ix2 r k)
    = if h : 240 ≤ r.val then (if h' : r.val < 256 then argM m c (ix2 ⟨r.val - 240, by omega⟩ k) else 0) else 0 := by
  unfold V
  after_reads_at
  by_cases h : 240 ≤ r.val
  · rw [dif_neg (by omega), dif_pos h]
    by_cases h' : r.val < 256
    · rw [dif_pos (by omega), dif_pos h']
    · rw [dif_neg (by omega), dif_neg h']
      after_reads_at
  · rw [dif_pos (by omega), dif_neg h]
    after_reads_at

/-- The weights in four tiles of 512 rows, as the region finds them behind as many rows of zeros. -/
theorem V_w (c : Dev nD) (a : Fin 4) (b : Fin 512) (k : Fin 1024) :
    (V m c (Pipeline.arrRef spec0 6) : FVec Ideal S4x1024x1024 .bf16) (ix3 a ⟨512 + b.val, by omega⟩ k) = argW m c (ix2 ⟨a.val * 512 + b.val, by omega⟩ k) := by
  unfold V
  after_reads_at

/-- A grid point's blocks, element by element. -/
theorem blk_a (c : Dev nD) (t : Fin cfg0.N) (r : Fin 768) (k : Fin 1024) : blkA m c t (ix2 r k) = Tokens.behind (fun R k => argA m c (ix2 R k)) (at_ t r) k := by
  rw [← V_a m c (at_ t r) k]
  blk_ext [iblk, (idx t).1]
theorem blk_b (c : Dev nD) (t : Fin cfg0.N) (r : Fin 768) (k : Fin 1024) : blkB m c t (ix2 r k) = Tokens.behind (fun R k => argB m c (ix2 R k)) (at_ t r) k := by
  rw [← V_b m c (at_ t r) k]
  blk_ext [iblk, (idx t).2.1]
theorem blk_x0 (c : Dev nD) (t : Fin cfg0.N) (s : Fin 256) (k : Fin 1024) (R : Fin 8192) (hR : R.val = (3 * t.val - 1) * 256 + s.val) :
    blkX0 m c t (ix2 s k) = argX m c (ix2 R k) := by
  rw [show argX m c (ix2 R k) = V m c main_arg0 (ix2 R k) from by unfold V; after_reads_at]
  blk_ext [iblk, (idx t).2.2.1]
theorem blk_x1 (c : Dev nD) (t : Fin cfg0.N) (s : Fin 256) (k : Fin 1024) (R : Fin 8192) (hR : R.val = 3 * t.val * 256 + s.val) :
    blkX1 m c t (ix2 s k) = argX m c (ix2 R k) := by
  rw [show argX m c (ix2 R k) = V m c main_arg0 (ix2 R k) from by unfold V; after_reads_at]
  blk_ext [iblk, (idx t).2.2.2.1]
theorem blk_x2 (c : Dev nD) (t : Fin cfg0.N) (s : Fin 256) (k : Fin 1024) (R : Fin 8192) (hR : R.val = (3 * t.val + 1) * 256 + s.val) :
    blkX2 m c t (ix2 s k) = argX m c (ix2 R k) := by
  rw [show argX m c (ix2 R k) = V m c main_arg0 (ix2 R k) from by unfold V; after_reads_at]
  blk_ext [iblk, (idx t).2.2.2.2.1]
theorem blk_m (c : Dev nD) (t : Fin cfg0.N) (r : Fin 768) (k : Fin 1024) : blkM m c t (ix2 r k)
    = if h : 240 ≤ r.val then (if h' : r.val < 256 then argM m c (ix2 ⟨r.val - 240, by omega⟩ k) else 0) else 0 := by
  rw [← V_m m c r k]
  blk_ext [iblk, (idx t).2.2.2.2.2.1]
theorem blk_w (c : Dev nD) (t : Fin cfg0.N) (a : Fin 4) (b : Fin 512) (k : Fin 1024) (j : Fin 2048) (hj : j.val = a.val * 512 + b.val) :
    blkW m c t (ix3 a b k) = argW m c (ix2 j k) := by
  have e : j = ⟨a.val * 512 + b.val, by omega⟩ := Fin.ext hj
  rw [e, ← V_w m c a b k]
  blk_ext [iblk, (idx t).2.2.2.2.2.2.1]

/-- The mask of the first 256 rows of the first block. -/
theorem cond_t : ∀ t : Fin cfg0.N, Scalar.cmpi .eq (BitVec.ofNat 32 (grid0.coords t 0).val) 0#32 = if t.val = 0 then 1#1 else 0#1 :=
  (by decide +kernel : ∀ t : Fin grid0.N, _)
theorem cond_r : ∀ r : Fin 768, IntOp.cmpi .slt (BitVec.ofNat 32 r.val) 256#32 = if r.val < 256 then 1#1 else 0#1 := by decide +kernel
theorem mask (t : Fin cfg0.N) (r : Fin 768) (a b : EReal) :
    Scalar.select (IntOp.andi (Scalar.cmpi .eq (BitVec.ofNat 32 (grid0.coords t 0).val) 0#32) (IntOp.cmpi .slt (BitVec.ofNat 32 r.val) 256#32)) a b
      = if t.val = 0 ∧ r.val < 256 then a else b := by
  rw [cond_t, cond_r]
  by_cases h0 : t.val = 0 <;> by_cases h1 : r.val < 256 <;> simp only [h0, h1, if_true, if_false, and_self, and_true, and_false, false_and] <;> rfl

/-- After the run the region's result array holds the stream. -/
theorem final (c : Dev nD) : (dats m 0 c).arrAt 7 cfg0.N = streamAll (argX m c) (argM m c) (argA m c) (argB m c) (argW m c) := by
  refine (dats m 0 c).arrAt_eq_of_covers 7 _ (by decide +kernel) fun t hf y => ?_
  blk_simp
  rw [after0_7]
  have ht : t.val < 11 := t.isLt
  obtain ⟨r, l, rfl⟩ : ∃ (r : Fin 768) (l : Fin 1024), y = ix2 r l := ⟨y 0, y 1, eq_ix2 y⟩
  have he : (win0_7.blk t).view.emb (ix2 r l) = ix2 (at_ t r) l := by
    blk_ext [(idx t).2.2.2.2.2.2.2]
  refine Eq.trans ?_ (congrArg _ he.symm)
  frame_out
  pointwise [k0_pay1, k0_pay2, k0_pay3, k0_pay4]
  rw [mask]
  have hx : ∀ k : Fin 2048, both (argA m c) (argB m c) (at_ t r) k
      = if h : k.val < 1024 then blkA m c t (ix2 r ⟨k.val, h⟩) else blkB m c t (ix2 r ⟨k.val - 1024, by omega⟩) := fun k => by
    unfold both
    simp only [blk_a, blk_b]
  unfold streamAll stream
  refine congrArg₂ _ (Tokens.row_block (fun R k => argX m c (ix2 R k)) (fun R k => argM m c (ix2 R k)) t.val r l ht
    (fun r => blkM m c t (ix2 r l)) (fun s => blkX0 m c t (ix2 s l)) (fun s => blkX1 m c t (ix2 s l)) (fun s => blkX2 m c t (ix2 s l))
    (fun r _ => blk_m m c t r l) (fun s R h => blk_x0 m c t s l R h) (fun s R h => blk_x1 m c t s l R h) (fun s R h => blk_x2 m c t s l R h)) ?_
  rw [← Tokens.sum_quarters]
  have lo : ∀ (a : Fin 4) (x : Fin 512) (k : Fin 2048) (j : Fin 1024), k.val = a.val * 512 + x.val → k.val = j.val →
      blkA m c t (ix2 r j) * blkW m c t (ix3 a x l) = both (argA m c) (argB m c) (at_ t r) k * argW m c (ix2 k l) := fun a x k j hk hj => by
    rw [hx, dif_pos (by omega), blk_w m c t a x l k hk]
    exact congrArg (fun j : Fin 1024 => blkA m c t (ix2 r j) * _) (Fin.ext hj.symm)
  have hi : ∀ (a : Fin 4) (x : Fin 512) (k : Fin 2048) (j : Fin 1024), k.val = a.val * 512 + x.val → k.val = 1024 + j.val →
      blkB m c t (ix2 r j) * blkW m c t (ix3 a x l) = both (argA m c) (argB m c) (at_ t r) k * argW m c (ix2 k l) := fun a x k j hk hj => by
    rw [hx, dif_neg (by omega), blk_w m c t a x l k hk]
    exact congrArg (fun j : Fin 1024 => blkB m c t (ix2 r j) * _) (Fin.ext (show j.val = k.val - 1024 by omega))
  refine congrArg₂ _ (congrArg₂ _ (congrArg₂ _ ?_ ?_) ?_) ?_
  · exact Finset.sum_congr rfl fun x _ => lo 0 x ⟨x.val, by omega⟩ ⟨x.val, by omega⟩ (show x.val = 0 * 512 + x.val by omega) rfl
  · exact Finset.sum_congr rfl fun x _ => lo 1 x ⟨512 + x.val, by omega⟩ ⟨512 + x.val, by omega⟩ (show 512 + x.val = 1 * 512 + x.val by omega) rfl
  · exact Finset.sum_congr rfl fun x _ => hi 2 x ⟨1024 + x.val, by omega⟩ ⟨x.val, by omega⟩ (show 1024 + x.val = 2 * 512 + x.val by omega) rfl
  · exact Finset.sum_congr rfl fun x _ => hi 3 x ⟨1536 + x.val, by omega⟩ ⟨512 + x.val, by omega⟩ (show 1536 + x.val = 3 * 512 + x.val by omega)
      (show 1536 + x.val = 1024 + (512 + x.val) by omega)

/-- The result is the stream without the zeros' rows. -/
theorem tail (c : Dev nD) : (Pipeline.afterTail₀ cfgs (dats m) 0 (V0 m) [hostOps1] c main_v12 : FVec Ideal S8208x1024 .f32)
    = streamOf (argX m c) (argM m c) (argA m c) (argB m c) (argW m c) := by
  funext y
  unfold Pipeline.afterTail₀
  after_reads_at
  have e : Pipeline.withArrays (cfgs 0).spec c (V0 m c) (fun w => (dats m 0 c).arrAt w (cfgs 0).N) (Proc.tc.devRef main_v11)
      = (dats m 0 c).arrAt 7 cfg0.N :=
    (dats m 0 c).withArrays_arrAt sharedIn0 (V0 m c) (fun w => A_eq m c w) 7
  rw [e, final]
  rfl

/-- The program's result and its arguments after the run. -/
theorem run : θ_run defs (onTc (τ := τ) (main (F := Ideal))) ⟨m, fun _ => 0, ρ⟩ (fun r => ∀ c : Dev nD,
      r.2.mem ((c.tc : Thread nD τ).loc main_v12) = streamOf (argX m c) (argM m c) (argA m c) (argB m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (run_main (F := Ideal) m ρ)
  · exact tail m c
  · exact W_main_arg1 m (dats m) c
  · exact W_main_arg2 m (dats m) c
  · exact W_main_arg3 m (dats m) c
  · exact W_main_arg4 m (dats m) c

end Cert.OutFwdIdeal.RefValue

namespace Cert.OutFwdRefIdeal.RefValue

open Cert.OutFwdRefIdeal Cert.OutFwdRefIdeal.Gen Idealize.ShloMosaic

/-- The reference's result is the same stream. -/
theorem ref_eq (X : FVec Ideal S8192x1024 .f32) (M : FVec Ideal S16x1024 .f32) (A B : FVec Ideal S8208x1024 .f32) (W : FVec Ideal S2048x1024 .f32) :
    (addf (concatenate S8208x1024 0 [⟨S16x1024, M⟩, ⟨S8192x1024, X⟩] concatenates_S16x1024_S8192x1024_S8208x1024_d0) (Host.dotGeneral dot_S8208x2048_S2048x1024_S8208x1024_1_0_0_1_n_n none (concatenate S8208x2048 1 [⟨S8208x1024, A⟩, ⟨S8208x1024, B⟩] concatenates_S8208x1024_S8208x1024_S8208x2048_d1) W) : FVec Ideal S8208x1024 .f32)
      = Cert.OutFwdIdeal.RefValue.streamOf X M A B W := by
  funext (j : S8208x1024.Idx)
  obtain ⟨R, l, rfl⟩ : ∃ (R : Fin 8208) (l : Fin 1024), j = ix2 R l := ⟨j 0, j 1, eq_ix2 j⟩
  have e : Cert.OutFwdIdeal.RefValue.streamOf X M A B W (ix2 R l) = Cert.OutFwdIdeal.RefValue.stream X M A B W ⟨240 + R.val, by omega⟩ l := rfl
  rw [e]
  unfold Cert.OutFwdIdeal.RefValue.stream Cert.OutFwdIdeal.RefValue.both
  simp only [Tokens.row_at, Tokens.behind_at]
  pointwise

end Cert.OutFwdRefIdeal.RefValue

/-! ## The claims about this call -/

namespace Cert.Proof.OutFwd

open Idealize.ShloMosaic Idealize.ShloMosaic.TcCoe Idealize.SL.Sem

/-- The kernel runs, leaves its arguments as they were and ends with every semaphore at zero. -/
theorem frame_kernel : Cert.quiescent_OutFwd := fun m ρ _ => Cert.OutFwd.Gen.frame m ρ

/-- So does its idealization. -/
theorem frame_ideal : Cert.quiescent_OutFwdIdeal := fun m ρ _ => Cert.OutFwdIdeal.Gen.frame m ρ

/-- And the reference. -/
theorem frame_ref : Cert.quiescent_OutFwdRefIdeal := fun m ρ _ =>
  (θ_run Cert.OutFwdRefIdeal.defs _ _).mono
    (fun r h => ⟨fun c => (h c).2, Idealize.ShloMosaic.sem_eq_zero_of_no_sems (by decide) r.2⟩)
    (Cert.OutFwdRefIdeal.Value.run (F := Ideal) m ρ)

/-- On the extended reals the kernel's result is the tokens with the meta tokens in front, plus `[y_ssd, y_s5] @ w_out`. -/
theorem value : Cert.algebraic_OutFwdIdeal_OutFwdRefIdeal := fun m ρ m' ρ' _ hag =>
  ⟨fun c => OutFwdIdeal.RefValue.streamOf (OutFwdIdeal.RefValue.argX m c) (OutFwdIdeal.RefValue.argM m c) (OutFwdIdeal.RefValue.argA m c)
      (OutFwdIdeal.RefValue.argB m c) (OutFwdIdeal.RefValue.argW m c),
    OutFwdIdeal.RefValue.run m ρ,
    (θ_run Cert.OutFwdRefIdeal.defs _ _).mono (fun _ h c => ⟨(h c).1.trans (by
        rw [(hag c).1, (hag c).2.1, (hag c).2.2.1, (hag c).2.2.2.1, (hag c).2.2.2.2]
        exact OutFwdRefIdeal.RefValue.ref_eq _ _ _ _ _), (h c).2⟩)
      (Cert.OutFwdRefIdeal.Value.run (F := Ideal) m' ρ')⟩

end Cert.Proof.OutFwd

end
-- ==== Proof.InFwd.lean ====
/-
  The values of `in_proj`: the norm of the tokens with the meta tokens in front, and its product by `w_in`.

  The kernel works on 11 blocks of 768 rows, the first 240 of them zeros in front of the 16 meta tokens. A block norms its rows
  and multiplies them by the transposed weights, whose rows are in the order in which later calls read the product, padded by
  rows of zeros. The zeros' rows are cut off in the end and the product's columns put back in order.
-/
module

public import proofs.«01_k».proof.Defs
public import proofs.«01_k».proof.Proof.RmsGrad
public import proofs.«01_k».proof.Proof.OutFwd
public import proofs.«01_k».proof.Proof.Gen.InFwd.Frame
public import proofs.«01_k».proof.Proof.Gen.InFwdIdeal.Frame
public import proofs.«01_k».proof.Proof.Gen.InFwdRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.InFwdIdeal.RefValue

open Cert.InFwdIdeal Cert.InFwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s four argument arrays as launched. -/
abbrev argX (c : Dev nD) : FVec Ideal S8192x1024 .f32 := m ((c : Thread nD τ).loc main_arg0)
abbrev argM (c : Dev nD) : FVec Ideal S16x1024 .f32 := m ((c : Thread nD τ).loc main_arg1)
abbrev argG (c : Dev nD) : FVec Ideal S1x1024 .f32 := m ((c : Thread nD τ).loc main_arg2)
abbrev argW (c : Dev nD) : FVec Ideal S1024x3600 .f32 := m ((c : Thread nD τ).loc main_arg3)

/-- A row of the tokens with the meta tokens and 240 rows of zeros in front. -/
abbrev row (X : FVec Ideal S8192x1024 .f32) (M : FVec Ideal S16x1024 .f32) (P : Fin 8448) (k : Fin 1024) : EReal :=
  Tokens.row (fun R k => X (ix2 R k)) (fun R k => M (ix2 R k)) P k

/-- A row of the norm. -/
def norm (X : FVec Ideal S8192x1024 .f32) (M : FVec Ideal S16x1024 .f32) (g : FVec Ideal S1x1024 .f32) (P : Fin 8448) (k : Fin 1024) : EReal :=
  row X M P k * RmsGrad.scale (row X M P) * g (ix2 0 k)

/-- The columns of the weights in the kernel's order, 112 columns of zeros behind them. -/
def order (f : Fin 3600 → EReal) (j : Fin 3712) : EReal :=
  if h : j.val < 1024 then f ⟨j.val, by omega⟩
  else if h : j.val < 2048 then f ⟨1552 + j.val, by omega⟩
  else if h : j.val < 3584 then f ⟨j.val - 1024, by omega⟩
  else if h : j.val < 3600 then f ⟨j.val - 1024, by omega⟩ else 0

/-- A row of the product with the weights, the columns in the kernel's order. -/
def prod (X : FVec Ideal S8192x1024 .f32) (M : FVec Ideal S16x1024 .f32) (g : FVec Ideal S1x1024 .f32) (W : FVec Ideal S1024x3600 .f32)
    (P : Fin 8448) (j : Fin 3712) : EReal := ∑ k : Fin 1024, norm X M g P k * order (fun i => W (ix2 k i)) j

/-- A row behind the zeros. -/
abbrev up (R : Fin 8208) : Fin 8448 := ⟨240 + R.val, by omega⟩

/-- The two results. -/
def normOf (X : FVec Ideal S8192x1024 .f32) (M : FVec Ideal S16x1024 .f32) (g : FVec Ideal S1x1024 .f32) : FVec Ideal S8208x1024 .bf16 := fun i =>
  norm X M g (up (i 0)) (i 1)
def prodOf (X : FVec Ideal S8192x1024 .f32) (M : FVec Ideal S16x1024 .f32) (g : FVec Ideal S1x1024 .f32) (W : FVec Ideal S1024x3600 .f32) :
    FVec Ideal S8208x3600 .f32 := fun i => ∑ k : Fin 1024, norm X M g (up (i 0)) k * W (ix2 k (i 1))

/-- The region's two arrays. -/
def normAll (X : FVec Ideal S8192x1024 .f32) (M : FVec Ideal S16x1024 .f32) (g : FVec Ideal S1x1024 .f32) : FVec Ideal S8448x1024 .bf16 := fun i =>
  norm X M g (i 0) (i 1)
def prodAll (X : FVec Ideal S8192x1024 .f32) (M : FVec Ideal S16x1024 .f32) (g : FVec Ideal S1x1024 .f32) (W : FVec Ideal S1024x3600 .f32) :
    FVec Ideal S8448x3712 .f32 := fun i => prod X M g W (i 0) (i 1)

/-- A grid point's blocks. -/
abbrev blkX0 (c : Dev nD) (t : Fin cfg0.N) : FVec Ideal S256x1024 .f32 := iblk m c 0 t
abbrev blkX1 (c : Dev nD) (t : Fin cfg0.N) : FVec Ideal S256x1024 .f32 := iblk m c 1 t
abbrev blkX2 (c : Dev nD) (t : Fin cfg0.N) : FVec Ideal S256x1024 .f32 := iblk m c 2 t
abbrev blkM (c : Dev nD) (t : Fin cfg0.N) : FVec Ideal S768x1024 .f32 := iblk m c 3 t
abbrev blkG (c : Dev nD) (t : Fin cfg0.N) : FVec Ideal S1x1024 .f32 := iblk m c 4 t
abbrev blkW (c : Dev nD) (t : Fin cfg0.N) : FVec Ideal S3712x1024 .bf16 := iblk m c 5 t

/-- Where each window's block sits at a grid point. -/
theorem idx : ∀ t : Fin cfg0.N, win0_0.index t = ![3 * t.val - 1, 0] ∧ win0_1.index t = ![3 * t.val, 0] ∧ win0_2.index t = ![3 * t.val + 1, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

theorem pt_lt (t : Fin cfg0.N) (r : Fin 768) : t.val * 768 + r.val < 8448 := by
  have : t.val < 11 := t.isLt
  omega

/-- A grid point's row among all rows. -/
abbrev at_ (t : Fin cfg0.N) (r : Fin 768) : Fin 8448 := ⟨t.val * 768 + r.val, pt_lt t r⟩

/-- The block of the meta tokens, 240 rows of zeros in front of them and 512 behind. -/
theorem V_m (c : Dev nD) (r : Fin 768) (k : Fin 1024) : V m c (Pipeline.arrRef spec0 3) (ix2 r k)
    = if h : 240 ≤ r.val then (if h' : r.val < 256 then argM m c (ix2 ⟨r.val - 240, by omega⟩ k) else 0) else 0 := by
  unfold V
  after_reads_at
  by_cases h : 240 ≤ r.val
  · rw [dif_neg (by omega), dif_pos h]
    by_cases h' : r.val < 256
    · rw [dif_pos (by omega), dif_pos h']
    · rw [dif_neg (by omega), dif_neg h']
      after_reads_at
  · rw [dif_pos (by omega), dif_neg h]
    after_reads_at

/-- The weights as the region finds them. -/
theorem V_w (c : Dev nD) (j : Fin 3712) (k : Fin 1024) :
    (V m c (Pipeline.arrRef spec0 5) : FVec Ideal S3712x1024 .bf16) (ix2 j k) = order (fun i => argW m c (ix2 k i)) j := by
  unfold V
  after_reads_at
  have hj := j.isLt
  unfold order
  by_cases h0 : j.val < 1024
  · rw [dif_pos h0, dif_pos h0]
    after_reads_at
  rw [dif_neg h0, dif_neg h0]
  by_cases h1 : j.val < 2048
  · rw [dif_pos (by omega), dif_pos h1]
    after_reads_at
    exact congrArg (fun i : Fin 3600 => argW m c (ix2 k i)) (Fin.ext (show 2576 + (j.val - 1024) = 1552 + j.val by omega))
  rw [dif_neg (by omega), dif_neg h1]
  by_cases h2 : j.val < 3584
  · rw [dif_pos (by omega), dif_pos h2]
    after_reads_at
    exact congrArg (fun i : Fin 3600 => argW m c (ix2 k i)) (Fin.ext (show 1024 + (j.val - 1024 - 1024) = j.val - 1024 by omega))
  rw [dif_neg (by omega), dif_neg h2]
  by_cases h3 : j.val < 3600
  · rw [dif_pos (by omega), dif_pos h3]
    after_reads_at
    exact congrArg (fun i : Fin 3600 => argW m c (ix2 k i)) (Fin.ext (show 2560 + (j.val - 1024 - 1024 - 1536) = j.val - 1024 by omega))
  rw [dif_neg (by omega), dif_neg h3]
  after_reads_at

/-- A grid point's blocks, element by element. -/
theorem blk_x0 (c : Dev nD) (t : Fin cfg0.N) (s : Fin 256) (k : Fin 1024) (R : Fin 8192) (hR : R.val = (3 * t.val - 1) * 256 + s.val) :
    blkX0 m c t (ix2 s k) = argX m c (ix2 R k) := by
  rw [show argX m c (ix2 R k) = V m c main_arg0 (ix2 R k) from by unfold V; after_reads_at]
  blk_ext [iblk, (idx t).1]
theorem blk_x1 (c : Dev nD) (t : Fin cfg0.N) (s : Fin 256) (k : Fin 1024) (R : Fin 8192) (hR : R.val = 3 * t.val * 256 + s.val) :
    blkX1 m c t (ix2 s k) = argX m c (ix2 R k) := by
  rw [show argX m c (ix2 R k) = V m c main_arg0 (ix2 R k) from by unfold V; after_reads_at]
  blk_ext [iblk, (idx t).2.1]
theorem blk_x2 (c : Dev nD) (t : Fin cfg0.N) (s : Fin 256) (k : Fin 1024) (R : Fin 8192) (hR : R.val = (3 * t.val + 1) * 256 + s.val) :
    blkX2 m c t (ix2 s k) = argX m c (ix2 R k) := by
  rw [show argX m c (ix2 R k) = V m c main_arg0 (ix2 R k) from by unfold V; after_reads_at]
  blk_ext [iblk, (idx t).2.2.1]
theorem blk_m (c : Dev nD) (t : Fin cfg0.N) (r : Fin 768) (k : Fin 1024) : blkM m c t (ix2 r k)
    = if h : 240 ≤ r.val then (if h' : r.val < 256 then argM m c (ix2 ⟨r.val - 240, by omega⟩ k) else 0) else 0 := by
  rw [← V_m m c r k]
  blk_ext [iblk, (idx t).2.2.2.1]
theorem blk_g (c : Dev nD) (t : Fin cfg0.N) (k : Fin 1024) : blkG m c t (ix2 0 k) = argG m c (ix2 0 k) := by
  rw [show argG m c (ix2 0 k) = V m c main_arg2 (ix2 0 k) from by unfold V; after_reads_at]
  blk_ext [iblk, (idx t).2.2.2.2.1]
theorem blk_w (c : Dev nD) (t : Fin cfg0.N) (j : Fin 3712) (k : Fin 1024) : blkW m c t (ix2 j k) = order (fun i => argW m c (ix2 k i)) j := by
  rw [← V_w m c j k]
  blk_ext [iblk, (idx t).2.2.2.2.2.1]

/-- The mask of the first 256 rows of the first block. -/
theorem cond_t : ∀ t : Fin cfg0.N, Scalar.cmpi .eq (BitVec.ofNat 32 (grid0.coords t 0).val) 0#32 = if t.val = 0 then 1#1 else 0#1 :=
  (by decide +kernel : ∀ t : Fin grid0.N, _)
theorem cond_r : ∀ r : Fin 768, IntOp.cmpi .slt (BitVec.ofNat 32 r.val) 256#32 = if r.val < 256 then 1#1 else 0#1 := by decide +kernel
theorem mask (t : Fin cfg0.N) (r : Fin 768) (a b : EReal) :
    Scalar.select (IntOp.andi (Scalar.cmpi .eq (BitVec.ofNat 32 (grid0.coords t 0).val) 0#32) (IntOp.cmpi .slt (BitVec.ofNat 32 r.val) 256#32)) a b
      = if t.val = 0 ∧ r.val < 256 then a else b := by
  rw [cond_t, cond_r]
  by_cases h0 : t.val = 0 <;> by_cases h1 : r.val < 256 <;> simp only [h0, h1, if_true, if_false, and_self, and_true, and_false, false_and] <;> rfl

/-- What a block norms, at an element of any blocks. -/
def pick (i : grid0.Coords) (x0 x1 x2 : FVec Ideal S256x1024 .f32) (z : FVec Ideal S768x1024 .f32) (r : Fin 768) (l : Fin 1024) : EReal :=
  Scalar.select (IntOp.andi (Scalar.cmpi .eq (BitVec.ofNat 32 (i 0).val) 0#32) (IntOp.cmpi .slt (BitVec.ofNat 32 r.val) 256#32)) (z (ix2 r l))
    (if h : r.val < 256 then x0 (ix2 ⟨r.val, h⟩ l)
      else if h' : r.val - 256 < 256 then x1 (ix2 ⟨r.val - 256, h'⟩ l) else x2 (ix2 ⟨r.val - 256 - 256, by omega⟩ l))

theorem pick_at (c : Dev nD) (t : Fin cfg0.N) (r : Fin 768) (l : Fin 1024) :
    pick (grid0.coords t) (blkX0 m c t) (blkX1 m c t) (blkX2 m c t) (blkM m c t) r l = row (argX m c) (argM m c) (at_ t r) l := by
  have ht : t.val < 11 := t.isLt
  unfold pick
  rw [mask]
  exact Tokens.row_block (fun R k => argX m c (ix2 R k)) (fun R k => argM m c (ix2 R k)) t.val r l ht
    (fun r => blkM m c t (ix2 r l)) (fun s => blkX0 m c t (ix2 s l)) (fun s => blkX1 m c t (ix2 s l)) (fun s => blkX2 m c t (ix2 s l))
    (fun r _ => blk_m m c t r l) (fun s R h => blk_x0 m c t s l R h) (fun s R h => blk_x1 m c t s l R h) (fun s R h => blk_x2 m c t s l R h)

/-- The norm's payload at an element of any blocks. -/
theorem pay1 (i : grid0.Coords) (x0 x1 x2 : FVec Ideal S256x1024 .f32) (z : FVec Ideal S768x1024 .f32) (g : FVec Ideal S1x1024 .f32) (r : Fin 768) (l : Fin 1024) :
    k0_pay1 (F := Ideal) i x0 x1 x2 z g (ix2 r l) = pick i x0 x1 x2 z r l * RmsGrad.scale (pick i x0 x1 x2 z r) * g (ix2 0 l) := by
  pointwise [k0_pay1]
  rfl

/-- A block's rows of the norm. -/
theorem norm_at (c : Dev nD) (t : Fin cfg0.N) (r : Fin 768) (l : Fin 1024) :
    k0_pay1 (F := Ideal) (grid0.coords t) (blkX0 m c t) (blkX1 m c t) (blkX2 m c t) (blkM m c t) (blkG m c t) (ix2 r l)
      = norm (argX m c) (argM m c) (argG m c) (at_ t r) l := by
  rw [pay1, blk_g, pick_at, show pick (grid0.coords t) (blkX0 m c t) (blkX1 m c t) (blkX2 m c t) (blkM m c t) r = row (argX m c) (argM m c) (at_ t r)
    from funext (pick_at m c t r)]
  rfl

/-- After the run the region's two arrays hold the norm and its product. -/
theorem final7 (c : Dev nD) : (dats m 0 c).arrAt 7 cfg0.N = normAll (argX m c) (argM m c) (argG m c) := by
  refine (dats m 0 c).arrAt_eq_of_covers 7 _ (by decide +kernel) fun t hf y => ?_
  blk_simp
  rw [after0_7]
  have ht : t.val < 11 := t.isLt
  obtain ⟨r, l, rfl⟩ : ∃ (r : Fin 768) (l : Fin 1024), y = ix2 r l := ⟨y 0, y 1, eq_ix2 y⟩
  have he : (win0_7.blk t).view.emb (ix2 r l) = ix2 (at_ t r) l := by
    blk_ext [(idx t).2.2.2.2.2.2.2]
  refine Eq.trans ?_ (congrArg _ he.symm)
  frame_out
  exact norm_at m c t r l
theorem final6 (c : Dev nD) : (dats m 0 c).arrAt 6 cfg0.N = prodAll (argX m c) (argM m c) (argG m c) (argW m c) := by
  refine (dats m 0 c).arrAt_eq_of_covers 6 _ (by decide +kernel) fun t hf y => ?_
  blk_simp
  rw [after0_6]
  have ht : t.val < 11 := t.isLt
  obtain ⟨r, l, rfl⟩ : ∃ (r : Fin 768) (l : Fin 3712), y = ix2 r l := ⟨y 0, y 1, eq_ix2 y⟩
  have he : (win0_6.blk t).view.emb (ix2 r l) = ix2 (at_ t r) l := by
    blk_ext [(idx t).2.2.2.2.2.2.1]
  refine Eq.trans ?_ (congrArg _ he.symm)
  frame_out
  have hn := norm_at m c t r
  unfold k0_pay2
  generalize k0_pay1 (F := Ideal) (grid0.coords t) (iblk m c 0 t) (iblk m c 1 t) (iblk m c 2 t) (iblk m c 3 t) (iblk m c 4 t) = n at hn ⊢
  pointwise
  show (_ : EReal) = _
  exact Finset.sum_congr rfl fun k _ => congrArg₂ (fun a b : EReal => a * b) (hn k) (blk_w m c t l k)

/-- The region's arrays that the host reads after it. -/
theorem arr6 (c : Dev nD) : Pipeline.withArrays (cfgs 0).spec c (V0 m c) (fun w => (dats m 0 c).arrAt w (cfgs 0).N) (Proc.tc.devRef main_v11_0)
    = prodAll (argX m c) (argM m c) (argG m c) (argW m c) :=
  ((dats m 0 c).withArrays_arrAt sharedIn0 (V0 m c) (fun w => A_eq m c w) 6).trans (final6 m c)
theorem arr7 (c : Dev nD) : Pipeline.withArrays (cfgs 0).spec c (V0 m c) (fun w => (dats m 0 c).arrAt w (cfgs 0).N) (Proc.tc.devRef main_v11_1)
    = normAll (argX m c) (argM m c) (argG m c) :=
  ((dats m 0 c).withArrays_arrAt sharedIn0 (V0 m c) (fun w => A_eq m c w) 7).trans (final7 m c)

/-- The second result is the norm without the zeros' rows. -/
theorem tail16 (c : Dev nD) : (Pipeline.afterTail₀ cfgs (dats m) 0 (V0 m) [hostOps1] c main_v16 : FVec Ideal S8208x1024 .bf16)
    = normOf (argX m c) (argM m c) (argG m c) := by
  funext y
  unfold Pipeline.afterTail₀
  after_reads_at
  rw [arr7]
  rfl

/-- The first result is the product without the zeros' rows, its columns back in order. -/
theorem tail15 (c : Dev nD) : (Pipeline.afterTail₀ cfgs (dats m) 0 (V0 m) [hostOps1] c main_v15 : FVec Ideal S8208x3600 .f32)
    = prodOf (argX m c) (argM m c) (argG m c) (argW m c) := by
  funext (y : S8208x3600.Idx)
  obtain ⟨R, l, rfl⟩ : ∃ (R : Fin 8208) (l : Fin 3600), y = ix2 R l := ⟨y 0, y 1, eq_ix2 y⟩
  have col : ∀ j : Fin 3712, (∀ f : Fin 3600 → EReal, order f j = f l) →
      prodAll (argX m c) (argM m c) (argG m c) (argW m c) (ix2 (up R) j) = prodOf (argX m c) (argM m c) (argG m c) (argW m c) (ix2 R l) := fun j h => by
    show prod (argX m c) (argM m c) (argG m c) (argW m c) (up R) j = _
    unfold prod
    simp only [h]
    rfl
  unfold Pipeline.afterTail₀
  after_reads_at
  have hl := l.isLt
  by_cases h0 : l.val < 1024
  · rw [dif_pos h0]
    after_reads_at
    rw [arr6]
    exact col _ fun f => by
      unfold order
      rw [dif_pos (show l.val < 1024 from h0)]
  rw [dif_neg h0]
  by_cases h1 : l.val - 1024 < 1552
  · rw [dif_pos h1]
    after_reads_at
    rw [arr6]
    refine col _ fun f => ?_
    unfold order
    rw [dif_neg (show ¬ 2048 + (l.val - 1024) < 1024 by omega), dif_neg (show ¬ 2048 + (l.val - 1024) < 2048 by omega)]
    by_cases h2 : 2048 + (l.val - 1024) < 3584
    · rw [dif_pos h2]
      exact congrArg f (Fin.ext (show 2048 + (l.val - 1024) - 1024 = l.val by omega))
    · rw [dif_neg h2, dif_pos (show 2048 + (l.val - 1024) < 3600 by omega)]
      exact congrArg f (Fin.ext (show 2048 + (l.val - 1024) - 1024 = l.val by omega))
  rw [dif_neg h1]
  after_reads_at
  rw [arr6]
  refine col _ fun f => ?_
  unfold order
  rw [dif_neg (show ¬ 1024 + (l.val - 1024 - 1552) < 1024 by omega), dif_pos (show 1024 + (l.val - 1024 - 1552) < 2048 by omega)]
  exact congrArg f (Fin.ext (show 1552 + (1024 + (l.val - 1024 - 1552)) = l.val by omega))

/-- The program's results and its arguments after the run. -/
theorem run : θ_run defs (onTc (τ := τ) (main (F := Ideal))) ⟨m, fun _ => 0, ρ⟩ (fun r => ∀ c : Dev nD,
      r.2.mem ((c.tc : Thread nD τ).loc main_v15) = prodOf (argX m c) (argM m c) (argG m c) (argW m c)
      ∧ r.2.mem ((c.tc : Thread nD τ).loc main_v16) = normOf (argX m c) (argM m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from (run_main (F := Ideal) m ρ)
  · exact tail15 m c
  · exact tail16 m c
  · exact W_main_arg1 m (dats m) c
  · exact W_main_arg3 m (dats m) c

end Cert.InFwdIdeal.RefValue

namespace Cert.InFwdRefIdeal.RefValue

open Cert.InFwdRefIdeal Cert.InFwdRefIdeal.Gen Idealize.ShloMosaic
open Cert.InFwdIdeal.RefValue (normOf prodOf up)

/-- The reference's rows, the meta tokens' followed by the tokens'. -/
theorem rows (X : FVec Ideal S8192x1024 .f32) (M : FVec Ideal S16x1024 .f32) (R : Fin 8208) (k : Fin 1024) :
    ((concatenate S8208x1024 0 [⟨S16x1024, M⟩, ⟨S8192x1024, X⟩] concatenates_S16x1024_S8192x1024_S8208x1024_d0) : FVec Ideal S8208x1024 .f32) (ix2 R k) = Cert.InFwdIdeal.RefValue.row X M (up R) k := by
  unfold Cert.InFwdIdeal.RefValue.row
  rw [Tokens.row_at]
  pointwise

/-- The reference's norm of any array of those rows. -/
theorem norm_at (X : FVec Ideal S8192x1024 .f32) (M : FVec Ideal S16x1024 .f32) (g : FVec Ideal S1x1024 .f32) (h : FVec Ideal S8208x1024 .f32)
    (hh : ∀ R k, h (ix2 R k) = Cert.InFwdIdeal.RefValue.row X M (up R) k) (R : Fin 8208) (l : Fin 1024) :
    ((mulf (mulf h (broadcastInDim S8208x1024 ![0, 1] bcast_S8208x1_S8208x1024_0_1 (Host.rsqrt (addf (Host.divf (broadcastInDim S8208x1 ![0] bcast_S8208_S8208x1_0 (Host.reduceAdd (mulf h h) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x3727C5AC#32)))))) (broadcastInDim S8208x1024 ![0, 1] bcast_S1x1024_S8208x1024_0_1 g)) : FVec Ideal S8208x1024 .f32) (ix2 R l) = Cert.InFwdIdeal.RefValue.norm X M g (up R) l := by
  pointwise [Cert.InFwdIdeal.RefValue.norm]
  simp only [hh]
  rfl

/-- The reference's second result. -/
theorem norm_eq (X : FVec Ideal S8192x1024 .f32) (M : FVec Ideal S16x1024 .f32) (g : FVec Ideal S1x1024 .f32) (n : FVec Ideal S8208x1024 .f32)
    (h : ∀ R l, n (ix2 R l) = Cert.InFwdIdeal.RefValue.norm X M g (up R) l) :
    (truncf .bf16 n bitsLt_bf16_f32 : FVec Ideal S8208x1024 .bf16) = normOf X M g := by
  funext (j : S8208x1024.Idx)
  obtain ⟨R, l, rfl⟩ : ∃ (R : Fin 8208) (l : Fin 1024), j = ix2 R l := ⟨j 0, j 1, eq_ix2 j⟩
  pointwise
  exact h R l

/-- The reference's first result. -/
theorem prod_eq (X : FVec Ideal S8192x1024 .f32) (M : FVec Ideal S16x1024 .f32) (g : FVec Ideal S1x1024 .f32) (W : FVec Ideal S1024x3600 .f32)
    (n : FVec Ideal S8208x1024 .f32) (h : ∀ R l, n (ix2 R l) = Cert.InFwdIdeal.RefValue.norm X M g (up R) l) :
    (Host.dotGeneral dot_S8208x1024_S1024x3600_S8208x3600_1_0_0_1_n_n none n W : FVec Ideal S8208x3600 .f32) = prodOf X M g W := by
  funext (j : S8208x3600.Idx)
  obtain ⟨R, l, rfl⟩ : ∃ (R : Fin 8208) (l : Fin 3600), j = ix2 R l := ⟨j 0, j 1, eq_ix2 j⟩
  pointwise
  simp only [h]
  rfl

end Cert.InFwdRefIdeal.RefValue

/-! ## The claims about this call -/

namespace Cert.Proof.InFwd

open Idealize.ShloMosaic Idealize.ShloMosaic.TcCoe Idealize.SL.Sem

/-- The kernel runs, leaves its arguments as they were and ends with every semaphore at zero. -/
theorem frame_kernel : Cert.quiescent_InFwd := fun m ρ _ => Cert.InFwd.Gen.frame m ρ

/-- So does its idealization. -/
theorem frame_ideal : Cert.quiescent_InFwdIdeal := fun m ρ _ => Cert.InFwdIdeal.Gen.frame m ρ

/-- And the reference. -/
theorem frame_ref : Cert.quiescent_InFwdRefIdeal := fun m ρ _ =>
  (θ_run Cert.InFwdRefIdeal.defs _ _).mono
    (fun r h => ⟨fun c => (h c).2.2, Idealize.ShloMosaic.sem_eq_zero_of_no_sems (by decide) r.2⟩)
    (Cert.InFwdRefIdeal.Value.run (F := Ideal) m ρ)

/-- On the extended reals the kernel's results are `rmsnorm([meta, x]) * g @ w_in` and the norm itself. -/
theorem value : Cert.algebraic_InFwdIdeal_InFwdRefIdeal := fun m ρ m' ρ' _ hag =>
  ⟨fun c => InFwdIdeal.RefValue.prodOf (InFwdIdeal.RefValue.argX m c) (InFwdIdeal.RefValue.argM m c) (InFwdIdeal.RefValue.argG m c)
      (InFwdIdeal.RefValue.argW m c),
    fun c => InFwdIdeal.RefValue.normOf (InFwdIdeal.RefValue.argX m c) (InFwdIdeal.RefValue.argM m c) (InFwdIdeal.RefValue.argG m c),
    InFwdIdeal.RefValue.run m ρ,
    (θ_run Cert.InFwdRefIdeal.defs _ _).mono (fun _ h c => ⟨(h c).1.trans (by
        rw [(hag c).1, (hag c).2.1, (hag c).2.2.1, (hag c).2.2.2]
        exact InFwdRefIdeal.RefValue.prod_eq _ _ _ _ _ (InFwdRefIdeal.RefValue.norm_at _ _ _ _ (InFwdRefIdeal.RefValue.rows _ _))), (h c).2.1.trans (by
        rw [(hag c).1, (hag c).2.1, (hag c).2.2.1]
        exact InFwdRefIdeal.RefValue.norm_eq _ _ _ _ (InFwdRefIdeal.RefValue.norm_at _ _ _ _ (InFwdRefIdeal.RefValue.rows _ _))), (h c).2.2⟩)
      (Cert.InFwdRefIdeal.Value.run (F := Ideal) m' ρ')⟩

end Cert.Proof.InFwd

end
-- ==== Proof.Keeps.lean ====
/-
  Programs that keep what they are given. `Keeps c I p` says: from the resources `I` the program `p` runs without a
  fault and gives `I` back. For a frame nothing has to be said of what a body computes, only that each buffer it stores
  into is one it holds; a resource `I` that holds every such buffer at some contents is then kept by one load, by one
  store, and so by any sequence, branch and counted loop of them.
-/
module

public import Idealize.ShloMosaic.Lib.Pipeline.FrameBody
public import Idealize.ShloMosaic.Lib.Pipeline.FrameSuffix
public import Idealize.ShloMosaic.Lib.Scf
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

/-- From `I` the program runs and gives `I` back. -/
def Keeps (defs : Defs nD τ sig Val Λ) (c : Dev nD) (I : sProp 𝕄) {α : Type} (p : Prog (TpuEff nD τ sig Val Λ .tc) α) : Prop :=
  I ⊢ wp frame (wpE defs Variants.none (c : Thread nD τ) none) Set.univ p (fun _ => I)

/-- `I` holds the memref's buffer at some contents, and takes it back at the same. -/
def Reads (c : Dev nD) (I : sProp 𝕄) {cs : CoreSpace} {s : Shape} {e : EltTy} (m : Memref sig .tc cs s e) : Prop :=
  I ⊢ iprop(∃ d, owns (c : Thread nD τ) m fullShare d ∗ (owns (c : Thread nD τ) m fullShare d -∗ I))

/-- `I` holds the memref's buffer at some contents, and takes it back at any. -/
def Holds (c : Dev nD) (I : sProp 𝕄) {cs : CoreSpace} {s : Shape} {e : EltTy} (m : Memref sig .tc cs s e) : Prop :=
  I ⊢ iprop((∃ d, owns (c : Thread nD τ) m fullShare d) ∗ ((∃ d, owns (c : Thread nD τ) m fullShare d) -∗ I))

variable {defs : Defs nD τ sig Val Λ} {c : Dev nD}

/-- What may be written may be read. -/
theorem Holds.reads {I : sProp 𝕄} {cs : CoreSpace} {s : Shape} {e : EltTy} {m : Memref sig .tc cs s e} (h : Holds (τ := τ) c I m) : Reads (τ := τ) c I m := by
  refine BIBase.Entails.trans h ?_
  iintro ⟨⟨%d, Hd⟩, HI⟩
  iexists d
  isplitl [Hd]; · iexact Hd
  iintro Hd
  iapply HI
  iexists d; iexact Hd

/-- The buffer at the head of a separating conjunction, at contents known, is read; -/
theorem Reads.head {cs : CoreSpace} {s : Shape} {e : EltTy} {m : Memref sig .tc cs s e} {d : s.Idx → Val e} {R : sProp 𝕄} :
    Reads (τ := τ) c iprop(owns (c : Thread nD τ) m fullShare d ∗ R) m := by
  unfold Reads
  iintro ⟨Hd, HR⟩
  iexists d
  isplitl [Hd]; · iexact Hd
  iintro Hd
  isplitl [Hd]; · iexact Hd
  iexact HR

/-- one further in is read too. -/
theorem Reads.tail {cs : CoreSpace} {s : Shape} {e : EltTy} {m : Memref sig .tc cs s e} {A R : sProp 𝕄}
    (h : Reads (τ := τ) c R m) : Reads (τ := τ) c iprop(A ∗ R) m := by
  refine BIBase.Entails.trans (sep_mono_right h) ?_
  iintro ⟨HA, %d, Hd, HR⟩
  iexists d
  isplitl [Hd]; · iexact Hd
  iintro Hd
  isplitl [HA]; · iexact HA
  iapply HR; iexact Hd

/-- The buffer at the head, at any contents, is written; -/
theorem Holds.head {cs : CoreSpace} {s : Shape} {e : EltTy} {m : Memref sig .tc cs s e} {R : sProp 𝕄} :
    Holds (τ := τ) c iprop((∃ d, owns (c : Thread nD τ) m fullShare d) ∗ R) m := by
  unfold Holds
  iintro ⟨Hd, HR⟩
  isplitl [Hd]; · iexact Hd
  iintro Hd
  isplitl [Hd]; · iexact Hd
  iexact HR

/-- A single buffer, at any contents, is written; -/
theorem Holds.self {cs : CoreSpace} {s : Shape} {e : EltTy} {m : Memref sig .tc cs s e} :
    Holds (τ := τ) c (iprop(∃ d, owns (c : Thread nD τ) m fullShare d) : sProp 𝕄) m := by
  unfold Holds
  iintro Hd
  isplitl [Hd]; · iexact Hd
  iintro Hd
  iexact Hd

/-- one further in is written too. -/
theorem Holds.tail {cs : CoreSpace} {s : Shape} {e : EltTy} {m : Memref sig .tc cs s e} {A R : sProp 𝕄}
    (h : Holds (τ := τ) c R m) : Holds (τ := τ) c iprop(A ∗ R) m := by
  refine BIBase.Entails.trans (sep_mono_right h) ?_
  iintro ⟨HA, Hd, HR⟩
  isplitl [Hd]; · iexact Hd
  iintro Hd
  isplitl [HA]; · iexact HA
  iapply HR; iexact Hd

/-- A value returned keeps `I`; -/
theorem Keeps.pure {I : sProp 𝕄} {α : Type} (a : α) : Keeps defs c I (pure a : Prog (TpuEff nD τ sig Val Λ .tc) α) := by
  unfold Keeps
  show I ⊢ wp _ _ _ (Prog.ret a) _
  rw [wp_ret]
  iintro HI
  imodintro
  iexact HI

/-- a program after a program keeps it where both do; -/
theorem Keeps.bind {I : sProp 𝕄} {α β : Type} {p : Prog (TpuEff nD τ sig Val Λ .tc) α} {k : α → Prog (TpuEff nD τ sig Val Λ .tc) β}
    (hp : Keeps defs c I p) (hk : ∀ a, Keeps defs c I (k a)) : Keeps defs c I (p >>= k) := by
  unfold Keeps
  rw [wp_bind]
  refine BIBase.Entails.trans hp (wp_mono _ _ _ fun a => hk a)

/-- and a branch where both sides do. -/
theorem Keeps.dite {I : sProp 𝕄} {α : Type} {P : Prop} [Decidable P] {p : P → Prog (TpuEff nD τ sig Val Λ .tc) α}
    {q : ¬P → Prog (TpuEff nD τ sig Val Λ .tc) α} (hp : ∀ h, Keeps defs c I (p h)) (hq : ∀ h, Keeps defs c I (q h)) :
    Keeps defs c I (if h : P then p h else q h) := by
  split
  · exact hp _
  · exact hq _

/-- A load of a buffer `I` holds keeps `I`. -/
theorem Keeps.load {I : sProp 𝕄} {cs : CoreSpace} {s : Shape} {e : EltTy} {m : Memref sig .tc cs s e} {r : LoadRect s} {hl : m.view.LoadsAt r}
    (hm : Reads (τ := τ) c I m) : Keeps defs c I (Prog.lift (.load m r hl)) := by
  refine BIBase.Entails.trans hm ?_
  show _ ⊢ wp _ _ _ (Prog.op _ Prog.ret) _
  unfold owns
  iintro ⟨%d, ⟨%f, %hf, Hf⟩, HI⟩
  iapply (wp_load (defs := defs) Variants.none (c : Thread nD τ) none Set.univ (Q := fun _ => I) (m := m) (r := r) (hl := hl)
    (k := Prog.ret) (S := m.view.set) (q := fullShare) (f := f) (Finset.map_subset_map.2 (Finset.subset_univ _))) $$ [Hf]
  · iexact Hf
  iintro Hf
  rw [wp_ret]
  imodintro
  iapply HI
  iexists f
  isplitr
  · ipureintro; exact hf
  iexact Hf

/-- A store, through any rectangle and mask, into a buffer `I` holds keeps `I`. -/
theorem Keeps.store {I : sProp 𝕄} {cs : CoreSpace} {s : Shape} {e : EltTy} {m : Memref sig .tc cs s e} {r : Rect s} {w : r.shape.Idx → Val e}
    {Mk : Finset r.shape.Idx} {hx : (m.access r).Stores Mk} {hM : Mk = Finset.univ ∨ ∀ a, r.stride a = 1}
    (hm : Holds (τ := τ) c I m) : Keeps defs c I (Prog.lift (.store m r w Mk hx hM)) := by
  refine BIBase.Entails.trans hm ?_
  show _ ⊢ wp _ _ _ (Prog.op _ Prog.ret) _
  unfold owns
  iintro ⟨⟨%d, %f, %hf, Hf⟩, HI⟩
  iapply (wp_store (defs := defs) Variants.none (c : Thread nD τ) none Set.univ (Q := fun _ => I) (m := m) (r := r) (w := w)
    (Mk := Mk) (hx := hx) (hm := hM) (k := Prog.ret) (S := m.view.set) (f := f)
    ((Finset.map_subset_map.2 (Finset.subset_univ _)).trans (View.set_slice_subset _ _))) $$ [Hf]
  · iexact Hf
  iintro Hf
  rw [wp_ret]
  imodintro
  iapply HI
  iexists _
  iexists ((m.access r).write Val f w Mk)
  isplitr
  · ipureintro; rfl
  iexact Hf

/-- A counted loop whose every trip keeps `I` keeps it. -/
theorem Keeps.for {I : sProp 𝕄} {w : Nat} {σ : Type} {lb ub st : BitVec w} {hok : Scf.OK lb ub st} {init : σ}
    {body : Fin (Scf.trips lb ub st) → σ → Prog (TpuEff nD τ sig Val Λ .tc) σ} (h : ∀ k a, Keeps defs c I (body k a)) :
    Keeps defs c I (Scf.for lb ub st hok init body) := by
  refine BIBase.Entails.trans ?_ (Scf.wp_for frame (wpE defs Variants.none (c : Thread nD τ) none) Set.univ lb ub st hok init body
    (fun _ _ => I) h)
  iintro HI
  isplitl [HI]; · iexact HI
  iintro %acc HI
  iexact HI

end Cert.Proof

end
-- ==== Proof.SFiveIdealBody.lean ====
/-
  The body of the S5 scan, `cc0_s5_fwd`, keeps the buffers it is called with: it loads from its six inputs, and loads
  from and stores into its three outputs and its two scratch buffers and nothing else, in straight lines, in one branch
  and in one counted loop.
-/
module

public import proofs.«01_k».proof.Proof.Keeps
public import proofs.«01_k».proof.Proof.Gen.SFiveFwdIdeal.Frame
public import proofs.«01_k».proof.Proof.Gen.SFiveFwdIdeal.Skeleton

@[expose] public section

noncomputable section

namespace Cert.SFiveFwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof Cert.SFiveFwdIdeal.Gen

variable {F : FTy → Type} [FloatOps F]

local notation "𝕄" => MT nD τ sig Unit (Elt F) ℕ (UR sig nD τ) ℕ

set_option maxHeartbeats 4000000 in
set_option maxRecDepth 16384 in
/-- The body keeps its inputs at what they hold, and its outputs and scratch buffers at anything. -/
theorem keeps_body (c : Dev nD) (i : grid0.Coords) (arg1 : Memref sig .tc .vmem S256x1024 .f32) (harg1 : arg1.IsWhole) (arg2 : Memref sig .tc .vmem S8x128x1024 .bf16) (harg2 : arg2.IsWhole) (arg3 : Memref sig .tc .vmem S8x128x1024 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S1x1024 .f32) (harg6 : arg6.IsWhole) (arg7 : Memref sig .tc .vmem S1x8x2080x128 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S8x2080x128 .f32) (harg10 : arg10.IsWhole) (arg11 : Memref sig .tc .vmem S8x8x128 .f32) (harg11 : arg11.IsWhole) (x1 : Vec F S256x1024 .f32) (x2 : Vec F S8x128x1024 .bf16) (x3 : Vec F S8x128x1024 .bf16) (x4 : Vec F S8x512 .f32) (x5 : Vec F S8x512 .f32) (x6 : Vec F S1x1024 .f32) :
    Keeps (defs₀ (F := F)) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄)
      (cc0_s5_fwd i arg1 harg1 arg2 harg2 arg3 harg3 arg4 harg4 arg5 harg5 arg6 harg6 arg7 harg7 arg8 harg8 arg9 harg9 arg10 harg10 arg11 harg11) := by
  have r1 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg1 := .head
  have r2 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg2 := .tail .head
  have r3 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg3 := .tail (.tail .head)
  have r4 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg4 := .tail (.tail (.tail .head))
  have r5 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg5 := .tail (.tail (.tail (.tail .head)))
  have r6 : Reads (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg6 := .tail (.tail (.tail (.tail (.tail .head))))
  have w7 : Holds (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg7 := .tail (.tail (.tail (.tail (.tail (.tail .head)))))
  have r7 := w7.reads
  have w8 : Holds (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg8 := .tail (.tail (.tail (.tail (.tail (.tail (.tail .head))))))
  have r8 := w8.reads
  have w9 : Holds (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg9 := .tail (.tail (.tail (.tail (.tail (.tail (.tail (.tail .head)))))))
  have r9 := w9.reads
  have w10 : Holds (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg10 := .tail (.tail (.tail (.tail (.tail (.tail (.tail (.tail (.tail .head))))))))
  have r10 := w10.reads
  have w11 : Holds (τ := τ) c iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) arg11 := .tail (.tail (.tail (.tail (.tail (.tail (.tail (.tail (.tail (.tail .self)))))))))
  have r11 := w11.reads
  generalize iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) : sProp 𝕄) = I at *
  rw [cc0_s5_fwd_eq_skeleton]
  unfold cc0_s5_fwd_skel
  repeat' first
    | with_reducible exact Keeps.pure _
    | with_reducible exact Keeps.load (by assumption)
    | with_reducible exact Keeps.store (by assumption)
    | with_reducible refine Keeps.bind ?_ fun _ => ?_
    | with_reducible refine Keeps.dite (fun _ => ?_) fun _ => ?_
    | with_reducible refine Keeps.for fun _ _ => ?_
    | split
    | unfold k0_t1_body
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)

end Cert.SFiveFwdIdeal

end
-- ==== Proof.SFiveIdealFrame.lean ====
/-
  The frame of `SFiveFwdIdeal`: the program runs, leaves its arguments as it found them, and ends with every counter at zero.
  Of what the body leaves in the outputs nothing is said; that it keeps its buffers (`keeps_body`) is enough.
-/
module

public import proofs.«01_k».proof.Proof.SFiveIdealBody

@[expose] public section

set_option maxRecDepth 16384

noncomputable section

namespace Cert.SFiveFwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof Cert.SFiveFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is named. -/
def outs : Fin 9 → Bool := fun w => decide (6 ≤ w.val)

/-- The buffers the lines behind the region write. -/
def tail : Finset (Ref sig .tc) := {main_v102,main_v103}

/-- The lines behind the region write these only. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  obtain rfl := List.mem_singleton.mp hops
  simp only [hostOps1, List.mem_cons, List.mem_nil_iff, or_false] at hop
  rcases hop with rfl | rfl
  all_goals
    simp only [StableHlo.nullary_writes, StableHlo.unary_writes, StableHlo.binary_writes, StableHlo.reshape_writes, Finset.mem_singleton] at hb
    cases Proc.devRef_injective _ hb
    decide

/-- The region's proof data: an input's buffer holds its block after the body as before it, an output's anything; the
    scratch buffers and the generator's register are kept at any state. -/
def data (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- What a window's array holds at the region's entry. -/
theorem data_A (c : Dev nD) (w : Fin cfg0.W) : (data m 0 c).A w = V m c (Pipeline.arrRef spec0 w) := by
  dsimp only [data]

/-- The buffer of input 0 after the body: its block. -/
theorem after_0 (c : Dev nD) (t : Fin cfg0.N) : (data m 0 c).after 0 t = X0_0 m c t := by dsimp only [data]
/-- The buffer of input 1 after the body: its block. -/
theorem after_1 (c : Dev nD) (t : Fin cfg0.N) : (data m 0 c).after 1 t = iblk m c 1 t := by dsimp only [data]
/-- The buffer of input 2 after the body: its block. -/
theorem after_2 (c : Dev nD) (t : Fin cfg0.N) : (data m 0 c).after 2 t = iblk m c 2 t := by dsimp only [data]
/-- The buffer of input 3 after the body: its block. -/
theorem after_3 (c : Dev nD) (t : Fin cfg0.N) : (data m 0 c).after 3 t = iblk m c 3 t := by dsimp only [data]
/-- The buffer of input 4 after the body: its block. -/
theorem after_4 (c : Dev nD) (t : Fin cfg0.N) : (data m 0 c).after 4 t = iblk m c 4 t := by dsimp only [data]
/-- The buffer of input 5 after the body: its block. -/
theorem after_5 (c : Dev nD) (t : Fin cfg0.N) : (data m 0 c).after 5 t = iblk m c 5 t := by dsimp only [data]

/-- Each input's buffer holds its block when the body is called. -/
theorem before_0 (c : Dev nD) (t : Fin cfg0.N) (d) : (data m 0 c).before 0 t d = X0_0 m c t :=
  before0_0_of m (data m 0 c) (data_A m c 0) (after_0 m c) t d

theorem before_1 (c : Dev nD) (t : Fin cfg0.N) (d) : (data m 0 c).before 1 t d = iblk m c 1 t :=
  before0_1_of m (data m 0 c) (data_A m c 1) (after_1 m c) t d

theorem before_2 (c : Dev nD) (t : Fin cfg0.N) (d) : (data m 0 c).before 2 t d = iblk m c 2 t :=
  before0_2_of m (data m 0 c) (data_A m c 2) (after_2 m c) t d

theorem before_3 (c : Dev nD) (t : Fin cfg0.N) (d) : (data m 0 c).before 3 t d = iblk m c 3 t :=
  before0_3_of m (data m 0 c) (data_A m c 3) (after_3 m c) t d

theorem before_4 (c : Dev nD) (t : Fin cfg0.N) (d) : (data m 0 c).before 4 t d = iblk m c 4 t :=
  before0_4_of m (data m 0 c) (data_A m c 4) (after_4 m c) t d

theorem before_5 (c : Dev nD) (t : Fin cfg0.N) (d) : (data m 0 c).before 5 t d = iblk m c 5 t :=
  before0_5_of m (data m 0 c) (data_A m c 5) (after_5 m c) t d

/-- The kept state between two points: the scratch buffers at some contents, the generator's register at some state. -/
theorem kept_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point, -/
def before (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- and what it gives back. -/
def after (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ owns (c : Thread nD τ) (win0_5.stage (cfg0.slots t 5)) fullShare ((data m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

set_option maxHeartbeats 1600000 in
/-- The body at any point, from `keeps_body`. -/
theorem body_at (c : Dev nD) (t : Fin cfg0.N) :
    before m c t ⊢ wp frame (wpE (defs₀ (F := F)) Variants.none c none) Set.univ (bodyAt0 t) (fun _ => after m c t) := by
  unfold before after bodyAt0
  simp only [before_0, before_1, before_2, before_3, before_4, before_5, after_0, after_1, after_2, after_3, after_4, after_5]
  rw [show (data m 0 c).owesAt () t.succ = (data m 0 c).owesAt () t.castSucc from rfl,
    show (data m 0 c).Φ t.castSucc = Pipeline.ΦA spec0 c from rfl, show (data m 0 c).Φ t.succ = Pipeline.ΦA spec0 c from rfl, kept_eq]
  have h := keeps_body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (X0_0 m c t) (iblk m c 1 t) (iblk m c 2 t) (iblk m c 3 t) (iblk m c 4 t) (iblk m c 5 t)
  unfold Keeps at h
  iintro ⟨⟨⟨S0, S1⟩, Hg⟩, Ho, ⟨%d0, H0⟩, ⟨%d1, H1⟩, ⟨%d2, H2⟩, ⟨%d3, H3⟩, ⟨%d4, H4⟩, ⟨%d5, H5⟩, H6, H7, H8⟩
  iapply wp_wand_r
  isplitl [H0 H1 H2 H3 H4 H5 H6 H7 H8 S0 S1]
  · iapply h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    iexact S1
  iintro %_ ⟨H0, H1, H2, H3, H4, H5, H6, H7, H8, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem obligation (c : Dev nD) : BodyObligation (data (F := F) m 0 c) (defs₀ (F := F)) Variants.none () Set.univ outs := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
set_option maxHeartbeats 800000 in
/-- The launch: every run ends, with every buffer the program does not write as it was and every counter at zero. -/
theorem launch : θ_run defs (onTc (τ := τ) (main (F := F))) (s₀ m ρ) (fun r =>
    Pipeline.RDat.FramePostR (cfgs 0) (fun c => (data m 0 c).toRForget outs) tail (V m) r ∧ r.2.sem = fun _ => 0) :=
  Pipeline.θ_run_frame_around_T_forget (Q' := _) cfgs (data m) (0 : Fin 1) launch0 defs₀ Variants.none outs tail m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := data_A m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (launch m ρ)
  have unwritten : ∀ b : Ref sig .tc, b.isScoped = false → (∀ w, Pipeline.arrRef spec0 w ≠ b) → b ∉ tail →
      V m c b = m ((c : Thread nD τ).loc b) → r.2.mem ((c.tc : Thread nD τ).loc b) = m ((c.tc : Thread nD τ).loc b) :=
    fun b h₁ h₂ h₃ hV => ((h.1 c).2 b (Finset.mem_sdiff.mpr ⟨Pipeline.mem_restRefs_of b h₁ h₂, h₃⟩)).trans hV
  exact ⟨unwritten main_arg0 (by decide) (by decide) (by decide) (V_main_arg0 m c),
    unwritten main_arg1 (by decide) (by decide) (by decide) (V_main_arg1 m c),
    unwritten main_arg2 (by decide) (by decide) (by decide) (V_main_arg2 m c),
    unwritten main_arg3 (by decide) (by decide) (by decide) (V_main_arg3 m c),
    unwritten main_arg4 (by decide) (by decide) (by decide) (V_main_arg4 m c),
    unwritten main_arg5 (by decide) (by decide) (by decide) (V_main_arg5 m c),
    unwritten main_arg6 (by decide) (by decide) (by decide) (V_main_arg6 m c),
    unwritten main_arg7 (by decide) (by decide) (by decide) (V_main_arg7 m c),
    unwritten main_arg8 (by decide) (by decide) (by decide) (V_main_arg8 m c)⟩

end Cert.SFiveFwdIdeal

end
-- ==== Proof.KeepRegions.lean ====
/-
  A program of several kernel regions that keeps some buffers.  Of what a region leaves in its outputs nothing is said, so
  the contents the next one is entered from are some contents; the state between two items of the program is `kept`: the
  buffers at some contents that agree with the launch on the buffers kept.  `hostItem` and `regionItem` are the items,
  `runs_kept` the launch.
-/
module

public import Idealize.ShloMosaic.Lib.Pipeline.Frame
public import Idealize.ShloMosaic.Lib.Pipeline.FrameSuffix
public import Idealize.ShloMosaic.Lib.Pipeline.Regions
public import Idealize.ShloMosaic.Lib.Pipeline.RegionArrays

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}

/-- The ghost state of the staging cells, twice: one copy for the launch, one for the regions. -/
abbrev Twice (nD : Nat) (τ : Topo) (sig : RefSig) : Type := URounds (GSem nD τ sig) Unit × URounds (GSem nD τ sig) Unit

local notation "𝕄" => MT nD τ sig Unit Val ℕ (Twice nD τ sig) ℕ

/-- The launch's copy, -/
def forLaunch : Emb (URounds (GSem nD τ sig) Unit) 𝕄 :=
  (Emb.inl : Emb _ (Twice nD τ sig)).trans (uEmb (nD := nD) (sig := sig) (Ix := Unit) (Val := Val) (Name := ℕ) (U := Twice nD τ sig) (Lvl := ℕ)).toEmb
/-- and the regions'. -/
def forRegions : Emb (URounds (GSem nD τ sig) Unit) 𝕄 :=
  (Emb.inr : Emb _ (Twice nD τ sig)).trans (uEmb (nD := nD) (sig := sig) (Ix := Unit) (Val := Val) (Name := ℕ) (U := Twice nD τ sig) (Lvl := ℕ)).toEmb

instance : (forLaunch : Emb _ 𝕄).LandsIn (upEmb : UEmb _ 𝕄) := by unfold forLaunch; infer_instance
instance : (forRegions : Emb _ 𝕄).LandsIn (upEmb : UEmb _ 𝕄) := by unfold forRegions; infer_instance

/-- Owning a pair is owning its two copies. -/
theorem own_twice (x y : URounds (GSem nD τ sig) Unit) :
    (ownU ((x, y) : Twice nD τ sig) : sProp 𝕄) ⊢ iprop(BI.own (forLaunch x) ∗ BI.own (forRegions y)) :=
  BI.own_op_elim ((uEmb (nD := nD) (sig := sig) (Ix := Unit) (Val := Val) (Name := ℕ) (U := Twice nD τ sig) (Lvl := ℕ)).toEmb.op_of_mem
    (Prod.mk_mem_op (URA.mem_op_one x) (URA.mem_one_op y)))

variable {Λ₀ : Labels} {P : Type} [Fintype P]
  (pcs : P → PCfg sig Λ₀ Val) (a : (p : P) → (pcs p).Adm) (defs₀ : Defs nD τ sig Val Λ₀)

/-- The data of a region entered at contents `V`, of whose body's results nothing is said. -/
def anyData (V : Valuation τ sig Val) (p : P) (c : Dev nD) : RDat τ Val Unit ℕ (Twice nD τ sig) ℕ (pin pcs a p) c where
  A w := V (Proc.devRef .tc (arrRef (pin pcs a p).spec w))
  after _ _ _ _ := True
  Φ _ := ΦA (pin pcs a p).spec c
  q _ := fullShare
  owed _ := 0

omit [Fintype P] in
/-- Every array is held whole. -/
theorem anyData_share (V : Valuation τ sig Val) (p : P) (c : Dev nD) (w) : (anyData (nD := nD) pcs a V p c).share w = fullShare := by
  unfold RDat.share anyData; split <;> rfl

/-- Two contents agree off the outputs of a region. -/
def SameOff (p : P) (V V' : Valuation τ sig Val) : Prop :=
  ∀ b : Ref sig .tc, (∀ w, ((pin pcs a p).win w).isOut = true → arrRef (pin pcs a p).spec w ≠ b) →
    V' (Proc.devRef .tc b) = V (Proc.devRef .tc b)

variable (L : GSem nD τ sig → Finset Unit) (lv : GSem nD τ sig → Unit → ℕ)

/-- A region entered at contents `V` leaves contents that agree with `V` off its outputs. -/
def anyRegion [∀ e, Nonempty (Val e)] (p : P) (kit : PLaunchFacts (nD := nD) (τ := τ) pcs p) (hK : (pcs p).pre.K = 0) (V : Valuation τ sig Val)
    (hbody : ∀ c, (anyData (nD := nD) pcs a V p c).BodyObligation defs₀ Variants.none () Set.univ) :
    RDat.RegionSeg pcs a (anyData pcs a V) () defs₀ Variants.none L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a (anyData pcs a V) () L lv p (fun _ _ => rfl) c
  pre c := iprop(StableHlo.held (c.tc : Thread nD τ) (ucRefs τ sig) V ∗ (∃ r, prngReg c r) ∗ ∃ W, owes (c : Thread nD τ) 0 W)
  post c := iprop((∃ V', ⌜SameOff pcs a p V V'⌝ ∗ StableHlo.held (c.tc : Thread nD τ) (ucRefs τ sig) V') ∗ (∃ r, prngReg c r)
    ∗ ∃ W, owes (c : Thread nD τ) 0 W)
  X c := iprop(∃ r, prngReg c r)
  Y c := iprop(∃ r, prngReg c r)
  Z c := unscopedRest (pin pcs a p).spec c fun b => V (Proc.devRef .tc b)
  hentry c := by
    rw [ownSems0_none, prefHeld_of_none _ hK, ← unscopedBufs_held]
    have h := RDat.arrays_of_unscopedBufs pcs a (anyData pcs a V) kit.win kit.arr_whole c (anyData_share pcs a V p c)
      (fun b => V (Proc.devRef .tc b)) (fun _ => rfl)
    iintro ⟨⟨Hh, Hp, HO⟩, -, -⟩
    ihave Hh := h $$ Hh
    icases Hh with ⟨Ha, Hr⟩
    imodintro
    isplitl [Ha]; · iexact Ha
    isplitr; · iempintro
    isplitl [HO]
    · unfold RDat.owesAt owesWithin
      icases HO with ⟨%W, HO⟩; iexists W; isplitr; · ipureintro; exact fun _ _ => Or.inl trivial
      iexact HO
    isplitl [Hp]; · iexact Hp
    iexact Hr
  hin c := by
    show _ ⊢ ΦA (pin pcs a p).spec c
    unfold ΦA
    iintro ⟨Hp, -, Hr⟩
    isplitl [Hr]; · iexact Hr
    iexact Hp
  hout c := by
    show ΦA (pin pcs a p).spec c ⊢ _
    unfold ΦA
    rw [ownSems0_none]
    iintro ⟨Hr, Hp⟩
    isplitl [Hp]; · iexact Hp
    isplitr; · iempintro
    iexact Hr
  hexit c := by
    rw [RDat.arraysAt_eq pcs a (anyData pcs a V) p c kit.arr_whole (anyData_share pcs a V p c)]
    iintro ⟨Ha, HO, Hp, Hr⟩
    ihave Ha := (BI.bigSep_exists_pi Finset.univ _) $$ Ha
    icases Ha with ⟨%A, Ha⟩
    ihave Ha := (BI.bigSep_pure_sep Finset.univ (fun w => (anyData pcs a V p c).ArrAt w (pin pcs a p).N (A w)) _) $$ Ha
    icases Ha with ⟨%hA, Ha⟩
    imodintro
    isplitl [Ha Hr]
    · iexists (withArrays (pin pcs a p).spec c V A)
      isplitr
      · ipureintro
        intro b hb
        by_cases hw : ∃ w, arrRef (pin pcs a p).spec w = b
        · obtain ⟨w, rfl⟩ := hw
          rw [withArrays_arr _ kit.win.arr_inj]
          have h := hA w (Finset.mem_univ w)
          have hin : ((pin pcs a p).win w).isOut = false := by
            cases h : ((pin pcs a p).win w).isOut
            · rfl
            · exact absurd rfl (hb w h)
          rw [RDat.ArrAt_in _ w hin] at h
          exact h
        · exact withArrays_of_ne _ c V A b fun w e => hw ⟨w, e⟩
      · rw [← unscopedBufs_held, unscopedBufs_split (pin pcs a) p kit.win.arr_unscoped kit.win.arr_inj]
        isplitl [Ha]
        · rw [show (fun w => (((c.tc : Thread nD τ).loc (arrRef (pin pcs a p).spec w)) ↦{fullShare}
              withArrays (pin pcs a p).spec c V A (Proc.devRef .tc (arrRef (pin pcs a p).spec w)) : sProp 𝕄)) =
              fun w => (((c.tc : Thread nD τ).loc (arrRef (pin pcs a p).spec w)) ↦{fullShare} A w : sProp 𝕄) from
            funext fun w => by rw [withArrays_arr (pin pcs a p).spec kit.win.arr_inj]]
          iexact Ha
        · rw [show (unscopedRest (pin pcs a p).spec c (fun b => withArrays (pin pcs a p).spec c V A (Proc.devRef .tc b)) : sProp 𝕄)
              = unscopedRest (pin pcs a p).spec c fun b => V (Proc.devRef .tc b) by
            unfold unscopedRest
            exact bigSep_congr fun b hb => by
              dsimp only
              rw [withArrays_of_ne (pin pcs a p).spec c V A b fun w e => (Finset.mem_sdiff.mp hb).2 (Finset.mem_image.mpr ⟨w, Finset.mem_univ _, e⟩)]]
          iexact Hr
    isplitl [Hp]; · iexact Hp
    unfold RDat.owesAt owesWithin
    icases HO with ⟨%W, -, HO⟩; iexists W; iexact HO

variable [∀ e, Nonempty (Val e)] [DecidableEq P] (args : List (Ref sig .tc)) (m : (ℓ : Loc nD τ sig) → Buf Val ℓ)

/-- Contents that agree with the launch's on the buffers kept. -/
def Agrees (c : Dev nD) (V : Valuation τ sig Val) : Prop := ∀ b ∈ args, V (Proc.devRef .tc b) = m ((c.tc : Thread nD τ).loc b)

/-- The state between two items, the regions `S` still to come: the buffers at some contents that agree with the launch's on those kept. -/
def kept (S : Finset P) (c : Dev nD) : sProp 𝕄 :=
  iprop(∃ V, ⌜Agrees args m c V⌝ ∗ StableHlo.held (c.tc : Thread nD τ) (ucRefs τ sig) V ∗ (∃ r, prngReg c r)
    ∗ (∃ W, owes (c : Thread nD τ) 0 W) ∗ ghostOn pcs a forRegions S c)

/-- A stretch of host operations that writes none of the buffers kept. -/
def hostItem (S : Finset P) (ops : List (HloOp τ sig Val)) (hS : ∀ op ∈ ops, op.bufs ⊆ ucRefs τ sig) (hf : ∀ op ∈ ops, op.fresh = ∅)
    (hw : ∀ V : Valuation τ sig Val, ∀ b ∈ args, StableHlo.after ops V (Proc.devRef .tc b) = V (Proc.devRef .tc b)) :
    HostSeg (Ix := Unit) (Name := ℕ) (U := Twice nD τ sig) (Lvl := ℕ) pcs defs₀ Variants.none L lv where
  prog := StableHlo.seq ops
  pre := kept pcs a args m S
  post := kept pcs a args m S
  run c {β} k K := by
    unfold kept
    iintro ⟨Hk, Hb, ⟨%V, %hV, Hh, Hr⟩, -⟩
    iapply (StableHlo.wp_seq (defs := Pipeline.defs pcs defs₀) (Variants.lift Variants.none) none Set.univ c (ucRefs τ sig) k (K := K) ops hS hf V) $$ [Hb Hh]
    · isplitl [Hb] <;> iassumption
    iintro ⟨Hb, Hh⟩
    iapply Hk
    isplitl [Hb]; · iexact Hb
    iexists (StableHlo.after ops V)
    isplitr
    · ipureintro; exact fun b hb => (hw V b hb).trans (hV b hb)
    isplitl [Hh]; · iexact Hh
    iexact Hr

/-- A region none of whose outputs is kept. -/
def regionItem (phinj : Function.Injective (cellOf (nD := nD) (τ := τ) (pin pcs a))) (p : P) (S : Finset P) (hp : p ∈ S)
    (kit : PLaunchFacts (nD := nD) (τ := τ) pcs p) (hK : (pcs p).pre.K = 0)
    (hbody : ∀ V c, (anyData (nD := nD) pcs a V p c).BodyObligation defs₀ Variants.none () Set.univ)
    (hw : ∀ b ∈ args, ∀ w, ((pin pcs a p).win w).isOut = true → arrRef (pin pcs a p).spec w ≠ b) :
    HostSeg (Ix := Unit) (Name := ℕ) (U := Twice nD τ sig) (Lvl := ℕ) pcs defs₀ Variants.none L lv where
  prog := Prog.lift (.customCall (entry p) ())
  pre := kept pcs a args m S
  post := kept pcs a args m (S.erase p)
  run c {β} k K := by
    unfold kept
    iintro ⟨Hk, Hb, ⟨%V, %hV, Hh, Hp, HO, HG⟩, HL⟩
    ihave HG := (Entails.of_eq (PerCore.ghostOn_erase pcs (fun _ => a) forRegions hp c)) $$ HG
    icases HG with ⟨⟨Hc, Ht⟩, HG⟩
    have h : iprop((iprop(boundary (c.tc : Thread nD τ) ∗ (∃ V', ⌜SameOff pcs a p V V'⌝ ∗ StableHlo.held (c.tc : Thread nD τ) (ucRefs τ sig) V')
            ∗ (∃ r, prngReg c r) ∗ ∃ W, owes (c : Thread nD τ) 0 W)
          -∗ wp frame (wpE (Pipeline.defs pcs defs₀) (Variants.lift Variants.none) (c.tc : Thread nD τ) none) Set.univ (k ⟨⟩) K)
        ∗ boundary (c.tc : Thread nD τ)
        ∗ (StableHlo.held (c.tc : Thread nD τ) (ucRefs τ sig) V ∗ (∃ r, prngReg c r) ∗ ∃ W, owes (c : Thread nD τ) 0 W)
        ∗ levAts L lv ∗ cellsGhost (pin pcs a) forRegions p c ∗ toksInit (pin pcs a) forRegions p c)
        ⊢ wp frame (wpE (Pipeline.defs pcs defs₀) (Variants.lift Variants.none) (c.tc : Thread nD τ) none) Set.univ
          (.op (.customCall (entry p) ()) k) K :=
      RDat.RegionSeg.wp pcs a (anyData pcs a V) () phinj forRegions defs₀ Variants.none L lv
        (anyRegion pcs a defs₀ L lv p kit hK V (hbody V)) c none (fun _ h => by cases h) k K
    iapply h
    isplitl [Hk HG]
    · iintro ⟨Hb, ⟨%V', %hV', Hh⟩, Hp, HO⟩
      iapply Hk
      isplitl [Hb]; · iexact Hb
      iexists V'
      isplitr
      · ipureintro; exact fun b hb => (hV' b (hw b hb)).trans (hV b hb)
      isplitl [Hh]; · iexact Hh
      isplitl [Hp]; · iexact Hp
      isplitl [HO]; · iexact HO
      iexact HG
    isplitl [Hb]; · iexact Hb
    isplitl [Hh Hp HO]
    · isplitl [Hh]; · iexact Hh
      isplitl [Hp]; · iexact Hp
      iexact HO
    isplitl [HL]; · iexact HL
    isplitl [Hc]; · iexact Hc
    iexact Ht

/-- What is known at the end. -/
def keptLast (c : Dev nD) : sProp 𝕄 := iprop(∃ V, ⌜Agrees args m c V⌝ ∗ StableHlo.held (c.tc : Thread nD τ) (ucRefs τ sig) V)

theorem kept_last (S : Finset P) (c : Dev nD) :
    kept pcs a args m S c ⊢ iprop(keptLast args m c ∗ ∃ W, owes (c.tc : Thread nD τ) (0 : CellTallies nD τ sig Unit) W) := by
  unfold kept keptLast
  iintro ⟨%V, %hV, Hh, -, HO, -⟩
  isplitl [Hh]
  · iexists V
    isplitr; · ipureintro; exact hV
    iexact Hh
  iexact HO

omit [Fintype P] [∀ e, Nonempty (Val e)] [DecidableEq P] in
/-- Items spelt as host segments enter no region by the launch's own account. -/
theorem pipes_host {rdats : (p : P) → (c : Dev nD) → RDat τ Val Unit ℕ (Twice nD τ sig) ℕ (pin pcs a p) c} :
    ∀ items : List (HostSeg (nD := nD) (τ := τ) (Ix := Unit) (Name := ℕ) (U := Twice nD τ sig) (Lvl := ℕ) pcs defs₀ Variants.none L lv),
      RDat.Seg.pipes (items.map (RDat.Seg.host (a := a) (rdats := rdats) (ι := ()))) = []
  | [] => rfl
  | _ :: l => (RDat.Seg.pipes_host _ _).trans (pipes_host l)

set_option backward.isDefEq.respectTransparency.types false in
/-- The launch: a program that is a chain of such items runs, keeps the buffers `args`, and ends with every counter at zero. -/
theorem runs_kept (phinj : Function.Injective (cellOf (nD := nD) (τ := τ) (pin pcs a))) (ρ : Dev nD → PrngReg)
    (main : Dev nD → Prog (TpuEff nD τ sig Val (Sig Λ₀ P fun p => (pcs p).Adm) .tc) PUnit)
    (items : List (HostSeg (nD := nD) (τ := τ) (Ix := Unit) (Name := ℕ) (U := Twice nD τ sig) (Lvl := ℕ) pcs defs₀ Variants.none (fun _ => ∅) fun _ _ => 0))
    (hmain : ∀ c, main c = chain (items.map HostSeg.prog))
    (hch : ∀ V c, RDat.Seg.ChainsAt (rdats := anyData pcs a V) (ι := ()) c (kept pcs a args m Finset.univ) (items.map .host)
      fun c => iprop(keptLast args m c ∗ ∃ W, owes (c.tc : Thread nD τ) (0 : CellTallies nD τ sig Unit) W))
    (hns : ∀ sm : SemLoc sig, sm.isScoped .tc = true) (hargs : ∀ b ∈ args, b.isScoped = false) :
    θ_run (Pipeline.defs pcs defs₀) (onTc main) ⟨m, fun _ => 0, ρ⟩ (fun r =>
      (∀ c : Dev nD, ∀ b ∈ args, r.2.mem ((c.tc : Thread nD τ).loc b) = m ((c.tc : Thread nD τ).loc b)) ∧ r.2.sem = fun _ => 0) := by
  let V₀ : Valuation τ sig Val := fun b => Classical.choice (inferInstance : Nonempty (b.ty.Contents Val))
  refine RDat.θ_run_regions_kit_dev_sems pcs a (anyData pcs a V₀) () phinj forLaunch defs₀ Variants.none (fun _ => ∅) (fun _ _ => 0) m ρ main
    (fun _ => items.map .host) (fun c Q => ?_) (fun c => ?_) 0 (fun _ _ => rfl) (fun c => ghostOn pcs a forRegions Finset.univ c)
    (initOf (cells (pin pcs a) phinj) (launchToks (pin pcs a) phinj), initOf (cells (pin pcs a) phinj) (launchToks (pin pcs a) phinj)) ?_
    (kept pcs a args m Finset.univ) (keptLast args m) (hch V₀) ?_
    (fun c s => ∀ b ∈ args, s.mem ((c.tc : Thread nD τ).loc b) = m ((c.tc : Thread nD τ).loc b)) (fun c s' => ?_)
    (fun _ h hz => ⟨h, funext fun g => hz g (.inr (hns g.2))⟩)
  · rw [hmain, RDat.Seg.run_eq_chain, List.map_map]
    exact .rfl
  · rw [pipes_host]
    exact List.nodup_nil
  · iintro Hu
    ihave Hu := (own_twice _ _) $$ Hu
    icases Hu with ⟨Hl, Hr⟩
    imod (fund_ghost (pin pcs a) forRegions phinj) $$ Hr with ⟨Hg, Ht⟩
    imodintro
    isplitl [Hl]; · iexact Hl
    have h : iprop((bigSep Finset.univ fun c : Dev nD => bigSep Finset.univ fun p => cellsGhost (pin pcs a) forRegions p c)
          ∗ (bigSep Finset.univ fun c : Dev nD => bigSep Finset.univ fun p => (toksInit (pin pcs a) forRegions p c : sProp 𝕄)))
        ⊢ bigSep Finset.univ fun c : Dev nD => ghostOn pcs a forRegions Finset.univ c := by
      rw [← bigSep_sep']
      exact bigSep_mono fun c _ => show iprop((bigSep Finset.univ fun p => cellsGhost (pin pcs a) forRegions p c)
          ∗ bigSep Finset.univ fun p => (toksInit (pin pcs a) forRegions p c : sProp 𝕄)) ⊢ ghostOn pcs a forRegions Finset.univ c from
        Entails.of_eq (by rw [← bigSep_sep']; rfl)
    iapply h
    isplitl [Hg] <;> iassumption
  · have h : ∀ c : Dev nD, iprop(unscopedBufs c (fun b => m ((c.tc : Thread nD τ).loc b)) ∗ unscopedSems0 c
          ∗ owes (c.tc : Thread nD τ) ((0 : Dev nD → CellTallies nD τ sig Unit) c) ∅ ∗ launchCred (0 : Dev nD → CellTallies nD τ sig Unit) c
          ∗ prngReg c (ρ c) ∗ ghostOn pcs a forRegions Finset.univ c)
        ⊢ (kept pcs a args m Finset.univ c : sProp 𝕄) := fun c => by
      rw [show (unscopedBufs c (fun b => m ((c.tc : Thread nD τ).loc b)) : sProp 𝕄) = StableHlo.held (c.tc : Thread nD τ) (ucRefs τ sig) fun b => m (c, b) from
        unscopedBufs_held c fun b => m (c, b)]
      unfold kept
      iintro ⟨Hh, -, HO, -, Hp, HG⟩
      iexists (fun b => m (c, b))
      isplitr; · ipureintro; exact fun _ _ => rfl
      isplitl [Hh]; · iexact Hh
      isplitl [Hp]; · iexists _; iexact Hp
      isplitl [HO]; · iexists _; iexact HO
      iexact HG
    have h : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ launchCred (0 : Dev nD → CellTallies nD τ sig Unit) c
          ∗ prngReg c (ρ c) ∗ ghostOn pcs a forRegions Finset.univ c))
        ⊢ (bigSep Finset.univ (kept pcs a args m Finset.univ) : sProp 𝕄) := bigSep_mono fun c _ => h c
    iintro ⟨H, -⟩
    imodintro
    iapply h
    iexact H
  · unfold keptLast StableHlo.held
    iintro ⟨⟨%V, %hV, Hh⟩, HSI⟩
    ihave Hr := (pointsTo_read_all (ucRefs τ sig) (fun b => ((c.tc : Thread nD τ).1, b)) V s') $$ [Hh HSI]
    · isplitl [Hh] <;> iassumption
    icases Hr with ⟨%h, HSI⟩
    imodintro
    isplitr
    · ipureintro
      exact fun b hb => (h (Proc.devRef .tc b) (Finset.mem_filter.mpr ⟨StableHlo.devRef_mem_tcRefs b, fun h' => Bool.false_ne_true ((hargs b hb).symm.trans h')⟩)).trans (hV b hb)
    · iexact HSI

end Cert.Proof

end
-- ==== Proof.SBwdIdealScan.lean ====
/-
  The body of the forward scan, `cc0_s5_fwd`, inside the backward program: it keeps the buffers it is called with.
-/
module

public import proofs.«01_k».proof.Proof.Keeps
public import proofs.«01_k».proof.Proof.Gen.SFiveBwdIdeal.Regions
public import proofs.«01_k».proof.Proof.Gen.SFiveBwdIdeal.Skeleton

@[expose] public section

noncomputable section

namespace Cert.SFiveBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof Cert.SFiveBwdIdeal.Gen

variable {F : FTy → Type} [FloatOps F]

variable {U : Type} [URA U]

local notation "𝕄" => MT nD τ sig Unit (Elt F) ℕ U ℕ

/-- What the body is called with: its inputs at contents `x`, its outputs and scratch buffers at any. -/
def given0 (c : Dev nD) (arg1 : Memref sig .tc .vmem S256x1024 .f32) (arg2 : Memref sig .tc .vmem S8x128x1024 .bf16) (arg3 : Memref sig .tc .vmem S8x128x1024 .bf16) (arg4 : Memref sig .tc .vmem S8x512 .f32) (arg5 : Memref sig .tc .vmem S8x512 .f32) (arg6 : Memref sig .tc .vmem S1x1024 .f32) (arg7 : Memref sig .tc .vmem S1x8x2080x128 .f32) (arg8 : Memref sig .tc .vmem S256x1024 .f32) (arg9 : Memref sig .tc .vmem S256x1024 .bf16) (arg10 : Memref sig .tc .vmem S8x2080x128 .f32) (arg11 : Memref sig .tc .vmem S8x8x128 .f32) (x1 : Vec F S256x1024 .f32) (x2 : Vec F S8x128x1024 .bf16) (x3 : Vec F S8x128x1024 .bf16) (x4 : Vec F S8x512 .f32) (x5 : Vec F S8x512 .f32) (x6 : Vec F S1x1024 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))

set_option maxHeartbeats 4000000 in
set_option maxRecDepth 16384 in
/-- The body keeps its inputs at what they hold, and its outputs and scratch buffers at anything. -/
theorem keeps_scan (c : Dev nD) (i : grid0.Coords) (arg1 : Memref sig .tc .vmem S256x1024 .f32) (harg1 : arg1.IsWhole) (arg2 : Memref sig .tc .vmem S8x128x1024 .bf16) (harg2 : arg2.IsWhole) (arg3 : Memref sig .tc .vmem S8x128x1024 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S1x1024 .f32) (harg6 : arg6.IsWhole) (arg7 : Memref sig .tc .vmem S1x8x2080x128 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S8x2080x128 .f32) (harg10 : arg10.IsWhole) (arg11 : Memref sig .tc .vmem S8x8x128 .f32) (harg11 : arg11.IsWhole) (x1 : Vec F S256x1024 .f32) (x2 : Vec F S8x128x1024 .bf16) (x3 : Vec F S8x128x1024 .bf16) (x4 : Vec F S8x512 .f32) (x5 : Vec F S8x512 .f32) (x6 : Vec F S1x1024 .f32) :
    Keeps (defs₀ (F := F)) c (given0 (U := U) c arg1 arg2 arg3 arg4 arg5 arg6 arg7 arg8 arg9 arg10 arg11 x1 x2 x3 x4 x5 x6)
      (cc0_s5_fwd i arg1 harg1 arg2 harg2 arg3 harg3 arg4 harg4 arg5 harg5 arg6 harg6 arg7 harg7 arg8 harg8 arg9 harg9 arg10 harg10 arg11 harg11) := by
  unfold given0
  generalize hI : (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄) = I
  have r1 : Reads (τ := τ) c I arg1 := hI ▸ .head
  have r2 : Reads (τ := τ) c I arg2 := hI ▸ .tail (.head)
  have r3 : Reads (τ := τ) c I arg3 := hI ▸ .tail (.tail (.head))
  have r4 : Reads (τ := τ) c I arg4 := hI ▸ .tail (.tail (.tail (.head)))
  have r5 : Reads (τ := τ) c I arg5 := hI ▸ .tail (.tail (.tail (.tail (.head))))
  have r6 : Reads (τ := τ) c I arg6 := hI ▸ .tail (.tail (.tail (.tail (.tail (.head)))))
  have w7 : Holds (τ := τ) c I arg7 := hI ▸ .tail (.tail (.tail (.tail (.tail (.tail (.head))))))
  have r7 := w7.reads
  have w8 : Holds (τ := τ) c I arg8 := hI ▸ .tail (.tail (.tail (.tail (.tail (.tail (.tail (.head)))))))
  have r8 := w8.reads
  have w9 : Holds (τ := τ) c I arg9 := hI ▸ .tail (.tail (.tail (.tail (.tail (.tail (.tail (.tail (.head))))))))
  have r9 := w9.reads
  have w10 : Holds (τ := τ) c I arg10 := hI ▸ .tail (.tail (.tail (.tail (.tail (.tail (.tail (.tail (.tail (.head)))))))))
  have r10 := w10.reads
  have w11 : Holds (τ := τ) c I arg11 := hI ▸ .tail (.tail (.tail (.tail (.tail (.tail (.tail (.tail (.tail (.tail (.self))))))))))
  have r11 := w11.reads
  clear hI
  rw [cc0_s5_fwd_eq_skeleton]
  unfold cc0_s5_fwd_skel
  repeat' first
    | with_reducible exact Keeps.pure _
    | with_reducible exact Keeps.load (by assumption)
    | with_reducible exact Keeps.store (by assumption)
    | with_reducible refine Keeps.bind ?_ fun _ => ?_
    | with_reducible refine Keeps.dite (fun _ => ?_) fun _ => ?_
    | with_reducible refine Keeps.for fun _ _ => ?_
    | split
    | unfold k0_t1_body
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)

end Cert.SFiveBwdIdeal

end
-- ==== Proof.SBwdIdealBody.lean ====
/-
  The body of the backward scan, `cc1_s5_bwd`, keeps the buffers it is called with.
-/
module

public import proofs.«01_k».proof.Proof.Keeps
public import proofs.«01_k».proof.Proof.Gen.SFiveBwdIdeal.Regions
public import proofs.«01_k».proof.Proof.Gen.SFiveBwdIdeal.Skeleton

@[expose] public section

noncomputable section

namespace Cert.SFiveBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof Cert.SFiveBwdIdeal.Gen

variable {F : FTy → Type} [FloatOps F]

variable {U : Type} [URA U]

local notation "𝕄" => MT nD τ sig Unit (Elt F) ℕ U ℕ

/-- What the body is called with: its inputs at contents `x`, its outputs and scratch buffers at any. -/
def given1 (c : Dev nD) (arg1 : Memref sig .tc .vmem S256x1024 .f32) (arg2 : Memref sig .tc .vmem S256x1024 .f32) (arg3 : Memref sig .tc .vmem S1x8x2080x128 .f32) (arg4 : Memref sig .tc .vmem S8x128x1024 .bf16) (arg5 : Memref sig .tc .vmem S8x128x1024 .bf16) (arg6 : Memref sig .tc .vmem S8x512 .f32) (arg7 : Memref sig .tc .vmem S8x512 .f32) (arg8 : Memref sig .tc .vmem S1x1024 .f32) (arg9 : Memref sig .tc .vmem S256x1024 .f32) (arg10 : Memref sig .tc .vmem S8x128x1024 .f32) (arg11 : Memref sig .tc .vmem S8x128x1024 .f32) (arg12 : Memref sig .tc .vmem S8x8x128 .f32) (arg13 : Memref sig .tc .vmem S8x1024 .f32) (arg14 : Memref sig .tc .vmem S8x2080x128 .f32) (arg15 : Memref sig .tc .vmem S8x8x128 .f32) (x1 : Vec F S256x1024 .f32) (x2 : Vec F S256x1024 .f32) (x3 : Vec F S1x8x2080x128 .f32) (x4 : Vec F S8x128x1024 .bf16) (x5 : Vec F S8x128x1024 .bf16) (x6 : Vec F S8x512 .f32) (x7 : Vec F S8x512 .f32) (x8 : Vec F S1x1024 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

set_option maxHeartbeats 4000000 in
set_option maxRecDepth 16384 in
/-- The body keeps its inputs at what they hold, and its outputs and scratch buffers at anything. -/
theorem keeps_body (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S1x8x2080x128 .f32) (harg3 : arg3.IsWhole) (arg4 : Memref sig .tc .vmem S8x128x1024 .bf16) (harg4 : arg4.IsWhole) (arg5 : Memref sig .tc .vmem S8x128x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S8x128x1024 .f32) (harg10 : arg10.IsWhole) (arg11 : Memref sig .tc .vmem S8x128x1024 .f32) (harg11 : arg11.IsWhole) (arg12 : Memref sig .tc .vmem S8x8x128 .f32) (harg12 : arg12.IsWhole) (arg13 : Memref sig .tc .vmem S8x1024 .f32) (harg13 : arg13.IsWhole) (arg14 : Memref sig .tc .vmem S8x2080x128 .f32) (harg14 : arg14.IsWhole) (arg15 : Memref sig .tc .vmem S8x8x128 .f32) (harg15 : arg15.IsWhole) (x1 : Vec F S256x1024 .f32) (x2 : Vec F S256x1024 .f32) (x3 : Vec F S1x8x2080x128 .f32) (x4 : Vec F S8x128x1024 .bf16) (x5 : Vec F S8x128x1024 .bf16) (x6 : Vec F S8x512 .f32) (x7 : Vec F S8x512 .f32) (x8 : Vec F S1x1024 .f32) :
    Keeps (defs₀ (F := F)) c (given1 (U := U) c arg1 arg2 arg3 arg4 arg5 arg6 arg7 arg8 arg9 arg10 arg11 arg12 arg13 arg14 arg15 x1 x2 x3 x4 x5 x6 x7 x8)
      (cc1_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  unfold given1
  generalize hI : (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) : sProp 𝕄) = I
  have r1 : Reads (τ := τ) c I arg1 := hI ▸ .head
  have r2 : Reads (τ := τ) c I arg2 := hI ▸ .tail (.head)
  have r3 : Reads (τ := τ) c I arg3 := hI ▸ .tail (.tail (.head))
  have r4 : Reads (τ := τ) c I arg4 := hI ▸ .tail (.tail (.tail (.head)))
  have r5 : Reads (τ := τ) c I arg5 := hI ▸ .tail (.tail (.tail (.tail (.head))))
  have r6 : Reads (τ := τ) c I arg6 := hI ▸ .tail (.tail (.tail (.tail (.tail (.head)))))
  have r7 : Reads (τ := τ) c I arg7 := hI ▸ .tail (.tail (.tail (.tail (.tail (.tail (.head))))))
  have r8 : Reads (τ := τ) c I arg8 := hI ▸ .tail (.tail (.tail (.tail (.tail (.tail (.tail (.head)))))))
  have w9 : Holds (τ := τ) c I arg9 := hI ▸ .tail (.tail (.tail (.tail (.tail (.tail (.tail (.tail (.head))))))))
  have r9 := w9.reads
  have w10 : Holds (τ := τ) c I arg10 := hI ▸ .tail (.tail (.tail (.tail (.tail (.tail (.tail (.tail (.tail (.head)))))))))
  have r10 := w10.reads
  have w11 : Holds (τ := τ) c I arg11 := hI ▸ .tail (.tail (.tail (.tail (.tail (.tail (.tail (.tail (.tail (.tail (.head))))))))))
  have r11 := w11.reads
  have w12 : Holds (τ := τ) c I arg12 := hI ▸ .tail (.tail (.tail (.tail (.tail (.tail (.tail (.tail (.tail (.tail (.tail (.head)))))))))))
  have r12 := w12.reads
  have w13 : Holds (τ := τ) c I arg13 := hI ▸ .tail (.tail (.tail (.tail (.tail (.tail (.tail (.tail (.tail (.tail (.tail (.tail (.head))))))))))))
  have r13 := w13.reads
  have w14 : Holds (τ := τ) c I arg14 := hI ▸ .tail (.tail (.tail (.tail (.tail (.tail (.tail (.tail (.tail (.tail (.tail (.tail (.tail (.head)))))))))))))
  have r14 := w14.reads
  have w15 : Holds (τ := τ) c I arg15 := hI ▸ .tail (.tail (.tail (.tail (.tail (.tail (.tail (.tail (.tail (.tail (.tail (.tail (.tail (.tail (.self))))))))))))))
  have r15 := w15.reads
  clear hI
  rw [cc1_s5_bwd_eq_skeleton]
  unfold cc1_s5_bwd_skel
  repeat' first
    | with_reducible exact Keeps.pure _
    | with_reducible exact Keeps.load (by assumption)
    | with_reducible exact Keeps.store (by assumption)
    | with_reducible refine Keeps.bind ?_ fun _ => ?_
    | with_reducible refine Keeps.dite (fun _ => ?_) fun _ => ?_
    | with_reducible refine Keeps.for fun _ _ => ?_
    | split
    | unfold k1_t1_body
    | (rw [k1_part1_eq_skeleton]; unfold k1_part1_skel)
    | (rw [k1_part2_eq_skeleton]; unfold k1_part2_skel)
    | (rw [k1_part3_eq_skeleton]; unfold k1_part3_skel)
    | (rw [k1_part4_eq_skeleton]; unfold k1_part4_skel)
    | (rw [k1_part5_eq_skeleton]; unfold k1_part5_skel)
    | (rw [k1_part6_eq_skeleton]; unfold k1_part6_skel)
    | (rw [k1_part7_eq_skeleton]; unfold k1_part7_skel)
    | (rw [k1_part8_eq_skeleton]; unfold k1_part8_skel)
    | (rw [k1_part9_eq_skeleton]; unfold k1_part9_skel)
    | (rw [k1_part10_eq_skeleton]; unfold k1_part10_skel)
    | (rw [k1_part11_eq_skeleton]; unfold k1_part11_skel)
    | (rw [k1_part12_eq_skeleton]; unfold k1_part12_skel)
    | (rw [k1_part13_eq_skeleton]; unfold k1_part13_skel)
    | (rw [k1_part14_eq_skeleton]; unfold k1_part14_skel)
    | (rw [k1_part15_eq_skeleton]; unfold k1_part15_skel)
    | (rw [k1_part16_eq_skeleton]; unfold k1_part16_skel)
    | (rw [k1_part17_eq_skeleton]; unfold k1_part17_skel)
    | (rw [k1_part18_eq_skeleton]; unfold k1_part18_skel)
    | (rw [k1_part19_eq_skeleton]; unfold k1_part19_skel)
    | (rw [k1_part20_eq_skeleton]; unfold k1_part20_skel)
    | (rw [k1_part21_eq_skeleton]; unfold k1_part21_skel)
    | (rw [k1_part22_eq_skeleton]; unfold k1_part22_skel)
    | (rw [k1_part23_eq_skeleton]; unfold k1_part23_skel)
    | (rw [k1_part24_eq_skeleton]; unfold k1_part24_skel)
    | (rw [k1_part25_eq_skeleton]; unfold k1_part25_skel)
    | (rw [k1_part26_eq_skeleton]; unfold k1_part26_skel)
    | (rw [k1_part27_eq_skeleton]; unfold k1_part27_skel)
    | (rw [k1_part28_eq_skeleton]; unfold k1_part28_skel)
    | (rw [k1_part29_eq_skeleton]; unfold k1_part29_skel)
    | (rw [k1_part30_eq_skeleton]; unfold k1_part30_skel)
    | (rw [k1_part31_eq_skeleton]; unfold k1_part31_skel)
    | (rw [k1_part32_eq_skeleton]; unfold k1_part32_skel)
    | (rw [k1_part33_eq_skeleton]; unfold k1_part33_skel)
    | (rw [k1_part34_eq_skeleton]; unfold k1_part34_skel)
    | (rw [k1_part35_eq_skeleton]; unfold k1_part35_skel)
    | (rw [k1_part36_eq_skeleton]; unfold k1_part36_skel)
    | (rw [k1_part37_eq_skeleton]; unfold k1_part37_skel)
    | (rw [k1_part38_eq_skeleton]; unfold k1_part38_skel)
    | (rw [k1_part39_eq_skeleton]; unfold k1_part39_skel)
    | (rw [k1_part40_eq_skeleton]; unfold k1_part40_skel)
    | (rw [k1_part41_eq_skeleton]; unfold k1_part41_skel)
    | (rw [k1_part42_eq_skeleton]; unfold k1_part42_skel)
    | (rw [k1_part43_eq_skeleton]; unfold k1_part43_skel)
    | (rw [k1_part44_eq_skeleton]; unfold k1_part44_skel)
    | (rw [k1_part45_eq_skeleton]; unfold k1_part45_skel)
    | (rw [k1_part46_eq_skeleton]; unfold k1_part46_skel)
    | (rw [k1_part47_eq_skeleton]; unfold k1_part47_skel)
    | (rw [k1_part48_eq_skeleton]; unfold k1_part48_skel)
    | (rw [k1_part49_eq_skeleton]; unfold k1_part49_skel)
    | (rw [k1_part50_eq_skeleton]; unfold k1_part50_skel)
    | (rw [k1_part51_eq_skeleton]; unfold k1_part51_skel)
    | (rw [k1_part52_eq_skeleton]; unfold k1_part52_skel)
    | (rw [k1_part53_eq_skeleton]; unfold k1_part53_skel)
    | (rw [k1_part54_eq_skeleton]; unfold k1_part54_skel)
    | (rw [k1_part55_eq_skeleton]; unfold k1_part55_skel)
    | (rw [k1_part56_eq_skeleton]; unfold k1_part56_skel)
    | (rw [k1_part57_eq_skeleton]; unfold k1_part57_skel)
    | (rw [k1_part58_eq_skeleton]; unfold k1_part58_skel)
    | (rw [k1_part59_eq_skeleton]; unfold k1_part59_skel)
    | (rw [k1_part60_eq_skeleton]; unfold k1_part60_skel)
    | (rw [k1_part61_eq_skeleton]; unfold k1_part61_skel)

end Cert.SFiveBwdIdeal

end
-- ==== Proof.SBwdIdealFrame.lean ====
/-
  The frame of `SFiveBwdIdeal`, a program of two regions (the forward scan, which computes the saved states, and the backward
  scan): it runs, leaves its arguments as it found them, and ends with every counter at zero.  Of what the bodies leave in
  their outputs nothing is said; that they keep their buffers (`keeps_scan`, `keeps_body`) is enough.
-/
module

public import proofs.«01_k».proof.Proof.KeepRegions
public import proofs.«01_k».proof.Proof.SBwdIdealScan
public import proofs.«01_k».proof.Proof.SBwdIdealBody
public import proofs.«01_k».proof.Proof.Gen.SFiveBwdIdeal.Points

@[expose] public section

set_option maxRecDepth 16384

noncomputable section

namespace Cert.SFiveBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat HostSeg)
open Cert.Proof Cert.SFiveBwdIdeal.Gen

variable {F : FTy → Type} [FloatOps F]

local notation "𝕄" => MT nD τ sig Unit (Elt F) ℕ (Twice nD τ sig) ℕ

/-- The body of region 0 at any point: its buffers are kept, whatever they hold. -/
theorem body_at0 (c : Dev nD) (t : Fin cfg0.N) (O : sProp 𝕄) (Y : (w : Fin 9) → (cfg0.win w).block.Idx → Elt F (cfg0.win w).elt) :
    iprop((Pipeline.scopedRest spec0 c ∗ ∃ r, prngReg c r) ∗ O
        ∗ owns (c : Thread nD τ) (win0_0.stage (cfg0.slots t 0)) fullShare (Y 0)
        ∗ owns (c : Thread nD τ) (win0_1.stage (cfg0.slots t 1)) fullShare (Y 1)
        ∗ owns (c : Thread nD τ) (win0_2.stage (cfg0.slots t 2)) fullShare (Y 2)
        ∗ owns (c : Thread nD τ) (win0_3.stage (cfg0.slots t 3)) fullShare (Y 3)
        ∗ owns (c : Thread nD τ) (win0_4.stage (cfg0.slots t 4)) fullShare (Y 4)
        ∗ owns (c : Thread nD τ) (win0_5.stage (cfg0.slots t 5)) fullShare (Y 5)
        ∗ owns (c : Thread nD τ) (win0_6.stage (cfg0.slots t 6)) fullShare (Y 6)
        ∗ owns (c : Thread nD τ) (win0_7.stage (cfg0.slots t 7)) fullShare (Y 7)
        ∗ owns (c : Thread nD τ) (win0_8.stage (cfg0.slots t 8)) fullShare (Y 8))
      ⊢ wp frame (wpE (defs₀ (F := F)) Variants.none c none) Set.univ (bodyAt0 t) fun _ => iprop((Pipeline.scopedRest spec0 c ∗ ∃ r, prngReg c r) ∗ O
        ∗ (∃ X, ⌜True⌝ ∗ owns (c : Thread nD τ) (win0_0.stage (cfg0.slots t 0)) fullShare X)
        ∗ (∃ X, ⌜True⌝ ∗ owns (c : Thread nD τ) (win0_1.stage (cfg0.slots t 1)) fullShare X)
        ∗ (∃ X, ⌜True⌝ ∗ owns (c : Thread nD τ) (win0_2.stage (cfg0.slots t 2)) fullShare X)
        ∗ (∃ X, ⌜True⌝ ∗ owns (c : Thread nD τ) (win0_3.stage (cfg0.slots t 3)) fullShare X)
        ∗ (∃ X, ⌜True⌝ ∗ owns (c : Thread nD τ) (win0_4.stage (cfg0.slots t 4)) fullShare X)
        ∗ (∃ X, ⌜True⌝ ∗ owns (c : Thread nD τ) (win0_5.stage (cfg0.slots t 5)) fullShare X)
        ∗ (∃ X, ⌜True⌝ ∗ owns (c : Thread nD τ) (win0_6.stage (cfg0.slots t 6)) fullShare X)
        ∗ (∃ X, ⌜True⌝ ∗ owns (c : Thread nD τ) (win0_7.stage (cfg0.slots t 7)) fullShare X)
        ∗ (∃ X, ⌜True⌝ ∗ owns (c : Thread nD τ) (win0_8.stage (cfg0.slots t 8)) fullShare X)) := by
  unfold bodyAt0
  rw [scopedRest0_eq]
  have h := keeps_scan (F := F) (U := Twice nD τ sig) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Y 0) (Y 1) (Y 2) (Y 3) (Y 4) (Y 5)
  unfold Keeps given0 at h
  simp only [owns_whole] at h
  iintro ⟨⟨⟨R0, R1, R2, R3, R4, R5, R6, R7, R8, R9, R10, R11, R12, R13, R14, R15, R16, R17, R18, R19, R20⟩, Hg⟩, Ho, H0, H1, H2, H3, H4, H5, H6, H7, H8⟩
  iapply wp_wand_r
  isplitl [H0 H1 H2 H3 H4 H5 H6 H7 H8 R0 R1]
  · iapply h
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [R0]; · iexact R0
    iexact R1
  iintro %_ ⟨H0, H1, H2, H3, H4, H5, H6, H7, H8, R0, R1⟩
  isplitl [R0 R1 R2 R3 R4 R5 R6 R7 R8 R9 R10 R11 R12 R13 R14 R15 R16 R17 R18 R19 R20 Hg]
  · isplitl [R0 R1 R2 R3 R4 R5 R6 R7 R8 R9 R10 R11 R12 R13 R14 R15 R16 R17 R18 R19 R20]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact R20
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  icases H6 with ⟨%d6, H6⟩
  isplitl [H6]
  · iexists _; isplitr; · ipureintro; trivial
    iexact H6
  icases H7 with ⟨%d7, H7⟩
  isplitl [H7]
  · iexists _; isplitr; · ipureintro; trivial
    iexact H7
  icases H8 with ⟨%d8, H8⟩
  iexists _; isplitr; · ipureintro; trivial
  iexact H8

/-- The same, with the windows' resources as one conjunction over the windows. -/
theorem triple0 (c : Dev nD) (t : Fin cfg0.N) (O : sProp 𝕄) (Y : (w : Fin 9) → (cfg0.win w).block.Idx → Elt F (cfg0.win w).elt) :
    iprop((Pipeline.scopedRest spec0 c ∗ ∃ r, prngReg c r) ∗ O
        ∗ bigSep Finset.univ fun w : Fin 9 => owns (c : Thread nD τ) ((cfg0.win w).stage (cfg0.slots t w)) fullShare (Y w))
      ⊢ wp frame (wpE (defs₀ (F := F)) Variants.none c none) Set.univ (defs₀ (F := F) .tc cfg0.body (cfg0.bodyArgs t (cfg0.slots t)))
        fun _ => iprop((Pipeline.scopedRest spec0 c ∗ ∃ r, prngReg c r) ∗ O ∗ bigSep Finset.univ fun w : Fin 9 =>
          iprop(∃ X, ⌜True⌝ ∗ owns (c : Thread nD τ) ((cfg0.win w).stage (cfg0.slots t w)) fullShare X)) := by
  rw [bigSep_W0, show defs₀ (F := F) .tc cfg0.body (cfg0.bodyArgs t (cfg0.slots t)) = bodyAt0 t by unfold defs₀; rw [Defs.onTc_tc]]
  simp only [bigSep_W0]
  exact triple_restated (body_at0 c t O Y) rfl .rfl fun _ => .rfl

/-- The library's body obligation for region 0, at any entry contents. -/
theorem obligation0 (V : Valuation τ sig (Elt F)) (c : Dev nD) :
    (anyData (nD := nD) (pcfgs (F := F)) adm V 0 c).BodyObligation (defs₀ (F := F)) Variants.none () Set.univ := fun t Y _ =>
  triple0 c t ((anyData (nD := nD) (pcfgs (F := F)) adm V 0 c).owesAt () t.castSucc) Y

/-- The body of region 1 at any point: its buffers are kept, whatever they hold. -/
theorem body_at1 (c : Dev nD) (t : Fin cfg1.N) (O : sProp 𝕄) (Y : (w : Fin 13) → (cfg1.win w).block.Idx → Elt F (cfg1.win w).elt) :
    iprop((Pipeline.scopedRest spec1 c ∗ ∃ r, prngReg c r) ∗ O
        ∗ owns (c : Thread nD τ) (win1_0.stage (cfg1.slots t 0)) fullShare (Y 0)
        ∗ owns (c : Thread nD τ) (win1_1.stage (cfg1.slots t 1)) fullShare (Y 1)
        ∗ owns (c : Thread nD τ) (win1_2.stage (cfg1.slots t 2)) fullShare (Y 2)
        ∗ owns (c : Thread nD τ) (win1_3.stage (cfg1.slots t 3)) fullShare (Y 3)
        ∗ owns (c : Thread nD τ) (win1_4.stage (cfg1.slots t 4)) fullShare (Y 4)
        ∗ owns (c : Thread nD τ) (win1_5.stage (cfg1.slots t 5)) fullShare (Y 5)
        ∗ owns (c : Thread nD τ) (win1_6.stage (cfg1.slots t 6)) fullShare (Y 6)
        ∗ owns (c : Thread nD τ) (win1_7.stage (cfg1.slots t 7)) fullShare (Y 7)
        ∗ owns (c : Thread nD τ) (win1_8.stage (cfg1.slots t 8)) fullShare (Y 8)
        ∗ owns (c : Thread nD τ) (win1_9.stage (cfg1.slots t 9)) fullShare (Y 9)
        ∗ owns (c : Thread nD τ) (win1_10.stage (cfg1.slots t 10)) fullShare (Y 10)
        ∗ owns (c : Thread nD τ) (win1_11.stage (cfg1.slots t 11)) fullShare (Y 11)
        ∗ owns (c : Thread nD τ) (win1_12.stage (cfg1.slots t 12)) fullShare (Y 12))
      ⊢ wp frame (wpE (defs₀ (F := F)) Variants.none c none) Set.univ (bodyAt1 t) fun _ => iprop((Pipeline.scopedRest spec1 c ∗ ∃ r, prngReg c r) ∗ O
        ∗ (∃ X, ⌜True⌝ ∗ owns (c : Thread nD τ) (win1_0.stage (cfg1.slots t 0)) fullShare X)
        ∗ (∃ X, ⌜True⌝ ∗ owns (c : Thread nD τ) (win1_1.stage (cfg1.slots t 1)) fullShare X)
        ∗ (∃ X, ⌜True⌝ ∗ owns (c : Thread nD τ) (win1_2.stage (cfg1.slots t 2)) fullShare X)
        ∗ (∃ X, ⌜True⌝ ∗ owns (c : Thread nD τ) (win1_3.stage (cfg1.slots t 3)) fullShare X)
        ∗ (∃ X, ⌜True⌝ ∗ owns (c : Thread nD τ) (win1_4.stage (cfg1.slots t 4)) fullShare X)
        ∗ (∃ X, ⌜True⌝ ∗ owns (c : Thread nD τ) (win1_5.stage (cfg1.slots t 5)) fullShare X)
        ∗ (∃ X, ⌜True⌝ ∗ owns (c : Thread nD τ) (win1_6.stage (cfg1.slots t 6)) fullShare X)
        ∗ (∃ X, ⌜True⌝ ∗ owns (c : Thread nD τ) (win1_7.stage (cfg1.slots t 7)) fullShare X)
        ∗ (∃ X, ⌜True⌝ ∗ owns (c : Thread nD τ) (win1_8.stage (cfg1.slots t 8)) fullShare X)
        ∗ (∃ X, ⌜True⌝ ∗ owns (c : Thread nD τ) (win1_9.stage (cfg1.slots t 9)) fullShare X)
        ∗ (∃ X, ⌜True⌝ ∗ owns (c : Thread nD τ) (win1_10.stage (cfg1.slots t 10)) fullShare X)
        ∗ (∃ X, ⌜True⌝ ∗ owns (c : Thread nD τ) (win1_11.stage (cfg1.slots t 11)) fullShare X)
        ∗ (∃ X, ⌜True⌝ ∗ owns (c : Thread nD τ) (win1_12.stage (cfg1.slots t 12)) fullShare X)) := by
  unfold bodyAt1
  rw [scopedRest1_eq]
  have h := keeps_body (F := F) (U := Twice nD τ sig) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (Memref.whole cc1_scratch0) (Memref.isWhole_whole _) (Memref.whole cc1_scratch1) (Memref.isWhole_whole _) (Y 0) (Y 1) (Y 2) (Y 3) (Y 4) (Y 5) (Y 6) (Y 7)
  unfold Keeps given1 at h
  simp only [owns_whole] at h
  iintro ⟨⟨⟨R0, R1, R2, R3, R4, R5, R6, R7, R8, R9, R10, R11, R12, R13, R14, R15, R16⟩, Hg⟩, Ho, H0, H1, H2, H3, H4, H5, H6, H7, H8, H9, H10, H11, H12⟩
  iapply wp_wand_r
  isplitl [H0 H1 H2 H3 H4 H5 H6 H7 H8 H9 H10 H11 H12 R15 R16]
  · iapply h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [R15]; · iexact R15
    iexact R16
  iintro %_ ⟨H0, H1, H2, H3, H4, H5, H6, H7, H8, H9, H10, H11, H12, R15, R16⟩
  isplitl [R0 R1 R2 R3 R4 R5 R6 R7 R8 R9 R10 R11 R12 R13 R14 R15 R16 Hg]
  · isplitl [R0 R1 R2 R3 R4 R5 R6 R7 R8 R9 R10 R11 R12 R13 R14 R15 R16]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      iexact R16
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  isplitl [H7]
  · iexists _; isplitr; · ipureintro; trivial
    iexact H7
  icases H8 with ⟨%d8, H8⟩
  isplitl [H8]
  · iexists _; isplitr; · ipureintro; trivial
    iexact H8
  icases H9 with ⟨%d9, H9⟩
  isplitl [H9]
  · iexists _; isplitr; · ipureintro; trivial
    iexact H9
  icases H10 with ⟨%d10, H10⟩
  isplitl [H10]
  · iexists _; isplitr; · ipureintro; trivial
    iexact H10
  icases H11 with ⟨%d11, H11⟩
  isplitl [H11]
  · iexists _; isplitr; · ipureintro; trivial
    iexact H11
  icases H12 with ⟨%d12, H12⟩
  iexists _; isplitr; · ipureintro; trivial
  iexact H12

/-- The same, with the windows' resources as one conjunction over the windows. -/
theorem triple1 (c : Dev nD) (t : Fin cfg1.N) (O : sProp 𝕄) (Y : (w : Fin 13) → (cfg1.win w).block.Idx → Elt F (cfg1.win w).elt) :
    iprop((Pipeline.scopedRest spec1 c ∗ ∃ r, prngReg c r) ∗ O
        ∗ bigSep Finset.univ fun w : Fin 13 => owns (c : Thread nD τ) ((cfg1.win w).stage (cfg1.slots t w)) fullShare (Y w))
      ⊢ wp frame (wpE (defs₀ (F := F)) Variants.none c none) Set.univ (defs₀ (F := F) .tc cfg1.body (cfg1.bodyArgs t (cfg1.slots t)))
        fun _ => iprop((Pipeline.scopedRest spec1 c ∗ ∃ r, prngReg c r) ∗ O ∗ bigSep Finset.univ fun w : Fin 13 =>
          iprop(∃ X, ⌜True⌝ ∗ owns (c : Thread nD τ) ((cfg1.win w).stage (cfg1.slots t w)) fullShare X)) := by
  rw [bigSep_W1, show defs₀ (F := F) .tc cfg1.body (cfg1.bodyArgs t (cfg1.slots t)) = bodyAt1 t by unfold defs₀; rw [Defs.onTc_tc]]
  simp only [bigSep_W1]
  exact triple_restated (body_at1 c t O Y) rfl .rfl fun _ => .rfl

/-- The library's body obligation for region 1, at any entry contents. -/
theorem obligation1 (V : Valuation τ sig (Elt F)) (c : Dev nD) :
    (anyData (nD := nD) (pcfgs (F := F)) adm V 1 c).BodyObligation (defs₀ (F := F)) Variants.none () Set.univ := fun t Y _ =>
  triple1 c t ((anyData (nD := nD) (pcfgs (F := F)) adm V 1 c).owesAt () t.castSucc) Y

/-- The arguments. -/
def args : List (Ref sig .tc) := [main_arg0, main_arg1, main_arg2, main_arg3, main_arg4, main_arg5, main_arg6, main_arg7, main_arg8]

/-- No host operation writes an argument. -/
theorem args_unwritten0 : ∀ b ∈ args, b ∉ hostOps0_W := by decide
theorem args_unwritten1 : ∀ b ∈ args, b ∉ hostOps1_W := by decide
theorem args_unwritten2 : ∀ b ∈ args, b ∉ hostOps2_W := by decide

/-- No output of a region is an argument. -/
theorem args_kept0 : ∀ b ∈ args, ∀ w : Fin 9, (cfg0.win w).isOut = true → Pipeline.arrRef spec0 w ≠ b := by decide
theorem args_kept1 : ∀ b ∈ args, ∀ w : Fin 13, (cfg1.win w).isOut = true → Pipeline.arrRef spec1 w ≠ b := by decide

variable (m : (ℓ : Loc nD τ sig) → Buf (Elt F) ℓ) (ρ : Dev nD → PrngReg)

/-- The program's items in order. -/
def items : List (HostSeg (nD := nD) (τ := τ) (Ix := Unit) (Name := ℕ) (U := Twice nD τ sig) (Lvl := ℕ) (pcfgs (F := F)) defs₀ Variants.none
    (fun _ => ∅) fun _ _ => 0) :=
  [ (hostItem (pcfgs (F := F)) adm defs₀ _ _ args m Finset.univ hostOps0
      (fun op h => Pipeline.sub_ucRefs op ((List.forall_iff_forall_mem.mp hostOps0_sub) op h))
      (fun op h => (List.forall_iff_forall_mem.mp hostOps0_fresh) op h)
      (fun V b hb => StableHlo.after_of_writes_sub hostOps0 V hostOps0_writes (args_unwritten0 b hb))),
    regionItem (pcfgs (F := F)) adm defs₀ _ _ args m cellOf_inj 0 Finset.univ (Finset.mem_univ _) launch0.toP rfl obligation0 args_kept0,
    (hostItem (pcfgs (F := F)) adm defs₀ _ _ args m (Finset.univ.erase 0) hostOps1
      (fun op h => Pipeline.sub_ucRefs op ((List.forall_iff_forall_mem.mp hostOps1_sub) op h))
      (fun op h => (List.forall_iff_forall_mem.mp hostOps1_fresh) op h)
      (fun V b hb => StableHlo.after_of_writes_sub hostOps1 V hostOps1_writes (args_unwritten1 b hb))),
    regionItem (pcfgs (F := F)) adm defs₀ _ _ args m cellOf_inj 1 (Finset.univ.erase 0) (by decide) launch1.toP rfl obligation1 args_kept1,
    (hostItem (pcfgs (F := F)) adm defs₀ _ _ args m ((Finset.univ.erase 0).erase 1) hostOps2
      (fun op h => Pipeline.sub_ucRefs op ((List.forall_iff_forall_mem.mp hostOps2_sub) op h))
      (fun op h => (List.forall_iff_forall_mem.mp hostOps2_fresh) op h)
      (fun V b hb => StableHlo.after_of_writes_sub hostOps2 V hostOps2_writes (args_unwritten2 b hb))) ]

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩)
    (runs_kept (pcfgs (F := F)) adm defs₀ args m cellOf_inj ρ main (items m) (fun c => main_chain c)
      (fun _ c => ⟨.rfl, .rfl, .rfl, .rfl, .rfl, kept_last _ _ args m _ c⟩) regions_no_unscoped (by decide))
  have h := h.1 c
  simp only [args, List.forall_mem_cons, List.not_mem_nil, false_imp_iff, implies_true, and_true] at h
  exact h

end Cert.SFiveBwdIdeal

end
-- ==== Proof.RowSum.lean ====
/-
  A sum over the rows of an array, block of rows by block of rows: what an accumulator holds that adds one block's sum at a time.
-/
module

public import Mathlib.Data.EReal.Operations
public import Mathlib.Algebra.BigOperators.Fin

@[expose] public section

noncomputable section

namespace RowSum

/-- The sum over the rows before row `n`. -/
def upTo {R : ℕ} (f : Fin R → EReal) (n : ℕ) : EReal := ∑ P ∈ Finset.range n, if h : P < R then f ⟨P, h⟩ else 0

/-- No row. -/
theorem upTo_zero {R : ℕ} (f : Fin R → EReal) : upTo f 0 = 0 := rfl

/-- One block of `b` rows more. -/
theorem upTo_block {R : ℕ} (f : Fin R → EReal) (b k : ℕ) (g : Fin b → EReal)
    (h : ∀ r : Fin b, ∃ h : b * k + r.val < R, g r = f ⟨b * k + r.val, h⟩) : upTo f (b * k) + ∑ r, g r = upTo f (b * (k + 1)) := by
  unfold upTo
  rw [Nat.mul_succ, Finset.sum_range_add, Finset.sum_range (n := b)]
  refine congrArg _ (Finset.sum_congr rfl fun r _ => ?_)
  obtain ⟨hr, e⟩ := h r
  rw [dif_pos hr, e]

/-- All rows. -/
theorem upTo_all {R : ℕ} (f : Fin R → EReal) : upTo f R = ∑ P, f P := by
  unfold upTo
  rw [Finset.sum_range]
  exact Finset.sum_congr rfl fun P _ => dif_pos P.isLt

/-- Rows of zeros in front of the others drop out. -/
theorem sum_behind {z R T : ℕ} (hT : T = z + R) (f : Fin T → EReal) (g : Fin R → EReal) (h0 : ∀ P : Fin T, P.val < z → f P = 0)
    (h : ∀ (r : Fin R) (P : Fin T), P.val = z + r.val → f P = g r) : ∑ P, f P = ∑ r, g r := by
  subst hT
  rw [Fin.sum_univ_add]
  have e : ∑ i : Fin z, f (Fin.castAdd R i) = 0 := Finset.sum_eq_zero fun i _ => h0 _ i.isLt
  rw [e, zero_add]
  exact Finset.sum_congr rfl fun r _ => h r _ rfl

end RowSum

end
-- ==== Proof.DwIn.lean ====
/-
  The value of `dw_in`: the gradient of the input projection's weights, transposed: `swapaxes dproj @ n0`.

  The kernel works on two halves of the columns of `n0`, and in each on 11 blocks of 768 rows, the first 240 of them zeros; it adds
  a block's product to an accumulator and rounds it after the last block. The columns of `dproj` are in the order in which
  earlier calls wrote them, padded by columns of zeros; the result's rows are put back in order in the end.
-/
module

public import proofs.«01_k».proof.Defs
public import proofs.«01_k».proof.Proof.RowSum
public import proofs.«01_k».proof.Proof.Gen.DwIn.Frame
public import proofs.«01_k».proof.Proof.Gen.DwInIdeal.Frame
public import proofs.«01_k».proof.Proof.Gen.DwInRefIdeal.Run
public import Idealize.ShloMosaic.Lib.Pipeline.ValueKit
public import Idealize.ShloMosaic.Lib.Pipeline.ValueKit.Point
public import Idealize.ShloMosaic.Lib.Pipeline.ReadBack
public import Idealize.ShloMosaic.Lib.KernelVsHost
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.DwInIdeal.RefValue

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s two argument arrays as launched. -/
abbrev argN (c : Dev nD) : FVec Ideal S8208x1024 .f32 := m ((c : Thread nD τ).loc main_arg0)
abbrev argP (c : Dev nD) : FVec Ideal S8208x3600 .f32 := m ((c : Thread nD τ).loc main_arg1)

/-- The gradient, element by element. -/
def grad (n : FVec Ideal S8208x1024 .f32) (p : FVec Ideal S8208x3600 .f32) : FVec Ideal S3600x1024 .bf16 := fun i =>
  ∑ R : Fin 8208, p (ix2 R (i 0)) * n (ix2 R (i 1))

/-- The columns of `dproj` in the kernel's order, 112 columns of zeros behind them. -/
def order (f : Fin 3600 → EReal) (j : Fin 3712) : EReal :=
  if h : j.val < 1024 then f ⟨j.val, by omega⟩
  else if h : j.val < 2048 then f ⟨1552 + j.val, by omega⟩
  else if h : j.val < 3584 then f ⟨j.val - 1024, by omega⟩
  else if h : j.val < 3600 then f ⟨j.val - 1024, by omega⟩ else 0

/-- The region's two inputs: 240 rows of zeros in front. -/
def rowP (p : FVec Ideal S8208x3600 .f32) (P : Fin 8448) (j : Fin 3712) : EReal :=
  if h : 240 ≤ P.val then order (fun i => p (ix2 ⟨P.val - 240, by omega⟩ i)) j else 0
def rowN (n : FVec Ideal S8208x1024 .f32) (P : Fin 8448) (l : Fin 1024) : EReal :=
  if h : 240 ≤ P.val then n (ix2 ⟨P.val - 240, by omega⟩ l) else 0

/-- The region's result. -/
def gradAll (n : FVec Ideal S8208x1024 .f32) (p : FVec Ideal S8208x3600 .f32) : FVec Ideal S3712x1024 .bf16 := fun i =>
  ∑ P : Fin 8448, rowP p P (i 0) * rowN n P (i 1)

/-- A grid point's blocks. -/
abbrev blkP (c : Dev nD) (t : Fin cfg0.N) : FVec Ideal S768x3712 .bf16 := iblk m c 0 t
abbrev blkN (c : Dev nD) (t : Fin cfg0.N) : FVec Ideal S768x512 .bf16 := iblk m c 1 t

/-- Where each window's block sits at a grid point. -/
theorem idx : ∀ t : Fin cfg0.N, win0_0.index t = ![t.val % 11, 0] ∧ win0_1.index t = ![t.val % 11, t.val / 11] ∧ win0_2.index t = ![0, t.val / 11] :=
  (by decide +kernel : ∀ t : Fin grid0.N, _)

/-- The two inputs as the region finds them. -/
theorem V_p (c : Dev nD) (P : Fin 8448) (j : Fin 3712) :
    (V m c (Pipeline.arrRef spec0 0) : FVec Ideal S8448x3712 .bf16) (ix2 P j) = rowP (argP m c) P j := by
  unfold V
  after_reads_at
  have hj := j.isLt
  unfold rowP
  by_cases hP : 240 ≤ P.val
  swap
  · rw [dif_neg hP, dif_neg (by omega)]
    exact sitofp_zero (φ := .f32)
  rw [dif_pos (by omega), dif_pos hP]
  after_reads_at
  unfold order
  by_cases h0 : j.val < 1024
  · rw [dif_pos h0, dif_pos h0]
  rw [dif_neg h0, dif_neg h0]
  by_cases h1 : j.val < 2048
  · rw [dif_pos (by omega), dif_pos h1]
    after_reads_at
    exact congrArg (fun i : Fin 3600 => argP m c (ix2 _ i)) (Fin.ext (show 2576 + (j.val - 1024) = 1552 + j.val by omega))
  rw [dif_neg (by omega), dif_neg h1]
  by_cases h2 : j.val < 3584
  · rw [dif_pos (by omega), dif_pos h2]
    after_reads_at
    exact congrArg (fun i : Fin 3600 => argP m c (ix2 _ i)) (Fin.ext (show 1024 + (j.val - 1024 - 1024) = j.val - 1024 by omega))
  rw [dif_neg (by omega), dif_neg h2]
  by_cases h3 : j.val < 3600
  · rw [dif_pos (by omega), dif_pos h3]
    after_reads_at
    exact congrArg (fun i : Fin 3600 => argP m c (ix2 _ i)) (Fin.ext (show 2560 + (j.val - 1024 - 1024 - 1536) = j.val - 1024 by omega))
  rw [dif_neg (by omega), dif_neg h3]
theorem V_n (c : Dev nD) (P : Fin 8448) (l : Fin 1024) :
    (V m c (Pipeline.arrRef spec0 1) : FVec Ideal S8448x1024 .bf16) (ix2 P l) = rowN (argN m c) P l := by
  unfold V
  after_reads_at
  unfold rowN
  by_cases hP : 240 ≤ P.val
  · rw [dif_pos (by omega), dif_pos hP]
  · rw [dif_neg hP, dif_neg (by omega)]
    exact sitofp_zero (φ := .f32)

/-- The blocks at a grid point. -/
theorem blk_p (c : Dev nD) (t : Fin cfg0.N) (r : Fin 768) (j : Fin 3712) (P : Fin 8448) (hP : P.val = t.val % 11 * 768 + r.val) :
    blkP m c t (ix2 r j) = rowP (argP m c) P j := by
  rw [← V_p m c P j]
  blk_ext [iblk, (idx t).1]
theorem blk_n (c : Dev nD) (t : Fin cfg0.N) (r : Fin 768) (l : Fin 512) (P : Fin 8448) (hP : P.val = t.val % 11 * 768 + r.val)
    (L : Fin 1024) (hL : L.val = t.val / 11 * 512 + l.val) : blkN m c t (ix2 r l) = rowN (argN m c) P L := by
  rw [← V_n m c P L]
  blk_ext [iblk, (idx t).2.1]

/-- One point's step: the accumulator plus the block's product. -/
theorem pay2 (a : FVec Ideal S3712x512 .f32) (x : FVec Ideal S768x3712 .bf16) (y : FVec Ideal S768x512 .bf16) (j : Fin 3712) (l : Fin 512) :
    k0_pay2 (F := Ideal) a x y (ix2 j l) = a (ix2 j l) + ∑ r : Fin 768, x (ix2 r j) * y (ix2 r l) := by
  pointwise [k0_pay2]

/-- One product of rows. -/
abbrev term (c : Dev nD) (j : Fin 3712) (L : Fin 1024) (P : Fin 8448) : EReal := rowP (argP m c) P j * rowN (argN m c) P L

/-- A step from the sum over the blocks before. -/
theorem step (c : Dev nD) (t : Fin cfg0.N) (a : FVec Ideal S3712x512 .f32) (j : Fin 3712) (l : Fin 512) (L : Fin 1024)
    (hL : L.val = t.val / 11 * 512 + l.val) (ha : a (ix2 j l) = RowSum.upTo (term m c j L) (768 * (t.val % 11))) :
    k0_pay2 (F := Ideal) a (blkP m c t) (blkN m c t) (ix2 j l) = RowSum.upTo (term m c j L) (768 * (t.val % 11 + 1)) := by
  rw [pay2, ha]
  refine RowSum.upTo_block _ 768 (t.val % 11) _ fun r => ?_
  have hr : 768 * (t.val % 11) + r.val < 8448 := by omega
  refine ⟨hr, ?_⟩
  have e : (⟨768 * (t.val % 11) + r.val, hr⟩ : Fin 8448).val = t.val % 11 * 768 + r.val := by show 768 * _ + _ = _; omega
  rw [blk_p m c t r j _ e, blk_n m c t r l _ e L hL]

/-- What the accumulator holds after a grid point. -/
theorem carried (c : Dev nD) (n : ℕ) (h : n < cfg0.N) (j : Fin 3712) (l : Fin 512) (L : Fin 1024) (hL : L.val = n / 11 * 512 + l.val) :
    (outsAt0 m c n h).2 (ix2 j l) = RowSum.upTo (term m c j L) (768 * (n % 11 + 1)) := by
  have first : ∀ t : Fin cfg0.N, t.val % 11 = 0 → L.val = t.val / 11 * 512 + l.val →
      (outsAt0 m c t.val t.isLt).2 (ix2 j l) = RowSum.upTo (term m c j L) (768 * (t.val % 11 + 1)) := fun t h0 hL => by
    rw [outsAt0_A m c t h0 (by omega)]
    frame_out
    refine step m c t _ j l L hL ?_
    rw [h0]
    pointwise [k0_pay1]
    rfl
  induction n with
  | zero => exact first ⟨0, h⟩ rfl hL
  | succ n ih =>
    by_cases h0 : (n + 1) % 11 = 0
    · exact first ⟨n + 1, h⟩ h0 hL
    have hd : (n + 1) / 11 = n / 11 := by omega
    have hp := ih (by omega) (by omega)
    rw [show n % 11 + 1 = (n + 1) % 11 by omega] at hp
    by_cases h1 : (n + 1) % 11 = 10
    · rw [show outsAt0 m c (n + 1) h = _ from outsAt0_C m c ⟨n + 1, h⟩ h0 h1]
      frame_out
      refine step m c ⟨n + 1, h⟩ _ j l L hL ?_
      rw [read_unread_whole]
      exact hp
    · rw [show outsAt0 m c (n + 1) h = _ from outsAt0_B m c ⟨n + 1, h⟩ h0 h1]
      frame_out
      refine step m c ⟨n + 1, h⟩ _ j l L hL ?_
      rw [read_unread_whole]
      exact hp

/-- After the run the region's array holds the sums over all rows. -/
theorem final (c : Dev nD) : (dats m 0 c).arrAt 2 cfg0.N = gradAll (argN m c) (argP m c) := by
  refine (dats m 0 c).arrAt_eq_of_covers 2 _ (by decide +kernel) fun t hf y => ?_
  blk_simp
  rw [after0_2]
  have ht : t.val < 22 := t.isLt
  obtain ⟨j, l, rfl⟩ : ∃ (j : Fin 3712) (l : Fin 512), y = ix2 j l := ⟨y 0, y 1, eq_ix2 y⟩
  have h1 := (flush0_2 t).1 hf
  have he : (win0_2.blk t).view.emb (ix2 j l) = ix2 j (⟨t.val / 11 * 512 + l.val, by omega⟩ : Fin 1024) := by
    blk_ext [(idx t).2.2]
  refine Eq.trans ?_ (congrArg _ he.symm)
  rw [outsAt0_C m c t (by omega) h1]
  frame_out
  rw [read_unread_whole]
  refine (step m c t _ j l ⟨t.val / 11 * 512 + l.val, by omega⟩ rfl ?_).trans ?_
  · rw [carried m c (t.val - 1) (show t.val - 1 < 22 by omega) j l ⟨t.val / 11 * 512 + l.val, by omega⟩
        (show t.val / 11 * 512 + l.val = (t.val - 1) / 11 * 512 + l.val by omega),
      show (t.val - 1) % 11 + 1 = t.val % 11 by omega]
  · rw [h1]
    exact RowSum.upTo_all _

/-- The region's array, which the host reads after it. -/
theorem arr (c : Dev nD) : Pipeline.withArrays (cfgs 0).spec c (V0 m c) (fun w => (dats m 0 c).arrAt w (cfgs 0).N) (Proc.tc.devRef main_v10)
    = gradAll (argN m c) (argP m c) :=
  (Pipeline.withArrays_arr (cfgs 0).spec (by decide) c (V0 m c) (fun w => (dats m 0 c).arrAt w (cfgs 0).N) 2).trans (final m c)

/-- A row of the region's array is the row of the gradient whose column the kernel put there. -/
theorem row (n : FVec Ideal S8208x1024 .f32) (p : FVec Ideal S8208x3600 .f32) (i : Fin 3600) (l : Fin 1024) (j : Fin 3712)
    (h : ∀ f : Fin 3600 → EReal, order f j = f i) : gradAll n p (ix2 j l) = grad n p (ix2 i l) := by
  refine RowSum.sum_behind (z := 240) (R := 8208) (T := 8448) (by norm_num) (fun P => rowP p P j * rowN n P l) (fun R => p (ix2 R i) * n (ix2 R l))
    (fun P hP => ?_) fun r P hP => ?_
  · show rowP p P j * rowN n P l = 0
    unfold rowP
    rw [dif_neg (by omega), zero_mul]
  · show rowP p P j * rowN n P l = _
    unfold rowP rowN
    rw [dif_pos (by omega), dif_pos (by omega), h, show (⟨P.val - 240, by omega⟩ : Fin 8208) = r from Fin.ext (show P.val - 240 = r.val by omega)]

/-- The result is the gradient, its rows back in order. -/
theorem tail (c : Dev nD) : (Pipeline.afterTail₀ cfgs (dats m) 0 (V0 m) [hostOps1] c main_v14 : FVec Ideal S3600x1024 .bf16)
    = grad (argN m c) (argP m c) := by
  funext (y : S3600x1024.Idx)
  obtain ⟨i, l, rfl⟩ : ∃ (i : Fin 3600) (l : Fin 1024), y = ix2 i l := ⟨y 0, y 1, eq_ix2 y⟩
  have hi := i.isLt
  unfold Pipeline.afterTail₀
  after_reads_at
  by_cases h0 : i.val < 1024
  · rw [dif_pos h0]
    after_reads_at
    rw [arr]
    refine row _ _ i l _ fun f => ?_
    unfold order
    rw [dif_pos (show i.val < 1024 from h0)]
  rw [dif_neg h0]
  by_cases h1 : i.val - 1024 < 1552
  · rw [dif_pos h1]
    after_reads_at
    rw [arr]
    refine row _ _ i l _ fun f => ?_
    unfold order
    rw [dif_neg (show ¬ 2048 + (i.val - 1024) < 1024 by omega), dif_neg (show ¬ 2048 + (i.val - 1024) < 2048 by omega)]
    by_cases h2 : 2048 + (i.val - 1024) < 3584
    · rw [dif_pos h2]
      exact congrArg f (Fin.ext (show 2048 + (i.val - 1024) - 1024 = i.val by omega))
    · rw [dif_neg h2, dif_pos (show 2048 + (i.val - 1024) < 3600 by omega)]
      exact congrArg f (Fin.ext (show 2048 + (i.val - 1024) - 1024 = i.val by omega))
  rw [dif_neg h1]
  after_reads_at
  rw [arr]
  refine row _ _ i l _ fun f => ?_
  unfold order
  rw [dif_neg (show ¬ 1024 + (i.val - 1024 - 1552) < 1024 by omega), dif_pos (show 1024 + (i.val - 1024 - 1552) < 2048 by omega)]
  exact congrArg f (Fin.ext (show 1552 + (1024 + (i.val - 1024 - 1552)) = i.val by omega))

/-- The program's result and its arguments after the run. -/
theorem run : θ_run defs (onTc (τ := τ) (main (F := Ideal))) ⟨m, fun _ => 0, ρ⟩ (fun r => ∀ c : Dev nD,
      r.2.mem ((c.tc : Thread nD τ).loc main_v14) = grad (argN m c) (argP m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from (run_main (F := Ideal) m ρ)
  · exact tail m c
  · exact W_main_arg0 m (dats m) c
  · exact W_main_arg1 m (dats m) c

end Cert.DwInIdeal.RefValue

namespace Cert.DwInRefIdeal.RefValue

open Cert.DwInRefIdeal Cert.DwInRefIdeal.Gen Idealize.ShloMosaic

/-- The reference's composed term is the same gradient. -/
theorem ref_eq (n : FVec Ideal S8208x1024 .f32) (p : FVec Ideal S8208x3600 .f32) :
    truncf .bf16 (Host.dotGeneral dot_S3600x8208_S8208x1024_S3600x1024_1_0_0_1_n_n none (transpose S3600x8208 [1, 0] p transposes_S8208x3600_S3600x8208_1_0) n) bitsLt_bf16_f32
      = Cert.DwInIdeal.RefValue.grad n p := by
  funext (j : S3600x1024.Idx)
  obtain ⟨i, l, rfl⟩ : ∃ (i : Fin 3600) (l : Fin 1024), j = ix2 i l := ⟨j 0, j 1, eq_ix2 j⟩
  pointwise [Cert.DwInIdeal.RefValue.grad]

end Cert.DwInRefIdeal.RefValue

/-! ## The claims about this call -/

namespace Cert.Proof.DwIn

open Idealize.ShloMosaic Idealize.ShloMosaic.TcCoe Idealize.SL.Sem

/-- The kernel runs, leaves its arguments as they were and ends with every semaphore at zero. -/
theorem frame_kernel : Cert.quiescent_DwIn := fun m ρ _ => Cert.DwIn.Gen.frame m ρ

/-- So does its idealization. -/
theorem frame_ideal : Cert.quiescent_DwInIdeal := fun m ρ _ => Cert.DwInIdeal.Gen.frame m ρ

/-- And the reference. -/
theorem frame_ref : Cert.quiescent_DwInRefIdeal := fun m ρ _ =>
  (θ_run Cert.DwInRefIdeal.defs _ _).mono
    (fun r h => ⟨fun c => (h c).2, Idealize.ShloMosaic.sem_eq_zero_of_no_sems (by decide) r.2⟩)
    (Cert.DwInRefIdeal.Value.run (F := Ideal) m ρ)

/-- On the extended reals the kernel's result is `swapaxes dproj @ n0`. -/
theorem value : Cert.algebraic_DwInIdeal_DwInRefIdeal := fun m ρ m' ρ' _ hag =>
  ⟨fun c => DwInIdeal.RefValue.grad (DwInIdeal.RefValue.argN m c) (DwInIdeal.RefValue.argP m c),
    DwInIdeal.RefValue.run m ρ,
    (θ_run Cert.DwInRefIdeal.defs _ _).mono (fun _ h c => ⟨(h c).1.trans (by
        rw [(hag c).1, (hag c).2]
        exact DwInRefIdeal.RefValue.ref_eq _ _), (h c).2⟩)
      (Cert.DwInRefIdeal.Value.run (F := Ideal) m' ρ')⟩

end Cert.Proof.DwIn

end
-- ==== Proof.DwDown.lean ====
/-
  The value of `dw_down`: the gradient of the down projection's weights, `swapaxes (square (relu m)) @ dh2`.

  The kernel works on four column tiles of `m`, and in each on 3 blocks of 2816 rows: it squares the cut values, adds the
  block's product to an accumulator and rounds it after the last block. A tile's sums go to the second half of a slab of 2048
  rows, the first half being left to another gradient; the second halves are cut out in the end.
-/
module

public import proofs.«01_k».proof.Defs
public import proofs.«01_k».proof.Proof.RowSum
public import proofs.«01_k».proof.Proof.Gen.DwDown.Frame
public import proofs.«01_k».proof.Proof.Gen.DwDownIdeal.Frame
public import proofs.«01_k».proof.Proof.Gen.DwDownRefIdeal.Run
public import Idealize.ShloMosaic.Lib.Pipeline.ValueKit
public import Idealize.ShloMosaic.Lib.Pipeline.ValueKit.Point
public import Idealize.ShloMosaic.Lib.Pipeline.ReadBack
public import Idealize.ShloMosaic.Lib.KernelVsHost
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.DwDownIdeal.RefValue

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s two argument arrays as launched. -/
abbrev argM (c : Dev nD) : FVec Ideal S8448x4096 .f32 := m ((c : Thread nD τ).loc main_arg0)
abbrev argH (c : Dev nD) : FVec Ideal S8448x1024 .f32 := m ((c : Thread nD τ).loc main_arg1)

/-- One product of rows. -/
def term (x : FVec Ideal S8448x4096 .f32) (h : FVec Ideal S8448x1024 .f32) (j : Fin 4096) (l : Fin 1024) (P : Fin 8448) : EReal :=
  max (x (ix2 P j)) 0 * max (x (ix2 P j)) 0 * h (ix2 P l)

/-- The gradient, element by element. -/
def grad (x : FVec Ideal S8448x4096 .f32) (h : FVec Ideal S8448x1024 .f32) : FVec Ideal S4096x1024 .bf16 := fun i =>
  ∑ P : Fin 8448, term x h (i 0) (i 1) P

/-- The region's result where it is written: a slab's rows are one column tile's. -/
def gradAll (x : FVec Ideal S8448x4096 .f32) (h : FVec Ideal S8448x1024 .f32) : FVec Ideal S4x2048x1024 .bf16 := fun i =>
  ∑ P : Fin 8448, term x h ⟨(i 0).val * 1024 + (i 1).val % 1024, by have : (i 0).val < 4 := (i 0).isLt; omega⟩ (i 2) P

/-- A grid point's blocks. -/
abbrev blkM (c : Dev nD) (t : Fin cfg0.N) : FVec Ideal S2816x1024 .bf16 := iblk m c 0 t
abbrev blkH (c : Dev nD) (t : Fin cfg0.N) : FVec Ideal S2816x1024 .bf16 := iblk m c 1 t

/-- Where each window's block sits at a grid point. -/
theorem idx : ∀ t : Fin cfg0.N, win0_0.index t = ![t.val % 3, t.val / 3] ∧ win0_1.index t = ![t.val % 3, 0] ∧ win0_2.index t = ![t.val / 3, 1, 0] :=
  (by decide +kernel : ∀ t : Fin grid0.N, _)

/-- The blocks at a grid point. -/
theorem blk_m (c : Dev nD) (t : Fin cfg0.N) (r : Fin 2816) (j : Fin 1024) (P : Fin 8448) (hP : P.val = t.val % 3 * 2816 + r.val)
    (J : Fin 4096) (hJ : J.val = t.val / 3 * 1024 + j.val) : blkM m c t (ix2 r j) = max (argM m c (ix2 P J)) 0 := by
  rw [show max (argM m c (ix2 P J)) 0 = V m c (Pipeline.arrRef spec0 0) (ix2 P J) from by unfold V; after_reads_at]
  blk_ext [iblk, (idx t).1]
theorem blk_h (c : Dev nD) (t : Fin cfg0.N) (r : Fin 2816) (l : Fin 1024) (P : Fin 8448) (hP : P.val = t.val % 3 * 2816 + r.val) :
    blkH m c t (ix2 r l) = argH m c (ix2 P l) := by
  rw [show argH m c (ix2 P l) = V m c (Pipeline.arrRef spec0 1) (ix2 P l) from by unfold V; after_reads_at]
  blk_ext [iblk, (idx t).2.1]

/-- One point's step: the accumulator plus the block's product. -/
theorem pay2 (x : FVec Ideal S2816x1024 .bf16) (a : FVec Ideal S1024x1024 .f32) (y : FVec Ideal S2816x1024 .bf16) (j l : Fin 1024) :
    k0_pay2 (F := Ideal) x a y (ix2 j l) = a (ix2 j l) + ∑ r : Fin 2816, x (ix2 r j) * x (ix2 r j) * y (ix2 r l) := by
  pointwise [k0_pay2]

/-- A step from the sum over the blocks before. -/
theorem step (c : Dev nD) (t : Fin cfg0.N) (a : FVec Ideal S1024x1024 .f32) (j l : Fin 1024) (J : Fin 4096)
    (hJ : J.val = t.val / 3 * 1024 + j.val) (ha : a (ix2 j l) = RowSum.upTo (term (argM m c) (argH m c) J l) (2816 * (t.val % 3))) :
    k0_pay2 (F := Ideal) (blkM m c t) a (blkH m c t) (ix2 j l) = RowSum.upTo (term (argM m c) (argH m c) J l) (2816 * (t.val % 3 + 1)) := by
  rw [pay2, ha]
  refine RowSum.upTo_block _ 2816 (t.val % 3) _ fun r => ?_
  have hr : 2816 * (t.val % 3) + r.val < 8448 := by omega
  refine ⟨hr, ?_⟩
  have e : (⟨2816 * (t.val % 3) + r.val, hr⟩ : Fin 8448).val = t.val % 3 * 2816 + r.val := by show 2816 * _ + _ = _; omega
  rw [blk_m m c t r j _ e J hJ, blk_h m c t r l _ e]
  rfl

/-- What the accumulator holds after a grid point. -/
theorem carried (c : Dev nD) (n : ℕ) (h : n < cfg0.N) (j l : Fin 1024) (J : Fin 4096) (hJ : J.val = n / 3 * 1024 + j.val) :
    (outsAt0 m c n h).2 (ix2 j l) = RowSum.upTo (term (argM m c) (argH m c) J l) (2816 * (n % 3 + 1)) := by
  have first : ∀ t : Fin cfg0.N, t.val % 3 = 0 → J.val = t.val / 3 * 1024 + j.val →
      (outsAt0 m c t.val t.isLt).2 (ix2 j l) = RowSum.upTo (term (argM m c) (argH m c) J l) (2816 * (t.val % 3 + 1)) := fun t h0 hJ => by
    rw [outsAt0_A m c t h0 (by omega)]
    frame_out
    refine step m c t _ j l J hJ ?_
    rw [h0]
    pointwise [k0_pay1]
    rfl
  induction n with
  | zero => exact first ⟨0, h⟩ rfl hJ
  | succ n ih =>
    by_cases h0 : (n + 1) % 3 = 0
    · exact first ⟨n + 1, h⟩ h0 hJ
    have hp := ih (by omega) (by omega)
    rw [show n % 3 + 1 = (n + 1) % 3 by omega] at hp
    by_cases h1 : (n + 1) % 3 = 2
    · rw [show outsAt0 m c (n + 1) h = _ from outsAt0_C m c ⟨n + 1, h⟩ h0 h1]
      frame_out
      refine step m c ⟨n + 1, h⟩ _ j l J hJ ?_
      rw [read_unread_whole]
      exact hp
    · rw [show outsAt0 m c (n + 1) h = _ from outsAt0_B m c ⟨n + 1, h⟩ h0 h1]
      frame_out
      refine step m c ⟨n + 1, h⟩ _ j l J hJ ?_
      rw [read_unread_whole]
      exact hp

/-- After the run the second halves of the region's slabs hold the sums over all rows. -/
theorem final (c : Dev nD) : (dats m 0 c).arrAt 2 cfg0.N
    = fun i => if (i 1 : ℕ) / 1024 = 1 then gradAll (argM m c) (argH m c) i else V m c main_v4 i := by
  refine (dats m 0 c).arrAt_eq_of_coversWhere 2 _ (fun β => β (1 : Fin _) = 1) (by decide +kernel) (fun t hf y => ?_) (fun j => Iff.rfl)
  blk_simp
  rw [after0_2]
  have ht : t.val < 12 := t.isLt
  obtain ⟨u, j, l, rfl⟩ : ∃ (u : Fin 1) (j l : Fin 1024), y = ix3 u j l := ⟨y 0, y 1, y 2, eq_ix3 y⟩
  have h1 := (flush0_2 t).1 hf
  have he : (win0_2.blk t).view.emb (ix3 u j l) = ix3 (⟨t.val / 3, by omega⟩ : Fin 4) (⟨1024 + j.val, by omega⟩ : Fin 2048) l := by
    blk_ext [(idx t).2.2]
  refine Eq.trans ?_ (congrArg _ he.symm)
  rw [outsAt0_C m c t (by omega) h1]
  frame_out
  rw [read_unread_whole]
  have hJ : t.val / 3 * 1024 + j.val < 4096 := by omega
  have e := step m c t (outsAt0 m c (t.val - 1) (show t.val - 1 < 12 by omega)).2 j l ⟨_, hJ⟩ rfl (by
    rw [carried m c (t.val - 1) (show t.val - 1 < 12 by omega) j l ⟨_, hJ⟩ (show t.val / 3 * 1024 + j.val = (t.val - 1) / 3 * 1024 + j.val by omega),
      show (t.val - 1) % 3 + 1 = t.val % 3 by omega])
  rw [h1, RowSum.upTo_all] at e
  have es : (⟨t.val / 3 * 1024 + j.val, hJ⟩ : Fin 4096) = ⟨t.val / 3 * 1024 + (1024 + j.val) % 1024, by omega⟩ := Fin.ext
    (show t.val / 3 * 1024 + j.val = t.val / 3 * 1024 + (1024 + j.val) % 1024 by omega)
  rw [es] at e
  refine Eq.trans ?_ e
  unfold k0_pay3
  pointwise

/-- The region's array, which the host reads after it. -/
theorem arr (c : Dev nD) : Pipeline.withArrays (cfgs 0).spec c (V0 m c) (fun w => (dats m 0 c).arrAt w (cfgs 0).N) (Proc.tc.devRef main_v4)
    = fun i => if (i 1 : ℕ) / 1024 = 1 then gradAll (argM m c) (argH m c) i else V m c main_v4 i :=
  (Pipeline.withArrays_arr (cfgs 0).spec (by decide) c (V0 m c) (fun w => (dats m 0 c).arrAt w (cfgs 0).N) 2).trans (final m c)

/-- The result is the gradient. -/
theorem tail (c : Dev nD) : (Pipeline.afterTail₀ cfgs (dats m) 0 (V0 m) [hostOps1] c main_v6 : FVec Ideal S4096x1024 .bf16)
    = grad (argM m c) (argH m c) := by
  funext (y : S4096x1024.Idx)
  obtain ⟨i, l, rfl⟩ : ∃ (i : Fin 4096) (l : Fin 1024), y = ix2 i l := ⟨y 0, y 1, eq_ix2 y⟩
  unfold Pipeline.afterTail₀
  after_reads_at
  rw [arr]
  refine (if_pos (show (1024 + i.val % 1024) / 1024 = 1 by omega)).trans ?_
  have ei : (⟨i.val / 1024 * 1024 + (1024 + i.val % 1024) % 1024, by omega⟩ : Fin 4096) = i :=
    Fin.ext (show i.val / 1024 * 1024 + (1024 + i.val % 1024) % 1024 = i.val by omega)
  show ∑ P : Fin 8448, term (argM m c) (argH m c) _ l P = ∑ P : Fin 8448, term (argM m c) (argH m c) i l P
  exact congrArg (fun J => ∑ P : Fin 8448, term (argM m c) (argH m c) J l P) ei

/-- The program's result and its arguments after the run. -/
theorem run : θ_run defs (onTc (τ := τ) (main (F := Ideal))) ⟨m, fun _ => 0, ρ⟩ (fun r => ∀ c : Dev nD,
      r.2.mem ((c.tc : Thread nD τ).loc main_v6) = grad (argM m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from (run_main (F := Ideal) m ρ)
  · exact tail m c
  · exact W_main_arg0 m (dats m) c
  · exact W_main_arg1 m (dats m) c

end Cert.DwDownIdeal.RefValue

namespace Cert.DwDownRefIdeal.RefValue

open Cert.DwDownRefIdeal Cert.DwDownRefIdeal.Gen Idealize.ShloMosaic

/-- The reference's composed term is the same gradient. -/
theorem ref_eq (x : FVec Ideal S8448x4096 .f32) (h : FVec Ideal S8448x1024 .f32) :
    truncf .bf16 (Host.dotGeneral dot_S4096x8448_S8448x1024_S4096x1024_1_0_0_1_n_n none (transpose S4096x8448 [1, 0] (mulf (maximumf x (broadcastInDim S8448x4096 ![] bcast_S_S8448x4096 (constant S_ .f32 0x00000000#32))) (maximumf x (broadcastInDim S8448x4096 ![] bcast_S_S8448x4096 (constant S_ .f32 0x00000000#32)))) transposes_S8448x4096_S4096x8448_1_0) h) bitsLt_bf16_f32
      = Cert.DwDownIdeal.RefValue.grad x h := by
  funext (j : S4096x1024.Idx)
  obtain ⟨i, l, rfl⟩ : ∃ (i : Fin 4096) (l : Fin 1024), j = ix2 i l := ⟨j 0, j 1, eq_ix2 j⟩
  pointwise [Cert.DwDownIdeal.RefValue.grad, Cert.DwDownIdeal.RefValue.term]

end Cert.DwDownRefIdeal.RefValue

/-! ## The claims about this call -/

namespace Cert.Proof.DwDown

open Idealize.ShloMosaic Idealize.ShloMosaic.TcCoe Idealize.SL.Sem

/-- The kernel runs, leaves its arguments as they were and ends with every semaphore at zero. -/
theorem frame_kernel : Cert.quiescent_DwDown := fun m ρ _ => Cert.DwDown.Gen.frame m ρ

/-- So does its idealization. -/
theorem frame_ideal : Cert.quiescent_DwDownIdeal := fun m ρ _ => Cert.DwDownIdeal.Gen.frame m ρ

/-- And the reference. -/
theorem frame_ref : Cert.quiescent_DwDownRefIdeal := fun m ρ _ =>
  (θ_run Cert.DwDownRefIdeal.defs _ _).mono
    (fun r h => ⟨fun c => (h c).2, Idealize.ShloMosaic.sem_eq_zero_of_no_sems (by decide) r.2⟩)
    (Cert.DwDownRefIdeal.Value.run (F := Ideal) m ρ)

/-- On the extended reals the kernel's result is `swapaxes (square (relu m)) @ dh2`. -/
theorem value : Cert.algebraic_DwDownIdeal_DwDownRefIdeal := fun m ρ m' ρ' _ hag =>
  ⟨fun c => DwDownIdeal.RefValue.grad (DwDownIdeal.RefValue.argM m c) (DwDownIdeal.RefValue.argH m c),
    DwDownIdeal.RefValue.run m ρ,
    (θ_run Cert.DwDownRefIdeal.defs _ _).mono (fun _ h c => ⟨(h c).1.trans (by
        rw [(hag c).1, (hag c).2]
        exact DwDownRefIdeal.RefValue.ref_eq _ _), (h c).2⟩)
      (Cert.DwDownRefIdeal.Value.run (F := Ideal) m' ρ')⟩

end Cert.Proof.DwDown

end
-- ==== Proof.Adam.lean ====
/-
  The values of `adamw`: one step of AdamW on a weight matrix.

  The kernel works on 4 blocks of 256 rows, element by element; so each result is the reference's term of its arguments.
-/
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

/-! ## The claims about this call -/

namespace Cert.Proof.Adam

open Idealize.ShloMosaic Idealize.ShloMosaic.TcCoe Idealize.SL.Sem

/-- The kernel runs, leaves its arguments as they were and ends with every semaphore at zero. -/
theorem frame_kernel : Cert.quiescent_Adam := fun m ρ _ => Cert.Adam.Gen.frame m ρ

/-- So does its idealization. -/
theorem frame_ideal : Cert.quiescent_AdamIdeal := fun m ρ _ => Cert.AdamIdeal.Gen.frame m ρ

/-- And the reference. -/
theorem frame_ref : Cert.quiescent_AdamRefIdeal := fun m ρ _ =>
  (θ_run Cert.AdamRefIdeal.defs _ _).mono
    (fun r h => ⟨fun c => (h c).2.2.2, Idealize.ShloMosaic.sem_eq_zero_of_no_sems (by decide) r.2⟩)
    (Cert.AdamRefIdeal.Value.run (F := Ideal) m ρ)

/-- On the extended reals the kernel's update and its two moments are the reference's. -/
theorem value : Cert.algebraic_AdamIdeal_AdamRefIdeal := fun m ρ m' ρ' _ hag =>
  ⟨_, _, _, Cert.AdamIdeal.Value.run (F := Ideal) m ρ,
    (θ_run Cert.AdamRefIdeal.defs _ _).mono (fun _ h c => ⟨(h c).1.trans (by
        rw [(hag c).1, (hag c).2.1, (hag c).2.2.1, (hag c).2.2.2]
        rfl), (h c).2.1.trans (by
        rw [(hag c).2.1, (hag c).2.2.1]
        rfl), (h c).2.2.1.trans (by
        rw [(hag c).2.1, (hag c).2.2.2]
        rfl), (h c).2.2.2⟩)
      (Cert.AdamRefIdeal.Value.run (F := Ideal) m' ρ')⟩

end Cert.Proof.Adam

end
-- ==== Proof.SumEight.lean ====
/-
  The values of `sum8`: the sum over the devices of their packed small gradients.

  The kernel adds the eight slabs one after another; the reference sums over the first axis.
-/
module

public import proofs.«01_k».proof.Defs
public import proofs.«01_k».proof.Proof.Gen.SumEight.Frame
public import proofs.«01_k».proof.Proof.Gen.SumEightIdeal.Value
public import proofs.«01_k».proof.Proof.Gen.SumEightRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.SumEightIdeal.RefValue

open Cert.SumEightIdeal Cert.SumEightIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The sum of the eight slabs, element by element. -/
def total (g : FVec Ideal S8x272x1024 .f32) : FVec Ideal S272x1024 .f32 := fun i => ∑ k : Fin 8, g (ix3 k (i 0) (i 1))

/-- Adding the slabs one after another is their sum. -/
theorem kernel_eq (g : FVec Ideal S8x272x1024 .f32) : Cert.SumEightIdeal.Value.G1 (F := Ideal) g = total g := by
  funext (i : S272x1024.Idx)
  obtain ⟨r, l, rfl⟩ : ∃ (r : Fin 272) (l : Fin 1024), i = ix2 r l := ⟨i 0, i 1, eq_ix2 i⟩
  unfold total
  rw [Fin.sum_univ_eight]
  pointwise [k0_pay1]

end Cert.SumEightIdeal.RefValue

namespace Cert.SumEightRefIdeal.RefValue

open Cert.SumEightRefIdeal Cert.SumEightRefIdeal.Gen Idealize.ShloMosaic

/-- The reference's sum. -/
theorem ref_eq (g : FVec Ideal S8x272x1024 .f32) :
    (Host.reduceAdd g (constant S_ .f32 0x00000000#32) reducesTo_S8x272x1024_S272x1024_d0 h_S_ : FVec Ideal S272x1024 .f32) = Cert.SumEightIdeal.RefValue.total g := by
  funext (i : S272x1024.Idx)
  obtain ⟨r, l, rfl⟩ : ∃ (r : Fin 272) (l : Fin 1024), i = ix2 r l := ⟨i 0, i 1, eq_ix2 i⟩
  pointwise
  rfl

end Cert.SumEightRefIdeal.RefValue

/-! ## The claims about this call -/

namespace Cert.Proof.SumEight

open Idealize.ShloMosaic Idealize.ShloMosaic.TcCoe Idealize.SL.Sem

/-- The kernel runs, leaves its arguments as they were and ends with every semaphore at zero. -/
theorem frame_kernel : Cert.quiescent_SumEight := fun m ρ _ => Cert.SumEight.Gen.frame m ρ

/-- So does its idealization. -/
theorem frame_ideal : Cert.quiescent_SumEightIdeal := fun m ρ _ => Cert.SumEightIdeal.Gen.frame m ρ

/-- And the reference. -/
theorem frame_ref : Cert.quiescent_SumEightRefIdeal := fun m ρ _ =>
  (θ_run Cert.SumEightRefIdeal.defs _ _).mono
    (fun r h => ⟨fun c => (h c).2, Idealize.ShloMosaic.sem_eq_zero_of_no_sems (by decide) r.2⟩)
    (Cert.SumEightRefIdeal.Value.run (F := Ideal) m ρ)

/-- On the extended reals the kernel's result is the sum over the first axis. -/
theorem value : Cert.algebraic_SumEightIdeal_SumEightRefIdeal := fun m ρ m' ρ' _ hag =>
  ⟨fun c => SumEightIdeal.RefValue.total (m ((c.tc : Thread Cert.SumEightIdeal.nD Cert.SumEightIdeal.τ).loc Cert.SumEightIdeal.main_arg0)),
    (θ_run Cert.SumEightIdeal.defs _ _).mono (fun _ h c => ⟨(h c).1.trans (SumEightIdeal.RefValue.kernel_eq _), (h c).2⟩)
      (Cert.SumEightIdeal.Value.run (F := Ideal) m ρ),
    (θ_run Cert.SumEightRefIdeal.defs _ _).mono (fun _ h c => ⟨(h c).1.trans (by
        rw [hag c]
        exact SumEightRefIdeal.RefValue.ref_eq _), (h c).2⟩)
      (Cert.SumEightRefIdeal.Value.run (F := Ideal) m' ρ')⟩

end Cert.Proof.SumEight

end
-- ==== Proof.Parts.lean ====
/-
  The values of `rs_sum`: a device's own piece of a gradient plus the seven pieces the other devices sent.

  The kernel works on 4 blocks of 256 rows and adds the pieces one after another; the reference sums the seven first.
-/
module

public import proofs.«01_k».proof.Defs
public import proofs.«01_k».proof.Proof.Gen.Parts.Frame
public import proofs.«01_k».proof.Proof.Gen.PartsIdeal.Value
public import proofs.«01_k».proof.Proof.Gen.PartsRefIdeal.Run
public import Idealize.ShloMosaic.Lib.Pipeline.ValueKit
public import Idealize.ShloMosaic.Lib.Pipeline.ValueKit.Point
public import Idealize.ShloMosaic.Lib.Pointwise
public import Idealize.ShloMosaic.Lib.Quiescent
public import Idealize.ShloMosaic.Lib.Claim
public import Idealize.ShloMosaic.Lib.StableHlo.ReadAt

@[expose] public section

set_option maxRecDepth 16384

noncomputable section

namespace Cert.PartsIdeal.RefValue

open Cert.PartsIdeal Cert.PartsIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A piece plus the sum of seven others, element by element. -/
def total (a : FVec Ideal S1024x1024 .f32) (g : FVec Ideal S7x1024x1024 .f32) : FVec Ideal S1024x1024 .f32 := fun i =>
  a (ix2 (i 0) (i 1)) + ∑ k : Fin 7, g (ix3 k (i 0) (i 1))

/-- Device `c`'s two argument arrays as launched. -/
abbrev argA (c : Dev nD) : FVec Ideal S1024x1024 .f32 := m ((c : Thread nD τ).loc main_arg0)
abbrev argG (c : Dev nD) : FVec Ideal S7x1024x1024 .f32 := m ((c : Thread nD τ).loc main_arg1)

/-- A grid point's blocks. -/
abbrev blkA (c : Dev nD) (t : Fin cfg0.N) : FVec Ideal S256x1024 .bf16 := iblk m c 0 t
abbrev blkG (c : Dev nD) (t : Fin cfg0.N) : FVec Ideal S7x256x1024 .bf16 := iblk m c 1 t

/-- Where each window's block sits at a grid point. -/
theorem idx : ∀ t : Fin cfg0.N, win0_0.index t = ![t.val, 0] ∧ win0_1.index t = ![0, t.val, 0] ∧ win0_2.index t = ![t.val, 0] :=
  (by decide +kernel : ∀ t : Fin grid0.N, _)

/-- The device's own block at a grid point. -/
theorem blk_a (c : Dev nD) (t : Fin cfg0.N) (r : Fin 256) (l : Fin 1024) (R : Fin 1024) (hR : R.val = t.val * 256 + r.val) :
    blkA m c t (ix2 r l) = argA m c (ix2 R l) := by
  rw [show argA m c (ix2 R l) = V m c (Pipeline.arrRef spec0 0) (ix2 R l) from by unfold V; after_reads_at]
  blk_ext [iblk, (idx t).1]

/-- The other devices' block at a grid point. -/
theorem blk_g (c : Dev nD) (t : Fin cfg0.N) (k : Fin 7) (r : Fin 256) (l : Fin 1024) (R : Fin 1024) (hR : R.val = t.val * 256 + r.val) :
    blkG m c t (ix3 k r l) = argG m c (ix3 k R l) := by
  rw [show argG m c (ix3 k R l) = V m c (Pipeline.arrRef spec0 1) (ix3 k R l) from by unfold V; after_reads_at]
  blk_ext [iblk, (idx t).2.1]

/-- After the run the result holds the sum. -/
theorem final (c : Dev nD) : (dats m 0 c).arrAt 2 cfg0.N = total (argA m c) (argG m c) := by
  refine (dats m 0 c).arrAt_eq_of_covers 2 _ (by decide +kernel) fun t hf y => ?_
  blk_simp
  rw [after0_2]
  have ht : t.val < 4 := t.isLt
  obtain ⟨r, l, rfl⟩ : ∃ (r : Fin 256) (l : Fin 1024), y = ix2 r l := ⟨y 0, y 1, eq_ix2 y⟩
  have he : (win0_2.blk t).view.emb (ix2 r l) = ix2 (⟨t.val * 256 + r.val, by omega⟩ : Fin 1024) l := by
    blk_ext [(idx t).2.2]
  refine Eq.trans ?_ (congrArg _ he.symm)
  frame_out
  unfold total
  rw [Fin.sum_univ_seven]
  pointwise [k0_pay1]
  have ha := blk_a m c t r l ⟨t.val * 256 + r.val, by omega⟩ rfl
  have hg := fun k => blk_g m c t k r l ⟨t.val * 256 + r.val, by omega⟩ rfl
  rw [← ha, ← hg, ← hg, ← hg, ← hg, ← hg, ← hg, ← hg]
  show (_ : EReal) = _
  simp only [← add_assoc]

end Cert.PartsIdeal.RefValue

namespace Cert.PartsRefIdeal.RefValue

open Cert.PartsRefIdeal Cert.PartsRefIdeal.Gen Idealize.ShloMosaic

/-- The reference's sum. -/
theorem ref_eq (a : FVec Ideal S1024x1024 .f32) (g : FVec Ideal S7x1024x1024 .f32) :
    (addf a (Host.reduceAdd g (constant S_ .f32 0x00000000#32) reducesTo_S7x1024x1024_S1024x1024_d0 h_S_) : FVec Ideal S1024x1024 .f32) = Cert.PartsIdeal.RefValue.total a g := by
  funext (i : S1024x1024.Idx)
  obtain ⟨r, l, rfl⟩ : ∃ (r : Fin 1024) (l : Fin 1024), i = ix2 r l := ⟨i 0, i 1, eq_ix2 i⟩
  pointwise
  rfl

end Cert.PartsRefIdeal.RefValue

/-! ## The claims about this call -/

namespace Cert.Proof.Parts

open Idealize.ShloMosaic Idealize.ShloMosaic.TcCoe Idealize.SL.Sem

/-- The kernel runs, leaves its arguments as they were and ends with every semaphore at zero. -/
theorem frame_kernel : Cert.quiescent_Parts := fun m ρ _ => Cert.Parts.Gen.frame m ρ

/-- So does its idealization. -/
theorem frame_ideal : Cert.quiescent_PartsIdeal := fun m ρ _ => Cert.PartsIdeal.Gen.frame m ρ

/-- And the reference. -/
theorem frame_ref : Cert.quiescent_PartsRefIdeal := fun m ρ _ =>
  (θ_run Cert.PartsRefIdeal.defs _ _).mono
    (fun r h => ⟨fun c => (h c).2, Idealize.ShloMosaic.sem_eq_zero_of_no_sems (by decide) r.2⟩)
    (Cert.PartsRefIdeal.Value.run (F := Ideal) m ρ)

/-- On the extended reals the kernel's result is the piece plus the sum over the first axis. -/
theorem value : Cert.algebraic_PartsIdeal_PartsRefIdeal := fun m ρ m' ρ' _ hag =>
  ⟨fun c => PartsIdeal.RefValue.total (PartsIdeal.RefValue.argA m c) (PartsIdeal.RefValue.argG m c),
    (θ_run Cert.PartsIdeal.defs _ _).mono (fun _ h c => ⟨(h c).1.trans (PartsIdeal.RefValue.final m c), (h c).2⟩)
      (Cert.PartsIdeal.Value.run_blocks (F := Ideal) m ρ),
    (θ_run Cert.PartsRefIdeal.defs _ _).mono (fun _ h c => ⟨(h c).1.trans (by
        rw [(hag c).1, (hag c).2]
        exact PartsRefIdeal.RefValue.ref_eq _ _), (h c).2⟩)
      (Cert.PartsRefIdeal.Value.run (F := Ideal) m' ρ')⟩

end Cert.Proof.Parts

end
-- ==== Proof.lean ====
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.Glu.Frame
public import proofs.«01_k».proof.Proof.Gen.GluIdeal.Value
public import proofs.«01_k».proof.Proof.Gen.GluRef.Frame
public import proofs.«01_k».proof.Proof.Gen.GluRefIdeal.Value
public import proofs.«01_k».proof.Proof.Gen.Fin.Frame
public import proofs.«01_k».proof.Proof.Gen.FinIdeal.Frame
public import proofs.«01_k».proof.Proof.Gen.FinRefIdeal.Run
public import proofs.«01_k».proof.Proof.Gen.In.Frame
public import proofs.«01_k».proof.Proof.Gen.InIdeal.Frame
public import proofs.«01_k».proof.Proof.Gen.InRefIdeal.Run
public import proofs.«01_k».proof.Proof.Gen.SsdFwd.Frame
public import proofs.«01_k».proof.Proof.Gen.SsdFwdIdeal.Frame
public import proofs.«01_k».proof.Proof.Gen.SsdFwdRefIdeal.Run
public import proofs.«01_k».proof.Proof.Gen.UpFwd.Frame
public import proofs.«01_k».proof.Proof.Gen.UpFwdIdeal.Value
public import proofs.«01_k».proof.Proof.Gen.UpFwdRefIdeal.Run
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.GluFwd.Frame
public import proofs.«01_k».proof.Proof.Gen.GluFwdIdeal.Value
public import proofs.«01_k».proof.Proof.Gen.GluFwdRefIdeal.Run
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.SsdBwd.Frame
public import proofs.«01_k».proof.Proof.Gen.SsdBwdIdeal.Frame
public import proofs.«01_k».proof.Proof.Gen.SFiveFwd.Frame
public import proofs.«01_k».proof.Proof.Gen.SFiveFwd.Skeleton
public import proofs.«01_k».proof.Proof.Gen.SFiveFwdIdeal.Frame
public import proofs.«01_k».proof.Proof.Gen.SFiveFwdIdeal.Skeleton
public import proofs.«01_k».proof.Proof.Gen.SFiveBwd.Points
public import proofs.«01_k».proof.Proof.Gen.SFiveBwd.Regions
public import proofs.«01_k».proof.Proof.Gen.SFiveBwd.Skeleton
public import proofs.«01_k».proof.Proof.Gen.SFiveBwdIdeal.Points
public import proofs.«01_k».proof.Proof.Gen.SFiveBwdIdeal.Regions
public import proofs.«01_k».proof.Proof.Gen.SFiveBwdIdeal.Skeleton
public import proofs.«01_k».proof.Proof.Gen.DwIn.Frame
public import proofs.«01_k».proof.Proof.Gen.DwInIdeal.Frame
public import proofs.«01_k».proof.Proof.Gen.DwInRefIdeal.Run
public import proofs.«01_k».proof.Proof.Gen.DwDown.Frame
public import proofs.«01_k».proof.Proof.Gen.DwDownIdeal.Frame
public import proofs.«01_k».proof.Proof.Gen.DwDownRefIdeal.Run
public import proofs.«01_k».proof.Proof.Gen.Adam.Frame
public import proofs.«01_k».proof.Proof.Gen.AdamIdeal.Value
public import proofs.«01_k».proof.Proof.Gen.AdamRefIdeal.Run
public import proofs.«01_k».proof.Proof.Gen.SumEight.Frame
public import proofs.«01_k».proof.Proof.Gen.SumEightIdeal.Value
public import proofs.«01_k».proof.Proof.Gen.SumEightRefIdeal.Run
public import proofs.«01_k».proof.Proof.Gen.Parts.Frame
public import proofs.«01_k».proof.Proof.Gen.PartsIdeal.Value
public import proofs.«01_k».proof.Proof.Gen.PartsRefIdeal.Run
public import proofs.«01_k».proof.Proof.RmsGrad
public import proofs.«01_k».proof.Proof.Down
public import proofs.«01_k».proof.Proof.Up
public import proofs.«01_k».proof.Proof.Out
public import proofs.«01_k».proof.Proof.Glu
public import proofs.«01_k».proof.Proof.Fin
public import proofs.«01_k».proof.Proof.In
public import proofs.«01_k».proof.Proof.SsdFwd
public import proofs.«01_k».proof.Proof.UpFwd
public import proofs.«01_k».proof.Proof.DownFwd
public import proofs.«01_k».proof.Proof.GluFwd
public import proofs.«01_k».proof.Proof.OutFwd
public import proofs.«01_k».proof.Proof.InFwd
public import proofs.«01_k».proof.Proof.SFiveFrame
public import proofs.«01_k».proof.Proof.SFiveIdealFrame
public import proofs.«01_k».proof.Proof.SBwdFrame
public import proofs.«01_k».proof.Proof.SBwdIdealFrame
public import proofs.«01_k».proof.Proof.DwIn
public import proofs.«01_k».proof.Proof.DwDown
public import proofs.«01_k».proof.Proof.Adam
public import proofs.«01_k».proof.Proof.SumEight
public import proofs.«01_k».proof.Proof.Parts
public import Idealize.ShloMosaic.Adequacy
public import Idealize.ShloMosaic.Init

@[expose] public section

noncomputable section

namespace Cert.Proof

open Idealize.ShloMosaic Idealize.SL.Sem

/-- Everything the certificate claims: the facts of the programs and preconditions, the frames, then each call's value. -/
theorem claim : Cert.Claim := ⟨
  Cert.Down.Gen.facts, Cert.DownIdeal.Gen.facts, Cert.DownRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.Glu.Gen.facts, Cert.GluIdeal.Gen.facts, Cert.GluRefIdeal.Gen.facts,
  Cert.GluRef.Gen.facts,
  Cert.Fin.Gen.facts, Cert.FinIdeal.Gen.facts, Cert.FinRefIdeal.Gen.facts,
  Cert.In.Gen.facts, Cert.InIdeal.Gen.facts, Cert.InRefIdeal.Gen.facts,
  Cert.SsdFwd.Gen.facts, Cert.SsdFwdIdeal.Gen.facts, Cert.SsdFwdRefIdeal.Gen.facts,
  Cert.UpFwd.Gen.facts, Cert.UpFwdIdeal.Gen.facts, Cert.UpFwdRefIdeal.Gen.facts,
  Cert.DownFwd.Gen.facts, Cert.DownFwdIdeal.Gen.facts, Cert.DownFwdRefIdeal.Gen.facts,
  Cert.GluFwd.Gen.facts, Cert.GluFwdIdeal.Gen.facts, Cert.GluFwdRefIdeal.Gen.facts,
  Cert.OutFwd.Gen.facts, Cert.OutFwdIdeal.Gen.facts, Cert.OutFwdRefIdeal.Gen.facts,
  Cert.InFwd.Gen.facts, Cert.InFwdIdeal.Gen.facts, Cert.InFwdRefIdeal.Gen.facts,
  Cert.SsdBwd.Gen.facts, Cert.SsdBwdIdeal.Gen.facts,
  Cert.SFiveFwd.Gen.facts, Cert.SFiveFwdIdeal.Gen.facts,
  Cert.SFiveBwd.Gen.facts, Cert.SFiveBwdIdeal.Gen.facts,
  Cert.DwIn.Gen.facts, Cert.DwInIdeal.Gen.facts, Cert.DwInRefIdeal.Gen.facts,
  Cert.DwDown.Gen.facts, Cert.DwDownIdeal.Gen.facts, Cert.DwDownRefIdeal.Gen.facts,
  Cert.Adam.Gen.facts, Cert.AdamIdeal.Gen.facts, Cert.AdamRefIdeal.Gen.facts,
  Cert.SumEight.Gen.facts, Cert.SumEightIdeal.Gen.facts, Cert.SumEightRefIdeal.Gen.facts,
  Cert.Parts.Gen.facts, Cert.PartsIdeal.Gen.facts, Cert.PartsRefIdeal.Gen.facts,
  Up.facts_pre,
  Out.facts_pre,
  Glu.facts_pre,
  Fin.facts_pre,
  In.facts_pre,
  SsdFwd.facts_pre,
  Down.frame_kernel, Down.frame_ideal, Down.frame_ref,
  Up.frame_kernel, Up.frame_ideal, Up.frame_ideal_pre, Up.frame_ref, Up.frame_ref_pre,
  Out.frame_kernel, Out.frame_ideal, Out.frame_ideal_pre, Out.frame_ref, Out.frame_ref_pre,
  Glu.frame_kernel, Glu.frame_ideal, Glu.frame_ideal_pre, Glu.frame_ref, Glu.frame_ref_pre, Glu.frame_ref_bits,
  Fin.frame_kernel, Fin.frame_ideal, Fin.frame_ideal_pre, Fin.frame_ref, Fin.frame_ref_pre,
  In.frame_kernel, In.frame_ideal, In.frame_ideal_pre, In.frame_ref, In.frame_ref_pre,
  SsdFwd.frame_kernel, SsdFwd.frame_ideal, SsdFwd.frame_ideal_pre, SsdFwd.frame_ref, SsdFwd.frame_ref_pre,
  UpFwd.frame_kernel, UpFwd.frame_ideal, UpFwd.frame_ref,
  DownFwd.frame_kernel, DownFwd.frame_ideal, DownFwd.frame_ref,
  GluFwd.frame_kernel, GluFwd.frame_ideal, GluFwd.frame_ref,
  OutFwd.frame_kernel, OutFwd.frame_ideal, OutFwd.frame_ref,
  InFwd.frame_kernel, InFwd.frame_ideal, InFwd.frame_ref,
  fun m ρ _ => Cert.SsdBwd.Gen.frame m ρ, fun m ρ _ => Cert.SsdBwdIdeal.Gen.frame m ρ,
  fun m ρ _ => Cert.SFiveFwd.frame m ρ, fun m ρ _ => Cert.SFiveFwdIdeal.frame m ρ,
  fun m ρ _ => Cert.SFiveBwd.frame m ρ, fun m ρ _ => Cert.SFiveBwdIdeal.frame m ρ,
  DwIn.frame_kernel, DwIn.frame_ideal, DwIn.frame_ref,
  DwDown.frame_kernel, DwDown.frame_ideal, DwDown.frame_ref,
  Adam.frame_kernel, Adam.frame_ideal, Adam.frame_ref,
  SumEight.frame_kernel, SumEight.frame_ideal, SumEight.frame_ref,
  Parts.frame_kernel, Parts.frame_ideal, Parts.frame_ref,
  trivial, Down.value,
  trivial, Up.value,
  trivial, Out.value,
  Glu.named, Glu.named_ref, Glu.value,
  trivial, Fin.value,
  trivial, In.value,
  trivial, SsdFwd.value,
  trivial, UpFwd.value,
  trivial, DownFwd.value,
  trivial, GluFwd.value,
  trivial, OutFwd.value,
  trivial, InFwd.value,
  trivial,
  trivial,
  trivial,
  trivial, DwIn.value,
  trivial, DwDown.value,
  trivial, Adam.value,
  trivial, SumEight.value,
  trivial, Parts.value⟩

end Cert.Proof

end
